-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scored [hPre_scored : Cert.Pre_scored.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scored.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scored [hPre_scored : Cert.Pre_scored.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scored.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_scored [hPre_scored : Cert.Pre_scored.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_scored.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_scored [hPre_scored : Cert.Pre_scored.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_scored.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_scored [hKernel2Ideal : Cert.Kernel2Ideal.Facts] [hPre_scored : Cert.Pre_scored.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scored m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_scored [hReference2Ideal : Cert.Reference2Ideal.Facts] [hPre_scored : Cert.Pre_scored.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scored m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_scored [hKernel4Ideal : Cert.Kernel4Ideal.Facts] [hPre_scored : Cert.Pre_scored.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_scored m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_scored [hReference4Ideal : Cert.Reference4Ideal.Facts] [hPre_scored : Cert.Pre_scored.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_scored m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_scored [hKernel2Ideal : Cert.Kernel2Ideal.Facts] [hReference2Ideal : Cert.Reference2Ideal.Facts] [hPre_scored : Cert.Pre_scored.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scored m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v293) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v98_0)) (v1 : (c : Dev Cert.Kernel3Ideal.nD) → Buf (Elt Ideal) ((c.tc : Thread Cert.Kernel3Ideal.nD Cert.Kernel3Ideal.τ).loc Cert.Kernel3Ideal.main_v98_1)) (v2 : (c : Dev Cert.Kernel3Ideal.nD) → Buf (Elt Ideal) ((c.tc : Thread Cert.Kernel3Ideal.nD Cert.Kernel3Ideal.τ).loc Cert.Kernel3Ideal.main_v98_2)) (v3 : (c : Dev Cert.Kernel3Ideal.nD) → Buf (Elt Ideal) ((c.tc : Thread Cert.Kernel3Ideal.nD Cert.Kernel3Ideal.τ).loc Cert.Kernel3Ideal.main_v98_3)) (v4 : (c : Dev Cert.Kernel3Ideal.nD) → Buf (Elt Ideal) ((c.tc : Thread Cert.Kernel3Ideal.nD Cert.Kernel3Ideal.τ).loc Cert.Kernel3Ideal.main_v98_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v98_0) = v0 c
          ∧ r.2.mem ((c.tc : Thread Cert.Kernel3Ideal.nD Cert.Kernel3Ideal.τ).loc Cert.Kernel3Ideal.main_v98_1) = v1 c
          ∧ r.2.mem ((c.tc : Thread Cert.Kernel3Ideal.nD Cert.Kernel3Ideal.τ).loc Cert.Kernel3Ideal.main_v98_2) = v2 c
          ∧ r.2.mem ((c.tc : Thread Cert.Kernel3Ideal.nD Cert.Kernel3Ideal.τ).loc Cert.Kernel3Ideal.main_v98_3) = v3 c
          ∧ r.2.mem ((c.tc : Thread Cert.Kernel3Ideal.nD Cert.Kernel3Ideal.τ).loc Cert.Kernel3Ideal.main_v98_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v170) = v0 c
          ∧ r.2.mem ((c.tc : Thread Cert.Reference3Ideal.nD Cert.Reference3Ideal.τ).loc Cert.Reference3Ideal.main_v353) = v1 c
          ∧ r.2.mem ((c.tc : Thread Cert.Reference3Ideal.nD Cert.Reference3Ideal.τ).loc Cert.Reference3Ideal.main_v358) = v2 c
          ∧ r.2.mem ((c.tc : Thread Cert.Reference3Ideal.nD Cert.Reference3Ideal.τ).loc Cert.Reference3Ideal.main_v361) = v3 c
          ∧ r.2.mem ((c.tc : Thread Cert.Reference3Ideal.nD Cert.Reference3Ideal.τ).loc Cert.Reference3Ideal.main_v364) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_scored [hKernel4Ideal : Cert.Kernel4Ideal.Facts] [hReference4Ideal : Cert.Reference4Ideal.Facts] [hPre_scored : Cert.Pre_scored.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_scored m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v280) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite : Cert.Pre_finite.Facts) (hPre_scored : Cert.Pre_scored.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_scored (hKernel2Ideal := hKernel2Ideal) (hPre_scored := hPre_scored)
    ∧ quiescent_Reference2Ideal (hReference2Ideal := hReference2Ideal)
    ∧ quiescent_Reference2Ideal_pre_scored (hReference2Ideal := hReference2Ideal) (hPre_scored := hPre_scored)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_scored (hKernel4Ideal := hKernel4Ideal) (hPre_scored := hPre_scored)
    ∧ quiescent_Reference4Ideal (hReference4Ideal := hReference4Ideal)
    ∧ quiescent_Reference4Ideal_pre_scored (hReference4Ideal := hReference4Ideal) (hPre_scored := hPre_scored)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_scored (hKernel2Ideal := hKernel2Ideal) (hReference2Ideal := hReference2Ideal) (hPre_scored := hPre_scored)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_scored (hKernel4Ideal := hKernel4Ideal) (hReference4Ideal := hReference4Ideal) (hPre_scored := hPre_scored)
    ∧ preserves_Kernel5_Kernel5Ideal
-- ==== Pre_finite.lean ====
abbrev S4x8192x256 : Shape := ⟨3, ![4, 8192, 256]⟩
abbrev S4x8192x512 : Shape := ⟨3, ![4, 8192, 512]⟩
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S1024x16 : Shape := ⟨2, ![1024, 16]⟩
abbrev S_ : Shape := ⟨0, ![]⟩

class Facts : Prop where
  bcast_S_S4x1024 : S_.BroadcastsInDim S4x1024 (![] : Fin 0 → Fin S4x1024.rank)
  bcast_S_S1024 : S_.BroadcastsInDim S1024 (![] : Fin 0 → Fin S1024.rank)
  bcast_S_S1024x16 : S_.BroadcastsInDim S1024x16 (![] : Fin 0 → Fin S1024x16.rank)

variable [Facts]

def fn {F : FTy → Type} [FloatOps F] (main_arg0 : FVec F S4x8192x256 .bf16) (main_arg1 : FVec F S4x8192x512 .bf16) (main_arg2 : FVec F S4x8192x256 .bf16) (main_arg3 : FVec F S4x8192x1024 .f32) (main_arg4 : FVec F S1024x1024 .f32) (main_arg5 : FVec F S4x1024 .f32) (main_arg6 : FVec F S4x1024 .f32) (main_arg7 : FVec F S4x1024 .f32) (main_arg8 : FVec F S1024 .f32) (main_arg9 : FVec F S1024x16 .f32) : IVec S4x1024 1 × IVec S4x1024 1 × IVec S1024 1 × IVec S1024x16 1 :=
  let main_v0 : FVec F S4x1024 .f32 := Host.absf main_arg6
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S4x1024 .f32 := Host.absf main_arg7
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S1024 .f32 := Host.absf main_arg8
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x16 .f32 := Host.absf main_arg9
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  (main_v2, main_v5, main_v8, main_v11)
-- ==== Pre_scored.lean ====
abbrev S4x8192x1024 : Shape := ⟨3, ![4, 8192, 1024]⟩
abbrev S4x8192x128 : Shape := ⟨3, ![4, 8192, 128]⟩
abbrev S16 : Shape := ⟨1, ![16]⟩
abbrev S16x1024x256 : Shape := ⟨3, ![16, 1024, 256]⟩
abbrev S16x256x1024 : Shape := ⟨3, ![16, 256, 1024]⟩
abbrev S4x1024 : Shape := ⟨2, ![4, 1024]⟩
abbrev S1024 : Shape := ⟨1, ![1024]⟩
abbrev S4x8192x16 : Shape := ⟨3, ![4, 8192, 16]⟩
abbrev S_ : Shape := ⟨0, ![]⟩

class Facts : Prop where
  slices_S4x8192x128_S4x8192x16_0_0_0 : S4x8192x128.Slices ![0, 0, 0] S4x8192x16
  bcast_S_S4x8192x16 : S_.BroadcastsInDim S4x8192x16 (![] : Fin 0 → Fin S4x8192x16.rank)

variable [Facts]

def fn {F : FTy → Type} [FloatOps F] (main_arg0 : FVec F S4x8192x1024 .bf16) (main_arg1 : FVec F S4x8192x128 .f32) (main_arg2 : FVec F S16 .f32) (main_arg3 : FVec F S4x8192x1024 .f32) (main_arg4 : FVec F S16x1024x256 .f32) (main_arg5 : FVec F S16x1024x256 .f32) (main_arg6 : FVec F S16x256x1024 .f32) (main_arg7 : FVec F S4x1024 .f32) (main_arg8 : FVec F S1024 .f32) : IVec S4x8192x16 1 :=
  let main_v0 : FVec F S4x8192x16 .f32 := (extractStridedSlice S4x8192x16 ![0, 0, 0] · slices_S4x8192x128_S4x8192x16_0_0_0) main_arg1
  let main_cst : FVec F S_ .f32 := constant S_ .f32 0xFF800000#32
  let main_v1 : FVec F S4x8192x16 .f32 := broadcastInDim S4x8192x16 ![] bcast_S_S4x8192x16 main_cst
  let main_v2 : IVec S4x8192x16 1 := cmpf .ogt main_v0 main_v1
  main_v2
-- ==== Kernel.lean ====
abbrev S4x8192x256 : Shape := ⟨3, ![4, 8192, 256]⟩
abbrev S4x8192x512 : Shape := ⟨3, ![4, 8192, 512]⟩
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S4x1x1024 : Shape := ⟨3, ![4, 1, 1024]⟩
abbrev S1x1024 : Shape := ⟨2, ![1, 1024]⟩
abbrev S4x8192x128 : Shape := ⟨3, ![4, 8192, 128]⟩
abbrev S3x1x512x256 : Shape := ⟨4, ![3, 1, 512, 256]⟩
abbrev S3 : Shape := ⟨1, ![3]⟩
abbrev S3x1x512x512 : Shape := ⟨4, ![3, 1, 512, 512]⟩
abbrev S3x1x512x1024 : Shape := ⟨4, ![3, 1, 512, 1024]⟩
abbrev S2x1x1x1024 : Shape := ⟨4, ![2, 1, 1, 1024]⟩
abbrev S2 : Shape := ⟨1, ![2]⟩
abbrev S2x1x512x1024 : Shape := ⟨4, ![2, 1, 512, 1024]⟩
abbrev S2x1x512x128 : Shape := ⟨4, ![2, 1, 512, 128]⟩
abbrev S1 : Shape := ⟨1, ![1]⟩
abbrev S1x1x512x256 : Shape := ⟨4, ![1, 1, 512, 256]⟩
abbrev S1x512x256 : Shape := ⟨3, ![1, 512, 256]⟩
abbrev S1x1x512x512 : Shape := ⟨4, ![1, 1, 512, 512]⟩
abbrev S1x512x512 : Shape := ⟨3, ![1, 512, 512]⟩
abbrev S1x1x512x1024 : Shape := ⟨4, ![1, 1, 512, 1024]⟩
abbrev S1x512x1024 : Shape := ⟨3, ![1, 512, 1024]⟩
abbrev S1x1x1x1024 : Shape := ⟨4, ![1, 1, 1, 1024]⟩
abbrev S1x1x1024 : Shape := ⟨3, ![1, 1, 1024]⟩
abbrev S512x256 : Shape := ⟨2, ![512, 256]⟩
abbrev S256x1024 : Shape := ⟨2, ![256, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x1x512x128 : Shape := ⟨4, ![1, 1, 512, 128]⟩
abbrev S1x512x128 : Shape := ⟨3, ![1, 512, 128]⟩

abbrev nBuf : Space → Nat
  | .hbm => 26
  | .vmem => 13
  | .smem => 0
  | _ => 0

abbrev bufTy : (tb : Table) → Fin (tcTables nBuf tb) → BufTy
  | .hbm, ⟨0, _⟩ => ⟨S4x8192x256, .bf16⟩
  | .hbm, ⟨1, _⟩ => ⟨S4x8192x512, .bf16⟩
  | .hbm, ⟨2, _⟩ => ⟨S4x8192x256, .bf16⟩
  | .hbm, ⟨3, _⟩ => ⟨S4x8192x1024, .f32⟩
  | .hbm, ⟨4, _⟩ => ⟨S1024x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S1024, .f32⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1024x256, .bf16⟩
  | .hbm, ⟨18, _⟩ => ⟨S1024x1024, .bf16⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S1x1024, .f32⟩
  | .hbm, ⟨23, _⟩ => ⟨S4x8192x1024, .f32⟩
  | .hbm, ⟨24, _⟩ => ⟨S4x8192x1024, .bf16⟩
  | .hbm, ⟨25, _⟩ => ⟨S4x8192x128, .f32⟩
  | .local _ .vmem, ⟨0, _⟩ => ⟨S3x1x512x256, .bf16⟩
  | .local _ .vmem, ⟨1, _⟩ => ⟨S3x1x512x512, .bf16⟩
  | .local _ .vmem, ⟨2, _⟩ => ⟨S3x1x512x256, .bf16⟩
  | .local _ .vmem, ⟨3, _⟩ => ⟨S3x1x512x1024, .f32⟩
  | .local _ .vmem, ⟨4, _⟩ => ⟨S1024x1024, .bf16⟩
  | .local _ .vmem, ⟨5, _⟩ => ⟨S2x1x1x1024, .f32⟩
  | .local _ .vmem, ⟨6, _⟩ => ⟨S2x1x1x1024, .f32⟩
  | .local _ .vmem, ⟨7, _⟩ => ⟨S2x1x1x1024, .f32⟩
  | .local _ .vmem, ⟨8, _⟩ => ⟨S1x1024, .f32⟩
  | .local _ .vmem, ⟨9, _⟩ => ⟨S1024x256, .bf16⟩
  | .local _ .vmem, ⟨10, _⟩ => ⟨S2x1x512x1024, .f32⟩
  | .local _ .vmem, ⟨11, _⟩ => ⟨S2x1x512x1024, .bf16⟩
  | .local _ .vmem, ⟨12, _⟩ => ⟨S2x1x512x128, .f32⟩
  | _, _ => ⟨S4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped9 : Ref sig .tc := ⟨.vmem, 5, rfl⟩
abbrev cc0_scoped11 : Ref sig .tc := ⟨.vmem, 6, rfl⟩
abbrev cc0_scoped13 : Ref sig .tc := ⟨.vmem, 7, rfl⟩
abbrev cc0_scoped15 : Ref sig .tc := ⟨.vmem, 8, rfl⟩
abbrev cc0_scoped16 : Ref sig .tc := ⟨.vmem, 9, rfl⟩
abbrev cc0_scoped17 : Ref sig .tc := ⟨.vmem, 10, rfl⟩
abbrev cc0_scoped19 : Ref sig .tc := ⟨.vmem, 11, rfl⟩
abbrev cc0_scoped21 : Ref sig .tc := ⟨.vmem, 12, rfl⟩

abbrev nD : Nat := 1
abbrev τ : Topo := Topo.v7x

variable {F : FTy → Type} [FloatOps F]

abbrev grid0 : Pipeline.Grid := .none

def k0_off1 : Fin 1 → Nat :=
  let c0_i32_44_r0 : BitVec 32 := 0#32
  let c3_i32_45_r0 : BitVec 32 := 3#32
  let v46_r0 : BitVec 32 := Scalar.remui c0_i32_44_r0 c3_i32_45_r0
  ![v46_r0.toNat]
def k0_off2 : Fin 4 → Nat :=
  let c0_i32_44_r0 : BitVec 32 := 0#32
  let c3_i32_45_r0 : BitVec 32 := 3#32
  let v46_r0 : BitVec 32 := Scalar.remui c0_i32_44_r0 c3_i32_45_r0
  let c0_i32_46_r0 : BitVec 32 := 0#32
  let c0_i32_47_r0 : BitVec 32 := 0#32
  let c0_i32_48_r0 : BitVec 32 := 0#32
  ![v46_r0.toNat, 0, 0, 0]
def k0_off3 : Fin 4 → Nat :=
  let c0_i32_54_r0 : BitVec 32 := 0#32
  let c3_i32_55_r0 : BitVec 32 := 3#32
  let v53_r0 : BitVec 32 := Scalar.remui c0_i32_54_r0 c3_i32_55_r0
  let c0_i32_56_r0 : BitVec 32 := 0#32
  let c0_i32_57_r0 : BitVec 32 := 0#32
  let c0_i32_58_r0 : BitVec 32 := 0#32
  ![v53_r0.toNat, 0, 0, 0]
def k0_off4 : Fin 4 → Nat :=
  let c0_i32_74_r0 : BitVec 32 := 0#32
  let c3_i32_75_r0 : BitVec 32 := 3#32
  let v67_r0 : BitVec 32 := Scalar.remui c0_i32_74_r0 c3_i32_75_r0
  let c0_i32_76_r0 : BitVec 32 := 0#32
  let c0_i32_77_r0 : BitVec 32 := 0#32
  let c0_i32_78_r0 : BitVec 32 := 0#32
  ![v67_r0.toNat, 0, 0, 0]
def k0_off5 : Fin 1 → Nat :=
  let c0_i32_84_r0 : BitVec 32 := 0#32
  let c2_i32_r0 : BitVec 32 := 2#32
  let v74_r0 : BitVec 32 := Scalar.remui c0_i32_84_r0 c2_i32_r0
  ![v74_r0.toNat]
def k0_off6 : Fin 4 → Nat :=
  let c0_i32_84_r0 : BitVec 32 := 0#32
  let c2_i32_r0 : BitVec 32 := 2#32
  let v74_r0 : BitVec 32 := Scalar.remui c0_i32_84_r0 c2_i32_r0
  let c0_i32_85_r0 : BitVec 32 := 0#32
  let c0_i32_86_r0 : BitVec 32 := 0#32
  let c0_i32_87_r0 : BitVec 32 := 0#32
  ![v74_r0.toNat, 0, 0, 0]
def k0_cond1 : BitVec 1 :=
  let true_115_r0 : BitVec 1 := 1#1
  let true_18_r0 : BitVec 1 := 1#1
  let c1_i32_r0 : BitVec 32 := 1#32
  let c0_i32_19_r0 : BitVec 32 := 0#32
  let v18_r0 : BitVec 32 := Scalar.select true_18_r0 c1_i32_r0 c0_i32_19_r0
  let c16_i32_r0 : BitVec 32 := 16#32
  let v19_r0 : BitVec 1 := Scalar.cmpi .eq v18_r0 c16_i32_r0
  let c1_i32_22_r0 : BitVec 32 := 1#32
  let c0_i32_21_r0 : BitVec 32 := 0#32
  let v21_r0 : BitVec 32 := Scalar.select v19_r0 c1_i32_22_r0 c0_i32_21_r0
  let c4_i32_r0 : BitVec 32 := 4#32
  let v22_r0 : BitVec 1 := Scalar.cmpi .eq v21_r0 c4_i32_r0
  let c0_i32_23_r0 : BitVec 32 := 0#32
  let v23_r0 : BitVec 32 := Scalar.select v22_r0 c0_i32_23_r0 v21_r0
  let c0_i32_24_r0 : BitVec 32 := 0#32
  let v24_r0 : BitVec 32 := Scalar.addi v23_r0 c0_i32_24_r0
  let c0_i32_113_r0 : BitVec 32 := 0#32
  let v95_r0 : BitVec 1 := Scalar.cmpi .ne v24_r0 c0_i32_113_r0
  let c0_i32_20_r0 : BitVec 32 := 0#32
  let v20_r0 : BitVec 32 := Scalar.select v19_r0 c0_i32_20_r0 v18_r0
  let c0_i32_25_r0 : BitVec 32 := 0#32
  let v25_r0 : BitVec 32 := Scalar.addi v20_r0 c0_i32_25_r0
  let c0_i32_114_r0 : BitVec 32 := 0#32
  let v96_r0 : BitVec 1 := Scalar.cmpi .ne v25_r0 c0_i32_114_r0
  let v97_r0 : BitVec 1 := Scalar.ori v95_r0 v96_r0
  let v98_r0 : BitVec 1 := Scalar.andi true_115_r0 v97_r0
  let true_116_r0 : BitVec 1 := 1#1
  let v99_r0 : BitVec 1 := Scalar.andi v98_r0 true_116_r0
  let v100_r0 : BitVec 32 := Scalar.extui v99_r0
  let c0_i32_117_r0 : BitVec 32 := 0#32
  let v101_r0 : BitVec 1 := Scalar.cmpi .ne v100_r0 c0_i32_117_r0
  v101_r0

def k0_off7 : Fin 1 → Nat :=
  let c0_i32_52_r0 : BitVec 32 := 0#32
  let c1_i32_53_r0 : BitVec 32 := 1#32
  let v52_r0 : BitVec 32 := Scalar.addi c0_i32_52_r0 c1_i32_53_r0
  let c3_i32_226_r0 : BitVec 32 := 3#32
  let v207_r0 : BitVec 32 := Scalar.remui v52_r0 c3_i32_226_r0
  ![v207_r0.toNat]
def k0_off8 : Fin 4 → Nat :=
  let c0_i32_52_r0 : BitVec 32 := 0#32
  let c1_i32_53_r0 : BitVec 32 := 1#32
  let v52_r0 : BitVec 32 := Scalar.addi c0_i32_52_r0 c1_i32_53_r0
  let c3_i32_226_r0 : BitVec 32 := 3#32
  let v207_r0 : BitVec 32 := Scalar.remui v52_r0 c3_i32_226_r0
  let c0_i32_229_r0 : BitVec 32 := 0#32
  let c0_i32_230_r0 : BitVec 32 := 0#32
  let c0_i32_231_r0 : BitVec 32 := 0#32
  ![v207_r0.toNat, 0, 0, 0]
def k0_off9 : Fin 3 → Nat :=
  let c1_i32_227_r0 : BitVec 32 := 1#32
  let true_18_r0 : BitVec 1 := 1#1
  let c1_i32_r0 : BitVec 32 := 1#32
  let c0_i32_19_r0 : BitVec 32 := 0#32
  let v18_r0 : BitVec 32 := Scalar.select true_18_r0 c1_i32_r0 c0_i32_19_r0
  let c16_i32_r0 : BitVec 32 := 16#32
  let v19_r0 : BitVec 1 := Scalar.cmpi .eq v18_r0 c16_i32_r0
  let c1_i32_22_r0 : BitVec 32 := 1#32
  let c0_i32_21_r0 : BitVec 32 := 0#32
  let v21_r0 : BitVec 32 := Scalar.select v19_r0 c1_i32_22_r0 c0_i32_21_r0
  let c4_i32_r0 : BitVec 32 := 4#32
  let v22_r0 : BitVec 1 := Scalar.cmpi .eq v21_r0 c4_i32_r0
  let c0_i32_23_r0 : BitVec 32 := 0#32
  let v23_r0 : BitVec 32 := Scalar.select v22_r0 c0_i32_23_r0 v21_r0
  let c0_i32_24_r0 : BitVec 32 := 0#32
  let v24_r0 : BitVec 32 := Scalar.addi v23_r0 c0_i32_24_r0
  let v208_r0 : BitVec 32 := Scalar.muli c1_i32_227_r0 v24_r0
  let c512_i32_228_r0 : BitVec 32 := 512#32
  let c0_i32_20_r0 : BitVec 32 := 0#32
  let v20_r0 : BitVec 32 := Scalar.select v19_r0 c0_i32_20_r0 v18_r0
  let c0_i32_25_r0 : BitVec 32 := 0#32
  let v25_r0 : BitVec 32 := Scalar.addi v20_r0 c0_i32_25_r0
  let v209_r0 : BitVec 32 := Scalar.muli c512_i32_228_r0 v25_r0
  let c0_i32_232_r0 : BitVec 32 := 0#32
  ![v208_r0.toNat, v209_r0.toNat, 0]
def k0_cond2 : BitVec 1 :=
  let true_121_r0 : BitVec 1 := 1#1
  let true_18_r0 : BitVec 1 := 1#1
  let c1_i32_r0 : BitVec 32 := 1#32
  let c0_i32_19_r0 : BitVec 32 := 0#32
  let v18_r0 : BitVec 32 := Scalar.select true_18_r0 c1_i32_r0 c0_i32_19_r0
  let c16_i32_r0 : BitVec 32 := 16#32
  let v19_r0 : BitVec 1 := Scalar.cmpi .eq v18_r0 c16_i32_r0
  let c1_i32_22_r0 : BitVec 32 := 1#32
  let c0_i32_21_r0 : BitVec 32 := 0#32
  let v21_r0 : BitVec 32 := Scalar.select v19_r0 c1_i32_22_r0 c0_i32_21_r0
  let c4_i32_r0 : BitVec 32 := 4#32
  let v22_r0 : BitVec 1 := Scalar.cmpi .eq v21_r0 c4_i32_r0
  let c0_i32_23_r0 : BitVec 32 := 0#32
  let v23_r0 : BitVec 32 := Scalar.select v22_r0 c0_i32_23_r0 v21_r0
  let c0_i32_24_r0 : BitVec 32 := 0#32
  let v24_r0 : BitVec 32 := Scalar.addi v23_r0 c0_i32_24_r0
  let c0_i32_119_r0 : BitVec 32 := 0#32
  let v104_r0 : BitVec 1 := Scalar.cmpi .ne v24_r0 c0_i32_119_r0
  let c0_i32_20_r0 : BitVec 32 := 0#32
  let v20_r0 : BitVec 32 := Scalar.select v19_r0 c0_i32_20_r0 v18_r0
  let c0_i32_25_r0 : BitVec 32 := 0#32
  let v25_r0 : BitVec 32 := Scalar.addi v20_r0 c0_i32_25_r0
  let c0_i32_120_r0 : BitVec 32 := 0#32
  let v105_r0 : BitVec 1 := Scalar.cmpi .ne v25_r0 c0_i32_120_r0
  let v106_r0 : BitVec 1 := Scalar.ori v104_r0 v105_r0
  let v107_r0 : BitVec 1 := Scalar.andi true_121_r0 v106_r0
  let true_122_r0 : BitVec 1 := 1#1
  let v108_r0 : BitVec 1 := Scalar.andi v107_r0 true_122_r0
  let v109_r0 : BitVec 32 := Scalar.extui v108_r0
  let c0_i32_123_r0 : BitVec 32 := 0#32
  let v110_r0 : BitVec 1 := Scalar.cmpi .ne v109_r0 c0_i32_123_r0
  v110_r0

def k0_off10 : Fin 1 → Nat :=
  let c0_i32_62_r0 : BitVec 32 := 0#32
  let c1_i32_63_r0 : BitVec 32 := 1#32
  let v59_r0 : BitVec 32 := Scalar.addi c0_i32_62_r0 c1_i32_63_r0
  let c3_i32_226_r0 : BitVec 32 := 3#32
  let v207_r0 : BitVec 32 := Scalar.remui v59_r0 c3_i32_226_r0
  ![v207_r0.toNat]
def k0_off11 : Fin 4 → Nat :=
  let c0_i32_62_r0 : BitVec 32 := 0#32
  let c1_i32_63_r0 : BitVec 32 := 1#32
  let v59_r0 : BitVec 32 := Scalar.addi c0_i32_62_r0 c1_i32_63_r0
  let c3_i32_226_r0 : BitVec 32 := 3#32
  let v207_r0 : BitVec 32 := Scalar.remui v59_r0 c3_i32_226_r0
  let c0_i32_229_r0 : BitVec 32 := 0#32
  let c0_i32_230_r0 : BitVec 32 := 0#32
  let c0_i32_231_r0 : BitVec 32 := 0#32
  ![v207_r0.toNat, 0, 0, 0]
def k0_off12 : Fin 3 → Nat :=
  let c1_i32_227_r0 : BitVec 32 := 1#32
  let true_18_r0 : BitVec 1 := 1#1
  let c1_i32_r0 : BitVec 32 := 1#32
  let c0_i32_19_r0 : BitVec 32 := 0#32
  let v18_r0 : BitVec 32 := Scalar.select true_18_r0 c1_i32_r0 c0_i32_19_r0
  let c16_i32_r0 : BitVec 32 := 16#32
  let v19_r0 : BitVec 1 := Scalar.cmpi .eq v18_r0 c16_i32_r0
  let c1_i32_22_r0 : BitVec 32 := 1#32
  let c0_i32_21_r0 : BitVec 32 := 0#32
  let v21_r0 : BitVec 32 := Scalar.select v19_r0 c1_i32_22_r0 c0_i32_21_r0
  let c4_i32_r0 : BitVec 32 := 4#32
  let v22_r0 : BitVec 1 := Scalar.cmpi .eq v21_r0 c4_i32_r0
  let c0_i32_23_r0 : BitVec 32 := 0#32
  let v23_r0 : BitVec 32 := Scalar.select v22_r0 c0_i32_23_r0 v21_r0
  let c0_i32_24_r0 : BitVec 32 := 0#32
  let v24_r0 : BitVec 32 := Scalar.addi v23_r0 c0_i32_24_r0
  let v208_r0 : BitVec 32 := Scalar.muli c1_i32_227_r0 v24_r0
  let c512_i32_228_r0 : BitVec 32 := 512#32
  let c0_i32_20_r0 : BitVec 32 := 0#32
  let v20_r0 : BitVec 32 := Scalar.select v19_r0 c0_i32_20_r0 v18_r0
  let c0_i32_25_r0 : BitVec 32 := 0#32
  let v25_r0 : BitVec 32 := Scalar.addi v20_r0 c0_i32_25_r0
  let v209_r0 : BitVec 32 := Scalar.muli c512_i32_228_r0 v25_r0
  let c0_i32_232_r0 : BitVec 32 := 0#32
  ![v208_r0.toNat, v209_r0.toNat, 0]
def k0_cond3 : BitVec 1 :=
  let true_127_r0 : BitVec 1 := 1#1
  let true_18_r0 : BitVec 1 := 1#1
  let c1_i32_r0 : BitVec 32 := 1#32
  let c0_i32_19_r0 : BitVec 32 := 0#32
  let v18_r0 : BitVec 32 := Scalar.select true_18_r0 c1_i32_r0 c0_i32_19_r0
  let c16_i32_r0 : BitVec 32 := 16#32
  let v19_r0 : BitVec 1 := Scalar.cmpi .eq v18_r0 c16_i32_r0
  let c1_i32_22_r0 : BitVec 32 := 1#32
  let c0_i32_21_r0 : BitVec 32 := 0#32
  let v21_r0 : BitVec 32 := Scalar.select v19_r0 c1_i32_22_r0 c0_i32_21_r0
  let c4_i32_r0 : BitVec 32 := 4#32
  let v22_r0 : BitVec 1 := Scalar.cmpi .eq v21_r0 c4_i32_r0
  let c0_i32_23_r0 : BitVec 32 := 0#32
  let v23_r0 : BitVec 32 := Scalar.select v22_r0 c0_i32_23_r0 v21_r0
  let c0_i32_24_r0 : BitVec 32 := 0#32
  let v24_r0 : BitVec 32 := Scalar.addi v23_r0 c0_i32_24_r0
  let c0_i32_125_r0 : BitVec 32 := 0#32
  let v113_r0 : BitVec 1 := Scalar.cmpi .ne v24_r0 c0_i32_125_r0
  let c0_i32_20_r0 : BitVec 32 := 0#32
  let v20_r0 : BitVec 32 := Scalar.select v19_r0 c0_i32_20_r0 v18_r0
  let c0_i32_25_r0 : BitVec 32 := 0#32
  let v25_r0 : BitVec 32 := Scalar.addi v20_r0 c0_i32_25_r0
  let c0_i32_126_r0 : BitVec 32 := 0#32
  let v114_r0 : BitVec 1 := Scalar.cmpi .ne v25_r0 c0_i32_126_r0
  let v115_r0 : BitVec 1 := Scalar.ori v113_r0 v114_r0
  let v116_r0 : BitVec 1 := Scalar.andi true_127_r0 v115_r0
  let true_128_r0 : BitVec 1 := 1#1
  let v117_r0 : BitVec 1 := Scalar.andi v116_r0 true_128_r0
  let v118_r0 : BitVec 32 := Scalar.extui v117_r0
  let c0_i32_129_r0 : BitVec 32 := 0#32
  let v119_r0 : BitVec 1 := Scalar.cmpi .ne v118_r0 c0_i32_129_r0
  v119_r0

def k0_off13 : Fin 1 → Nat :=
  let c0_i32_72_r0 : BitVec 32 := 0#32
  let c1_i32_73_r0 : BitVec 32 := 1#32
  let v66_r0 : BitVec 32 := Scalar.addi c0_i32_72_r0 c1_i32_73_r0
  let c3_i32_226_r0 : BitVec 32 := 3#32
  let v207_r0 : BitVec 32 := Scalar.remui v66_r0 c3_i32_226_r0
  ![v207_r0.toNat]
def k0_off14 : Fin 4 → Nat :=
  let c0_i32_72_r0 : BitVec 32 := 0#32
  let c1_i32_73_r0 : BitVec 32 := 1#32
  let v66_r0 : BitVec 32 := Scalar.addi c0_i32_72_r0 c1_i32_73_r0
  let c3_i32_226_r0 : BitVec 32 := 3#32
  let v207_r0 : BitVec 32 := Scalar.remui v66_r0 c3_i32_226_r0
  let c0_i32_229_r0 : BitVec 32 := 0#32
  let c0_i32_230_r0 : BitVec 32 := 0#32
  let c0_i32_231_r0 : BitVec 32 := 0#32
  ![v207_r0.toNat, 0, 0, 0]
def k0_off15 : Fin 3 → Nat :=
  let c1_i32_227_r0 : BitVec 32 := 1#32
  let true_18_r0 : BitVec 1 := 1#1
  let c1_i32_r0 : BitVec 32 := 1#32
  let c0_i32_19_r0 : BitVec 32 := 0#32
  let v18_r0 : BitVec 32 := Scalar.select true_18_r0 c1_i32_r0 c0_i32_19_r0
  let c16_i32_r0 : BitVec 32 := 16#32
  let v19_r0 : BitVec 1 := Scalar.cmpi .eq v18_r0 c16_i32_r0
  let c1_i32_22_r0 : BitVec 32 := 1#32
  let c0_i32_21_r0 : BitVec 32 := 0#32
  let v21_r0 : BitVec 32 := Scalar.select v19_r0 c1_i32_22_r0 c0_i32_21_r0
  let c4_i32_r0 : BitVec 32 := 4#32
  let v22_r0 : BitVec 1 := Scalar.cmpi .eq v21_r0 c4_i32_r0
  let c0_i32_23_r0 : BitVec 32 := 0#32
  let v23_r0 : BitVec 32 := Scalar.select v22_r0 c0_i32_23_r0 v21_r0
  let c0_i32_24_r0 : BitVec 32 := 0#32
  let v24_r0 : BitVec 32 := Scalar.addi v23_r0 c0_i32_24_r0
  let v208_r0 : BitVec 32 := Scalar.muli c1_i32_227_r0 v24_r0
  let c512_i32_228_r0 : BitVec 32 := 512#32
  let c0_i32_20_r0 : BitVec 32 := 0#32
  let v20_r0 : BitVec 32 := Scalar.select v19_r0 c0_i32_20_r0 v18_r0
  let c0_i32_25_r0 : BitVec 32 := 0#32
  let v25_r0 : BitVec 32 := Scalar.addi v20_r0 c0_i32_25_r0
  let v209_r0 : BitVec 32 := Scalar.muli c512_i32_228_r0 v25_r0
  let c0_i32_232_r0 : BitVec 32 := 0#32
  ![v208_r0.toNat, v209_r0.toNat, 0]
def k0_cond4 : BitVec 1 :=
  let true_133_r0 : BitVec 1 := 1#1
  let true_18_r0 : BitVec 1 := 1#1
  let c1_i32_r0 : BitVec 32 := 1#32
  let c0_i32_19_r0 : BitVec 32 := 0#32
  let v18_r0 : BitVec 32 := Scalar.select true_18_r0 c1_i32_r0 c0_i32_19_r0
  let c16_i32_r0 : BitVec 32 := 16#32
  let v19_r0 : BitVec 1 := Scalar.cmpi .eq v18_r0 c16_i32_r0
  let c1_i32_22_r0 : BitVec 32 := 1#32
  let c0_i32_21_r0 : BitVec 32 := 0#32
  let v21_r0 : BitVec 32 := Scalar.select v19_r0 c1_i32_22_r0 c0_i32_21_r0
  let c4_i32_r0 : BitVec 32 := 4#32
  let v22_r0 : BitVec 1 := Scalar.cmpi .eq v21_r0 c4_i32_r0
  let c0_i32_23_r0 : BitVec 32 := 0#32
  let v23_r0 : BitVec 32 := Scalar.select v22_r0 c0_i32_23_r0 v21_r0
  let c0_i32_24_r0 : BitVec 32 := 0#32
  let v24_r0 : BitVec 32 := Scalar.addi v23_r0 c0_i32_24_r0
  let c0_i32_131_r0 : BitVec 32 := 0#32
  let v122_r0 : BitVec 1 := Scalar.cmpi .ne v24_r0 c0_i32_131_r0
  let c0_i32_20_r0 : BitVec 32 := 0#32
  let v20_r0 : BitVec 32 := Scalar.select v19_r0 c0_i32_20_r0 v18_r0
  let c0_i32_25_r0 : BitVec 32 := 0#32
  let v25_r0 : BitVec 32 := Scalar.addi v20_r0 c0_i32_25_r0
  let c0_i32_132_r0 : BitVec 32 := 0#32
  let v123_r0 : BitVec 1 := Scalar.cmpi .ne v25_r0 c0_i32_132_r0
  let v124_r0 : BitVec 1 := Scalar.ori v122_r0 v123_r0
  let v125_r0 : BitVec 1 := Scalar.andi true_133_r0 v124_r0
  let true_134_r0 : BitVec 1 := 1#1
  let v126_r0 : BitVec 1 := Scalar.andi v125_r0 true_134_r0
  let v127_r0 : BitVec 32 := Scalar.extui v126_r0
  let c0_i32_135_r0 : BitVec 32 := 0#32
  let v128_r0 : BitVec 1 := Scalar.cmpi .ne v127_r0 c0_i32_135_r0
  v128_r0

def k0_off16 : Fin 1 → Nat :=
  let c0_i32_82_r0 : BitVec 32 := 0#32
  let c1_i32_83_r0 : BitVec 32 := 1#32
  let v73_r0 : BitVec 32 := Scalar.addi c0_i32_82_r0 c1_i32_83_r0
  let c3_i32_226_r0 : BitVec 32 := 3#32
  let v207_r0 : BitVec 32 := Scalar.remui v73_r0 c3_i32_226_r0
  ![v207_r0.toNat]
def k0_off17 : Fin 4 → Nat :=
  let c0_i32_82_r0 : BitVec 32 := 0#32
  let c1_i32_83_r0 : BitVec 32 := 1#32
  let v73_r0 : BitVec 32 := Scalar.addi c0_i32_82_r0 c1_i32_83_r0
  let c3_i32_226_r0 : BitVec 32 := 3#32
  let v207_r0 : BitVec 32 := Scalar.remui v73_r0 c3_i32_226_r0
  let c0_i32_229_r0 : BitVec 32 := 0#32
  let c0_i32_230_r0 : BitVec 32 := 0#32
  let c0_i32_231_r0 : BitVec 32 := 0#32
  ![v207_r0.toNat, 0, 0, 0]
def k0_off18 : Fin 3 → Nat :=
  let c1_i32_227_r0 : BitVec 32 := 1#32
  let true_18_r0 : BitVec 1 := 1#1
  let c1_i32_r0 : BitVec 32 := 1#32
  let c0_i32_19_r0 : BitVec 32 := 0#32
  let v18_r0 : BitVec 32 := Scalar.select true_18_r0 c1_i32_r0 c0_i32_19_r0
  let c16_i32_r0 : BitVec 32 := 16#32
  let v19_r0 : BitVec 1 := Scalar.cmpi .eq v18_r0 c16_i32_r0
  let c1_i32_22_r0 : BitVec 32 := 1#32
  let c0_i32_21_r0 : BitVec 32 := 0#32
  let v21_r0 : BitVec 32 := Scalar.select v19_r0 c1_i32_22_r0 c0_i32_21_r0
  let c4_i32_r0 : BitVec 32 := 4#32
  let v22_r0 : BitVec 1 := Scalar.cmpi .eq v21_r0 c4_i32_r0
  let c0_i32_23_r0 : BitVec 32 := 0#32
  let v23_r0 : BitVec 32 := Scalar.select v22_r0 c0_i32_23_r0 v21_r0
  let c0_i32_24_r0 : BitVec 32 := 0#32
  let v24_r0 : BitVec 32 := Scalar.addi v23_r0 c0_i32_24_r0
  let v208_r0 : BitVec 32 := Scalar.muli c1_i32_227_r0 v24_r0
  let c512_i32_228_r0 : BitVec 32 := 512#32
  let c0_i32_20_r0 : BitVec 32 := 0#32
  let v20_r0 : BitVec 32 := Scalar.select v19_r0 c0_i32_20_r0 v18_r0
  let c0_i32_25_r0 : BitVec 32 := 0#32
  let v25_r0 : BitVec 32 := Scalar.addi v20_r0 c0_i32_25_r0
  let v209_r0 : BitVec 32 := Scalar.muli c512_i32_228_r0 v25_r0
  let c0_i32_232_r0 : BitVec 32 := 0#32
  ![v208_r0.toNat, v209_r0.toNat, 0]
@[reducible] def k0_t1_loop : Scf.Loop 32 :=
  let c0_i32_158_r0 : BitVec 32 := 0#32
  let c64_i32_r0 : BitVec 32 := 64#32
  let v131_r0 : BitVec 32 := Scalar.addi c0_i32_158_r0 c64_i32_r0
  let c1_i32_159_r0 : BitVec 32 := 1#32
  ⟨c0_i32_158_r0, v131_r0, c1_i32_159_r0⟩
def k0_off19 (arg14_r0 : BitVec 32) : Fin 1 → Nat :=
  let c3_i32_491_r0 : BitVec 32 := 3#32
  let v724_r0 : BitVec 32 := Scalar.remui arg14_r0 c3_i32_491_r0
  ![v724_r0.toNat]
def k0_cond5 (k0_t1 : Fin k0_t1_loop.trips) (arg37_r0 : BitVec 32) (arg38_r0 : BitVec 32) : BitVec 1 :=
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let true_248_r0 : BitVec 1 := 1#1
  let c0_i32_241_r0 : BitVec 32 := 0#32
  let v224_r0 : BitVec 32 := Scalar.select v223_r0 c0_i32_241_r0 v222_r0
  let c1_i32_247_r0 : BitVec 32 := 1#32
  let v231_r0 : BitVec 32 := Scalar.addi v224_r0 c1_i32_247_r0
  let v232_r0 : BitVec 32 := Scalar.select true_248_r0 v231_r0 v224_r0
  let c16_i32_249_r0 : BitVec 32 := 16#32
  let v233_r0 : BitVec 1 := Scalar.cmpi .eq v232_r0 c16_i32_249_r0
  let c1_i32_251_r0 : BitVec 32 := 1#32
  let v235_r0 : BitVec 32 := Scalar.addi v228_r0 c1_i32_251_r0
  let v236_r0 : BitVec 32 := Scalar.select v233_r0 v235_r0 v228_r0
  let c4_i32_252_r0 : BitVec 32 := 4#32
  let v237_r0 : BitVec 1 := Scalar.cmpi .eq v236_r0 c4_i32_252_r0
  let c0_i32_253_r0 : BitVec 32 := 0#32
  let v238_r0 : BitVec 32 := Scalar.select v237_r0 c0_i32_253_r0 v236_r0
  let c0_i32_254_r0 : BitVec 32 := 0#32
  let v239_r0 : BitVec 32 := Scalar.addi v238_r0 c0_i32_254_r0
  let v251_r0 : BitVec 1 := Scalar.cmpi .ne v229_r0 v239_r0
  let c0_i32_246_r0 : BitVec 32 := 0#32
  let v230_r0 : BitVec 32 := Scalar.addi v224_r0 c0_i32_246_r0
  let c0_i32_250_r0 : BitVec 32 := 0#32
  let v234_r0 : BitVec 32 := Scalar.select v233_r0 c0_i32_250_r0 v232_r0
  let c0_i32_255_r0 : BitVec 32 := 0#32
  let v240_r0 : BitVec 32 := Scalar.addi v234_r0 c0_i32_255_r0
  let v252_r0 : BitVec 1 := Scalar.cmpi .ne v230_r0 v240_r0
  let v253_r0 : BitVec 1 := Scalar.ori v251_r0 v252_r0
  let c0_i32_158_r0 : BitVec 32 := 0#32
  let c1_i32_159_r0 : BitVec 32 := 1#32
  let arg13_r0 : BitVec 32 := Scf.iv c0_i32_158_r0 c1_i32_159_r0 k0_t1
  let c62_i32_r0 : BitVec 32 := 62#32
  let v254_r0 : BitVec 1 := Scalar.cmpi .sge arg13_r0 c62_i32_r0
  let true_265_r0 : BitVec 1 := 1#1
  let v255_r0 : BitVec 1 := Scalar.xori v254_r0 true_265_r0
  let v256_r0 : BitVec 1 := Scalar.andi v253_r0 v255_r0
  let true_266_r0 : BitVec 1 := 1#1
  let v257_r0 : BitVec 1 := Scalar.andi v256_r0 true_266_r0
  let v258_r0 : BitVec 32 := Scalar.extui v257_r0
  let c0_i32_267_r0 : BitVec 32 := 0#32
  let v259_r0 : BitVec 1 := Scalar.cmpi .ne v258_r0 c0_i32_267_r0
  v259_r0

def k0_off20 (arg14_r0 : BitVec 32) : Fin 4 → Nat :=
  let c3_i32_491_r0 : BitVec 32 := 3#32
  let v724_r0 : BitVec 32 := Scalar.remui arg14_r0 c3_i32_491_r0
  let c0_i32_494_r0 : BitVec 32 := 0#32
  let c0_i32_495_r0 : BitVec 32 := 0#32
  let c0_i32_496_r0 : BitVec 32 := 0#32
  ![v724_r0.toNat, 0, 0, 0]
def k0_off21 (arg37_r0 : BitVec 32) (arg38_r0 : BitVec 32) : Fin 3 → Nat :=
  let c1_i32_492_r0 : BitVec 32 := 1#32
  let true_248_r0 : BitVec 1 := 1#1
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c0_i32_241_r0 : BitVec 32 := 0#32
  let v224_r0 : BitVec 32 := Scalar.select v223_r0 c0_i32_241_r0 v222_r0
  let c1_i32_247_r0 : BitVec 32 := 1#32
  let v231_r0 : BitVec 32 := Scalar.addi v224_r0 c1_i32_247_r0
  let v232_r0 : BitVec 32 := Scalar.select true_248_r0 v231_r0 v224_r0
  let c16_i32_249_r0 : BitVec 32 := 16#32
  let v233_r0 : BitVec 1 := Scalar.cmpi .eq v232_r0 c16_i32_249_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c1_i32_251_r0 : BitVec 32 := 1#32
  let v235_r0 : BitVec 32 := Scalar.addi v228_r0 c1_i32_251_r0
  let v236_r0 : BitVec 32 := Scalar.select v233_r0 v235_r0 v228_r0
  let c4_i32_252_r0 : BitVec 32 := 4#32
  let v237_r0 : BitVec 1 := Scalar.cmpi .eq v236_r0 c4_i32_252_r0
  let c0_i32_253_r0 : BitVec 32 := 0#32
  let v238_r0 : BitVec 32 := Scalar.select v237_r0 c0_i32_253_r0 v236_r0
  let c0_i32_254_r0 : BitVec 32 := 0#32
  let v239_r0 : BitVec 32 := Scalar.addi v238_r0 c0_i32_254_r0
  let v725_r0 : BitVec 32 := Scalar.muli c1_i32_492_r0 v239_r0
  let c512_i32_493_r0 : BitVec 32 := 512#32
  let c0_i32_250_r0 : BitVec 32 := 0#32
  let v234_r0 : BitVec 32 := Scalar.select v233_r0 c0_i32_250_r0 v232_r0
  let c0_i32_255_r0 : BitVec 32 := 0#32
  let v240_r0 : BitVec 32 := Scalar.addi v234_r0 c0_i32_255_r0
  let v726_r0 : BitVec 32 := Scalar.muli c512_i32_493_r0 v240_r0
  let c0_i32_497_r0 : BitVec 32 := 0#32
  ![v725_r0.toNat, v726_r0.toNat, 0]
def k0_off22 (arg16_r0 : BitVec 32) : Fin 1 → Nat :=
  let c3_i32_491_r0 : BitVec 32 := 3#32
  let v724_r0 : BitVec 32 := Scalar.remui arg16_r0 c3_i32_491_r0
  ![v724_r0.toNat]
def k0_cond6 (k0_t1 : Fin k0_t1_loop.trips) (arg37_r0 : BitVec 32) (arg38_r0 : BitVec 32) : BitVec 1 :=
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let true_248_r0 : BitVec 1 := 1#1
  let c0_i32_241_r0 : BitVec 32 := 0#32
  let v224_r0 : BitVec 32 := Scalar.select v223_r0 c0_i32_241_r0 v222_r0
  let c1_i32_247_r0 : BitVec 32 := 1#32
  let v231_r0 : BitVec 32 := Scalar.addi v224_r0 c1_i32_247_r0
  let v232_r0 : BitVec 32 := Scalar.select true_248_r0 v231_r0 v224_r0
  let c16_i32_249_r0 : BitVec 32 := 16#32
  let v233_r0 : BitVec 1 := Scalar.cmpi .eq v232_r0 c16_i32_249_r0
  let c1_i32_251_r0 : BitVec 32 := 1#32
  let v235_r0 : BitVec 32 := Scalar.addi v228_r0 c1_i32_251_r0
  let v236_r0 : BitVec 32 := Scalar.select v233_r0 v235_r0 v228_r0
  let c4_i32_252_r0 : BitVec 32 := 4#32
  let v237_r0 : BitVec 1 := Scalar.cmpi .eq v236_r0 c4_i32_252_r0
  let c0_i32_253_r0 : BitVec 32 := 0#32
  let v238_r0 : BitVec 32 := Scalar.select v237_r0 c0_i32_253_r0 v236_r0
  let c0_i32_254_r0 : BitVec 32 := 0#32
  let v239_r0 : BitVec 32 := Scalar.addi v238_r0 c0_i32_254_r0
  let v263_r0 : BitVec 1 := Scalar.cmpi .ne v229_r0 v239_r0
  let c0_i32_246_r0 : BitVec 32 := 0#32
  let v230_r0 : BitVec 32 := Scalar.addi v224_r0 c0_i32_246_r0
  let c0_i32_250_r0 : BitVec 32 := 0#32
  let v234_r0 : BitVec 32 := Scalar.select v233_r0 c0_i32_250_r0 v232_r0
  let c0_i32_255_r0 : BitVec 32 := 0#32
  let v240_r0 : BitVec 32 := Scalar.addi v234_r0 c0_i32_255_r0
  let v264_r0 : BitVec 1 := Scalar.cmpi .ne v230_r0 v240_r0
  let v265_r0 : BitVec 1 := Scalar.ori v263_r0 v264_r0
  let c0_i32_158_r0 : BitVec 32 := 0#32
  let c1_i32_159_r0 : BitVec 32 := 1#32
  let arg13_r0 : BitVec 32 := Scf.iv c0_i32_158_r0 c1_i32_159_r0 k0_t1
  let c62_i32_270_r0 : BitVec 32 := 62#32
  let v266_r0 : BitVec 1 := Scalar.cmpi .sge arg13_r0 c62_i32_270_r0
  let true_271_r0 : BitVec 1 := 1#1
  let v267_r0 : BitVec 1 := Scalar.xori v266_r0 true_271_r0
  let v268_r0 : BitVec 1 := Scalar.andi v265_r0 v267_r0
  let true_272_r0 : BitVec 1 := 1#1
  let v269_r0 : BitVec 1 := Scalar.andi v268_r0 true_272_r0
  let v270_r0 : BitVec 32 := Scalar.extui v269_r0
  let c0_i32_273_r0 : BitVec 32 := 0#32
  let v271_r0 : BitVec 1 := Scalar.cmpi .ne v270_r0 c0_i32_273_r0
  v271_r0

def k0_off23 (arg16_r0 : BitVec 32) : Fin 4 → Nat :=
  let c3_i32_491_r0 : BitVec 32 := 3#32
  let v724_r0 : BitVec 32 := Scalar.remui arg16_r0 c3_i32_491_r0
  let c0_i32_494_r0 : BitVec 32 := 0#32
  let c0_i32_495_r0 : BitVec 32 := 0#32
  let c0_i32_496_r0 : BitVec 32 := 0#32
  ![v724_r0.toNat, 0, 0, 0]
def k0_off24 (arg37_r0 : BitVec 32) (arg38_r0 : BitVec 32) : Fin 3 → Nat :=
  let c1_i32_492_r0 : BitVec 32 := 1#32
  let true_248_r0 : BitVec 1 := 1#1
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c0_i32_241_r0 : BitVec 32 := 0#32
  let v224_r0 : BitVec 32 := Scalar.select v223_r0 c0_i32_241_r0 v222_r0
  let c1_i32_247_r0 : BitVec 32 := 1#32
  let v231_r0 : BitVec 32 := Scalar.addi v224_r0 c1_i32_247_r0
  let v232_r0 : BitVec 32 := Scalar.select true_248_r0 v231_r0 v224_r0
  let c16_i32_249_r0 : BitVec 32 := 16#32
  let v233_r0 : BitVec 1 := Scalar.cmpi .eq v232_r0 c16_i32_249_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c1_i32_251_r0 : BitVec 32 := 1#32
  let v235_r0 : BitVec 32 := Scalar.addi v228_r0 c1_i32_251_r0
  let v236_r0 : BitVec 32 := Scalar.select v233_r0 v235_r0 v228_r0
  let c4_i32_252_r0 : BitVec 32 := 4#32
  let v237_r0 : BitVec 1 := Scalar.cmpi .eq v236_r0 c4_i32_252_r0
  let c0_i32_253_r0 : BitVec 32 := 0#32
  let v238_r0 : BitVec 32 := Scalar.select v237_r0 c0_i32_253_r0 v236_r0
  let c0_i32_254_r0 : BitVec 32 := 0#32
  let v239_r0 : BitVec 32 := Scalar.addi v238_r0 c0_i32_254_r0
  let v725_r0 : BitVec 32 := Scalar.muli c1_i32_492_r0 v239_r0
  let c512_i32_493_r0 : BitVec 32 := 512#32
  let c0_i32_250_r0 : BitVec 32 := 0#32
  let v234_r0 : BitVec 32 := Scalar.select v233_r0 c0_i32_250_r0 v232_r0
  let c0_i32_255_r0 : BitVec 32 := 0#32
  let v240_r0 : BitVec 32 := Scalar.addi v234_r0 c0_i32_255_r0
  let v726_r0 : BitVec 32 := Scalar.muli c512_i32_493_r0 v240_r0
  let c0_i32_497_r0 : BitVec 32 := 0#32
  ![v725_r0.toNat, v726_r0.toNat, 0]
def k0_off25 (arg18_r0 : BitVec 32) : Fin 1 → Nat :=
  let c3_i32_491_r0 : BitVec 32 := 3#32
  let v724_r0 : BitVec 32 := Scalar.remui arg18_r0 c3_i32_491_r0
  ![v724_r0.toNat]
def k0_cond7 (k0_t1 : Fin k0_t1_loop.trips) (arg37_r0 : BitVec 32) (arg38_r0 : BitVec 32) : BitVec 1 :=
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let true_248_r0 : BitVec 1 := 1#1
  let c0_i32_241_r0 : BitVec 32 := 0#32
  let v224_r0 : BitVec 32 := Scalar.select v223_r0 c0_i32_241_r0 v222_r0
  let c1_i32_247_r0 : BitVec 32 := 1#32
  let v231_r0 : BitVec 32 := Scalar.addi v224_r0 c1_i32_247_r0
  let v232_r0 : BitVec 32 := Scalar.select true_248_r0 v231_r0 v224_r0
  let c16_i32_249_r0 : BitVec 32 := 16#32
  let v233_r0 : BitVec 1 := Scalar.cmpi .eq v232_r0 c16_i32_249_r0
  let c1_i32_251_r0 : BitVec 32 := 1#32
  let v235_r0 : BitVec 32 := Scalar.addi v228_r0 c1_i32_251_r0
  let v236_r0 : BitVec 32 := Scalar.select v233_r0 v235_r0 v228_r0
  let c4_i32_252_r0 : BitVec 32 := 4#32
  let v237_r0 : BitVec 1 := Scalar.cmpi .eq v236_r0 c4_i32_252_r0
  let c0_i32_253_r0 : BitVec 32 := 0#32
  let v238_r0 : BitVec 32 := Scalar.select v237_r0 c0_i32_253_r0 v236_r0
  let c0_i32_254_r0 : BitVec 32 := 0#32
  let v239_r0 : BitVec 32 := Scalar.addi v238_r0 c0_i32_254_r0
  let v275_r0 : BitVec 1 := Scalar.cmpi .ne v229_r0 v239_r0
  let c0_i32_246_r0 : BitVec 32 := 0#32
  let v230_r0 : BitVec 32 := Scalar.addi v224_r0 c0_i32_246_r0
  let c0_i32_250_r0 : BitVec 32 := 0#32
  let v234_r0 : BitVec 32 := Scalar.select v233_r0 c0_i32_250_r0 v232_r0
  let c0_i32_255_r0 : BitVec 32 := 0#32
  let v240_r0 : BitVec 32 := Scalar.addi v234_r0 c0_i32_255_r0
  let v276_r0 : BitVec 1 := Scalar.cmpi .ne v230_r0 v240_r0
  let v277_r0 : BitVec 1 := Scalar.ori v275_r0 v276_r0
  let c0_i32_158_r0 : BitVec 32 := 0#32
  let c1_i32_159_r0 : BitVec 32 := 1#32
  let arg13_r0 : BitVec 32 := Scf.iv c0_i32_158_r0 c1_i32_159_r0 k0_t1
  let c62_i32_276_r0 : BitVec 32 := 62#32
  let v278_r0 : BitVec 1 := Scalar.cmpi .sge arg13_r0 c62_i32_276_r0
  let true_277_r0 : BitVec 1 := 1#1
  let v279_r0 : BitVec 1 := Scalar.xori v278_r0 true_277_r0
  let v280_r0 : BitVec 1 := Scalar.andi v277_r0 v279_r0
  let true_278_r0 : BitVec 1 := 1#1
  let v281_r0 : BitVec 1 := Scalar.andi v280_r0 true_278_r0
  let v282_r0 : BitVec 32 := Scalar.extui v281_r0
  let c0_i32_279_r0 : BitVec 32 := 0#32
  let v283_r0 : BitVec 1 := Scalar.cmpi .ne v282_r0 c0_i32_279_r0
  v283_r0

def k0_off26 (arg18_r0 : BitVec 32) : Fin 4 → Nat :=
  let c3_i32_491_r0 : BitVec 32 := 3#32
  let v724_r0 : BitVec 32 := Scalar.remui arg18_r0 c3_i32_491_r0
  let c0_i32_494_r0 : BitVec 32 := 0#32
  let c0_i32_495_r0 : BitVec 32 := 0#32
  let c0_i32_496_r0 : BitVec 32 := 0#32
  ![v724_r0.toNat, 0, 0, 0]
def k0_off27 (arg37_r0 : BitVec 32) (arg38_r0 : BitVec 32) : Fin 3 → Nat :=
  let c1_i32_492_r0 : BitVec 32 := 1#32
  let true_248_r0 : BitVec 1 := 1#1
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c0_i32_241_r0 : BitVec 32 := 0#32
  let v224_r0 : BitVec 32 := Scalar.select v223_r0 c0_i32_241_r0 v222_r0
  let c1_i32_247_r0 : BitVec 32 := 1#32
  let v231_r0 : BitVec 32 := Scalar.addi v224_r0 c1_i32_247_r0
  let v232_r0 : BitVec 32 := Scalar.select true_248_r0 v231_r0 v224_r0
  let c16_i32_249_r0 : BitVec 32 := 16#32
  let v233_r0 : BitVec 1 := Scalar.cmpi .eq v232_r0 c16_i32_249_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c1_i32_251_r0 : BitVec 32 := 1#32
  let v235_r0 : BitVec 32 := Scalar.addi v228_r0 c1_i32_251_r0
  let v236_r0 : BitVec 32 := Scalar.select v233_r0 v235_r0 v228_r0
  let c4_i32_252_r0 : BitVec 32 := 4#32
  let v237_r0 : BitVec 1 := Scalar.cmpi .eq v236_r0 c4_i32_252_r0
  let c0_i32_253_r0 : BitVec 32 := 0#32
  let v238_r0 : BitVec 32 := Scalar.select v237_r0 c0_i32_253_r0 v236_r0
  let c0_i32_254_r0 : BitVec 32 := 0#32
  let v239_r0 : BitVec 32 := Scalar.addi v238_r0 c0_i32_254_r0
  let v725_r0 : BitVec 32 := Scalar.muli c1_i32_492_r0 v239_r0
  let c512_i32_493_r0 : BitVec 32 := 512#32
  let c0_i32_250_r0 : BitVec 32 := 0#32
  let v234_r0 : BitVec 32 := Scalar.select v233_r0 c0_i32_250_r0 v232_r0
  let c0_i32_255_r0 : BitVec 32 := 0#32
  let v240_r0 : BitVec 32 := Scalar.addi v234_r0 c0_i32_255_r0
  let v726_r0 : BitVec 32 := Scalar.muli c512_i32_493_r0 v240_r0
  let c0_i32_497_r0 : BitVec 32 := 0#32
  ![v725_r0.toNat, v726_r0.toNat, 0]
def k0_off28 (arg20_r0 : BitVec 32) : Fin 1 → Nat :=
  let c3_i32_491_r0 : BitVec 32 := 3#32
  let v724_r0 : BitVec 32 := Scalar.remui arg20_r0 c3_i32_491_r0
  ![v724_r0.toNat]
def k0_cond8 (k0_t1 : Fin k0_t1_loop.trips) (arg37_r0 : BitVec 32) (arg38_r0 : BitVec 32) : BitVec 1 :=
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let true_248_r0 : BitVec 1 := 1#1
  let c0_i32_241_r0 : BitVec 32 := 0#32
  let v224_r0 : BitVec 32 := Scalar.select v223_r0 c0_i32_241_r0 v222_r0
  let c1_i32_247_r0 : BitVec 32 := 1#32
  let v231_r0 : BitVec 32 := Scalar.addi v224_r0 c1_i32_247_r0
  let v232_r0 : BitVec 32 := Scalar.select true_248_r0 v231_r0 v224_r0
  let c16_i32_249_r0 : BitVec 32 := 16#32
  let v233_r0 : BitVec 1 := Scalar.cmpi .eq v232_r0 c16_i32_249_r0
  let c1_i32_251_r0 : BitVec 32 := 1#32
  let v235_r0 : BitVec 32 := Scalar.addi v228_r0 c1_i32_251_r0
  let v236_r0 : BitVec 32 := Scalar.select v233_r0 v235_r0 v228_r0
  let c4_i32_252_r0 : BitVec 32 := 4#32
  let v237_r0 : BitVec 1 := Scalar.cmpi .eq v236_r0 c4_i32_252_r0
  let c0_i32_253_r0 : BitVec 32 := 0#32
  let v238_r0 : BitVec 32 := Scalar.select v237_r0 c0_i32_253_r0 v236_r0
  let c0_i32_254_r0 : BitVec 32 := 0#32
  let v239_r0 : BitVec 32 := Scalar.addi v238_r0 c0_i32_254_r0
  let v287_r0 : BitVec 1 := Scalar.cmpi .ne v229_r0 v239_r0
  let c0_i32_246_r0 : BitVec 32 := 0#32
  let v230_r0 : BitVec 32 := Scalar.addi v224_r0 c0_i32_246_r0
  let c0_i32_250_r0 : BitVec 32 := 0#32
  let v234_r0 : BitVec 32 := Scalar.select v233_r0 c0_i32_250_r0 v232_r0
  let c0_i32_255_r0 : BitVec 32 := 0#32
  let v240_r0 : BitVec 32 := Scalar.addi v234_r0 c0_i32_255_r0
  let v288_r0 : BitVec 1 := Scalar.cmpi .ne v230_r0 v240_r0
  let v289_r0 : BitVec 1 := Scalar.ori v287_r0 v288_r0
  let c0_i32_158_r0 : BitVec 32 := 0#32
  let c1_i32_159_r0 : BitVec 32 := 1#32
  let arg13_r0 : BitVec 32 := Scf.iv c0_i32_158_r0 c1_i32_159_r0 k0_t1
  let c62_i32_282_r0 : BitVec 32 := 62#32
  let v290_r0 : BitVec 1 := Scalar.cmpi .sge arg13_r0 c62_i32_282_r0
  let true_283_r0 : BitVec 1 := 1#1
  let v291_r0 : BitVec 1 := Scalar.xori v290_r0 true_283_r0
  let v292_r0 : BitVec 1 := Scalar.andi v289_r0 v291_r0
  let true_284_r0 : BitVec 1 := 1#1
  let v293_r0 : BitVec 1 := Scalar.andi v292_r0 true_284_r0
  let v294_r0 : BitVec 32 := Scalar.extui v293_r0
  let c0_i32_285_r0 : BitVec 32 := 0#32
  let v295_r0 : BitVec 1 := Scalar.cmpi .ne v294_r0 c0_i32_285_r0
  v295_r0

def k0_off29 (arg20_r0 : BitVec 32) : Fin 4 → Nat :=
  let c3_i32_491_r0 : BitVec 32 := 3#32
  let v724_r0 : BitVec 32 := Scalar.remui arg20_r0 c3_i32_491_r0
  let c0_i32_494_r0 : BitVec 32 := 0#32
  let c0_i32_495_r0 : BitVec 32 := 0#32
  let c0_i32_496_r0 : BitVec 32 := 0#32
  ![v724_r0.toNat, 0, 0, 0]
def k0_off30 (arg37_r0 : BitVec 32) (arg38_r0 : BitVec 32) : Fin 3 → Nat :=
  let c1_i32_492_r0 : BitVec 32 := 1#32
  let true_248_r0 : BitVec 1 := 1#1
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c0_i32_241_r0 : BitVec 32 := 0#32
  let v224_r0 : BitVec 32 := Scalar.select v223_r0 c0_i32_241_r0 v222_r0
  let c1_i32_247_r0 : BitVec 32 := 1#32
  let v231_r0 : BitVec 32 := Scalar.addi v224_r0 c1_i32_247_r0
  let v232_r0 : BitVec 32 := Scalar.select true_248_r0 v231_r0 v224_r0
  let c16_i32_249_r0 : BitVec 32 := 16#32
  let v233_r0 : BitVec 1 := Scalar.cmpi .eq v232_r0 c16_i32_249_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c1_i32_251_r0 : BitVec 32 := 1#32
  let v235_r0 : BitVec 32 := Scalar.addi v228_r0 c1_i32_251_r0
  let v236_r0 : BitVec 32 := Scalar.select v233_r0 v235_r0 v228_r0
  let c4_i32_252_r0 : BitVec 32 := 4#32
  let v237_r0 : BitVec 1 := Scalar.cmpi .eq v236_r0 c4_i32_252_r0
  let c0_i32_253_r0 : BitVec 32 := 0#32
  let v238_r0 : BitVec 32 := Scalar.select v237_r0 c0_i32_253_r0 v236_r0
  let c0_i32_254_r0 : BitVec 32 := 0#32
  let v239_r0 : BitVec 32 := Scalar.addi v238_r0 c0_i32_254_r0
  let v725_r0 : BitVec 32 := Scalar.muli c1_i32_492_r0 v239_r0
  let c512_i32_493_r0 : BitVec 32 := 512#32
  let c0_i32_250_r0 : BitVec 32 := 0#32
  let v234_r0 : BitVec 32 := Scalar.select v233_r0 c0_i32_250_r0 v232_r0
  let c0_i32_255_r0 : BitVec 32 := 0#32
  let v240_r0 : BitVec 32 := Scalar.addi v234_r0 c0_i32_255_r0
  let v726_r0 : BitVec 32 := Scalar.muli c512_i32_493_r0 v240_r0
  let c0_i32_497_r0 : BitVec 32 := 0#32
  ![v725_r0.toNat, v726_r0.toNat, 0]
def k0_off31 (arg23_r0 : BitVec 32) : Fin 1 → Nat :=
  let c2_i32_491_r0 : BitVec 32 := 2#32
  let v724_r0 : BitVec 32 := Scalar.remui arg23_r0 c2_i32_491_r0
  ![v724_r0.toNat]
def k0_cond9 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v299_r0 : BitVec 1 := Scalar.cmpi .ne v209_r0 v229_r0
  let c0_i32_158_r0 : BitVec 32 := 0#32
  let c1_i32_159_r0 : BitVec 32 := 1#32
  let arg13_r0 : BitVec 32 := Scf.iv c0_i32_158_r0 c1_i32_159_r0 k0_t1
  let c63_i32_288_r0 : BitVec 32 := 63#32
  let v300_r0 : BitVec 1 := Scalar.cmpi .sge arg13_r0 c63_i32_288_r0
  let true_289_r0 : BitVec 1 := 1#1
  let v301_r0 : BitVec 1 := Scalar.xori v300_r0 true_289_r0
  let v302_r0 : BitVec 1 := Scalar.andi v299_r0 v301_r0
  let true_290_r0 : BitVec 1 := 1#1
  let v303_r0 : BitVec 1 := Scalar.andi v302_r0 true_290_r0
  let v304_r0 : BitVec 32 := Scalar.extui v303_r0
  let c0_i32_291_r0 : BitVec 32 := 0#32
  let v305_r0 : BitVec 1 := Scalar.cmpi .ne v304_r0 c0_i32_291_r0
  v305_r0

def k0_off32 (arg23_r0 : BitVec 32) : Fin 4 → Nat :=
  let c2_i32_491_r0 : BitVec 32 := 2#32
  let v724_r0 : BitVec 32 := Scalar.remui arg23_r0 c2_i32_491_r0
  let c0_i32_493_r0 : BitVec 32 := 0#32
  let c0_i32_494_r0 : BitVec 32 := 0#32
  let c0_i32_495_r0 : BitVec 32 := 0#32
  ![v724_r0.toNat, 0, 0, 0]
def k0_off33 (arg37_r0 : BitVec 32) (arg38_r0 : BitVec 32) : Fin 3 → Nat :=
  let c1_i32_492_r0 : BitVec 32 := 1#32
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v725_r0 : BitVec 32 := Scalar.muli c1_i32_492_r0 v229_r0
  let c0_i32_496_r0 : BitVec 32 := 0#32
  let c0_i32_497_r0 : BitVec 32 := 0#32
  ![v725_r0.toNat, 0, 0]
def k0_off34 (arg25_r0 : BitVec 32) : Fin 1 → Nat :=
  let c2_i32_491_r0 : BitVec 32 := 2#32
  let v724_r0 : BitVec 32 := Scalar.remui arg25_r0 c2_i32_491_r0
  ![v724_r0.toNat]
def k0_cond10 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v309_r0 : BitVec 1 := Scalar.cmpi .ne v209_r0 v229_r0
  let c0_i32_158_r0 : BitVec 32 := 0#32
  let c1_i32_159_r0 : BitVec 32 := 1#32
  let arg13_r0 : BitVec 32 := Scf.iv c0_i32_158_r0 c1_i32_159_r0 k0_t1
  let c63_i32_294_r0 : BitVec 32 := 63#32
  let v310_r0 : BitVec 1 := Scalar.cmpi .sge arg13_r0 c63_i32_294_r0
  let true_295_r0 : BitVec 1 := 1#1
  let v311_r0 : BitVec 1 := Scalar.xori v310_r0 true_295_r0
  let v312_r0 : BitVec 1 := Scalar.andi v309_r0 v311_r0
  let true_296_r0 : BitVec 1 := 1#1
  let v313_r0 : BitVec 1 := Scalar.andi v312_r0 true_296_r0
  let v314_r0 : BitVec 32 := Scalar.extui v313_r0
  let c0_i32_297_r0 : BitVec 32 := 0#32
  let v315_r0 : BitVec 1 := Scalar.cmpi .ne v314_r0 c0_i32_297_r0
  v315_r0

def k0_off35 (arg25_r0 : BitVec 32) : Fin 4 → Nat :=
  let c2_i32_491_r0 : BitVec 32 := 2#32
  let v724_r0 : BitVec 32 := Scalar.remui arg25_r0 c2_i32_491_r0
  let c0_i32_493_r0 : BitVec 32 := 0#32
  let c0_i32_494_r0 : BitVec 32 := 0#32
  let c0_i32_495_r0 : BitVec 32 := 0#32
  ![v724_r0.toNat, 0, 0, 0]
def k0_off36 (arg37_r0 : BitVec 32) (arg38_r0 : BitVec 32) : Fin 3 → Nat :=
  let c1_i32_492_r0 : BitVec 32 := 1#32
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v725_r0 : BitVec 32 := Scalar.muli c1_i32_492_r0 v229_r0
  let c0_i32_496_r0 : BitVec 32 := 0#32
  let c0_i32_497_r0 : BitVec 32 := 0#32
  ![v725_r0.toNat, 0, 0]
def k0_off37 (arg27_r0 : BitVec 32) : Fin 1 → Nat :=
  let c2_i32_491_r0 : BitVec 32 := 2#32
  let v724_r0 : BitVec 32 := Scalar.remui arg27_r0 c2_i32_491_r0
  ![v724_r0.toNat]
def k0_cond11 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v319_r0 : BitVec 1 := Scalar.cmpi .ne v209_r0 v229_r0
  let c0_i32_158_r0 : BitVec 32 := 0#32
  let c1_i32_159_r0 : BitVec 32 := 1#32
  let arg13_r0 : BitVec 32 := Scf.iv c0_i32_158_r0 c1_i32_159_r0 k0_t1
  let c63_i32_300_r0 : BitVec 32 := 63#32
  let v320_r0 : BitVec 1 := Scalar.cmpi .sge arg13_r0 c63_i32_300_r0
  let true_301_r0 : BitVec 1 := 1#1
  let v321_r0 : BitVec 1 := Scalar.xori v320_r0 true_301_r0
  let v322_r0 : BitVec 1 := Scalar.andi v319_r0 v321_r0
  let true_302_r0 : BitVec 1 := 1#1
  let v323_r0 : BitVec 1 := Scalar.andi v322_r0 true_302_r0
  let v324_r0 : BitVec 32 := Scalar.extui v323_r0
  let c0_i32_303_r0 : BitVec 32 := 0#32
  let v325_r0 : BitVec 1 := Scalar.cmpi .ne v324_r0 c0_i32_303_r0
  v325_r0

def k0_off38 (arg27_r0 : BitVec 32) : Fin 4 → Nat :=
  let c2_i32_491_r0 : BitVec 32 := 2#32
  let v724_r0 : BitVec 32 := Scalar.remui arg27_r0 c2_i32_491_r0
  let c0_i32_493_r0 : BitVec 32 := 0#32
  let c0_i32_494_r0 : BitVec 32 := 0#32
  let c0_i32_495_r0 : BitVec 32 := 0#32
  ![v724_r0.toNat, 0, 0, 0]
def k0_off39 (arg37_r0 : BitVec 32) (arg38_r0 : BitVec 32) : Fin 3 → Nat :=
  let c1_i32_492_r0 : BitVec 32 := 1#32
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v725_r0 : BitVec 32 := Scalar.muli c1_i32_492_r0 v229_r0
  let c0_i32_496_r0 : BitVec 32 := 0#32
  let c0_i32_497_r0 : BitVec 32 := 0#32
  ![v725_r0.toNat, 0, 0]
def k0_off40 (arg15_r0 : BitVec 32) : Fin 1 → Nat :=
  let c3_i32_493_r0 : BitVec 32 := 3#32
  let v726_r0 : BitVec 32 := Scalar.remui arg15_r0 c3_i32_493_r0
  ![v726_r0.toNat]
def k0_cond12 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v347_r0 : BitVec 1 := Scalar.cmpi .ne v209_r0 v219_r0
  let c0_i32_228_r0 : BitVec 32 := 0#32
  let v210_r0 : BitVec 32 := Scalar.addi arg38_r0 c0_i32_228_r0
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v348_r0 : BitVec 1 := Scalar.cmpi .ne v210_r0 v220_r0
  let v349_r0 : BitVec 1 := Scalar.ori v347_r0 v348_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let v350_r0 : BitVec 1 := Scalar.ori v349_r0 v207_r0
  let c0_i32_312_r0 : BitVec 32 := 0#32
  let v351_r0 : BitVec 1 := Scalar.cmpi .sge arg13_r0 c0_i32_312_r0
  let v352_r0 : BitVec 1 := Scalar.andi v350_r0 v351_r0
  let v353_r0 : BitVec 32 := Scalar.extui v352_r0
  let c0_i32_313_r0 : BitVec 32 := 0#32
  let v354_r0 : BitVec 1 := Scalar.cmpi .ne v353_r0 c0_i32_313_r0
  v354_r0

def k0_off41 (arg15_r0 : BitVec 32) : Fin 4 → Nat :=
  let c3_i32_493_r0 : BitVec 32 := 3#32
  let v726_r0 : BitVec 32 := Scalar.remui arg15_r0 c3_i32_493_r0
  let c0_i32_494_r0 : BitVec 32 := 0#32
  let c0_i32_495_r0 : BitVec 32 := 0#32
  let c0_i32_496_r0 : BitVec 32 := 0#32
  ![v726_r0.toNat, 0, 0, 0]
def k0_off42 (arg37_r0 : BitVec 32) (arg38_r0 : BitVec 32) : Fin 3 → Nat :=
  let c1_i32_491_r0 : BitVec 32 := 1#32
  let c0_i32_227_r0 : BitVec 32 := 0#32
  let v209_r0 : BitVec 32 := Scalar.addi arg37_r0 c0_i32_227_r0
  let v724_r0 : BitVec 32 := Scalar.muli c1_i32_491_r0 v209_r0
  let c512_i32_492_r0 : BitVec 32 := 512#32
  let c0_i32_228_r0 : BitVec 32 := 0#32
  let v210_r0 : BitVec 32 := Scalar.addi arg38_r0 c0_i32_228_r0
  let v725_r0 : BitVec 32 := Scalar.muli c512_i32_492_r0 v210_r0
  let c0_i32_497_r0 : BitVec 32 := 0#32
  ![v724_r0.toNat, v725_r0.toNat, 0]
def k0_off43 (arg17_r0 : BitVec 32) : Fin 1 → Nat :=
  let c3_i32_493_r0 : BitVec 32 := 3#32
  let v726_r0 : BitVec 32 := Scalar.remui arg17_r0 c3_i32_493_r0
  ![v726_r0.toNat]
def k0_cond13 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v355_r0 : BitVec 1 := Scalar.cmpi .ne v209_r0 v219_r0
  let c0_i32_228_r0 : BitVec 32 := 0#32
  let v210_r0 : BitVec 32 := Scalar.addi arg38_r0 c0_i32_228_r0
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v356_r0 : BitVec 1 := Scalar.cmpi .ne v210_r0 v220_r0
  let v357_r0 : BitVec 1 := Scalar.ori v355_r0 v356_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let v358_r0 : BitVec 1 := Scalar.ori v357_r0 v207_r0
  let c0_i32_314_r0 : BitVec 32 := 0#32
  let v359_r0 : BitVec 1 := Scalar.cmpi .sge arg13_r0 c0_i32_314_r0
  let v360_r0 : BitVec 1 := Scalar.andi v358_r0 v359_r0
  let v361_r0 : BitVec 32 := Scalar.extui v360_r0
  let c0_i32_315_r0 : BitVec 32 := 0#32
  let v362_r0 : BitVec 1 := Scalar.cmpi .ne v361_r0 c0_i32_315_r0
  v362_r0

def k0_off44 (arg17_r0 : BitVec 32) : Fin 4 → Nat :=
  let c3_i32_493_r0 : BitVec 32 := 3#32
  let v726_r0 : BitVec 32 := Scalar.remui arg17_r0 c3_i32_493_r0
  let c0_i32_494_r0 : BitVec 32 := 0#32
  let c0_i32_495_r0 : BitVec 32 := 0#32
  let c0_i32_496_r0 : BitVec 32 := 0#32
  ![v726_r0.toNat, 0, 0, 0]
def k0_off45 (arg37_r0 : BitVec 32) (arg38_r0 : BitVec 32) : Fin 3 → Nat :=
  let c1_i32_491_r0 : BitVec 32 := 1#32
  let c0_i32_227_r0 : BitVec 32 := 0#32
  let v209_r0 : BitVec 32 := Scalar.addi arg37_r0 c0_i32_227_r0
  let v724_r0 : BitVec 32 := Scalar.muli c1_i32_491_r0 v209_r0
  let c512_i32_492_r0 : BitVec 32 := 512#32
  let c0_i32_228_r0 : BitVec 32 := 0#32
  let v210_r0 : BitVec 32 := Scalar.addi arg38_r0 c0_i32_228_r0
  let v725_r0 : BitVec 32 := Scalar.muli c512_i32_492_r0 v210_r0
  let c0_i32_497_r0 : BitVec 32 := 0#32
  ![v724_r0.toNat, v725_r0.toNat, 0]
def k0_off46 (arg19_r0 : BitVec 32) : Fin 1 → Nat :=
  let c3_i32_493_r0 : BitVec 32 := 3#32
  let v726_r0 : BitVec 32 := Scalar.remui arg19_r0 c3_i32_493_r0
  ![v726_r0.toNat]
def k0_cond14 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v363_r0 : BitVec 1 := Scalar.cmpi .ne v209_r0 v219_r0
  let c0_i32_228_r0 : BitVec 32 := 0#32
  let v210_r0 : BitVec 32 := Scalar.addi arg38_r0 c0_i32_228_r0
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v364_r0 : BitVec 1 := Scalar.cmpi .ne v210_r0 v220_r0
  let v365_r0 : BitVec 1 := Scalar.ori v363_r0 v364_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let v366_r0 : BitVec 1 := Scalar.ori v365_r0 v207_r0
  let c0_i32_316_r0 : BitVec 32 := 0#32
  let v367_r0 : BitVec 1 := Scalar.cmpi .sge arg13_r0 c0_i32_316_r0
  let v368_r0 : BitVec 1 := Scalar.andi v366_r0 v367_r0
  let v369_r0 : BitVec 32 := Scalar.extui v368_r0
  let c0_i32_317_r0 : BitVec 32 := 0#32
  let v370_r0 : BitVec 1 := Scalar.cmpi .ne v369_r0 c0_i32_317_r0
  v370_r0

def k0_off47 (arg19_r0 : BitVec 32) : Fin 4 → Nat :=
  let c3_i32_493_r0 : BitVec 32 := 3#32
  let v726_r0 : BitVec 32 := Scalar.remui arg19_r0 c3_i32_493_r0
  let c0_i32_494_r0 : BitVec 32 := 0#32
  let c0_i32_495_r0 : BitVec 32 := 0#32
  let c0_i32_496_r0 : BitVec 32 := 0#32
  ![v726_r0.toNat, 0, 0, 0]
def k0_off48 (arg37_r0 : BitVec 32) (arg38_r0 : BitVec 32) : Fin 3 → Nat :=
  let c1_i32_491_r0 : BitVec 32 := 1#32
  let c0_i32_227_r0 : BitVec 32 := 0#32
  let v209_r0 : BitVec 32 := Scalar.addi arg37_r0 c0_i32_227_r0
  let v724_r0 : BitVec 32 := Scalar.muli c1_i32_491_r0 v209_r0
  let c512_i32_492_r0 : BitVec 32 := 512#32
  let c0_i32_228_r0 : BitVec 32 := 0#32
  let v210_r0 : BitVec 32 := Scalar.addi arg38_r0 c0_i32_228_r0
  let v725_r0 : BitVec 32 := Scalar.muli c512_i32_492_r0 v210_r0
  let c0_i32_497_r0 : BitVec 32 := 0#32
  ![v724_r0.toNat, v725_r0.toNat, 0]
def k0_off49 (arg21_r0 : BitVec 32) : Fin 1 → Nat :=
  let c3_i32_493_r0 : BitVec 32 := 3#32
  let v726_r0 : BitVec 32 := Scalar.remui arg21_r0 c3_i32_493_r0
  ![v726_r0.toNat]
def k0_cond15 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v371_r0 : BitVec 1 := Scalar.cmpi .ne v209_r0 v219_r0
  let c0_i32_228_r0 : BitVec 32 := 0#32
  let v210_r0 : BitVec 32 := Scalar.addi arg38_r0 c0_i32_228_r0
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v372_r0 : BitVec 1 := Scalar.cmpi .ne v210_r0 v220_r0
  let v373_r0 : BitVec 1 := Scalar.ori v371_r0 v372_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let v374_r0 : BitVec 1 := Scalar.ori v373_r0 v207_r0
  let c0_i32_318_r0 : BitVec 32 := 0#32
  let v375_r0 : BitVec 1 := Scalar.cmpi .sge arg13_r0 c0_i32_318_r0
  let v376_r0 : BitVec 1 := Scalar.andi v374_r0 v375_r0
  let v377_r0 : BitVec 32 := Scalar.extui v376_r0
  let c0_i32_319_r0 : BitVec 32 := 0#32
  let v378_r0 : BitVec 1 := Scalar.cmpi .ne v377_r0 c0_i32_319_r0
  v378_r0

def k0_off50 (arg21_r0 : BitVec 32) : Fin 4 → Nat :=
  let c3_i32_493_r0 : BitVec 32 := 3#32
  let v726_r0 : BitVec 32 := Scalar.remui arg21_r0 c3_i32_493_r0
  let c0_i32_494_r0 : BitVec 32 := 0#32
  let c0_i32_495_r0 : BitVec 32 := 0#32
  let c0_i32_496_r0 : BitVec 32 := 0#32
  ![v726_r0.toNat, 0, 0, 0]
def k0_off51 (arg37_r0 : BitVec 32) (arg38_r0 : BitVec 32) : Fin 3 → Nat :=
  let c1_i32_491_r0 : BitVec 32 := 1#32
  let c0_i32_227_r0 : BitVec 32 := 0#32
  let v209_r0 : BitVec 32 := Scalar.addi arg37_r0 c0_i32_227_r0
  let v724_r0 : BitVec 32 := Scalar.muli c1_i32_491_r0 v209_r0
  let c512_i32_492_r0 : BitVec 32 := 512#32
  let c0_i32_228_r0 : BitVec 32 := 0#32
  let v210_r0 : BitVec 32 := Scalar.addi arg38_r0 c0_i32_228_r0
  let v725_r0 : BitVec 32 := Scalar.muli c512_i32_492_r0 v210_r0
  let c0_i32_497_r0 : BitVec 32 := 0#32
  ![v724_r0.toNat, v725_r0.toNat, 0]
def k0_off52 (arg24_r0 : BitVec 32) : Fin 1 → Nat :=
  let c2_i32_492_r0 : BitVec 32 := 2#32
  let v725_r0 : BitVec 32 := Scalar.remui arg24_r0 c2_i32_492_r0
  ![v725_r0.toNat]
def k0_cond16 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v379_r0 : BitVec 1 := Scalar.cmpi .ne v209_r0 v219_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let v380_r0 : BitVec 1 := Scalar.ori v379_r0 v207_r0
  let c0_i32_320_r0 : BitVec 32 := 0#32
  let v381_r0 : BitVec 1 := Scalar.cmpi .sge arg13_r0 c0_i32_320_r0
  let v382_r0 : BitVec 1 := Scalar.andi v380_r0 v381_r0
  let v383_r0 : BitVec 32 := Scalar.extui v382_r0
  let c0_i32_321_r0 : BitVec 32 := 0#32
  let v384_r0 : BitVec 1 := Scalar.cmpi .ne v383_r0 c0_i32_321_r0
  v384_r0

def k0_off53 (arg24_r0 : BitVec 32) : Fin 4 → Nat :=
  let c2_i32_492_r0 : BitVec 32 := 2#32
  let v725_r0 : BitVec 32 := Scalar.remui arg24_r0 c2_i32_492_r0
  let c0_i32_493_r0 : BitVec 32 := 0#32
  let c0_i32_494_r0 : BitVec 32 := 0#32
  let c0_i32_495_r0 : BitVec 32 := 0#32
  ![v725_r0.toNat, 0, 0, 0]
def k0_off54 (arg37_r0 : BitVec 32) : Fin 3 → Nat :=
  let c1_i32_491_r0 : BitVec 32 := 1#32
  let c0_i32_227_r0 : BitVec 32 := 0#32
  let v209_r0 : BitVec 32 := Scalar.addi arg37_r0 c0_i32_227_r0
  let v724_r0 : BitVec 32 := Scalar.muli c1_i32_491_r0 v209_r0
  let c0_i32_496_r0 : BitVec 32 := 0#32
  let c0_i32_497_r0 : BitVec 32 := 0#32
  ![v724_r0.toNat, 0, 0]
def k0_off55 (arg26_r0 : BitVec 32) : Fin 1 → Nat :=
  let c2_i32_492_r0 : BitVec 32 := 2#32
  let v725_r0 : BitVec 32 := Scalar.remui arg26_r0 c2_i32_492_r0
  ![v725_r0.toNat]
def k0_cond17 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v385_r0 : BitVec 1 := Scalar.cmpi .ne v209_r0 v219_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let v386_r0 : BitVec 1 := Scalar.ori v385_r0 v207_r0
  let c0_i32_322_r0 : BitVec 32 := 0#32
  let v387_r0 : BitVec 1 := Scalar.cmpi .sge arg13_r0 c0_i32_322_r0
  let v388_r0 : BitVec 1 := Scalar.andi v386_r0 v387_r0
  let v389_r0 : BitVec 32 := Scalar.extui v388_r0
  let c0_i32_323_r0 : BitVec 32 := 0#32
  let v390_r0 : BitVec 1 := Scalar.cmpi .ne v389_r0 c0_i32_323_r0
  v390_r0

def k0_off56 (arg26_r0 : BitVec 32) : Fin 4 → Nat :=
  let c2_i32_492_r0 : BitVec 32 := 2#32
  let v725_r0 : BitVec 32 := Scalar.remui arg26_r0 c2_i32_492_r0
  let c0_i32_493_r0 : BitVec 32 := 0#32
  let c0_i32_494_r0 : BitVec 32 := 0#32
  let c0_i32_495_r0 : BitVec 32 := 0#32
  ![v725_r0.toNat, 0, 0, 0]
def k0_off57 (arg37_r0 : BitVec 32) : Fin 3 → Nat :=
  let c1_i32_491_r0 : BitVec 32 := 1#32
  let c0_i32_227_r0 : BitVec 32 := 0#32
  let v209_r0 : BitVec 32 := Scalar.addi arg37_r0 c0_i32_227_r0
  let v724_r0 : BitVec 32 := Scalar.muli c1_i32_491_r0 v209_r0
  let c0_i32_496_r0 : BitVec 32 := 0#32
  let c0_i32_497_r0 : BitVec 32 := 0#32
  ![v724_r0.toNat, 0, 0]
def k0_off58 (arg28_r0 : BitVec 32) : Fin 1 → Nat :=
  let c2_i32_492_r0 : BitVec 32 := 2#32
  let v725_r0 : BitVec 32 := Scalar.remui arg28_r0 c2_i32_492_r0
  ![v725_r0.toNat]
def k0_cond18 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v391_r0 : BitVec 1 := Scalar.cmpi .ne v209_r0 v219_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let v392_r0 : BitVec 1 := Scalar.ori v391_r0 v207_r0
  let c0_i32_324_r0 : BitVec 32 := 0#32
  let v393_r0 : BitVec 1 := Scalar.cmpi .sge arg13_r0 c0_i32_324_r0
  let v394_r0 : BitVec 1 := Scalar.andi v392_r0 v393_r0
  let v395_r0 : BitVec 32 := Scalar.extui v394_r0
  let c0_i32_325_r0 : BitVec 32 := 0#32
  let v396_r0 : BitVec 1 := Scalar.cmpi .ne v395_r0 c0_i32_325_r0
  v396_r0

def k0_off59 (arg28_r0 : BitVec 32) : Fin 4 → Nat :=
  let c2_i32_492_r0 : BitVec 32 := 2#32
  let v725_r0 : BitVec 32 := Scalar.remui arg28_r0 c2_i32_492_r0
  let c0_i32_493_r0 : BitVec 32 := 0#32
  let c0_i32_494_r0 : BitVec 32 := 0#32
  let c0_i32_495_r0 : BitVec 32 := 0#32
  ![v725_r0.toNat, 0, 0, 0]
def k0_off60 (arg37_r0 : BitVec 32) : Fin 3 → Nat :=
  let c1_i32_491_r0 : BitVec 32 := 1#32
  let c0_i32_227_r0 : BitVec 32 := 0#32
  let v209_r0 : BitVec 32 := Scalar.addi arg37_r0 c0_i32_227_r0
  let v724_r0 : BitVec 32 := Scalar.muli c1_i32_491_r0 v209_r0
  let c0_i32_496_r0 : BitVec 32 := 0#32
  let c0_i32_497_r0 : BitVec 32 := 0#32
  ![v724_r0.toNat, 0, 0]
def k0_off61 (arg15_r0 : BitVec 32) : Fin 4 → Nat :=
  let c3_i32_332_r0 : BitVec 32 := 3#32
  let v421_r0 : BitVec 32 := Scalar.remui arg15_r0 c3_i32_332_r0
  let c0_i32_342_r0 : BitVec 32 := 0#32
  let c0_i32_343_r0 : BitVec 32 := 0#32
  let c0_i32_344_r0 : BitVec 32 := 0#32
  ![v421_r0.toNat, 0, 0, 0]

def k0_chk2 (arg15_r0 : BitVec 32) : Prop :=
  (∀ a, (k0_off61 arg15_r0) a + S1x1x512x256.size a ≤ S3x1x512x256.size a)
theorem k0_off61_inb : ∀ (arg15_r0 : BitVec 32) (k0_hw2 : k0_chk2 arg15_r0), ∀ a, (k0_off61 arg15_r0) a + S1x1x512x256.size a ≤ S3x1x512x256.size a := fun arg15_r0 k0_hw2 => k0_hw2

def k0_off62 (arg17_r0 : BitVec 32) : Fin 4 → Nat :=
  let c3_i32_333_r0 : BitVec 32 := 3#32
  let v422_r0 : BitVec 32 := Scalar.remui arg17_r0 c3_i32_333_r0
  let c0_i32_349_r0 : BitVec 32 := 0#32
  let c0_i32_350_r0 : BitVec 32 := 0#32
  let c0_i32_351_r0 : BitVec 32 := 0#32
  ![v422_r0.toNat, 0, 0, 0]

def k0_chk3 (arg17_r0 : BitVec 32) : Prop :=
  (∀ a, (k0_off62 arg17_r0) a + S1x1x512x512.size a ≤ S3x1x512x512.size a)
theorem k0_off62_inb : ∀ (arg17_r0 : BitVec 32) (k0_hw3 : k0_chk3 arg17_r0), ∀ a, (k0_off62 arg17_r0) a + S1x1x512x512.size a ≤ S3x1x512x512.size a := fun arg17_r0 k0_hw3 => k0_hw3

def k0_off63 (arg19_r0 : BitVec 32) : Fin 4 → Nat :=
  let c3_i32_334_r0 : BitVec 32 := 3#32
  let v423_r0 : BitVec 32 := Scalar.remui arg19_r0 c3_i32_334_r0
  let c0_i32_357_r0 : BitVec 32 := 0#32
  let c0_i32_358_r0 : BitVec 32 := 0#32
  let c0_i32_359_r0 : BitVec 32 := 0#32
  ![v423_r0.toNat, 0, 0, 0]

def k0_chk4 (arg19_r0 : BitVec 32) : Prop :=
  (∀ a, (k0_off63 arg19_r0) a + S1x1x512x256.size a ≤ S3x1x512x256.size a)
theorem k0_off63_inb : ∀ (arg19_r0 : BitVec 32) (k0_hw4 : k0_chk4 arg19_r0), ∀ a, (k0_off63 arg19_r0) a + S1x1x512x256.size a ≤ S3x1x512x256.size a := fun arg19_r0 k0_hw4 => k0_hw4

def k0_off64 (arg21_r0 : BitVec 32) : Fin 4 → Nat :=
  let c3_i32_335_r0 : BitVec 32 := 3#32
  let v424_r0 : BitVec 32 := Scalar.remui arg21_r0 c3_i32_335_r0
  let c0_i32_365_r0 : BitVec 32 := 0#32
  let c0_i32_366_r0 : BitVec 32 := 0#32
  let c0_i32_367_r0 : BitVec 32 := 0#32
  ![v424_r0.toNat, 0, 0, 0]

def k0_chk5 (arg21_r0 : BitVec 32) : Prop :=
  (∀ a, (k0_off64 arg21_r0) a + S1x1x512x1024.size a ≤ S3x1x512x1024.size a)
theorem k0_off64_inb : ∀ (arg21_r0 : BitVec 32) (k0_hw5 : k0_chk5 arg21_r0), ∀ a, (k0_off64 arg21_r0) a + S1x1x512x1024.size a ≤ S3x1x512x1024.size a := fun arg21_r0 k0_hw5 => k0_hw5

def k0_off65 (arg24_r0 : BitVec 32) : Fin 4 → Nat :=
  let c2_i32_336_r0 : BitVec 32 := 2#32
  let v425_r0 : BitVec 32 := Scalar.remui arg24_r0 c2_i32_336_r0
  let c0_i32_371_r0 : BitVec 32 := 0#32
  let c0_i32_372_r0 : BitVec 32 := 0#32
  let c0_i32_373_r0 : BitVec 32 := 0#32
  ![v425_r0.toNat, 0, 0, 0]

def k0_chk6 (arg24_r0 : BitVec 32) : Prop :=
  (∀ a, (k0_off65 arg24_r0) a + S1x1x1x1024.size a ≤ S2x1x1x1024.size a)
theorem k0_off65_inb : ∀ (arg24_r0 : BitVec 32) (k0_hw6 : k0_chk6 arg24_r0), ∀ a, (k0_off65 arg24_r0) a + S1x1x1x1024.size a ≤ S2x1x1x1024.size a := fun arg24_r0 k0_hw6 => k0_hw6

def k0_off66 (arg31_r0 : BitVec 32) : Fin 4 → Nat :=
  let c2_i32_339_r0 : BitVec 32 := 2#32
  let v428_r0 : BitVec 32 := Scalar.remui arg31_r0 c2_i32_339_r0
  let c0_i32_377_r0 : BitVec 32 := 0#32
  let c0_i32_378_r0 : BitVec 32 := 0#32
  let c0_i32_379_r0 : BitVec 32 := 0#32
  ![v428_r0.toNat, 0, 0, 0]

def k0_chk7 (arg31_r0 : BitVec 32) : Prop :=
  (∀ a, (k0_off66 arg31_r0) a + S1x1x512x1024.size a ≤ S2x1x512x1024.size a)
theorem k0_off66_inb : ∀ (arg31_r0 : BitVec 32) (k0_hw7 : k0_chk7 arg31_r0), ∀ a, (k0_off66 arg31_r0) a + S1x1x512x1024.size a ≤ S2x1x512x1024.size a := fun arg31_r0 k0_hw7 => k0_hw7

def k0_off67 (arg28_r0 : BitVec 32) : Fin 4 → Nat :=
  let c2_i32_338_r0 : BitVec 32 := 2#32
  let v427_r0 : BitVec 32 := Scalar.remui arg28_r0 c2_i32_338_r0
  let c0_i32_388_r0 : BitVec 32 := 0#32
  let c0_i32_389_r0 : BitVec 32 := 0#32
  let c0_i32_390_r0 : BitVec 32 := 0#32
  ![v427_r0.toNat, 0, 0, 0]

def k0_chk8 (arg28_r0 : BitVec 32) : Prop :=
  (∀ a, (k0_off67 arg28_r0) a + S1x1x1x1024.size a ≤ S2x1x1x1024.size a)
theorem k0_off67_inb : ∀ (arg28_r0 : BitVec 32) (k0_hw8 : k0_chk8 arg28_r0), ∀ a, (k0_off67 arg28_r0) a + S1x1x1x1024.size a ≤ S2x1x1x1024.size a := fun arg28_r0 k0_hw8 => k0_hw8

def k0_off68 (arg26_r0 : BitVec 32) : Fin 4 → Nat :=
  let c2_i32_337_r0 : BitVec 32 := 2#32
  let v426_r0 : BitVec 32 := Scalar.remui arg26_r0 c2_i32_337_r0
  let c0_i32_395_r0 : BitVec 32 := 0#32
  let c0_i32_396_r0 : BitVec 32 := 0#32
  let c0_i32_397_r0 : BitVec 32 := 0#32
  ![v426_r0.toNat, 0, 0, 0]

def k0_chk9 (arg26_r0 : BitVec 32) : Prop :=
  (∀ a, (k0_off68 arg26_r0) a + S1x1x1x1024.size a ≤ S2x1x1x1024.size a)
theorem k0_off68_inb : ∀ (arg26_r0 : BitVec 32) (k0_hw9 : k0_chk9 arg26_r0), ∀ a, (k0_off68 arg26_r0) a + S1x1x1x1024.size a ≤ S2x1x1x1024.size a := fun arg26_r0 k0_hw9 => k0_hw9

def k0_off69 (arg33_r0 : BitVec 32) : Fin 4 → Nat :=
  let c2_i32_340_r0 : BitVec 32 := 2#32
  let v429_r0 : BitVec 32 := Scalar.remui arg33_r0 c2_i32_340_r0
  let c0_i32_401_r0 : BitVec 32 := 0#32
  let c0_i32_402_r0 : BitVec 32 := 0#32
  let c0_i32_403_r0 : BitVec 32 := 0#32
  ![v429_r0.toNat, 0, 0, 0]

def k0_chk10 (arg33_r0 : BitVec 32) : Prop :=
  (∀ a, (k0_off69 arg33_r0) a + S1x1x512x1024.size a ≤ S2x1x512x1024.size a) ∧
  (∀ (hinb : ∀ a, (k0_off69 arg33_r0) a + S1x1x512x1024.size a ≤ S2x1x512x1024.size a), (Rect.unit (s := S2x1x512x1024) (k0_off69 arg33_r0) S1x1x512x1024.size hinb).PackedRows (EltTy.packing .bf16))
theorem k0_off69_inb : ∀ (arg33_r0 : BitVec 32) (k0_hw10 : k0_chk10 arg33_r0), ∀ a, (k0_off69 arg33_r0) a + S1x1x512x1024.size a ≤ S2x1x512x1024.size a := fun arg33_r0 k0_hw10 => k0_hw10.1
theorem k0_off69_packedbf16 : ∀ (arg33_r0 : BitVec 32) (k0_hw10 : k0_chk10 arg33_r0), (Rect.unit (s := S2x1x512x1024) (k0_off69 arg33_r0) S1x1x512x1024.size (k0_off69_inb arg33_r0 k0_hw10)).PackedRows (EltTy.packing .bf16) := fun arg33_r0 k0_hw10 => k0_hw10.2 (k0_off69_inb arg33_r0 k0_hw10)

def k0_off70 (arg35_r0 : BitVec 32) : Fin 4 → Nat :=
  let c2_i32_341_r0 : BitVec 32 := 2#32
  let v430_r0 : BitVec 32 := Scalar.remui arg35_r0 c2_i32_341_r0
  let c0_i32_410_r0 : BitVec 32 := 0#32
  let c0_i32_411_r0 : BitVec 32 := 0#32
  let c0_i32_412_r0 : BitVec 32 := 0#32
  ![v430_r0.toNat, 0, 0, 0]

def k0_chk11 (arg35_r0 : BitVec 32) : Prop :=
  (∀ a, (k0_off70 arg35_r0) a + S1x1x512x128.size a ≤ S2x1x512x128.size a)
theorem k0_off70_inb : ∀ (arg35_r0 : BitVec 32) (k0_hw11 : k0_chk11 arg35_r0), ∀ a, (k0_off70 arg35_r0) a + S1x1x512x128.size a ≤ S2x1x512x128.size a := fun arg35_r0 k0_hw11 => k0_hw11

def k0_off71 (arg31_r0 : BitVec 32) : Fin 1 → Nat :=
  let c2_i32_491_r0 : BitVec 32 := 2#32
  let v724_r0 : BitVec 32 := Scalar.remui arg31_r0 c2_i32_491_r0
  ![v724_r0.toNat]
def k0_cond29 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v564_r0 : BitVec 1 := Scalar.cmpi .ne v209_r0 v229_r0
  let c0_i32_228_r0 : BitVec 32 := 0#32
  let v210_r0 : BitVec 32 := Scalar.addi arg38_r0 c0_i32_228_r0
  let c0_i32_241_r0 : BitVec 32 := 0#32
  let v224_r0 : BitVec 32 := Scalar.select v223_r0 c0_i32_241_r0 v222_r0
  let c0_i32_246_r0 : BitVec 32 := 0#32
  let v230_r0 : BitVec 32 := Scalar.addi v224_r0 c0_i32_246_r0
  let v565_r0 : BitVec 1 := Scalar.cmpi .ne v210_r0 v230_r0
  let v566_r0 : BitVec 1 := Scalar.ori v564_r0 v565_r0
  let c0_i32_158_r0 : BitVec 32 := 0#32
  let c1_i32_159_r0 : BitVec 32 := 1#32
  let arg13_r0 : BitVec 32 := Scf.iv c0_i32_158_r0 c1_i32_159_r0 k0_t1
  let c63_i32_r0 : BitVec 32 := 63#32
  let v208_r0 : BitVec 1 := Scalar.cmpi .eq arg13_r0 c63_i32_r0
  let v567_r0 : BitVec 1 := Scalar.ori v566_r0 v208_r0
  let v568_r0 : BitVec 32 := Scalar.extui v567_r0
  let c0_i32_429_r0 : BitVec 32 := 0#32
  let v569_r0 : BitVec 1 := Scalar.cmpi .ne v568_r0 c0_i32_429_r0
  v569_r0

def k0_off72 (arg37_r0 : BitVec 32) (arg38_r0 : BitVec 32) : Fin 3 → Nat :=
  let c1_i32_492_r0 : BitVec 32 := 1#32
  let c0_i32_227_r0 : BitVec 32 := 0#32
  let v209_r0 : BitVec 32 := Scalar.addi arg37_r0 c0_i32_227_r0
  let v725_r0 : BitVec 32 := Scalar.muli c1_i32_492_r0 v209_r0
  let c512_i32_493_r0 : BitVec 32 := 512#32
  let c0_i32_228_r0 : BitVec 32 := 0#32
  let v210_r0 : BitVec 32 := Scalar.addi arg38_r0 c0_i32_228_r0
  let v726_r0 : BitVec 32 := Scalar.muli c512_i32_493_r0 v210_r0
  let c0_i32_494_r0 : BitVec 32 := 0#32
  ![v725_r0.toNat, v726_r0.toNat, 0]
def k0_off73 (arg31_r0 : BitVec 32) : Fin 4 → Nat :=
  let c2_i32_491_r0 : BitVec 32 := 2#32
  let v724_r0 : BitVec 32 := Scalar.remui arg31_r0 c2_i32_491_r0
  let c0_i32_495_r0 : BitVec 32 := 0#32
  let c0_i32_496_r0 : BitVec 32 := 0#32
  let c0_i32_497_r0 : BitVec 32 := 0#32
  ![v724_r0.toNat, 0, 0, 0]
def k0_off74 (arg33_r0 : BitVec 32) : Fin 1 → Nat :=
  let c2_i32_491_r0 : BitVec 32 := 2#32
  let v724_r0 : BitVec 32 := Scalar.remui arg33_r0 c2_i32_491_r0
  ![v724_r0.toNat]
def k0_cond30 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v573_r0 : BitVec 1 := Scalar.cmpi .ne v209_r0 v229_r0
  let c0_i32_228_r0 : BitVec 32 := 0#32
  let v210_r0 : BitVec 32 := Scalar.addi arg38_r0 c0_i32_228_r0
  let c0_i32_241_r0 : BitVec 32 := 0#32
  let v224_r0 : BitVec 32 := Scalar.select v223_r0 c0_i32_241_r0 v222_r0
  let c0_i32_246_r0 : BitVec 32 := 0#32
  let v230_r0 : BitVec 32 := Scalar.addi v224_r0 c0_i32_246_r0
  let v574_r0 : BitVec 1 := Scalar.cmpi .ne v210_r0 v230_r0
  let v575_r0 : BitVec 1 := Scalar.ori v573_r0 v574_r0
  let c0_i32_158_r0 : BitVec 32 := 0#32
  let c1_i32_159_r0 : BitVec 32 := 1#32
  let arg13_r0 : BitVec 32 := Scf.iv c0_i32_158_r0 c1_i32_159_r0 k0_t1
  let c63_i32_r0 : BitVec 32 := 63#32
  let v208_r0 : BitVec 1 := Scalar.cmpi .eq arg13_r0 c63_i32_r0
  let v576_r0 : BitVec 1 := Scalar.ori v575_r0 v208_r0
  let v577_r0 : BitVec 32 := Scalar.extui v576_r0
  let c0_i32_432_r0 : BitVec 32 := 0#32
  let v578_r0 : BitVec 1 := Scalar.cmpi .ne v577_r0 c0_i32_432_r0
  v578_r0

def k0_off75 (arg37_r0 : BitVec 32) (arg38_r0 : BitVec 32) : Fin 3 → Nat :=
  let c1_i32_492_r0 : BitVec 32 := 1#32
  let c0_i32_227_r0 : BitVec 32 := 0#32
  let v209_r0 : BitVec 32 := Scalar.addi arg37_r0 c0_i32_227_r0
  let v725_r0 : BitVec 32 := Scalar.muli c1_i32_492_r0 v209_r0
  let c512_i32_493_r0 : BitVec 32 := 512#32
  let c0_i32_228_r0 : BitVec 32 := 0#32
  let v210_r0 : BitVec 32 := Scalar.addi arg38_r0 c0_i32_228_r0
  let v726_r0 : BitVec 32 := Scalar.muli c512_i32_493_r0 v210_r0
  let c0_i32_494_r0 : BitVec 32 := 0#32
  ![v725_r0.toNat, v726_r0.toNat, 0]
def k0_off76 (arg33_r0 : BitVec 32) : Fin 4 → Nat :=
  let c2_i32_491_r0 : BitVec 32 := 2#32
  let v724_r0 : BitVec 32 := Scalar.remui arg33_r0 c2_i32_491_r0
  let c0_i32_495_r0 : BitVec 32 := 0#32
  let c0_i32_496_r0 : BitVec 32 := 0#32
  let c0_i32_497_r0 : BitVec 32 := 0#32
  ![v724_r0.toNat, 0, 0, 0]
def k0_off77 (arg35_r0 : BitVec 32) : Fin 1 → Nat :=
  let c2_i32_491_r0 : BitVec 32 := 2#32
  let v724_r0 : BitVec 32 := Scalar.remui arg35_r0 c2_i32_491_r0
  ![v724_r0.toNat]
def k0_cond31 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_239_r0 : BitVec 1 := 1#1
  let c1_i32_238_r0 : BitVec 32 := 1#32
  let v221_r0 : BitVec 32 := Scalar.addi arg38_r0 c1_i32_238_r0
  let v222_r0 : BitVec 32 := Scalar.select true_239_r0 v221_r0 arg38_r0
  let c16_i32_240_r0 : BitVec 32 := 16#32
  let v223_r0 : BitVec 1 := Scalar.cmpi .eq v222_r0 c16_i32_240_r0
  let c1_i32_242_r0 : BitVec 32 := 1#32
  let v225_r0 : BitVec 32 := Scalar.addi arg37_r0 c1_i32_242_r0
  let v226_r0 : BitVec 32 := Scalar.select v223_r0 v225_r0 arg37_r0
  let c4_i32_243_r0 : BitVec 32 := 4#32
  let v227_r0 : BitVec 1 := Scalar.cmpi .eq v226_r0 c4_i32_243_r0
  let c0_i32_244_r0 : BitVec 32 := 0#32
  let v228_r0 : BitVec 32 := Scalar.select v227_r0 c0_i32_244_r0 v226_r0
  let c0_i32_245_r0 : BitVec 32 := 0#32
  let v229_r0 : BitVec 32 := Scalar.addi v228_r0 c0_i32_245_r0
  let v582_r0 : BitVec 1 := Scalar.cmpi .ne v209_r0 v229_r0
  let c0_i32_228_r0 : BitVec 32 := 0#32
  let v210_r0 : BitVec 32 := Scalar.addi arg38_r0 c0_i32_228_r0
  let c0_i32_241_r0 : BitVec 32 := 0#32
  let v224_r0 : BitVec 32 := Scalar.select v223_r0 c0_i32_241_r0 v222_r0
  let c0_i32_246_r0 : BitVec 32 := 0#32
  let v230_r0 : BitVec 32 := Scalar.addi v224_r0 c0_i32_246_r0
  let v583_r0 : BitVec 1 := Scalar.cmpi .ne v210_r0 v230_r0
  let v584_r0 : BitVec 1 := Scalar.ori v582_r0 v583_r0
  let c0_i32_158_r0 : BitVec 32 := 0#32
  let c1_i32_159_r0 : BitVec 32 := 1#32
  let arg13_r0 : BitVec 32 := Scf.iv c0_i32_158_r0 c1_i32_159_r0 k0_t1
  let c63_i32_r0 : BitVec 32 := 63#32
  let v208_r0 : BitVec 1 := Scalar.cmpi .eq arg13_r0 c63_i32_r0
  let v585_r0 : BitVec 1 := Scalar.ori v584_r0 v208_r0
  let v586_r0 : BitVec 32 := Scalar.extui v585_r0
  let c0_i32_435_r0 : BitVec 32 := 0#32
  let v587_r0 : BitVec 1 := Scalar.cmpi .ne v586_r0 c0_i32_435_r0
  v587_r0

def k0_off78 (arg37_r0 : BitVec 32) (arg38_r0 : BitVec 32) : Fin 3 → Nat :=
  let c1_i32_492_r0 : BitVec 32 := 1#32
  let c0_i32_227_r0 : BitVec 32 := 0#32
  let v209_r0 : BitVec 32 := Scalar.addi arg37_r0 c0_i32_227_r0
  let v725_r0 : BitVec 32 := Scalar.muli c1_i32_492_r0 v209_r0
  let c512_i32_493_r0 : BitVec 32 := 512#32
  let c0_i32_228_r0 : BitVec 32 := 0#32
  let v210_r0 : BitVec 32 := Scalar.addi arg38_r0 c0_i32_228_r0
  let v726_r0 : BitVec 32 := Scalar.muli c512_i32_493_r0 v210_r0
  let c0_i32_494_r0 : BitVec 32 := 0#32
  ![v725_r0.toNat, v726_r0.toNat, 0]
def k0_off79 (arg35_r0 : BitVec 32) : Fin 4 → Nat :=
  let c2_i32_491_r0 : BitVec 32 := 2#32
  let v724_r0 : BitVec 32 := Scalar.remui arg35_r0 c2_i32_491_r0
  let c0_i32_495_r0 : BitVec 32 := 0#32
  let c0_i32_496_r0 : BitVec 32 := 0#32
  let c0_i32_497_r0 : BitVec 32 := 0#32
  ![v724_r0.toNat, 0, 0, 0]
def k0_off80 (arg32_r0 : BitVec 32) : Fin 1 → Nat :=
  let c2_i32_491_r0 : BitVec 32 := 2#32
  let v724_r0 : BitVec 32 := Scalar.remui arg32_r0 c2_i32_491_r0
  ![v724_r0.toNat]
def k0_cond39 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v641_r0 : BitVec 1 := Scalar.cmpi .ne v209_r0 v219_r0
  let c0_i32_228_r0 : BitVec 32 := 0#32
  let v210_r0 : BitVec 32 := Scalar.addi arg38_r0 c0_i32_228_r0
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v642_r0 : BitVec 1 := Scalar.cmpi .ne v210_r0 v220_r0
  let v643_r0 : BitVec 1 := Scalar.ori v641_r0 v642_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let true_459_r0 : BitVec 1 := 1#1
  let v644_r0 : BitVec 1 := Scalar.xori v207_r0 true_459_r0
  let v645_r0 : BitVec 1 := Scalar.andi v643_r0 v644_r0
  let v646_r0 : BitVec 32 := Scalar.extui v645_r0
  let c0_i32_460_r0 : BitVec 32 := 0#32
  let v647_r0 : BitVec 1 := Scalar.cmpi .ne v646_r0 c0_i32_460_r0
  v647_r0

def k0_off81 (arg37_r0 : BitVec 32) (arg38_r0 : BitVec 32) : Fin 3 → Nat :=
  let c1_i32_492_r0 : BitVec 32 := 1#32
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v725_r0 : BitVec 32 := Scalar.muli c1_i32_492_r0 v219_r0
  let c512_i32_493_r0 : BitVec 32 := 512#32
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v726_r0 : BitVec 32 := Scalar.muli c512_i32_493_r0 v220_r0
  let c0_i32_494_r0 : BitVec 32 := 0#32
  ![v725_r0.toNat, v726_r0.toNat, 0]
def k0_off82 (arg32_r0 : BitVec 32) : Fin 4 → Nat :=
  let c2_i32_491_r0 : BitVec 32 := 2#32
  let v724_r0 : BitVec 32 := Scalar.remui arg32_r0 c2_i32_491_r0
  let c0_i32_495_r0 : BitVec 32 := 0#32
  let c0_i32_496_r0 : BitVec 32 := 0#32
  let c0_i32_497_r0 : BitVec 32 := 0#32
  ![v724_r0.toNat, 0, 0, 0]
def k0_off83 (arg34_r0 : BitVec 32) : Fin 1 → Nat :=
  let c2_i32_491_r0 : BitVec 32 := 2#32
  let v724_r0 : BitVec 32 := Scalar.remui arg34_r0 c2_i32_491_r0
  ![v724_r0.toNat]
def k0_cond40 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v651_r0 : BitVec 1 := Scalar.cmpi .ne v209_r0 v219_r0
  let c0_i32_228_r0 : BitVec 32 := 0#32
  let v210_r0 : BitVec 32 := Scalar.addi arg38_r0 c0_i32_228_r0
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v652_r0 : BitVec 1 := Scalar.cmpi .ne v210_r0 v220_r0
  let v653_r0 : BitVec 1 := Scalar.ori v651_r0 v652_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let true_463_r0 : BitVec 1 := 1#1
  let v654_r0 : BitVec 1 := Scalar.xori v207_r0 true_463_r0
  let v655_r0 : BitVec 1 := Scalar.andi v653_r0 v654_r0
  let v656_r0 : BitVec 32 := Scalar.extui v655_r0
  let c0_i32_464_r0 : BitVec 32 := 0#32
  let v657_r0 : BitVec 1 := Scalar.cmpi .ne v656_r0 c0_i32_464_r0
  v657_r0

def k0_off84 (arg37_r0 : BitVec 32) (arg38_r0 : BitVec 32) : Fin 3 → Nat :=
  let c1_i32_492_r0 : BitVec 32 := 1#32
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v725_r0 : BitVec 32 := Scalar.muli c1_i32_492_r0 v219_r0
  let c512_i32_493_r0 : BitVec 32 := 512#32
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v726_r0 : BitVec 32 := Scalar.muli c512_i32_493_r0 v220_r0
  let c0_i32_494_r0 : BitVec 32 := 0#32
  ![v725_r0.toNat, v726_r0.toNat, 0]
def k0_off85 (arg34_r0 : BitVec 32) : Fin 4 → Nat :=
  let c2_i32_491_r0 : BitVec 32 := 2#32
  let v724_r0 : BitVec 32 := Scalar.remui arg34_r0 c2_i32_491_r0
  let c0_i32_495_r0 : BitVec 32 := 0#32
  let c0_i32_496_r0 : BitVec 32 := 0#32
  let c0_i32_497_r0 : BitVec 32 := 0#32
  ![v724_r0.toNat, 0, 0, 0]
def k0_off86 (arg36_r0 : BitVec 32) : Fin 1 → Nat :=
  let c2_i32_491_r0 : BitVec 32 := 2#32
  let v724_r0 : BitVec 32 := Scalar.remui arg36_r0 c2_i32_491_r0
  ![v724_r0.toNat]
def k0_cond41 (k0_t1 : Fin k0_t1_loop.trips) (arg37_r0 : BitVec 32) (arg38_r0 : BitVec 32) : BitVec 1 :=
  let c0_i32_227_r0 : BitVec 32 := 0#32
  let v209_r0 : BitVec 32 := Scalar.addi arg37_r0 c0_i32_227_r0
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v661_r0 : BitVec 1 := Scalar.cmpi .ne v209_r0 v219_r0
  let c0_i32_228_r0 : BitVec 32 := 0#32
  let v210_r0 : BitVec 32 := Scalar.addi arg38_r0 c0_i32_228_r0
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v662_r0 : BitVec 1 := Scalar.cmpi .ne v210_r0 v220_r0
  let v663_r0 : BitVec 1 := Scalar.ori v661_r0 v662_r0
  let c0_i32_158_r0 : BitVec 32 := 0#32
  let c1_i32_159_r0 : BitVec 32 := 1#32
  let arg13_r0 : BitVec 32 := Scf.iv c0_i32_158_r0 c1_i32_159_r0 k0_t1
  let c0_i32_226_r0 : BitVec 32 := 0#32
  let v207_r0 : BitVec 1 := Scalar.cmpi .eq arg13_r0 c0_i32_226_r0
  let true_467_r0 : BitVec 1 := 1#1
  let v664_r0 : BitVec 1 := Scalar.xori v207_r0 true_467_r0
  let v665_r0 : BitVec 1 := Scalar.andi v663_r0 v664_r0
  let v666_r0 : BitVec 32 := Scalar.extui v665_r0
  let c0_i32_468_r0 : BitVec 32 := 0#32
  let v667_r0 : BitVec 1 := Scalar.cmpi .ne v666_r0 c0_i32_468_r0
  v667_r0

def k0_off87 (arg37_r0 : BitVec 32) (arg38_r0 : BitVec 32) : Fin 3 → Nat :=
  let c1_i32_492_r0 : BitVec 32 := 1#32
  let true_230_r0 : BitVec 1 := 1#1
  let c1_i32_229_r0 : BitVec 32 := 1#32
  let v211_r0 : BitVec 32 := Scalar.subi arg38_r0 c1_i32_229_r0
  let v212_r0 : BitVec 32 := Scalar.select true_230_r0 v211_r0 arg38_r0
  let c_m1_i32_231_r0 : BitVec 32 := 4294967295#32
  let v213_r0 : BitVec 1 := Scalar.cmpi .eq v212_r0 c_m1_i32_231_r0
  let c1_i32_233_r0 : BitVec 32 := 1#32
  let v215_r0 : BitVec 32 := Scalar.subi arg37_r0 c1_i32_233_r0
  let v216_r0 : BitVec 32 := Scalar.select v213_r0 v215_r0 arg37_r0
  let c_m1_i32_234_r0 : BitVec 32 := 4294967295#32
  let v217_r0 : BitVec 1 := Scalar.cmpi .eq v216_r0 c_m1_i32_234_r0
  let c3_i32_235_r0 : BitVec 32 := 3#32
  let v218_r0 : BitVec 32 := Scalar.select v217_r0 c3_i32_235_r0 v216_r0
  let c0_i32_236_r0 : BitVec 32 := 0#32
  let v219_r0 : BitVec 32 := Scalar.addi v218_r0 c0_i32_236_r0
  let v725_r0 : BitVec 32 := Scalar.muli c1_i32_492_r0 v219_r0
  let c512_i32_493_r0 : BitVec 32 := 512#32
  let c15_i32_232_r0 : BitVec 32 := 15#32
  let v214_r0 : BitVec 32 := Scalar.select v213_r0 c15_i32_232_r0 v212_r0
  let c0_i32_237_r0 : BitVec 32 := 0#32
  let v220_r0 : BitVec 32 := Scalar.addi v214_r0 c0_i32_237_r0
  let v726_r0 : BitVec 32 := Scalar.muli c512_i32_493_r0 v220_r0
  let c0_i32_494_r0 : BitVec 32 := 0#32
  ![v725_r0.toNat, v726_r0.toNat, 0]
def k0_off88 (arg36_r0 : BitVec 32) : Fin 4 → Nat :=
  let c2_i32_491_r0 : BitVec 32 := 2#32
  let v724_r0 : BitVec 32 := Scalar.remui arg36_r0 c2_i32_491_r0
  let c0_i32_495_r0 : BitVec 32 := 0#32
  let c0_i32_496_r0 : BitVec 32 := 0#32
  let c0_i32_497_r0 : BitVec 32 := 0#32
  ![v724_r0.toNat, 0, 0, 0]

def k0_chk1_0 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) : Prop :=
  (∀ (k0_h5 : k0_cond5 k0_t1 arg37_r0 arg38_r0 = 1#1), ∀ a, (k0_off19 arg14_r0) a + S1.size a ≤ S3.size a) ∧
  (∀ (k0_h5 : k0_cond5 k0_t1 arg37_r0 arg38_r0 = 1#1), ∀ a, (k0_off20 arg14_r0) a + S1x1x512x256.size a ≤ S3x1x512x256.size a) ∧
  (∀ (k0_h5 : k0_cond5 k0_t1 arg37_r0 arg38_r0 = 1#1), ∀ a, (k0_off21 arg37_r0 arg38_r0) a + S1x512x256.size a ≤ S4x8192x256.size a) ∧
  (∀ (k0_h5 : k0_cond5 k0_t1 arg37_r0 arg38_r0 = 1#1), ∀ (hinb : ∀ a, (k0_off21 arg37_r0 arg38_r0) a + S1x512x256.size a ≤ S4x8192x256.size a), (Rect.unit (s := S4x8192x256) (k0_off21 arg37_r0 arg38_r0) S1x512x256.size hinb).WholeWords (EltTy.packing .bf16)) ∧
  (∀ (k0_h5 : k0_cond5 k0_t1 arg37_r0 arg38_r0 = 1#1), ∀ (hinb : ∀ a, (k0_off20 arg14_r0) a + S1x1x512x256.size a ≤ S3x1x512x256.size a), (Rect.unit (s := S3x1x512x256) (k0_off20 arg14_r0) S1x1x512x256.size hinb).WholeWords (EltTy.packing .bf16)) ∧
  (∀ (k0_h6 : k0_cond6 k0_t1 arg37_r0 arg38_r0 = 1#1), ∀ a, (k0_off22 arg16_r0) a + S1.size a ≤ S3.size a) ∧
  (∀ (k0_h6 : k0_cond6 k0_t1 arg37_r0 arg38_r0 = 1#1), ∀ a, (k0_off23 arg16_r0) a + S1x1x512x512.size a ≤ S3x1x512x512.size a) ∧
  (∀ (k0_h6 : k0_cond6 k0_t1 arg37_r0 arg38_r0 = 1#1), ∀ a, (k0_off24 arg37_r0 arg38_r0) a + S1x512x512.size a ≤ S4x8192x512.size a) ∧
  (∀ (k0_h6 : k0_cond6 k0_t1 arg37_r0 arg38_r0 = 1#1), ∀ (hinb : ∀ a, (k0_off24 arg37_r0 arg38_r0) a + S1x512x512.size a ≤ S4x8192x512.size a), (Rect.unit (s := S4x8192x512) (k0_off24 arg37_r0 arg38_r0) S1x512x512.size hinb).WholeWords (EltTy.packing .bf16)) ∧
  (∀ (k0_h6 : k0_cond6 k0_t1 arg37_r0 arg38_r0 = 1#1), ∀ (hinb : ∀ a, (k0_off23 arg16_r0) a + S1x1x512x512.size a ≤ S3x1x512x512.size a), (Rect.unit (s := S3x1x512x512) (k0_off23 arg16_r0) S1x1x512x512.size hinb).WholeWords (EltTy.packing .bf16)) ∧
  (∀ (k0_h7 : k0_cond7 k0_t1 arg37_r0 arg38_r0 = 1#1), ∀ a, (k0_off25 arg18_r0) a + S1.size a ≤ S3.size a) ∧
  (∀ (k0_h7 : k0_cond7 k0_t1 arg37_r0 arg38_r0 = 1#1), ∀ a, (k0_off26 arg18_r0) a + S1x1x512x256.size a ≤ S3x1x512x256.size a) ∧
  (∀ (k0_h7 : k0_cond7 k0_t1 arg37_r0 arg38_r0 = 1#1), ∀ a, (k0_off27 arg37_r0 arg38_r0) a + S1x512x256.size a ≤ S4x8192x256.size a) ∧
  (∀ (k0_h7 : k0_cond7 k0_t1 arg37_r0 arg38_r0 = 1#1), ∀ (hinb : ∀ a, (k0_off27 arg37_r0 arg38_r0) a + S1x512x256.size a ≤ S4x8192x256.size a), (Rect.unit (s := S4x8192x256) (k0_off27 arg37_r0 arg38_r0) S1x512x256.size hinb).WholeWords (EltTy.packing .bf16)) ∧
  (∀ (k0_h7 : k0_cond7 k0_t1 arg37_r0 arg38_r0 = 1#1), ∀ (hinb : ∀ a, (k0_off26 arg18_r0) a + S1x1x512x256.size a ≤ S3x1x512x256.size a), (Rect.unit (s := S3x1x512x256) (k0_off26 arg18_r0) S1x1x512x256.size hinb).WholeWords (EltTy.packing .bf16)) ∧
  (∀ (k0_h8 : k0_cond8 k0_t1 arg37_r0 arg38_r0 = 1#1), ∀ a, (k0_off28 arg20_r0) a + S1.size a ≤ S3.size a) ∧
  (∀ (k0_h8 : k0_cond8 k0_t1 arg37_r0 arg38_r0 = 1#1), ∀ a, (k0_off29 arg20_r0) a + S1x1x512x1024.size a ≤ S3x1x512x1024.size a) ∧
  (∀ (k0_h8 : k0_cond8 k0_t1 arg37_r0 arg38_r0 = 1#1), ∀ a, (k0_off30 arg37_r0 arg38_r0) a + S1x512x1024.size a ≤ S4x8192x1024.size a) ∧
  (∀ (k0_h9 : k0_cond9 k0_t1 arg37_r0 arg38_r0 = 1#1), ∀ a, (k0_off31 arg23_r0) a + S1.size a ≤ S2.size a) ∧
  (∀ (k0_h9 : k0_cond9 k0_t1 arg37_r0 arg38_r0 = 1#1), ∀ a, (k0_off32 arg23_r0) a + S1x1x1x1024.size a ≤ S2x1x1x1024.size a) ∧
  (∀ (k0_h9 : k0_cond9 k0_t1 arg37_r0 arg38_r0 = 1#1), ∀ a, (k0_off33 arg37_r0 arg38_r0) a + S1x1x1024.size a ≤ S4x1x1024.size a) ∧
  (∀ (k0_h10 : k0_cond10 k0_t1 arg37_r0 arg38_r0 = 1#1), ∀ a, (k0_off34 arg25_r0) a + S1.size a ≤ S2.size a) ∧
  (∀ (k0_h10 : k0_cond10 k0_t1 arg37_r0 arg38_r0 = 1#1), ∀ a, (k0_off35 arg25_r0) a + S1x1x1x1024.size a ≤ S2x1x1x1024.size a) ∧
  (∀ (k0_h10 : k0_cond10 k0_t1 arg37_r0 arg38_r0 = 1#1), ∀ a, (k0_off36 arg37_r0 arg38_r0) a + S1x1x1024.size a ≤ S4x1x1024.size a) ∧
  (∀ (k0_h11 : k0_cond11 k0_t1 arg37_r0 arg38_r0 = 1#1), ∀ a, (k0_off37 arg27_r0) a + S1.size a ≤ S2.size a) ∧
  (∀ (k0_h11 : k0_cond11 k0_t1 arg37_r0 arg38_r0 = 1#1), ∀ a, (k0_off38 arg27_r0) a + S1x1x1x1024.size a ≤ S2x1x1x1024.size a) ∧
  (∀ (k0_h11 : k0_cond11 k0_t1 arg37_r0 arg38_r0 = 1#1), ∀ a, (k0_off39 arg37_r0 arg38_r0) a + S1x1x1024.size a ≤ S4x1x1024.size a) ∧
  (∀ (k0_h12 : k0_cond12 k0_t1 arg37_r0 arg38_r0 = 1#1), ∀ a, (k0_off40 arg15_r0) a + S1.size a ≤ S3.size a) ∧
  (∀ (k0_h12 : k0_cond12 k0_t1 arg37_r0 arg38_r0 = 1#1), ∀ a, (k0_off41 arg15_r0) a + S1x1x512x256.size a ≤ S3x1x512x256.size a) ∧
  (∀ (k0_h12 : k0_cond12 k0_t1 arg37_r0 arg38_r0 = 1#1), ∀ a, (k0_off42 arg37_r0 arg38_r0) a + S1x512x256.size a ≤ S4x8192x256.size a) ∧
  (∀ (k0_h12 : k0_cond12 k0_t1 arg37_r0 arg38_r0 = 1#1), ∀ (hinb : ∀ a, (k0_off42 arg37_r0 arg38_r0) a + S1x512x256.size a ≤ S4x8192x256.size a), (Rect.unit (s := S4x8192x256) (k0_off42 arg37_r0 arg38_r0) S1x512x256.size hinb).WholeWords (EltTy.packing .bf16)) ∧
  (∀ (k0_h12 : k0_cond12 k0_t1 arg37_r0 arg38_r0 = 1#1), ∀ (hinb : ∀ a, (k0_off41 arg15_r0) a + S1x1x512x256.size a ≤ S3x1x512x256.size a), (Rect.unit (s := S3x1x512x256) (k0_off41 arg15_r0) S1x1x512x256.size hinb).WholeWords (EltTy.packing .bf16))
def k0_chk1_1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) : Prop :=
  (∀ (k0_h13 : k0_cond13 k0_t1 arg37_r0 arg38_r0 = 1#1), ∀ a, (k0_off43 arg17_r0) a + S1.size a ≤ S3.size a) ∧
  (∀ (k0_h13 : k0_cond13 k0_t1 arg37_r0 arg38_r0 = 1#1), ∀ a, (k0_off44 arg17_r0) a + S1x1x512x512.size a ≤ S3x1x512x512.size a) ∧
  (∀ (k0_h13 : k0_cond13 k0_t1 arg37_r0 arg38_r0 = 1#1), ∀ a, (k0_off45 arg37_r0 arg38_r0) a + S1x512x512.size a ≤ S4x8192x512.size a) ∧
  (∀ (k0_h13 : k0_cond13 k0_t1 arg37_r0 arg38_r0 = 1#1), ∀ (hinb : ∀ a, (k0_off45 arg37_r0 arg38_r0) a + S1x512x512.size a ≤ S4x8192x512.size a), (Rect.unit (s := S4x8192x512) (k0_off45 arg37_r0 arg38_r0) S1x512x512.size hinb).WholeWords (EltTy.packing .bf16)) ∧
  (∀ (k0_h13 : k0_cond13 k0_t1 arg37_r0 arg38_r0 = 1#1), ∀ (hinb : ∀ a, (k0_off44 arg17_r0) a + S1x1x512x512.size a ≤ S3x1x512x512.size a), (Rect.unit (s := S3x1x512x512) (k0_off44 arg17_r0) S1x1x512x512.size hinb).WholeWords (EltTy.packing .bf16)) ∧
  (∀ (k0_h14 : k0_cond14 k0_t1 arg37_r0 arg38_r0 = 1#1), ∀ a, (k0_off46 arg19_r0) a + S1.size a ≤ S3.size a) ∧
  (∀ (k0_h14 : k0_cond14 k0_t1 arg37_r0 arg38_r0 = 1#1), ∀ a, (k0_off47 arg19_r0) a + S1x1x512x256.size a ≤ S3x1x512x256.size a) ∧
  (∀ (k0_h14 : k0_cond14 k0_t1 arg37_r0 arg38_r0 = 1#1), ∀ a, (k0_off48 arg37_r0 arg38_r0) a + S1x512x256.size a ≤ S4x8192x256.size a) ∧
  (∀ (k0_h14 : k0_cond14 k0_t1 arg37_r0 arg38_r0 = 1#1), ∀ (hinb : ∀ a, (k0_off48 arg37_r0 arg38_r0) a + S1x512x256.size a ≤ S4x8192x256.size a), (Rect.unit (s := S4x8192x256) (k0_off48 arg37_r0 arg38_r0) S1x512x256.size hinb).WholeWords (EltTy.packing .bf16)) ∧
  (∀ (k0_h14 : k0_cond14 k0_t1 arg37_r0 arg38_r0 = 1#1), ∀ (hinb : ∀ a, (k0_off47 arg19_r0) a + S1x1x512x256.size a ≤ S3x1x512x256.size a), (Rect.unit (s := S3x1x512x256) (k0_off47 arg19_r0) S1x1x512x256.size hinb).WholeWords (EltTy.packing .bf16)) ∧
  (∀ (k0_h15 : k0_cond15 k0_t1 arg37_r0 arg38_r0 = 1#1), ∀ a, (k0_off49 arg21_r0) a + S1.size a ≤ S3.size a) ∧
  (∀ (k0_h15 : k0_cond15 k0_t1 arg37_r0 arg38_r0 = 1#1), ∀ a, (k0_off50 arg21_r0) a + S1x1x512x1024.size a ≤ S3x1x512x1024.size a) ∧
  (∀ (k0_h15 : k0_cond15 k0_t1 arg37_r0 arg38_r0 = 1#1), ∀ a, (k0_off51 arg37_r0 arg38_r0) a + S1x512x1024.size a ≤ S4x8192x1024.size a) ∧
  (∀ (k0_h16 : k0_cond16 k0_t1 arg37_r0 arg38_r0 = 1#1), ∀ a, (k0_off52 arg24_r0) a + S1.size a ≤ S2.size a) ∧
  (∀ (k0_h16 : k0_cond16 k0_t1 arg37_r0 arg38_r0 = 1#1), ∀ a, (k0_off53 arg24_r0) a + S1x1x1x1024.size a ≤ S2x1x1x1024.size a) ∧
  (∀ (k0_h16 : k0_cond16 k0_t1 arg37_r0 arg38_r0 = 1#1), ∀ a, (k0_off54 arg37_r0) a + S1x1x1024.size a ≤ S4x1x1024.size a) ∧
  (∀ (k0_h17 : k0_cond17 k0_t1 arg37_r0 arg38_r0 = 1#1), ∀ a, (k0_off55 arg26_r0) a + S1.size a ≤ S2.size a) ∧
  (∀ (k0_h17 : k0_cond17 k0_t1 arg37_r0 arg38_r0 = 1#1), ∀ a, (k0_off56 arg26_r0) a + S1x1x1x1024.size a ≤ S2x1x1x1024.size a) ∧
  (∀ (k0_h17 : k0_cond17 k0_t1 arg37_r0 arg38_r0 = 1#1), ∀ a, (k0_off57 arg37_r0) a + S1x1x1024.size a ≤ S4x1x1024.size a) ∧
  (∀ (k0_h18 : k0_cond18 k0_t1 arg37_r0 arg38_r0 = 1#1), ∀ a, (k0_off58 arg28_r0) a + S1.size a ≤ S2.size a) ∧
  (∀ (k0_h18 : k0_cond18 k0_t1 arg37_r0 arg38_r0 = 1#1), ∀ a, (k0_off59 arg28_r0) a + S1x1x1x1024.size a ≤ S2x1x1x1024.size a) ∧
  (∀ (k0_h18 : k0_cond18 k0_t1 arg37_r0 arg38_r0 = 1#1), ∀ a, (k0_off60 arg37_r0) a + S1x1x1024.size a ≤ S4x1x1024.size a) ∧
  (∀ (k0_h29 : k0_cond29 k0_t1 arg37_r0 arg38_r0 = 1#1), ∀ a, (k0_off71 arg31_r0) a + S1.size a ≤ S2.size a) ∧
  (∀ (k0_h29 : k0_cond29 k0_t1 arg37_r0 arg38_r0 = 1#1), ∀ a, (k0_off72 arg37_r0 arg38_r0) a + S1x512x1024.size a ≤ S4x8192x1024.size a) ∧
  (∀ (k0_h29 : k0_cond29 k0_t1 arg37_r0 arg38_r0 = 1#1), ∀ a, (k0_off73 arg31_r0) a + S1x1x512x1024.size a ≤ S2x1x512x1024.size a) ∧
  (∀ (k0_h30 : k0_cond30 k0_t1 arg37_r0 arg38_r0 = 1#1), ∀ a, (k0_off74 arg33_r0) a + S1.size a ≤ S2.size a) ∧
  (∀ (k0_h30 : k0_cond30 k0_t1 arg37_r0 arg38_r0 = 1#1), ∀ a, (k0_off75 arg37_r0 arg38_r0) a + S1x512x1024.size a ≤ S4x8192x1024.size a) ∧
  (∀ (k0_h30 : k0_cond30 k0_t1 arg37_r0 arg38_r0 = 1#1), ∀ a, (k0_off76 arg33_r0) a + S1x1x512x1024.size a ≤ S2x1x512x1024.size a) ∧
  (∀ (k0_h30 : k0_cond30 k0_t1 arg37_r0 arg38_r0 = 1#1), ∀ (hinb : ∀ a, (k0_off76 arg33_r0) a + S1x1x512x1024.size a ≤ S2x1x512x1024.size a), (Rect.unit (s := S2x1x512x1024) (k0_off76 arg33_r0) S1x1x512x1024.size hinb).WholeWords (EltTy.packing .bf16)) ∧
  (∀ (k0_h30 : k0_cond30 k0_t1 arg37_r0 arg38_r0 = 1#1), ∀ (hinb : ∀ a, (k0_off75 arg37_r0 arg38_r0) a + S1x512x1024.size a ≤ S4x8192x1024.size a), (Rect.unit (s := S4x8192x1024) (k0_off75 arg37_r0 arg38_r0) S1x512x1024.size hinb).WholeWords (EltTy.packing .bf16)) ∧
  (∀ (k0_h31 : k0_cond31 k0_t1 arg37_r0 arg38_r0 = 1#1), ∀ a, (k0_off77 arg35_r0) a + S1.size a ≤ S2.size a) ∧
  (∀ (k0_h31 : k0_cond31 k0_t1 arg37_r0 arg38_r0 = 1#1), ∀ a, (k0_off78 arg37_r0 arg38_r0) a + S1x512x128.size a ≤ S4x8192x128.size a)
def k0_chk1_2 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) : Prop :=
  (∀ (k0_h31 : k0_cond31 k0_t1 arg37_r0 arg38_r0 = 1#1), ∀ a, (k0_off79 arg35_r0) a + S1x1x512x128.size a ≤ S2x1x512x128.size a) ∧
  (∀ (k0_h39 : k0_cond39 k0_t1 arg37_r0 arg38_r0 = 1#1), ∀ a, (k0_off80 arg32_r0) a + S1.size a ≤ S2.size a) ∧
  (∀ (k0_h39 : k0_cond39 k0_t1 arg37_r0 arg38_r0 = 1#1), ∀ a, (k0_off81 arg37_r0 arg38_r0) a + S1x512x1024.size a ≤ S4x8192x1024.size a) ∧
  (∀ (k0_h39 : k0_cond39 k0_t1 arg37_r0 arg38_r0 = 1#1), ∀ a, (k0_off82 arg32_r0) a + S1x1x512x1024.size a ≤ S2x1x512x1024.size a) ∧
  (∀ (k0_h40 : k0_cond40 k0_t1 arg37_r0 arg38_r0 = 1#1), ∀ a, (k0_off83 arg34_r0) a + S1.size a ≤ S2.size a) ∧
  (∀ (k0_h40 : k0_cond40 k0_t1 arg37_r0 arg38_r0 = 1#1), ∀ a, (k0_off84 arg37_r0 arg38_r0) a + S1x512x1024.size a ≤ S4x8192x1024.size a) ∧
  (∀ (k0_h40 : k0_cond40 k0_t1 arg37_r0 arg38_r0 = 1#1), ∀ a, (k0_off85 arg34_r0) a + S1x1x512x1024.size a ≤ S2x1x512x1024.size a) ∧
  (∀ (k0_h40 : k0_cond40 k0_t1 arg37_r0 arg38_r0 = 1#1), ∀ (hinb : ∀ a, (k0_off85 arg34_r0) a + S1x1x512x1024.size a ≤ S2x1x512x1024.size a), (Rect.unit (s := S2x1x512x1024) (k0_off85 arg34_r0) S1x1x512x1024.size hinb).WholeWords (EltTy.packing .bf16)) ∧
  (∀ (k0_h40 : k0_cond40 k0_t1 arg37_r0 arg38_r0 = 1#1), ∀ (hinb : ∀ a, (k0_off84 arg37_r0 arg38_r0) a + S1x512x1024.size a ≤ S4x8192x1024.size a), (Rect.unit (s := S4x8192x1024) (k0_off84 arg37_r0 arg38_r0) S1x512x1024.size hinb).WholeWords (EltTy.packing .bf16)) ∧
  (∀ (k0_h41 : k0_cond41 k0_t1 arg37_r0 arg38_r0 = 1#1), ∀ a, (k0_off86 arg36_r0) a + S1.size a ≤ S2.size a) ∧
  (∀ (k0_h41 : k0_cond41 k0_t1 arg37_r0 arg38_r0 = 1#1), ∀ a, (k0_off87 arg37_r0 arg38_r0) a + S1x512x128.size a ≤ S4x8192x128.size a) ∧
  (∀ (k0_h41 : k0_cond41 k0_t1 arg37_r0 arg38_r0 = 1#1), ∀ a, (k0_off88 arg36_r0) a + S1x1x512x128.size a ≤ S2x1x512x128.size a)
def k0_chk1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) : Prop :=
  k0_chk1_0 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 ∧
  k0_chk1_1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 ∧
  k0_chk1_2 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0
theorem k0_off19_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h5 : k0_cond5 k0_t1 arg37_r0 arg38_r0 = 1#1), ∀ a, (k0_off19 arg14_r0) a + S1.size a ≤ S3.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5 => k0_hw1.1.1 k0_h5
theorem k0_off20_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h5 : k0_cond5 k0_t1 arg37_r0 arg38_r0 = 1#1), ∀ a, (k0_off20 arg14_r0) a + S1x1x512x256.size a ≤ S3x1x512x256.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5 => k0_hw1.1.2.1 k0_h5
theorem k0_off21_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h5 : k0_cond5 k0_t1 arg37_r0 arg38_r0 = 1#1), ∀ a, (k0_off21 arg37_r0 arg38_r0) a + S1x512x256.size a ≤ S4x8192x256.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5 => k0_hw1.1.2.2.1 k0_h5
theorem k0_off21_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h5 : k0_cond5 k0_t1 arg37_r0 arg38_r0 = 1#1), (Rect.unit (s := S4x8192x256) (k0_off21 arg37_r0 arg38_r0) S1x512x256.size (k0_off21_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5 => k0_hw1.1.2.2.2.1 k0_h5 (k0_off21_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5)
theorem k0_off20_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h5 : k0_cond5 k0_t1 arg37_r0 arg38_r0 = 1#1), (Rect.unit (s := S3x1x512x256) (k0_off20 arg14_r0) S1x1x512x256.size (k0_off20_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5 => k0_hw1.1.2.2.2.2.1 k0_h5 (k0_off20_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h5)
theorem k0_off22_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h6 : k0_cond6 k0_t1 arg37_r0 arg38_r0 = 1#1), ∀ a, (k0_off22 arg16_r0) a + S1.size a ≤ S3.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6 => k0_hw1.1.2.2.2.2.2.1 k0_h6
theorem k0_off23_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h6 : k0_cond6 k0_t1 arg37_r0 arg38_r0 = 1#1), ∀ a, (k0_off23 arg16_r0) a + S1x1x512x512.size a ≤ S3x1x512x512.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6 => k0_hw1.1.2.2.2.2.2.2.1 k0_h6
theorem k0_off24_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h6 : k0_cond6 k0_t1 arg37_r0 arg38_r0 = 1#1), ∀ a, (k0_off24 arg37_r0 arg38_r0) a + S1x512x512.size a ≤ S4x8192x512.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6 => k0_hw1.1.2.2.2.2.2.2.2.1 k0_h6
theorem k0_off24_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h6 : k0_cond6 k0_t1 arg37_r0 arg38_r0 = 1#1), (Rect.unit (s := S4x8192x512) (k0_off24 arg37_r0 arg38_r0) S1x512x512.size (k0_off24_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6 => k0_hw1.1.2.2.2.2.2.2.2.2.1 k0_h6 (k0_off24_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6)
theorem k0_off23_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h6 : k0_cond6 k0_t1 arg37_r0 arg38_r0 = 1#1), (Rect.unit (s := S3x1x512x512) (k0_off23 arg16_r0) S1x1x512x512.size (k0_off23_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6 => k0_hw1.1.2.2.2.2.2.2.2.2.2.1 k0_h6 (k0_off23_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h6)
theorem k0_off25_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h7 : k0_cond7 k0_t1 arg37_r0 arg38_r0 = 1#1), ∀ a, (k0_off25 arg18_r0) a + S1.size a ≤ S3.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7 => k0_hw1.1.2.2.2.2.2.2.2.2.2.2.1 k0_h7
theorem k0_off26_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h7 : k0_cond7 k0_t1 arg37_r0 arg38_r0 = 1#1), ∀ a, (k0_off26 arg18_r0) a + S1x1x512x256.size a ≤ S3x1x512x256.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7 => k0_hw1.1.2.2.2.2.2.2.2.2.2.2.2.1 k0_h7
theorem k0_off27_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h7 : k0_cond7 k0_t1 arg37_r0 arg38_r0 = 1#1), ∀ a, (k0_off27 arg37_r0 arg38_r0) a + S1x512x256.size a ≤ S4x8192x256.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7 => k0_hw1.1.2.2.2.2.2.2.2.2.2.2.2.2.1 k0_h7
theorem k0_off27_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h7 : k0_cond7 k0_t1 arg37_r0 arg38_r0 = 1#1), (Rect.unit (s := S4x8192x256) (k0_off27 arg37_r0 arg38_r0) S1x512x256.size (k0_off27_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7 => k0_hw1.1.2.2.2.2.2.2.2.2.2.2.2.2.2.1 k0_h7 (k0_off27_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7)
theorem k0_off26_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h7 : k0_cond7 k0_t1 arg37_r0 arg38_r0 = 1#1), (Rect.unit (s := S3x1x512x256) (k0_off26 arg18_r0) S1x1x512x256.size (k0_off26_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7 => k0_hw1.1.2.2.2.2.2.2.2.2.2.2.2.2.2.2.1 k0_h7 (k0_off26_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h7)
theorem k0_off28_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h8 : k0_cond8 k0_t1 arg37_r0 arg38_r0 = 1#1), ∀ a, (k0_off28 arg20_r0) a + S1.size a ≤ S3.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h8 => k0_hw1.1.2.2.2.2.2.2.2.2.2.2.2.2.2.2.2.1 k0_h8
theorem k0_off29_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h8 : k0_cond8 k0_t1 arg37_r0 arg38_r0 = 1#1), ∀ a, (k0_off29 arg20_r0) a + S1x1x512x1024.size a ≤ S3x1x512x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h8 => k0_hw1.1.2.2.2.2.2.2.2.2.2.2.2.2.2.2.2.2.1 k0_h8
theorem k0_off30_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h8 : k0_cond8 k0_t1 arg37_r0 arg38_r0 = 1#1), ∀ a, (k0_off30 arg37_r0 arg38_r0) a + S1x512x1024.size a ≤ S4x8192x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h8 => k0_hw1.1.2.2.2.2.2.2.2.2.2.2.2.2.2.2.2.2.2.1 k0_h8
theorem k0_off31_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h9 : k0_cond9 k0_t1 arg37_r0 arg38_r0 = 1#1), ∀ a, (k0_off31 arg23_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h9 => k0_hw1.1.2.2.2.2.2.2.2.2.2.2.2.2.2.2.2.2.2.2.1 k0_h9
theorem k0_off32_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h9 : k0_cond9 k0_t1 arg37_r0 arg38_r0 = 1#1), ∀ a, (k0_off32 arg23_r0) a + S1x1x1x1024.size a ≤ S2x1x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h9 => k0_hw1.1.2.2.2.2.2.2.2.2.2.2.2.2.2.2.2.2.2.2.2.1 k0_h9
theorem k0_off33_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h9 : k0_cond9 k0_t1 arg37_r0 arg38_r0 = 1#1), ∀ a, (k0_off33 arg37_r0 arg38_r0) a + S1x1x1024.size a ≤ S4x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h9 => k0_hw1.1.2.2.2.2.2.2.2.2.2.2.2.2.2.2.2.2.2.2.2.2.1 k0_h9
theorem k0_off34_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h10 : k0_cond10 k0_t1 arg37_r0 arg38_r0 = 1#1), ∀ a, (k0_off34 arg25_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h10 => k0_hw1.1.2.2.2.2.2.2.2.2.2.2.2.2.2.2.2.2.2.2.2.2.2.1 k0_h10
theorem k0_off35_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h10 : k0_cond10 k0_t1 arg37_r0 arg38_r0 = 1#1), ∀ a, (k0_off35 arg25_r0) a + S1x1x1x1024.size a ≤ S2x1x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h10 => k0_hw1.1.2.2.2.2.2.2.2.2.2.2.2.2.2.2.2.2.2.2.2.2.2.2.1 k0_h10
theorem k0_off36_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h10 : k0_cond10 k0_t1 arg37_r0 arg38_r0 = 1#1), ∀ a, (k0_off36 arg37_r0 arg38_r0) a + S1x1x1024.size a ≤ S4x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h10 => k0_hw1.1.2.2.2.2.2.2.2.2.2.2.2.2.2.2.2.2.2.2.2.2.2.2.2.1 k0_h10
theorem k0_off37_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h11 : k0_cond11 k0_t1 arg37_r0 arg38_r0 = 1#1), ∀ a, (k0_off37 arg27_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h11 => k0_hw1.1.2.2.2.2.2.2.2.2.2.2.2.2.2.2.2.2.2.2.2.2.2.2.2.2.1 k0_h11
theorem k0_off38_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h11 : k0_cond11 k0_t1 arg37_r0 arg38_r0 = 1#1), ∀ a, (k0_off38 arg27_r0) a + S1x1x1x1024.size a ≤ S2x1x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h11 => k0_hw1.1.2.2.2.2.2.2.2.2.2.2.2.2.2.2.2.2.2.2.2.2.2.2.2.2.2.1 k0_h11
theorem k0_off39_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h11 : k0_cond11 k0_t1 arg37_r0 arg38_r0 = 1#1), ∀ a, (k0_off39 arg37_r0 arg38_r0) a + S1x1x1024.size a ≤ S4x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h11 => k0_hw1.1.2.2.2.2.2.2.2.2.2.2.2.2.2.2.2.2.2.2.2.2.2.2.2.2.2.2.1 k0_h11
theorem k0_off40_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h12 : k0_cond12 k0_t1 arg37_r0 arg38_r0 = 1#1), ∀ a, (k0_off40 arg15_r0) a + S1.size a ≤ S3.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12 => k0_hw1.1.2.2.2.2.2.2.2.2.2.2.2.2.2.2.2.2.2.2.2.2.2.2.2.2.2.2.2.1 k0_h12
theorem k0_off41_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h12 : k0_cond12 k0_t1 arg37_r0 arg38_r0 = 1#1), ∀ a, (k0_off41 arg15_r0) a + S1x1x512x256.size a ≤ S3x1x512x256.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12 => k0_hw1.1.2.2.2.2.2.2.2.2.2.2.2.2.2.2.2.2.2.2.2.2.2.2.2.2.2.2.2.2.1 k0_h12
theorem k0_off42_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h12 : k0_cond12 k0_t1 arg37_r0 arg38_r0 = 1#1), ∀ a, (k0_off42 arg37_r0 arg38_r0) a + S1x512x256.size a ≤ S4x8192x256.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12 => k0_hw1.1.2.2.2.2.2.2.2.2.2.2.2.2.2.2.2.2.2.2.2.2.2.2.2.2.2.2.2.2.2.1 k0_h12
theorem k0_off42_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h12 : k0_cond12 k0_t1 arg37_r0 arg38_r0 = 1#1), (Rect.unit (s := S4x8192x256) (k0_off42 arg37_r0 arg38_r0) S1x512x256.size (k0_off42_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12 => k0_hw1.1.2.2.2.2.2.2.2.2.2.2.2.2.2.2.2.2.2.2.2.2.2.2.2.2.2.2.2.2.2.2.1 k0_h12 (k0_off42_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12)
theorem k0_off41_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h12 : k0_cond12 k0_t1 arg37_r0 arg38_r0 = 1#1), (Rect.unit (s := S3x1x512x256) (k0_off41 arg15_r0) S1x1x512x256.size (k0_off41_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12 => k0_hw1.1.2.2.2.2.2.2.2.2.2.2.2.2.2.2.2.2.2.2.2.2.2.2.2.2.2.2.2.2.2.2.2 k0_h12 (k0_off41_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h12)
theorem k0_off43_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h13 : k0_cond13 k0_t1 arg37_r0 arg38_r0 = 1#1), ∀ a, (k0_off43 arg17_r0) a + S1.size a ≤ S3.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13 => k0_hw1.2.1.1 k0_h13
theorem k0_off44_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h13 : k0_cond13 k0_t1 arg37_r0 arg38_r0 = 1#1), ∀ a, (k0_off44 arg17_r0) a + S1x1x512x512.size a ≤ S3x1x512x512.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13 => k0_hw1.2.1.2.1 k0_h13
theorem k0_off45_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h13 : k0_cond13 k0_t1 arg37_r0 arg38_r0 = 1#1), ∀ a, (k0_off45 arg37_r0 arg38_r0) a + S1x512x512.size a ≤ S4x8192x512.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13 => k0_hw1.2.1.2.2.1 k0_h13
theorem k0_off45_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h13 : k0_cond13 k0_t1 arg37_r0 arg38_r0 = 1#1), (Rect.unit (s := S4x8192x512) (k0_off45 arg37_r0 arg38_r0) S1x512x512.size (k0_off45_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13 => k0_hw1.2.1.2.2.2.1 k0_h13 (k0_off45_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13)
theorem k0_off44_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h13 : k0_cond13 k0_t1 arg37_r0 arg38_r0 = 1#1), (Rect.unit (s := S3x1x512x512) (k0_off44 arg17_r0) S1x1x512x512.size (k0_off44_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13 => k0_hw1.2.1.2.2.2.2.1 k0_h13 (k0_off44_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h13)
theorem k0_off46_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h14 : k0_cond14 k0_t1 arg37_r0 arg38_r0 = 1#1), ∀ a, (k0_off46 arg19_r0) a + S1.size a ≤ S3.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14 => k0_hw1.2.1.2.2.2.2.2.1 k0_h14
theorem k0_off47_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h14 : k0_cond14 k0_t1 arg37_r0 arg38_r0 = 1#1), ∀ a, (k0_off47 arg19_r0) a + S1x1x512x256.size a ≤ S3x1x512x256.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14 => k0_hw1.2.1.2.2.2.2.2.2.1 k0_h14
theorem k0_off48_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h14 : k0_cond14 k0_t1 arg37_r0 arg38_r0 = 1#1), ∀ a, (k0_off48 arg37_r0 arg38_r0) a + S1x512x256.size a ≤ S4x8192x256.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14 => k0_hw1.2.1.2.2.2.2.2.2.2.1 k0_h14
theorem k0_off48_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h14 : k0_cond14 k0_t1 arg37_r0 arg38_r0 = 1#1), (Rect.unit (s := S4x8192x256) (k0_off48 arg37_r0 arg38_r0) S1x512x256.size (k0_off48_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14 => k0_hw1.2.1.2.2.2.2.2.2.2.2.1 k0_h14 (k0_off48_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14)
theorem k0_off47_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h14 : k0_cond14 k0_t1 arg37_r0 arg38_r0 = 1#1), (Rect.unit (s := S3x1x512x256) (k0_off47 arg19_r0) S1x1x512x256.size (k0_off47_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14 => k0_hw1.2.1.2.2.2.2.2.2.2.2.2.1 k0_h14 (k0_off47_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h14)
theorem k0_off49_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h15 : k0_cond15 k0_t1 arg37_r0 arg38_r0 = 1#1), ∀ a, (k0_off49 arg21_r0) a + S1.size a ≤ S3.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h15 => k0_hw1.2.1.2.2.2.2.2.2.2.2.2.2.1 k0_h15
theorem k0_off50_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h15 : k0_cond15 k0_t1 arg37_r0 arg38_r0 = 1#1), ∀ a, (k0_off50 arg21_r0) a + S1x1x512x1024.size a ≤ S3x1x512x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h15 => k0_hw1.2.1.2.2.2.2.2.2.2.2.2.2.2.1 k0_h15
theorem k0_off51_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h15 : k0_cond15 k0_t1 arg37_r0 arg38_r0 = 1#1), ∀ a, (k0_off51 arg37_r0 arg38_r0) a + S1x512x1024.size a ≤ S4x8192x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h15 => k0_hw1.2.1.2.2.2.2.2.2.2.2.2.2.2.2.1 k0_h15
theorem k0_off52_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h16 : k0_cond16 k0_t1 arg37_r0 arg38_r0 = 1#1), ∀ a, (k0_off52 arg24_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h16 => k0_hw1.2.1.2.2.2.2.2.2.2.2.2.2.2.2.2.1 k0_h16
theorem k0_off53_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h16 : k0_cond16 k0_t1 arg37_r0 arg38_r0 = 1#1), ∀ a, (k0_off53 arg24_r0) a + S1x1x1x1024.size a ≤ S2x1x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h16 => k0_hw1.2.1.2.2.2.2.2.2.2.2.2.2.2.2.2.2.1 k0_h16
theorem k0_off54_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h16 : k0_cond16 k0_t1 arg37_r0 arg38_r0 = 1#1), ∀ a, (k0_off54 arg37_r0) a + S1x1x1024.size a ≤ S4x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h16 => k0_hw1.2.1.2.2.2.2.2.2.2.2.2.2.2.2.2.2.2.1 k0_h16
theorem k0_off55_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h17 : k0_cond17 k0_t1 arg37_r0 arg38_r0 = 1#1), ∀ a, (k0_off55 arg26_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h17 => k0_hw1.2.1.2.2.2.2.2.2.2.2.2.2.2.2.2.2.2.2.1 k0_h17
theorem k0_off56_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h17 : k0_cond17 k0_t1 arg37_r0 arg38_r0 = 1#1), ∀ a, (k0_off56 arg26_r0) a + S1x1x1x1024.size a ≤ S2x1x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h17 => k0_hw1.2.1.2.2.2.2.2.2.2.2.2.2.2.2.2.2.2.2.2.1 k0_h17
theorem k0_off57_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h17 : k0_cond17 k0_t1 arg37_r0 arg38_r0 = 1#1), ∀ a, (k0_off57 arg37_r0) a + S1x1x1024.size a ≤ S4x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h17 => k0_hw1.2.1.2.2.2.2.2.2.2.2.2.2.2.2.2.2.2.2.2.2.1 k0_h17
theorem k0_off58_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h18 : k0_cond18 k0_t1 arg37_r0 arg38_r0 = 1#1), ∀ a, (k0_off58 arg28_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h18 => k0_hw1.2.1.2.2.2.2.2.2.2.2.2.2.2.2.2.2.2.2.2.2.2.1 k0_h18
theorem k0_off59_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h18 : k0_cond18 k0_t1 arg37_r0 arg38_r0 = 1#1), ∀ a, (k0_off59 arg28_r0) a + S1x1x1x1024.size a ≤ S2x1x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h18 => k0_hw1.2.1.2.2.2.2.2.2.2.2.2.2.2.2.2.2.2.2.2.2.2.2.1 k0_h18
theorem k0_off60_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h18 : k0_cond18 k0_t1 arg37_r0 arg38_r0 = 1#1), ∀ a, (k0_off60 arg37_r0) a + S1x1x1024.size a ≤ S4x1x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h18 => k0_hw1.2.1.2.2.2.2.2.2.2.2.2.2.2.2.2.2.2.2.2.2.2.2.2.1 k0_h18
theorem k0_off71_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h29 : k0_cond29 k0_t1 arg37_r0 arg38_r0 = 1#1), ∀ a, (k0_off71 arg31_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h29 => k0_hw1.2.1.2.2.2.2.2.2.2.2.2.2.2.2.2.2.2.2.2.2.2.2.2.2.1 k0_h29
theorem k0_off72_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h29 : k0_cond29 k0_t1 arg37_r0 arg38_r0 = 1#1), ∀ a, (k0_off72 arg37_r0 arg38_r0) a + S1x512x1024.size a ≤ S4x8192x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h29 => k0_hw1.2.1.2.2.2.2.2.2.2.2.2.2.2.2.2.2.2.2.2.2.2.2.2.2.2.1 k0_h29
theorem k0_off73_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h29 : k0_cond29 k0_t1 arg37_r0 arg38_r0 = 1#1), ∀ a, (k0_off73 arg31_r0) a + S1x1x512x1024.size a ≤ S2x1x512x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h29 => k0_hw1.2.1.2.2.2.2.2.2.2.2.2.2.2.2.2.2.2.2.2.2.2.2.2.2.2.2.1 k0_h29
theorem k0_off74_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h30 : k0_cond30 k0_t1 arg37_r0 arg38_r0 = 1#1), ∀ a, (k0_off74 arg33_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30 => k0_hw1.2.1.2.2.2.2.2.2.2.2.2.2.2.2.2.2.2.2.2.2.2.2.2.2.2.2.2.1 k0_h30
theorem k0_off75_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h30 : k0_cond30 k0_t1 arg37_r0 arg38_r0 = 1#1), ∀ a, (k0_off75 arg37_r0 arg38_r0) a + S1x512x1024.size a ≤ S4x8192x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30 => k0_hw1.2.1.2.2.2.2.2.2.2.2.2.2.2.2.2.2.2.2.2.2.2.2.2.2.2.2.2.2.1 k0_h30
theorem k0_off76_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h30 : k0_cond30 k0_t1 arg37_r0 arg38_r0 = 1#1), ∀ a, (k0_off76 arg33_r0) a + S1x1x512x1024.size a ≤ S2x1x512x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30 => k0_hw1.2.1.2.2.2.2.2.2.2.2.2.2.2.2.2.2.2.2.2.2.2.2.2.2.2.2.2.2.2.1 k0_h30
theorem k0_off76_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h30 : k0_cond30 k0_t1 arg37_r0 arg38_r0 = 1#1), (Rect.unit (s := S2x1x512x1024) (k0_off76 arg33_r0) S1x1x512x1024.size (k0_off76_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30 => k0_hw1.2.1.2.2.2.2.2.2.2.2.2.2.2.2.2.2.2.2.2.2.2.2.2.2.2.2.2.2.2.2.1 k0_h30 (k0_off76_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30)
theorem k0_off75_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h30 : k0_cond30 k0_t1 arg37_r0 arg38_r0 = 1#1), (Rect.unit (s := S4x8192x1024) (k0_off75 arg37_r0 arg38_r0) S1x512x1024.size (k0_off75_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30 => k0_hw1.2.1.2.2.2.2.2.2.2.2.2.2.2.2.2.2.2.2.2.2.2.2.2.2.2.2.2.2.2.2.2.1 k0_h30 (k0_off75_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h30)
theorem k0_off77_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h31 : k0_cond31 k0_t1 arg37_r0 arg38_r0 = 1#1), ∀ a, (k0_off77 arg35_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h31 => k0_hw1.2.1.2.2.2.2.2.2.2.2.2.2.2.2.2.2.2.2.2.2.2.2.2.2.2.2.2.2.2.2.2.2.1 k0_h31
theorem k0_off78_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h31 : k0_cond31 k0_t1 arg37_r0 arg38_r0 = 1#1), ∀ a, (k0_off78 arg37_r0 arg38_r0) a + S1x512x128.size a ≤ S4x8192x128.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h31 => k0_hw1.2.1.2.2.2.2.2.2.2.2.2.2.2.2.2.2.2.2.2.2.2.2.2.2.2.2.2.2.2.2.2.2.2 k0_h31
theorem k0_off79_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h31 : k0_cond31 k0_t1 arg37_r0 arg38_r0 = 1#1), ∀ a, (k0_off79 arg35_r0) a + S1x1x512x128.size a ≤ S2x1x512x128.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h31 => k0_hw1.2.2.1 k0_h31
theorem k0_off80_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h39 : k0_cond39 k0_t1 arg37_r0 arg38_r0 = 1#1), ∀ a, (k0_off80 arg32_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h39 => k0_hw1.2.2.2.1 k0_h39
theorem k0_off81_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h39 : k0_cond39 k0_t1 arg37_r0 arg38_r0 = 1#1), ∀ a, (k0_off81 arg37_r0 arg38_r0) a + S1x512x1024.size a ≤ S4x8192x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h39 => k0_hw1.2.2.2.2.1 k0_h39
theorem k0_off82_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h39 : k0_cond39 k0_t1 arg37_r0 arg38_r0 = 1#1), ∀ a, (k0_off82 arg32_r0) a + S1x1x512x1024.size a ≤ S2x1x512x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h39 => k0_hw1.2.2.2.2.2.1 k0_h39
theorem k0_off83_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h40 : k0_cond40 k0_t1 arg37_r0 arg38_r0 = 1#1), ∀ a, (k0_off83 arg34_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40 => k0_hw1.2.2.2.2.2.2.1 k0_h40
theorem k0_off84_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h40 : k0_cond40 k0_t1 arg37_r0 arg38_r0 = 1#1), ∀ a, (k0_off84 arg37_r0 arg38_r0) a + S1x512x1024.size a ≤ S4x8192x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40 => k0_hw1.2.2.2.2.2.2.2.1 k0_h40
theorem k0_off85_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h40 : k0_cond40 k0_t1 arg37_r0 arg38_r0 = 1#1), ∀ a, (k0_off85 arg34_r0) a + S1x1x512x1024.size a ≤ S2x1x512x1024.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40 => k0_hw1.2.2.2.2.2.2.2.2.1 k0_h40
theorem k0_off85_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h40 : k0_cond40 k0_t1 arg37_r0 arg38_r0 = 1#1), (Rect.unit (s := S2x1x512x1024) (k0_off85 arg34_r0) S1x1x512x1024.size (k0_off85_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40 => k0_hw1.2.2.2.2.2.2.2.2.2.1 k0_h40 (k0_off85_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40)
theorem k0_off84_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h40 : k0_cond40 k0_t1 arg37_r0 arg38_r0 = 1#1), (Rect.unit (s := S4x8192x1024) (k0_off84 arg37_r0 arg38_r0) S1x512x1024.size (k0_off84_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40)).WholeWords (EltTy.packing .bf16) := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40 => k0_hw1.2.2.2.2.2.2.2.2.2.2.1 k0_h40 (k0_off84_inb k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h40)
theorem k0_off86_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h41 : k0_cond41 k0_t1 arg37_r0 arg38_r0 = 1#1), ∀ a, (k0_off86 arg36_r0) a + S1.size a ≤ S2.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h41 => k0_hw1.2.2.2.2.2.2.2.2.2.2.2.1 k0_h41
theorem k0_off87_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h41 : k0_cond41 k0_t1 arg37_r0 arg38_r0 = 1#1), ∀ a, (k0_off87 arg37_r0 arg38_r0) a + S1x512x128.size a ≤ S4x8192x128.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h41 => k0_hw1.2.2.2.2.2.2.2.2.2.2.2.2.1 k0_h41
theorem k0_off88_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg23_r0 : BitVec 32) (arg24_r0 : BitVec 32) (arg25_r0 : BitVec 32) (arg26_r0 : BitVec 32) (arg27_r0 : BitVec 32) (arg28_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (k0_hw1 : k0_chk1 k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0), ∀ (k0_h41 : k0_cond41 k0_t1 arg37_r0 arg38_r0 = 1#1), ∀ a, (k0_off88 arg36_r0) a + S1x1x512x128.size a ≤ S2x1x512x128.size a := fun k0_t1 arg14_r0 arg15_r0 arg16_r0 arg17_r0 arg18_r0 arg19_r0 arg20_r0 arg21_r0 arg23_r0 arg24_r0 arg25_r0 arg26_r0 arg27_r0 arg28_r0 arg31_r0 arg32_r0 arg33_r0 arg34_r0 arg35_r0 arg36_r0 arg37_r0 arg38_r0 k0_hw1 k0_h41 => k0_hw1.2.2.2.2.2.2.2.2.2.2.2.2.2 k0_h41

def k0_off89 (v132_18_r0 : BitVec 32) : Fin 1 → Nat :=
  let c2_i32_206_r0 : BitVec 32 := 2#32
  let v183_r0 : BitVec 32 := Scalar.remui v132_18_r0 c2_i32_206_r0
  ![v183_r0.toNat]

def k0_off90 (v132_24_r0 : BitVec 32) (v132_23_r0 : BitVec 32) : Fin 3 → Nat :=
  let c1_i32_207_r0 : BitVec 32 := 1#32
  let true_162_r0 : BitVec 1 := 1#1
  let c1_i32_161_r0 : BitVec 32 := 1#32
  let v133_r0 : BitVec 32 := Scalar.subi v132_24_r0 c1_i32_161_r0
  let v134_r0 : BitVec 32 := Scalar.select true_162_r0 v133_r0 v132_24_r0
  let c_m1_i32_163_r0 : BitVec 32 := 4294967295#32
  let v135_r0 : BitVec 1 := Scalar.cmpi .eq v134_r0 c_m1_i32_163_r0
  let c1_i32_165_r0 : BitVec 32 := 1#32
  let v137_r0 : BitVec 32 := Scalar.subi v132_23_r0 c1_i32_165_r0
  let v138_r0 : BitVec 32 := Scalar.select v135_r0 v137_r0 v132_23_r0
  let c_m1_i32_166_r0 : BitVec 32 := 4294967295#32
  let v139_r0 : BitVec 1 := Scalar.cmpi .eq v138_r0 c_m1_i32_166_r0
  let c3_i32_167_r0 : BitVec 32 := 3#32
  let v140_r0 : BitVec 32 := Scalar.select v139_r0 c3_i32_167_r0 v138_r0
  let c0_i32_168_r0 : BitVec 32 := 0#32
  let v141_r0 : BitVec 32 := Scalar.addi v140_r0 c0_i32_168_r0
  let v184_r0 : BitVec 32 := Scalar.muli c1_i32_207_r0 v141_r0
  let c512_i32_r0 : BitVec 32 := 512#32
  let c15_i32_164_r0 : BitVec 32 := 15#32
  let v136_r0 : BitVec 32 := Scalar.select v135_r0 c15_i32_164_r0 v134_r0
  let c0_i32_169_r0 : BitVec 32 := 0#32
  let v142_r0 : BitVec 32 := Scalar.addi v136_r0 c0_i32_169_r0
  let v185_r0 : BitVec 32 := Scalar.muli c512_i32_r0 v142_r0
  let c0_i32_208_r0 : BitVec 32 := 0#32
  ![v184_r0.toNat, v185_r0.toNat, 0]

def k0_off91 (v132_18_r0 : BitVec 32) : Fin 4 → Nat :=
  let c2_i32_206_r0 : BitVec 32 := 2#32
  let v183_r0 : BitVec 32 := Scalar.remui v132_18_r0 c2_i32_206_r0
  let c0_i32_209_r0 : BitVec 32 := 0#32
  let c0_i32_210_r0 : BitVec 32 := 0#32
  let c0_i32_211_r0 : BitVec 32 := 0#32
  ![v183_r0.toNat, 0, 0, 0]

def k0_chk12 (v132_18_r0 : BitVec 32) : Prop :=
  (∀ a, (k0_off89 v132_18_r0) a + S1.size a ≤ S2.size a) ∧
  (∀ a, (k0_off91 v132_18_r0) a + S1x1x512x1024.size a ≤ S2x1x512x1024.size a)
theorem k0_off89_inb : ∀ (v132_18_r0 : BitVec 32) (k0_hw12 : k0_chk12 v132_18_r0), ∀ a, (k0_off89 v132_18_r0) a + S1.size a ≤ S2.size a := fun v132_18_r0 k0_hw12 => k0_hw12.1
theorem k0_off91_inb : ∀ (v132_18_r0 : BitVec 32) (k0_hw12 : k0_chk12 v132_18_r0), ∀ a, (k0_off91 v132_18_r0) a + S1x1x512x1024.size a ≤ S2x1x512x1024.size a := fun v132_18_r0 k0_hw12 => k0_hw12.2

def k0_off92 (v132_20_r0 : BitVec 32) : Fin 1 → Nat :=
  let c2_i32_212_r0 : BitVec 32 := 2#32
  let v191_r0 : BitVec 32 := Scalar.remui v132_20_r0 c2_i32_212_r0
  ![v191_r0.toNat]

def k0_off93 (v132_24_r0 : BitVec 32) (v132_23_r0 : BitVec 32) : Fin 3 → Nat :=
  let c1_i32_213_r0 : BitVec 32 := 1#32
  let true_162_r0 : BitVec 1 := 1#1
  let c1_i32_161_r0 : BitVec 32 := 1#32
  let v133_r0 : BitVec 32 := Scalar.subi v132_24_r0 c1_i32_161_r0
  let v134_r0 : BitVec 32 := Scalar.select true_162_r0 v133_r0 v132_24_r0
  let c_m1_i32_163_r0 : BitVec 32 := 4294967295#32
  let v135_r0 : BitVec 1 := Scalar.cmpi .eq v134_r0 c_m1_i32_163_r0
  let c1_i32_165_r0 : BitVec 32 := 1#32
  let v137_r0 : BitVec 32 := Scalar.subi v132_23_r0 c1_i32_165_r0
  let v138_r0 : BitVec 32 := Scalar.select v135_r0 v137_r0 v132_23_r0
  let c_m1_i32_166_r0 : BitVec 32 := 4294967295#32
  let v139_r0 : BitVec 1 := Scalar.cmpi .eq v138_r0 c_m1_i32_166_r0
  let c3_i32_167_r0 : BitVec 32 := 3#32
  let v140_r0 : BitVec 32 := Scalar.select v139_r0 c3_i32_167_r0 v138_r0
  let c0_i32_168_r0 : BitVec 32 := 0#32
  let v141_r0 : BitVec 32 := Scalar.addi v140_r0 c0_i32_168_r0
  let v192_r0 : BitVec 32 := Scalar.muli c1_i32_213_r0 v141_r0
  let c512_i32_214_r0 : BitVec 32 := 512#32
  let c15_i32_164_r0 : BitVec 32 := 15#32
  let v136_r0 : BitVec 32 := Scalar.select v135_r0 c15_i32_164_r0 v134_r0
  let c0_i32_169_r0 : BitVec 32 := 0#32
  let v142_r0 : BitVec 32 := Scalar.addi v136_r0 c0_i32_169_r0
  let v193_r0 : BitVec 32 := Scalar.muli c512_i32_214_r0 v142_r0
  let c0_i32_215_r0 : BitVec 32 := 0#32
  ![v192_r0.toNat, v193_r0.toNat, 0]
def k0_off94 (v132_20_r0 : BitVec 32) : Fin 4 → Nat :=
  let c2_i32_212_r0 : BitVec 32 := 2#32
  let v191_r0 : BitVec 32 := Scalar.remui v132_20_r0 c2_i32_212_r0
  let c0_i32_216_r0 : BitVec 32 := 0#32
  let c0_i32_217_r0 : BitVec 32 := 0#32
  let c0_i32_218_r0 : BitVec 32 := 0#32
  ![v191_r0.toNat, 0, 0, 0]

def k0_chk14 (v132_20_r0 : BitVec 32) : Prop :=
  (∀ a, (k0_off92 v132_20_r0) a + S1.size a ≤ S2.size a) ∧
  (∀ a, (k0_off94 v132_20_r0) a + S1x1x512x1024.size a ≤ S2x1x512x1024.size a) ∧
  (∀ (hinb : ∀ a, (k0_off94 v132_20_r0) a + S1x1x512x1024.size a ≤ S2x1x512x1024.size a), (Rect.unit (s := S2x1x512x1024) (k0_off94 v132_20_r0) S1x1x512x1024.size hinb).WholeWords (EltTy.packing .bf16))
theorem k0_off92_inb : ∀ (v132_20_r0 : BitVec 32) (k0_hw14 : k0_chk14 v132_20_r0), ∀ a, (k0_off92 v132_20_r0) a + S1.size a ≤ S2.size a := fun v132_20_r0 k0_hw14 => k0_hw14.1
theorem k0_off94_inb : ∀ (v132_20_r0 : BitVec 32) (k0_hw14 : k0_chk14 v132_20_r0), ∀ a, (k0_off94 v132_20_r0) a + S1x1x512x1024.size a ≤ S2x1x512x1024.size a := fun v132_20_r0 k0_hw14 => k0_hw14.2.1
theorem k0_off94_wordsbf16 : ∀ (v132_20_r0 : BitVec 32) (k0_hw14 : k0_chk14 v132_20_r0), (Rect.unit (s := S2x1x512x1024) (k0_off94 v132_20_r0) S1x1x512x1024.size (k0_off94_inb v132_20_r0 k0_hw14)).WholeWords (EltTy.packing .bf16) := fun v132_20_r0 k0_hw14 => k0_hw14.2.2 (k0_off94_inb v132_20_r0 k0_hw14)

def k0_off95 (v132_22_r0 : BitVec 32) : Fin 1 → Nat :=
  let c2_i32_219_r0 : BitVec 32 := 2#32
  let v199_r0 : BitVec 32 := Scalar.remui v132_22_r0 c2_i32_219_r0
  ![v199_r0.toNat]

def k0_off96 (v132_24_r0 : BitVec 32) (v132_23_r0 : BitVec 32) : Fin 3 → Nat :=
  let c1_i32_220_r0 : BitVec 32 := 1#32
  let true_162_r0 : BitVec 1 := 1#1
  let c1_i32_161_r0 : BitVec 32 := 1#32
  let v133_r0 : BitVec 32 := Scalar.subi v132_24_r0 c1_i32_161_r0
  let v134_r0 : BitVec 32 := Scalar.select true_162_r0 v133_r0 v132_24_r0
  let c_m1_i32_163_r0 : BitVec 32 := 4294967295#32
  let v135_r0 : BitVec 1 := Scalar.cmpi .eq v134_r0 c_m1_i32_163_r0
  let c1_i32_165_r0 : BitVec 32 := 1#32
  let v137_r0 : BitVec 32 := Scalar.subi v132_23_r0 c1_i32_165_r0
  let v138_r0 : BitVec 32 := Scalar.select v135_r0 v137_r0 v132_23_r0
  let c_m1_i32_166_r0 : BitVec 32 := 4294967295#32
  let v139_r0 : BitVec 1 := Scalar.cmpi .eq v138_r0 c_m1_i32_166_r0
  let c3_i32_167_r0 : BitVec 32 := 3#32
  let v140_r0 : BitVec 32 := Scalar.select v139_r0 c3_i32_167_r0 v138_r0
  let c0_i32_168_r0 : BitVec 32 := 0#32
  let v141_r0 : BitVec 32 := Scalar.addi v140_r0 c0_i32_168_r0
  let v200_r0 : BitVec 32 := Scalar.muli c1_i32_220_r0 v141_r0
  let c512_i32_221_r0 : BitVec 32 := 512#32
  let c15_i32_164_r0 : BitVec 32 := 15#32
  let v136_r0 : BitVec 32 := Scalar.select v135_r0 c15_i32_164_r0 v134_r0
  let c0_i32_169_r0 : BitVec 32 := 0#32
  let v142_r0 : BitVec 32 := Scalar.addi v136_r0 c0_i32_169_r0
  let v201_r0 : BitVec 32 := Scalar.muli c512_i32_221_r0 v142_r0
  let c0_i32_222_r0 : BitVec 32 := 0#32
  ![v200_r0.toNat, v201_r0.toNat, 0]

def k0_chk13 (v132_24_r0 : BitVec 32) (v132_23_r0 : BitVec 32) : Prop :=
  (∀ a, (k0_off90 v132_24_r0 v132_23_r0) a + S1x512x1024.size a ≤ S4x8192x1024.size a) ∧
  (∀ a, (k0_off93 v132_24_r0 v132_23_r0) a + S1x512x1024.size a ≤ S4x8192x1024.size a) ∧
  (∀ (hinb : ∀ a, (k0_off93 v132_24_r0 v132_23_r0) a + S1x512x1024.size a ≤ S4x8192x1024.size a), (Rect.unit (s := S4x8192x1024) (k0_off93 v132_24_r0 v132_23_r0) S1x512x1024.size hinb).WholeWords (EltTy.packing .bf16)) ∧
  (∀ a, (k0_off96 v132_24_r0 v132_23_r0) a + S1x512x128.size a ≤ S4x8192x128.size a)
theorem k0_off90_inb : ∀ (v132_24_r0 : BitVec 32) (v132_23_r0 : BitVec 32) (k0_hw13 : k0_chk13 v132_24_r0 v132_23_r0), ∀ a, (k0_off90 v132_24_r0 v132_23_r0) a + S1x512x1024.size a ≤ S4x8192x1024.size a := fun v132_24_r0 v132_23_r0 k0_hw13 => k0_hw13.1
theorem k0_off93_inb : ∀ (v132_24_r0 : BitVec 32) (v132_23_r0 : BitVec 32) (k0_hw13 : k0_chk13 v132_24_r0 v132_23_r0), ∀ a, (k0_off93 v132_24_r0 v132_23_r0) a + S1x512x1024.size a ≤ S4x8192x1024.size a := fun v132_24_r0 v132_23_r0 k0_hw13 => k0_hw13.2.1
theorem k0_off93_wordsbf16 : ∀ (v132_24_r0 : BitVec 32) (v132_23_r0 : BitVec 32) (k0_hw13 : k0_chk13 v132_24_r0 v132_23_r0), (Rect.unit (s := S4x8192x1024) (k0_off93 v132_24_r0 v132_23_r0) S1x512x1024.size (k0_off93_inb v132_24_r0 v132_23_r0 k0_hw13)).WholeWords (EltTy.packing .bf16) := fun v132_24_r0 v132_23_r0 k0_hw13 => k0_hw13.2.2.1 (k0_off93_inb v132_24_r0 v132_23_r0 k0_hw13)
theorem k0_off96_inb : ∀ (v132_24_r0 : BitVec 32) (v132_23_r0 : BitVec 32) (k0_hw13 : k0_chk13 v132_24_r0 v132_23_r0), ∀ a, (k0_off96 v132_24_r0 v132_23_r0) a + S1x512x128.size a ≤ S4x8192x128.size a := fun v132_24_r0 v132_23_r0 k0_hw13 => k0_hw13.2.2.2

def k0_off97 (v132_22_r0 : BitVec 32) : Fin 4 → Nat :=
  let c2_i32_219_r0 : BitVec 32 := 2#32
  let v199_r0 : BitVec 32 := Scalar.remui v132_22_r0 c2_i32_219_r0
  let c0_i32_223_r0 : BitVec 32 := 0#32
  let c0_i32_224_r0 : BitVec 32 := 0#32
  let c0_i32_225_r0 : BitVec 32 := 0#32
  ![v199_r0.toNat, 0, 0, 0]

def k0_chk15 (v132_22_r0 : BitVec 32) : Prop :=
  (∀ a, (k0_off95 v132_22_r0) a + S1.size a ≤ S2.size a) ∧
  (∀ a, (k0_off97 v132_22_r0) a + S1x1x512x128.size a ≤ S2x1x512x128.size a)
theorem k0_off95_inb : ∀ (v132_22_r0 : BitVec 32) (k0_hw15 : k0_chk15 v132_22_r0), ∀ a, (k0_off95 v132_22_r0) a + S1.size a ≤ S2.size a := fun v132_22_r0 k0_hw15 => k0_hw15.1
theorem k0_off97_inb : ∀ (v132_22_r0 : BitVec 32) (k0_hw15 : k0_chk15 v132_22_r0), ∀ a, (k0_off97 v132_22_r0) a + S1x1x512x128.size a ≤ S2x1x512x128.size a := fun v132_22_r0 k0_hw15 => k0_hw15.2
-- ==== ReferenceIdeal.lean ====
abbrev S4x8192x256 : Shape := ⟨3, ![4, 8192, 256]⟩
abbrev S4x8192x512 : Shape := ⟨3, ![4, 8192, 512]⟩
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S1024x16 : Shape := ⟨2, ![1024, 16]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16 : Shape := ⟨3, ![4, 8192, 16]⟩
abbrev S4x8192x128 : Shape := ⟨3, ![4, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x256, .bf16⟩
  | .hbm, ⟨1, _⟩ => ⟨S4x8192x512, .bf16⟩
  | .hbm, ⟨2, _⟩ => ⟨S4x8192x256, .bf16⟩
  | .hbm, ⟨3, _⟩ => ⟨S4x8192x1024, .f32⟩
  | .hbm, ⟨4, _⟩ => ⟨S1024x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S1024, .f32⟩
  | .hbm, ⟨9, _⟩ => ⟨S1024x16, .f32⟩
  | .hbm, ⟨10, _⟩ => ⟨S4x8192x256, .f32⟩
  | .hbm, ⟨11, _⟩ => ⟨S4x8192x512, .f32⟩
  | .hbm, ⟨12, _⟩ => ⟨S4x8192x256, .f32⟩
  | .hbm, ⟨13, _⟩ => ⟨S4x8192x1024, .f32⟩
  | .hbm, ⟨14, _⟩ => ⟨S4x1x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S4x1x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x8192x1024, .f32⟩
  | .hbm, ⟨40, _⟩ => ⟨S4x8192x1024, .f32⟩
  | .hbm, ⟨41, _⟩ => ⟨S4x1x1024, .f32⟩
  | .hbm, ⟨42, _⟩ => ⟨S4x8192x1024, .f32⟩
  | .hbm, ⟨43, _⟩ => ⟨S4x8192x1024, .f32⟩
  | .hbm, ⟨44, _⟩ => ⟨S4x8192x16, .f32⟩
  | .hbm, ⟨45, _⟩ => ⟨S4x8192x1024, .bf16⟩
  | .hbm, ⟨46, _⟩ => ⟨S_, .i32⟩
  | .hbm, ⟨47, _⟩ => ⟨S_, .f32⟩
  | .hbm, ⟨48, _⟩ => ⟨S4x8192x128, .f32⟩
  | _, _ => ⟨S4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call0_v0 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x128 : Shape := ⟨3, ![4, 8192, 128]⟩
abbrev S16 : Shape := ⟨1, ![16]⟩
abbrev S16x1024x256 : Shape := ⟨3, ![16, 1024, 256]⟩
abbrev S16x256x1024 : Shape := ⟨3, ![16, 256, 1024]⟩
abbrev S4x1024 : Shape := ⟨2, ![4, 1024]⟩
abbrev S1024 : Shape := ⟨1, ![1024]⟩
abbrev S_ : Shape := ⟨0, ![]⟩
abbrev S128 : Shape := ⟨1, ![128]⟩
abbrev S1x128 : Shape := ⟨2, ![1, 128]⟩
abbrev S16x1024x512 : Shape := ⟨3, ![16, 1024, 512]⟩
abbrev S1x1024 : Shape := ⟨2, ![1, 1024]⟩
abbrev S32768x1024 : Shape := ⟨2, ![32768, 1024]⟩
abbrev S32768x128 : Shape := ⟨2, ![32768, 128]⟩
abbrev S4x1x1024 : Shape := ⟨3, ![4, 1, 1024]⟩
abbrev S512x1024 : Shape := ⟨2, ![512, 1024]⟩
abbrev S512x128 : Shape := ⟨2, ![512, 128]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩

abbrev nBuf : Space → Nat
  | .hbm => 22
  | .vmem => 17
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x128, .f32⟩
  | .hbm, ⟨2, _⟩ => ⟨S16, .f32⟩
  | .hbm, ⟨3, _⟩ => ⟨S4x8192x1024, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S4x1024, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S16x1024x512, .f32⟩
  | .hbm, ⟨14, _⟩ => ⟨S16x1024x512, .bf16⟩
  | .hbm, ⟨15, _⟩ => ⟨S16x256x1024, .bf16⟩
  | .hbm, ⟨16, _⟩ => ⟨S1x1024, .f32⟩
  | .hbm, ⟨17, _⟩ => ⟨S32768x1024, .bf16⟩
  | .hbm, ⟨18, _⟩ => ⟨S32768x128, .f32⟩
  | .hbm, ⟨19, _⟩ => ⟨S32768x1024, .f32⟩
  | .hbm, ⟨20, _⟩ => ⟨S4x1x1024, .f32⟩
  | .hbm, ⟨21, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S16x1024x512, .bf16⟩
  | .local _ .vmem, ⟨10, _⟩ => ⟨S16x256x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x8192x1024 : Shape := ⟨3, ![4, 8192, 1024]⟩
abbrev S4x8192x128 : Shape := ⟨3, ![4, 8192, 128]⟩
abbrev S16 : Shape := ⟨1, ![16]⟩
abbrev S16x1024x256 : Shape := ⟨3, ![16, 1024, 256]⟩
abbrev S16x256x1024 : Shape := ⟨3, ![16, 256, 1024]⟩
abbrev S4x1024 : Shape := ⟨2, ![4, 1024]⟩
abbrev S1024 : Shape := ⟨1, ![1024]⟩
abbrev S32768x1024 : Shape := ⟨2, ![32768, 1024]⟩
abbrev S32768x128 : Shape := ⟨2, ![32768, 128]⟩
abbrev S32768x16 : Shape := ⟨2, ![32768, 16]⟩
abbrev S_ : Shape := ⟨0, ![]⟩
abbrev S1x16 : Shape := ⟨2, ![1, 16]⟩
abbrev S32768x4x4 : Shape := ⟨3, ![32768, 4, 4]⟩
abbrev S32768x4x2 : Shape := ⟨3, ![32768, 4, 2]⟩
abbrev S32768x4 : Shape := ⟨2, ![32768, 4]⟩
abbrev S32768x1 : Shape := ⟨2, ![32768, 1]⟩
abbrev S32768 : Shape := ⟨1, ![32768]⟩
abbrev S32768x2 : Shape := ⟨2, ![32768, 2]⟩
abbrev S32768x2x1 : Shape := ⟨3, ![32768, 2, 1]⟩
abbrev S1 : Shape := ⟨1, ![1]⟩
abbrev S1x1x1 : Shape := ⟨3, ![1, 1, 1]⟩
abbrev S1x1x16 : Shape := ⟨3, ![1, 1, 16]⟩
abbrev S32768x2x16 : Shape := ⟨3, ![32768, 2, 16]⟩
abbrev S1x1024x256 : Shape := ⟨3, ![1, 1024, 256]⟩
abbrev S1024x256 : Shape := ⟨2, ![1024, 256]⟩
abbrev S32768x256 : Shape := ⟨2, ![32768, 256]⟩
abbrev S1x256x1024 : Shape := ⟨3, ![1, 256, 1024]⟩
abbrev S256x1024 : Shape := ⟨2, ![256, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 492
  | .vmem => 0
  | .smem => 0
  | _ => 0

abbrev hbmTy0_0 (i : Nat) : BufTy := match i % 128 with
  | 0 => ⟨S4x8192x1024, .bf16⟩
  | 1 => ⟨S4x8192x128, .f32⟩
  | 2 => ⟨S16, .f32⟩
  | 3 => ⟨S4x8192x1024, .f32⟩
  | 4 => ⟨S16x1024x256, .f32⟩
  | 5 => ⟨S16x1024x256, .f32⟩
  | 6 => ⟨S16x256x1024, .f32⟩
  | 7 => ⟨S4x1024, .f32⟩
  | 8 => ⟨S1024, .f32⟩
  | 9 => ⟨S4x8192x1024, .f32⟩
  | 10 => ⟨S32768x1024, .f32⟩
  | 11 => ⟨S32768x128, .f32⟩
  | 12 => ⟨S32768x16, .f32⟩
  | 13 => ⟨S32768x16, .f32⟩
  | 14 => ⟨S32768x16, .f32⟩
  | 15 => ⟨S_, .f32⟩
  | 16 => ⟨S32768x16, .f32⟩
  | 17 => ⟨S32768x16, .f32⟩
  | 18 => ⟨S_, .f32⟩
  | 19 => ⟨S32768x16, .f32⟩
  | 20 => ⟨S32768x16, .f32⟩
  | 21 => ⟨S1x16, .f32⟩
  | 22 => ⟨S32768x16, .f32⟩
  | 23 => ⟨S32768x16, .f32⟩
  | 24 => ⟨S32768x4x4, .f32⟩
  | 25 => ⟨S32768x4x2, .f32⟩
  | 26 => ⟨S32768x4x2, .i32⟩
  | 27 => ⟨S_, .f32⟩
  | 28 => ⟨S32768x4, .f32⟩
  | 29 => ⟨S32768x1, .f32⟩
  | 30 => ⟨S32768x1, .i32⟩
  | 31 => ⟨S32768, .i32⟩
  | 32 => ⟨S16, .i32⟩
  | 33 => ⟨S_, .i32⟩
  | 34 => ⟨S_, .i32⟩
  | 35 => ⟨S16, .i32⟩
  | 36 => ⟨S16, .i32⟩
  | 37 => ⟨S16, .i32⟩
  | 38 => ⟨S_, .i32⟩
  | 39 => ⟨S16, .i32⟩
  | 40 => ⟨S16, .i1⟩
  | 41 => ⟨S16, .i32⟩
  | 42 => ⟨S16, .i32⟩
  | 43 => ⟨S_, .i32⟩
  | 44 => ⟨S16, .i32⟩
  | 45 => ⟨S16, .i1⟩
  | 46 => ⟨S16, .i1⟩
  | 47 => ⟨S_, .i32⟩
  | 48 => ⟨S16, .i32⟩
  | 49 => ⟨S16, .i32⟩
  | 50 => ⟨S16, .i32⟩
  | 51 => ⟨S1x16, .i32⟩
  | 52 => ⟨S32768x1, .i32⟩
  | 53 => ⟨S32768x16, .i32⟩
  | 54 => ⟨S32768x16, .i32⟩
  | 55 => ⟨S32768x16, .i1⟩
  | 56 => ⟨S_, .f32⟩
  | 57 => ⟨S_, .f32⟩
  | 58 => ⟨S32768x16, .f32⟩
  | 59 => ⟨S32768x16, .f32⟩
  | 60 => ⟨S32768x2, .f32⟩
  | 61 => ⟨S32768x2, .i32⟩
  | 62 => ⟨S_, .i32⟩
  | 63 => ⟨S32768x2, .i32⟩
  | 64 => ⟨S32768x2, .i1⟩
  | 65 => ⟨S_, .i32⟩
  | 66 => ⟨S32768x2, .i32⟩
  | 67 => ⟨S32768x2, .i32⟩
  | 68 => ⟨S32768x2, .i32⟩
  | 69 => ⟨S32768x2x1, .i32⟩
  | 70 => ⟨S1, .i32⟩
  | 71 => ⟨S_, .i32⟩
  | 72 => ⟨S32768x2x1, .i32⟩
  | 73 => ⟨S32768x2x1, .i1⟩
  | 74 => ⟨S1x1x1, .i32⟩
  | 75 => ⟨S32768x2x1, .i32⟩
  | 76 => ⟨S32768x2x1, .i1⟩
  | 77 => ⟨S32768x2x1, .i1⟩
  | 78 => ⟨S_, .i1⟩
  | 79 => ⟨S32768x2, .i1⟩
  | 80 => ⟨S32768x2, .f32⟩
  | 81 => ⟨S_, .f32⟩
  | 82 => ⟨S32768x2, .f32⟩
  | 83 => ⟨S32768x2, .f32⟩
  | 84 => ⟨S_, .f32⟩
  | 85 => ⟨S32768, .f32⟩
  | 86 => ⟨S32768x1, .f32⟩
  | 87 => ⟨S32768x2, .f32⟩
  | 88 => ⟨S32768x2, .f32⟩
  | 89 => ⟨S32768x2x1, .i32⟩
  | 90 => ⟨S1x1x16, .i32⟩
  | 91 => ⟨S32768x2x16, .i32⟩
  | 92 => ⟨S32768x2x16, .i32⟩
  | 93 => ⟨S32768x2x16, .i1⟩
  | 94 => ⟨S32768x2x16, .f32⟩
  | 95 => ⟨S32768x2x1, .f32⟩
  | 96 => ⟨S32768x2x16, .f32⟩
  | 97 => ⟨S32768x2x16, .f32⟩
  | 98 => ⟨S_, .f32⟩
  | 99 => ⟨S32768x16, .f32⟩
  | 100 => ⟨S_, .f32⟩
  | 101 => ⟨S32768x1024, .f32⟩
  | 102 => ⟨S1x1024x256, .f32⟩
  | 103 => ⟨S1024x256, .f32⟩
  | 104 => ⟨S32768x256, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S_, .f32⟩
  | 111 => ⟨S32768x256, .f32⟩
  | 112 => ⟨S32768x256, .f32⟩
  | 113 => ⟨S32768x256, .f32⟩
  | 114 => ⟨S1x1024x256, .f32⟩
  | 115 => ⟨S1024x256, .f32⟩
  | 116 => ⟨S32768x256, .f32⟩
  | 117 => ⟨S32768x256, .f32⟩
  | 118 => ⟨S1x256x1024, .f32⟩
  | 119 => ⟨S256x1024, .f32⟩
  | 120 => ⟨S32768x1024, .f32⟩
  | 121 => ⟨S32768x1, .f32⟩
  | 122 => ⟨S32768x1024, .f32⟩
  | 123 => ⟨S32768x1024, .f32⟩
  | 124 => ⟨S32768x1024, .f32⟩
  | 125 => ⟨S1x1024x256, .f32⟩
  | 126 => ⟨S1024x256, .f32⟩
  | 127 => ⟨S32768x256, .f32⟩
  | _ => ⟨S4x8192x1024, .bf16⟩

abbrev hbmTy0_1 (i : Nat) : BufTy := match i % 128 with
  | 0 => ⟨S32768x256, .f32⟩
  | 1 => ⟨S32768x256, .f32⟩
  | 2 => ⟨S_, .f32⟩
  | 3 => ⟨S32768x256, .f32⟩
  | 4 => ⟨S32768x256, .f32⟩
  | 5 => ⟨S_, .f32⟩
  | 6 => ⟨S32768x256, .f32⟩
  | 7 => ⟨S32768x256, .f32⟩
  | 8 => ⟨S32768x256, .f32⟩
  | 9 => ⟨S1x1024x256, .f32⟩
  | 10 => ⟨S1024x256, .f32⟩
  | 11 => ⟨S32768x256, .f32⟩
  | 12 => ⟨S32768x256, .f32⟩
  | 13 => ⟨S1x256x1024, .f32⟩
  | 14 => ⟨S256x1024, .f32⟩
  | 15 => ⟨S32768x1024, .f32⟩
  | 16 => ⟨S32768x1, .f32⟩
  | 17 => ⟨S32768x1024, .f32⟩
  | 18 => ⟨S32768x1024, .f32⟩
  | 19 => ⟨S32768x1024, .f32⟩
  | 20 => ⟨S1x1024x256, .f32⟩
  | 21 => ⟨S1024x256, .f32⟩
  | 22 => ⟨S32768x256, .f32⟩
  | 23 => ⟨S32768x256, .f32⟩
  | 24 => ⟨S32768x256, .f32⟩
  | 25 => ⟨S_, .f32⟩
  | 26 => ⟨S32768x256, .f32⟩
  | 27 => ⟨S32768x256, .f32⟩
  | 28 => ⟨S_, .f32⟩
  | 29 => ⟨S32768x256, .f32⟩
  | 30 => ⟨S32768x256, .f32⟩
  | 31 => ⟨S32768x256, .f32⟩
  | 32 => ⟨S1x1024x256, .f32⟩
  | 33 => ⟨S1024x256, .f32⟩
  | 34 => ⟨S32768x256, .f32⟩
  | 35 => ⟨S32768x256, .f32⟩
  | 36 => ⟨S1x256x1024, .f32⟩
  | 37 => ⟨S256x1024, .f32⟩
  | 38 => ⟨S32768x1024, .f32⟩
  | 39 => ⟨S32768x1, .f32⟩
  | 40 => ⟨S32768x1024, .f32⟩
  | 41 => ⟨S32768x1024, .f32⟩
  | 42 => ⟨S32768x1024, .f32⟩
  | 43 => ⟨S1x1024x256, .f32⟩
  | 44 => ⟨S1024x256, .f32⟩
  | 45 => ⟨S32768x256, .f32⟩
  | 46 => ⟨S32768x256, .f32⟩
  | 47 => ⟨S32768x256, .f32⟩
  | 48 => ⟨S_, .f32⟩
  | 49 => ⟨S32768x256, .f32⟩
  | 50 => ⟨S32768x256, .f32⟩
  | 51 => ⟨S_, .f32⟩
  | 52 => ⟨S32768x256, .f32⟩
  | 53 => ⟨S32768x256, .f32⟩
  | 54 => ⟨S32768x256, .f32⟩
  | 55 => ⟨S1x1024x256, .f32⟩
  | 56 => ⟨S1024x256, .f32⟩
  | 57 => ⟨S32768x256, .f32⟩
  | 58 => ⟨S32768x256, .f32⟩
  | 59 => ⟨S1x256x1024, .f32⟩
  | 60 => ⟨S256x1024, .f32⟩
  | 61 => ⟨S32768x1024, .f32⟩
  | 62 => ⟨S32768x1, .f32⟩
  | 63 => ⟨S32768x1024, .f32⟩
  | 64 => ⟨S32768x1024, .f32⟩
  | 65 => ⟨S32768x1024, .f32⟩
  | 66 => ⟨S1x1024x256, .f32⟩
  | 67 => ⟨S1024x256, .f32⟩
  | 68 => ⟨S32768x256, .f32⟩
  | 69 => ⟨S32768x256, .f32⟩
  | 70 => ⟨S32768x256, .f32⟩
  | 71 => ⟨S_, .f32⟩
  | 72 => ⟨S32768x256, .f32⟩
  | 73 => ⟨S32768x256, .f32⟩
  | 74 => ⟨S_, .f32⟩
  | 75 => ⟨S32768x256, .f32⟩
  | 76 => ⟨S32768x256, .f32⟩
  | 77 => ⟨S32768x256, .f32⟩
  | 78 => ⟨S1x1024x256, .f32⟩
  | 79 => ⟨S1024x256, .f32⟩
  | 80 => ⟨S32768x256, .f32⟩
  | 81 => ⟨S32768x256, .f32⟩
  | 82 => ⟨S1x256x1024, .f32⟩
  | 83 => ⟨S256x1024, .f32⟩
  | 84 => ⟨S32768x1024, .f32⟩
  | 85 => ⟨S32768x1, .f32⟩
  | 86 => ⟨S32768x1024, .f32⟩
  | 87 => ⟨S32768x1024, .f32⟩
  | 88 => ⟨S32768x1024, .f32⟩
  | 89 => ⟨S1x1024x256, .f32⟩
  | 90 => ⟨S1024x256, .f32⟩
  | 91 => ⟨S32768x256, .f32⟩
  | 92 => ⟨S32768x256, .f32⟩
  | 93 => ⟨S32768x256, .f32⟩
  | 94 => ⟨S_, .f32⟩
  | 95 => ⟨S32768x256, .f32⟩
  | 96 => ⟨S32768x256, .f32⟩
  | 97 => ⟨S_, .f32⟩
  | 98 => ⟨S32768x256, .f32⟩
  | 99 => ⟨S32768x256, .f32⟩
  | 100 => ⟨S32768x256, .f32⟩
  | 101 => ⟨S1x1024x256, .f32⟩
  | 102 => ⟨S1024x256, .f32⟩
  | 103 => ⟨S32768x256, .f32⟩
  | 104 => ⟨S32768x256, .f32⟩
  | 105 => ⟨S1x256x1024, .f32⟩
  | 106 => ⟨S256x1024, .f32⟩
  | 107 => ⟨S32768x1024, .f32⟩
  | 108 => ⟨S32768x1, .f32⟩
  | 109 => ⟨S32768x1024, .f32⟩
  | 110 => ⟨S32768x1024, .f32⟩
  | 111 => ⟨S32768x1024, .f32⟩
  | 112 => ⟨S1x1024x256, .f32⟩
  | 113 => ⟨S1024x256, .f32⟩
  | 114 => ⟨S32768x256, .f32⟩
  | 115 => ⟨S32768x256, .f32⟩
  | 116 => ⟨S32768x256, .f32⟩
  | 117 => ⟨S_, .f32⟩
  | 118 => ⟨S32768x256, .f32⟩
  | 119 => ⟨S32768x256, .f32⟩
  | 120 => ⟨S_, .f32⟩
  | 121 => ⟨S32768x256, .f32⟩
  | 122 => ⟨S32768x256, .f32⟩
  | 123 => ⟨S32768x256, .f32⟩
  | 124 => ⟨S1x1024x256, .f32⟩
  | 125 => ⟨S1024x256, .f32⟩
  | 126 => ⟨S32768x256, .f32⟩
  | 127 => ⟨S32768x256, .f32⟩
  | _ => ⟨S4x8192x1024, .bf16⟩

abbrev hbmTy0_2 (i : Nat) : BufTy := match i % 128 with
  | 0 => ⟨S1x256x1024, .f32⟩
  | 1 => ⟨S256x1024, .f32⟩
  | 2 => ⟨S32768x1024, .f32⟩
  | 3 => ⟨S32768x1, .f32⟩
  | 4 => ⟨S32768x1024, .f32⟩
  | 5 => ⟨S32768x1024, .f32⟩
  | 6 => ⟨S32768x1024, .f32⟩
  | 7 => ⟨S1x1024x256, .f32⟩
  | 8 => ⟨S1024x256, .f32⟩
  | 9 => ⟨S32768x256, .f32⟩
  | 10 => ⟨S32768x256, .f32⟩
  | 11 => ⟨S32768x256, .f32⟩
  | 12 => ⟨S_, .f32⟩
  | 13 => ⟨S32768x256, .f32⟩
  | 14 => ⟨S32768x256, .f32⟩
  | 15 => ⟨S_, .f32⟩
  | 16 => ⟨S32768x256, .f32⟩
  | 17 => ⟨S32768x256, .f32⟩
  | 18 => ⟨S32768x256, .f32⟩
  | 19 => ⟨S1x1024x256, .f32⟩
  | 20 => ⟨S1024x256, .f32⟩
  | 21 => ⟨S32768x256, .f32⟩
  | 22 => ⟨S32768x256, .f32⟩
  | 23 => ⟨S1x256x1024, .f32⟩
  | 24 => ⟨S256x1024, .f32⟩
  | 25 => ⟨S32768x1024, .f32⟩
  | 26 => ⟨S32768x1, .f32⟩
  | 27 => ⟨S32768x1024, .f32⟩
  | 28 => ⟨S32768x1024, .f32⟩
  | 29 => ⟨S32768x1024, .f32⟩
  | 30 => ⟨S1x1024x256, .f32⟩
  | 31 => ⟨S1024x256, .f32⟩
  | 32 => ⟨S32768x256, .f32⟩
  | 33 => ⟨S32768x256, .f32⟩
  | 34 => ⟨S32768x256, .f32⟩
  | 35 => ⟨S_, .f32⟩
  | 36 => ⟨S32768x256, .f32⟩
  | 37 => ⟨S32768x256, .f32⟩
  | 38 => ⟨S_, .f32⟩
  | 39 => ⟨S32768x256, .f32⟩
  | 40 => ⟨S32768x256, .f32⟩
  | 41 => ⟨S32768x256, .f32⟩
  | 42 => ⟨S1x1024x256, .f32⟩
  | 43 => ⟨S1024x256, .f32⟩
  | 44 => ⟨S32768x256, .f32⟩
  | 45 => ⟨S32768x256, .f32⟩
  | 46 => ⟨S1x256x1024, .f32⟩
  | 47 => ⟨S256x1024, .f32⟩
  | 48 => ⟨S32768x1024, .f32⟩
  | 49 => ⟨S32768x1, .f32⟩
  | 50 => ⟨S32768x1024, .f32⟩
  | 51 => ⟨S32768x1024, .f32⟩
  | 52 => ⟨S32768x1024, .f32⟩
  | 53 => ⟨S1x1024x256, .f32⟩
  | 54 => ⟨S1024x256, .f32⟩
  | 55 => ⟨S32768x256, .f32⟩
  | 56 => ⟨S32768x256, .f32⟩
  | 57 => ⟨S32768x256, .f32⟩
  | 58 => ⟨S_, .f32⟩
  | 59 => ⟨S32768x256, .f32⟩
  | 60 => ⟨S32768x256, .f32⟩
  | 61 => ⟨S_, .f32⟩
  | 62 => ⟨S32768x256, .f32⟩
  | 63 => ⟨S32768x256, .f32⟩
  | 64 => ⟨S32768x256, .f32⟩
  | 65 => ⟨S1x1024x256, .f32⟩
  | 66 => ⟨S1024x256, .f32⟩
  | 67 => ⟨S32768x256, .f32⟩
  | 68 => ⟨S32768x256, .f32⟩
  | 69 => ⟨S1x256x1024, .f32⟩
  | 70 => ⟨S256x1024, .f32⟩
  | 71 => ⟨S32768x1024, .f32⟩
  | 72 => ⟨S32768x1, .f32⟩
  | 73 => ⟨S32768x1024, .f32⟩
  | 74 => ⟨S32768x1024, .f32⟩
  | 75 => ⟨S32768x1024, .f32⟩
  | 76 => ⟨S1x1024x256, .f32⟩
  | 77 => ⟨S1024x256, .f32⟩
  | 78 => ⟨S32768x256, .f32⟩
  | 79 => ⟨S32768x256, .f32⟩
  | 80 => ⟨S32768x256, .f32⟩
  | 81 => ⟨S_, .f32⟩
  | 82 => ⟨S32768x256, .f32⟩
  | 83 => ⟨S32768x256, .f32⟩
  | 84 => ⟨S_, .f32⟩
  | 85 => ⟨S32768x256, .f32⟩
  | 86 => ⟨S32768x256, .f32⟩
  | 87 => ⟨S32768x256, .f32⟩
  | 88 => ⟨S1x1024x256, .f32⟩
  | 89 => ⟨S1024x256, .f32⟩
  | 90 => ⟨S32768x256, .f32⟩
  | 91 => ⟨S32768x256, .f32⟩
  | 92 => ⟨S1x256x1024, .f32⟩
  | 93 => ⟨S256x1024, .f32⟩
  | 94 => ⟨S32768x1024, .f32⟩
  | 95 => ⟨S32768x1, .f32⟩
  | 96 => ⟨S32768x1024, .f32⟩
  | 97 => ⟨S32768x1024, .f32⟩
  | 98 => ⟨S32768x1024, .f32⟩
  | 99 => ⟨S1x1024x256, .f32⟩
  | 100 => ⟨S1024x256, .f32⟩
  | 101 => ⟨S32768x256, .f32⟩
  | 102 => ⟨S32768x256, .f32⟩
  | 103 => ⟨S32768x256, .f32⟩
  | 104 => ⟨S_, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S32768x256, .f32⟩
  | 111 => ⟨S1x1024x256, .f32⟩
  | 112 => ⟨S1024x256, .f32⟩
  | 113 => ⟨S32768x256, .f32⟩
  | 114 => ⟨S32768x256, .f32⟩
  | 115 => ⟨S1x256x1024, .f32⟩
  | 116 => ⟨S256x1024, .f32⟩
  | 117 => ⟨S32768x1024, .f32⟩
  | 118 => ⟨S32768x1, .f32⟩
  | 119 => ⟨S32768x1024, .f32⟩
  | 120 => ⟨S32768x1024, .f32⟩
  | 121 => ⟨S32768x1024, .f32⟩
  | 122 => ⟨S1x1024x256, .f32⟩
  | 123 => ⟨S1024x256, .f32⟩
  | 124 => ⟨S32768x256, .f32⟩
  | 125 => ⟨S32768x256, .f32⟩
  | 126 => ⟨S32768x256, .f32⟩
  | 127 => ⟨S_, .f32⟩
  | _ => ⟨S4x8192x1024, .bf16⟩

abbrev hbmTy0_3 (i : Nat) : BufTy := match i % 128 with
  | 0 => ⟨S32768x256, .f32⟩
  | 1 => ⟨S32768x256, .f32⟩
  | 2 => ⟨S_, .f32⟩
  | 3 => ⟨S32768x256, .f32⟩
  | 4 => ⟨S32768x256, .f32⟩
  | 5 => ⟨S32768x256, .f32⟩
  | 6 => ⟨S1x1024x256, .f32⟩
  | 7 => ⟨S1024x256, .f32⟩
  | 8 => ⟨S32768x256, .f32⟩
  | 9 => ⟨S32768x256, .f32⟩
  | 10 => ⟨S1x256x1024, .f32⟩
  | 11 => ⟨S256x1024, .f32⟩
  | 12 => ⟨S32768x1024, .f32⟩
  | 13 => ⟨S32768x1, .f32⟩
  | 14 => ⟨S32768x1024, .f32⟩
  | 15 => ⟨S32768x1024, .f32⟩
  | 16 => ⟨S32768x1024, .f32⟩
  | 17 => ⟨S1x1024x256, .f32⟩
  | 18 => ⟨S1024x256, .f32⟩
  | 19 => ⟨S32768x256, .f32⟩
  | 20 => ⟨S32768x256, .f32⟩
  | 21 => ⟨S32768x256, .f32⟩
  | 22 => ⟨S_, .f32⟩
  | 23 => ⟨S32768x256, .f32⟩
  | 24 => ⟨S32768x256, .f32⟩
  | 25 => ⟨S_, .f32⟩
  | 26 => ⟨S32768x256, .f32⟩
  | 27 => ⟨S32768x256, .f32⟩
  | 28 => ⟨S32768x256, .f32⟩
  | 29 => ⟨S1x1024x256, .f32⟩
  | 30 => ⟨S1024x256, .f32⟩
  | 31 => ⟨S32768x256, .f32⟩
  | 32 => ⟨S32768x256, .f32⟩
  | 33 => ⟨S1x256x1024, .f32⟩
  | 34 => ⟨S256x1024, .f32⟩
  | 35 => ⟨S32768x1024, .f32⟩
  | 36 => ⟨S32768x1, .f32⟩
  | 37 => ⟨S32768x1024, .f32⟩
  | 38 => ⟨S32768x1024, .f32⟩
  | 39 => ⟨S32768x1024, .f32⟩
  | 40 => ⟨S1x1024x256, .f32⟩
  | 41 => ⟨S1024x256, .f32⟩
  | 42 => ⟨S32768x256, .f32⟩
  | 43 => ⟨S32768x256, .f32⟩
  | 44 => ⟨S32768x256, .f32⟩
  | 45 => ⟨S_, .f32⟩
  | 46 => ⟨S32768x256, .f32⟩
  | 47 => ⟨S32768x256, .f32⟩
  | 48 => ⟨S_, .f32⟩
  | 49 => ⟨S32768x256, .f32⟩
  | 50 => ⟨S32768x256, .f32⟩
  | 51 => ⟨S32768x256, .f32⟩
  | 52 => ⟨S1x1024x256, .f32⟩
  | 53 => ⟨S1024x256, .f32⟩
  | 54 => ⟨S32768x256, .f32⟩
  | 55 => ⟨S32768x256, .f32⟩
  | 56 => ⟨S1x256x1024, .f32⟩
  | 57 => ⟨S256x1024, .f32⟩
  | 58 => ⟨S32768x1024, .f32⟩
  | 59 => ⟨S32768x1, .f32⟩
  | 60 => ⟨S32768x1024, .f32⟩
  | 61 => ⟨S32768x1024, .f32⟩
  | 62 => ⟨S32768x1024, .f32⟩
  | 63 => ⟨S1x1024x256, .f32⟩
  | 64 => ⟨S1024x256, .f32⟩
  | 65 => ⟨S32768x256, .f32⟩
  | 66 => ⟨S32768x256, .f32⟩
  | 67 => ⟨S32768x256, .f32⟩
  | 68 => ⟨S_, .f32⟩
  | 69 => ⟨S32768x256, .f32⟩
  | 70 => ⟨S32768x256, .f32⟩
  | 71 => ⟨S_, .f32⟩
  | 72 => ⟨S32768x256, .f32⟩
  | 73 => ⟨S32768x256, .f32⟩
  | 74 => ⟨S32768x256, .f32⟩
  | 75 => ⟨S1x1024x256, .f32⟩
  | 76 => ⟨S1024x256, .f32⟩
  | 77 => ⟨S32768x256, .f32⟩
  | 78 => ⟨S32768x256, .f32⟩
  | 79 => ⟨S1x256x1024, .f32⟩
  | 80 => ⟨S256x1024, .f32⟩
  | 81 => ⟨S32768x1024, .f32⟩
  | 82 => ⟨S32768x1, .f32⟩
  | 83 => ⟨S32768x1024, .f32⟩
  | 84 => ⟨S32768x1024, .f32⟩
  | 85 => ⟨S32768x1024, .f32⟩
  | 86 => ⟨S4x1x1024, .f32⟩
  | 87 => ⟨S4x8192x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S_, .f32⟩
  | 93 => ⟨S4x8192, .f32⟩
  | 94 => ⟨S4x8192x1, .f32⟩
  | 95 => ⟨S_, .f32⟩
  | 96 => ⟨S4x8192x1, .f32⟩
  | 97 => ⟨S4x8192x1, .f32⟩
  | 98 => ⟨S_, .f32⟩
  | 99 => ⟨S4x8192x1, .f32⟩
  | 100 => ⟨S4x8192x1, .f32⟩
  | 101 => ⟨S4x8192x1, .f32⟩
  | 102 => ⟨S4x8192x1024, .f32⟩
  | 103 => ⟨S4x8192x1024, .f32⟩
  | 104 => ⟨S1x1x1024, .f32⟩
  | 105 => ⟨S4x8192x1024, .f32⟩
  | 106 => ⟨S4x8192x1024, .f32⟩
  | 107 => ⟨S32768x1024, .f32⟩
  | _ => ⟨S4x8192x1024, .bf16⟩

abbrev hbmTy (i : Nat) : BufTy := match i / 128 with
  | 0 => hbmTy0_0 i
  | 1 => hbmTy0_1 i
  | 2 => hbmTy0_2 i
  | 3 => hbmTy0_3 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_values : Ref sig .tc := ⟨.hbm, 25, rfl⟩
abbrev main_indices : Ref sig .tc := ⟨.hbm, 26, rfl⟩
abbrev main_cst_1 : Ref sig .tc := ⟨.hbm, 27, rfl⟩
abbrev main_v14 : Ref sig .tc := ⟨.hbm, 28, rfl⟩
abbrev main_values_2 : Ref sig .tc := ⟨.hbm, 29, rfl⟩
abbrev main_indices_3 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_v23 : Ref sig .tc := ⟨.hbm, 59, rfl⟩
abbrev main_values_5 : Ref sig .tc := ⟨.hbm, 60, rfl⟩
abbrev main_indices_6 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v24 : Ref sig .tc := ⟨.hbm, 83, rfl⟩
abbrev main_cst_7 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_cst_8 : Ref sig .tc := ⟨.hbm, 98, rfl⟩
abbrev main_v33 : Ref sig .tc := ⟨.hbm, 99, rfl⟩
abbrev main_cst_9 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_call4_v0 : Ref sig .tc := ⟨.hbm, 105, rfl⟩
abbrev main_call4_v1 : Ref sig .tc := ⟨.hbm, 106, rfl⟩
abbrev main_call4_cst : Ref sig .tc := ⟨.hbm, 107, rfl⟩
abbrev main_call4_v2 : Ref sig .tc := ⟨.hbm, 108, rfl⟩
abbrev main_call4_v3 : Ref sig .tc := ⟨.hbm, 109, rfl⟩
abbrev main_call4_cst_0 : Ref sig .tc := ⟨.hbm, 110, rfl⟩
abbrev main_call4_v4 : Ref sig .tc := ⟨.hbm, 111, rfl⟩
abbrev main_call4_v5 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_call7_v0 : Ref sig .tc := ⟨.hbm, 174, rfl⟩
abbrev main_call7_v1 : Ref sig .tc := ⟨.hbm, 175, rfl⟩
abbrev main_call7_cst : Ref sig .tc := ⟨.hbm, 176, rfl⟩
abbrev main_call7_v2 : Ref sig .tc := ⟨.hbm, 177, rfl⟩
abbrev main_call7_v3 : Ref sig .tc := ⟨.hbm, 178, rfl⟩
abbrev main_call7_cst_0 : Ref sig .tc := ⟨.hbm, 179, rfl⟩
abbrev main_call7_v4 : Ref sig .tc := ⟨.hbm, 180, rfl⟩
abbrev main_call7_v5 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_call8_v0 : Ref sig .tc := ⟨.hbm, 197, rfl⟩
abbrev main_call8_v1 : Ref sig .tc := ⟨.hbm, 198, rfl⟩
abbrev main_call8_cst : Ref sig .tc := ⟨.hbm, 199, rfl⟩
abbrev main_call8_v2 : Ref sig .tc := ⟨.hbm, 200, rfl⟩
abbrev main_call8_v3 : Ref sig .tc := ⟨.hbm, 201, rfl⟩
abbrev main_call8_cst_0 : Ref sig .tc := ⟨.hbm, 202, rfl⟩
abbrev main_call8_v4 : Ref sig .tc := ⟨.hbm, 203, rfl⟩
abbrev main_call8_v5 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_call9_v0 : Ref sig .tc := ⟨.hbm, 220, rfl⟩
abbrev main_call9_v1 : Ref sig .tc := ⟨.hbm, 221, rfl⟩
abbrev main_call9_cst : Ref sig .tc := ⟨.hbm, 222, rfl⟩
abbrev main_call9_v2 : Ref sig .tc := ⟨.hbm, 223, rfl⟩
abbrev main_call9_v3 : Ref sig .tc := ⟨.hbm, 224, rfl⟩
abbrev main_call9_cst_0 : Ref sig .tc := ⟨.hbm, 225, rfl⟩
abbrev main_call9_v4 : Ref sig .tc := ⟨.hbm, 226, rfl⟩
abbrev main_call9_v5 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_call10_v0 : Ref sig .tc := ⟨.hbm, 243, rfl⟩
abbrev main_call10_v1 : Ref sig .tc := ⟨.hbm, 244, rfl⟩
abbrev main_call10_cst : Ref sig .tc := ⟨.hbm, 245, rfl⟩
abbrev main_call10_v2 : Ref sig .tc := ⟨.hbm, 246, rfl⟩
abbrev main_call10_v3 : Ref sig .tc := ⟨.hbm, 247, rfl⟩
abbrev main_call10_cst_0 : Ref sig .tc := ⟨.hbm, 248, rfl⟩
abbrev main_call10_v4 : Ref sig .tc := ⟨.hbm, 249, rfl⟩
abbrev main_call10_v5 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_call11_v0 : Ref sig .tc := ⟨.hbm, 266, rfl⟩
abbrev main_call11_v1 : Ref sig .tc := ⟨.hbm, 267, rfl⟩
abbrev main_call11_cst : Ref sig .tc := ⟨.hbm, 268, rfl⟩
abbrev main_call11_v2 : Ref sig .tc := ⟨.hbm, 269, rfl⟩
abbrev main_call11_v3 : Ref sig .tc := ⟨.hbm, 270, rfl⟩
abbrev main_call11_cst_0 : Ref sig .tc := ⟨.hbm, 271, rfl⟩
abbrev main_call11_v4 : Ref sig .tc := ⟨.hbm, 272, rfl⟩
abbrev main_call11_v5 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_v147 : Ref sig .tc := ⟨.hbm, 278, rfl⟩
abbrev main_v148 : Ref sig .tc := ⟨.hbm, 279, rfl⟩
abbrev main_v149 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_call12_v0 : Ref sig .tc := ⟨.hbm, 289, rfl⟩
abbrev main_call12_v1 : Ref sig .tc := ⟨.hbm, 290, rfl⟩
abbrev main_call12_cst : Ref sig .tc := ⟨.hbm, 291, rfl⟩
abbrev main_call12_v2 : Ref sig .tc := ⟨.hbm, 292, rfl⟩
abbrev main_call12_v3 : Ref sig .tc := ⟨.hbm, 293, rfl⟩
abbrev main_call12_cst_0 : Ref sig .tc := ⟨.hbm, 294, rfl⟩
abbrev main_call12_v4 : Ref sig .tc := ⟨.hbm, 295, rfl⟩
abbrev main_call12_v5 : Ref sig .tc := ⟨.hbm, 296, rfl⟩
abbrev main_v158 : Ref sig .tc := ⟨.hbm, 297, rfl⟩
abbrev main_v159 : Ref sig .tc := ⟨.hbm, 298, rfl⟩
abbrev main_v160 : Ref sig .tc := ⟨.hbm, 299, rfl⟩
abbrev main_v161 : Ref sig .tc := ⟨.hbm, 300, rfl⟩
abbrev main_v162 : Ref sig .tc := ⟨.hbm, 301, rfl⟩
abbrev main_v163 : Ref sig .tc := ⟨.hbm, 302, rfl⟩
abbrev main_v164 : Ref sig .tc := ⟨.hbm, 303, rfl⟩
abbrev main_v165 : Ref sig .tc := ⟨.hbm, 304, rfl⟩
abbrev main_v166 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_call13_v0 : Ref sig .tc := ⟨.hbm, 312, rfl⟩
abbrev main_call13_v1 : Ref sig .tc := ⟨.hbm, 313, rfl⟩
abbrev main_call13_cst : Ref sig .tc := ⟨.hbm, 314, rfl⟩
abbrev main_call13_v2 : Ref sig .tc := ⟨.hbm, 315, rfl⟩
abbrev main_call13_v3 : Ref sig .tc := ⟨.hbm, 316, rfl⟩
abbrev main_call13_cst_0 : Ref sig .tc := ⟨.hbm, 317, rfl⟩
abbrev main_call13_v4 : Ref sig .tc := ⟨.hbm, 318, rfl⟩
abbrev main_call13_v5 : Ref sig .tc := ⟨.hbm, 319, rfl⟩
abbrev main_v173 : Ref sig .tc := ⟨.hbm, 320, rfl⟩
abbrev main_v174 : Ref sig .tc := ⟨.hbm, 321, rfl⟩
abbrev main_v175 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_v181 : Ref sig .tc := ⟨.hbm, 328, rfl⟩
abbrev main_v182 : Ref sig .tc := ⟨.hbm, 329, rfl⟩
abbrev main_v183 : Ref sig .tc := ⟨.hbm, 330, rfl⟩
abbrev main_v184 : Ref sig .tc := ⟨.hbm, 331, rfl⟩
abbrev main_v185 : Ref sig .tc := ⟨.hbm, 332, rfl⟩
abbrev main_v186 : Ref sig .tc := ⟨.hbm, 333, rfl⟩
abbrev main_v187 : Ref sig .tc := ⟨.hbm, 334, rfl⟩
abbrev main_call14_v0 : Ref sig .tc := ⟨.hbm, 335, rfl⟩
abbrev main_call14_v1 : Ref sig .tc := ⟨.hbm, 336, rfl⟩
abbrev main_call14_cst : Ref sig .tc := ⟨.hbm, 337, rfl⟩
abbrev main_call14_v2 : Ref sig .tc := ⟨.hbm, 338, rfl⟩
abbrev main_call14_v3 : Ref sig .tc := ⟨.hbm, 339, rfl⟩
abbrev main_call14_cst_0 : Ref sig .tc := ⟨.hbm, 340, rfl⟩
abbrev main_call14_v4 : Ref sig .tc := ⟨.hbm, 341, rfl⟩
abbrev main_call14_v5 : Ref sig .tc := ⟨.hbm, 342, rfl⟩
abbrev main_v188 : Ref sig .tc := ⟨.hbm, 343, rfl⟩
abbrev main_v189 : Ref sig .tc := ⟨.hbm, 344, rfl⟩
abbrev main_v190 : Ref sig .tc := ⟨.hbm, 345, rfl⟩
abbrev main_v191 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_v195 : Ref sig .tc := ⟨.hbm, 350, rfl⟩
abbrev main_v196 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_v200 : Ref sig .tc := ⟨.hbm, 355, rfl⟩
abbrev main_v201 : Ref sig .tc := ⟨.hbm, 356, rfl⟩
abbrev main_v202 : Ref sig .tc := ⟨.hbm, 357, rfl⟩
abbrev main_call15_v0 : Ref sig .tc := ⟨.hbm, 358, rfl⟩
abbrev main_call15_v1 : Ref sig .tc := ⟨.hbm, 359, rfl⟩
abbrev main_call15_cst : Ref sig .tc := ⟨.hbm, 360, rfl⟩
abbrev main_call15_v2 : Ref sig .tc := ⟨.hbm, 361, rfl⟩
abbrev main_call15_v3 : Ref sig .tc := ⟨.hbm, 362, rfl⟩
abbrev main_call15_cst_0 : Ref sig .tc := ⟨.hbm, 363, rfl⟩
abbrev main_call15_v4 : Ref sig .tc := ⟨.hbm, 364, rfl⟩
abbrev main_call15_v5 : Ref sig .tc := ⟨.hbm, 365, rfl⟩
abbrev main_v203 : Ref sig .tc := ⟨.hbm, 366, rfl⟩
abbrev main_v204 : Ref sig .tc := ⟨.hbm, 367, rfl⟩
abbrev main_v205 : Ref sig .tc := ⟨.hbm, 368, rfl⟩
abbrev main_v206 : Ref sig .tc := ⟨.hbm, 369, rfl⟩
abbrev main_v207 : Ref sig .tc := ⟨.hbm, 370, rfl⟩
abbrev main_v208 : Ref sig .tc := ⟨.hbm, 371, rfl⟩
abbrev main_v209 : Ref sig .tc := ⟨.hbm, 372, rfl⟩
abbrev main_v210 : Ref sig .tc := ⟨.hbm, 373, rfl⟩
abbrev main_v211 : Ref sig .tc := ⟨.hbm, 374, rfl⟩
abbrev main_v212 : Ref sig .tc := ⟨.hbm, 375, rfl⟩
abbrev main_v213 : Ref sig .tc := ⟨.hbm, 376, rfl⟩
abbrev main_v214 : Ref sig .tc := ⟨.hbm, 377, rfl⟩
abbrev main_v215 : Ref sig .tc := ⟨.hbm, 378, rfl⟩
abbrev main_v216 : Ref sig .tc := ⟨.hbm, 379, rfl⟩
abbrev main_v217 : Ref sig .tc := ⟨.hbm, 380, rfl⟩
abbrev main_call16_v0 : Ref sig .tc := ⟨.hbm, 381, rfl⟩
abbrev main_call16_v1 : Ref sig .tc := ⟨.hbm, 382, rfl⟩
abbrev main_call16_cst : Ref sig .tc := ⟨.hbm, 383, rfl⟩
abbrev main_call16_v2 : Ref sig .tc := ⟨.hbm, 384, rfl⟩
abbrev main_call16_v3 : Ref sig .tc := ⟨.hbm, 385, rfl⟩
abbrev main_call16_cst_0 : Ref sig .tc := ⟨.hbm, 386, rfl⟩
abbrev main_call16_v4 : Ref sig .tc := ⟨.hbm, 387, rfl⟩
abbrev main_call16_v5 : Ref sig .tc := ⟨.hbm, 388, rfl⟩
abbrev main_v218 : Ref sig .tc := ⟨.hbm, 389, rfl⟩
abbrev main_v219 : Ref sig .tc := ⟨.hbm, 390, rfl⟩
abbrev main_v220 : Ref sig .tc := ⟨.hbm, 391, rfl⟩
abbrev main_v221 : Ref sig .tc := ⟨.hbm, 392, rfl⟩
abbrev main_v222 : Ref sig .tc := ⟨.hbm, 393, rfl⟩
abbrev main_v223 : Ref sig .tc := ⟨.hbm, 394, rfl⟩
abbrev main_v224 : Ref sig .tc := ⟨.hbm, 395, rfl⟩
abbrev main_v225 : Ref sig .tc := ⟨.hbm, 396, rfl⟩
abbrev main_v226 : Ref sig .tc := ⟨.hbm, 397, rfl⟩
abbrev main_v227 : Ref sig .tc := ⟨.hbm, 398, rfl⟩
abbrev main_v228 : Ref sig .tc := ⟨.hbm, 399, rfl⟩
abbrev main_v229 : Ref sig .tc := ⟨.hbm, 400, rfl⟩
abbrev main_v230 : Ref sig .tc := ⟨.hbm, 401, rfl⟩
abbrev main_v231 : Ref sig .tc := ⟨.hbm, 402, rfl⟩
abbrev main_v232 : Ref sig .tc := ⟨.hbm, 403, rfl⟩
abbrev main_call17_v0 : Ref sig .tc := ⟨.hbm, 404, rfl⟩
abbrev main_call17_v1 : Ref sig .tc := ⟨.hbm, 405, rfl⟩
abbrev main_call17_cst : Ref sig .tc := ⟨.hbm, 406, rfl⟩
abbrev main_call17_v2 : Ref sig .tc := ⟨.hbm, 407, rfl⟩
abbrev main_call17_v3 : Ref sig .tc := ⟨.hbm, 408, rfl⟩
abbrev main_call17_cst_0 : Ref sig .tc := ⟨.hbm, 409, rfl⟩
abbrev main_call17_v4 : Ref sig .tc := ⟨.hbm, 410, rfl⟩
abbrev main_call17_v5 : Ref sig .tc := ⟨.hbm, 411, rfl⟩
abbrev main_v233 : Ref sig .tc := ⟨.hbm, 412, rfl⟩
abbrev main_v234 : Ref sig .tc := ⟨.hbm, 413, rfl⟩
abbrev main_v235 : Ref sig .tc := ⟨.hbm, 414, rfl⟩
abbrev main_v236 : Ref sig .tc := ⟨.hbm, 415, rfl⟩
abbrev main_v237 : Ref sig .tc := ⟨.hbm, 416, rfl⟩
abbrev main_v238 : Ref sig .tc := ⟨.hbm, 417, rfl⟩
abbrev main_v239 : Ref sig .tc := ⟨.hbm, 418, rfl⟩
abbrev main_v240 : Ref sig .tc := ⟨.hbm, 419, rfl⟩
abbrev main_v241 : Ref sig .tc := ⟨.hbm, 420, rfl⟩
abbrev main_v242 : Ref sig .tc := ⟨.hbm, 421, rfl⟩
abbrev main_v243 : Ref sig .tc := ⟨.hbm, 422, rfl⟩
abbrev main_v244 : Ref sig .tc := ⟨.hbm, 423, rfl⟩
abbrev main_v245 : Ref sig .tc := ⟨.hbm, 424, rfl⟩
abbrev main_v246 : Ref sig .tc := ⟨.hbm, 425, rfl⟩
abbrev main_v247 : Ref sig .tc := ⟨.hbm, 426, rfl⟩
abbrev main_call18_v0 : Ref sig .tc := ⟨.hbm, 427, rfl⟩
abbrev main_call18_v1 : Ref sig .tc := ⟨.hbm, 428, rfl⟩
abbrev main_call18_cst : Ref sig .tc := ⟨.hbm, 429, rfl⟩
abbrev main_call18_v2 : Ref sig .tc := ⟨.hbm, 430, rfl⟩
abbrev main_call18_v3 : Ref sig .tc := ⟨.hbm, 431, rfl⟩
abbrev main_call18_cst_0 : Ref sig .tc := ⟨.hbm, 432, rfl⟩
abbrev main_call18_v4 : Ref sig .tc := ⟨.hbm, 433, rfl⟩
abbrev main_call18_v5 : Ref sig .tc := ⟨.hbm, 434, rfl⟩
abbrev main_v248 : Ref sig .tc := ⟨.hbm, 435, rfl⟩
abbrev main_v249 : Ref sig .tc := ⟨.hbm, 436, rfl⟩
abbrev main_v250 : Ref sig .tc := ⟨.hbm, 437, rfl⟩
abbrev main_v251 : Ref sig .tc := ⟨.hbm, 438, rfl⟩
abbrev main_v252 : Ref sig .tc := ⟨.hbm, 439, rfl⟩
abbrev main_v253 : Ref sig .tc := ⟨.hbm, 440, rfl⟩
abbrev main_v254 : Ref sig .tc := ⟨.hbm, 441, rfl⟩
abbrev main_v255 : Ref sig .tc := ⟨.hbm, 442, rfl⟩
abbrev main_v256 : Ref sig .tc := ⟨.hbm, 443, rfl⟩
abbrev main_v257 : Ref sig .tc := ⟨.hbm, 444, rfl⟩
abbrev main_v258 : Ref sig .tc := ⟨.hbm, 445, rfl⟩
abbrev main_v259 : Ref sig .tc := ⟨.hbm, 446, rfl⟩
abbrev main_v260 : Ref sig .tc := ⟨.hbm, 447, rfl⟩
abbrev main_v261 : Ref sig .tc := ⟨.hbm, 448, rfl⟩
abbrev main_v262 : Ref sig .tc := ⟨.hbm, 449, rfl⟩
abbrev main_call19_v0 : Ref sig .tc := ⟨.hbm, 450, rfl⟩
abbrev main_call19_v1 : Ref sig .tc := ⟨.hbm, 451, rfl⟩
abbrev main_call19_cst : Ref sig .tc := ⟨.hbm, 452, rfl⟩
abbrev main_call19_v2 : Ref sig .tc := ⟨.hbm, 453, rfl⟩
abbrev main_call19_v3 : Ref sig .tc := ⟨.hbm, 454, rfl⟩
abbrev main_call19_cst_0 : Ref sig .tc := ⟨.hbm, 455, rfl⟩
abbrev main_call19_v4 : Ref sig .tc := ⟨.hbm, 456, rfl⟩
abbrev main_call19_v5 : Ref sig .tc := ⟨.hbm, 457, rfl⟩
abbrev main_v263 : Ref sig .tc := ⟨.hbm, 458, rfl⟩
abbrev main_v264 : Ref sig .tc := ⟨.hbm, 459, rfl⟩
abbrev main_v265 : Ref sig .tc := ⟨.hbm, 460, rfl⟩
abbrev main_v266 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_v272 : Ref sig .tc := ⟨.hbm, 467, rfl⟩
abbrev main_v273 : Ref sig .tc := ⟨.hbm, 468, rfl⟩
abbrev main_v274 : Ref sig .tc := ⟨.hbm, 469, rfl⟩
abbrev main_v275 : Ref sig .tc := ⟨.hbm, 470, rfl⟩
abbrev main_v276 : Ref sig .tc := ⟨.hbm, 471, rfl⟩
abbrev main_v277 : Ref sig .tc := ⟨.hbm, 472, rfl⟩
abbrev main_v278 : Ref sig .tc := ⟨.hbm, 473, rfl⟩
abbrev main_v279 : Ref sig .tc := ⟨.hbm, 474, rfl⟩
abbrev main_v280 : Ref sig .tc := ⟨.hbm, 475, rfl⟩
abbrev main_cst_10 : Ref sig .tc := ⟨.hbm, 476, rfl⟩
abbrev main_v281 : Ref sig .tc := ⟨.hbm, 477, rfl⟩
abbrev main_v282 : Ref sig .tc := ⟨.hbm, 478, rfl⟩
abbrev main_cst_11 : Ref sig .tc := ⟨.hbm, 479, rfl⟩
abbrev main_v283 : Ref sig .tc := ⟨.hbm, 480, rfl⟩
abbrev main_v284 : Ref sig .tc := ⟨.hbm, 481, rfl⟩
abbrev main_cst_12 : Ref sig .tc := ⟨.hbm, 482, rfl⟩
abbrev main_v285 : Ref sig .tc := ⟨.hbm, 483, rfl⟩
abbrev main_v286 : Ref sig .tc := ⟨.hbm, 484, rfl⟩
abbrev main_v287 : Ref sig .tc := ⟨.hbm, 485, rfl⟩
abbrev main_v288 : Ref sig .tc := ⟨.hbm, 486, rfl⟩
abbrev main_v289 : Ref sig .tc := ⟨.hbm, 487, rfl⟩
abbrev main_v290 : Ref sig .tc := ⟨.hbm, 488, rfl⟩
abbrev main_v291 : Ref sig .tc := ⟨.hbm, 489, rfl⟩
abbrev main_v292 : Ref sig .tc := ⟨.hbm, 490, rfl⟩
abbrev main_v293 : Ref sig .tc := ⟨.hbm, 491, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1024 : Shape := ⟨2, ![4, 1024]⟩
abbrev S1024 : Shape := ⟨1, ![1024]⟩
abbrev S1024x3232 : Shape := ⟨2, ![1024, 3232]⟩
abbrev S384 : Shape := ⟨1, ![384]⟩
abbrev S256 : Shape := ⟨1, ![256]⟩
abbrev S384x384 : Shape := ⟨2, ![384, 384]⟩
abbrev S256x512 : Shape := ⟨2, ![256, 512]⟩
abbrev S1024x32 : Shape := ⟨2, ![1024, 32]⟩
abbrev S_ : Shape := ⟨0, ![]⟩
abbrev S1024x64 : Shape := ⟨2, ![1024, 64]⟩
abbrev S1024x128 : Shape := ⟨2, ![1024, 128]⟩
abbrev S1024x3200 : Shape := ⟨2, ![1024, 3200]⟩
abbrev S1024x3328 : Shape := ⟨2, ![1024, 3328]⟩
abbrev S384x4x96 : Shape := ⟨3, ![384, 4, 96]⟩
abbrev S384x4x128 : Shape := ⟨3, ![384, 4, 128]⟩
abbrev S384x512 : Shape := ⟨2, ![384, 512]⟩
abbrev S256x4x128 : Shape := ⟨3, ![256, 4, 128]⟩
abbrev S256x4x64 : Shape := ⟨3, ![256, 4, 64]⟩
abbrev S256x256 : Shape := ⟨2, ![256, 256]⟩
abbrev S4x1x1024 : Shape := ⟨3, ![4, 1, 1024]⟩
abbrev S1x1024 : Shape := ⟨2, ![1, 1024]⟩
abbrev S1x384 : Shape := ⟨2, ![1, 384]⟩
abbrev S1x256 : Shape := ⟨2, ![1, 256]⟩
abbrev S8192 : Shape := ⟨1, ![8192]⟩
abbrev S8192x1 : Shape := ⟨2, ![8192, 1]⟩
abbrev S16 : Shape := ⟨1, ![16]⟩
abbrev S32 : Shape := ⟨1, ![32]⟩
abbrev S1x32 : Shape := ⟨2, ![1, 32]⟩
abbrev S8192x32 : Shape := ⟨2, ![8192, 32]⟩
abbrev S8192x64 : Shape := ⟨2, ![8192, 64]⟩
abbrev S2x32 : Shape := ⟨2, ![2, 32]⟩
abbrev S64 : Shape := ⟨1, ![64]⟩
abbrev S1x64 : Shape := ⟨2, ![1, 64]⟩
abbrev S8192x128 : Shape := ⟨2, ![8192, 128]⟩
abbrev S8 : Shape := ⟨1, ![8]⟩
abbrev S1x16 : Shape := ⟨2, ![1, 16]⟩
abbrev S8192x16 : Shape := ⟨2, ![8192, 16]⟩
abbrev S2x16 : Shape := ⟨2, ![2, 16]⟩
abbrev S4x8192x1536 : Shape := ⟨3, ![4, 8192, 1536]⟩
abbrev S4x8192x512 : Shape := ⟨3, ![4, 8192, 512]⟩
abbrev S1x512x1024 : Shape := ⟨3, ![1, 512, 1024]⟩
abbrev S1x1x1024 : Shape := ⟨3, ![1, 1, 1024]⟩
abbrev S512x128 : Shape := ⟨2, ![512, 128]⟩
abbrev S1x512x1536 : Shape := ⟨3, ![1, 512, 1536]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x512 : Shape := ⟨2, ![512, 512]⟩
abbrev S512x256 : Shape := ⟨2, ![512, 256]⟩
abbrev S1x512x256 : Shape := ⟨3, ![1, 512, 256]⟩
abbrev S1024x1536 : Shape := ⟨2, ![1024, 1536]⟩
abbrev S512x1536 : Shape := ⟨2, ![512, 1536]⟩
abbrev S1024x384 : Shape := ⟨2, ![1024, 384]⟩
abbrev S512x384 : Shape := ⟨2, ![512, 384]⟩
abbrev S1024x256 : Shape := ⟨2, ![1024, 256]⟩

abbrev nBuf : Space → Nat
  | .hbm => 170
  | .vmem => 31
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S1024, .f32⟩
  | 4 => ⟨S1024x3232, .f32⟩
  | 5 => ⟨S384, .f32⟩
  | 6 => ⟨S256, .f32⟩
  | 7 => ⟨S384x384, .f32⟩
  | 8 => ⟨S256x512, .f32⟩
  | 9 => ⟨S1024x32, .f32⟩
  | 10 => ⟨S_, .f32⟩
  | 11 => ⟨S1024x64, .f32⟩
  | 12 => ⟨S_, .f32⟩
  | 13 => ⟨S1024x32, .f32⟩
  | 14 => ⟨S1024x128, .f32⟩
  | 15 => ⟨S1024x3200, .f32⟩
  | 16 => ⟨S1024x3328, .f32⟩
  | 17 => ⟨S1024x3328, .bf16⟩
  | 18 => ⟨S384x4x96, .f32⟩
  | 19 => ⟨S_, .i32⟩
  | 20 => ⟨S_, .f32⟩
  | 21 => ⟨S384x4x128, .f32⟩
  | 22 => ⟨S384x512, .f32⟩
  | 23 => ⟨S384x512, .bf16⟩
  | 24 => ⟨S256x4x128, .f32⟩
  | 25 => ⟨S256x4x64, .f32⟩
  | 26 => ⟨S256x256, .f32⟩
  | 27 => ⟨S256x4x64, .f32⟩
  | 28 => ⟨S_, .i32⟩
  | 29 => ⟨S_, .f32⟩
  | 30 => ⟨S256x4x128, .f32⟩
  | 31 => ⟨S256x512, .f32⟩
  | 32 => ⟨S256x512, .bf16⟩
  | 33 => ⟨S256x4x64, .f32⟩
  | 34 => ⟨S256x256, .f32⟩
  | 35 => ⟨S256x4x64, .f32⟩
  | 36 => ⟨S_, .i32⟩
  | 37 => ⟨S_, .f32⟩
  | 38 => ⟨S256x4x128, .f32⟩
  | 39 => ⟨S256x512, .f32⟩
  | 40 => ⟨S256x512, .bf16⟩
  | 41 => ⟨S4x1x1024, .f32⟩
  | 42 => ⟨S4x1x1024, .f32⟩
  | 43 => ⟨S1x1024, .f32⟩
  | 44 => ⟨S1x384, .f32⟩
  | 45 => ⟨S1x256, .f32⟩
  | 46 => ⟨S8192, .i32⟩
  | 47 => ⟨S_, .i32⟩
  | 48 => ⟨S_, .i32⟩
  | 49 => ⟨S8192, .i32⟩
  | 50 => ⟨S8192, .i32⟩
  | 51 => ⟨S8192, .i32⟩
  | 52 => ⟨S_, .i32⟩
  | 53 => ⟨S8192, .i32⟩
  | 54 => ⟨S8192, .i1⟩
  | 55 => ⟨S8192, .i32⟩
  | 56 => ⟨S8192, .i32⟩
  | 57 => ⟨S_, .i32⟩
  | 58 => ⟨S8192, .i32⟩
  | 59 => ⟨S8192, .i1⟩
  | 60 => ⟨S8192, .i1⟩
  | 61 => ⟨S_, .i32⟩
  | 62 => ⟨S8192, .i32⟩
  | 63 => ⟨S8192, .i32⟩
  | 64 => ⟨S8192, .i32⟩
  | 65 => ⟨S8192, .f32⟩
  | 66 => ⟨S8192x1, .f32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i1⟩
  | 78 => ⟨S_, .i32⟩
  | 79 => ⟨S8192, .i32⟩
  | 80 => ⟨S8192, .i1⟩
  | 81 => ⟨S_, .i32⟩
  | 82 => ⟨S_, .i1⟩
  | 83 => ⟨S8192, .i1⟩
  | 84 => ⟨S8192, .i1⟩
  | 85 => ⟨S8192, .i1⟩
  | 86 => ⟨S8192, .i32⟩
  | 87 => ⟨S8192, .i32⟩
  | 88 => ⟨S8192, .i32⟩
  | 89 => ⟨S8192, .f32⟩
  | 90 => ⟨S8192x1, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S32, .f32⟩
  | 100 => ⟨S1x32, .f32⟩
  | 101 => ⟨S8192x32, .f32⟩
  | 102 => ⟨S8192x32, .f32⟩
  | 103 => ⟨S8192x32, .f32⟩
  | 104 => ⟨S8192x32, .f32⟩
  | 105 => ⟨S8192x32, .f32⟩
  | 106 => ⟨S8192x32, .f32⟩
  | 107 => ⟨S8192x64, .f32⟩
  | 108 => ⟨S_, .f32⟩
  | 109 => ⟨S16, .f32⟩
  | 110 => ⟨S16, .f32⟩
  | 111 => ⟨S_, .f32⟩
  | 112 => ⟨S16, .f32⟩
  | 113 => ⟨S32, .f32⟩
  | 114 => ⟨S1x32, .f32⟩
  | 115 => ⟨S2x32, .f32⟩
  | 116 => ⟨S64, .f32⟩
  | 117 => ⟨S1x64, .f32⟩
  | 118 => ⟨S8192x64, .f32⟩
  | 119 => ⟨S8192x64, .f32⟩
  | 120 => ⟨S8192x64, .f32⟩
  | 121 => ⟨S8192x64, .f32⟩
  | 122 => ⟨S8192x128, .f32⟩
  | 123 => ⟨S8192x128, .f32⟩
  | 124 => ⟨S8, .f32⟩
  | 125 => ⟨S8, .f32⟩
  | 126 => ⟨S_, .f32⟩
  | 127 => ⟨S8, .f32⟩
  | _ => ⟨S4x8192x1024, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S16, .f32⟩
  | 5 => ⟨S1x16, .f32⟩
  | 6 => ⟨S8192x16, .f32⟩
  | 7 => ⟨S8192x16, .f32⟩
  | 8 => ⟨S8192x16, .f32⟩
  | 9 => ⟨S8192x16, .f32⟩
  | 10 => ⟨S8192x16, .f32⟩
  | 11 => ⟨S8192x16, .f32⟩
  | 12 => ⟨S8192x32, .f32⟩
  | 13 => ⟨S_, .f32⟩
  | 14 => ⟨S8, .f32⟩
  | 15 => ⟨S8, .f32⟩
  | 16 => ⟨S_, .f32⟩
  | 17 => ⟨S8, .f32⟩
  | 18 => ⟨S16, .f32⟩
  | 19 => ⟨S1x16, .f32⟩
  | 20 => ⟨S2x16, .f32⟩
  | 21 => ⟨S32, .f32⟩
  | 22 => ⟨S1x32, .f32⟩
  | 23 => ⟨S8192x32, .f32⟩
  | 24 => ⟨S8192x32, .f32⟩
  | 25 => ⟨S8192x32, .f32⟩
  | 26 => ⟨S8192x32, .f32⟩
  | 27 => ⟨S_, .f32⟩
  | 28 => ⟨S8192x64, .f32⟩
  | 29 => ⟨S_, .f32⟩
  | 30 => ⟨S8192x32, .f32⟩
  | 31 => ⟨S8192x128, .f32⟩
  | 32 => ⟨S_, .f32⟩
  | 33 => ⟨S8192x64, .f32⟩
  | 34 => ⟨S_, .f32⟩
  | 35 => ⟨S8192x32, .f32⟩
  | 36 => ⟨S8192x128, .f32⟩
  | 37 => ⟨S4x8192x1024, .f32⟩
  | 38 => ⟨S4x8192x1536, .bf16⟩
  | 39 => ⟨S4x8192x512, .bf16⟩
  | 40 => ⟨S4x8192x512, .bf16⟩
  | 41 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3328, .bf16⟩
  | .local _ .vmem, ⟨8, _⟩ => ⟨S1x384, .f32⟩
  | .local _ .vmem, ⟨9, _⟩ => ⟨S1x256, .f32⟩
  | .local _ .vmem, ⟨10, _⟩ => ⟨S384x512, .bf16⟩
  | .local _ .vmem, ⟨11, _⟩ => ⟨S256x512, .bf16⟩
  | .local _ .vmem, ⟨12, _⟩ => ⟨S256x512, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1536, .bf16⟩
  | .local _ .vmem, ⟨24, _⟩ => ⟨S1x512x1536, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_call2_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_c : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_0 : Ref sig .tc := ⟨.hbm, 61, rfl⟩
abbrev main_call3_v12 : Ref sig .tc := ⟨.hbm, 62, rfl⟩
abbrev main_call3_v13 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_4 : Ref sig .tc := ⟨.hbm, 67, rfl⟩
abbrev main_call4_v0 : Ref sig .tc := ⟨.hbm, 68, rfl⟩
abbrev main_call4_c : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_c_1 : Ref sig .tc := ⟨.hbm, 75, rfl⟩
abbrev main_call4_v5 : Ref sig .tc := ⟨.hbm, 76, rfl⟩
abbrev main_call4_v6 : Ref sig .tc := ⟨.hbm, 77, rfl⟩
abbrev main_call4_c_2 : Ref sig .tc := ⟨.hbm, 78, rfl⟩
abbrev main_call4_v7 : Ref sig .tc := ⟨.hbm, 79, rfl⟩
abbrev main_call4_v8 : Ref sig .tc := ⟨.hbm, 80, rfl⟩
abbrev main_call4_c_3 : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_v12 : Ref sig .tc := ⟨.hbm, 85, rfl⟩
abbrev main_call4_v13 : Ref sig .tc := ⟨.hbm, 86, rfl⟩
abbrev main_call4_v14 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_cst_5 : Ref sig .tc := ⟨.hbm, 93, rfl⟩
abbrev main_v38 : Ref sig .tc := ⟨.hbm, 94, rfl⟩
abbrev main_v39 : Ref sig .tc := ⟨.hbm, 95, rfl⟩
abbrev main_cst_6 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_7 : Ref sig .tc := ⟨.hbm, 108, rfl⟩
abbrev main_v51 : Ref sig .tc := ⟨.hbm, 109, rfl⟩
abbrev main_v52 : Ref sig .tc := ⟨.hbm, 110, rfl⟩
abbrev main_cst_8 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_9 : Ref sig .tc := ⟨.hbm, 126, rfl⟩
abbrev main_v67 : Ref sig .tc := ⟨.hbm, 127, rfl⟩
abbrev main_v68 : Ref sig .tc := ⟨.hbm, 128, rfl⟩
abbrev main_cst_10 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_11 : Ref sig .tc := ⟨.hbm, 141, rfl⟩
abbrev main_v80 : Ref sig .tc := ⟨.hbm, 142, rfl⟩
abbrev main_v81 : Ref sig .tc := ⟨.hbm, 143, rfl⟩
abbrev main_cst_12 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_13 : Ref sig .tc := ⟨.hbm, 155, rfl⟩
abbrev main_v92 : Ref sig .tc := ⟨.hbm, 156, rfl⟩
abbrev main_cst_14 : Ref sig .tc := ⟨.hbm, 157, rfl⟩
abbrev main_v93 : Ref sig .tc := ⟨.hbm, 158, rfl⟩
abbrev main_v94 : Ref sig .tc := ⟨.hbm, 159, rfl⟩
abbrev main_cst_15 : Ref sig .tc := ⟨.hbm, 160, rfl⟩
abbrev main_v95 : Ref sig .tc := ⟨.hbm, 161, rfl⟩
abbrev main_cst_16 : Ref sig .tc := ⟨.hbm, 162, rfl⟩
abbrev main_v96 : Ref sig .tc := ⟨.hbm, 163, rfl⟩
abbrev main_v97 : Ref sig .tc := ⟨.hbm, 164, rfl⟩
abbrev main_v98_0 : Ref sig .tc := ⟨.hbm, 165, rfl⟩
abbrev main_v98_1 : Ref sig .tc := ⟨.hbm, 166, rfl⟩
abbrev main_v98_2 : Ref sig .tc := ⟨.hbm, 167, rfl⟩
abbrev main_v98_3 : Ref sig .tc := ⟨.hbm, 168, rfl⟩
abbrev main_v98_4 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S4x8192x1024 : Shape := ⟨3, ![4, 8192, 1024]⟩
abbrev S4x1024 : Shape := ⟨2, ![4, 1024]⟩
abbrev S1024 : Shape := ⟨1, ![1024]⟩
abbrev S1024x3232 : Shape := ⟨2, ![1024, 3232]⟩
abbrev S384 : Shape := ⟨1, ![384]⟩
abbrev S256 : Shape := ⟨1, ![256]⟩
abbrev S384x384 : Shape := ⟨2, ![384, 384]⟩
abbrev S256x512 : Shape := ⟨2, ![256, 512]⟩
abbrev S8192 : Shape := ⟨1, ![8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3232 : Shape := ⟨3, ![4, 8192, 3232]⟩
abbrev S4x8192x256 : Shape := ⟨3, ![4, 8192, 256]⟩
abbrev S4x8192x4x64 : Shape := ⟨4, ![4, 8192, 4, 64]⟩
abbrev S4x8192x4x32 : Shape := ⟨4, ![4, 8192, 4, 32]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S4x8192x4x16 : Shape := ⟨4, ![4, 8192, 4, 16]⟩
abbrev S1x8192x1x16 : Shape := ⟨4, ![1, 8192, 1, 16]⟩
abbrev S4x8192x512 : Shape := ⟨3, ![4, 8192, 512]⟩
abbrev S4x8192x1536 : Shape := ⟨3, ![4, 8192, 1536]⟩
abbrev S4x8192x384 : Shape := ⟨3, ![4, 8192, 384]⟩
abbrev S1x1x384 : Shape := ⟨3, ![1, 1, 384]⟩
abbrev S4x8192x4x96 : Shape := ⟨4, ![4, 8192, 4, 96]⟩
abbrev S1x1x256 : Shape := ⟨3, ![1, 1, 256]⟩
abbrev S4x8192x4x128 : Shape := ⟨4, ![4, 8192, 4, 128]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S4x8192x4x8 : Shape := ⟨4, ![4, 8192, 4, 8]⟩
abbrev S1x8192x1x8 : Shape := ⟨4, ![1, 8192, 1, 8]⟩
abbrev S4x8192x32 : Shape := ⟨3, ![4, 8192, 32]⟩
abbrev S4x8192x1x32 : Shape := ⟨4, ![4, 8192, 1, 32]⟩
abbrev S4x8192x1x16 : Shape := ⟨4, ![4, 8192, 1, 16]⟩
abbrev S4x8192x1x8 : Shape := ⟨4, ![4, 8192, 1, 8]⟩
abbrev S4x8192x4x1 : Shape := ⟨4, ![4, 8192, 4, 1]⟩
abbrev S4x8192x4x65 : Shape := ⟨4, ![4, 8192, 4, 65]⟩

abbrev nBuf : Space → Nat
  | .hbm => 448
  | .vmem => 0
  | .smem => 0
  | _ => 0

abbrev hbmTy0_0 (i : Nat) : BufTy := match i % 128 with
  | 0 => ⟨S4x8192x1024, .f32⟩
  | 1 => ⟨S4x1024, .f32⟩
  | 2 => ⟨S4x1024, .f32⟩
  | 3 => ⟨S1024, .f32⟩
  | 4 => ⟨S1024x3232, .f32⟩
  | 5 => ⟨S384, .f32⟩
  | 6 => ⟨S256, .f32⟩
  | 7 => ⟨S384x384, .f32⟩
  | 8 => ⟨S256x512, .f32⟩
  | 9 => ⟨S8192, .i32⟩
  | 10 => ⟨S_, .i32⟩
  | 11 => ⟨S_, .i32⟩
  | 12 => ⟨S8192, .i32⟩
  | 13 => ⟨S8192, .i32⟩
  | 14 => ⟨S8192, .i32⟩
  | 15 => ⟨S_, .i32⟩
  | 16 => ⟨S8192, .i32⟩
  | 17 => ⟨S8192, .i1⟩
  | 18 => ⟨S8192, .i32⟩
  | 19 => ⟨S8192, .i32⟩
  | 20 => ⟨S_, .i32⟩
  | 21 => ⟨S8192, .i32⟩
  | 22 => ⟨S8192, .i1⟩
  | 23 => ⟨S8192, .i1⟩
  | 24 => ⟨S_, .i32⟩
  | 25 => ⟨S8192, .i32⟩
  | 26 => ⟨S8192, .i32⟩
  | 27 => ⟨S8192, .i32⟩
  | 28 => ⟨S8192, .f32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i1⟩
  | 40 => ⟨S_, .i32⟩
  | 41 => ⟨S8192, .i32⟩
  | 42 => ⟨S8192, .i1⟩
  | 43 => ⟨S_, .i32⟩
  | 44 => ⟨S_, .i1⟩
  | 45 => ⟨S8192, .i1⟩
  | 46 => ⟨S8192, .i1⟩
  | 47 => ⟨S8192, .i1⟩
  | 48 => ⟨S8192, .i32⟩
  | 49 => ⟨S8192, .i32⟩
  | 50 => ⟨S8192, .i32⟩
  | 51 => ⟨S8192, .f32⟩
  | 52 => ⟨S4x8192x1024, .f32⟩
  | 53 => ⟨S_, .f32⟩
  | 54 => ⟨S4x8192, .f32⟩
  | 55 => ⟨S4x8192x1, .f32⟩
  | 56 => ⟨S_, .f32⟩
  | 57 => ⟨S4x8192x1, .f32⟩
  | 58 => ⟨S4x8192x1, .f32⟩
  | 59 => ⟨S_, .f32⟩
  | 60 => ⟨S4x8192x1, .f32⟩
  | 61 => ⟨S4x8192x1, .f32⟩
  | 62 => ⟨S4x8192x1, .f32⟩
  | 63 => ⟨S4x8192x1024, .f32⟩
  | 64 => ⟨S4x8192x1024, .f32⟩
  | 65 => ⟨S1x1x1024, .f32⟩
  | 66 => ⟨S4x8192x1024, .f32⟩
  | 67 => ⟨S4x8192x1024, .f32⟩
  | 68 => ⟨S4x1x1024, .f32⟩
  | 69 => ⟨S_, .f32⟩
  | 70 => ⟨S4x1x1024, .f32⟩
  | 71 => ⟨S4x1x1024, .f32⟩
  | 72 => ⟨S4x8192x1024, .f32⟩
  | 73 => ⟨S4x8192x1024, .f32⟩
  | 74 => ⟨S4x1x1024, .f32⟩
  | 75 => ⟨S4x8192x1024, .f32⟩
  | 76 => ⟨S4x8192x1024, .f32⟩
  | 77 => ⟨S4x8192x3232, .f32⟩
  | 78 => ⟨S4x8192x256, .f32⟩
  | 79 => ⟨S4x8192x4x64, .f32⟩
  | 80 => ⟨S4x8192x4x32, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S8192x1, .f32⟩
  | 90 => ⟨S1x16, .f32⟩
  | 91 => ⟨S8192x16, .f32⟩
  | 92 => ⟨S8192x16, .f32⟩
  | 93 => ⟨S8192x16, .f32⟩
  | 94 => ⟨S8192x16, .f32⟩
  | 95 => ⟨S8192x1x16, .f32⟩
  | 96 => ⟨S8192x16, .f32⟩
  | 97 => ⟨S8192x1x16, .f32⟩
  | 98 => ⟨S4x8192x4x16, .f32⟩
  | 99 => ⟨S4x8192x4x16, .f32⟩
  | 100 => ⟨S1x8192x1x16, .f32⟩
  | 101 => ⟨S4x8192x4x16, .f32⟩
  | 102 => ⟨S4x8192x4x16, .f32⟩
  | 103 => ⟨S1x8192x1x16, .f32⟩
  | 104 => ⟨S4x8192x4x16, .f32⟩
  | 105 => ⟨S4x8192x4x16, .f32⟩
  | 106 => ⟨S4x8192x4x16, .f32⟩
  | 107 => ⟨S1x8192x1x16, .f32⟩
  | 108 => ⟨S4x8192x4x16, .f32⟩
  | 109 => ⟨S4x8192x4x16, .f32⟩
  | 110 => ⟨S1x8192x1x16, .f32⟩
  | 111 => ⟨S4x8192x4x16, .f32⟩
  | 112 => ⟨S4x8192x4x16, .f32⟩
  | 113 => ⟨S4x8192x4x16, .f32⟩
  | 114 => ⟨S4x8192x4x32, .f32⟩
  | 115 => ⟨S4x8192x4x32, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S8192x1, .f32⟩
  | 125 => ⟨S1x16, .f32⟩
  | 126 => ⟨S8192x16, .f32⟩
  | 127 => ⟨S8192x16, .f32⟩
  | _ => ⟨S4x8192x1024, .f32⟩

abbrev hbmTy0_1 (i : Nat) : BufTy := match i % 128 with
  | 0 => ⟨S8192x16, .f32⟩
  | 1 => ⟨S8192x16, .f32⟩
  | 2 => ⟨S8192x1x16, .f32⟩
  | 3 => ⟨S8192x16, .f32⟩
  | 4 => ⟨S8192x1x16, .f32⟩
  | 5 => ⟨S4x8192x4x16, .f32⟩
  | 6 => ⟨S4x8192x4x16, .f32⟩
  | 7 => ⟨S1x8192x1x16, .f32⟩
  | 8 => ⟨S4x8192x4x16, .f32⟩
  | 9 => ⟨S4x8192x4x16, .f32⟩
  | 10 => ⟨S1x8192x1x16, .f32⟩
  | 11 => ⟨S4x8192x4x16, .f32⟩
  | 12 => ⟨S4x8192x4x16, .f32⟩
  | 13 => ⟨S4x8192x4x16, .f32⟩
  | 14 => ⟨S1x8192x1x16, .f32⟩
  | 15 => ⟨S4x8192x4x16, .f32⟩
  | 16 => ⟨S4x8192x4x16, .f32⟩
  | 17 => ⟨S1x8192x1x16, .f32⟩
  | 18 => ⟨S4x8192x4x16, .f32⟩
  | 19 => ⟨S4x8192x4x16, .f32⟩
  | 20 => ⟨S4x8192x4x16, .f32⟩
  | 21 => ⟨S4x8192x4x32, .f32⟩
  | 22 => ⟨S4x8192x4x64, .f32⟩
  | 23 => ⟨S_, .f32⟩
  | 24 => ⟨S4x8192x4x64, .f32⟩
  | 25 => ⟨S4x8192x4x64, .f32⟩
  | 26 => ⟨S4x8192x256, .f32⟩
  | 27 => ⟨S4x8192x4x64, .f32⟩
  | 28 => ⟨S4x8192x4x32, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S8192x1, .f32⟩
  | 38 => ⟨S1x16, .f32⟩
  | 39 => ⟨S8192x16, .f32⟩
  | 40 => ⟨S8192x16, .f32⟩
  | 41 => ⟨S8192x16, .f32⟩
  | 42 => ⟨S8192x16, .f32⟩
  | 43 => ⟨S8192x1x16, .f32⟩
  | 44 => ⟨S8192x16, .f32⟩
  | 45 => ⟨S8192x1x16, .f32⟩
  | 46 => ⟨S4x8192x4x16, .f32⟩
  | 47 => ⟨S4x8192x4x16, .f32⟩
  | 48 => ⟨S1x8192x1x16, .f32⟩
  | 49 => ⟨S4x8192x4x16, .f32⟩
  | 50 => ⟨S4x8192x4x16, .f32⟩
  | 51 => ⟨S1x8192x1x16, .f32⟩
  | 52 => ⟨S4x8192x4x16, .f32⟩
  | 53 => ⟨S4x8192x4x16, .f32⟩
  | 54 => ⟨S4x8192x4x16, .f32⟩
  | 55 => ⟨S1x8192x1x16, .f32⟩
  | 56 => ⟨S4x8192x4x16, .f32⟩
  | 57 => ⟨S4x8192x4x16, .f32⟩
  | 58 => ⟨S1x8192x1x16, .f32⟩
  | 59 => ⟨S4x8192x4x16, .f32⟩
  | 60 => ⟨S4x8192x4x16, .f32⟩
  | 61 => ⟨S4x8192x4x16, .f32⟩
  | 62 => ⟨S4x8192x4x32, .f32⟩
  | 63 => ⟨S4x8192x4x32, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S8192x1, .f32⟩
  | 73 => ⟨S1x16, .f32⟩
  | 74 => ⟨S8192x16, .f32⟩
  | 75 => ⟨S8192x16, .f32⟩
  | 76 => ⟨S8192x16, .f32⟩
  | 77 => ⟨S8192x16, .f32⟩
  | 78 => ⟨S8192x1x16, .f32⟩
  | 79 => ⟨S8192x16, .f32⟩
  | 80 => ⟨S8192x1x16, .f32⟩
  | 81 => ⟨S4x8192x4x16, .f32⟩
  | 82 => ⟨S4x8192x4x16, .f32⟩
  | 83 => ⟨S1x8192x1x16, .f32⟩
  | 84 => ⟨S4x8192x4x16, .f32⟩
  | 85 => ⟨S4x8192x4x16, .f32⟩
  | 86 => ⟨S1x8192x1x16, .f32⟩
  | 87 => ⟨S4x8192x4x16, .f32⟩
  | 88 => ⟨S4x8192x4x16, .f32⟩
  | 89 => ⟨S4x8192x4x16, .f32⟩
  | 90 => ⟨S1x8192x1x16, .f32⟩
  | 91 => ⟨S4x8192x4x16, .f32⟩
  | 92 => ⟨S4x8192x4x16, .f32⟩
  | 93 => ⟨S1x8192x1x16, .f32⟩
  | 94 => ⟨S4x8192x4x16, .f32⟩
  | 95 => ⟨S4x8192x4x16, .f32⟩
  | 96 => ⟨S4x8192x4x16, .f32⟩
  | 97 => ⟨S4x8192x4x32, .f32⟩
  | 98 => ⟨S4x8192x4x64, .f32⟩
  | 99 => ⟨S4x8192x256, .f32⟩
  | 100 => ⟨S4x8192x256, .f32⟩
  | 101 => ⟨S4x8192x512, .f32⟩
  | 102 => ⟨S4x8192x1024, .f32⟩
  | 103 => ⟨S4x8192x512, .f32⟩
  | 104 => ⟨S_, .f32⟩
  | 105 => ⟨S4x8192x512, .f32⟩
  | 106 => ⟨S4x8192x512, .f32⟩
  | 107 => ⟨S4x8192x1024, .f32⟩
  | 108 => ⟨S4x8192x1536, .f32⟩
  | 109 => ⟨S4x8192x384, .f32⟩
  | 110 => ⟨S4x8192x384, .f32⟩
  | 111 => ⟨S_, .f32⟩
  | 112 => ⟨S4x8192, .f32⟩
  | 113 => ⟨S4x8192x1, .f32⟩
  | 114 => ⟨S_, .f32⟩
  | 115 => ⟨S4x8192x1, .f32⟩
  | 116 => ⟨S4x8192x1, .f32⟩
  | 117 => ⟨S_, .f32⟩
  | 118 => ⟨S4x8192x1, .f32⟩
  | 119 => ⟨S4x8192x1, .f32⟩
  | 120 => ⟨S4x8192x1, .f32⟩
  | 121 => ⟨S4x8192x384, .f32⟩
  | 122 => ⟨S4x8192x384, .f32⟩
  | 123 => ⟨S1x1x384, .f32⟩
  | 124 => ⟨S4x8192x384, .f32⟩
  | 125 => ⟨S4x8192x384, .f32⟩
  | 126 => ⟨S4x8192x384, .f32⟩
  | 127 => ⟨S4x8192x4x96, .f32⟩
  | _ => ⟨S4x8192x1024, .f32⟩

abbrev hbmTy0_2 (i : Nat) : BufTy := match i % 128 with
  | 0 => ⟨S4x8192x256, .f32⟩
  | 1 => ⟨S4x8192x256, .f32⟩
  | 2 => ⟨S_, .f32⟩
  | 3 => ⟨S4x8192, .f32⟩
  | 4 => ⟨S4x8192x1, .f32⟩
  | 5 => ⟨S_, .f32⟩
  | 6 => ⟨S4x8192x1, .f32⟩
  | 7 => ⟨S4x8192x1, .f32⟩
  | 8 => ⟨S_, .f32⟩
  | 9 => ⟨S4x8192x1, .f32⟩
  | 10 => ⟨S4x8192x1, .f32⟩
  | 11 => ⟨S4x8192x1, .f32⟩
  | 12 => ⟨S4x8192x256, .f32⟩
  | 13 => ⟨S4x8192x256, .f32⟩
  | 14 => ⟨S1x1x256, .f32⟩
  | 15 => ⟨S4x8192x256, .f32⟩
  | 16 => ⟨S4x8192x256, .f32⟩
  | 17 => ⟨S4x8192x512, .f32⟩
  | 18 => ⟨S4x8192x4x128, .f32⟩
  | 19 => ⟨S4x8192x4x64, .f32⟩
  | 20 => ⟨S4x8192x4x32, .f32⟩
  | 21 => ⟨S4x8192x4x16, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S8192x1, .f32⟩
  | 31 => ⟨S1x8, .f32⟩
  | 32 => ⟨S8192x8, .f32⟩
  | 33 => ⟨S8192x8, .f32⟩
  | 34 => ⟨S8192x8, .f32⟩
  | 35 => ⟨S8192x8, .f32⟩
  | 36 => ⟨S8192x1x8, .f32⟩
  | 37 => ⟨S8192x8, .f32⟩
  | 38 => ⟨S8192x1x8, .f32⟩
  | 39 => ⟨S4x8192x4x8, .f32⟩
  | 40 => ⟨S4x8192x4x8, .f32⟩
  | 41 => ⟨S1x8192x1x8, .f32⟩
  | 42 => ⟨S4x8192x4x8, .f32⟩
  | 43 => ⟨S4x8192x4x8, .f32⟩
  | 44 => ⟨S1x8192x1x8, .f32⟩
  | 45 => ⟨S4x8192x4x8, .f32⟩
  | 46 => ⟨S4x8192x4x8, .f32⟩
  | 47 => ⟨S4x8192x4x8, .f32⟩
  | 48 => ⟨S1x8192x1x8, .f32⟩
  | 49 => ⟨S4x8192x4x8, .f32⟩
  | 50 => ⟨S4x8192x4x8, .f32⟩
  | 51 => ⟨S1x8192x1x8, .f32⟩
  | 52 => ⟨S4x8192x4x8, .f32⟩
  | 53 => ⟨S4x8192x4x8, .f32⟩
  | 54 => ⟨S4x8192x4x8, .f32⟩
  | 55 => ⟨S4x8192x4x16, .f32⟩
  | 56 => ⟨S4x8192x4x16, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8192x1, .f32⟩
  | 66 => ⟨S1x8, .f32⟩
  | 67 => ⟨S8192x8, .f32⟩
  | 68 => ⟨S8192x8, .f32⟩
  | 69 => ⟨S8192x8, .f32⟩
  | 70 => ⟨S8192x8, .f32⟩
  | 71 => ⟨S8192x1x8, .f32⟩
  | 72 => ⟨S8192x8, .f32⟩
  | 73 => ⟨S8192x1x8, .f32⟩
  | 74 => ⟨S4x8192x4x8, .f32⟩
  | 75 => ⟨S4x8192x4x8, .f32⟩
  | 76 => ⟨S1x8192x1x8, .f32⟩
  | 77 => ⟨S4x8192x4x8, .f32⟩
  | 78 => ⟨S4x8192x4x8, .f32⟩
  | 79 => ⟨S1x8192x1x8, .f32⟩
  | 80 => ⟨S4x8192x4x8, .f32⟩
  | 81 => ⟨S4x8192x4x8, .f32⟩
  | 82 => ⟨S4x8192x4x8, .f32⟩
  | 83 => ⟨S1x8192x1x8, .f32⟩
  | 84 => ⟨S4x8192x4x8, .f32⟩
  | 85 => ⟨S4x8192x4x8, .f32⟩
  | 86 => ⟨S1x8192x1x8, .f32⟩
  | 87 => ⟨S4x8192x4x8, .f32⟩
  | 88 => ⟨S4x8192x4x8, .f32⟩
  | 89 => ⟨S4x8192x4x8, .f32⟩
  | 90 => ⟨S4x8192x4x16, .f32⟩
  | 91 => ⟨S4x8192x4x32, .f32⟩
  | 92 => ⟨S4x8192x4x96, .f32⟩
  | 93 => ⟨S4x8192x32, .f32⟩
  | 94 => ⟨S4x8192x1x32, .f32⟩
  | 95 => ⟨S4x8192x1x16, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S8192x1, .f32⟩
  | 105 => ⟨S1x8, .f32⟩
  | 106 => ⟨S8192x8, .f32⟩
  | 107 => ⟨S8192x8, .f32⟩
  | 108 => ⟨S8192x8, .f32⟩
  | 109 => ⟨S8192x8, .f32⟩
  | 110 => ⟨S8192x1x8, .f32⟩
  | 111 => ⟨S8192x8, .f32⟩
  | 112 => ⟨S8192x1x8, .f32⟩
  | 113 => ⟨S4x8192x1x8, .f32⟩
  | 114 => ⟨S4x8192x1x8, .f32⟩
  | 115 => ⟨S1x8192x1x8, .f32⟩
  | 116 => ⟨S4x8192x1x8, .f32⟩
  | 117 => ⟨S4x8192x1x8, .f32⟩
  | 118 => ⟨S1x8192x1x8, .f32⟩
  | 119 => ⟨S4x8192x1x8, .f32⟩
  | 120 => ⟨S4x8192x1x8, .f32⟩
  | 121 => ⟨S4x8192x1x8, .f32⟩
  | 122 => ⟨S1x8192x1x8, .f32⟩
  | 123 => ⟨S4x8192x1x8, .f32⟩
  | 124 => ⟨S4x8192x1x8, .f32⟩
  | 125 => ⟨S1x8192x1x8, .f32⟩
  | 126 => ⟨S4x8192x1x8, .f32⟩
  | 127 => ⟨S4x8192x1x8, .f32⟩
  | _ => ⟨S4x8192x1024, .f32⟩

abbrev hbmTy0_3 (i : Nat) : BufTy := match i % 128 with
  | 0 => ⟨S4x8192x1x8, .f32⟩
  | 1 => ⟨S4x8192x1x16, .f32⟩
  | 2 => ⟨S4x8192x1x16, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8192x1, .f32⟩
  | 12 => ⟨S1x8, .f32⟩
  | 13 => ⟨S8192x8, .f32⟩
  | 14 => ⟨S8192x8, .f32⟩
  | 15 => ⟨S8192x8, .f32⟩
  | 16 => ⟨S8192x8, .f32⟩
  | 17 => ⟨S8192x1x8, .f32⟩
  | 18 => ⟨S8192x8, .f32⟩
  | 19 => ⟨S8192x1x8, .f32⟩
  | 20 => ⟨S4x8192x1x8, .f32⟩
  | 21 => ⟨S4x8192x1x8, .f32⟩
  | 22 => ⟨S1x8192x1x8, .f32⟩
  | 23 => ⟨S4x8192x1x8, .f32⟩
  | 24 => ⟨S4x8192x1x8, .f32⟩
  | 25 => ⟨S1x8192x1x8, .f32⟩
  | 26 => ⟨S4x8192x1x8, .f32⟩
  | 27 => ⟨S4x8192x1x8, .f32⟩
  | 28 => ⟨S4x8192x1x8, .f32⟩
  | 29 => ⟨S1x8192x1x8, .f32⟩
  | 30 => ⟨S4x8192x1x8, .f32⟩
  | 31 => ⟨S4x8192x1x8, .f32⟩
  | 32 => ⟨S1x8192x1x8, .f32⟩
  | 33 => ⟨S4x8192x1x8, .f32⟩
  | 34 => ⟨S4x8192x1x8, .f32⟩
  | 35 => ⟨S4x8192x1x8, .f32⟩
  | 36 => ⟨S4x8192x1x16, .f32⟩
  | 37 => ⟨S4x8192x1x32, .f32⟩
  | 38 => ⟨S4x8192x4x32, .f32⟩
  | 39 => ⟨S4x8192x4x64, .f32⟩
  | 40 => ⟨S4x8192x4x96, .f32⟩
  | 41 => ⟨S4x8192x4x64, .f32⟩
  | 42 => ⟨S_, .f32⟩
  | 43 => ⟨S4x8192x4x1, .f32⟩
  | 44 => ⟨S4x8192x4x65, .f32⟩
  | 45 => ⟨S4x8192x1536, .bf16⟩
  | 46 => ⟨S_, .i32⟩
  | 47 => ⟨S_, .f32⟩
  | 48 => ⟨S4x8192x4x128, .f32⟩
  | 49 => ⟨S4x8192x512, .f32⟩
  | 50 => ⟨S_, .f32⟩
  | 51 => ⟨S4x8192x512, .f32⟩
  | 52 => ⟨S4x8192x512, .f32⟩
  | 53 => ⟨S4x8192x512, .bf16⟩
  | 54 => ⟨S_, .i32⟩
  | 55 => ⟨S_, .f32⟩
  | 56 => ⟨S4x8192x4x128, .f32⟩
  | 57 => ⟨S4x8192x512, .f32⟩
  | 58 => ⟨S4x8192x512, .bf16⟩
  | 59 => ⟨S_, .i32⟩
  | 60 => ⟨S_, .f32⟩
  | 61 => ⟨S4x8192x4x128, .f32⟩
  | 62 => ⟨S4x8192x512, .f32⟩
  | 63 => ⟨S4x8192x512, .bf16⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_cst : Ref sig .tc := ⟨.hbm, 53, rfl⟩
abbrev main_v6 : Ref sig .tc := ⟨.hbm, 54, rfl⟩
abbrev main_v7 : Ref sig .tc := ⟨.hbm, 55, rfl⟩
abbrev main_cst_1 : Ref sig .tc := ⟨.hbm, 56, rfl⟩
abbrev main_v8 : Ref sig .tc := ⟨.hbm, 57, rfl⟩
abbrev main_v9 : Ref sig .tc := ⟨.hbm, 58, rfl⟩
abbrev main_cst_2 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_cst_3 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_4 : Ref sig .tc := ⟨.hbm, 83, rfl⟩
abbrev main_v32 : Ref sig .tc := ⟨.hbm, 84, rfl⟩
abbrev main_v33 : Ref sig .tc := ⟨.hbm, 85, rfl⟩
abbrev main_cst_5 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_6 : Ref sig .tc := ⟨.hbm, 118, rfl⟩
abbrev main_v65 : Ref sig .tc := ⟨.hbm, 119, rfl⟩
abbrev main_v66 : Ref sig .tc := ⟨.hbm, 120, rfl⟩
abbrev main_cst_7 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_8 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_9 : Ref sig .tc := ⟨.hbm, 159, rfl⟩
abbrev main_v103 : Ref sig .tc := ⟨.hbm, 160, rfl⟩
abbrev main_v104 : Ref sig .tc := ⟨.hbm, 161, rfl⟩
abbrev main_cst_10 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_cst_11 : Ref sig .tc := ⟨.hbm, 194, rfl⟩
abbrev main_v136 : Ref sig .tc := ⟨.hbm, 195, rfl⟩
abbrev main_v137 : Ref sig .tc := ⟨.hbm, 196, rfl⟩
abbrev main_cst_12 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_13 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_cst_14 : Ref sig .tc := ⟨.hbm, 239, rfl⟩
abbrev main_v178 : Ref sig .tc := ⟨.hbm, 240, rfl⟩
abbrev main_v179 : Ref sig .tc := ⟨.hbm, 241, rfl⟩
abbrev main_cst_15 : Ref sig .tc := ⟨.hbm, 242, rfl⟩
abbrev main_v180 : Ref sig .tc := ⟨.hbm, 243, rfl⟩
abbrev main_v181 : Ref sig .tc := ⟨.hbm, 244, rfl⟩
abbrev main_cst_16 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_cst_17 : Ref sig .tc := ⟨.hbm, 258, rfl⟩
abbrev main_v194 : Ref sig .tc := ⟨.hbm, 259, rfl⟩
abbrev main_v195 : Ref sig .tc := ⟨.hbm, 260, rfl⟩
abbrev main_cst_18 : Ref sig .tc := ⟨.hbm, 261, rfl⟩
abbrev main_v196 : Ref sig .tc := ⟨.hbm, 262, rfl⟩
abbrev main_v197 : Ref sig .tc := ⟨.hbm, 263, rfl⟩
abbrev main_cst_19 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_cst_20 : Ref sig .tc := ⟨.hbm, 280, rfl⟩
abbrev main_v213 : Ref sig .tc := ⟨.hbm, 281, rfl⟩
abbrev main_v214 : Ref sig .tc := ⟨.hbm, 282, rfl⟩
abbrev main_cst_21 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_cst_22 : Ref sig .tc := ⟨.hbm, 315, rfl⟩
abbrev main_v246 : Ref sig .tc := ⟨.hbm, 316, rfl⟩
abbrev main_v247 : Ref sig .tc := ⟨.hbm, 317, rfl⟩
abbrev main_cst_23 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_cst_24 : Ref sig .tc := ⟨.hbm, 354, rfl⟩
abbrev main_v283 : Ref sig .tc := ⟨.hbm, 355, rfl⟩
abbrev main_v284 : Ref sig .tc := ⟨.hbm, 356, rfl⟩
abbrev main_cst_25 : Ref sig .tc := ⟨.hbm, 357, rfl⟩
abbrev main_v285 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_cst_26 : Ref sig .tc := ⟨.hbm, 389, rfl⟩
abbrev main_v316 : Ref sig .tc := ⟨.hbm, 390, rfl⟩
abbrev main_v317 : Ref sig .tc := ⟨.hbm, 391, rfl⟩
abbrev main_cst_27 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_cst_28 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_c_29 : Ref sig .tc := ⟨.hbm, 430, rfl⟩
abbrev main_call2_v0 : Ref sig .tc := ⟨.hbm, 431, rfl⟩
abbrev main_v354 : Ref sig .tc := ⟨.hbm, 432, rfl⟩
abbrev main_v355 : Ref sig .tc := ⟨.hbm, 433, rfl⟩
abbrev main_cst_30 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_c_31 : Ref sig .tc := ⟨.hbm, 438, rfl⟩
abbrev main_call3_v0 : Ref sig .tc := ⟨.hbm, 439, rfl⟩
abbrev main_v359 : Ref sig .tc := ⟨.hbm, 440, rfl⟩
abbrev main_v360 : Ref sig .tc := ⟨.hbm, 441, rfl⟩
abbrev main_v361 : Ref sig .tc := ⟨.hbm, 442, rfl⟩
abbrev main_c_32 : Ref sig .tc := ⟨.hbm, 443, rfl⟩
abbrev main_call4_v0 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x8192x128 : Shape := ⟨3, ![4, 8192, 128]⟩
abbrev S16 : Shape := ⟨1, ![16]⟩
abbrev S16x1024x256 : Shape := ⟨3, ![16, 1024, 256]⟩
abbrev S16x256x1024 : Shape := ⟨3, ![16, 256, 1024]⟩
abbrev S4x1024 : Shape := ⟨2, ![4, 1024]⟩
abbrev S1024 : Shape := ⟨1, ![1024]⟩
abbrev S_ : Shape := ⟨0, ![]⟩
abbrev S128 : Shape := ⟨1, ![128]⟩
abbrev S1x128 : Shape := ⟨2, ![1, 128]⟩
abbrev S16x1024x512 : Shape := ⟨3, ![16, 1024, 512]⟩
abbrev S1x1024 : Shape := ⟨2, ![1, 1024]⟩
abbrev S32768x1024 : Shape := ⟨2, ![32768, 1024]⟩
abbrev S32768x128 : Shape := ⟨2, ![32768, 128]⟩
abbrev S4x1x1024 : Shape := ⟨3, ![4, 1, 1024]⟩
abbrev S512x1024 : Shape := ⟨2, ![512, 1024]⟩
abbrev S512x128 : Shape := ⟨2, ![512, 128]⟩
abbrev S1x1x1024 : Shape := ⟨3, ![1, 1, 1024]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩

abbrev nBuf : Space → Nat
  | .hbm => 22
  | .vmem => 17
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x128, .f32⟩
  | .hbm, ⟨2, _⟩ => ⟨S16, .f32⟩
  | .hbm, ⟨3, _⟩ => ⟨S4x8192x1024, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S4x1024, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S16x1024x512, .f32⟩
  | .hbm, ⟨14, _⟩ => ⟨S16x1024x512, .bf16⟩
  | .hbm, ⟨15, _⟩ => ⟨S16x256x1024, .bf16⟩
  | .hbm, ⟨16, _⟩ => ⟨S1x1024, .f32⟩
  | .hbm, ⟨17, _⟩ => ⟨S32768x1024, .bf16⟩
  | .hbm, ⟨18, _⟩ => ⟨S32768x128, .f32⟩
  | .hbm, ⟨19, _⟩ => ⟨S32768x1024, .f32⟩
  | .hbm, ⟨20, _⟩ => ⟨S4x1x1024, .f32⟩
  | .hbm, ⟨21, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S16x1024x512, .bf16⟩
  | .local _ .vmem, ⟨10, _⟩ => ⟨S16x256x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x8192x1024 : Shape := ⟨3, ![4, 8192, 1024]⟩
abbrev S4x8192x128 : Shape := ⟨3, ![4, 8192, 128]⟩
abbrev S16 : Shape := ⟨1, ![16]⟩
abbrev S16x1024x256 : Shape := ⟨3, ![16, 1024, 256]⟩
abbrev S16x256x1024 : Shape := ⟨3, ![16, 256, 1024]⟩
abbrev S4x1024 : Shape := ⟨2, ![4, 1024]⟩
abbrev S1024 : Shape := ⟨1, ![1024]⟩
abbrev S32768x1024 : Shape := ⟨2, ![32768, 1024]⟩
abbrev S32768x128 : Shape := ⟨2, ![32768, 128]⟩
abbrev S32768x16 : Shape := ⟨2, ![32768, 16]⟩
abbrev S_ : Shape := ⟨0, ![]⟩
abbrev S1x16 : Shape := ⟨2, ![1, 16]⟩
abbrev S32768x4x4 : Shape := ⟨3, ![32768, 4, 4]⟩
abbrev S32768x4x2 : Shape := ⟨3, ![32768, 4, 2]⟩
abbrev S32768x4 : Shape := ⟨2, ![32768, 4]⟩
abbrev S32768x1 : Shape := ⟨2, ![32768, 1]⟩
abbrev S32768 : Shape := ⟨1, ![32768]⟩
abbrev S32768x2 : Shape := ⟨2, ![32768, 2]⟩
abbrev S32768x2x1 : Shape := ⟨3, ![32768, 2, 1]⟩
abbrev S1 : Shape := ⟨1, ![1]⟩
abbrev S1x1x1 : Shape := ⟨3, ![1, 1, 1]⟩
abbrev S1x1x16 : Shape := ⟨3, ![1, 1, 16]⟩
abbrev S32768x2x16 : Shape := ⟨3, ![32768, 2, 16]⟩
abbrev S1x1024x256 : Shape := ⟨3, ![1, 1024, 256]⟩
abbrev S1024x256 : Shape := ⟨2, ![1024, 256]⟩
abbrev S32768x256 : Shape := ⟨2, ![32768, 256]⟩
abbrev S1x256x1024 : Shape := ⟨3, ![1, 256, 1024]⟩
abbrev S256x1024 : Shape := ⟨2, ![256, 1024]⟩
abbrev S4x1x1024 : Shape := ⟨3, ![4, 1, 1024]⟩

abbrev nBuf : Space → Nat
  | .hbm => 476
  | .vmem => 0
  | .smem => 0
  | _ => 0

abbrev hbmTy0_0 (i : Nat) : BufTy := match i % 128 with
  | 0 => ⟨S4x8192x1024, .bf16⟩
  | 1 => ⟨S4x8192x128, .f32⟩
  | 2 => ⟨S16, .f32⟩
  | 3 => ⟨S4x8192x1024, .f32⟩
  | 4 => ⟨S16x1024x256, .f32⟩
  | 5 => ⟨S16x1024x256, .f32⟩
  | 6 => ⟨S16x256x1024, .f32⟩
  | 7 => ⟨S4x1024, .f32⟩
  | 8 => ⟨S1024, .f32⟩
  | 9 => ⟨S4x8192x1024, .f32⟩
  | 10 => ⟨S32768x1024, .f32⟩
  | 11 => ⟨S32768x128, .f32⟩
  | 12 => ⟨S32768x16, .f32⟩
  | 13 => ⟨S32768x16, .f32⟩
  | 14 => ⟨S32768x16, .f32⟩
  | 15 => ⟨S_, .f32⟩
  | 16 => ⟨S32768x16, .f32⟩
  | 17 => ⟨S32768x16, .f32⟩
  | 18 => ⟨S_, .f32⟩
  | 19 => ⟨S32768x16, .f32⟩
  | 20 => ⟨S32768x16, .f32⟩
  | 21 => ⟨S1x16, .f32⟩
  | 22 => ⟨S32768x16, .f32⟩
  | 23 => ⟨S32768x16, .f32⟩
  | 24 => ⟨S32768x4x4, .f32⟩
  | 25 => ⟨S32768x4x2, .f32⟩
  | 26 => ⟨S32768x4x2, .i32⟩
  | 27 => ⟨S_, .f32⟩
  | 28 => ⟨S32768x4, .f32⟩
  | 29 => ⟨S32768x1, .f32⟩
  | 30 => ⟨S32768x1, .i32⟩
  | 31 => ⟨S32768, .i32⟩
  | 32 => ⟨S16, .i32⟩
  | 33 => ⟨S_, .i32⟩
  | 34 => ⟨S_, .i32⟩
  | 35 => ⟨S16, .i32⟩
  | 36 => ⟨S16, .i32⟩
  | 37 => ⟨S16, .i32⟩
  | 38 => ⟨S_, .i32⟩
  | 39 => ⟨S16, .i32⟩
  | 40 => ⟨S16, .i1⟩
  | 41 => ⟨S16, .i32⟩
  | 42 => ⟨S16, .i32⟩
  | 43 => ⟨S_, .i32⟩
  | 44 => ⟨S16, .i32⟩
  | 45 => ⟨S16, .i1⟩
  | 46 => ⟨S16, .i1⟩
  | 47 => ⟨S_, .i32⟩
  | 48 => ⟨S16, .i32⟩
  | 49 => ⟨S16, .i32⟩
  | 50 => ⟨S16, .i32⟩
  | 51 => ⟨S1x16, .i32⟩
  | 52 => ⟨S32768x1, .i32⟩
  | 53 => ⟨S32768x16, .i32⟩
  | 54 => ⟨S32768x16, .i32⟩
  | 55 => ⟨S32768x16, .i1⟩
  | 56 => ⟨S_, .f32⟩
  | 57 => ⟨S_, .f32⟩
  | 58 => ⟨S32768x16, .f32⟩
  | 59 => ⟨S32768x16, .f32⟩
  | 60 => ⟨S32768x2, .f32⟩
  | 61 => ⟨S32768x2, .i32⟩
  | 62 => ⟨S_, .i32⟩
  | 63 => ⟨S32768x2, .i32⟩
  | 64 => ⟨S32768x2, .i1⟩
  | 65 => ⟨S_, .i32⟩
  | 66 => ⟨S32768x2, .i32⟩
  | 67 => ⟨S32768x2, .i32⟩
  | 68 => ⟨S32768x2, .i32⟩
  | 69 => ⟨S32768x2x1, .i32⟩
  | 70 => ⟨S1, .i32⟩
  | 71 => ⟨S_, .i32⟩
  | 72 => ⟨S32768x2x1, .i32⟩
  | 73 => ⟨S32768x2x1, .i1⟩
  | 74 => ⟨S1x1x1, .i32⟩
  | 75 => ⟨S32768x2x1, .i32⟩
  | 76 => ⟨S32768x2x1, .i1⟩
  | 77 => ⟨S32768x2x1, .i1⟩
  | 78 => ⟨S_, .i1⟩
  | 79 => ⟨S32768x2, .i1⟩
  | 80 => ⟨S32768x2, .f32⟩
  | 81 => ⟨S_, .f32⟩
  | 82 => ⟨S32768x2, .f32⟩
  | 83 => ⟨S32768x2, .f32⟩
  | 84 => ⟨S_, .f32⟩
  | 85 => ⟨S32768, .f32⟩
  | 86 => ⟨S32768x1, .f32⟩
  | 87 => ⟨S32768x2, .f32⟩
  | 88 => ⟨S32768x2, .f32⟩
  | 89 => ⟨S32768x2x1, .i32⟩
  | 90 => ⟨S1x1x16, .i32⟩
  | 91 => ⟨S32768x2x16, .i32⟩
  | 92 => ⟨S32768x2x16, .i32⟩
  | 93 => ⟨S32768x2x16, .i1⟩
  | 94 => ⟨S32768x2x16, .f32⟩
  | 95 => ⟨S32768x2x1, .f32⟩
  | 96 => ⟨S32768x2x16, .f32⟩
  | 97 => ⟨S32768x2x16, .f32⟩
  | 98 => ⟨S_, .f32⟩
  | 99 => ⟨S32768x16, .f32⟩
  | 100 => ⟨S_, .f32⟩
  | 101 => ⟨S32768x1024, .f32⟩
  | 102 => ⟨S1x1024x256, .f32⟩
  | 103 => ⟨S1024x256, .f32⟩
  | 104 => ⟨S32768x256, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S_, .f32⟩
  | 111 => ⟨S32768x256, .f32⟩
  | 112 => ⟨S32768x256, .f32⟩
  | 113 => ⟨S32768x256, .f32⟩
  | 114 => ⟨S1x1024x256, .f32⟩
  | 115 => ⟨S1024x256, .f32⟩
  | 116 => ⟨S32768x256, .f32⟩
  | 117 => ⟨S32768x256, .f32⟩
  | 118 => ⟨S1x256x1024, .f32⟩
  | 119 => ⟨S256x1024, .f32⟩
  | 120 => ⟨S32768x1024, .f32⟩
  | 121 => ⟨S32768x1, .f32⟩
  | 122 => ⟨S32768x1024, .f32⟩
  | 123 => ⟨S32768x1024, .f32⟩
  | 124 => ⟨S32768x1024, .f32⟩
  | 125 => ⟨S1x1024x256, .f32⟩
  | 126 => ⟨S1024x256, .f32⟩
  | 127 => ⟨S32768x256, .f32⟩
  | _ => ⟨S4x8192x1024, .bf16⟩

abbrev hbmTy0_1 (i : Nat) : BufTy := match i % 128 with
  | 0 => ⟨S32768x256, .f32⟩
  | 1 => ⟨S32768x256, .f32⟩
  | 2 => ⟨S_, .f32⟩
  | 3 => ⟨S32768x256, .f32⟩
  | 4 => ⟨S32768x256, .f32⟩
  | 5 => ⟨S_, .f32⟩
  | 6 => ⟨S32768x256, .f32⟩
  | 7 => ⟨S32768x256, .f32⟩
  | 8 => ⟨S32768x256, .f32⟩
  | 9 => ⟨S1x1024x256, .f32⟩
  | 10 => ⟨S1024x256, .f32⟩
  | 11 => ⟨S32768x256, .f32⟩
  | 12 => ⟨S32768x256, .f32⟩
  | 13 => ⟨S1x256x1024, .f32⟩
  | 14 => ⟨S256x1024, .f32⟩
  | 15 => ⟨S32768x1024, .f32⟩
  | 16 => ⟨S32768x1, .f32⟩
  | 17 => ⟨S32768x1024, .f32⟩
  | 18 => ⟨S32768x1024, .f32⟩
  | 19 => ⟨S32768x1024, .f32⟩
  | 20 => ⟨S1x1024x256, .f32⟩
  | 21 => ⟨S1024x256, .f32⟩
  | 22 => ⟨S32768x256, .f32⟩
  | 23 => ⟨S32768x256, .f32⟩
  | 24 => ⟨S32768x256, .f32⟩
  | 25 => ⟨S_, .f32⟩
  | 26 => ⟨S32768x256, .f32⟩
  | 27 => ⟨S32768x256, .f32⟩
  | 28 => ⟨S_, .f32⟩
  | 29 => ⟨S32768x256, .f32⟩
  | 30 => ⟨S32768x256, .f32⟩
  | 31 => ⟨S32768x256, .f32⟩
  | 32 => ⟨S1x1024x256, .f32⟩
  | 33 => ⟨S1024x256, .f32⟩
  | 34 => ⟨S32768x256, .f32⟩
  | 35 => ⟨S32768x256, .f32⟩
  | 36 => ⟨S1x256x1024, .f32⟩
  | 37 => ⟨S256x1024, .f32⟩
  | 38 => ⟨S32768x1024, .f32⟩
  | 39 => ⟨S32768x1, .f32⟩
  | 40 => ⟨S32768x1024, .f32⟩
  | 41 => ⟨S32768x1024, .f32⟩
  | 42 => ⟨S32768x1024, .f32⟩
  | 43 => ⟨S1x1024x256, .f32⟩
  | 44 => ⟨S1024x256, .f32⟩
  | 45 => ⟨S32768x256, .f32⟩
  | 46 => ⟨S32768x256, .f32⟩
  | 47 => ⟨S32768x256, .f32⟩
  | 48 => ⟨S_, .f32⟩
  | 49 => ⟨S32768x256, .f32⟩
  | 50 => ⟨S32768x256, .f32⟩
  | 51 => ⟨S_, .f32⟩
  | 52 => ⟨S32768x256, .f32⟩
  | 53 => ⟨S32768x256, .f32⟩
  | 54 => ⟨S32768x256, .f32⟩
  | 55 => ⟨S1x1024x256, .f32⟩
  | 56 => ⟨S1024x256, .f32⟩
  | 57 => ⟨S32768x256, .f32⟩
  | 58 => ⟨S32768x256, .f32⟩
  | 59 => ⟨S1x256x1024, .f32⟩
  | 60 => ⟨S256x1024, .f32⟩
  | 61 => ⟨S32768x1024, .f32⟩
  | 62 => ⟨S32768x1, .f32⟩
  | 63 => ⟨S32768x1024, .f32⟩
  | 64 => ⟨S32768x1024, .f32⟩
  | 65 => ⟨S32768x1024, .f32⟩
  | 66 => ⟨S1x1024x256, .f32⟩
  | 67 => ⟨S1024x256, .f32⟩
  | 68 => ⟨S32768x256, .f32⟩
  | 69 => ⟨S32768x256, .f32⟩
  | 70 => ⟨S32768x256, .f32⟩
  | 71 => ⟨S_, .f32⟩
  | 72 => ⟨S32768x256, .f32⟩
  | 73 => ⟨S32768x256, .f32⟩
  | 74 => ⟨S_, .f32⟩
  | 75 => ⟨S32768x256, .f32⟩
  | 76 => ⟨S32768x256, .f32⟩
  | 77 => ⟨S32768x256, .f32⟩
  | 78 => ⟨S1x1024x256, .f32⟩
  | 79 => ⟨S1024x256, .f32⟩
  | 80 => ⟨S32768x256, .f32⟩
  | 81 => ⟨S32768x256, .f32⟩
  | 82 => ⟨S1x256x1024, .f32⟩
  | 83 => ⟨S256x1024, .f32⟩
  | 84 => ⟨S32768x1024, .f32⟩
  | 85 => ⟨S32768x1, .f32⟩
  | 86 => ⟨S32768x1024, .f32⟩
  | 87 => ⟨S32768x1024, .f32⟩
  | 88 => ⟨S32768x1024, .f32⟩
  | 89 => ⟨S1x1024x256, .f32⟩
  | 90 => ⟨S1024x256, .f32⟩
  | 91 => ⟨S32768x256, .f32⟩
  | 92 => ⟨S32768x256, .f32⟩
  | 93 => ⟨S32768x256, .f32⟩
  | 94 => ⟨S_, .f32⟩
  | 95 => ⟨S32768x256, .f32⟩
  | 96 => ⟨S32768x256, .f32⟩
  | 97 => ⟨S_, .f32⟩
  | 98 => ⟨S32768x256, .f32⟩
  | 99 => ⟨S32768x256, .f32⟩
  | 100 => ⟨S32768x256, .f32⟩
  | 101 => ⟨S1x1024x256, .f32⟩
  | 102 => ⟨S1024x256, .f32⟩
  | 103 => ⟨S32768x256, .f32⟩
  | 104 => ⟨S32768x256, .f32⟩
  | 105 => ⟨S1x256x1024, .f32⟩
  | 106 => ⟨S256x1024, .f32⟩
  | 107 => ⟨S32768x1024, .f32⟩
  | 108 => ⟨S32768x1, .f32⟩
  | 109 => ⟨S32768x1024, .f32⟩
  | 110 => ⟨S32768x1024, .f32⟩
  | 111 => ⟨S32768x1024, .f32⟩
  | 112 => ⟨S1x1024x256, .f32⟩
  | 113 => ⟨S1024x256, .f32⟩
  | 114 => ⟨S32768x256, .f32⟩
  | 115 => ⟨S32768x256, .f32⟩
  | 116 => ⟨S32768x256, .f32⟩
  | 117 => ⟨S_, .f32⟩
  | 118 => ⟨S32768x256, .f32⟩
  | 119 => ⟨S32768x256, .f32⟩
  | 120 => ⟨S_, .f32⟩
  | 121 => ⟨S32768x256, .f32⟩
  | 122 => ⟨S32768x256, .f32⟩
  | 123 => ⟨S32768x256, .f32⟩
  | 124 => ⟨S1x1024x256, .f32⟩
  | 125 => ⟨S1024x256, .f32⟩
  | 126 => ⟨S32768x256, .f32⟩
  | 127 => ⟨S32768x256, .f32⟩
  | _ => ⟨S4x8192x1024, .bf16⟩

abbrev hbmTy0_2 (i : Nat) : BufTy := match i % 128 with
  | 0 => ⟨S1x256x1024, .f32⟩
  | 1 => ⟨S256x1024, .f32⟩
  | 2 => ⟨S32768x1024, .f32⟩
  | 3 => ⟨S32768x1, .f32⟩
  | 4 => ⟨S32768x1024, .f32⟩
  | 5 => ⟨S32768x1024, .f32⟩
  | 6 => ⟨S32768x1024, .f32⟩
  | 7 => ⟨S1x1024x256, .f32⟩
  | 8 => ⟨S1024x256, .f32⟩
  | 9 => ⟨S32768x256, .f32⟩
  | 10 => ⟨S32768x256, .f32⟩
  | 11 => ⟨S32768x256, .f32⟩
  | 12 => ⟨S_, .f32⟩
  | 13 => ⟨S32768x256, .f32⟩
  | 14 => ⟨S32768x256, .f32⟩
  | 15 => ⟨S_, .f32⟩
  | 16 => ⟨S32768x256, .f32⟩
  | 17 => ⟨S32768x256, .f32⟩
  | 18 => ⟨S32768x256, .f32⟩
  | 19 => ⟨S1x1024x256, .f32⟩
  | 20 => ⟨S1024x256, .f32⟩
  | 21 => ⟨S32768x256, .f32⟩
  | 22 => ⟨S32768x256, .f32⟩
  | 23 => ⟨S1x256x1024, .f32⟩
  | 24 => ⟨S256x1024, .f32⟩
  | 25 => ⟨S32768x1024, .f32⟩
  | 26 => ⟨S32768x1, .f32⟩
  | 27 => ⟨S32768x1024, .f32⟩
  | 28 => ⟨S32768x1024, .f32⟩
  | 29 => ⟨S32768x1024, .f32⟩
  | 30 => ⟨S1x1024x256, .f32⟩
  | 31 => ⟨S1024x256, .f32⟩
  | 32 => ⟨S32768x256, .f32⟩
  | 33 => ⟨S32768x256, .f32⟩
  | 34 => ⟨S32768x256, .f32⟩
  | 35 => ⟨S_, .f32⟩
  | 36 => ⟨S32768x256, .f32⟩
  | 37 => ⟨S32768x256, .f32⟩
  | 38 => ⟨S_, .f32⟩
  | 39 => ⟨S32768x256, .f32⟩
  | 40 => ⟨S32768x256, .f32⟩
  | 41 => ⟨S32768x256, .f32⟩
  | 42 => ⟨S1x1024x256, .f32⟩
  | 43 => ⟨S1024x256, .f32⟩
  | 44 => ⟨S32768x256, .f32⟩
  | 45 => ⟨S32768x256, .f32⟩
  | 46 => ⟨S1x256x1024, .f32⟩
  | 47 => ⟨S256x1024, .f32⟩
  | 48 => ⟨S32768x1024, .f32⟩
  | 49 => ⟨S32768x1, .f32⟩
  | 50 => ⟨S32768x1024, .f32⟩
  | 51 => ⟨S32768x1024, .f32⟩
  | 52 => ⟨S32768x1024, .f32⟩
  | 53 => ⟨S1x1024x256, .f32⟩
  | 54 => ⟨S1024x256, .f32⟩
  | 55 => ⟨S32768x256, .f32⟩
  | 56 => ⟨S32768x256, .f32⟩
  | 57 => ⟨S32768x256, .f32⟩
  | 58 => ⟨S_, .f32⟩
  | 59 => ⟨S32768x256, .f32⟩
  | 60 => ⟨S32768x256, .f32⟩
  | 61 => ⟨S_, .f32⟩
  | 62 => ⟨S32768x256, .f32⟩
  | 63 => ⟨S32768x256, .f32⟩
  | 64 => ⟨S32768x256, .f32⟩
  | 65 => ⟨S1x1024x256, .f32⟩
  | 66 => ⟨S1024x256, .f32⟩
  | 67 => ⟨S32768x256, .f32⟩
  | 68 => ⟨S32768x256, .f32⟩
  | 69 => ⟨S1x256x1024, .f32⟩
  | 70 => ⟨S256x1024, .f32⟩
  | 71 => ⟨S32768x1024, .f32⟩
  | 72 => ⟨S32768x1, .f32⟩
  | 73 => ⟨S32768x1024, .f32⟩
  | 74 => ⟨S32768x1024, .f32⟩
  | 75 => ⟨S32768x1024, .f32⟩
  | 76 => ⟨S1x1024x256, .f32⟩
  | 77 => ⟨S1024x256, .f32⟩
  | 78 => ⟨S32768x256, .f32⟩
  | 79 => ⟨S32768x256, .f32⟩
  | 80 => ⟨S32768x256, .f32⟩
  | 81 => ⟨S_, .f32⟩
  | 82 => ⟨S32768x256, .f32⟩
  | 83 => ⟨S32768x256, .f32⟩
  | 84 => ⟨S_, .f32⟩
  | 85 => ⟨S32768x256, .f32⟩
  | 86 => ⟨S32768x256, .f32⟩
  | 87 => ⟨S32768x256, .f32⟩
  | 88 => ⟨S1x1024x256, .f32⟩
  | 89 => ⟨S1024x256, .f32⟩
  | 90 => ⟨S32768x256, .f32⟩
  | 91 => ⟨S32768x256, .f32⟩
  | 92 => ⟨S1x256x1024, .f32⟩
  | 93 => ⟨S256x1024, .f32⟩
  | 94 => ⟨S32768x1024, .f32⟩
  | 95 => ⟨S32768x1, .f32⟩
  | 96 => ⟨S32768x1024, .f32⟩
  | 97 => ⟨S32768x1024, .f32⟩
  | 98 => ⟨S32768x1024, .f32⟩
  | 99 => ⟨S1x1024x256, .f32⟩
  | 100 => ⟨S1024x256, .f32⟩
  | 101 => ⟨S32768x256, .f32⟩
  | 102 => ⟨S32768x256, .f32⟩
  | 103 => ⟨S32768x256, .f32⟩
  | 104 => ⟨S_, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S32768x256, .f32⟩
  | 111 => ⟨S1x1024x256, .f32⟩
  | 112 => ⟨S1024x256, .f32⟩
  | 113 => ⟨S32768x256, .f32⟩
  | 114 => ⟨S32768x256, .f32⟩
  | 115 => ⟨S1x256x1024, .f32⟩
  | 116 => ⟨S256x1024, .f32⟩
  | 117 => ⟨S32768x1024, .f32⟩
  | 118 => ⟨S32768x1, .f32⟩
  | 119 => ⟨S32768x1024, .f32⟩
  | 120 => ⟨S32768x1024, .f32⟩
  | 121 => ⟨S32768x1024, .f32⟩
  | 122 => ⟨S1x1024x256, .f32⟩
  | 123 => ⟨S1024x256, .f32⟩
  | 124 => ⟨S32768x256, .f32⟩
  | 125 => ⟨S32768x256, .f32⟩
  | 126 => ⟨S32768x256, .f32⟩
  | 127 => ⟨S_, .f32⟩
  | _ => ⟨S4x8192x1024, .bf16⟩

abbrev hbmTy0_3 (i : Nat) : BufTy := match i % 128 with
  | 0 => ⟨S32768x256, .f32⟩
  | 1 => ⟨S32768x256, .f32⟩
  | 2 => ⟨S_, .f32⟩
  | 3 => ⟨S32768x256, .f32⟩
  | 4 => ⟨S32768x256, .f32⟩
  | 5 => ⟨S32768x256, .f32⟩
  | 6 => ⟨S1x1024x256, .f32⟩
  | 7 => ⟨S1024x256, .f32⟩
  | 8 => ⟨S32768x256, .f32⟩
  | 9 => ⟨S32768x256, .f32⟩
  | 10 => ⟨S1x256x1024, .f32⟩
  | 11 => ⟨S256x1024, .f32⟩
  | 12 => ⟨S32768x1024, .f32⟩
  | 13 => ⟨S32768x1, .f32⟩
  | 14 => ⟨S32768x1024, .f32⟩
  | 15 => ⟨S32768x1024, .f32⟩
  | 16 => ⟨S32768x1024, .f32⟩
  | 17 => ⟨S1x1024x256, .f32⟩
  | 18 => ⟨S1024x256, .f32⟩
  | 19 => ⟨S32768x256, .f32⟩
  | 20 => ⟨S32768x256, .f32⟩
  | 21 => ⟨S32768x256, .f32⟩
  | 22 => ⟨S_, .f32⟩
  | 23 => ⟨S32768x256, .f32⟩
  | 24 => ⟨S32768x256, .f32⟩
  | 25 => ⟨S_, .f32⟩
  | 26 => ⟨S32768x256, .f32⟩
  | 27 => ⟨S32768x256, .f32⟩
  | 28 => ⟨S32768x256, .f32⟩
  | 29 => ⟨S1x1024x256, .f32⟩
  | 30 => ⟨S1024x256, .f32⟩
  | 31 => ⟨S32768x256, .f32⟩
  | 32 => ⟨S32768x256, .f32⟩
  | 33 => ⟨S1x256x1024, .f32⟩
  | 34 => ⟨S256x1024, .f32⟩
  | 35 => ⟨S32768x1024, .f32⟩
  | 36 => ⟨S32768x1, .f32⟩
  | 37 => ⟨S32768x1024, .f32⟩
  | 38 => ⟨S32768x1024, .f32⟩
  | 39 => ⟨S32768x1024, .f32⟩
  | 40 => ⟨S1x1024x256, .f32⟩
  | 41 => ⟨S1024x256, .f32⟩
  | 42 => ⟨S32768x256, .f32⟩
  | 43 => ⟨S32768x256, .f32⟩
  | 44 => ⟨S32768x256, .f32⟩
  | 45 => ⟨S_, .f32⟩
  | 46 => ⟨S32768x256, .f32⟩
  | 47 => ⟨S32768x256, .f32⟩
  | 48 => ⟨S_, .f32⟩
  | 49 => ⟨S32768x256, .f32⟩
  | 50 => ⟨S32768x256, .f32⟩
  | 51 => ⟨S32768x256, .f32⟩
  | 52 => ⟨S1x1024x256, .f32⟩
  | 53 => ⟨S1024x256, .f32⟩
  | 54 => ⟨S32768x256, .f32⟩
  | 55 => ⟨S32768x256, .f32⟩
  | 56 => ⟨S1x256x1024, .f32⟩
  | 57 => ⟨S256x1024, .f32⟩
  | 58 => ⟨S32768x1024, .f32⟩
  | 59 => ⟨S32768x1, .f32⟩
  | 60 => ⟨S32768x1024, .f32⟩
  | 61 => ⟨S32768x1024, .f32⟩
  | 62 => ⟨S32768x1024, .f32⟩
  | 63 => ⟨S1x1024x256, .f32⟩
  | 64 => ⟨S1024x256, .f32⟩
  | 65 => ⟨S32768x256, .f32⟩
  | 66 => ⟨S32768x256, .f32⟩
  | 67 => ⟨S32768x256, .f32⟩
  | 68 => ⟨S_, .f32⟩
  | 69 => ⟨S32768x256, .f32⟩
  | 70 => ⟨S32768x256, .f32⟩
  | 71 => ⟨S_, .f32⟩
  | 72 => ⟨S32768x256, .f32⟩
  | 73 => ⟨S32768x256, .f32⟩
  | 74 => ⟨S32768x256, .f32⟩
  | 75 => ⟨S1x1024x256, .f32⟩
  | 76 => ⟨S1024x256, .f32⟩
  | 77 => ⟨S32768x256, .f32⟩
  | 78 => ⟨S32768x256, .f32⟩
  | 79 => ⟨S1x256x1024, .f32⟩
  | 80 => ⟨S256x1024, .f32⟩
  | 81 => ⟨S32768x1024, .f32⟩
  | 82 => ⟨S32768x1, .f32⟩
  | 83 => ⟨S32768x1024, .f32⟩
  | 84 => ⟨S32768x1024, .f32⟩
  | 85 => ⟨S32768x1024, .f32⟩
  | 86 => ⟨S4x1x1024, .f32⟩
  | 87 => ⟨S4x8192x1024, .f32⟩
  | 88 => ⟨S4x8192x1024, .f32⟩
  | 89 => ⟨S4x8192x1024, .f32⟩
  | 90 => ⟨S4x8192x1024, .f32⟩
  | 91 => ⟨S32768x1024, .f32⟩
  | _ => ⟨S4x8192x1024, .bf16⟩

abbrev hbmTy (i : Nat) : BufTy := match i / 128 with
  | 0 => hbmTy0_0 i
  | 1 => hbmTy0_1 i
  | 2 => hbmTy0_2 i
  | 3 => hbmTy0_3 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_values : Ref sig .tc := ⟨.hbm, 25, rfl⟩
abbrev main_indices : Ref sig .tc := ⟨.hbm, 26, rfl⟩
abbrev main_cst_1 : Ref sig .tc := ⟨.hbm, 27, rfl⟩
abbrev main_v14 : Ref sig .tc := ⟨.hbm, 28, rfl⟩
abbrev main_values_2 : Ref sig .tc := ⟨.hbm, 29, rfl⟩
abbrev main_indices_3 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_v23 : Ref sig .tc := ⟨.hbm, 59, rfl⟩
abbrev main_values_5 : Ref sig .tc := ⟨.hbm, 60, rfl⟩
abbrev main_indices_6 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v24 : Ref sig .tc := ⟨.hbm, 83, rfl⟩
abbrev main_cst_7 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_cst_8 : Ref sig .tc := ⟨.hbm, 98, rfl⟩
abbrev main_v33 : Ref sig .tc := ⟨.hbm, 99, rfl⟩
abbrev main_cst_9 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_call4_v0 : Ref sig .tc := ⟨.hbm, 105, rfl⟩
abbrev main_call4_v1 : Ref sig .tc := ⟨.hbm, 106, rfl⟩
abbrev main_call4_cst : Ref sig .tc := ⟨.hbm, 107, rfl⟩
abbrev main_call4_v2 : Ref sig .tc := ⟨.hbm, 108, rfl⟩
abbrev main_call4_v3 : Ref sig .tc := ⟨.hbm, 109, rfl⟩
abbrev main_call4_cst_0 : Ref sig .tc := ⟨.hbm, 110, rfl⟩
abbrev main_call4_v4 : Ref sig .tc := ⟨.hbm, 111, rfl⟩
abbrev main_call4_v5 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_call7_v0 : Ref sig .tc := ⟨.hbm, 174, rfl⟩
abbrev main_call7_v1 : Ref sig .tc := ⟨.hbm, 175, rfl⟩
abbrev main_call7_cst : Ref sig .tc := ⟨.hbm, 176, rfl⟩
abbrev main_call7_v2 : Ref sig .tc := ⟨.hbm, 177, rfl⟩
abbrev main_call7_v3 : Ref sig .tc := ⟨.hbm, 178, rfl⟩
abbrev main_call7_cst_0 : Ref sig .tc := ⟨.hbm, 179, rfl⟩
abbrev main_call7_v4 : Ref sig .tc := ⟨.hbm, 180, rfl⟩
abbrev main_call7_v5 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_v97 : Ref sig .tc := ⟨.hbm, 196, rfl⟩
abbrev main_call8_v0 : Ref sig .tc := ⟨.hbm, 197, rfl⟩
abbrev main_call8_v1 : Ref sig .tc := ⟨.hbm, 198, rfl⟩
abbrev main_call8_cst : Ref sig .tc := ⟨.hbm, 199, rfl⟩
abbrev main_call8_v2 : Ref sig .tc := ⟨.hbm, 200, rfl⟩
abbrev main_call8_v3 : Ref sig .tc := ⟨.hbm, 201, rfl⟩
abbrev main_call8_cst_0 : Ref sig .tc := ⟨.hbm, 202, rfl⟩
abbrev main_call8_v4 : Ref sig .tc := ⟨.hbm, 203, rfl⟩
abbrev main_call8_v5 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_call9_v0 : Ref sig .tc := ⟨.hbm, 220, rfl⟩
abbrev main_call9_v1 : Ref sig .tc := ⟨.hbm, 221, rfl⟩
abbrev main_call9_cst : Ref sig .tc := ⟨.hbm, 222, rfl⟩
abbrev main_call9_v2 : Ref sig .tc := ⟨.hbm, 223, rfl⟩
abbrev main_call9_v3 : Ref sig .tc := ⟨.hbm, 224, rfl⟩
abbrev main_call9_cst_0 : Ref sig .tc := ⟨.hbm, 225, rfl⟩
abbrev main_call9_v4 : Ref sig .tc := ⟨.hbm, 226, rfl⟩
abbrev main_call9_v5 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_call10_v0 : Ref sig .tc := ⟨.hbm, 243, rfl⟩
abbrev main_call10_v1 : Ref sig .tc := ⟨.hbm, 244, rfl⟩
abbrev main_call10_cst : Ref sig .tc := ⟨.hbm, 245, rfl⟩
abbrev main_call10_v2 : Ref sig .tc := ⟨.hbm, 246, rfl⟩
abbrev main_call10_v3 : Ref sig .tc := ⟨.hbm, 247, rfl⟩
abbrev main_call10_cst_0 : Ref sig .tc := ⟨.hbm, 248, rfl⟩
abbrev main_call10_v4 : Ref sig .tc := ⟨.hbm, 249, rfl⟩
abbrev main_call10_v5 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_call11_v0 : Ref sig .tc := ⟨.hbm, 266, rfl⟩
abbrev main_call11_v1 : Ref sig .tc := ⟨.hbm, 267, rfl⟩
abbrev main_call11_cst : Ref sig .tc := ⟨.hbm, 268, rfl⟩
abbrev main_call11_v2 : Ref sig .tc := ⟨.hbm, 269, rfl⟩
abbrev main_call11_v3 : Ref sig .tc := ⟨.hbm, 270, rfl⟩
abbrev main_call11_cst_0 : Ref sig .tc := ⟨.hbm, 271, rfl⟩
abbrev main_call11_v4 : Ref sig .tc := ⟨.hbm, 272, rfl⟩
abbrev main_call11_v5 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_v147 : Ref sig .tc := ⟨.hbm, 278, rfl⟩
abbrev main_v148 : Ref sig .tc := ⟨.hbm, 279, rfl⟩
abbrev main_v149 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_call12_v0 : Ref sig .tc := ⟨.hbm, 289, rfl⟩
abbrev main_call12_v1 : Ref sig .tc := ⟨.hbm, 290, rfl⟩
abbrev main_call12_cst : Ref sig .tc := ⟨.hbm, 291, rfl⟩
abbrev main_call12_v2 : Ref sig .tc := ⟨.hbm, 292, rfl⟩
abbrev main_call12_v3 : Ref sig .tc := ⟨.hbm, 293, rfl⟩
abbrev main_call12_cst_0 : Ref sig .tc := ⟨.hbm, 294, rfl⟩
abbrev main_call12_v4 : Ref sig .tc := ⟨.hbm, 295, rfl⟩
abbrev main_call12_v5 : Ref sig .tc := ⟨.hbm, 296, rfl⟩
abbrev main_v158 : Ref sig .tc := ⟨.hbm, 297, rfl⟩
abbrev main_v159 : Ref sig .tc := ⟨.hbm, 298, rfl⟩
abbrev main_v160 : Ref sig .tc := ⟨.hbm, 299, rfl⟩
abbrev main_v161 : Ref sig .tc := ⟨.hbm, 300, rfl⟩
abbrev main_v162 : Ref sig .tc := ⟨.hbm, 301, rfl⟩
abbrev main_v163 : Ref sig .tc := ⟨.hbm, 302, rfl⟩
abbrev main_v164 : Ref sig .tc := ⟨.hbm, 303, rfl⟩
abbrev main_v165 : Ref sig .tc := ⟨.hbm, 304, rfl⟩
abbrev main_v166 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_call13_v0 : Ref sig .tc := ⟨.hbm, 312, rfl⟩
abbrev main_call13_v1 : Ref sig .tc := ⟨.hbm, 313, rfl⟩
abbrev main_call13_cst : Ref sig .tc := ⟨.hbm, 314, rfl⟩
abbrev main_call13_v2 : Ref sig .tc := ⟨.hbm, 315, rfl⟩
abbrev main_call13_v3 : Ref sig .tc := ⟨.hbm, 316, rfl⟩
abbrev main_call13_cst_0 : Ref sig .tc := ⟨.hbm, 317, rfl⟩
abbrev main_call13_v4 : Ref sig .tc := ⟨.hbm, 318, rfl⟩
abbrev main_call13_v5 : Ref sig .tc := ⟨.hbm, 319, rfl⟩
abbrev main_v173 : Ref sig .tc := ⟨.hbm, 320, rfl⟩
abbrev main_v174 : Ref sig .tc := ⟨.hbm, 321, rfl⟩
abbrev main_v175 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_v181 : Ref sig .tc := ⟨.hbm, 328, rfl⟩
abbrev main_v182 : Ref sig .tc := ⟨.hbm, 329, rfl⟩
abbrev main_v183 : Ref sig .tc := ⟨.hbm, 330, rfl⟩
abbrev main_v184 : Ref sig .tc := ⟨.hbm, 331, rfl⟩
abbrev main_v185 : Ref sig .tc := ⟨.hbm, 332, rfl⟩
abbrev main_v186 : Ref sig .tc := ⟨.hbm, 333, rfl⟩
abbrev main_v187 : Ref sig .tc := ⟨.hbm, 334, rfl⟩
abbrev main_call14_v0 : Ref sig .tc := ⟨.hbm, 335, rfl⟩
abbrev main_call14_v1 : Ref sig .tc := ⟨.hbm, 336, rfl⟩
abbrev main_call14_cst : Ref sig .tc := ⟨.hbm, 337, rfl⟩
abbrev main_call14_v2 : Ref sig .tc := ⟨.hbm, 338, rfl⟩
abbrev main_call14_v3 : Ref sig .tc := ⟨.hbm, 339, rfl⟩
abbrev main_call14_cst_0 : Ref sig .tc := ⟨.hbm, 340, rfl⟩
abbrev main_call14_v4 : Ref sig .tc := ⟨.hbm, 341, rfl⟩
abbrev main_call14_v5 : Ref sig .tc := ⟨.hbm, 342, rfl⟩
abbrev main_v188 : Ref sig .tc := ⟨.hbm, 343, rfl⟩
abbrev main_v189 : Ref sig .tc := ⟨.hbm, 344, rfl⟩
abbrev main_v190 : Ref sig .tc := ⟨.hbm, 345, rfl⟩
abbrev main_v191 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_v195 : Ref sig .tc := ⟨.hbm, 350, rfl⟩
abbrev main_v196 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_v200 : Ref sig .tc := ⟨.hbm, 355, rfl⟩
abbrev main_v201 : Ref sig .tc := ⟨.hbm, 356, rfl⟩
abbrev main_v202 : Ref sig .tc := ⟨.hbm, 357, rfl⟩
abbrev main_call15_v0 : Ref sig .tc := ⟨.hbm, 358, rfl⟩
abbrev main_call15_v1 : Ref sig .tc := ⟨.hbm, 359, rfl⟩
abbrev main_call15_cst : Ref sig .tc := ⟨.hbm, 360, rfl⟩
abbrev main_call15_v2 : Ref sig .tc := ⟨.hbm, 361, rfl⟩
abbrev main_call15_v3 : Ref sig .tc := ⟨.hbm, 362, rfl⟩
abbrev main_call15_cst_0 : Ref sig .tc := ⟨.hbm, 363, rfl⟩
abbrev main_call15_v4 : Ref sig .tc := ⟨.hbm, 364, rfl⟩
abbrev main_call15_v5 : Ref sig .tc := ⟨.hbm, 365, rfl⟩
abbrev main_v203 : Ref sig .tc := ⟨.hbm, 366, rfl⟩
abbrev main_v204 : Ref sig .tc := ⟨.hbm, 367, rfl⟩
abbrev main_v205 : Ref sig .tc := ⟨.hbm, 368, rfl⟩
abbrev main_v206 : Ref sig .tc := ⟨.hbm, 369, rfl⟩
abbrev main_v207 : Ref sig .tc := ⟨.hbm, 370, rfl⟩
abbrev main_v208 : Ref sig .tc := ⟨.hbm, 371, rfl⟩
abbrev main_v209 : Ref sig .tc := ⟨.hbm, 372, rfl⟩
abbrev main_v210 : Ref sig .tc := ⟨.hbm, 373, rfl⟩
abbrev main_v211 : Ref sig .tc := ⟨.hbm, 374, rfl⟩
abbrev main_v212 : Ref sig .tc := ⟨.hbm, 375, rfl⟩
abbrev main_v213 : Ref sig .tc := ⟨.hbm, 376, rfl⟩
abbrev main_v214 : Ref sig .tc := ⟨.hbm, 377, rfl⟩
abbrev main_v215 : Ref sig .tc := ⟨.hbm, 378, rfl⟩
abbrev main_v216 : Ref sig .tc := ⟨.hbm, 379, rfl⟩
abbrev main_v217 : Ref sig .tc := ⟨.hbm, 380, rfl⟩
abbrev main_call16_v0 : Ref sig .tc := ⟨.hbm, 381, rfl⟩
abbrev main_call16_v1 : Ref sig .tc := ⟨.hbm, 382, rfl⟩
abbrev main_call16_cst : Ref sig .tc := ⟨.hbm, 383, rfl⟩
abbrev main_call16_v2 : Ref sig .tc := ⟨.hbm, 384, rfl⟩
abbrev main_call16_v3 : Ref sig .tc := ⟨.hbm, 385, rfl⟩
abbrev main_call16_cst_0 : Ref sig .tc := ⟨.hbm, 386, rfl⟩
abbrev main_call16_v4 : Ref sig .tc := ⟨.hbm, 387, rfl⟩
abbrev main_call16_v5 : Ref sig .tc := ⟨.hbm, 388, rfl⟩
abbrev main_v218 : Ref sig .tc := ⟨.hbm, 389, rfl⟩
abbrev main_v219 : Ref sig .tc := ⟨.hbm, 390, rfl⟩
abbrev main_v220 : Ref sig .tc := ⟨.hbm, 391, rfl⟩
abbrev main_v221 : Ref sig .tc := ⟨.hbm, 392, rfl⟩
abbrev main_v222 : Ref sig .tc := ⟨.hbm, 393, rfl⟩
abbrev main_v223 : Ref sig .tc := ⟨.hbm, 394, rfl⟩
abbrev main_v224 : Ref sig .tc := ⟨.hbm, 395, rfl⟩
abbrev main_v225 : Ref sig .tc := ⟨.hbm, 396, rfl⟩
abbrev main_v226 : Ref sig .tc := ⟨.hbm, 397, rfl⟩
abbrev main_v227 : Ref sig .tc := ⟨.hbm, 398, rfl⟩
abbrev main_v228 : Ref sig .tc := ⟨.hbm, 399, rfl⟩
abbrev main_v229 : Ref sig .tc := ⟨.hbm, 400, rfl⟩
abbrev main_v230 : Ref sig .tc := ⟨.hbm, 401, rfl⟩
abbrev main_v231 : Ref sig .tc := ⟨.hbm, 402, rfl⟩
abbrev main_v232 : Ref sig .tc := ⟨.hbm, 403, rfl⟩
abbrev main_call17_v0 : Ref sig .tc := ⟨.hbm, 404, rfl⟩
abbrev main_call17_v1 : Ref sig .tc := ⟨.hbm, 405, rfl⟩
abbrev main_call17_cst : Ref sig .tc := ⟨.hbm, 406, rfl⟩
abbrev main_call17_v2 : Ref sig .tc := ⟨.hbm, 407, rfl⟩
abbrev main_call17_v3 : Ref sig .tc := ⟨.hbm, 408, rfl⟩
abbrev main_call17_cst_0 : Ref sig .tc := ⟨.hbm, 409, rfl⟩
abbrev main_call17_v4 : Ref sig .tc := ⟨.hbm, 410, rfl⟩
abbrev main_call17_v5 : Ref sig .tc := ⟨.hbm, 411, rfl⟩
abbrev main_v233 : Ref sig .tc := ⟨.hbm, 412, rfl⟩
abbrev main_v234 : Ref sig .tc := ⟨.hbm, 413, rfl⟩
abbrev main_v235 : Ref sig .tc := ⟨.hbm, 414, rfl⟩
abbrev main_v236 : Ref sig .tc := ⟨.hbm, 415, rfl⟩
abbrev main_v237 : Ref sig .tc := ⟨.hbm, 416, rfl⟩
abbrev main_v238 : Ref sig .tc := ⟨.hbm, 417, rfl⟩
abbrev main_v239 : Ref sig .tc := ⟨.hbm, 418, rfl⟩
abbrev main_v240 : Ref sig .tc := ⟨.hbm, 419, rfl⟩
abbrev main_v241 : Ref sig .tc := ⟨.hbm, 420, rfl⟩
abbrev main_v242 : Ref sig .tc := ⟨.hbm, 421, rfl⟩
abbrev main_v243 : Ref sig .tc := ⟨.hbm, 422, rfl⟩
abbrev main_v244 : Ref sig .tc := ⟨.hbm, 423, rfl⟩
abbrev main_v245 : Ref sig .tc := ⟨.hbm, 424, rfl⟩
abbrev main_v246 : Ref sig .tc := ⟨.hbm, 425, rfl⟩
abbrev main_v247 : Ref sig .tc := ⟨.hbm, 426, rfl⟩
abbrev main_call18_v0 : Ref sig .tc := ⟨.hbm, 427, rfl⟩
abbrev main_call18_v1 : Ref sig .tc := ⟨.hbm, 428, rfl⟩
abbrev main_call18_cst : Ref sig .tc := ⟨.hbm, 429, rfl⟩
abbrev main_call18_v2 : Ref sig .tc := ⟨.hbm, 430, rfl⟩
abbrev main_call18_v3 : Ref sig .tc := ⟨.hbm, 431, rfl⟩
abbrev main_call18_cst_0 : Ref sig .tc := ⟨.hbm, 432, rfl⟩
abbrev main_call18_v4 : Ref sig .tc := ⟨.hbm, 433, rfl⟩
abbrev main_call18_v5 : Ref sig .tc := ⟨.hbm, 434, rfl⟩
abbrev main_v248 : Ref sig .tc := ⟨.hbm, 435, rfl⟩
abbrev main_v249 : Ref sig .tc := ⟨.hbm, 436, rfl⟩
abbrev main_v250 : Ref sig .tc := ⟨.hbm, 437, rfl⟩
abbrev main_v251 : Ref sig .tc := ⟨.hbm, 438, rfl⟩
abbrev main_v252 : Ref sig .tc := ⟨.hbm, 439, rfl⟩
abbrev main_v253 : Ref sig .tc := ⟨.hbm, 440, rfl⟩
abbrev main_v254 : Ref sig .tc := ⟨.hbm, 441, rfl⟩
abbrev main_v255 : Ref sig .tc := ⟨.hbm, 442, rfl⟩
abbrev main_v256 : Ref sig .tc := ⟨.hbm, 443, rfl⟩
abbrev main_v257 : Ref sig .tc := ⟨.hbm, 444, rfl⟩
abbrev main_v258 : Ref sig .tc := ⟨.hbm, 445, rfl⟩
abbrev main_v259 : Ref sig .tc := ⟨.hbm, 446, rfl⟩
abbrev main_v260 : Ref sig .tc := ⟨.hbm, 447, rfl⟩
abbrev main_v261 : Ref sig .tc := ⟨.hbm, 448, rfl⟩
abbrev main_v262 : Ref sig .tc := ⟨.hbm, 449, rfl⟩
abbrev main_call19_v0 : Ref sig .tc := ⟨.hbm, 450, rfl⟩
abbrev main_call19_v1 : Ref sig .tc := ⟨.hbm, 451, rfl⟩
abbrev main_call19_cst : Ref sig .tc := ⟨.hbm, 452, rfl⟩
abbrev main_call19_v2 : Ref sig .tc := ⟨.hbm, 453, rfl⟩
abbrev main_call19_v3 : Ref sig .tc := ⟨.hbm, 454, rfl⟩
abbrev main_call19_cst_0 : Ref sig .tc := ⟨.hbm, 455, rfl⟩
abbrev main_call19_v4 : Ref sig .tc := ⟨.hbm, 456, rfl⟩
abbrev main_call19_v5 : Ref sig .tc := ⟨.hbm, 457, rfl⟩
abbrev main_v263 : Ref sig .tc := ⟨.hbm, 458, rfl⟩
abbrev main_v264 : Ref sig .tc := ⟨.hbm, 459, rfl⟩
abbrev main_v265 : Ref sig .tc := ⟨.hbm, 460, rfl⟩
abbrev main_v266 : Ref sig .tc := ⟨.hbm, 461, rfl⟩
abbrev main_v267 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_v272 : Ref sig .tc := ⟨.hbm, 467, rfl⟩
abbrev main_v273 : Ref sig .tc := ⟨.hbm, 468, rfl⟩
abbrev main_v274 : Ref sig .tc := ⟨.hbm, 469, rfl⟩
abbrev main_v275 : Ref sig .tc := ⟨.hbm, 470, rfl⟩
abbrev main_v276 : Ref sig .tc := ⟨.hbm, 471, rfl⟩
abbrev main_v277 : Ref sig .tc := ⟨.hbm, 472, rfl⟩
abbrev main_v278 : Ref sig .tc := ⟨.hbm, 473, rfl⟩
abbrev main_v279 : Ref sig .tc := ⟨.hbm, 474, rfl⟩
abbrev main_v280 : Ref sig .tc := ⟨.hbm, 475, rfl⟩

abbrev nD : Nat := 1
abbrev τ : Topo := Topo.v7x

variable {F : FTy → Type} [FloatOps F]
-- ==== Kernel5.lean ====
abbrev S4x8192x512 : Shape := ⟨3, ![4, 8192, 512]⟩
abbrev S4x256x512 : Shape := ⟨3, ![4, 256, 512]⟩
abbrev S4x8192x256 : Shape := ⟨3, ![4, 8192, 256]⟩
abbrev S1x1024x512 : Shape := ⟨3, ![1, 1024, 512]⟩
abbrev S1x8192x512 : Shape := ⟨3, ![1, 8192, 512]⟩
abbrev S1x256x512 : Shape := ⟨3, ![1, 256, 512]⟩
abbrev S1x1024x256 : Shape := ⟨3, ![1, 1024, 256]⟩
abbrev S2x4x256x1024 : Shape := ⟨4, ![2, 4, 256, 1024]⟩
abbrev S2x4x256x128 : Shape := ⟨4, ![2, 4, 256, 128]⟩
abbrev S4x4x256x128 : Shape := ⟨4, ![4, 4, 256, 128]⟩
abbrev S1x256x128 : Shape := ⟨3, ![1, 256, 128]⟩
abbrev S256x128 : Shape := ⟨2, ![256, 128]⟩
abbrev S1x1024x128 : Shape := ⟨3, ![1, 1024, 128]⟩
abbrev S1024x128 : Shape := ⟨2, ![1024, 128]⟩
abbrev S256x1024 : Shape := ⟨2, ![256, 1024]⟩
abbrev S1x1x256x1024 : Shape := ⟨4, ![1, 1, 256, 1024]⟩
abbrev S1x1x256x128 : Shape := ⟨4, ![1, 1, 256, 128]⟩
abbrev S256 : Shape := ⟨1, ![256]⟩
abbrev S256x1 : Shape := ⟨2, ![256, 1]⟩
abbrev S256x256 : Shape := ⟨2, ![256, 256]⟩
abbrev S1x1x256x256 : Shape := ⟨4, ![1, 1, 256, 256]⟩
abbrev S256x64 : Shape := ⟨2, ![256, 64]⟩
abbrev S1x256x256 : Shape := ⟨3, ![1, 256, 256]⟩

abbrev nBuf : Space → Nat
  | .hbm => 6
  | .vmem => 13
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x256x512, .bf16⟩
  | .hbm, ⟨4, _⟩ => ⟨S4x256x512, .bf16⟩
  | .hbm, ⟨5, _⟩ => ⟨S4x8192x256, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x1024x256, .bf16⟩
  | .local _ .vmem, ⟨7, _⟩ => ⟨S1x1024x256, .bf16⟩
  | .local _ .vmem, ⟨8, _⟩ => ⟨S2x4x256x1024, .f32⟩
  | .local _ .vmem, ⟨9, _⟩ => ⟨S2x4x256x1024, .bf16⟩
  | .local _ .vmem, ⟨10, _⟩ => ⟨S2x4x256x128, .f32⟩
  | .local _ .vmem, ⟨11, _⟩ => ⟨S4x4x256x128, .f32⟩
  | .local _ .vmem, ⟨12, _⟩ => ⟨S4x4x256x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
def k0_mult2 : BitVec 32 :=
  let c0_i32_20 : BitVec 32 := 0#32
  c0_i32_20
def k0_mult3 : BitVec 32 :=
  let c0_i32_29 : BitVec 32 := 0#32
  c0_i32_29
def k0_mult4 : BitVec 32 :=
  let c0_i32_38 : BitVec 32 := 0#32
  c0_i32_38
def k0_mult5 : BitVec 32 :=
  let c1024_i32 : BitVec 32 := 1024#32
  c1024_i32
def k0_mult6 : BitVec 32 :=
  let c1024_i32_58 : BitVec 32 := 1024#32
  c1024_i32_58
def k0_mult7 : BitVec 32 :=
  let c1024_i32_69 : BitVec 32 := 1024#32
  c1024_i32_69
def k0_mult8 : BitVec 32 :=
  let c1024_i32_80 : BitVec 32 := 1024#32
  c1024_i32_80
@[reducible] def k0_t1_loop : Scf.Loop 32 :=
  let c0_i32_520 : BitVec 32 := 0#32
  let c3_i32 : BitVec 32 := 3#32
  let v492 : BitVec 32 := Scalar.addi c0_i32_520 c3_i32
  let c1_i32 : BitVec 32 := 1#32
  ⟨c0_i32_520, v492, c1_i32⟩
def k0_mult9 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5658 : BitVec 32 := 1024#32
  let v5110 : BitVec 32 := Scalar.muli v5106 c1024_i32_5658
  v5110
def k0_off1 (k0_t1 : Fin k0_t1_loop.trips) (c1_i32_5653 : BitVec 32) : Fin 3 → Nat :=
  let c0_5659 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5658 : BitVec 32 := 1024#32
  let v5110 : BitVec 32 := Scalar.muli v5106 c1024_i32_5658
  let v5111 : BitVec 32 := v5110
  let v5112 : Index := Scalar.indexCast v5111
  let c0_5660 : Index := 0#32
  ![0, v5112.toNat, 0]
def k0_mult10 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5669 : BitVec 32 := 1024#32
  let v5121 : BitVec 32 := Scalar.muli v5106 c1024_i32_5669
  v5121
def k0_off2 (k0_t1 : Fin k0_t1_loop.trips) (c1_i32_5653 : BitVec 32) : Fin 3 → Nat :=
  let c0_5670 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5669 : BitVec 32 := 1024#32
  let v5121 : BitVec 32 := Scalar.muli v5106 c1024_i32_5669
  let v5122 : BitVec 32 := v5121
  let v5123 : Index := Scalar.indexCast v5122
  let c128_5671 : Index := 128#32
  ![0, v5123.toNat, 128]
def k0_mult11 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5680 : BitVec 32 := 1024#32
  let v5132 : BitVec 32 := Scalar.muli v5106 c1024_i32_5680
  v5132
def k0_off3 (k0_t1 : Fin k0_t1_loop.trips) (c1_i32_5653 : BitVec 32) : Fin 3 → Nat :=
  let c0_5681 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5680 : BitVec 32 := 1024#32
  let v5132 : BitVec 32 := Scalar.muli v5106 c1024_i32_5680
  let v5133 : BitVec 32 := v5132
  let v5134 : Index := Scalar.indexCast v5133
  let c256_5682 : Index := 256#32
  ![0, v5134.toNat, 256]
def k0_mult12 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5691 : BitVec 32 := 1024#32
  let v5143 : BitVec 32 := Scalar.muli v5106 c1024_i32_5691
  v5143
def k0_off4 (k0_t1 : Fin k0_t1_loop.trips) (c1_i32_5653 : BitVec 32) : Fin 3 → Nat :=
  let c0_5692 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5691 : BitVec 32 := 1024#32
  let v5143 : BitVec 32 := Scalar.muli v5106 c1024_i32_5691
  let v5144 : BitVec 32 := v5143
  let v5145 : Index := Scalar.indexCast v5144
  let c384_5693 : Index := 384#32
  ![0, v5145.toNat, 384]
def k0_mult13 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6139 : BitVec 32 := 1024#32
  let v5558 : BitVec 32 := Scalar.muli v5107 c1024_i32_6139
  v5558
def k0_off5 (k0_t1 : Fin k0_t1_loop.trips) : Fin 3 → Nat :=
  let c0_6140 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6139 : BitVec 32 := 1024#32
  let v5558 : BitVec 32 := Scalar.muli v5107 c1024_i32_6139
  let v5559 : BitVec 32 := v5558
  let v5560 : Index := Scalar.indexCast v5559
  let c0_6141 : Index := 0#32
  ![0, v5560.toNat, 0]
def k0_mult14 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6159 : BitVec 32 := 1024#32
  let v5575 : BitVec 32 := Scalar.muli v5107 c1024_i32_6159
  v5575
def k0_off6 (k0_t1 : Fin k0_t1_loop.trips) : Fin 3 → Nat :=
  let c0_6160 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6159 : BitVec 32 := 1024#32
  let v5575 : BitVec 32 := Scalar.muli v5107 c1024_i32_6159
  let v5576 : BitVec 32 := v5575
  let v5577 : Index := Scalar.indexCast v5576
  let c128_6161 : Index := 128#32
  ![0, v5577.toNat, 128]
def k0_mult15 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6179 : BitVec 32 := 1024#32
  let v5592 : BitVec 32 := Scalar.muli v5107 c1024_i32_6179
  v5592
def k0_off7 (k0_t1 : Fin k0_t1_loop.trips) : Fin 3 → Nat :=
  let c0_6180 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6179 : BitVec 32 := 1024#32
  let v5592 : BitVec 32 := Scalar.muli v5107 c1024_i32_6179
  let v5593 : BitVec 32 := v5592
  let v5594 : Index := Scalar.indexCast v5593
  let c256_6181 : Index := 256#32
  ![0, v5594.toNat, 256]
def k0_mult16 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6199 : BitVec 32 := 1024#32
  let v5609 : BitVec 32 := Scalar.muli v5107 c1024_i32_6199
  v5609
def k0_off8 (k0_t1 : Fin k0_t1_loop.trips) : Fin 3 → Nat :=
  let c0_6200 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6199 : BitVec 32 := 1024#32
  let v5609 : BitVec 32 := Scalar.muli v5107 c1024_i32_6199
  let v5610 : BitVec 32 := v5609
  let v5611 : Index := Scalar.indexCast v5610
  let c384_6201 : Index := 384#32
  ![0, v5611.toNat, 384]
def k0_mult17 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6219 : BitVec 32 := 1024#32
  let v5627 : BitVec 32 := Scalar.muli v5624 c1024_i32_6219
  v5627
def k0_mult18 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6230 : BitVec 32 := 1024#32
  let v5638 : BitVec 32 := Scalar.muli v5624 c1024_i32_6230
  v5638
def k0_mult19 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6241 : BitVec 32 := 1024#32
  let v5649 : BitVec 32 := Scalar.muli v5624 c1024_i32_6241
  v5649
def k0_mult20 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6252 : BitVec 32 := 1024#32
  let v5660 : BitVec 32 := Scalar.muli v5624 c1024_i32_6252
  v5660
def k0_mult21 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1024_i32_6700 : BitVec 32 := 1024#32
  let v6075 : BitVec 32 := Scalar.muli v5105 c1024_i32_6700
  v6075
def k0_off9 (k0_t1 : Fin k0_t1_loop.trips) : Fin 3 → Nat :=
  let c0_6701 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1024_i32_6700 : BitVec 32 := 1024#32
  let v6075 : BitVec 32 := Scalar.muli v5105 c1024_i32_6700
  let v6076 : BitVec 32 := v6075
  let v6077 : Index := Scalar.indexCast v6076
  let c0_6702 : Index := 0#32
  ![0, v6077.toNat, 0]
def k0_mult22 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1024_i32_6720 : BitVec 32 := 1024#32
  let v6092 : BitVec 32 := Scalar.muli v5105 c1024_i32_6720
  v6092
def k0_off10 (k0_t1 : Fin k0_t1_loop.trips) : Fin 3 → Nat :=
  let c0_6721 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1024_i32_6720 : BitVec 32 := 1024#32
  let v6092 : BitVec 32 := Scalar.muli v5105 c1024_i32_6720
  let v6093 : BitVec 32 := v6092
  let v6094 : Index := Scalar.indexCast v6093
  let c128_6722 : Index := 128#32
  ![0, v6094.toNat, 128]
def k0_mult23 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1024_i32_6740 : BitVec 32 := 1024#32
  let v6109 : BitVec 32 := Scalar.muli v5105 c1024_i32_6740
  v6109
def k0_off11 (k0_t1 : Fin k0_t1_loop.trips) : Fin 3 → Nat :=
  let c0_6741 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1024_i32_6740 : BitVec 32 := 1024#32
  let v6109 : BitVec 32 := Scalar.muli v5105 c1024_i32_6740
  let v6110 : BitVec 32 := v6109
  let v6111 : Index := Scalar.indexCast v6110
  let c256_6742 : Index := 256#32
  ![0, v6111.toNat, 256]
def k0_mult24 (k0_t1 : Fin k0_t1_loop.trips) : BitVec 32 :=
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1024_i32_6760 : BitVec 32 := 1024#32
  let v6126 : BitVec 32 := Scalar.muli v5105 c1024_i32_6760
  v6126
def k0_off12 (k0_t1 : Fin k0_t1_loop.trips) : Fin 3 → Nat :=
  let c0_6761 : Index := 0#32
  let c2_i32 : BitVec 32 := 2#32
  let c0_i32_520 : BitVec 32 := 0#32
  let c1_i32 : BitVec 32 := 1#32
  let arg13 : BitVec 32 := Scf.iv c0_i32_520 c1_i32 k0_t1
  let v5104 : BitVec 32 := Scalar.muli c2_i32 arg13
  let c1_i32_5652 : BitVec 32 := 1#32
  let v5105 : BitVec 32 := Scalar.addi v5104 c1_i32_5652
  let c1024_i32_6760 : BitVec 32 := 1024#32
  let v6126 : BitVec 32 := Scalar.muli v5105 c1024_i32_6760
  let v6127 : BitVec 32 := v6126
  let v6128 : Index := Scalar.indexCast v6127
  let c384_6762 : Index := 384#32
  ![0, v6128.toNat, 384]
def k0_mult25 : BitVec 32 :=
  let c6144_i32 : BitVec 32 := 6144#32
  c6144_i32
def k0_mult26 : BitVec 32 :=
  let c6144_i32_1025 : BitVec 32 := 6144#32
  c6144_i32_1025
def k0_mult27 : BitVec 32 :=
  let c6144_i32_1045 : BitVec 32 := 6144#32
  c6144_i32_1045
def k0_mult28 : BitVec 32 :=
  let c6144_i32_1065 : BitVec 32 := 6144#32
  c6144_i32_1065
def k0_mult29 : BitVec 32 :=
  let c0_i32_1084 : BitVec 32 := 0#32
  c0_i32_1084
def k0_mult30 : BitVec 32 :=
  let c0_i32_1095 : BitVec 32 := 0#32
  c0_i32_1095
def k0_mult31 : BitVec 32 :=
  let c0_i32_1106 : BitVec 32 := 0#32
  c0_i32_1106
def k0_mult32 : BitVec 32 :=
  let c0_i32_1117 : BitVec 32 := 0#32
  c0_i32_1117
def k0_mult33 : BitVec 32 :=
  let c7168_i32 : BitVec 32 := 7168#32
  c7168_i32
def k0_mult34 : BitVec 32 :=
  let c7168_i32_1296 : BitVec 32 := 7168#32
  c7168_i32_1296
def k0_mult35 : BitVec 32 :=
  let c7168_i32_1316 : BitVec 32 := 7168#32
  c7168_i32_1316
def k0_mult36 : BitVec 32 :=
  let c7168_i32_1336 : BitVec 32 := 7168#32
  c7168_i32_1336
def k0_mult37 : BitVec 32 :=
  let c1024_i32_1355 : BitVec 32 := 1024#32
  c1024_i32_1355
def k0_mult38 : BitVec 32 :=
  let c1024_i32_1366 : BitVec 32 := 1024#32
  c1024_i32_1366
def k0_mult39 : BitVec 32 :=
  let c1024_i32_1377 : BitVec 32 := 1024#32
  c1024_i32_1377
def k0_mult40 : BitVec 32 :=
  let c1024_i32_1388 : BitVec 32 := 1024#32
  c1024_i32_1388
@[reducible] def k0_t2_loop : Scf.Loop 32 :=
  let c0_i32_1912 : BitVec 32 := 0#32
  let c3_i32_1913 : BitVec 32 := 3#32
  let v1737 : BitVec 32 := Scalar.addi c0_i32_1912 c3_i32_1913
  let c1_i32_1914 : BitVec 32 := 1#32
  ⟨c0_i32_1912, v1737, c1_i32_1914⟩
def k0_mult41 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5658 : BitVec 32 := 1024#32
  let v5110 : BitVec 32 := Scalar.muli v5106 c1024_i32_5658
  v5110
def k0_off13 (k0_t2 : Fin k0_t2_loop.trips) (c1_i32_5653 : BitVec 32) : Fin 3 → Nat :=
  let c0_5659 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5658 : BitVec 32 := 1024#32
  let v5110 : BitVec 32 := Scalar.muli v5106 c1024_i32_5658
  let v5111 : BitVec 32 := v5110
  let v5112 : Index := Scalar.indexCast v5111
  let c0_5660 : Index := 0#32
  ![0, v5112.toNat, 0]
def k0_mult42 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5669 : BitVec 32 := 1024#32
  let v5121 : BitVec 32 := Scalar.muli v5106 c1024_i32_5669
  v5121
def k0_off14 (k0_t2 : Fin k0_t2_loop.trips) (c1_i32_5653 : BitVec 32) : Fin 3 → Nat :=
  let c0_5670 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5669 : BitVec 32 := 1024#32
  let v5121 : BitVec 32 := Scalar.muli v5106 c1024_i32_5669
  let v5122 : BitVec 32 := v5121
  let v5123 : Index := Scalar.indexCast v5122
  let c128_5671 : Index := 128#32
  ![0, v5123.toNat, 128]
def k0_mult43 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5680 : BitVec 32 := 1024#32
  let v5132 : BitVec 32 := Scalar.muli v5106 c1024_i32_5680
  v5132
def k0_off15 (k0_t2 : Fin k0_t2_loop.trips) (c1_i32_5653 : BitVec 32) : Fin 3 → Nat :=
  let c0_5681 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5680 : BitVec 32 := 1024#32
  let v5132 : BitVec 32 := Scalar.muli v5106 c1024_i32_5680
  let v5133 : BitVec 32 := v5132
  let v5134 : Index := Scalar.indexCast v5133
  let c256_5682 : Index := 256#32
  ![0, v5134.toNat, 256]
def k0_mult44 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5691 : BitVec 32 := 1024#32
  let v5143 : BitVec 32 := Scalar.muli v5106 c1024_i32_5691
  v5143
def k0_off16 (k0_t2 : Fin k0_t2_loop.trips) (c1_i32_5653 : BitVec 32) : Fin 3 → Nat :=
  let c0_5692 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5691 : BitVec 32 := 1024#32
  let v5143 : BitVec 32 := Scalar.muli v5106 c1024_i32_5691
  let v5144 : BitVec 32 := v5143
  let v5145 : Index := Scalar.indexCast v5144
  let c384_5693 : Index := 384#32
  ![0, v5145.toNat, 384]
def k0_mult45 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6139 : BitVec 32 := 1024#32
  let v5558 : BitVec 32 := Scalar.muli v5107 c1024_i32_6139
  v5558
def k0_off17 (k0_t2 : Fin k0_t2_loop.trips) : Fin 3 → Nat :=
  let c0_6140 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6139 : BitVec 32 := 1024#32
  let v5558 : BitVec 32 := Scalar.muli v5107 c1024_i32_6139
  let v5559 : BitVec 32 := v5558
  let v5560 : Index := Scalar.indexCast v5559
  let c0_6141 : Index := 0#32
  ![0, v5560.toNat, 0]
def k0_mult46 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6159 : BitVec 32 := 1024#32
  let v5575 : BitVec 32 := Scalar.muli v5107 c1024_i32_6159
  v5575
def k0_off18 (k0_t2 : Fin k0_t2_loop.trips) : Fin 3 → Nat :=
  let c0_6160 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6159 : BitVec 32 := 1024#32
  let v5575 : BitVec 32 := Scalar.muli v5107 c1024_i32_6159
  let v5576 : BitVec 32 := v5575
  let v5577 : Index := Scalar.indexCast v5576
  let c128_6161 : Index := 128#32
  ![0, v5577.toNat, 128]
def k0_mult47 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6179 : BitVec 32 := 1024#32
  let v5592 : BitVec 32 := Scalar.muli v5107 c1024_i32_6179
  v5592
def k0_off19 (k0_t2 : Fin k0_t2_loop.trips) : Fin 3 → Nat :=
  let c0_6180 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6179 : BitVec 32 := 1024#32
  let v5592 : BitVec 32 := Scalar.muli v5107 c1024_i32_6179
  let v5593 : BitVec 32 := v5592
  let v5594 : Index := Scalar.indexCast v5593
  let c256_6181 : Index := 256#32
  ![0, v5594.toNat, 256]
def k0_mult48 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6199 : BitVec 32 := 1024#32
  let v5609 : BitVec 32 := Scalar.muli v5107 c1024_i32_6199
  v5609
def k0_off20 (k0_t2 : Fin k0_t2_loop.trips) : Fin 3 → Nat :=
  let c0_6200 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6199 : BitVec 32 := 1024#32
  let v5609 : BitVec 32 := Scalar.muli v5107 c1024_i32_6199
  let v5610 : BitVec 32 := v5609
  let v5611 : Index := Scalar.indexCast v5610
  let c384_6201 : Index := 384#32
  ![0, v5611.toNat, 384]
def k0_mult49 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6219 : BitVec 32 := 1024#32
  let v5627 : BitVec 32 := Scalar.muli v5624 c1024_i32_6219
  v5627
def k0_mult50 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6230 : BitVec 32 := 1024#32
  let v5638 : BitVec 32 := Scalar.muli v5624 c1024_i32_6230
  v5638
def k0_mult51 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6241 : BitVec 32 := 1024#32
  let v5649 : BitVec 32 := Scalar.muli v5624 c1024_i32_6241
  v5649
def k0_mult52 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6252 : BitVec 32 := 1024#32
  let v5660 : BitVec 32 := Scalar.muli v5624 c1024_i32_6252
  v5660
def k0_mult53 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1024_i32_6700 : BitVec 32 := 1024#32
  let v6075 : BitVec 32 := Scalar.muli v5105 c1024_i32_6700
  v6075
def k0_off21 (k0_t2 : Fin k0_t2_loop.trips) : Fin 3 → Nat :=
  let c0_6701 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1024_i32_6700 : BitVec 32 := 1024#32
  let v6075 : BitVec 32 := Scalar.muli v5105 c1024_i32_6700
  let v6076 : BitVec 32 := v6075
  let v6077 : Index := Scalar.indexCast v6076
  let c0_6702 : Index := 0#32
  ![0, v6077.toNat, 0]
def k0_mult54 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1024_i32_6720 : BitVec 32 := 1024#32
  let v6092 : BitVec 32 := Scalar.muli v5105 c1024_i32_6720
  v6092
def k0_off22 (k0_t2 : Fin k0_t2_loop.trips) : Fin 3 → Nat :=
  let c0_6721 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1024_i32_6720 : BitVec 32 := 1024#32
  let v6092 : BitVec 32 := Scalar.muli v5105 c1024_i32_6720
  let v6093 : BitVec 32 := v6092
  let v6094 : Index := Scalar.indexCast v6093
  let c128_6722 : Index := 128#32
  ![0, v6094.toNat, 128]
def k0_mult55 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1024_i32_6740 : BitVec 32 := 1024#32
  let v6109 : BitVec 32 := Scalar.muli v5105 c1024_i32_6740
  v6109
def k0_off23 (k0_t2 : Fin k0_t2_loop.trips) : Fin 3 → Nat :=
  let c0_6741 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1024_i32_6740 : BitVec 32 := 1024#32
  let v6109 : BitVec 32 := Scalar.muli v5105 c1024_i32_6740
  let v6110 : BitVec 32 := v6109
  let v6111 : Index := Scalar.indexCast v6110
  let c256_6742 : Index := 256#32
  ![0, v6111.toNat, 256]
def k0_mult56 (k0_t2 : Fin k0_t2_loop.trips) : BitVec 32 :=
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1024_i32_6760 : BitVec 32 := 1024#32
  let v6126 : BitVec 32 := Scalar.muli v5105 c1024_i32_6760
  v6126
def k0_off24 (k0_t2 : Fin k0_t2_loop.trips) : Fin 3 → Nat :=
  let c0_6761 : Index := 0#32
  let c2_i32 : BitVec 32 := 2#32
  let c0_i32_1912 : BitVec 32 := 0#32
  let c1_i32_1914 : BitVec 32 := 1#32
  let arg13 : BitVec 32 := Scf.iv c0_i32_1912 c1_i32_1914 k0_t2
  let v5104 : BitVec 32 := Scalar.muli c2_i32 arg13
  let c1_i32_5652 : BitVec 32 := 1#32
  let v5105 : BitVec 32 := Scalar.addi v5104 c1_i32_5652
  let c1024_i32_6760 : BitVec 32 := 1024#32
  let v6126 : BitVec 32 := Scalar.muli v5105 c1024_i32_6760
  let v6127 : BitVec 32 := v6126
  let v6128 : Index := Scalar.indexCast v6127
  let c384_6762 : Index := 384#32
  ![0, v6128.toNat, 384]
def k0_mult57 : BitVec 32 :=
  let c6144_i32_2400 : BitVec 32 := 6144#32
  c6144_i32_2400
def k0_mult58 : BitVec 32 :=
  let c6144_i32_2420 : BitVec 32 := 6144#32
  c6144_i32_2420
def k0_mult59 : BitVec 32 :=
  let c6144_i32_2440 : BitVec 32 := 6144#32
  c6144_i32_2440
def k0_mult60 : BitVec 32 :=
  let c6144_i32_2460 : BitVec 32 := 6144#32
  c6144_i32_2460
def k0_mult61 : BitVec 32 :=
  let c0_i32_2479 : BitVec 32 := 0#32
  c0_i32_2479
def k0_mult62 : BitVec 32 :=
  let c0_i32_2490 : BitVec 32 := 0#32
  c0_i32_2490
def k0_mult63 : BitVec 32 :=
  let c0_i32_2501 : BitVec 32 := 0#32
  c0_i32_2501
def k0_mult64 : BitVec 32 :=
  let c0_i32_2512 : BitVec 32 := 0#32
  c0_i32_2512
def k0_mult65 : BitVec 32 :=
  let c7168_i32_2672 : BitVec 32 := 7168#32
  c7168_i32_2672
def k0_mult66 : BitVec 32 :=
  let c7168_i32_2692 : BitVec 32 := 7168#32
  c7168_i32_2692
def k0_mult67 : BitVec 32 :=
  let c7168_i32_2712 : BitVec 32 := 7168#32
  c7168_i32_2712
def k0_mult68 : BitVec 32 :=
  let c7168_i32_2732 : BitVec 32 := 7168#32
  c7168_i32_2732
def k0_mult69 : BitVec 32 :=
  let c1024_i32_2751 : BitVec 32 := 1024#32
  c1024_i32_2751
def k0_mult70 : BitVec 32 :=
  let c1024_i32_2762 : BitVec 32 := 1024#32
  c1024_i32_2762
def k0_mult71 : BitVec 32 :=
  let c1024_i32_2773 : BitVec 32 := 1024#32
  c1024_i32_2773
def k0_mult72 : BitVec 32 :=
  let c1024_i32_2784 : BitVec 32 := 1024#32
  c1024_i32_2784
@[reducible] def k0_t3_loop : Scf.Loop 32 :=
  let c0_i32_3308 : BitVec 32 := 0#32
  let c3_i32_3309 : BitVec 32 := 3#32
  let v2982 : BitVec 32 := Scalar.addi c0_i32_3308 c3_i32_3309
  let c1_i32_3310 : BitVec 32 := 1#32
  ⟨c0_i32_3308, v2982, c1_i32_3310⟩
def k0_mult73 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5658 : BitVec 32 := 1024#32
  let v5110 : BitVec 32 := Scalar.muli v5106 c1024_i32_5658
  v5110
def k0_off25 (k0_t3 : Fin k0_t3_loop.trips) (c1_i32_5653 : BitVec 32) : Fin 3 → Nat :=
  let c0_5659 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5658 : BitVec 32 := 1024#32
  let v5110 : BitVec 32 := Scalar.muli v5106 c1024_i32_5658
  let v5111 : BitVec 32 := v5110
  let v5112 : Index := Scalar.indexCast v5111
  let c0_5660 : Index := 0#32
  ![0, v5112.toNat, 0]
def k0_mult74 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5669 : BitVec 32 := 1024#32
  let v5121 : BitVec 32 := Scalar.muli v5106 c1024_i32_5669
  v5121
def k0_off26 (k0_t3 : Fin k0_t3_loop.trips) (c1_i32_5653 : BitVec 32) : Fin 3 → Nat :=
  let c0_5670 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5669 : BitVec 32 := 1024#32
  let v5121 : BitVec 32 := Scalar.muli v5106 c1024_i32_5669
  let v5122 : BitVec 32 := v5121
  let v5123 : Index := Scalar.indexCast v5122
  let c128_5671 : Index := 128#32
  ![0, v5123.toNat, 128]
def k0_mult75 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5680 : BitVec 32 := 1024#32
  let v5132 : BitVec 32 := Scalar.muli v5106 c1024_i32_5680
  v5132
def k0_off27 (k0_t3 : Fin k0_t3_loop.trips) (c1_i32_5653 : BitVec 32) : Fin 3 → Nat :=
  let c0_5681 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5680 : BitVec 32 := 1024#32
  let v5132 : BitVec 32 := Scalar.muli v5106 c1024_i32_5680
  let v5133 : BitVec 32 := v5132
  let v5134 : Index := Scalar.indexCast v5133
  let c256_5682 : Index := 256#32
  ![0, v5134.toNat, 256]
def k0_mult76 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5691 : BitVec 32 := 1024#32
  let v5143 : BitVec 32 := Scalar.muli v5106 c1024_i32_5691
  v5143
def k0_off28 (k0_t3 : Fin k0_t3_loop.trips) (c1_i32_5653 : BitVec 32) : Fin 3 → Nat :=
  let c0_5692 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5691 : BitVec 32 := 1024#32
  let v5143 : BitVec 32 := Scalar.muli v5106 c1024_i32_5691
  let v5144 : BitVec 32 := v5143
  let v5145 : Index := Scalar.indexCast v5144
  let c384_5693 : Index := 384#32
  ![0, v5145.toNat, 384]
def k0_mult77 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6139 : BitVec 32 := 1024#32
  let v5558 : BitVec 32 := Scalar.muli v5107 c1024_i32_6139
  v5558
def k0_off29 (k0_t3 : Fin k0_t3_loop.trips) : Fin 3 → Nat :=
  let c0_6140 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6139 : BitVec 32 := 1024#32
  let v5558 : BitVec 32 := Scalar.muli v5107 c1024_i32_6139
  let v5559 : BitVec 32 := v5558
  let v5560 : Index := Scalar.indexCast v5559
  let c0_6141 : Index := 0#32
  ![0, v5560.toNat, 0]
def k0_mult78 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6159 : BitVec 32 := 1024#32
  let v5575 : BitVec 32 := Scalar.muli v5107 c1024_i32_6159
  v5575
def k0_off30 (k0_t3 : Fin k0_t3_loop.trips) : Fin 3 → Nat :=
  let c0_6160 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6159 : BitVec 32 := 1024#32
  let v5575 : BitVec 32 := Scalar.muli v5107 c1024_i32_6159
  let v5576 : BitVec 32 := v5575
  let v5577 : Index := Scalar.indexCast v5576
  let c128_6161 : Index := 128#32
  ![0, v5577.toNat, 128]
def k0_mult79 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6179 : BitVec 32 := 1024#32
  let v5592 : BitVec 32 := Scalar.muli v5107 c1024_i32_6179
  v5592
def k0_off31 (k0_t3 : Fin k0_t3_loop.trips) : Fin 3 → Nat :=
  let c0_6180 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6179 : BitVec 32 := 1024#32
  let v5592 : BitVec 32 := Scalar.muli v5107 c1024_i32_6179
  let v5593 : BitVec 32 := v5592
  let v5594 : Index := Scalar.indexCast v5593
  let c256_6181 : Index := 256#32
  ![0, v5594.toNat, 256]
def k0_mult80 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6199 : BitVec 32 := 1024#32
  let v5609 : BitVec 32 := Scalar.muli v5107 c1024_i32_6199
  v5609
def k0_off32 (k0_t3 : Fin k0_t3_loop.trips) : Fin 3 → Nat :=
  let c0_6200 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6199 : BitVec 32 := 1024#32
  let v5609 : BitVec 32 := Scalar.muli v5107 c1024_i32_6199
  let v5610 : BitVec 32 := v5609
  let v5611 : Index := Scalar.indexCast v5610
  let c384_6201 : Index := 384#32
  ![0, v5611.toNat, 384]
def k0_mult81 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6219 : BitVec 32 := 1024#32
  let v5627 : BitVec 32 := Scalar.muli v5624 c1024_i32_6219
  v5627
def k0_mult82 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6230 : BitVec 32 := 1024#32
  let v5638 : BitVec 32 := Scalar.muli v5624 c1024_i32_6230
  v5638
def k0_mult83 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6241 : BitVec 32 := 1024#32
  let v5649 : BitVec 32 := Scalar.muli v5624 c1024_i32_6241
  v5649
def k0_mult84 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6252 : BitVec 32 := 1024#32
  let v5660 : BitVec 32 := Scalar.muli v5624 c1024_i32_6252
  v5660
def k0_mult85 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1024_i32_6700 : BitVec 32 := 1024#32
  let v6075 : BitVec 32 := Scalar.muli v5105 c1024_i32_6700
  v6075
def k0_off33 (k0_t3 : Fin k0_t3_loop.trips) : Fin 3 → Nat :=
  let c0_6701 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1024_i32_6700 : BitVec 32 := 1024#32
  let v6075 : BitVec 32 := Scalar.muli v5105 c1024_i32_6700
  let v6076 : BitVec 32 := v6075
  let v6077 : Index := Scalar.indexCast v6076
  let c0_6702 : Index := 0#32
  ![0, v6077.toNat, 0]
def k0_mult86 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1024_i32_6720 : BitVec 32 := 1024#32
  let v6092 : BitVec 32 := Scalar.muli v5105 c1024_i32_6720
  v6092
def k0_off34 (k0_t3 : Fin k0_t3_loop.trips) : Fin 3 → Nat :=
  let c0_6721 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1024_i32_6720 : BitVec 32 := 1024#32
  let v6092 : BitVec 32 := Scalar.muli v5105 c1024_i32_6720
  let v6093 : BitVec 32 := v6092
  let v6094 : Index := Scalar.indexCast v6093
  let c128_6722 : Index := 128#32
  ![0, v6094.toNat, 128]
def k0_mult87 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1024_i32_6740 : BitVec 32 := 1024#32
  let v6109 : BitVec 32 := Scalar.muli v5105 c1024_i32_6740
  v6109
def k0_off35 (k0_t3 : Fin k0_t3_loop.trips) : Fin 3 → Nat :=
  let c0_6741 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1024_i32_6740 : BitVec 32 := 1024#32
  let v6109 : BitVec 32 := Scalar.muli v5105 c1024_i32_6740
  let v6110 : BitVec 32 := v6109
  let v6111 : Index := Scalar.indexCast v6110
  let c256_6742 : Index := 256#32
  ![0, v6111.toNat, 256]
def k0_mult88 (k0_t3 : Fin k0_t3_loop.trips) : BitVec 32 :=
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1024_i32_6760 : BitVec 32 := 1024#32
  let v6126 : BitVec 32 := Scalar.muli v5105 c1024_i32_6760
  v6126
def k0_off36 (k0_t3 : Fin k0_t3_loop.trips) : Fin 3 → Nat :=
  let c0_6761 : Index := 0#32
  let c2_i32 : BitVec 32 := 2#32
  let c0_i32_3308 : BitVec 32 := 0#32
  let c1_i32_3310 : BitVec 32 := 1#32
  let arg13 : BitVec 32 := Scf.iv c0_i32_3308 c1_i32_3310 k0_t3
  let v5104 : BitVec 32 := Scalar.muli c2_i32 arg13
  let c1_i32_5652 : BitVec 32 := 1#32
  let v5105 : BitVec 32 := Scalar.addi v5104 c1_i32_5652
  let c1024_i32_6760 : BitVec 32 := 1024#32
  let v6126 : BitVec 32 := Scalar.muli v5105 c1024_i32_6760
  let v6127 : BitVec 32 := v6126
  let v6128 : Index := Scalar.indexCast v6127
  let c384_6762 : Index := 384#32
  ![0, v6128.toNat, 384]
def k0_mult89 : BitVec 32 :=
  let c6144_i32_3796 : BitVec 32 := 6144#32
  c6144_i32_3796
def k0_mult90 : BitVec 32 :=
  let c6144_i32_3816 : BitVec 32 := 6144#32
  c6144_i32_3816
def k0_mult91 : BitVec 32 :=
  let c6144_i32_3836 : BitVec 32 := 6144#32
  c6144_i32_3836
def k0_mult92 : BitVec 32 :=
  let c6144_i32_3856 : BitVec 32 := 6144#32
  c6144_i32_3856
def k0_mult93 : BitVec 32 :=
  let c0_i32_3875 : BitVec 32 := 0#32
  c0_i32_3875
def k0_mult94 : BitVec 32 :=
  let c0_i32_3886 : BitVec 32 := 0#32
  c0_i32_3886
def k0_mult95 : BitVec 32 :=
  let c0_i32_3897 : BitVec 32 := 0#32
  c0_i32_3897
def k0_mult96 : BitVec 32 :=
  let c0_i32_3908 : BitVec 32 := 0#32
  c0_i32_3908
def k0_mult97 : BitVec 32 :=
  let c7168_i32_4068 : BitVec 32 := 7168#32
  c7168_i32_4068
def k0_mult98 : BitVec 32 :=
  let c7168_i32_4088 : BitVec 32 := 7168#32
  c7168_i32_4088
def k0_mult99 : BitVec 32 :=
  let c7168_i32_4108 : BitVec 32 := 7168#32
  c7168_i32_4108
def k0_mult100 : BitVec 32 :=
  let c7168_i32_4128 : BitVec 32 := 7168#32
  c7168_i32_4128
def k0_mult101 : BitVec 32 :=
  let c1024_i32_4147 : BitVec 32 := 1024#32
  c1024_i32_4147
def k0_mult102 : BitVec 32 :=
  let c1024_i32_4158 : BitVec 32 := 1024#32
  c1024_i32_4158
def k0_mult103 : BitVec 32 :=
  let c1024_i32_4169 : BitVec 32 := 1024#32
  c1024_i32_4169
def k0_mult104 : BitVec 32 :=
  let c1024_i32_4180 : BitVec 32 := 1024#32
  c1024_i32_4180
@[reducible] def k0_t4_loop : Scf.Loop 32 :=
  let c0_i32_4704 : BitVec 32 := 0#32
  let c3_i32_4705 : BitVec 32 := 3#32
  let v4227 : BitVec 32 := Scalar.addi c0_i32_4704 c3_i32_4705
  let c1_i32_4706 : BitVec 32 := 1#32
  ⟨c0_i32_4704, v4227, c1_i32_4706⟩
def k0_mult105 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5658 : BitVec 32 := 1024#32
  let v5110 : BitVec 32 := Scalar.muli v5106 c1024_i32_5658
  v5110
def k0_off37 (k0_t4 : Fin k0_t4_loop.trips) (c1_i32_5653 : BitVec 32) : Fin 3 → Nat :=
  let c0_5659 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5658 : BitVec 32 := 1024#32
  let v5110 : BitVec 32 := Scalar.muli v5106 c1024_i32_5658
  let v5111 : BitVec 32 := v5110
  let v5112 : Index := Scalar.indexCast v5111
  let c0_5660 : Index := 0#32
  ![0, v5112.toNat, 0]
def k0_mult106 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5669 : BitVec 32 := 1024#32
  let v5121 : BitVec 32 := Scalar.muli v5106 c1024_i32_5669
  v5121
def k0_off38 (k0_t4 : Fin k0_t4_loop.trips) (c1_i32_5653 : BitVec 32) : Fin 3 → Nat :=
  let c0_5670 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5669 : BitVec 32 := 1024#32
  let v5121 : BitVec 32 := Scalar.muli v5106 c1024_i32_5669
  let v5122 : BitVec 32 := v5121
  let v5123 : Index := Scalar.indexCast v5122
  let c128_5671 : Index := 128#32
  ![0, v5123.toNat, 128]
def k0_mult107 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5680 : BitVec 32 := 1024#32
  let v5132 : BitVec 32 := Scalar.muli v5106 c1024_i32_5680
  v5132
def k0_off39 (k0_t4 : Fin k0_t4_loop.trips) (c1_i32_5653 : BitVec 32) : Fin 3 → Nat :=
  let c0_5681 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5680 : BitVec 32 := 1024#32
  let v5132 : BitVec 32 := Scalar.muli v5106 c1024_i32_5680
  let v5133 : BitVec 32 := v5132
  let v5134 : Index := Scalar.indexCast v5133
  let c256_5682 : Index := 256#32
  ![0, v5134.toNat, 256]
def k0_mult108 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5653 : BitVec 32 := 1#32
  let v5106 : BitVec 32 := Scalar.addi v5105 c1_i32_5653
  let c1024_i32_5691 : BitVec 32 := 1024#32
  let v5143 : BitVec 32 := Scalar.muli v5106 c1024_i32_5691
  v5143
def k0_off40 (k0_t4 : Fin k0_t4_loop.trips) (c1_i32_5653 : BitVec 32) : Fin 3 → Nat :=
  let c0_5692 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let v5106 : BitVec 32 := Scalar.addi v5105 c1_i32_5653
  let c1024_i32_5691 : BitVec 32 := 1024#32
  let v5143 : BitVec 32 := Scalar.muli v5106 c1024_i32_5691
  let v5144 : BitVec 32 := v5143
  let v5145 : Index := Scalar.indexCast v5144
  let c384_5693 : Index := 384#32
  ![0, v5145.toNat, 384]
def k0_mult109 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6139 : BitVec 32 := 1024#32
  let v5558 : BitVec 32 := Scalar.muli v5107 c1024_i32_6139
  v5558
def k0_off41 (k0_t4 : Fin k0_t4_loop.trips) : Fin 3 → Nat :=
  let c0_6140 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6139 : BitVec 32 := 1024#32
  let v5558 : BitVec 32 := Scalar.muli v5107 c1024_i32_6139
  let v5559 : BitVec 32 := v5558
  let v5560 : Index := Scalar.indexCast v5559
  let c0_6141 : Index := 0#32
  ![0, v5560.toNat, 0]
def k0_mult110 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6159 : BitVec 32 := 1024#32
  let v5575 : BitVec 32 := Scalar.muli v5107 c1024_i32_6159
  v5575
def k0_off42 (k0_t4 : Fin k0_t4_loop.trips) : Fin 3 → Nat :=
  let c0_6160 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6159 : BitVec 32 := 1024#32
  let v5575 : BitVec 32 := Scalar.muli v5107 c1024_i32_6159
  let v5576 : BitVec 32 := v5575
  let v5577 : Index := Scalar.indexCast v5576
  let c128_6161 : Index := 128#32
  ![0, v5577.toNat, 128]
def k0_mult111 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6179 : BitVec 32 := 1024#32
  let v5592 : BitVec 32 := Scalar.muli v5107 c1024_i32_6179
  v5592
def k0_off43 (k0_t4 : Fin k0_t4_loop.trips) : Fin 3 → Nat :=
  let c0_6180 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6179 : BitVec 32 := 1024#32
  let v5592 : BitVec 32 := Scalar.muli v5107 c1024_i32_6179
  let v5593 : BitVec 32 := v5592
  let v5594 : Index := Scalar.indexCast v5593
  let c256_6181 : Index := 256#32
  ![0, v5594.toNat, 256]
def k0_mult112 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6199 : BitVec 32 := 1024#32
  let v5609 : BitVec 32 := Scalar.muli v5107 c1024_i32_6199
  v5609
def k0_off44 (k0_t4 : Fin k0_t4_loop.trips) : Fin 3 → Nat :=
  let c0_6200 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1_i32_5654 : BitVec 32 := 1#32
  let v5107 : BitVec 32 := Scalar.subi v5105 c1_i32_5654
  let c1024_i32_6199 : BitVec 32 := 1024#32
  let v5609 : BitVec 32 := Scalar.muli v5107 c1024_i32_6199
  let v5610 : BitVec 32 := v5609
  let v5611 : Index := Scalar.indexCast v5610
  let c384_6201 : Index := 384#32
  ![0, v5611.toNat, 384]
def k0_mult113 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6219 : BitVec 32 := 1024#32
  let v5627 : BitVec 32 := Scalar.muli v5624 c1024_i32_6219
  v5627
def k0_mult114 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6230 : BitVec 32 := 1024#32
  let v5638 : BitVec 32 := Scalar.muli v5624 c1024_i32_6230
  v5638
def k0_mult115 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6241 : BitVec 32 := 1024#32
  let v5649 : BitVec 32 := Scalar.muli v5624 c1024_i32_6241
  v5649
def k0_mult116 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c2_i32_6215 : BitVec 32 := 2#32
  let v5624 : BitVec 32 := Scalar.addi v5105 c2_i32_6215
  let c1024_i32_6252 : BitVec 32 := 1024#32
  let v5660 : BitVec 32 := Scalar.muli v5624 c1024_i32_6252
  v5660
def k0_mult117 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1024_i32_6700 : BitVec 32 := 1024#32
  let v6075 : BitVec 32 := Scalar.muli v5105 c1024_i32_6700
  v6075
def k0_off45 (k0_t4 : Fin k0_t4_loop.trips) : Fin 3 → Nat :=
  let c0_6701 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1024_i32_6700 : BitVec 32 := 1024#32
  let v6075 : BitVec 32 := Scalar.muli v5105 c1024_i32_6700
  let v6076 : BitVec 32 := v6075
  let v6077 : Index := Scalar.indexCast v6076
  let c0_6702 : Index := 0#32
  ![0, v6077.toNat, 0]
def k0_mult118 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1024_i32_6720 : BitVec 32 := 1024#32
  let v6092 : BitVec 32 := Scalar.muli v5105 c1024_i32_6720
  v6092
def k0_off46 (k0_t4 : Fin k0_t4_loop.trips) : Fin 3 → Nat :=
  let c0_6721 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1024_i32_6720 : BitVec 32 := 1024#32
  let v6092 : BitVec 32 := Scalar.muli v5105 c1024_i32_6720
  let v6093 : BitVec 32 := v6092
  let v6094 : Index := Scalar.indexCast v6093
  let c128_6722 : Index := 128#32
  ![0, v6094.toNat, 128]
def k0_mult119 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1024_i32_6740 : BitVec 32 := 1024#32
  let v6109 : BitVec 32 := Scalar.muli v5105 c1024_i32_6740
  v6109
def k0_off47 (k0_t4 : Fin k0_t4_loop.trips) : Fin 3 → Nat :=
  let c0_6741 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1024_i32_6740 : BitVec 32 := 1024#32
  let v6109 : BitVec 32 := Scalar.muli v5105 c1024_i32_6740
  let v6110 : BitVec 32 := v6109
  let v6111 : Index := Scalar.indexCast v6110
  let c256_6742 : Index := 256#32
  ![0, v6111.toNat, 256]
def k0_mult120 (k0_t4 : Fin k0_t4_loop.trips) : BitVec 32 :=
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1024_i32_6760 : BitVec 32 := 1024#32
  let v6126 : BitVec 32 := Scalar.muli v5105 c1024_i32_6760
  v6126
def k0_off48 (k0_t4 : Fin k0_t4_loop.trips) : Fin 3 → Nat :=
  let c0_6761 : Index := 0#32
  let c2_i32 : BitVec 32 := 2#32
  let c0_i32_4704 : BitVec 32 := 0#32
  let c1_i32_4706 : BitVec 32 := 1#32
  let arg13 : BitVec 32 := Scf.iv c0_i32_4704 c1_i32_4706 k0_t4
  let v5104 : BitVec 32 := Scalar.muli c2_i32 arg13
  let c1_i32_5652 : BitVec 32 := 1#32
  let v5105 : BitVec 32 := Scalar.addi v5104 c1_i32_5652
  let c1024_i32_6760 : BitVec 32 := 1024#32
  let v6126 : BitVec 32 := Scalar.muli v5105 c1024_i32_6760
  let v6127 : BitVec 32 := v6126
  let v6128 : Index := Scalar.indexCast v6127
  let c384_6762 : Index := 384#32
  ![0, v6128.toNat, 384]
def k0_mult121 : BitVec 32 :=
  let c6144_i32_5192 : BitVec 32 := 6144#32
  c6144_i32_5192
def k0_mult122 : BitVec 32 :=
  let c6144_i32_5212 : BitVec 32 := 6144#32
  c6144_i32_5212
def k0_mult123 : BitVec 32 :=
  let c6144_i32_5232 : BitVec 32 := 6144#32
  c6144_i32_5232
def k0_mult124 : BitVec 32 :=
  let c6144_i32_5252 : BitVec 32 := 6144#32
  c6144_i32_5252
def k0_mult125 : BitVec 32 :=
  let c7168_i32_5420 : BitVec 32 := 7168#32
  c7168_i32_5420
def k0_mult126 : BitVec 32 :=
  let c7168_i32_5440 : BitVec 32 := 7168#32
  c7168_i32_5440
def k0_mult127 : BitVec 32 :=
  let c7168_i32_5460 : BitVec 32 := 7168#32
  c7168_i32_5460
def k0_mult128 : BitVec 32 :=
  let c7168_i32_5480 : BitVec 32 := 7168#32
  c7168_i32_5480
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Words.lean ====
/- The words the pipeline's loop carries, in closed form, and what its conditions, offsets and checks evaluate to on them. -/
module

public import proofs.«01_k».proof.Proof.Gen.KernelIdeal.Skeleton

@[expose] public section

set_option maxRecDepth 16384
set_option Elab.async false

namespace Cert.KernelIdeal.OutProj

open Cert.KernelIdeal Cert.KernelIdeal.Gen
open Idealize.ShloMosaic

/-- Blocks of the three-slot rings issued before trip `k`: two ahead, up to all 64. -/
abbrev wI (k : ℕ) : BitVec 32 := BitVec.ofNat 32 (min (k + 2) 64)
/-- Trips done: blocks consumed, and blocks of the outputs written. -/
abbrev wK (k : ℕ) : BitVec 32 := BitVec.ofNat 32 k
/-- Rows of the modulation vectors issued before trip `k`. -/
abbrev wM (k : ℕ) : BitVec 32 := BitVec.ofNat 32 (min (k / 16 + 1) 4)
/-- The batch trip `k` works on, counted past the end. -/
abbrev wD (k : ℕ) : BitVec 32 := BitVec.ofNat 32 (k / 16)
/-- Whether the loop is over. -/
abbrev wZ (k : ℕ) : BitVec 32 := BitVec.ofNat 32 (k / 64)
/-- Output blocks waited for before trip `k`. -/
abbrev wP (k : ℕ) : BitVec 32 := BitVec.ofNat 32 (k - 1)
/-- The grid's first coordinate at trip `k`. -/
abbrev wB (k : ℕ) : BitVec 32 := BitVec.ofNat 32 (k % 64 / 16)
/-- The grid's second coordinate at trip `k`. -/
abbrev wJ (k : ℕ) : BitVec 32 := BitVec.ofNat 32 (k % 16)
/-- A proposition as a bit. -/
abbrev bit (p : Prop) [Decidable p] : BitVec 1 := if p then 1#1 else 0#1

theorem trips_eq : k0_t1_loop.trips = 64 := by decide +kernel

abbrev T := Fin k0_t1_loop.trips

/-- Slot `k`'s offset in a ring of `n` slots. -/
abbrev so (n k : ℕ) : Fin 4 → ℕ := ![k % n, 0, 0, 0]
/-- Its cell's. -/
abbrev vo (n k : ℕ) : Fin 1 → ℕ := ![k % n]
/-- Block `b`'s offset: 512 rows of a batch. -/
abbrev bo (b : ℕ) : Fin 3 → ℕ := ![b % 64 / 16, b % 16 * 512, 0]
/-- Row `b`'s offset. -/
abbrev ro (b : ℕ) : Fin 3 → ℕ := ![b % 4, 0, 0]

/-! Which `if`s of a trip are taken. -/

theorem cond5 : ∀ k : T, k0_cond5 k (wB k) (wJ k) = bit (k.val < 62) := by decide +kernel
theorem cond6 : ∀ k : T, k0_cond6 k (wB k) (wJ k) = bit (k.val < 62) := by decide +kernel
theorem cond7 : ∀ k : T, k0_cond7 k (wB k) (wJ k) = bit (k.val < 62) := by decide +kernel
theorem cond8 : ∀ k : T, k0_cond8 k (wB k) (wJ k) = bit (k.val < 62) := by decide +kernel
theorem cond9 : ∀ k : T, k0_cond9 k (wB k) (wJ k) = bit (k.val % 16 = 15 ∧ k.val < 63) := by decide +kernel
theorem cond10 : ∀ k : T, k0_cond10 k (wB k) (wJ k) = bit (k.val % 16 = 15 ∧ k.val < 63) := by decide +kernel
theorem cond11 : ∀ k : T, k0_cond11 k (wB k) (wJ k) = bit (k.val % 16 = 15 ∧ k.val < 63) := by decide +kernel
theorem cond12 : ∀ k : T, k0_cond12 k (wB k) (wJ k) = 1#1 := by decide +kernel
theorem cond13 : ∀ k : T, k0_cond13 k (wB k) (wJ k) = 1#1 := by decide +kernel
theorem cond14 : ∀ k : T, k0_cond14 k (wB k) (wJ k) = 1#1 := by decide +kernel
theorem cond15 : ∀ k : T, k0_cond15 k (wB k) (wJ k) = 1#1 := by decide +kernel
theorem cond16 : ∀ k : T, k0_cond16 k (wB k) (wJ k) = bit (k.val % 16 = 0) := by decide +kernel
theorem cond17 : ∀ k : T, k0_cond17 k (wB k) (wJ k) = bit (k.val % 16 = 0) := by decide +kernel
theorem cond18 : ∀ k : T, k0_cond18 k (wB k) (wJ k) = bit (k.val % 16 = 0) := by decide +kernel
theorem cond29 : ∀ k : T, k0_cond29 k (wB k) (wJ k) = 1#1 := by decide +kernel
theorem cond30 : ∀ k : T, k0_cond30 k (wB k) (wJ k) = 1#1 := by decide +kernel
theorem cond31 : ∀ k : T, k0_cond31 k (wB k) (wJ k) = 1#1 := by decide +kernel
theorem cond39 : ∀ k : T, k0_cond39 k (wB k) (wJ k) = bit (k.val ≠ 0) := by decide +kernel
theorem cond40 : ∀ k : T, k0_cond40 k (wB k) (wJ k) = bit (k.val ≠ 0) := by decide +kernel
theorem cond41 : ∀ k : T, k0_cond41 k (wB k) (wJ k) = bit (k.val ≠ 0) := by decide +kernel

/-! Where a trip's copies go and come from. -/

theorem off19 : ∀ k : T, k.val < 62 → k0_off19 (wI k) = vo 3 (k + 2) := by decide +kernel
theorem off20 : ∀ k : T, k.val < 62 → k0_off20 (wI k) = so 3 (k + 2) := by decide +kernel
theorem off21 : ∀ k : T, k.val < 62 → k0_off21 (wB k) (wJ k) = bo (k + 2) := by decide +kernel
theorem off22 : ∀ k : T, k.val < 62 → k0_off22 (wI k) = vo 3 (k + 2) := by decide +kernel
theorem off23 : ∀ k : T, k.val < 62 → k0_off23 (wI k) = so 3 (k + 2) := by decide +kernel
theorem off24 : ∀ k : T, k.val < 62 → k0_off24 (wB k) (wJ k) = bo (k + 2) := by decide +kernel
theorem off25 : ∀ k : T, k.val < 62 → k0_off25 (wI k) = vo 3 (k + 2) := by decide +kernel
theorem off26 : ∀ k : T, k.val < 62 → k0_off26 (wI k) = so 3 (k + 2) := by decide +kernel
theorem off27 : ∀ k : T, k.val < 62 → k0_off27 (wB k) (wJ k) = bo (k + 2) := by decide +kernel
theorem off28 : ∀ k : T, k.val < 62 → k0_off28 (wI k) = vo 3 (k + 2) := by decide +kernel
theorem off29 : ∀ k : T, k.val < 62 → k0_off29 (wI k) = so 3 (k + 2) := by decide +kernel
theorem off30 : ∀ k : T, k.val < 62 → k0_off30 (wB k) (wJ k) = bo (k + 2) := by decide +kernel
theorem off31 : ∀ k : T, k.val % 16 = 15 ∧ k.val < 63 → k0_off31 (wM k) = vo 2 (k / 16 + 1) := by decide +kernel
theorem off32 : ∀ k : T, k.val % 16 = 15 ∧ k.val < 63 → k0_off32 (wM k) = so 2 (k / 16 + 1) := by decide +kernel
theorem off33 : ∀ k : T, k.val % 16 = 15 ∧ k.val < 63 → k0_off33 (wB k) (wJ k) = ro (k / 16 + 1) := by decide +kernel
theorem off34 : ∀ k : T, k.val % 16 = 15 ∧ k.val < 63 → k0_off34 (wM k) = vo 2 (k / 16 + 1) := by decide +kernel
theorem off35 : ∀ k : T, k.val % 16 = 15 ∧ k.val < 63 → k0_off35 (wM k) = so 2 (k / 16 + 1) := by decide +kernel
theorem off36 : ∀ k : T, k.val % 16 = 15 ∧ k.val < 63 → k0_off36 (wB k) (wJ k) = ro (k / 16 + 1) := by decide +kernel
theorem off37 : ∀ k : T, k.val % 16 = 15 ∧ k.val < 63 → k0_off37 (wM k) = vo 2 (k / 16 + 1) := by decide +kernel
theorem off38 : ∀ k : T, k.val % 16 = 15 ∧ k.val < 63 → k0_off38 (wM k) = so 2 (k / 16 + 1) := by decide +kernel
theorem off39 : ∀ k : T, k.val % 16 = 15 ∧ k.val < 63 → k0_off39 (wB k) (wJ k) = ro (k / 16 + 1) := by decide +kernel
theorem off40 : ∀ k : T, k0_off40 (wK k) = vo 3 k := by decide +kernel
theorem off41 : ∀ k : T, k0_off41 (wK k) = so 3 k := by decide +kernel
theorem off43 : ∀ k : T, k0_off43 (wK k) = vo 3 k := by decide +kernel
theorem off44 : ∀ k : T, k0_off44 (wK k) = so 3 k := by decide +kernel
theorem off46 : ∀ k : T, k0_off46 (wK k) = vo 3 k := by decide +kernel
theorem off47 : ∀ k : T, k0_off47 (wK k) = so 3 k := by decide +kernel
theorem off49 : ∀ k : T, k0_off49 (wK k) = vo 3 k := by decide +kernel
theorem off50 : ∀ k : T, k0_off50 (wK k) = so 3 k := by decide +kernel
theorem off52 : ∀ k : T, k0_off52 (wD k) = vo 2 (k / 16) := by decide +kernel
theorem off53 : ∀ k : T, k0_off53 (wD k) = so 2 (k / 16) := by decide +kernel
theorem off55 : ∀ k : T, k0_off55 (wD k) = vo 2 (k / 16) := by decide +kernel
theorem off56 : ∀ k : T, k0_off56 (wD k) = so 2 (k / 16) := by decide +kernel
theorem off58 : ∀ k : T, k0_off58 (wD k) = vo 2 (k / 16) := by decide +kernel
theorem off59 : ∀ k : T, k0_off59 (wD k) = so 2 (k / 16) := by decide +kernel
theorem off61 : ∀ k : T, k0_off61 (wK k) = so 3 k := by decide +kernel
theorem off62 : ∀ k : T, k0_off62 (wK k) = so 3 k := by decide +kernel
theorem off63 : ∀ k : T, k0_off63 (wK k) = so 3 k := by decide +kernel
theorem off64 : ∀ k : T, k0_off64 (wK k) = so 3 k := by decide +kernel
theorem off65 : ∀ k : T, k0_off65 (wD k) = so 2 (k / 16) := by decide +kernel
theorem off67 : ∀ k : T, k0_off67 (wD k) = so 2 (k / 16) := by decide +kernel
theorem off68 : ∀ k : T, k0_off68 (wD k) = so 2 (k / 16) := by decide +kernel
theorem off66 : ∀ k : T, k0_off66 (wK k) = so 2 k := by decide +kernel
theorem off69 : ∀ k : T, k0_off69 (wK k) = so 2 k := by decide +kernel
theorem off70 : ∀ k : T, k0_off70 (wK k) = so 2 k := by decide +kernel
theorem off71 : ∀ k : T, k0_off71 (wK k) = vo 2 k := by decide +kernel
theorem off72 : ∀ k : T, k0_off72 (wB k) (wJ k) = bo k := by decide +kernel
theorem off73 : ∀ k : T, k0_off73 (wK k) = so 2 k := by decide +kernel
theorem off74 : ∀ k : T, k0_off74 (wK k) = vo 2 k := by decide +kernel
theorem off75 : ∀ k : T, k0_off75 (wB k) (wJ k) = bo k := by decide +kernel
theorem off76 : ∀ k : T, k0_off76 (wK k) = so 2 k := by decide +kernel
theorem off77 : ∀ k : T, k0_off77 (wK k) = vo 2 k := by decide +kernel
theorem off78 : ∀ k : T, k0_off78 (wB k) (wJ k) = bo k := by decide +kernel
theorem off79 : ∀ k : T, k0_off79 (wK k) = so 2 k := by decide +kernel
theorem off80 : ∀ k : T, k.val ≠ 0 → k0_off80 (wP k) = vo 2 (k - 1) := by decide +kernel
theorem off81 : ∀ k : T, k.val ≠ 0 → k0_off81 (wB k) (wJ k) = bo (k - 1) := by decide +kernel
theorem off83 : ∀ k : T, k.val ≠ 0 → k0_off83 (wP k) = vo 2 (k - 1) := by decide +kernel
theorem off84 : ∀ k : T, k.val ≠ 0 → k0_off84 (wB k) (wJ k) = bo (k - 1) := by decide +kernel
theorem off86 : ∀ k : T, k.val ≠ 0 → k0_off86 (wP k) = vo 2 (k - 1) := by decide +kernel
theorem off87 : ∀ k : T, k.val ≠ 0 → k0_off87 (wB k) (wJ k) = bo (k - 1) := by decide +kernel

end Cert.KernelIdeal.OutProj
-- ==== Proof.Ring.lean ====
/- The states of a slot of a ring — its elements owned, held at known contents, or under a copy — and the steps of the program
   that move between them: the issue of a copy and its wait, a load and a store of the whole slot. -/
module

public import proofs.«01_k».proof.Proof.Words
public import Idealize.ShloMosaic.Lib.Pipeline.Routed
public import Idealize.ShloMosaic.Lib.Ring.Trips
public import Idealize.ShloMosaic.Lib.Tactic
public import Idealize.ShloMosaic.Lib.SparseCore.Scatter
public import Idealize.ShloMosaic.Lib.VecWindow

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The counters the transfers' tokens are drawn from. -/
abbrev EC : UEmb Counters (MT nD τ sig Unit (Elt F) ℕ (UC sig nD τ) ℕ) := countersEmb (U := UC sig nD τ)

variable {c : Dev nD}

/-- A cell's counter, its last copy waited for. -/
abbrev idle (c : Dev nD) (sm : DmaSem sig) : sProp 𝕄 := semVal ((c : Thread nD τ), SemLoc.dma sm) 0

/-- A view's elements held at some contents. -/
def owned {sp : Space} {s : Shape} {e : EltTy} (c : Dev nD) (D : Memref sig .tc sp s e) : sProp 𝕄 :=
  iprop(∃ f, D.view.loc (c : Thread nD τ) ↦[D.view.set]{fullShare} f)

/-- A view's elements held at contents it reads as `w`. -/
def holds {sp : Space} {s : Shape} {e : EltTy} (c : Dev nD) (D : Memref sig .tc sp s e) (w : s.Idx → Elt F e) : sProp 𝕄 :=
  iprop(∃ f, ⌜D.view.read (Elt F) f = w⌝ ∗ D.view.loc (c : Thread nD τ) ↦[D.view.set]{fullShare} f)

theorem holds_owned {sp : Space} {s : Shape} {e : EltTy} (D : Memref sig .tc sp s e) (w : s.Idx → Elt F e) :
    holds c D w ⊢ (owned c D : sProp 𝕄) := by
  unfold holds owned; iintro ⟨%f, -, H⟩; iexists f; iexact H

/-- A copy into `D` under way: at its wait `D` holds `w` and what was lent, `S`, comes back. -/
def flying {sp : Space} {s : Shape} {e : EltTy} (c : Dev nD) (D : Memref sig .tc sp s e) (sm : DmaSem sig)
    (w : s.Idx → Elt F e) (S : sProp 𝕄) : sProp 𝕄 :=
  Transfers.Flight EC (c : Thread nD τ) (.dma sm) () D.view.dmaCredit iprop(holds c D w ∗ S)

/-- The core's record of its waits, whatever they were. -/
def waited (c : Dev nD) : sProp 𝕄 := iprop(∃ W, owes (c : Thread nD τ) 0 W)

section Steps

variable {Λ : Labels} {defs : Defs nD τ sig (Elt F) Λ} {𝒱 : Variants} {bd : Option 𝒱.V} {α : Type}
variable {sp sp' : Space} {s : Shape} {e : EltTy}

/-- A copy issued: the destination's elements, what the source's are lent out of, and the cell at rest become the copy
    under way. -/
theorem wp_issue {D : Memref sig .tc sp' s e} {src : Memref sig .tc sp s e} {sem : DmaSem sig} {h1 h2 h3}
    {k : PUnit → Prog (TpuEff nD τ sig (Elt F) Λ .tc) α} {Q : α → sProp 𝕄} {S R : sProp 𝕄} {q : PosShare TreeShare}
    {X : Buf (Elt F) (src.view.loc (c : Thread nD τ))} {w : s.Idx → Elt F e}
    (hS : S ⊣⊢ iprop((src.view.loc (c : Thread nD τ) ↦[src.view.set]{q} X) ∗ R)) (hw : src.view.read (Elt F) X = w)
    (hpos : 0 < s.numel) :
    iprop(owned c D ∗ S ∗ idle c sem)
      ⊢ iprop((flying c D sem w S -∗ wp frame (wpE defs 𝒱 (c : Thread nD τ) bd) Set.univ (k ⟨⟩) Q)
        -∗ wp frame (wpE defs 𝒱 (c : Thread nD τ) bd) Set.univ (.op (.enqueueDma src (.here D) (.dma sem) h1 h2 h3) k) Q) := by
  unfold owned flying
  iintro ⟨⟨%f, HD⟩, HS, Hv⟩ Hk
  ihave HS := hS.1 $$ HS
  icases HS with ⟨HS, HR⟩
  iapply (Transfers.wp_dmaLocal EC 𝒱 (c : Thread nD τ) bd () D.view.dmaCredit rfl (D.view.dmaCredit_pos hpos) subset_rfl) $$ [HS HD Hv]
  · isplitl [HS]; · iexact HS
    isplitl [HD]; · iexact HD
    iexact Hv
  iintro Hf
  iapply Hk
  ihave Hf := Transfers.Flight_frame EC (c : Thread nD τ) $$ [HR Hf]
  · isplitl [HR]; · iexact HR
    iexact Hf
  iapply (Transfers.Flight_mono EC (c : Thread nD τ) ?_)
  rotate_left
  · iexact Hf
  iintro ⟨HR, HD, HS⟩
  isplitl [HD]
  · unfold holds
    iexists _
    isplitr
    rotate_left
    · iexact HD
    ipureintro
    rw [← hw]; exact View.read_write_univ ..
  iapply hS.2
  isplitl [HS]; · iexact HS
  iexact HR

/-- A wait for a copy under way: the destination holds what was copied, what was lent is back, and the cell is at rest. -/
theorem wp_wait {s' : Shape} {e' : EltTy} {D : Memref sig .tc sp' s e} {dst : Memref sig .tc sp s e}
    {sp'' : Space} {src : Memref sig .tc sp'' s' e'}
    {sem : DmaSem sig} {h1 h2}
    {k : PUnit → Prog (TpuEff nD τ sig (Elt F) Λ .tc) α} {Q : α → sProp 𝕄} {S : sProp 𝕄} {w : s.Idx → Elt F e}
    (hN : dst.view.dmaCredit = D.view.dmaCredit) :
    iprop(flying c D sem w S ∗ waited c)
      ⊢ iprop((iprop((holds c D w ∗ S ∗ idle c sem) ∗ waited c) -∗ wp frame (wpE defs 𝒱 (c : Thread nD τ) bd) Set.univ (k ⟨⟩) Q)
        -∗ wp frame (wpE defs 𝒱 (c : Thread nD τ) bd) Set.univ (.op (.waitDma2 sem src dst h1 h2) k) Q) := by
  unfold flying waited
  iintro ⟨Hf, ⟨%W, HW⟩⟩ Hk
  iapply (Transfers.wp_waitLocal EC 𝒱 (c : Thread nD τ) bd () hN) $$ [Hf HW]
  · isplitl [Hf]; · iexact Hf
    iexact HW
  iintro ⟨⟨HD, HS⟩, Hv, HW⟩
  iapply Hk
  isplitl [HD HS Hv]
  · isplitl [HD]; · iexact HD
    isplitl [HS]; · iexact HS
    iexact Hv
  iexists _; iexact HW

/-- A copy issued out of elements held at `w`: they come back, owned, with the destination. -/
theorem wp_issue_out {D : Memref sig .tc sp' s e} {src : Memref sig .tc sp s e} {sem : DmaSem sig} {h1 h2 h3}
    {k : PUnit → Prog (TpuEff nD τ sig (Elt F) Λ .tc) α} {Q : α → sProp 𝕄} {w : s.Idx → Elt F e} (hpos : 0 < s.numel) :
    iprop(owned c D ∗ holds c src w ∗ idle c sem)
      ⊢ iprop((flying c D sem w (owned c src) -∗ wp frame (wpE defs 𝒱 (c : Thread nD τ) bd) Set.univ (k ⟨⟩) Q)
        -∗ wp frame (wpE defs 𝒱 (c : Thread nD τ) bd) Set.univ (.op (.enqueueDma src (.here D) (.dma sem) h1 h2 h3) k) Q) := by
  unfold holds
  iintro ⟨HD, ⟨%f, %hf, HS⟩, Hv⟩ Hk
  iapply (wp_issue (D := D) (S := iprop(src.view.loc (c : Thread nD τ) ↦[src.view.set]{fullShare} f)) (R := iprop(emp)) (X := f) (w := w)
    sep_emp.symm hf hpos) $$ [HD HS Hv]
  · isplitl [HD]; · iexact HD
    isplitl [HS]; · iexact HS
    iexact Hv
  iintro Hf
  iapply Hk
  unfold flying
  iapply (Transfers.Flight_mono EC (c : Thread nD τ) ?_)
  rotate_left
  · iexact Hf
  iintro ⟨HD, HS⟩
  isplitl [HD]; · iexact HD
  unfold owned
  iexists f; iexact HS

/-- A load of all of a view held at `w` reads `w`. -/
theorem wp_load_full {cs : CoreSpace} {D : Memref sig .tc cs s e} {off : Fin s.rank → ℕ} {inb : ∀ a, off a + s.size a ≤ s.size a} {hl}
    {k : (s.Idx → Elt F e) → Prog (TpuEff nD τ sig (Elt F) Λ .tc) α} {Q : α → sProp 𝕄} {w : s.Idx → Elt F e} :
    holds c D w ⊢ iprop((holds c D w -∗ wp frame (wpE defs 𝒱 (c : Thread nD τ) bd) Set.univ (k w) Q)
        -∗ wp frame (wpE defs 𝒱 (c : Thread nD τ) bd) Set.univ (.op (.load D (Rect.unit off s.size inb).toLoadRect hl) k) Q) := by
  unfold holds
  iintro ⟨%f, %hf, HD⟩ Hk
  iapply (wp_load 𝒱 (c : Thread nD τ) bd Set.univ (S := D.view.set) (View.setOn_subset_set ..)) $$ HD
  iintro HD
  rw [View.readAt_full, hf]
  iapply Hk
  iexists f
  isplitr; · ipureintro; exact hf
  iexact HD

/-- A load of a window of a view held at `w`. -/
theorem wp_load_window {cs : CoreSpace} {D : Memref sig .tc cs s e} {off sz : Fin s.rank → ℕ} {inb : ∀ a, off a + sz a ≤ s.size a} {hl}
    {k : ((⟨s.rank, sz⟩ : Shape).Idx → Elt F e) → Prog (TpuEff nD τ sig (Elt F) Λ .tc) α} {Q : α → sProp 𝕄} {w : s.Idx → Elt F e} :
    holds c D w ⊢ iprop((holds c D w -∗ wp frame (wpE defs 𝒱 (c : Thread nD τ) bd) Set.univ (k (VecWindow.window w off sz inb)) Q)
        -∗ wp frame (wpE defs 𝒱 (c : Thread nD τ) bd) Set.univ (.op (.load D (Rect.unit off sz inb).toLoadRect hl) k) Q) := by
  unfold holds
  iintro ⟨%f, %hf, HD⟩ Hk
  iapply (wp_load 𝒱 (c : Thread nD τ) bd Set.univ (S := D.view.set) (View.setOn_subset_set ..)) $$ HD
  iintro HD
  rw [View.readAt_unit _ _ _ rfl inb, hf]
  iapply Hk
  iexists f
  isplitr; · ipureintro; exact hf
  iexact HD

/-- A load of all of a view owned reads something. -/
theorem wp_load_any {cs : CoreSpace} {D : Memref sig .tc cs s e} {r : LoadRect s} {hl}
    {k : (r.shape.Idx → Elt F e) → Prog (TpuEff nD τ sig (Elt F) Λ .tc) α} {Q : α → sProp 𝕄} :
    owned c D ⊢ iprop((∀ v, owned c D -∗ wp frame (wpE defs 𝒱 (c : Thread nD τ) bd) Set.univ (k v) Q)
        -∗ wp frame (wpE defs 𝒱 (c : Thread nD τ) bd) Set.univ (.op (.load D r hl) k) Q) := by
  unfold owned
  iintro ⟨%f, HD⟩ Hk
  iapply (wp_load 𝒱 (c : Thread nD τ) bd Set.univ (S := D.view.set) (View.setOn_subset_set ..)) $$ HD
  iintro HD
  iapply Hk
  iexists f
  iexact HD

/-- A store of all of a view: it holds what was stored. -/
theorem wp_store_full {cs : CoreSpace} {D : Memref sig .tc cs s e} {off : Fin s.rank → ℕ} {inb : ∀ a, off a + s.size a ≤ s.size a} {hx hm}
    {k : PUnit → Prog (TpuEff nD τ sig (Elt F) Λ .tc) α} {Q : α → sProp 𝕄} {v : s.Idx → Elt F e} :
    owned c D ⊢ iprop((holds c D v -∗ wp frame (wpE defs 𝒱 (c : Thread nD τ) bd) Set.univ (k ⟨⟩) Q)
        -∗ wp frame (wpE defs 𝒱 (c : Thread nD τ) bd) Set.univ (.op (.store D (Rect.unit off s.size inb) v Finset.univ hx hm) k) Q) := by
  unfold holds owned
  iintro ⟨%f, HD⟩ Hk
  iapply (wp_store 𝒱 (c : Thread nD τ) bd Set.univ (m := D) (r := Rect.unit off s.size inb) (f := f) (S := D.view.set) (View.set_slice_subset ..)) $$ HD
  iintro HD
  iapply Hk
  iexists _
  isplitr
  rotate_left
  · iexact HD
  ipureintro
  rw [← View.readAt_full (v := D.view) (inb := inb), View.readAt_rect]
  exact View.read_write_univ ..

/-- A store through the ring of the very slot a view is: the view holds what was stored, reshaped. -/
theorem wp_store_slot {cs : CoreSpace} {s' : Shape} {M : Memref sig .tc cs s' e} {off sz : Fin s'.rank → ℕ} {inb : ∀ a, off a + sz a ≤ s'.size a}
    {hr : ∀ a, (Rect.unit off sz inb).stride a = 1} {hq : (⟨s'.rank, sz⟩ : Shape).Squeezes s} {hx hm}
    {D : Memref sig .tc cs s e} (hD : (M.slice (Rect.unit off sz inb) hr).squeeze s hq = D)
    {k : PUnit → Prog (TpuEff nD τ sig (Elt F) Λ .tc) α} {Q : α → sProp 𝕄} {v : (⟨s'.rank, sz⟩ : Shape).Idx → Elt F e} :
    owned c D ⊢ iprop((holds c D (fun j => v (Shape.reshapeEquiv hq.numel_eq j)) -∗ wp frame (wpE defs 𝒱 (c : Thread nD τ) bd) Set.univ (k ⟨⟩) Q)
        -∗ wp frame (wpE defs 𝒱 (c : Thread nD τ) bd) Set.univ (.op (.store M (Rect.unit off sz inb) v Finset.univ hx hm) k) Q) := by
  subst hD
  unfold holds owned
  iintro ⟨%f, HD⟩ Hk
  iapply (wp_store 𝒱 (c : Thread nD τ) bd Set.univ (m := M) (r := Rect.unit off sz inb) (f := f)
    (S := ((M.slice (Rect.unit off sz inb) hr).squeeze s hq).view.set)
    (View.set_reshape (v := M.view.slice (Rect.unit off sz inb)) hq.numel_eq).symm.le) $$ HD
  iintro HD
  iapply Hk
  iexists _
  isplitr
  rotate_left
  · iexact HD
  ipureintro
  funext j
  exact congrFun (View.read_write_univ (v := M.view.slice (Rect.unit off sz inb)) f v) (Shape.reshapeEquiv hq.numel_eq j)

end Steps

end Cert.KernelIdeal.OutProj
-- ==== Proof.Rings.lean ====
/- The rings of the pipeline: an array streamed in through the slots of a ring, its state trip by trip when it has three slots and
   a block a trip, or two slots and a block every sixteen trips; and an array streamed out through two slots. -/
module

public import proofs.«01_k».proof.Proof.Ring

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- An array streamed in through a ring of `n` slots: slot `s` is `D s`, block `b` of the array `B b`, and slot `s`'s copies
    are counted on `sm s`; with slot `s` goes the share `S s` of the array, out of which any block can be lent; `w b` is what
    block `b` holds. -/
structure InRing (F : FTy → Type) [FloatOps F] (c : Dev nD) (n : ℕ) (s : Shape) (e : EltTy) where
  D : ℕ → Memref sig .tc .vmem s e
  B : ℕ → Memref sig .tc .hbm s e
  sm : ℕ → DmaSem sig
  S : ℕ → sProp (MT nD τ sig Unit (Elt F) ℕ (UC sig nD τ) ℕ)
  w : ℕ → s.Idx → Elt F e
  hD : ∀ k, D (k + n) = D k
  hsm : ∀ k, sm (k + n) = sm k
  hS : ∀ k, S (k + n) = S k
  lend : ∀ k b, ∃ (q : PosShare TreeShare) (X : Buf (Elt F) ((B b).view.loc (c : Thread nD τ))) (R : sProp (MT nD τ sig Unit (Elt F) ℕ (UC sig nD τ) ℕ)),
    (S k ⊣⊢ iprop(((B b).view.loc (c : Thread nD τ) ↦[(B b).view.set]{q} X) ∗ R)) ∧ (B b).view.read (Elt F) X = w b
  pos : 0 < s.numel

variable {c : Dev nD}

/-- Periodic families. -/
def Per {β : Type*} (n : ℕ) (f : ℕ → β) : Prop := ∀ k, f (k + n) = f k

/-- The ring over `M`'s slots, cells `v` and blocks of array `A` holding `X`, shares `q`. -/
def mkIn (n : ℕ) {sR sA : Shape} {e : EltTy} (M : Memref sig .tc .vmem sR e) (A : Memref sig .tc .hbm sA e) {sV : Shape}
    (v : DmaSems sig sV) (so : ℕ → Fin sR.rank → ℕ) (sz : Fin sR.rank → ℕ) (hso : ∀ k a, so k a + sz a ≤ sR.size a) (hsoP : Per n so)
    (vo : ℕ → Fin sV.rank → ℕ) (vz : Fin sV.rank → ℕ) (hvo : ∀ k a, vo k a + vz a ≤ sV.size a) (hvoP : Per n vo)
    (bo : ℕ → Fin sA.rank → ℕ) (bz : Fin sA.rank → ℕ) (hbo : ∀ k a, bo k a + bz a ≤ sA.size a)
    (hq : (⟨sR.rank, sz⟩ : Shape).Squeezes ⟨sA.rank, bz⟩) (hv : (⟨sV.rank, vz⟩ : Shape).Squeezes S_) (pos : 0 < (⟨sA.rank, bz⟩ : Shape).numel)
    (q : ℕ → PosShare TreeShare) (hqP : Per n q) (X : Buf (Elt F) (A.view.loc (c : Thread nD τ))) :
    InRing F c n ⟨sA.rank, bz⟩ e where
  D k := (M.slice (Rect.unit (so k) sz (hso k)) fun _ => rfl).squeeze _ hq
  B b := A.slice (Rect.unit (bo b) bz (hbo b)) fun _ => rfl
  sm k := ((v.slice (Rect.unit (vo k) vz (hvo k))).squeeze S_ hv).sem
  S k := iprop(A.view.loc (c : Thread nD τ) ↦[A.view.set]{q k} X)
  w b := (A.slice (Rect.unit (bo b) bz (hbo b)) fun _ => rfl).view.read (Elt F) X
  hD k := congrArg (fun m => Memref.squeeze m _ hq) (Memref.slice_unit_congr M (hsoP k) _ _ _ _)
  hsm k := congrArg (fun m : DmaSems sig _ => (SemArray.squeeze m S_ hv).sem) (SemArray.slice_unit_congr v (hvoP k) _ _)
  hS k := by rw [hqP k]
  lend k b := ⟨q k, X, _, pointsTo_split_subset (View.set_slice_subset ..), rfl⟩
  pos := pos

namespace InRing

variable {n : ℕ} {s : Shape} {e : EltTy} (R : InRing F c n s e)

/-- A slot at rest. -/
def free (k : ℕ) : sProp 𝕄 := iprop(owned c (R.D k) ∗ R.S k ∗ idle c (R.sm k))
/-- Block `b` on its way into slot `k`. -/
def infl (k b : ℕ) : sProp 𝕄 := flying c (R.D k) (R.sm k) (R.w b) (R.S k)
/-- Block `b` held in slot `k`. -/
def held (k b : ℕ) : sProp 𝕄 := iprop(holds c (R.D k) (R.w b) ∗ R.S k ∗ idle c (R.sm k))

theorem free_per (k : ℕ) : R.free (k + n) = R.free k := by unfold free; rw [R.hD, R.hS, R.hsm]

theorem held_free (k b : ℕ) : R.held k b ⊢ R.free k := by
  unfold held free
  iintro ⟨H, HS, Hv⟩
  isplitl [H]; · iapply (holds_owned _ _); iexact H
  isplitl [HS] <;> iassumption

section Steps

variable {Λ : Labels} {defs : Defs nD τ sig (Elt F) Λ} {𝒱 : Variants} {bd : Option 𝒱.V} {α : Type}

/-- The issue of block `b` into slot `k`. -/
theorem wp_issue (k b : ℕ) {dst : Memref sig .tc .vmem s e} {src : Memref sig .tc .hbm s e} {sem : DmaSem sig} {h1 h2 h3}
    (hd : dst = R.D k) (hb : src = R.B b) (hs : sem = R.sm k)
    {kk : PUnit → Prog (TpuEff nD τ sig (Elt F) Λ .tc) α} {Q : α → sProp 𝕄} :
    R.free k ⊢ iprop((R.infl k b -∗ wp frame (wpE defs 𝒱 (c : Thread nD τ) bd) Set.univ (kk ⟨⟩) Q)
        -∗ wp frame (wpE defs 𝒱 (c : Thread nD τ) bd) Set.univ (.op (.enqueueDma src (.here dst) (.dma sem) h1 h2 h3) kk) Q) := by
  subst hd; subst hb; subst hs
  obtain ⟨q, X, rest, hS, hw⟩ := R.lend k b
  exact OutProj.wp_issue hS hw R.pos

/-- The wait for block `b` in slot `k`. -/
theorem wp_wait (k b : ℕ) {dst : Memref sig .tc .vmem s e} {sp : Space} {s' : Shape} {e' : EltTy} {src : Memref sig .tc sp s' e'} {sem : DmaSem sig} {h1 h2}
    (hd : dst = R.D k) (hs : sem = R.sm k)
    {kk : PUnit → Prog (TpuEff nD τ sig (Elt F) Λ .tc) α} {Q : α → sProp 𝕄} :
    iprop(R.infl k b ∗ waited c) ⊢ iprop(((R.held k b ∗ waited c) -∗ wp frame (wpE defs 𝒱 (c : Thread nD τ) bd) Set.univ (kk ⟨⟩) Q)
        -∗ wp frame (wpE defs 𝒱 (c : Thread nD τ) bd) Set.univ (.op (.waitDma2 sem src dst h1 h2) kk) Q) := by
  subst hd; subst hs
  exact OutProj.wp_wait rfl

end Steps

end InRing

/-! ## Three slots, a block a trip -/

section Tri

variable {s : Shape} {e : EltTy} (R : InRing F c 3 s e)

/-- Slot `k` once block `k` was asked for, if there is one. -/
def role (k : ℕ) : sProp 𝕄 := if k < 64 then R.infl k k else R.free k
/-- At the head of trip `k`. -/
def tri0 (k : ℕ) : sProp 𝕄 := iprop(role R k ∗ role R (k + 1) ∗ R.free (k + 2))
/-- Block `k + 2` asked for. -/
def tri1 (k : ℕ) : sProp 𝕄 := iprop(R.infl k k ∗ role R (k + 1) ∗ role R (k + 2))
/-- Block `k` arrived. -/
def tri2 (k : ℕ) : sProp 𝕄 := iprop(R.held k k ∗ role R (k + 1) ∗ role R (k + 2))

theorem tri_skip (k : ℕ) (h : ¬ k < 62) (hk : k < 64) : tri0 R k ⊢ tri1 R k := by
  unfold tri0 tri1
  rw [role, if_pos hk, show role R (k + 2) = R.free (k + 2) from if_neg (by omega)]

theorem tri_next (k : ℕ) : tri2 R k ⊢ tri0 R (k + 1) := by
  unfold tri0 tri2
  rw [show k + 1 + 2 = k + 3 from rfl, R.free_per]
  iintro ⟨H0, H1, H2⟩
  isplitl [H1]; · iexact H1
  isplitl [H2]; · iexact H2
  iapply (R.held_free k k); iexact H0

variable {Λ : Labels} {defs : Defs nD τ sig (Elt F) Λ} {𝒱 : Variants} {bd : Option 𝒱.V} {α : Type}

theorem tri_issue (k : ℕ) (h : k < 62) {dst : Memref sig .tc .vmem s e} {src : Memref sig .tc .hbm s e} {sem : DmaSem sig} {h1 h2 h3}
    (hd : dst = R.D (k + 2)) (hb : src = R.B (k + 2)) (hs : sem = R.sm (k + 2))
    {kk : PUnit → Prog (TpuEff nD τ sig (Elt F) Λ .tc) α} {Q : α → sProp 𝕄} :
    tri0 R k ⊢ iprop((tri1 R k -∗ wp frame (wpE defs 𝒱 (c : Thread nD τ) bd) Set.univ (kk ⟨⟩) Q)
        -∗ wp frame (wpE defs 𝒱 (c : Thread nD τ) bd) Set.univ (.op (.enqueueDma src (.here dst) (.dma sem) h1 h2 h3) kk) Q) := by
  unfold tri0 tri1
  rw [show role R k = R.infl k k from if_pos (by omega), show role R (k + 2) = R.infl (k + 2) (k + 2) from if_pos (by omega)]
  iintro ⟨H0, H1, H2⟩ Hk
  iapply (R.wp_issue (k + 2) (k + 2) hd hb hs) $$ H2
  iintro H2
  iapply Hk
  isplitl [H0]; · iexact H0
  isplitl [H1] <;> iassumption

theorem tri_wait (k : ℕ) {dst : Memref sig .tc .vmem s e} {sp : Space} {s' : Shape} {e' : EltTy} {src : Memref sig .tc sp s' e'} {sem : DmaSem sig} {h1 h2}
    (hd : dst = R.D k) (hs : sem = R.sm k)
    {kk : PUnit → Prog (TpuEff nD τ sig (Elt F) Λ .tc) α} {Q : α → sProp 𝕄} :
    iprop(tri1 R k ∗ waited c) ⊢ iprop(((tri2 R k ∗ waited c) -∗ wp frame (wpE defs 𝒱 (c : Thread nD τ) bd) Set.univ (kk ⟨⟩) Q)
        -∗ wp frame (wpE defs 𝒱 (c : Thread nD τ) bd) Set.univ (.op (.waitDma2 sem src dst h1 h2) kk) Q) := by
  unfold tri1 tri2
  iintro ⟨⟨H0, H1, H2⟩, HW⟩ Hk
  iapply (R.wp_wait k k hd hs) $$ [H0 HW]
  · isplitl [H0] <;> iassumption
  iintro ⟨H0, HW⟩
  iapply Hk
  isplitr [HW]
  · isplitl [H0]; · iexact H0
    isplitl [H1] <;> iassumption
  iexact HW

/-- A load of the block held. -/
theorem tri_load (k : ℕ) {D : Memref sig .tc .vmem s e} {off : Fin s.rank → ℕ} {inb : ∀ a, off a + s.size a ≤ s.size a} {hl}
    (hd : D = R.D k)
    {kk : (s.Idx → Elt F e) → Prog (TpuEff nD τ sig (Elt F) Λ .tc) α} {Q : α → sProp 𝕄} :
    tri2 R k ⊢ iprop((tri2 R k -∗ wp frame (wpE defs 𝒱 (c : Thread nD τ) bd) Set.univ (kk (R.w k)) Q)
        -∗ wp frame (wpE defs 𝒱 (c : Thread nD τ) bd) Set.univ (.op (.load D (Rect.unit off s.size inb).toLoadRect hl) kk) Q) := by
  subst hd
  unfold tri2 InRing.held
  iintro ⟨⟨H0, HS, Hv⟩, HR⟩ Hk
  iapply wp_load_full $$ H0
  iintro H0
  iapply Hk
  isplitr [HR]
  · isplitl [H0]; · iexact H0
    isplitl [HS] <;> iassumption
  iexact HR

end Tri

/-! ## Two slots, a block every sixteen trips -/

section Duo

variable {s : Shape} {e : EltTy} (R : InRing F c 2 s e)

/-- Slot `k / 16` at the head of trip `k`. -/
def cur (k : ℕ) : sProp 𝕄 :=
  if k < 64 then (if k % 16 = 0 then R.infl (k / 16) (k / 16) else R.held (k / 16) (k / 16)) else R.free (k / 16)
/-- The other slot once its block was asked for. -/
def nxt (k : ℕ) : sProp 𝕄 := if k % 16 = 15 ∧ k < 63 then R.infl (k / 16 + 1) (k / 16 + 1) else R.free (k / 16 + 1)
def duo0 (k : ℕ) : sProp 𝕄 := iprop(cur R k ∗ R.free (k / 16 + 1))
def duo1 (k : ℕ) : sProp 𝕄 := iprop(cur R k ∗ nxt R k)
def duo2 (k : ℕ) : sProp 𝕄 := iprop(R.held (k / 16) (k / 16) ∗ nxt R k)

theorem duo_skip (k : ℕ) (h : ¬ (k % 16 = 15 ∧ k < 63)) : duo0 R k ⊢ duo1 R k := by
  unfold duo0 duo1; rw [nxt, if_neg h]

theorem duo_held (k : ℕ) (hk : k < 64) (h : ¬ k % 16 = 0) : duo1 R k ⊢ duo2 R k := by
  unfold duo1 duo2; rw [cur, if_pos hk, if_neg h]

theorem duo_next (k : ℕ) (hk : k < 64) : duo2 R k ⊢ duo0 R (k + 1) := by
  unfold duo0 duo2
  by_cases h : k % 16 = 15
  · have e1 : (k + 1) / 16 = k / 16 + 1 := by omega
    have e2 : nxt R k = cur R (k + 1) := by
      by_cases h' : k < 63
      · rw [nxt, if_pos ⟨h, h'⟩, cur, if_pos (by omega), if_pos (by omega), e1]
      · rw [nxt, if_neg (by omega), cur, if_neg (by omega), e1]
    rw [e2, e1, show k / 16 + 1 + 1 = k / 16 + 2 from rfl, R.free_per]
    iintro ⟨H0, H1⟩
    isplitl [H1]; · iexact H1
    iapply (R.held_free (k / 16) (k / 16)); iexact H0
  · have e1 : (k + 1) / 16 = k / 16 := by omega
    rw [e1, nxt, if_neg (by omega), cur, if_pos (by omega), if_neg (by omega), e1]

variable {Λ : Labels} {defs : Defs nD τ sig (Elt F) Λ} {𝒱 : Variants} {bd : Option 𝒱.V} {α : Type}

theorem duo_issue (k : ℕ) (h : k % 16 = 15 ∧ k < 63) {dst : Memref sig .tc .vmem s e} {src : Memref sig .tc .hbm s e} {sem : DmaSem sig} {h1 h2 h3}
    (hd : dst = R.D (k / 16 + 1)) (hb : src = R.B (k / 16 + 1)) (hs : sem = R.sm (k / 16 + 1))
    {kk : PUnit → Prog (TpuEff nD τ sig (Elt F) Λ .tc) α} {Q : α → sProp 𝕄} :
    duo0 R k ⊢ iprop((duo1 R k -∗ wp frame (wpE defs 𝒱 (c : Thread nD τ) bd) Set.univ (kk ⟨⟩) Q)
        -∗ wp frame (wpE defs 𝒱 (c : Thread nD τ) bd) Set.univ (.op (.enqueueDma src (.here dst) (.dma sem) h1 h2 h3) kk) Q) := by
  unfold duo0 duo1
  rw [nxt, if_pos h]
  iintro ⟨H0, H1⟩ Hk
  iapply (R.wp_issue (k / 16 + 1) (k / 16 + 1) hd hb hs) $$ H1
  iintro H1
  iapply Hk
  isplitl [H0] <;> iassumption

theorem duo_wait (k : ℕ) (hk : k < 64) (h : k % 16 = 0) {dst : Memref sig .tc .vmem s e} {sp : Space} {s' : Shape} {e' : EltTy} {src : Memref sig .tc sp s' e'} {sem : DmaSem sig} {h1 h2}
    (hd : dst = R.D (k / 16)) (hs : sem = R.sm (k / 16))
    {kk : PUnit → Prog (TpuEff nD τ sig (Elt F) Λ .tc) α} {Q : α → sProp 𝕄} :
    iprop(duo1 R k ∗ waited c) ⊢ iprop(((duo2 R k ∗ waited c) -∗ wp frame (wpE defs 𝒱 (c : Thread nD τ) bd) Set.univ (kk ⟨⟩) Q)
        -∗ wp frame (wpE defs 𝒱 (c : Thread nD τ) bd) Set.univ (.op (.waitDma2 sem src dst h1 h2) kk) Q) := by
  unfold duo1 duo2
  rw [cur, if_pos hk, if_pos h]
  iintro ⟨⟨H0, H1⟩, HW⟩ Hk
  iapply (R.wp_wait (k / 16) (k / 16) hd hs) $$ [H0 HW]
  · isplitl [H0] <;> iassumption
  iintro ⟨H0, HW⟩
  iapply Hk
  isplitr [HW]
  · isplitl [H0] <;> iassumption
  iexact HW

/-- A load of the block held. -/
theorem duo_load (k : ℕ) {D : Memref sig .tc .vmem s e} {off : Fin s.rank → ℕ} {inb : ∀ a, off a + s.size a ≤ s.size a} {hl}
    (hd : D = R.D (k / 16))
    {kk : (s.Idx → Elt F e) → Prog (TpuEff nD τ sig (Elt F) Λ .tc) α} {Q : α → sProp 𝕄} :
    duo2 R k ⊢ iprop((duo2 R k -∗ wp frame (wpE defs 𝒱 (c : Thread nD τ) bd) Set.univ (kk (R.w (k / 16))) Q)
        -∗ wp frame (wpE defs 𝒱 (c : Thread nD τ) bd) Set.univ (.op (.load D (Rect.unit off s.size inb).toLoadRect hl) kk) Q) := by
  subst hd
  unfold duo2 InRing.held
  iintro ⟨⟨H0, HS, Hv⟩, HR⟩ Hk
  iapply wp_load_full $$ H0
  iintro H0
  iapply Hk
  isplitr [HR]
  · isplitl [H0]; · iexact H0
    isplitl [HS] <;> iassumption
  iexact HR

end Duo

/-! ## Streaming out through two slots -/

/-- The two slots, their cells, and the blocks of the array they are written to. -/
structure OutRing (s : Shape) (e : EltTy) where
  D : ℕ → Memref sig .tc .vmem s e
  B : ℕ → Memref sig .tc .hbm s e
  sm : ℕ → DmaSem sig
  hD : Per 2 D
  hsm : Per 2 sm
  pos : 0 < s.numel

/-- The ring over `M`'s slots, cells `v` and blocks of array `A`. -/
def mkOut {sR sA : Shape} {e : EltTy} (M : Memref sig .tc .vmem sR e) (A : Memref sig .tc .hbm sA e) {sV : Shape}
    (v : DmaSems sig sV) (so : ℕ → Fin sR.rank → ℕ) (sz : Fin sR.rank → ℕ) (hso : ∀ k a, so k a + sz a ≤ sR.size a) (hsoP : Per 2 so)
    (vo : ℕ → Fin sV.rank → ℕ) (vz : Fin sV.rank → ℕ) (hvo : ∀ k a, vo k a + vz a ≤ sV.size a) (hvoP : Per 2 vo)
    (bo : ℕ → Fin sA.rank → ℕ) (bz : Fin sA.rank → ℕ) (hbo : ∀ k a, bo k a + bz a ≤ sA.size a)
    (hq : (⟨sR.rank, sz⟩ : Shape).Squeezes ⟨sA.rank, bz⟩) (hv : (⟨sV.rank, vz⟩ : Shape).Squeezes S_) (pos : 0 < (⟨sA.rank, bz⟩ : Shape).numel) :
    OutRing ⟨sA.rank, bz⟩ e where
  D k := (M.slice (Rect.unit (so k) sz (hso k)) fun _ => rfl).squeeze _ hq
  B b := A.slice (Rect.unit (bo b) bz (hbo b)) fun _ => rfl
  sm k := ((v.slice (Rect.unit (vo k) vz (hvo k))).squeeze S_ hv).sem
  hD k := congrArg (fun m => Memref.squeeze m _ hq) (Memref.slice_unit_congr M (hsoP k) _ _ _ _)
  hsm k := congrArg (fun m : DmaSems sig _ => (SemArray.squeeze m S_ hv).sem) (SemArray.slice_unit_congr v (hvoP k) _ _)
  pos := pos

/-- `P 0 ∗ … ∗ P (n - 1)`. -/
def upto (P : ℕ → sProp 𝕄) : ℕ → sProp 𝕄
  | 0 => iprop(emp)
  | n + 1 => iprop(P n ∗ upto P n)

section Out

variable {s : Shape} {e : EltTy} (R : OutRing s e) (w : ℕ → s.Idx → Elt F e)

/-- The blocks from `k` on, not written. -/
def todo (c : Dev nD) (k : ℕ) : sProp (MT nD τ sig Unit (Elt F) ℕ (UC sig nD τ) ℕ) := upto (fun i => owned c (R.B (63 - i))) (64 - k)
/-- The blocks before `k`, written. -/
def done (c : Dev nD) (k : ℕ) : sProp 𝕄 := upto (fun b => holds c (R.B b) (w b)) k
/-- The other slot: at rest in the first trip, its block on its way out later. -/
def tail (c : Dev nD) (k : ℕ) : sProp 𝕄 :=
  if k = 0 then iprop(owned c (R.D 1) ∗ idle c (R.sm 1)) else flying c (R.B (k - 1)) (R.sm (k - 1)) (w (k - 1)) (owned c (R.D (k - 1)))
/-- At the head of trip `k`. -/
def out0 (c : Dev nD) (k : ℕ) : sProp 𝕄 := iprop((owned c (R.D k) ∗ idle c (R.sm k)) ∗ tail R w c k ∗ todo R c k ∗ done R w c (k - 1))
/-- The slot computed. -/
def out1 (c : Dev nD) (k : ℕ) : sProp 𝕄 := iprop((holds c (R.D k) (w k) ∗ idle c (R.sm k)) ∗ tail R w c k ∗ todo R c k ∗ done R w c (k - 1))
/-- Its copy issued. -/
def out2 (c : Dev nD) (k : ℕ) : sProp 𝕄 := iprop(flying c (R.B k) (R.sm k) (w k) (owned c (R.D k)) ∗ tail R w c k ∗ todo R c (k + 1) ∗ done R w c (k - 1))

theorem out_first : out2 R w c 0 ⊢ out0 R w c 1 := by
  unfold out2 out0
  rw [tail, if_pos rfl, tail, if_neg (by decide)]
  iintro ⟨Hf, Ho, Ht, Hd⟩
  isplitl [Ho]; · iexact Ho
  isplitl [Hf]; · iexact Hf
  isplitl [Ht] <;> iassumption

theorem done_succ (k : ℕ) : done R w c (k + 1) = (iprop(holds c (R.B k) (w k) ∗ done R w c k) : sProp 𝕄) := rfl

theorem todo_succ (k : ℕ) (hk : k < 64) : todo R c k ⊢ (iprop(owned c (R.B k) ∗ todo R c (k + 1)) : sProp 𝕄) := by
  unfold todo
  rw [show 64 - k = (64 - (k + 1)) + 1 by omega, upto, show 63 - (64 - (k + 1)) = k by omega]

variable {Λ : Labels} {defs : Defs nD τ sig (Elt F) Λ} {𝒱 : Variants} {bd : Option 𝒱.V} {α : Type}

theorem out_issue (k : ℕ) (hk : k < 64) {dst : Memref sig .tc .hbm s e} {src : Memref sig .tc .vmem s e} {sem : DmaSem sig} {h1 h2 h3}
    (hd : src = R.D k) (hb : dst = R.B k) (hs : sem = R.sm k)
    {kk : PUnit → Prog (TpuEff nD τ sig (Elt F) Λ .tc) α} {Q : α → sProp 𝕄} :
    out1 R w c k ⊢ iprop((out2 R w c k -∗ wp frame (wpE defs 𝒱 (c : Thread nD τ) bd) Set.univ (kk ⟨⟩) Q)
        -∗ wp frame (wpE defs 𝒱 (c : Thread nD τ) bd) Set.univ (.op (.enqueueDma src (.here dst) (.dma sem) h1 h2 h3) kk) Q) := by
  subst hd; subst hb; subst hs
  unfold out1 out2
  iintro ⟨⟨H0, Hv⟩, Hr, Ht, Hd⟩ Hk
  ihave Ht := todo_succ R k hk $$ Ht
  icases Ht with ⟨HB, Ht⟩
  iapply (wp_issue_out R.pos) $$ [H0 Hv HB]
  · isplitl [HB]; · iexact HB
    isplitl [H0] <;> iassumption
  iintro H0
  iapply Hk
  isplitl [H0]; · iexact H0
  isplitl [Hr]; · iexact Hr
  isplitl [Ht] <;> iassumption

theorem out_wait (k : ℕ) (hk : k ≠ 0) {dst : Memref sig .tc .hbm s e} {sp : Space} {s' : Shape} {e' : EltTy} {src : Memref sig .tc sp s' e'} {sem : DmaSem sig} {h1 h2}
    (hb : dst = R.B (k - 1)) (hs : sem = R.sm (k - 1))
    {kk : PUnit → Prog (TpuEff nD τ sig (Elt F) Λ .tc) α} {Q : α → sProp 𝕄} :
    iprop(out2 R w c k ∗ waited c) ⊢ iprop(((out0 R w c (k + 1) ∗ waited c) -∗ wp frame (wpE defs 𝒱 (c : Thread nD τ) bd) Set.univ (kk ⟨⟩) Q)
        -∗ wp frame (wpE defs 𝒱 (c : Thread nD τ) bd) Set.univ (.op (.waitDma2 sem src dst h1 h2) kk) Q) := by
  obtain ⟨j, rfl⟩ : ∃ j, k = j + 1 := ⟨k - 1, by omega⟩
  simp only [Nat.add_sub_cancel] at hb hs
  subst hb; subst hs
  unfold out2 out0
  rw [tail, if_neg hk, tail, if_neg (by omega)]
  simp only [Nat.add_sub_cancel]
  rw [done_succ, show j + 1 + 1 = j + 2 from rfl, R.hD j, R.hsm j]
  iintro ⟨⟨Hf, Hr, Ht, Hd⟩, HW⟩ Hk
  iapply (OutProj.wp_wait rfl) $$ [Hr HW]
  · isplitl [Hr] <;> iassumption
  iintro ⟨⟨HB, HD, Hv⟩, HW⟩
  iapply Hk
  isplitr [HW]
  · isplitl [HD Hv]
    · isplitl [HD] <;> iassumption
    isplitl [Hf]; · iexact Hf
    isplitl [Ht]; · iexact Ht
    isplitl [HB] <;> iassumption
  iexact HW

/-- The last copy's wait. -/
theorem out_last {dst : Memref sig .tc .hbm s e} {sp : Space} {s' : Shape} {e' : EltTy} {src : Memref sig .tc sp s' e'} {sem : DmaSem sig} {h1 h2}
    (hb : dst = R.B 63) (hs : sem = R.sm 1)
    {kk : PUnit → Prog (TpuEff nD τ sig (Elt F) Λ .tc) α} {Q : α → sProp 𝕄} :
    iprop(out0 R w c 64 ∗ waited c)
      ⊢ iprop((((owned c (R.D 0) ∗ idle c (R.sm 0)) ∗ (owned c (R.D 1) ∗ idle c (R.sm 1)) ∗ done R w c 64) ∗ waited c
            -∗ wp frame (wpE defs 𝒱 (c : Thread nD τ) bd) Set.univ (kk ⟨⟩) Q)
        -∗ wp frame (wpE defs 𝒱 (c : Thread nD τ) bd) Set.univ (.op (.waitDma2 sem src dst h1 h2) kk) Q) := by
  subst hb; subst hs
  unfold out0
  rw [tail, if_neg (by decide)]
  have per : ∀ i, R.D (i + 2 * 31) = R.D i ∧ R.sm (i + 2 * 31) = R.sm i := by
    intro i
    generalize 31 = m
    induction m with
    | zero => exact ⟨rfl, rfl⟩
    | succ m ih => rw [show i + 2 * (m + 1) = i + 2 * m + 2 by omega, R.hD, R.hsm]; exact ih
  rw [show R.D 64 = R.D 0 from (R.hD 62).trans (per 0).1, show R.sm 64 = R.sm 0 from (R.hsm 62).trans (per 0).2,
    show R.D (64 - 1) = R.D 1 from (per 1).1, show R.sm (64 - 1) = R.sm 1 from (per 1).2, show (64 - 1 : ℕ) = 63 from rfl,
    show done R w c 64 = _ from done_succ R w 63]
  iintro ⟨⟨H0, Hr, Ht, Hd⟩, HW⟩ Hk
  iapply (OutProj.wp_wait rfl) $$ [Hr HW]
  · isplitl [Hr] <;> iassumption
  iintro ⟨⟨HB, HD, Hv⟩, HW⟩
  iapply Hk
  isplitr [HW]
  · isplitl [H0]; · iexact H0
    isplitl [HD Hv]
    · isplitl [HD] <;> iassumption
    isplitl [HB] <;> iassumption
  iexact HW

end Out

end Cert.KernelIdeal.OutProj
-- ==== Proof.Operands.lean ====
/- The operands of the kernel as rings: the four streamed arrays (three slots), the three modulation rows (two slots), the three
   results (two slots). `X` is what the arrays hold when the call is entered. -/
module

public import proofs.«01_k».proof.Proof.Rings

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

theorem so_inb {n r N : ℕ} (hn : 0 < n) (k : ℕ) : ∀ a : Fin 4, so n k a + (![1, 1, r, N] : Fin 4 → ℕ) a ≤ (![n, 1, r, N] : Fin 4 → ℕ) a := by
  have := Nat.mod_lt k hn
  intro a; fin_cases a <;> simp [so] <;> omega
theorem so_per (n : ℕ) : Per n (so n) := fun k => by simp [so]
theorem vo_inb {n : ℕ} (hn : 0 < n) (k : ℕ) : ∀ a : Fin 1, vo n k a + (![1] : Fin 1 → ℕ) a ≤ (![n] : Fin 1 → ℕ) a := by
  have := Nat.mod_lt k hn
  intro a; fin_cases a; simp [vo]; omega
theorem vo_per (n : ℕ) : Per n (vo n) := fun k => by simp [vo]
theorem bo_inb {N : ℕ} (b : ℕ) : ∀ a : Fin 3, bo b a + (![1, 512, N] : Fin 3 → ℕ) a ≤ (![4, 8192, N] : Fin 3 → ℕ) a := by
  intro a; fin_cases a <;> simp [bo] <;> omega
theorem ro_inb {N : ℕ} (b : ℕ) : ∀ a : Fin 3, ro b a + (![1, 1, N] : Fin 3 → ℕ) a ≤ (![4, 1, N] : Fin 3 → ℕ) a := by
  intro a; fin_cases a <;> simp [ro] <;> omega

/-- The share of an array slot `k` of three lends from. -/
abbrev third (k : ℕ) : PosShare TreeShare := Ring.shares3 fullShare ⟨k % 3, Nat.mod_lt _ (by decide)⟩
/-- The share of an array slot `k` of two lends from. -/
abbrev half (k : ℕ) : PosShare TreeShare := if k % 2 = 0 then (fullShare : PosShare TreeShare).left else (fullShare : PosShare TreeShare).right
theorem third_per : Per 3 third := fun k => by simp [third]
theorem half_per : Per 2 half := fun k => by simp [half]

variable {c : Dev nD}

/-- A streamed array's ring. -/
abbrev mkTri {N : ℕ} {e : EltTy} (M : Memref sig .tc .vmem ⟨4, ![3, 1, 512, N]⟩ e) (A : Memref sig .tc .hbm ⟨3, ![4, 8192, N]⟩ e)
    (v : DmaSems sig ⟨1, ![3]⟩) (hq : (⟨4, ![1, 1, 512, N]⟩ : Shape).Squeezes ⟨3, ![1, 512, N]⟩) (pos : 0 < (⟨3, ![1, 512, N]⟩ : Shape).numel)
    (X : Buf (Elt F) (A.view.loc (c : Thread nD τ))) : InRing F c 3 ⟨3, ![1, 512, N]⟩ e :=
  mkIn 3 M A v (so 3) ![1, 1, 512, N] (so_inb (by decide)) (so_per 3) (vo 3) ![1] (vo_inb (by decide)) (vo_per 3) bo ![1, 512, N] bo_inb
    hq squeezes_S1_S_ pos third third_per X
/-- A modulation row's ring. -/
abbrev mkDuo {N : ℕ} {e : EltTy} (M : Memref sig .tc .vmem ⟨4, ![2, 1, 1, N]⟩ e) (A : Memref sig .tc .hbm ⟨3, ![4, 1, N]⟩ e)
    (v : DmaSems sig ⟨1, ![2]⟩) (hq : (⟨4, ![1, 1, 1, N]⟩ : Shape).Squeezes ⟨3, ![1, 1, N]⟩) (pos : 0 < (⟨3, ![1, 1, N]⟩ : Shape).numel)
    (X : Buf (Elt F) (A.view.loc (c : Thread nD τ))) : InRing F c 2 ⟨3, ![1, 1, N]⟩ e :=
  mkIn 2 M A v (so 2) ![1, 1, 1, N] (so_inb (by decide)) (so_per 2) (vo 2) ![1] (vo_inb (by decide)) (vo_per 2) ro ![1, 1, N] ro_inb
    hq squeezes_S1_S_ pos half half_per X
/-- A result's ring. -/
abbrev mkRes {N : ℕ} {e : EltTy} (M : Memref sig .tc .vmem ⟨4, ![2, 1, 512, N]⟩ e) (A : Memref sig .tc .hbm ⟨3, ![4, 8192, N]⟩ e)
    (v : DmaSems sig ⟨1, ![2]⟩) (hq : (⟨4, ![1, 1, 512, N]⟩ : Shape).Squeezes ⟨3, ![1, 512, N]⟩) (pos : 0 < (⟨3, ![1, 512, N]⟩ : Shape).numel) :
    OutRing ⟨3, ![1, 512, N]⟩ e :=
  mkOut M A v (so 2) ![1, 1, 512, N] (so_inb (by decide)) (so_per 2) (vo 2) ![1] (vo_inb (by decide)) (vo_per 2) bo ![1, 512, N] bo_inb
    hq squeezes_S1_S_ pos

variable (c : Dev nD) (X : (b : Ref sig .tc) → Buf (Elt F) ((c : Thread nD τ).loc b))

def rRet : InRing F c 3 S1x512x256 .bf16 := mkTri (Memref.whole cc0_scoped0) (Memref.whole main_arg0) cc0_scoped1 squeezes_S1x1x512x256_S1x512x256 h_S1x512x256 (X main_arg0)
def rNa : InRing F c 3 S1x512x512 .bf16 := mkTri (Memref.whole cc0_scoped2) (Memref.whole main_arg1) cc0_scoped3 squeezes_S1x1x512x512_S1x512x512 h_S1x512x512 (X main_arg1)
def rMla : InRing F c 3 S1x512x256 .bf16 := mkTri (Memref.whole cc0_scoped4) (Memref.whole main_arg2) cc0_scoped5 squeezes_S1x1x512x256_S1x512x256 h_S1x512x256 (X main_arg2)
def rH : InRing F c 3 S1x512x1024 .f32 := mkTri (Memref.whole cc0_scoped6) (Memref.whole main_arg3) cc0_scoped7 squeezes_S1x1x512x1024_S1x512x1024 h_S1x512x1024 (X main_arg3)
def rG1 : InRing F c 2 S1x1x1024 .f32 := mkDuo (Memref.whole cc0_scoped9) (Memref.whole main_v7) cc0_scoped10 squeezes_S1x1x1x1024_S1x1x1024 h_S1x1x1024 (X main_v7)
def rSh : InRing F c 2 S1x1x1024 .f32 := mkDuo (Memref.whole cc0_scoped11) (Memref.whole main_v8) cc0_scoped12 squeezes_S1x1x1x1024_S1x1x1024 h_S1x1x1024 (X main_v8)
def rSc : InRing F c 2 S1x1x1024 .f32 := mkDuo (Memref.whole cc0_scoped13) (Memref.whole main_v9) cc0_scoped14 squeezes_S1x1x1x1024_S1x1x1024 h_S1x1x1024 (X main_v9)
def oHn : OutRing S1x512x1024 .f32 := mkRes (Memref.whole cc0_scoped17) (Memref.whole main_v11_0) cc0_scoped18 squeezes_S1x1x512x1024_S1x512x1024 h_S1x512x1024
def oU : OutRing S1x512x1024 .bf16 := mkRes (Memref.whole cc0_scoped19) (Memref.whole main_v11_1) cc0_scoped20 squeezes_S1x1x512x1024_S1x512x1024 h_S1x512x1024
def oLg : OutRing S1x512x128 .f32 := mkRes (Memref.whole cc0_scoped21) (Memref.whole main_v11_2) cc0_scoped22 squeezes_S1x1x512x128_S1x512x128 h_S1x512x128

/-! What trip `k` computes, from what the arrays hold. -/

def wOut : S1024x1024.Idx → Elt F .bf16 := (Memref.whole main_v6 : Memref sig .tc .hbm S1024x1024 .bf16).view.read (Elt F) (X main_v6)
def wNorm : S1x1024.Idx → Elt F .f32 := (Memref.whole main_v10 : Memref sig .tc .hbm S1x1024 .f32).view.read (Elt F) (X main_v10)
def wRw : S1024x256.Idx → Elt F .bf16 := (Memref.whole main_v5 : Memref sig .tc .hbm S1024x256 .bf16).view.read (Elt F) (X main_v5)

def y1 (k : ℕ) : FVec F S512x1024 .f32 :=
  k0_pay1 ((rRet c X).w k) (VecWindow.window (wOut c X) ![0, 0] S256x1024.size inb_S1024x1024_S256x1024_0_0)
    ((rNa c X).w k) (VecWindow.window (wOut c X) ![256, 0] S512x1024.size inb_S1024x1024_S512x1024_256_0)
def y2 (k : ℕ) : FVec F S512x1024 .f32 :=
  k0_pay2 ((rMla c X).w k) (VecWindow.window (wOut c X) ![768, 0] S256x1024.size inb_S1024x1024_S256x1024_768_0)
def wHn (k : ℕ) : S1x512x1024.Idx → Elt F .f32 := k0_pay4 (y1 c X k) (y2 c X k) ((rH c X).w k) ((rG1 c X).w (k / 16))
def y5 (k : ℕ) : FVec F S512x1024 .f32 := k0_pay5 (y1 c X k) (y2 c X k) ((rH c X).w k) ((rG1 c X).w (k / 16)) (wNorm c X)
def wU (k : ℕ) : S1x512x1024.Idx → Elt F .bf16 := fun j =>
  k0_pay8 (y5 c X k) ((rSc c X).w (k / 16)) ((rSh c X).w (k / 16)) (Shape.reshapeEquiv squeezes_S1x1x512x1024_S1x512x1024.numel_eq j)
def y9 (k : ℕ) : FVec F S512x128 .f32 := k0_pay9 (y5 c X k) ((rSc c X).w (k / 16)) ((rSh c X).w (k / 16)) (wRw c X)
def wLg (k : ℕ) : S1x512x128.Idx → Elt F .f32 := k0_pay10 (y9 c X k)

end Cert.KernelIdeal.OutProj
-- ==== Proof.Slots.lean ====
/- The buffers and arrays of the call cut into what the rings hold: a ring's buffer is its slots, an array lent out is its shares,
   a result is its 64 blocks, and the blocks written make up one array. -/
module

public import proofs.«01_k».proof.Proof.Operands

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable {c : Dev nD}

/-! ## Slots -/

/-- Slot `k`'s box in a ring's buffer. -/
abbrev slotBox (n r N : ℕ) (hn : 0 < n) (k : ℕ) : Rect ⟨4, ![n, 1, r, N]⟩ := Rect.unit (so n k) ![1, 1, r, N] (so_inb hn k)

theorem mem_slotBox {n r N : ℕ} (hn : 0 < n) (k : ℕ) (i : (⟨4, ![n, 1, r, N]⟩ : Shape).Idx) :
    i ∈ (slotBox n r N hn k).set ↔ (i 0).val = k % n := by
  rw [Rect.mem_set_unit]
  constructor
  · intro h; have := h 0; simp [so] at this; omega
  · intro h a
    have ha := (i a).isLt
    fin_cases a <;> simp [so] at ha h ⊢ <;> omega

section Geometry

variable {sp : Space} {n r N : ℕ} {e : EltTy} (M : Memref sig .tc sp ⟨4, ![n, 1, r, N]⟩ e) (hn : 0 < n)

/-- Slot `k`'s elements. -/
abbrev slotSet (k : ℕ) : Finset M.view.ty.Idx := (M.view.slice (slotBox n r N hn k)).set

theorem slot_disj (s s' : Fin n) (h : s ≠ s') : Disjoint (slotSet M hn s.val) (slotSet M hn s'.val) := by
  unfold slotSet
  rw [View.set_slice, View.set_slice]
  refine (Finset.disjoint_map _).mpr (Finset.disjoint_left.mpr fun i hi hi' => h (Fin.ext ?_))
  rw [mem_slotBox] at hi hi'
  rw [Nat.mod_eq_of_lt s.isLt] at hi
  rw [Nat.mod_eq_of_lt s'.isLt] at hi'
  omega

theorem slot_cover (hM : M.view.set = Finset.univ) : Finset.univ.biUnion (fun s : Fin n => slotSet M hn s.val) = Finset.univ := by
  rw [← hM]
  ext i
  constructor
  · intro hi
    obtain ⟨t, -, hi⟩ := Finset.mem_biUnion.mp hi
    exact View.set_slice_subset _ _ hi
  · intro hi
    rw [View.set, Finset.mem_map] at hi
    obtain ⟨x, -, rfl⟩ := hi
    refine Finset.mem_biUnion.mpr ⟨⟨(x 0).val, (x 0).isLt⟩, Finset.mem_univ _, ?_⟩
    show M.view.emb x ∈ (M.view.slice (slotBox n r N hn (x 0).val)).set
    rw [View.set_slice]
    refine Finset.mem_map_of_mem _ ((mem_slotBox hn _ x).mpr ?_)
    exact (Nat.mod_eq_of_lt (x 0).isLt).symm

end Geometry

/-- A slot of a ring's buffer. -/
abbrev slotOf {n r N : ℕ} {e : EltTy} (hn : 0 < n) (M : Memref sig .tc .vmem ⟨4, ![n, 1, r, N]⟩ e)
    (hq : (⟨4, ![1, 1, r, N]⟩ : Shape).Squeezes ⟨3, ![1, r, N]⟩) (k : ℕ) : Memref sig .tc .vmem ⟨3, ![1, r, N]⟩ e :=
  (M.slice (slotBox n r N hn k) fun _ => rfl).squeeze _ hq

theorem owned_slot {n r N : ℕ} {e : EltTy} (hn : 0 < n) (M : Memref sig .tc .vmem ⟨4, ![n, 1, r, N]⟩ e)
    (hq : (⟨4, ![1, 1, r, N]⟩ : Shape).Squeezes ⟨3, ![1, r, N]⟩) (k : ℕ) :
    (owned c (slotOf hn M hq k) : sProp 𝕄) = iprop(∃ f, M.view.loc (c : Thread nD τ) ↦[slotSet M hn k]{fullShare} f) := by
  unfold owned slotSet
  have h : (slotOf hn M hq k).view.set = (M.view.slice (slotBox n r N hn k)).set :=
    View.set_reshape (v := M.view.slice (slotBox n r N hn k)) hq.numel_eq
  rw [h]

/-- A buffer of three slots. -/
theorem slots_three {r N : ℕ} {e : EltTy} (M : Memref sig .tc .vmem ⟨4, ![3, 1, r, N]⟩ e) (hM : M.view.set = Finset.univ)
    (hq : (⟨4, ![1, 1, r, N]⟩ : Shape).Squeezes ⟨3, ![1, r, N]⟩) :
    iprop(∃ f, M.view.loc (c : Thread nD τ) ↦{fullShare} f)
      ⊣⊢ (iprop(owned c (slotOf (by decide) M hq 0) ∗ owned c (slotOf (by decide) M hq 1) ∗ owned c (slotOf (by decide) M hq 2)) : sProp 𝕄) := by
  rw [owned_slot, owned_slot, owned_slot]
  have hd := slot_disj (n := 3) M (by decide)
  have hc := slot_cover (n := 3) M (by decide) hM
  exact ⟨Ring.slots3_split (ℓ := M.view.loc (c : Thread nD τ)) (fun s : Fin 3 => slotSet M (by decide) s.val) hd hc
      (fun f => iprop(M.view.loc (c : Thread nD τ) ↦[slotSet M (by decide) 0]{fullShare} f))
      (fun f => iprop(M.view.loc (c : Thread nD τ) ↦[slotSet M (by decide) 1]{fullShare} f))
      (fun f => iprop(M.view.loc (c : Thread nD τ) ↦[slotSet M (by decide) 2]{fullShare} f)) (fun _ => rfl) (fun _ => rfl) (fun _ => rfl),
    Ring.slots3_join (ℓ := M.view.loc (c : Thread nD τ)) (fun s : Fin 3 => slotSet M (by decide) s.val) hd hc
      (fun f => iprop(M.view.loc (c : Thread nD τ) ↦[slotSet M (by decide) 0]{fullShare} f))
      (fun f => iprop(M.view.loc (c : Thread nD τ) ↦[slotSet M (by decide) 1]{fullShare} f))
      (fun f => iprop(M.view.loc (c : Thread nD τ) ↦[slotSet M (by decide) 2]{fullShare} f)) (fun _ => rfl) (fun _ => rfl) (fun _ => rfl)⟩

/-- A buffer of two slots. -/
theorem slots_two {r N : ℕ} {e : EltTy} (M : Memref sig .tc .vmem ⟨4, ![2, 1, r, N]⟩ e) (hM : M.view.set = Finset.univ)
    (hq : (⟨4, ![1, 1, r, N]⟩ : Shape).Squeezes ⟨3, ![1, r, N]⟩) :
    iprop(∃ f, M.view.loc (c : Thread nD τ) ↦{fullShare} f)
      ⊣⊢ (iprop(owned c (slotOf (by decide) M hq 0) ∗ owned c (slotOf (by decide) M hq 1)) : sProp 𝕄) := by
  rw [owned_slot, owned_slot]
  have hd := slot_disj (n := 2) M (by decide)
  have hc := slot_cover (n := 2) M (by decide) hM
  exact ⟨Ring.slots2_split (ℓ := M.view.loc (c : Thread nD τ)) (fun s : Fin 2 => slotSet M (by decide) s.val) hd hc
      (fun f => iprop(M.view.loc (c : Thread nD τ) ↦[slotSet M (by decide) 0]{fullShare} f))
      (fun f => iprop(M.view.loc (c : Thread nD τ) ↦[slotSet M (by decide) 1]{fullShare} f)) (fun _ => rfl) (fun _ => rfl),
    Ring.slots2_join (ℓ := M.view.loc (c : Thread nD τ)) (fun s : Fin 2 => slotSet M (by decide) s.val) hd hc
      (fun f => iprop(M.view.loc (c : Thread nD τ) ↦[slotSet M (by decide) 0]{fullShare} f))
      (fun f => iprop(M.view.loc (c : Thread nD τ) ↦[slotSet M (by decide) 1]{fullShare} f)) (fun _ => rfl) (fun _ => rfl)⟩

/-! ## Blocks of a result -/

/-- Block `b`'s box. -/
abbrev blkBox (N b : ℕ) : Rect ⟨3, ![4, 8192, N]⟩ := Rect.unit (bo b) ![1, 512, N] (bo_inb b)

theorem mem_blkBox {N : ℕ} (b : ℕ) (i : (⟨3, ![4, 8192, N]⟩ : Shape).Idx) :
    i ∈ (blkBox N b).set ↔ (i 0).val = b % 64 / 16 ∧ (i 1).val / 512 = b % 16 := by
  rw [Rect.mem_set_unit]
  constructor
  · intro h; have h0 := h 0; have h1 := h 1; simp [bo] at h0 h1; omega
  · intro h a
    have ha := (i a).isLt
    fin_cases a <;> simp [bo] at ha h ⊢ <;> omega

theorem blk_disj {N : ℕ} (b b' : Fin 64) (h : b ≠ b') : Disjoint (blkBox N b.val).set (blkBox N b'.val).set := by
  refine Finset.disjoint_left.mpr fun i hi hi' => h (Fin.ext ?_)
  rw [mem_blkBox] at hi hi'
  omega

theorem blk_cover {N : ℕ} : Finset.univ.biUnion (fun b : Fin 64 => (blkBox N b.val).set) = Finset.univ := by
  ext i
  simp only [Finset.mem_biUnion, Finset.mem_univ, true_and, iff_true]
  have h0 : (i 0).val < 4 := (i 0).isLt
  have h1 : (i 1).val < 8192 := (i 1).isLt
  refine ⟨⟨(i 0).val * 16 + (i 1).val / 512, by omega⟩, (mem_blkBox _ i).mpr ⟨?_, ?_⟩⟩ <;> dsimp only <;> omega

/-- `upto` as the library's conjunction. -/
theorem upto_range (P : ℕ → sProp 𝕄) (n : ℕ) : upto P n = bigSep (Finset.range n) P := by
  induction n with
  | zero => rw [Finset.range_zero, bigSep_empty]; rfl
  | succ n ih => rw [Finset.range_add_one, bigSep_insert Finset.notMem_range_self, ← ih]; rfl

theorem upto_fin (P : ℕ → sProp 𝕄) (n : ℕ) : upto P n = bigSep Finset.univ (fun t : Fin n => P t.val) := by
  rw [upto_range]; exact (Ring.bigSep_fin_eq_range n _ P (fun _ _ => rfl)).symm

/-- The array the blocks `w b` make up. -/
def assemble {N : ℕ} {α : Type} (w : ℕ → (⟨3, ![1, 512, N]⟩ : Shape).Idx → α) : (⟨3, ![4, 8192, N]⟩ : Shape).Idx → α := fun i =>
  w ((i 0).val * 16 + (i 1).val / 512) (Fin.cons ⟨0, by simp⟩ (Fin.cons ⟨(i 1).val % 512, Nat.mod_lt _ (by decide)⟩ (Fin.cons (i 2) finZeroElim)))

theorem assemble_blk {N : ℕ} {α : Type} (w : ℕ → (⟨3, ![1, 512, N]⟩ : Shape).Idx → α) (b : Fin 64) :
    (fun j => assemble w ((blkBox N b.val).emb j)) = w b.val := by
  funext j
  have hb := b.isLt
  have j0 : (j 0).val = 0 := by have := (j 0).isLt; simp at this; omega
  have j1 : (j 1).val < 512 := (j 1).isLt
  have e0 : ((blkBox N b.val).emb j 0).val = b.val % 64 / 16 + 1 * (j 0).val := rfl
  have e1 : ((blkBox N b.val).emb j 1).val = b.val % 16 * 512 + 1 * (j 1).val := rfl
  have e2 : ((blkBox N b.val).emb j 2).val = 0 + 1 * (j 2).val := rfl
  unfold assemble
  have hi : ((blkBox N b.val).emb j 0).val * 16 + ((blkBox N b.val).emb j 1).val / 512 = b.val := by omega
  rw [hi]
  congr 1
  funext a
  apply Fin.ext
  fin_cases a
  · exact j0.symm
  · show ((blkBox N b.val).emb j 1).val % 512 = (j 1).val
    omega
  · show ((blkBox N b.val).emb j 2).val = (j 2).val
    omega

theorem holds_owns {sp : Space} {s : Shape} {e : EltTy} (D : Memref sig .tc sp s e) (w : s.Idx → Elt F e) :
    holds c D w ⊢ (owns (c : Thread nD τ) D fullShare w : sProp 𝕄) := .rfl

section Blocks

variable {N : ℕ} {e : EltTy} (A : Memref sig .tc .hbm ⟨3, ![4, 8192, N]⟩ e) (R : OutRing ⟨3, ![1, 512, N]⟩ e)
  (hR : ∀ b, R.B b = A.slice (blkBox N b) fun _ => rfl) (hA : A.view.set = Finset.univ)

include hR hA

/-- An array as blocks to write. -/
theorem todo_of (f : Buf (Elt F) (A.view.loc (c : Thread nD τ))) : (A.view.loc (c : Thread nD τ) ↦{fullShare} f : sProp 𝕄) ⊢ todo R c 0 := by
  have e1 := pointsTo_rects (Ix := Unit) (Name := ℕ) (U := UC sig nD τ) (Lvl := ℕ) (c : Thread nD τ) A fullShare (fun b : Fin 64 => blkBox N (63 - b.val)) (fun _ _ => rfl)
    (fun b b' h => blk_disj ⟨63 - b.val, by omega⟩ ⟨63 - b'.val, by omega⟩ (fun h' => h (Fin.ext (by have := congrArg Fin.val h'; dsimp only at this; omega))))
    (by
      rw [← blk_cover (N := N)]
      ext i
      simp only [Finset.mem_biUnion, Finset.mem_univ, true_and]
      exact ⟨fun ⟨t, ht⟩ => ⟨⟨63 - t.val, by omega⟩, ht⟩, fun ⟨t, ht⟩ => ⟨⟨63 - t.val, by omega⟩, by
        have : 63 - (63 - t.val) = t.val := by omega
        dsimp only; rw [this]; exact ht⟩⟩) f
  rw [hA] at e1
  rw [e1, todo, upto_fin]
  refine bigSep_mono fun t _ => ?_
  rw [hR]
  exact holds_owned _ _

/-- The blocks written, as an array. -/
theorem done_to [∀ e, Nonempty (Elt F e)] (w : ℕ → (⟨3, ![1, 512, N]⟩ : Shape).Idx → Elt F e) :
    done R w c 64 ⊢ (iprop(∃ f, ⌜A.view.read (Elt F) f = assemble w⌝ ∗ A.view.loc (c : Thread nD τ) ↦{fullShare} f) : sProp 𝕄) := by
  have e1 := owns_of_rects (Ix := Unit) (Name := ℕ) (U := UC sig nD τ) (Lvl := ℕ) (Val := Elt F) (c : Thread nD τ) A fullShare (fun b : Fin 64 => blkBox N b.val) (fun _ _ => rfl)
    (fun b b' h => blk_disj b b' h) blk_cover (assemble w)
  unfold owns at e1
  rw [hA] at e1
  refine BIBase.Entails.trans ?_ e1
  rw [done, upto_fin]
  refine bigSep_mono fun t _ => ?_
  rw [hR, assemble_blk w t]
  exact holds_owns _ _

end Blocks

end Cert.KernelIdeal.OutProj
-- ==== Proof.Parts.lean ====
/- The parts the printed trip is cut into, at the operands of the call and at what the loop carries into trip `k`. -/
module

public import proofs.«01_k».proof.Proof.Operands

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

/-- Part 1 of a trip. -/
abbrev part1 (k : T) : Prog (TpuEff nD τ sig (Elt F) Λ₀ .tc) (Σ' (k0_hw11 : k0_chk11 (wK k)) (k0_hw10 : k0_chk10 (wK k)) (k0_hw9 : k0_chk9 (wD k)) (k0_hw8 : k0_chk8 (wD k)) (k0_hw7 : k0_chk7 (wK k)) (k0_hw6 : k0_chk6 (wD k)) (k0_hw5 : k0_chk5 (wK k)) (k0_hw4 : k0_chk4 (wK k)) (k0_hw3 : k0_chk3 (wK k)) (k0_hw2 : k0_chk2 (wK k)) (k0_hw1 : k0_chk1 k (wI k) (wK k) (wI k) (wK k) (wI k) (wK k) (wI k) (wK k) (wM k) (wD k) (wM k) (wD k) (wM k) (wD k) (wK k) (wP k) (wK k) (wP k) (wK k) (wP k) (wB k) (wJ k)) (arg13 : BitVec 32) (v207 : BitVec 1) (v208 : BitVec 1) (v209 : BitVec 32) (v210 : BitVec 32) (v219 : BitVec 32) (v220 : BitVec 32) (v224 : BitVec 32) (v228 : BitVec 32) (v229 : BitVec 32) (v230 : BitVec 32), BitVec 32) :=
  k0_part1_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 0#32 1#32 k (wI k) (wK k) (wI k) (wK k) (wI k) (wK k) (wI k) (wK k) (wM k) (wD k) (wM k) (wD k) (wM k) (wD k) (wK k) (wP k) (wK k) (wP k) (wK k) (wP k) (wB k) (wJ k)

/-- Part 2 of a trip. -/
abbrev part2 (k : T) (h1 : k0_chk1 k (wI k) (wK k) (wI k) (wK k) (wI k) (wK k) (wI k) (wK k) (wM k) (wD k) (wM k) (wD k) (wM k) (wD k) (wK k) (wP k) (wK k) (wP k) (wK k) (wP k) (wB k) (wJ k)) : Prog (TpuEff nD τ sig (Elt F) Λ₀ .tc) (Σ' (v239 : BitVec 32) (v240 : BitVec 32) (v262 : BitVec 32) (v265 : BitVec 1), BitVec 1) :=
  k0_part2_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 k (wI k) (wK k) (wI k) (wK k) (wI k) (wK k) (wI k) (wK k) (wM k) (wD k) (wM k) (wD k) (wM k) (wD k) (wK k) (wP k) (wK k) (wP k) (wK k) (wP k) (wB k) (wJ k) h1 (wK k) (wJ (k + 1)) (wB (k + 1)) (wB (k + 1)) (wJ (k + 1)) (wJ (k + 1) + 1#32)

/-- Part 3 of a trip. -/
abbrev part3 (k : T) (h1 : k0_chk1 k (wI k) (wK k) (wI k) (wK k) (wI k) (wK k) (wI k) (wK k) (wM k) (wD k) (wM k) (wD k) (wM k) (wD k) (wK k) (wP k) (wK k) (wP k) (wK k) (wP k) (wB k) (wJ k)) : Prog (TpuEff nD τ sig (Elt F) Λ₀ .tc) (Σ' (v274 : BitVec 32) (v286 : BitVec 32) (v298 : BitVec 32) (v302 : BitVec 1), BitVec 1) :=
  k0_part3_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 k (wI k) (wK k) (wI k) (wK k) (wI k) (wK k) (wI k) (wK k) (wM k) (wD k) (wM k) (wD k) (wM k) (wD k) (wK k) (wP k) (wK k) (wP k) (wK k) (wP k) (wB k) (wJ k) h1 (wK k) (wB k) (wB (k + 1)) (wJ (k + 1)) (wB (k + 2)) (wJ (k + 2)) 1#1 (bit (62 ≤ k.val))

/-- Part 4 of a trip. -/
abbrev part4 (k : T) (h1 : k0_chk1 k (wI k) (wK k) (wI k) (wK k) (wI k) (wK k) (wI k) (wK k) (wM k) (wD k) (wM k) (wD k) (wM k) (wD k) (wK k) (wP k) (wK k) (wP k) (wK k) (wP k) (wB k) (wJ k)) : Prog (TpuEff nD τ sig (Elt F) Λ₀ .tc) (Σ' (v308 : BitVec 32) (v318 : BitVec 32) (v328 : BitVec 32), BitVec 1) :=
  k0_part4_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 k (wI k) (wK k) (wI k) (wK k) (wI k) (wK k) (wI k) (wK k) (wM k) (wD k) (wM k) (wD k) (wM k) (wD k) (wK k) (wP k) (wK k) (wP k) (wK k) (wP k) (wB k) (wJ k) h1 (wK k) (wB k) (wJ k) (wB (k + 1)) (wJ (k + 1)) (bit (k.val % 16 = 15 ∧ k.val < 63)) (bit (k.val % 16 = 15 ∧ k.val < 63))

/-- Part 5 of a trip. -/
abbrev part5 (k : T) (h1 : k0_chk1 k (wI k) (wK k) (wI k) (wK k) (wI k) (wK k) (wI k) (wK k) (wM k) (wD k) (wM k) (wD k) (wM k) (wD k) (wK k) (wP k) (wK k) (wP k) (wK k) (wP k) (wB k) (wJ k)) : Prog (TpuEff nD τ sig (Elt F) Λ₀ .tc) (PUnit) :=
  k0_part5_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 k (wI k) (wK k) (wI k) (wK k) (wI k) (wK k) (wI k) (wK k) (wM k) (wD k) (wM k) (wD k) (wM k) (wD k) (wK k) (wP k) (wK k) (wP k) (wK k) (wP k) (wB k) (wJ k) h1 (wK k) (bit (k.val = 0)) (wB k) (wJ k) (wB (k + 63)) (wJ (k + 63)) (wJ (k + 1)) (bit (k.val % 16 = 15))

/-- Part 6 of a trip. -/
abbrev part6 (k : T) (h1 : k0_chk1 k (wI k) (wK k) (wI k) (wK k) (wI k) (wK k) (wI k) (wK k) (wM k) (wD k) (wM k) (wD k) (wM k) (wD k) (wK k) (wP k) (wK k) (wP k) (wK k) (wP k) (wB k) (wJ k)) : Prog (TpuEff nD τ sig (Elt F) Λ₀ .tc) (BitVec 32) :=
  k0_part6_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 k (wI k) (wK k) (wI k) (wK k) (wI k) (wK k) (wI k) (wK k) (wM k) (wD k) (wM k) (wD k) (wM k) (wD k) (wK k) (wP k) (wK k) (wP k) (wK k) (wP k) (wB k) (wJ k) h1 (wK k) (bit (k.val = 0)) (wB k) (wJ k) (wB (k + 63)) (wJ (k + 63))

/-- Part 7 of a trip. -/
abbrev part7 (k : T) (h4 : k0_chk4 (wK k)) (h3 : k0_chk3 (wK k)) (h2 : k0_chk2 (wK k)) : Prog (TpuEff nD τ sig (Elt F) Λ₀ .tc) (Σ' (v445 : FVec F S512x1024 .f32), FVec F S512x1024 .f32) :=
  k0_part7_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 (wK k) (wK k) (wK k) (wD k) (wD k) (wD k) (wK k) (wK k) (wK k) h4 h3 h2 2#32

/-- Part 8 of a trip. -/
abbrev part8 (k : T) (h8 : k0_chk8 (wD k)) (h7 : k0_chk7 (wK k)) (h6 : k0_chk6 (wD k)) (h5 : k0_chk5 (wK k)) (v445 : FVec F S512x1024 .f32) (v452 : FVec F S512x1024 .f32) : Prog (TpuEff nD τ sig (Elt F) Λ₀ .tc) (FVec F S512x1024 .f32) :=
  k0_part8_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 (wK k) (wD k) (wD k) (wK k) h8 h7 h6 h5 v445 v452

/-- Part 9 of a trip. -/
abbrev part9 (k : T) (h11 : k0_chk11 (wK k)) (h10 : k0_chk10 (wK k)) (h9 : k0_chk9 (wD k)) (h8 : k0_chk8 (wD k)) (v483 : FVec F S512x1024 .f32) : Prog (TpuEff nD τ sig (Elt F) Λ₀ .tc) (Σ' (v515 : FVec F S512x128 .f32), Vec F S1x512x128 .f32) :=
  k0_part9_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 (wD k) (wD k) (wK k) (wK k) h11 h10 h9 h8 v483

/-- Part 10 of a trip. -/
abbrev part10 (k : T) (h11 : k0_chk11 (wK k)) (v515 : FVec F S512x128 .f32) (v518 : Vec F S1x512x128 .f32) : Prog (TpuEff nD τ sig (Elt F) Λ₀ .tc) (BitVec 1) :=
  k0_part10_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 (wK k) h11 (bit (k.val = 63)) (wB k) (wJ k) (wB (k + 1)) (wJ (k + 1)) v515 v518

/-- Part 11 of a trip. -/
abbrev part11 (k : T) (h1 : k0_chk1 k (wI k) (wK k) (wI k) (wK k) (wI k) (wK k) (wI k) (wK k) (wM k) (wD k) (wM k) (wD k) (wM k) (wD k) (wK k) (wP k) (wK k) (wP k) (wK k) (wP k) (wB k) (wJ k)) : Prog (TpuEff nD τ sig (Elt F) Λ₀ .tc) (Σ' (v572 : BitVec 32) (v581 : BitVec 32) (v590 : BitVec 32) (v599 : BitVec 1), BitVec 1) :=
  k0_part11_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 k (wI k) (wK k) (wI k) (wK k) (wI k) (wK k) (wI k) (wK k) (wM k) (wD k) (wM k) (wD k) (wM k) (wD k) (wK k) (wP k) (wK k) (wP k) (wK k) (wP k) (wB k) (wJ k) h1 (bit (k.val = 0)) (bit (k.val = 63)) (wB k) (wJ k) (wB (k + 63)) (wJ (k + 63)) (wB (k + 1)) (wJ (k + 1)) (bit (k.val % 16 = 15))

/-- Part 12 of a trip. -/
abbrev part12 (k : T) : Prog (TpuEff nD τ sig (Elt F) Λ₀ .tc) (Σ' (v637 : BitVec 1) (v638 : BitVec 32), BitVec 32) :=
  k0_part12_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 (bit (k.val = 0)) (wB k) (wJ k) (wB (k + 63)) (wJ (k + 63)) (bit (k.val % 16 = 0)) 1#1

/-- Part 13 of a trip. -/
abbrev part13 (k : T) (h1 : k0_chk1 k (wI k) (wK k) (wI k) (wK k) (wI k) (wK k) (wI k) (wK k) (wM k) (wD k) (wM k) (wD k) (wM k) (wD k) (wK k) (wP k) (wK k) (wP k) (wK k) (wP k) (wB k) (wJ k)) : Prog (TpuEff nD τ sig (Elt F) Λ₀ .tc) (Σ' (v650 : BitVec 32) (v660 : BitVec 32) (v670 : BitVec 32) (v676 : BitVec 32), BitVec 1) :=
  k0_part13_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 k (wI k) (wK k) (wI k) (wK k) (wI k) (wK k) (wI k) (wK k) (wM k) (wD k) (wM k) (wD k) (wM k) (wD k) (wK k) (wP k) (wK k) (wP k) (wK k) (wP k) (wB k) (wJ k) h1 (bit (k.val = 0)) (bit (k.val = 63)) (wB k) (wJ k) (wB (k + 63)) (wJ (k + 63)) (wB (k + 1)) (wJ (k + 1)) (bit (k.val % 16 = 0 ∧ k.val ≠ 0)) (BitVec.ofNat 32 (if k.val % 16 = 0 ∧ k.val ≠ 0 then 1 else 0)) 0#32

/-- Part 14 of a trip. -/
abbrev part14 (k : T) : Prog (TpuEff nD τ sig (Elt F) Λ₀ .tc) (Σ' (v682 : BitVec 32) (v688 : BitVec 32) (v694 : BitVec 32) (v697 : BitVec 32) (v701 : BitVec 32) (v705 : BitVec 32) (v709 : BitVec 32) (v712 : BitVec 32) (v715 : BitVec 32) (v719 : BitVec 32) (v721 : BitVec 32), BitVec 1) :=
  k0_part14_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 (wK k) (wK k) (wK k) (wZ k) (wD k) (wD k) (wD k) (wZ k) (wZ k) (wB k) (wJ k) (bit (k.val = 63)) (wB k) (wJ k) (wB (k + 1)) (wJ (k + 1)) 1#1

end Cert.KernelIdeal.OutProj
-- ==== Proof.Issue.lean ====
/- The first half of a trip: the copies it asks for and the copies it waits for. Of each part, what it needs of the rings, what it
   leaves, and what it returns. -/
module

public import proofs.«01_k».proof.Proof.Parts

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

set_option pp.deepTerms.threshold 4
set_option pp.deepTerms false
set_option pp.maxSteps 1500

local notation "𝕄" => MT nD τ sig Unit (Elt F) ℕ (UC sig nD τ) ℕ

/-- Memrefs of the same slot. -/
theorem slot_eq {sp : Space} {sR s : Shape} {e : EltTy} {M : Memref sig .tc sp sR e} {sz off off' : Fin sR.rank → ℕ} (h : off = off')
    {p p'} {hq : (⟨sR.rank, sz⟩ : Shape).Squeezes s} :
    (M.slice (Rect.unit off sz p) fun _ => rfl).squeeze s hq = (M.slice (Rect.unit off' sz p') fun _ => rfl).squeeze s hq := by subst h; rfl
theorem blk_eq {sp : Space} {sR : Shape} {e : EltTy} {M : Memref sig .tc sp sR e} {sz off off' : Fin sR.rank → ℕ} (h : off = off')
    {p p'} : M.slice (Rect.unit off sz p) (fun _ => rfl) = M.slice (Rect.unit off' sz p') fun _ => rfl := by subst h; rfl
theorem cell_eq {sV : Shape} {v : DmaSems sig sV} {sz off off' : Fin sV.rank → ℕ} (h : off = off')
    {p p'} {hq : (⟨sV.rank, sz⟩ : Shape).Squeezes S_} :
    ((v.slice (Rect.unit off sz p)).squeeze S_ hq).sem = ((v.slice (Rect.unit off' sz p')).squeeze S_ hq).sem := by subst h; rfl

variable {c : Dev nD} {X : (b : Ref sig .tc) → Buf (Elt F) ((c : Thread nD τ).loc b)}
variable {defs : Defs nD τ sig (Elt F) Λ₀} {𝒱 : Variants} {bd : Option 𝒱.V}

theorem bit_eq (p : Prop) [Decidable p] : (bit p = 1#1) = p := by by_cases h : p <;> simp [bit, h]

theorem wp_part2 (k : T) {h1} (Q) :
    iprop(tri0 (rRet c X) k) ⊢ iprop((∀ r, ⌜r = ⟨wB (k + 2), wJ (k + 2), wI (k + 1), 1#1, bit (62 ≤ k.val)⟩⌝ -∗ tri1 (rRet c X) k -∗ Q r)
      -∗ wp frame (wpE defs 𝒱 (c : Thread nD τ) bd) Set.univ (part2 (F := F) k h1) Q) := by
  have hk : k.val < 64 := trips_eq ▸ k.isLt
  by_cases h : k.val < 62
  · simp only [part2, k0_part2_skel, cond5, bit_eq, h, and_self, ↓reduceIte, ↓reduceDIte, Prog.lift, Prog.bind_op, Prog.bind_ret, Prog.pure_eq_ret, Prog.bind_assoc]
    iintro H0 Hk
    iapply (tri_issue (rRet c X) k h ?_ ?_ ?_) $$ H0
    · exact slot_eq (off20 k h)
    · exact blk_eq (off21 k h)
    · exact cell_eq (off19 k h)
    iintro H0
    rw [wp_ret]
    imodintro
    iapply Hk $$ [] H0
    ipureintro
    clear * - h
    revert k; decide +kernel
  · simp only [part2, k0_part2_skel, cond5, bit_eq, h, ↓reduceIte, ↓reduceDIte, Prog.lift, Prog.bind_op, Prog.bind_ret, Prog.pure_eq_ret, Prog.bind_assoc]
    iintro H0 Hk
    ihave H0 := tri_skip _ _ h hk $$ H0
    rw [wp_ret]
    imodintro
    iapply Hk $$ [] H0
    ipureintro
    clear * - h
    revert k; decide +kernel

theorem wp_part3 (k : T) {h1} (Q) :
    iprop(tri0 (rNa c X) k ∗ tri0 (rMla c X) k ∗ tri0 (rH c X) k) ⊢ iprop((∀ r, ⌜r = ⟨wI (k + 1), wI (k + 1), wI (k + 1), bit (k.val % 16 = 15 ∧ k.val < 63), bit (k.val % 16 = 15 ∧ k.val < 63)⟩⌝ -∗ tri1 (rNa c X) k -∗ tri1 (rMla c X) k -∗ tri1 (rH c X) k -∗ Q r)
      -∗ wp frame (wpE defs 𝒱 (c : Thread nD τ) bd) Set.univ (part3 (F := F) k h1) Q) := by
  have hk : k.val < 64 := trips_eq ▸ k.isLt
  by_cases h : k.val < 62
  · simp only [part3, k0_part3_skel, cond6, cond7, cond8, bit_eq, h, and_self, ↓reduceIte, ↓reduceDIte, Prog.lift, Prog.bind_op, Prog.bind_ret, Prog.pure_eq_ret, Prog.bind_assoc]
    iintro ⟨H0, H1, H2⟩ Hk
    iapply (tri_issue (rNa c X) k h ?_ ?_ ?_) $$ H0
    · exact slot_eq (off23 k h)
    · exact blk_eq (off24 k h)
    · exact cell_eq (off22 k h)
    iintro H0
    iapply (tri_issue (rMla c X) k h ?_ ?_ ?_) $$ H1
    · exact slot_eq (off26 k h)
    · exact blk_eq (off27 k h)
    · exact cell_eq (off25 k h)
    iintro H1
    iapply (tri_issue (rH c X) k h ?_ ?_ ?_) $$ H2
    · exact slot_eq (off29 k h)
    · exact blk_eq (off30 k h)
    · exact cell_eq (off28 k h)
    iintro H2
    rw [wp_ret]
    imodintro
    iapply Hk $$ [] H0 H1 H2
    ipureintro
    clear * - h
    revert k; decide +kernel
  · simp only [part3, k0_part3_skel, cond6, cond7, cond8, bit_eq, h, ↓reduceIte, ↓reduceDIte, Prog.lift, Prog.bind_op, Prog.bind_ret, Prog.pure_eq_ret, Prog.bind_assoc]
    iintro ⟨H0, H1, H2⟩ Hk
    ihave H0 := tri_skip _ _ h hk $$ H0
    ihave H1 := tri_skip _ _ h hk $$ H1
    ihave H2 := tri_skip _ _ h hk $$ H2
    rw [wp_ret]
    imodintro
    iapply Hk $$ [] H0 H1 H2
    ipureintro
    clear * - h
    revert k; decide +kernel

theorem wp_part4 (k : T) {h1} (Q) :
    iprop(duo0 (rG1 c X) k ∗ duo0 (rSh c X) k ∗ duo0 (rSc c X) k) ⊢ iprop((∀ r, ⌜r = ⟨wM (k + 1), wM (k + 1), wM (k + 1), bit (k.val % 16 = 15)⟩⌝ -∗ duo1 (rG1 c X) k -∗ duo1 (rSh c X) k -∗ duo1 (rSc c X) k -∗ Q r)
      -∗ wp frame (wpE defs 𝒱 (c : Thread nD τ) bd) Set.univ (part4 (F := F) k h1) Q) := by
  have hk : k.val < 64 := trips_eq ▸ k.isLt
  by_cases h : k.val % 16 = 15 ∧ k.val < 63
  · simp only [part4, k0_part4_skel, cond9, cond10, cond11, bit_eq, h, and_self, ↓reduceIte, ↓reduceDIte, Prog.lift, Prog.bind_op, Prog.bind_ret, Prog.pure_eq_ret, Prog.bind_assoc]
    iintro ⟨H0, H1, H2⟩ Hk
    iapply (duo_issue (rG1 c X) k h ?_ ?_ ?_) $$ H0
    · exact slot_eq (off32 k h)
    · exact blk_eq (off33 k h)
    · exact cell_eq (off31 k h)
    iintro H0
    iapply (duo_issue (rSh c X) k h ?_ ?_ ?_) $$ H1
    · exact slot_eq (off35 k h)
    · exact blk_eq (off36 k h)
    · exact cell_eq (off34 k h)
    iintro H1
    iapply (duo_issue (rSc c X) k h ?_ ?_ ?_) $$ H2
    · exact slot_eq (off38 k h)
    · exact blk_eq (off39 k h)
    · exact cell_eq (off37 k h)
    iintro H2
    rw [wp_ret]
    imodintro
    iapply Hk $$ [] H0 H1 H2
    ipureintro
    clear * - h
    revert k; decide +kernel
  · simp only [part4, k0_part4_skel, cond9, cond10, cond11, bit_eq, h, ↓reduceIte, ↓reduceDIte, Prog.lift, Prog.bind_op, Prog.bind_ret, Prog.pure_eq_ret, Prog.bind_assoc]
    iintro ⟨H0, H1, H2⟩ Hk
    ihave H0 := duo_skip _ _ h $$ H0
    ihave H1 := duo_skip _ _ h $$ H1
    ihave H2 := duo_skip _ _ h $$ H2
    rw [wp_ret]
    imodintro
    iapply Hk $$ [] H0 H1 H2
    ipureintro
    clear * - h
    revert k; decide +kernel

theorem wp_part5 (k : T) {h1} (Q) :
    iprop(tri1 (rRet c X) k ∗ tri1 (rNa c X) k ∗ tri1 (rMla c X) k ∗ tri1 (rH c X) k ∗ duo1 (rG1 c X) k ∗ waited c) ⊢ iprop((tri2 (rRet c X) k -∗ tri2 (rNa c X) k -∗ tri2 (rMla c X) k -∗ tri2 (rH c X) k -∗ duo2 (rG1 c X) k -∗ waited c -∗ Q ⟨⟩)
      -∗ wp frame (wpE defs 𝒱 (c : Thread nD τ) bd) Set.univ (part5 (F := F) k h1) Q) := by
  have hk : k.val < 64 := trips_eq ▸ k.isLt
  by_cases h : k.val % 16 = 0
  · simp only [part5, k0_part5_skel, cond12, cond13, cond14, cond15, cond16, bit_eq, h, ite_self, ↓reduceIte, ↓reduceDIte, Prog.lift, Prog.bind_op, Prog.bind_ret, Prog.pure_eq_ret, Prog.bind_assoc]
    iintro ⟨H0, H1, H2, H3, H4, HW⟩ Hk
    iapply (tri_wait (rRet c X) k ?_ ?_) $$ [H0 HW]
    · exact slot_eq (off41 k)
    · exact cell_eq (off40 k)
    · isplitl [H0] <;> iassumption
    iintro ⟨H0, HW⟩
    iapply (tri_wait (rNa c X) k ?_ ?_) $$ [H1 HW]
    · exact slot_eq (off44 k)
    · exact cell_eq (off43 k)
    · isplitl [H1] <;> iassumption
    iintro ⟨H1, HW⟩
    iapply (tri_wait (rMla c X) k ?_ ?_) $$ [H2 HW]
    · exact slot_eq (off47 k)
    · exact cell_eq (off46 k)
    · isplitl [H2] <;> iassumption
    iintro ⟨H2, HW⟩
    iapply (tri_wait (rH c X) k ?_ ?_) $$ [H3 HW]
    · exact slot_eq (off50 k)
    · exact cell_eq (off49 k)
    · isplitl [H3] <;> iassumption
    iintro ⟨H3, HW⟩
    iapply (duo_wait (rG1 c X) k hk h ?_ ?_) $$ [H4 HW]
    · exact slot_eq (off53 k)
    · exact cell_eq (off52 k)
    · isplitl [H4] <;> iassumption
    iintro ⟨H4, HW⟩
    rw [wp_ret]
    imodintro
    iapply Hk $$ H0 H1 H2 H3 H4 HW
  · simp only [part5, k0_part5_skel, cond12, cond13, cond14, cond15, cond16, bit_eq, h, ite_self, ↓reduceIte, ↓reduceDIte, Prog.lift, Prog.bind_op, Prog.bind_ret, Prog.pure_eq_ret, Prog.bind_assoc]
    iintro ⟨H0, H1, H2, H3, H4, HW⟩ Hk
    iapply (tri_wait (rRet c X) k ?_ ?_) $$ [H0 HW]
    · exact slot_eq (off41 k)
    · exact cell_eq (off40 k)
    · isplitl [H0] <;> iassumption
    iintro ⟨H0, HW⟩
    iapply (tri_wait (rNa c X) k ?_ ?_) $$ [H1 HW]
    · exact slot_eq (off44 k)
    · exact cell_eq (off43 k)
    · isplitl [H1] <;> iassumption
    iintro ⟨H1, HW⟩
    iapply (tri_wait (rMla c X) k ?_ ?_) $$ [H2 HW]
    · exact slot_eq (off47 k)
    · exact cell_eq (off46 k)
    · isplitl [H2] <;> iassumption
    iintro ⟨H2, HW⟩
    iapply (tri_wait (rH c X) k ?_ ?_) $$ [H3 HW]
    · exact slot_eq (off50 k)
    · exact cell_eq (off49 k)
    · isplitl [H3] <;> iassumption
    iintro ⟨H3, HW⟩
    ihave H4 := duo_held _ _ hk h $$ H4
    rw [wp_ret]
    imodintro
    iapply Hk $$ H0 H1 H2 H3 H4 HW

theorem wp_part6 (k : T) {h1} (Q) :
    iprop(duo1 (rSh c X) k ∗ duo1 (rSc c X) k ∗ waited c) ⊢ iprop((duo2 (rSh c X) k -∗ duo2 (rSc c X) k -∗ waited c -∗ Q 2#32)
      -∗ wp frame (wpE defs 𝒱 (c : Thread nD τ) bd) Set.univ (part6 (F := F) k h1) Q) := by
  have hk : k.val < 64 := trips_eq ▸ k.isLt
  by_cases h : k.val % 16 = 0
  · simp only [part6, k0_part6_skel, cond17, cond18, bit_eq, h, ite_self, ↓reduceIte, ↓reduceDIte, Prog.lift, Prog.bind_op, Prog.bind_ret, Prog.pure_eq_ret, Prog.bind_assoc]
    iintro ⟨H0, H1, HW⟩ Hk
    iapply (duo_wait (rSh c X) k hk h ?_ ?_) $$ [H0 HW]
    · exact slot_eq (off56 k)
    · exact cell_eq (off55 k)
    · isplitl [H0] <;> iassumption
    iintro ⟨H0, HW⟩
    iapply (duo_wait (rSc c X) k hk h ?_ ?_) $$ [H1 HW]
    · exact slot_eq (off59 k)
    · exact cell_eq (off58 k)
    · isplitl [H1] <;> iassumption
    iintro ⟨H1, HW⟩
    rw [wp_ret]
    imodintro
    iapply Hk $$ H0 H1 HW
  · simp only [part6, k0_part6_skel, cond17, cond18, bit_eq, h, ite_self, ↓reduceIte, ↓reduceDIte, Prog.lift, Prog.bind_op, Prog.bind_ret, Prog.pure_eq_ret, Prog.bind_assoc]
    iintro ⟨H0, H1, HW⟩ Hk
    ihave H0 := duo_held _ _ hk h $$ H0
    ihave H1 := duo_held _ _ hk h $$ H1
    rw [wp_ret]
    imodintro
    iapply Hk $$ H0 H1 HW

end Cert.KernelIdeal.OutProj
-- ==== Proof.Compute.lean ====
/- The body of a trip: what it loads, what it computes, what it stores in the three results' slots. -/
module

public import proofs.«01_k».proof.Proof.Issue

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

set_option pp.deepTerms.threshold 4
set_option pp.deepTerms false
set_option pp.maxSteps 1500

local notation "𝕄" => MT nD τ sig Unit (Elt F) ℕ (UC sig nD τ) ℕ

variable {c : Dev nD} {X : (b : Ref sig .tc) → Buf (Elt F) ((c : Thread nD τ).loc b)}
variable {defs : Defs nD τ sig (Elt F) Λ₀} {𝒱 : Variants} {bd : Option 𝒱.V}

/-- A load of a slot owned, named otherwise. -/
theorem wp_load_any' {s : Shape} {e : EltTy} {D D' : Memref sig .tc .vmem s e} {r : LoadRect s} {hl} (hd : D = D')
    {α : Type} {k : (r.shape.Idx → Elt F e) → Prog (TpuEff nD τ sig (Elt F) Λ₀ .tc) α} {Q : α → sProp 𝕄} :
    owned c D' ⊢ iprop((∀ v, owned c D' -∗ wp frame (wpE defs 𝒱 (c : Thread nD τ) bd) Set.univ (k v) Q) -∗ wp frame (wpE defs 𝒱 (c : Thread nD τ) bd) Set.univ (.op (.load D r hl) k) Q) := by
  subst hd; exact wp_load_any

/-- A store of a slot owned, named otherwise. -/
theorem wp_store_full' {s : Shape} {e : EltTy} {D D' : Memref sig .tc .vmem s e} {off : Fin s.rank → ℕ} {inb : ∀ a, off a + s.size a ≤ s.size a} {hx hm}
    (hd : D = D') {α : Type} {k : PUnit → Prog (TpuEff nD τ sig (Elt F) Λ₀ .tc) α} {Q : α → sProp 𝕄} {v : s.Idx → Elt F e} :
    owned c D' ⊢ iprop((holds c D' v -∗ wp frame (wpE defs 𝒱 (c : Thread nD τ) bd) Set.univ (k ⟨⟩) Q)
      -∗ wp frame (wpE defs 𝒱 (c : Thread nD τ) bd) Set.univ (.op (.store D (Rect.unit off s.size inb) v Finset.univ hx hm) k) Q) := by
  subst hd; exact wp_store_full

theorem wp_part7 (k : T) {h4 h3 h2} (Q) :
    iprop(tri2 (rRet c X) k ∗ tri2 (rNa c X) k ∗ tri2 (rMla c X) k ∗ holds c (Memref.whole cc0_scoped8 : Memref sig .tc .vmem S1024x1024 .bf16) (wOut c X))
      ⊢ iprop((tri2 (rRet c X) k -∗ tri2 (rNa c X) k -∗ tri2 (rMla c X) k -∗ holds c (Memref.whole cc0_scoped8 : Memref sig .tc .vmem S1024x1024 .bf16) (wOut c X) -∗ Q ⟨y1 c X k, y2 c X k⟩)
      -∗ wp frame (wpE defs 𝒱 (c : Thread nD τ) bd) Set.univ (part7 (F := F) k h4 h3 h2) Q) := by
  simp only [part7, k0_part7_skel, Prog.lift, Prog.bind_op, Prog.bind_ret, Prog.pure_eq_ret, Prog.bind_assoc]
  unfold y1 y2
  iintro ⟨H0, H1, H2, HC⟩ Hk
  iapply (tri_load (rRet c X) k ?_) $$ H0
  · exact slot_eq (off61 k)
  iintro H0
  iapply wp_load_window $$ HC
  iintro HC
  iapply (tri_load (rNa c X) k ?_) $$ H1
  · exact slot_eq (off62 k)
  iintro H1
  iapply wp_load_window $$ HC
  iintro HC
  iapply (tri_load (rMla c X) k ?_) $$ H2
  · exact slot_eq (off63 k)
  iintro H2
  iapply wp_load_window $$ HC
  iintro HC
  rw [wp_ret]
  imodintro
  iapply Hk $$ H0 H1 H2 HC

theorem wp_part8 (k : T) {h8 h7 h6 h5} (Q) :
    iprop(tri2 (rH c X) k ∗ duo2 (rG1 c X) k ∗ holds c (Memref.whole cc0_scoped15 : Memref sig .tc .vmem S1x1024 .f32) (wNorm c X) ∗ owned c (oHn.D k))
      ⊢ iprop((tri2 (rH c X) k -∗ duo2 (rG1 c X) k -∗ holds c (Memref.whole cc0_scoped15 : Memref sig .tc .vmem S1x1024 .f32) (wNorm c X) -∗ holds c (oHn.D k) (wHn c X k) -∗ Q (y5 c X k))
      -∗ wp frame (wpE defs 𝒱 (c : Thread nD τ) bd) Set.univ (part8 (F := F) k h8 h7 h6 h5 (y1 c X k) (y2 c X k)) Q) := by
  simp only [part8, k0_part8_skel, Prog.lift, Prog.bind_op, Prog.bind_ret, Prog.pure_eq_ret, Prog.bind_assoc]
  unfold y5 wHn
  iintro ⟨H0, H1, HC, HD⟩ Hk
  iapply (tri_load (rH c X) k ?_) $$ H0
  · exact slot_eq (off64 k)
  iintro H0
  iapply (duo_load (rG1 c X) k ?_) $$ H1
  · exact slot_eq (off65 k)
  iintro H1
  iapply (wp_load_any' ?_) $$ HD
  · exact (slot_eq (off66 k) : _ = oHn.D k)
  iintro %_ HD
  iapply (wp_store_full' ?_) $$ HD
  · exact slot_eq (off66 k)
  iintro HD
  iapply wp_load_full $$ HC
  iintro HC
  rw [wp_ret]
  imodintro
  iapply Hk $$ H0 H1 HC HD

theorem wp_part9 (k : T) {h11 h10 h9 h8} (Q) :
    iprop(duo2 (rSc c X) k ∗ duo2 (rSh c X) k ∗ holds c (Memref.whole cc0_scoped16 : Memref sig .tc .vmem S1024x256 .bf16) (wRw c X) ∗ owned c (oU.D k) ∗ owned c (oLg.D k))
      ⊢ iprop((∀ v, duo2 (rSc c X) k -∗ duo2 (rSh c X) k -∗ holds c (Memref.whole cc0_scoped16 : Memref sig .tc .vmem S1024x256 .bf16) (wRw c X) -∗ holds c (oU.D k) (wU c X k) -∗ owned c (oLg.D k) -∗ Q ⟨y9 c X k, v⟩)
      -∗ wp frame (wpE defs 𝒱 (c : Thread nD τ) bd) Set.univ (part9 (F := F) k h11 h10 h9 h8 (y5 c X k)) Q) := by
  simp only [part9, k0_part9_skel, Prog.lift, Prog.bind_op, Prog.bind_ret, Prog.pure_eq_ret, Prog.bind_assoc]
  unfold y9 wU
  iintro ⟨H0, H1, HC, HD, HE⟩ Hk
  iapply (duo_load (rSc c X) k ?_) $$ H0
  · exact slot_eq (off67 k)
  iintro H0
  iapply (duo_load (rSh c X) k ?_) $$ H1
  · exact slot_eq (off68 k)
  iintro H1
  iapply (wp_load_any' ?_) $$ HD
  · exact slot_eq (off69 k)
  iintro %_ HD
  iapply (wp_store_slot (D := oU.D k) (hq := squeezes_S1x1x512x1024_S1x512x1024) (hr := fun _ => rfl) (slot_eq (off69 k))) $$ HD
  iintro HD
  iapply wp_load_full $$ HC
  iintro HC
  iapply (wp_load_any' ?_) $$ HE
  · exact slot_eq (off70 k)
  iintro %v HE
  rw [wp_ret]
  imodintro
  iapply Hk $$ %v H0 H1 HC HD HE

theorem wp_part10 (k : T) {h11} (v) (Q) :
    owned c (oLg.D k) ⊢ iprop((∀ r, ⌜r = bit (k.val % 16 = 15)⌝ -∗ holds c (oLg.D k) (wLg c X k) -∗ Q r)
      -∗ wp frame (wpE defs 𝒱 (c : Thread nD τ) bd) Set.univ (part10 (F := F) k h11 (y9 c X k) v) Q) := by
  simp only [part10, k0_part10_skel, ite_self, Prog.lift, Prog.bind_op, Prog.bind_ret, Prog.pure_eq_ret, Prog.bind_assoc]
  unfold wLg
  iintro HE Hk
  iapply (wp_store_full' ?_) $$ HE
  · exact slot_eq (off70 k)
  iintro HE
  rw [wp_ret]
  imodintro
  iapply Hk $$ [] HE
  ipureintro
  clear * -
  revert k; decide +kernel

end Cert.KernelIdeal.OutProj
-- ==== Proof.Emit.lean ====
/- The second half of a trip: the copies out it asks for and waits for, and the words it carries to the next; and the facts the
   trip opens with. -/
module

public import proofs.«01_k».proof.Proof.Compute

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

set_option pp.deepTerms.threshold 4
set_option pp.deepTerms false
set_option pp.maxSteps 1500

local notation "𝕄" => MT nD τ sig Unit (Elt F) ℕ (UC sig nD τ) ℕ

variable {c : Dev nD} {X : (b : Ref sig .tc) → Buf (Elt F) ((c : Thread nD τ).loc b)}
variable {defs : Defs nD τ sig (Elt F) Λ₀} {𝒱 : Variants} {bd : Option 𝒱.V}

theorem chk2_all (k : T) : k0_chk2 (wK k) := by revert k; decide +kernel
theorem chk3_all (k : T) : k0_chk3 (wK k) := by revert k; decide +kernel
theorem chk4_all (k : T) : k0_chk4 (wK k) := by revert k; decide +kernel
theorem chk5_all (k : T) : k0_chk5 (wK k) := by revert k; decide +kernel
theorem chk6_all (k : T) : k0_chk6 (wD k) := by revert k; decide +kernel
theorem chk7_all (k : T) : k0_chk7 (wK k) := by revert k; decide +kernel
theorem chk8_all (k : T) : k0_chk8 (wD k) := by revert k; decide +kernel
theorem chk9_all (k : T) : k0_chk9 (wD k) := by revert k; decide +kernel
theorem chk10_all (k : T) : k0_chk10 (wK k) := by revert k; decide +kernel
theorem chk11_all (k : T) : k0_chk11 (wK k) := by revert k; decide +kernel
theorem chk1_all (k : T) : k0_chk1 k (wI k) (wK k) (wI k) (wK k) (wI k) (wK k) (wI k) (wK k) (wM k) (wD k) (wM k) (wD k) (wM k) (wD k) (wK k) (wP k) (wK k) (wP k) (wK k) (wP k) (wB k) (wJ k) := by revert k; decide +kernel

/-- A fact that holds. -/
theorem wp_fact {P : Prop} {d : Decidable P} {α : Type} {k : PLift P → Prog (TpuEff nD τ sig (Elt F) Λ₀ .tc) α} {Q : α → sProp 𝕄} (h : P) :
    wp frame (wpE defs 𝒱 (c : Thread nD τ) bd) Set.univ (k ⟨h⟩) Q ⊢ wp frame (wpE defs 𝒱 (c : Thread nD τ) bd) Set.univ (.op (.assume P d) k) Q := wp_assume _ _ _ _ h

/-- The facts hold, and the words computed from the trip's number are these. -/
theorem wp_part1 (k : T) (Q) :
    (iprop(∀ r, ⌜r.2.2.2.2.2.2.2.2.2.2.2 = ⟨wK k, bit (k.val = 0), bit (k.val = 63), wB k, wJ k, wB (k + 63), wJ (k + 63), wJ (k + 1), wB (k + 1), wB (k + 1), wJ (k + 1), wJ (k + 1) + 1⟩⌝ -∗ Q r) : sProp 𝕄)
      ⊢ wp frame (wpE defs 𝒱 (c : Thread nD τ) bd) Set.univ (part1 (F := F) k) Q := by
  simp only [part1, k0_part1_skel, Prog.lift, Prog.bind_op, Prog.bind_ret, Prog.pure_eq_ret, Prog.bind_assoc]
  iintro Hk
  iapply (wp_fact (chk11_all k))
  iapply (wp_fact (chk10_all k))
  iapply (wp_fact (chk9_all k))
  iapply (wp_fact (chk8_all k))
  iapply (wp_fact (chk7_all k))
  iapply (wp_fact (chk6_all k))
  iapply (wp_fact (chk5_all k))
  iapply (wp_fact (chk4_all k))
  iapply (wp_fact (chk3_all k))
  iapply (wp_fact (chk2_all k))
  iapply (wp_fact (chk1_all k))
  rw [wp_ret]
  imodintro
  iapply Hk
  ipureintro
  dsimp only
  clear * -
  revert k; decide +kernel

theorem wp_part11 (k : T) {h1} (Q) :
    iprop(out1 oHn (wHn c X) c k ∗ out1 oU (wU c X) c k ∗ out1 oLg (wLg c X) c k)
      ⊢ iprop((∀ r, ⌜r = ⟨wK (k + 1), wK (k + 1), wK (k + 1), bit (k.val % 16 = 0), 1#1⟩⌝ -∗ out2 oHn (wHn c X) c k -∗ out2 oU (wU c X) c k -∗ out2 oLg (wLg c X) c k -∗ Q r)
      -∗ wp frame (wpE defs 𝒱 (c : Thread nD τ) bd) Set.univ (part11 (F := F) k h1) Q) := by
  have hk : k.val < 64 := trips_eq ▸ k.isLt
  simp only [part11, k0_part11_skel, cond29, cond30, cond31, ite_self, ↓reduceIte, ↓reduceDIte, Prog.lift, Prog.bind_op, Prog.bind_ret, Prog.pure_eq_ret, Prog.bind_assoc]
  iintro ⟨H0, H1, H2⟩ Hk
  iapply (out_issue oHn (wHn c X) k hk ?_ ?_ ?_) $$ H0
  · exact slot_eq (off73 k)
  · exact blk_eq (off72 k)
  · exact cell_eq (off71 k)
  iintro H0
  iapply (out_issue oU (wU c X) k hk ?_ ?_ ?_) $$ H1
  · exact slot_eq (off76 k)
  · exact blk_eq (off75 k)
  · exact cell_eq (off74 k)
  iintro H1
  iapply (out_issue oLg (wLg c X) k hk ?_ ?_ ?_) $$ H2
  · exact slot_eq (off79 k)
  · exact blk_eq (off78 k)
  · exact cell_eq (off77 k)
  iintro H2
  rw [wp_ret]
  imodintro
  iapply Hk $$ [] H0 H1 H2
  ipureintro
  clear * -
  revert k; decide +kernel

theorem wp_part12 (k : T) (Q) :
    (iprop(∀ r, ⌜r = ⟨bit (k.val % 16 = 0 ∧ k.val ≠ 0), BitVec.ofNat 32 (if k.val % 16 = 0 ∧ k.val ≠ 0 then 1 else 0), 0#32⟩⌝ -∗ Q r) : sProp 𝕄) ⊢ wp frame (wpE defs 𝒱 (c : Thread nD τ) bd) Set.univ (part12 (F := F) k) Q := by
  simp only [part12, k0_part12_skel, ite_self, Prog.lift, Prog.bind_op, Prog.bind_ret, Prog.pure_eq_ret, Prog.bind_assoc]
  iintro Hk
  rw [wp_ret]
  imodintro
  iapply Hk
  ipureintro
  revert k; decide +kernel

theorem wp_part13 (k : T) {h1} (Q) :
    iprop(out2 oHn (wHn c X) c k ∗ out2 oU (wU c X) c k ∗ out2 oLg (wLg c X) c k ∗ waited c)
      ⊢ iprop((∀ r, ⌜r = ⟨wP (k + 1), wP (k + 1), wP (k + 1), wK (k + 1), 1#1⟩⌝ -∗ out0 oHn (wHn c X) c (k + 1) -∗ out0 oU (wU c X) c (k + 1) -∗ out0 oLg (wLg c X) c (k + 1) -∗ waited c -∗ Q r)
      -∗ wp frame (wpE defs 𝒱 (c : Thread nD τ) bd) Set.univ (part13 (F := F) k h1) Q) := by
  by_cases h : k.val ≠ 0
  · simp only [part13, k0_part13_skel, cond39, cond40, cond41, bit_eq, h, ne_eq, not_false_eq_true, ite_self, ↓reduceIte, ↓reduceDIte, Prog.lift, Prog.bind_op, Prog.bind_ret, Prog.pure_eq_ret, Prog.bind_assoc]
    iintro ⟨H0, H1, H2, HW⟩ Hk
    iapply (out_wait oHn (wHn c X) k h ?_ ?_) $$ [H0 HW]
    · exact blk_eq (off81 k h)
    · exact cell_eq (off80 k h)
    · isplitl [H0] <;> iassumption
    iintro ⟨H0, HW⟩
    iapply (out_wait oU (wU c X) k h ?_ ?_) $$ [H1 HW]
    · exact blk_eq (off84 k h)
    · exact cell_eq (off83 k h)
    · isplitl [H1] <;> iassumption
    iintro ⟨H1, HW⟩
    iapply (out_wait oLg (wLg c X) k h ?_ ?_) $$ [H2 HW]
    · exact blk_eq (off87 k h)
    · exact cell_eq (off86 k h)
    · isplitl [H2] <;> iassumption
    iintro ⟨H2, HW⟩
    rw [wp_ret]
    imodintro
    iapply Hk $$ [] H0 H1 H2 HW
    ipureintro
    clear * - h
    revert k; decide +kernel
  · have h0 : k.val = 0 := by omega
    simp only [part13, k0_part13_skel, cond39, cond40, cond41, bit_eq, h, ite_self, ↓reduceIte, ↓reduceDIte, Prog.lift, Prog.bind_op, Prog.bind_ret, Prog.pure_eq_ret, Prog.bind_assoc]
    rw [h0]
    iintro ⟨H0, H1, H2, HW⟩ Hk
    ihave H0 := (out_first oHn (wHn c X)) $$ H0
    ihave H1 := (out_first oU (wU c X)) $$ H1
    ihave H2 := (out_first oLg (wLg c X)) $$ H2
    rw [wp_ret]
    imodintro
    iapply Hk $$ [] H0 H1 H2 HW
    ipureintro
    clear * - h0
    revert k; decide +kernel

theorem wp_part14 (k : T) (Q) :
    (iprop(∀ r, ⌜r = ⟨wK (k + 1), wK (k + 1), wK (k + 1), wZ (k + 1), wD (k + 1), wD (k + 1), wD (k + 1), wZ (k + 1), wZ (k + 1), wJ (k + 1), wD (k + 1), bit (k.val = 63)⟩⌝ -∗ Q r) : sProp 𝕄) ⊢ wp frame (wpE defs 𝒱 (c : Thread nD τ) bd) Set.univ (part14 (F := F) k) Q := by
  simp only [part14, k0_part14_skel, ite_self, Prog.lift, Prog.bind_op, Prog.bind_ret, Prog.pure_eq_ret, Prog.bind_assoc]
  iintro Hk
  rw [wp_ret]
  imodintro
  iapply Hk
  ipureintro
  revert k; decide +kernel

end Cert.KernelIdeal.OutProj
-- ==== Proof.Trip.lean ====
/- One trip of the pipeline's loop: from what it is entered with, the next trip's. -/
module

public import proofs.«01_k».proof.Proof.Emit

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

set_option pp.deepTerms.threshold 4
set_option pp.deepTerms false
set_option pp.maxSteps 1500

local notation "𝕄" => MT nD τ sig Unit (Elt F) ℕ (UC sig nD τ) ℕ

variable {c : Dev nD} {X : (b : Ref sig .tc) → Buf (Elt F) ((c : Thread nD τ).loc b)}
variable {defs : Defs nD τ sig (Elt F) Λ₀} {𝒱 : Variants} {bd : Option 𝒱.V}

/-- The words the loop carries into trip `k`. -/
abbrev carry (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wI k, wK k, wI k, wK k, wI k, wK k, wI k, wK k, wZ k, wM k, wD k, wM k, wD k, wM k, wD k, wZ k, wZ k, wK k, wP k, wK k, wP k, wK k, wP k, wB k, wJ k)

/-- The loop's trip, at the operands of the call. -/
abbrev body (F : FTy → Type) [FloatOps F] (v24 v25 v66 v73 v80 v87 v94 v103 v112 : BitVec 32) :=
  k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 v24 v25 v66 v73 v80 v87 v94 v103 v112

/-- What the loop holds at the head of trip `k`. -/
def inv (c : Dev nD) (X : (b : Ref sig .tc) → Buf (Elt F) ((c : Thread nD τ).loc b)) (k : ℕ) : sProp 𝕄 :=
  iprop((tri0 (rRet c X) k ∗ tri0 (rNa c X) k ∗ tri0 (rMla c X) k ∗ tri0 (rH c X) k)
    ∗ (duo0 (rG1 c X) k ∗ duo0 (rSh c X) k ∗ duo0 (rSc c X) k)
    ∗ (out0 oHn (wHn c X) c k ∗ out0 oU (wU c X) c k ∗ out0 oLg (wLg c X) c k)
    ∗ (holds c (Memref.whole cc0_scoped8 : Memref sig .tc .vmem S1024x1024 .bf16) (wOut c X) ∗ holds c (Memref.whole cc0_scoped15 : Memref sig .tc .vmem S1x1024 .f32) (wNorm c X) ∗ holds c (Memref.whole cc0_scoped16 : Memref sig .tc .vmem S1024x256 .bf16) (wRw c X)) ∗ waited c)

theorem out0_split {s : Shape} {e : EltTy} (R : OutRing s e) (w : ℕ → s.Idx → Elt F e) (k : ℕ) :
    out0 R w c k ⊢ (iprop(owned c (R.D k) ∗ (holds c (R.D k) (w k) -∗ out1 R w c k)) : sProp 𝕄) := by
  unfold out0 out1
  iintro ⟨⟨H0, Hv⟩, Hr⟩
  isplitl [H0]; · iexact H0
  iintro H0
  isplitr [Hr]
  · isplitl [H0] <;> iassumption
  iexact Hr

theorem wp_trip (v24 v25 v66 v73 v80 v87 v94 v103 v112 : BitVec 32) (k : T) (Q) :
    inv c X k ⊢ iprop((inv c X (k + 1) -∗ Q (carry (k + 1))) -∗ wp frame (wpE defs 𝒱 (c : Thread nD τ) bd) Set.univ (body F v24 v25 v66 v73 v80 v87 v94 v103 v112 k (carry k)) Q) := by
  have hk : k.val < 64 := trips_eq ▸ k.isLt
  unfold inv body carry
  simp only [k0_t1_body, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  iintro ⟨⟨H0, H1, H2, H3⟩, ⟨H4, H5, H6⟩, ⟨O0, O1, O2⟩, ⟨C0, C1, C2⟩, HW⟩ Hk
  rw [wp_bind]
  iapply (wp_part1 k _)
  iintro %r %hr
  obtain ⟨k11, k10, k9, k8, k7, k6, k5, k4, k3, k2, k1, r⟩ := r
  dsimp only at hr
  subst hr
  dsimp only
  rw [wp_bind]
  iapply (wp_part2 k _) $$ H0
  iintro %r %hr H0
  subst hr
  dsimp only
  rw [wp_bind]
  iapply (wp_part3 k _) $$ [H1 H2 H3]
  · isplitl [H1]; · iexact H1
    isplitl [H2] <;> iassumption
  iintro %r %hr H1 H2 H3
  subst hr
  dsimp only
  rw [wp_bind]
  iapply (wp_part4 k _) $$ [H4 H5 H6]
  · isplitl [H4]; · iexact H4
    isplitl [H5] <;> iassumption
  iintro %r %hr H4 H5 H6
  subst hr
  dsimp only
  rw [wp_bind]
  iapply (wp_part5 k _) $$ [H0 H1 H2 H3 H4 HW]
  · isplitl [H0]; · iexact H0
    isplitl [H1]; · iexact H1
    isplitl [H2]; · iexact H2
    isplitl [H3]; · iexact H3
    isplitl [H4] <;> iassumption
  iintro H0 H1 H2 H3 H4 HW
  rw [wp_bind]
  iapply (wp_part6 k _) $$ [H5 H6 HW]
  · isplitl [H5]; · iexact H5
    isplitl [H6] <;> iassumption
  iintro H5 H6 HW
  rw [wp_bind]
  iapply (wp_part7 k _) $$ [H0 H1 H2 C0]
  · isplitl [H0]; · iexact H0
    isplitl [H1]; · iexact H1
    isplitl [H2] <;> iassumption
  iintro H0 H1 H2 C0
  dsimp only
  ihave O0 := (out0_split oHn (wHn c X) k) $$ O0
  icases O0 with ⟨D0, O0⟩
  ihave O1 := (out0_split oU (wU c X) k) $$ O1
  icases O1 with ⟨D1, O1⟩
  ihave O2 := (out0_split oLg (wLg c X) k) $$ O2
  icases O2 with ⟨D2, O2⟩
  rw [wp_bind]
  iapply (wp_part8 k _) $$ [H3 H4 C1 D0]
  · isplitl [H3]; · iexact H3
    isplitl [H4]; · iexact H4
    isplitl [C1] <;> iassumption
  iintro H3 H4 C1 D0
  ihave O0 := O0 $$ D0
  rw [wp_bind]
  iapply (wp_part9 k _) $$ [H5 H6 C2 D1 D2]
  · isplitl [H6]; · iexact H6
    isplitl [H5]; · iexact H5
    isplitl [C2]; · iexact C2
    isplitl [D1] <;> iassumption
  iintro %v H6 H5 C2 D1 D2
  ihave O1 := O1 $$ D1
  dsimp only
  rw [wp_bind]
  iapply (wp_part10 k v _) $$ D2
  iintro %r %hr D2
  subst hr
  ihave O2 := O2 $$ D2
  rw [wp_bind]
  iapply (wp_part11 k _) $$ [O0 O1 O2]
  · isplitl [O0]; · iexact O0
    isplitl [O1] <;> iassumption
  iintro %r %hr O0 O1 O2
  subst hr
  dsimp only
  rw [wp_bind]
  iapply (wp_part12 k _)
  iintro %r %hr
  subst hr
  dsimp only
  rw [wp_bind]
  iapply (wp_part13 k _) $$ [O0 O1 O2 HW]
  · isplitl [O0]; · iexact O0
    isplitl [O1]; · iexact O1
    isplitl [O2] <;> iassumption
  iintro %r %hr O0 O1 O2 HW
  subst hr
  dsimp only
  rw [wp_bind]
  iapply (wp_part14 k _)
  iintro %r %hr
  subst hr
  dsimp only
  rw [Prog.pure_eq_ret, wp_ret, show Scalar.select (bit (k.val = 63)) 0#32 (wD (k + 1)) = wB (k + 1) by
    clear * -; revert k; decide +kernel]
  imodintro
  iapply Hk
  ihave H0 := (tri_next (rRet c X) k) $$ H0
  ihave H1 := (tri_next (rNa c X) k) $$ H1
  ihave H2 := (tri_next (rMla c X) k) $$ H2
  ihave H3 := (tri_next (rH c X) k) $$ H3
  ihave H4 := (duo_next (rG1 c X) k hk) $$ H4
  ihave H5 := (duo_next (rSh c X) k hk) $$ H5
  ihave H6 := (duo_next (rSc c X) k hk) $$ H6
  isplitl [H0 H1 H2 H3]
  · isplitl [H0]; · iexact H0
    isplitl [H1]; · iexact H1
    isplitl [H2] <;> iassumption
  isplitl [H4 H5 H6]
  · isplitl [H4]; · iexact H4
    isplitl [H5] <;> iassumption
  isplitl [O0 O1 O2]
  · isplitl [O0]; · iexact O0
    isplitl [O1] <;> iassumption
  isplitr [HW]
  · isplitl [C0]; · iexact C0
    isplitl [C1] <;> iassumption
  iexact HW

end Cert.KernelIdeal.OutProj
-- ==== Proof.Whole.lean ====
/- The whole call: what it does before its first trip, the trips, and the last waits. -/
module

public import proofs.«01_k».proof.Proof.Trip

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

set_option pp.deepTerms.threshold 4
set_option pp.deepTerms false
set_option pp.maxSteps 1500

local notation "𝕄" => MT nD τ sig Unit (Elt F) ℕ (UC sig nD τ) ℕ

variable {c : Dev nD} {X : (b : Ref sig .tc) → Buf (Elt F) ((c : Thread nD τ).loc b)}
variable {defs : Defs nD τ sig (Elt F) Λ₀} {𝒱 : Variants} {bd : Option 𝒱.V}

theorem cond1 : k0_cond1 = 1#1 := by decide +kernel
theorem cond2 : k0_cond2 = 1#1 := by decide +kernel
theorem cond3 : k0_cond3 = 1#1 := by decide +kernel
theorem cond4 : k0_cond4 = 1#1 := by decide +kernel
theorem off1 : k0_off1 = vo 3 0 := by decide +kernel
theorem off2 : k0_off2 = so 3 0 := by decide +kernel
theorem off3 : k0_off3 = so 3 0 := by decide +kernel
theorem off4 : k0_off4 = so 3 0 := by decide +kernel
theorem off5 : k0_off5 = vo 2 0 := by decide +kernel
theorem off6 : k0_off6 = so 2 0 := by decide +kernel
theorem off0 : (![0, 0, 0] : Fin 3 → ℕ) = bo 0 := by decide +kernel
theorem off0r : (![0, 0, 0] : Fin 3 → ℕ) = ro 0 := by decide +kernel
theorem off7 : k0_off7 = vo 3 1 := by decide +kernel
theorem off8 : k0_off8 = so 3 1 := by decide +kernel
theorem off9 : k0_off9 = bo 1 := by decide +kernel
theorem off10 : k0_off10 = vo 3 1 := by decide +kernel
theorem off11 : k0_off11 = so 3 1 := by decide +kernel
theorem off12 : k0_off12 = bo 1 := by decide +kernel
theorem off13 : k0_off13 = vo 3 1 := by decide +kernel
theorem off14 : k0_off14 = so 3 1 := by decide +kernel
theorem off15 : k0_off15 = bo 1 := by decide +kernel
theorem off16 : k0_off16 = vo 3 1 := by decide +kernel
theorem off17 : k0_off17 = so 3 1 := by decide +kernel
theorem off18 : k0_off18 = bo 1 := by decide +kernel
theorem off89 : k0_off89 (wP 64) = vo 2 1 := by decide +kernel
theorem off90 : k0_off90 (wJ 64) (wB 64) = bo 63 := by decide +kernel
theorem off92 : k0_off92 (wP 64) = vo 2 1 := by decide +kernel
theorem off93 : k0_off93 (wJ 64) (wB 64) = bo 63 := by decide +kernel
theorem off95 : k0_off95 (wP 64) = vo 2 1 := by decide +kernel
theorem off96 : k0_off96 (wJ 64) (wB 64) = bo 63 := by decide +kernel
theorem pos_out : 0 < S1024x1024.numel := by decide +kernel
theorem pos_norm : 0 < S1x1024.numel := by decide +kernel
theorem pos_rw : 0 < S1024x256.numel := by decide +kernel
theorem chk12_last : k0_chk12 (wP 64) := by decide +kernel
theorem chk13_last : k0_chk13 (wJ 64) (wB 64) := by decide +kernel
theorem chk14_last : k0_chk14 (wP 64) := by decide +kernel
theorem chk15_last : k0_chk15 (wP 64) := by decide +kernel

/-- A three-slot ring at rest. -/
def tri {s : Shape} {e : EltTy} (R : InRing F c 3 s e) : sProp 𝕄 := iprop(R.free 0 ∗ R.free 1 ∗ R.free 2)
/-- A two-slot ring at rest. -/
def duo {s : Shape} {e : EltTy} (R : InRing F c 2 s e) : sProp 𝕄 := iprop(R.free 0 ∗ R.free 1)
/-- A result's two slots at rest. -/
def rest (c : Dev nD) {s : Shape} {e : EltTy} (R : OutRing s e) : sProp 𝕄 :=
  iprop((owned c (R.D 0) ∗ idle c (R.sm 0)) ∗ (owned c (R.D 1) ∗ idle c (R.sm 1)))
/-- An array copied in whole, once: its buffer, the array and the cell, before the copy or after. -/
def once (c : Dev nD) {sp : Space} {s : Shape} {e : EltTy} (D : Memref sig .tc .vmem s e) (A : Memref sig .tc sp s e) (sm : DmaSem sig)
    (f : Buf (Elt F) (A.view.loc (c : Thread nD τ))) : sProp 𝕄 :=
  iprop(owned c D ∗ (A.view.loc (c : Thread nD τ) ↦[A.view.set]{fullShare} f) ∗ idle c sm)

/-- A result's slots and blocks before the first trip. -/
theorem out_start {s : Shape} {e : EltTy} (R : OutRing s e) (w : ℕ → s.Idx → Elt F e) :
    iprop((owned c (R.D 0) ∗ idle c (R.sm 0)) ∗ (owned c (R.D 1) ∗ idle c (R.sm 1)) ∗ todo R c 0) ⊢ out0 R w c 0 := by
  unfold out0
  rw [tail, if_pos rfl, show done R w c (0 - 1) = iprop(emp) from rfl]
  iintro ⟨H0, H1, HT⟩
  isplitl [H0]; · iexact H0
  isplitl [H1]; · iexact H1
  iapply (show (todo R c 0 : sProp 𝕄) ⊢ iprop(todo R c 0 ∗ emp) from Laws.sep_emp.2)
  iexact HT

/-- A ring is at rest again past the last trip. -/
theorem tri_end {s : Shape} {e : EltTy} (R : InRing F c 3 s e) : tri0 R 64 ⊢ tri R := by
  have per : ∀ i, R.free (i + 3 * 21) = R.free i := by
    intro i
    generalize 21 = m
    induction m with
    | zero => rfl
    | succ m ih => rw [show i + 3 * (m + 1) = i + 3 * m + 3 by omega, R.free_per, ih]
  unfold tri0 tri
  rw [role, if_neg (by decide), role, if_neg (by decide), show R.free 64 = R.free 1 from per 1, show R.free (64 + 1) = R.free 2 from per 2,
    show R.free (64 + 2) = R.free 0 from (R.free_per 63).trans (per 0)]
  iintro ⟨H1, H2, H0⟩
  isplitl [H0]; · iexact H0
  isplitl [H1] <;> iassumption
theorem duo_end {s : Shape} {e : EltTy} (R : InRing F c 2 s e) : duo0 R 64 ⊢ duo R := by
  unfold duo0 duo
  rw [cur, if_neg (by decide), show R.free (64 / 16) = R.free 0 from (R.free_per 2).trans (R.free_per 0),
    show R.free (64 / 16 + 1) = R.free 1 from (R.free_per 3).trans (R.free_per 1)]

/-- Part 15 of the call. -/
abbrev part15 (F : FTy → Type) [FloatOps F] : Prog (TpuEff nD τ sig (Elt F) Λ₀ .tc) (Σ' (v24 : BitVec 32) (v25 : BitVec 32) (v29 : BitVec 32) (v33 : BitVec 32) (v36 : BitVec 32), BitVec 1) :=
  k0_part15_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25

/-- Part 16 of the call. -/
abbrev part16 (F : FTy → Type) [FloatOps F] (v29 v33 v36 : BitVec 32) (b : BitVec 1) : Prog (TpuEff nD τ sig (Elt F) Λ₀ .tc) (Σ' (v52 : BitVec 32) (v59 : BitVec 32) (c0_i32_64 : BitVec 32), BitVec 32) :=
  k0_part16_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 v29 v33 v36 b

/-- Part 17 of the call. -/
abbrev part17 (F : FTy → Type) [FloatOps F] : Prog (TpuEff nD τ sig (Elt F) Λ₀ .tc) (Σ' (v66 : BitVec 32) (v73 : BitVec 32), BitVec 32) :=
  k0_part17_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 0#32 3#32

/-- Part 18 of the call. -/
abbrev part18 (F : FTy → Type) [FloatOps F] : Prog (TpuEff nD τ sig (Elt F) Λ₀ .tc) (Σ' (v87 : BitVec 32) (v94 : BitVec 32) (v103 : BitVec 32), BitVec 32) :=
  k0_part18_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 0#32 1#32 1#32 1#32

/-- Part 19 of the call. -/
abbrev part19 (F : FTy → Type) [FloatOps F] : Prog (TpuEff nD τ sig (Elt F) Λ₀ .tc) (Σ' (v132_18 : BitVec 32) (v132_20 : BitVec 32) (v132_22 : BitVec 32) (v132_23 : BitVec 32) (v132_24 : BitVec 32) (k0_hw15 : k0_chk15 v132_22), k0_chk14 v132_20) :=
  k0_part19_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 0#32 1#32 1#32 1#32 1#32 1#32 1#32 2#32 2#32

/-- Part 20 of the call. -/
abbrev part20 (F : FTy → Type) [FloatOps F] : Prog (TpuEff nD τ sig (Elt F) Λ₀ .tc) (Σ' (k0_hw13 : k0_chk13 (wJ 64) (wB 64)) (k0_hw12 : k0_chk12 (wP 64)) (v141 : BitVec 32) (v142 : BitVec 32) (v156 : BitVec 32), BitVec 32) :=
  k0_part20_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 (wP 64) (wB 64) (wJ 64)

/-- Part 21 of the call. -/
abbrev part21 (F : FTy → Type) [FloatOps F] (h13 : k0_chk13 (wJ 64) (wB 64)) (h12 : k0_chk12 (wP 64)) (a b c d : BitVec 32) : Prog (TpuEff nD τ sig (Elt F) Λ₀ .tc) PUnit :=
  k0_part21_skel (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25 (wP 64) (wP 64) (wB 64) (wJ 64) h13 h12 a b c d

theorem wp_part15 (Q) :
    (iprop(∀ r, ⌜r.1 = 0#32 ∧ r.2.1 = 1#32⌝ -∗ Q r) : sProp 𝕄) ⊢ wp frame (wpE defs 𝒱 (c : Thread nD τ) bd) Set.univ (part15 F) Q := by
  simp only [part15, k0_part15_skel, ite_self, Prog.lift, Prog.bind_op, Prog.bind_ret, Prog.pure_eq_ret, Prog.bind_assoc]
  iintro Hk
  rw [wp_ret]
  imodintro
  iapply Hk
  ipureintro
  clear * -
  decide +kernel

/-- What is copied in once is in place. -/
def ready (c : Dev nD) (X : (b : Ref sig .tc) → Buf (Elt F) ((c : Thread nD τ).loc b)) : sProp 𝕄 :=
  iprop((holds c (Memref.whole cc0_scoped8 : Memref sig .tc .vmem S1024x1024 .bf16) (wOut c X) ∗ ((Memref.whole main_v6 : Memref sig .tc .hbm S1024x1024 .bf16).view.loc (c : Thread nD τ) ↦[(Memref.whole main_v6 : Memref sig .tc .hbm S1024x1024 .bf16).view.set]{fullShare} X main_v6) ∗ idle c cc0_scoped23.sem) ∗ (holds c (Memref.whole cc0_scoped15 : Memref sig .tc .vmem S1x1024 .f32) (wNorm c X) ∗ ((Memref.whole main_v10 : Memref sig .tc .hbm S1x1024 .f32).view.loc (c : Thread nD τ) ↦[(Memref.whole main_v10 : Memref sig .tc .hbm S1x1024 .f32).view.set]{fullShare} X main_v10) ∗ idle c cc0_scoped24.sem) ∗ (holds c (Memref.whole cc0_scoped16 : Memref sig .tc .vmem S1024x256 .bf16) (wRw c X) ∗ ((Memref.whole main_v5 : Memref sig .tc .hbm S1024x256 .bf16).view.loc (c : Thread nD τ) ↦[(Memref.whole main_v5 : Memref sig .tc .hbm S1024x256 .bf16).view.set]{fullShare} X main_v5) ∗ idle c cc0_scoped25.sem))

theorem wp_part16 (v29 v33 v36 : BitVec 32) (b : BitVec 1) (Q) :
    iprop((once c (Memref.whole cc0_scoped8 : Memref sig .tc .vmem S1024x1024 .bf16) (Memref.whole main_v6 : Memref sig .tc .hbm S1024x1024 .bf16) cc0_scoped23.sem (X main_v6)) ∗ (once c (Memref.whole cc0_scoped15 : Memref sig .tc .vmem S1x1024 .f32) (Memref.whole main_v10 : Memref sig .tc .hbm S1x1024 .f32) cc0_scoped24.sem (X main_v10)) ∗ (once c (Memref.whole cc0_scoped16 : Memref sig .tc .vmem S1024x256 .bf16) (Memref.whole main_v5 : Memref sig .tc .hbm S1024x256 .bf16) cc0_scoped25.sem (X main_v5)) ∗ (rRet c X).free 0 ∗ (rNa c X).free 0 ∗ waited c)
      ⊢ iprop((∀ r, ⌜r = ⟨1#32, 1#32, 0#32, 3#32⟩⌝ -∗ ready c X -∗ (rRet c X).infl 0 0 -∗ (rNa c X).infl 0 0 -∗ waited c -∗ Q r)
      -∗ wp frame (wpE defs 𝒱 (c : Thread nD τ) bd) Set.univ (part16 F v29 v33 v36 b) Q) := by
  simp only [part16, k0_part16_skel, ite_self, Prog.lift, Prog.bind_op, Prog.bind_ret, Prog.pure_eq_ret, Prog.bind_assoc]
  unfold once ready
  iintro ⟨⟨D0, A0, S0⟩, ⟨D1, A1, S1⟩, ⟨D2, A2, S2⟩, H0, H1, HW⟩ Hk
  iapply (wp_issue (R := iprop(emp)) (w := wOut c X) sep_emp.symm rfl pos_out) $$ [D0 A0 S0]
  · isplitl [D0]; · iexact D0
    isplitl [A0] <;> iassumption
  iintro D0
  iapply (wp_wait rfl) $$ [D0 HW]
  · isplitl [D0] <;> iassumption
  iintro ⟨⟨D0, A0, S0⟩, HW⟩
  iapply (wp_issue (R := iprop(emp)) (w := wNorm c X) sep_emp.symm rfl pos_norm) $$ [D1 A1 S1]
  · isplitl [D1]; · iexact D1
    isplitl [A1] <;> iassumption
  iintro D1
  iapply (wp_wait rfl) $$ [D1 HW]
  · isplitl [D1] <;> iassumption
  iintro ⟨⟨D1, A1, S1⟩, HW⟩
  iapply (wp_issue (R := iprop(emp)) (w := wRw c X) sep_emp.symm rfl pos_rw) $$ [D2 A2 S2]
  · isplitl [D2]; · iexact D2
    isplitl [A2] <;> iassumption
  iintro D2
  iapply (wp_wait rfl) $$ [D2 HW]
  · isplitl [D2] <;> iassumption
  iintro ⟨⟨D2, A2, S2⟩, HW⟩
  iapply ((rRet c X).wp_issue 0 0 ?_ ?_ ?_) $$ H0
  · exact slot_eq off2
  · exact blk_eq off0
  · exact cell_eq off1
  iintro H0
  iapply ((rNa c X).wp_issue 0 0 ?_ ?_ ?_) $$ H1
  · exact slot_eq off3
  · exact blk_eq off0
  · exact cell_eq off1
  iintro H1
  rw [wp_ret]
  imodintro
  iapply Hk $$ [] [D0 A0 S0 D1 A1 S1 D2 A2 S2] H0 H1 HW
  · ipureintro
    clear * -
    rfl
  isplitl [D0 A0 S0]
  · isplitl [D0]; · iexact D0
    isplitl [A0] <;> iassumption
  isplitl [D1 A1 S1]
  · isplitl [D1]; · iexact D1
    isplitl [A1] <;> iassumption
  isplitl [D2]; · iexact D2
  isplitl [A2] <;> iassumption

theorem wp_part17 (Q) :
    iprop((rMla c X).free 0 ∗ (rH c X).free 0 ∗ (rG1 c X).free 0)
      ⊢ iprop((∀ r, ⌜r = ⟨1#32, 1#32, 1#32⟩⌝ -∗ (rMla c X).infl 0 0 -∗ (rH c X).infl 0 0 -∗ (rG1 c X).infl 0 0 -∗ Q r)
      -∗ wp frame (wpE defs 𝒱 (c : Thread nD τ) bd) Set.univ (part17 F) Q) := by
  simp only [part17, k0_part17_skel, ite_self, Prog.lift, Prog.bind_op, Prog.bind_ret, Prog.pure_eq_ret, Prog.bind_assoc]
  iintro ⟨H0, H1, H2⟩ Hk
  iapply ((rMla c X).wp_issue 0 0 ?_ ?_ ?_) $$ H0
  · exact slot_eq off2
  · exact blk_eq off0
  · exact cell_eq off1
  iintro H0
  iapply ((rH c X).wp_issue 0 0 ?_ ?_ ?_) $$ H1
  · exact slot_eq off4
  · exact blk_eq off0
  · exact cell_eq off1
  iintro H1
  iapply ((rG1 c X).wp_issue 0 0 ?_ ?_ ?_) $$ H2
  · exact slot_eq off6
  · exact blk_eq off0r
  · exact cell_eq off5
  iintro H2
  rw [wp_ret]
  imodintro
  iapply Hk $$ [] H0 H1 H2
  ipureintro
  clear * -
  decide +kernel

theorem wp_part18 (Q) :
    iprop((rSh c X).free 0 ∗ (rSc c X).free 0 ∗ (rRet c X).free 1 ∗ (rNa c X).free 1)
      ⊢ iprop((∀ r, ⌜r = ⟨1#32, 1#32, 2#32, 2#32⟩⌝ -∗ (rSh c X).infl 0 0 -∗ (rSc c X).infl 0 0 -∗ (rRet c X).infl 1 1 -∗ (rNa c X).infl 1 1 -∗ Q r)
      -∗ wp frame (wpE defs 𝒱 (c : Thread nD τ) bd) Set.univ (part18 F) Q) := by
  simp only [part18, k0_part18_skel, cond1, cond2, ite_self, ↓reduceIte, ↓reduceDIte, Prog.lift, Prog.bind_op, Prog.bind_ret, Prog.pure_eq_ret, Prog.bind_assoc]
  iintro ⟨H0, H1, H2, H3⟩ Hk
  iapply ((rSh c X).wp_issue 0 0 ?_ ?_ ?_) $$ H0
  · exact slot_eq off6
  · exact blk_eq off0r
  · exact cell_eq off5
  iintro H0
  iapply ((rSc c X).wp_issue 0 0 ?_ ?_ ?_) $$ H1
  · exact slot_eq off6
  · exact blk_eq off0r
  · exact cell_eq off5
  iintro H1
  iapply ((rRet c X).wp_issue 1 1 ?_ ?_ ?_) $$ H2
  · exact slot_eq off8
  · exact blk_eq off9
  · exact cell_eq off7
  iintro H2
  iapply ((rNa c X).wp_issue 1 1 ?_ ?_ ?_) $$ H3
  · exact slot_eq off11
  · exact blk_eq off12
  · exact cell_eq off10
  iintro H3
  rw [wp_ret]
  imodintro
  iapply Hk $$ [] H0 H1 H2 H3
  ipureintro
  clear * -
  decide +kernel

/-- What the loop holds, with the words it carries. -/
def loopInv (c : Dev nD) (X : (b : Ref sig .tc) → Buf (Elt F) ((c : Thread nD τ).loc b)) (k : ℕ) (a : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) : sProp 𝕄 :=
  iprop(⌜a = carry k⌝ ∗ inv c X k)

theorem wp_part19 (Q) :
    iprop((rMla c X).free 1 ∗ (rH c X).free 1 ∗ ((rMla c X).infl 1 1 -∗ (rH c X).infl 1 1 -∗ inv c X 0))
      ⊢ iprop((∀ h h', inv c X 64 -∗ Q ⟨wP 64, wP 64, wP 64, wB 64, wJ 64, h, h'⟩)
      -∗ wp frame (wpE defs 𝒱 (c : Thread nD τ) bd) Set.univ (part19 F) Q) := by
  simp only [part19, k0_part19_skel, cond3, cond4, ite_self, ↓reduceIte, ↓reduceDIte, Prog.lift, Prog.bind_op, Prog.bind_ret, Prog.pure_eq_ret, Prog.bind_assoc]
  iintro ⟨H0, H1, HI⟩ Hk
  iapply ((rMla c X).wp_issue 1 1 ?_ ?_ ?_) $$ H0
  · exact slot_eq off14
  · exact blk_eq off15
  · exact cell_eq off13
  iintro H0
  iapply ((rH c X).wp_issue 1 1 ?_ ?_ ?_) $$ H1
  · exact slot_eq off17
  · exact blk_eq off18
  · exact cell_eq off16
  iintro H1
  ihave HI := HI $$ H0 H1
  unfold Scf.Loop.for
  iapply (Scf.wp_for_bind (I := loopInv c X) (hbody := ?_)) $$ [HI]
  · intro k acc
    unfold loopInv
    iintro ⟨%ha, HI⟩
    subst ha
    iapply (wp_trip _ _ _ _ _ _ _ _ _ k _) $$ HI
    iintro HI
    isplitr [HI]
    · ipureintro; rfl
    iexact HI
  · unfold loopInv
    isplitr [HI]
    · ipureintro
      rfl
    iexact HI
  iintro %acc HI
  unfold loopInv
  icases HI with ⟨%ha, HI⟩
  subst ha
  rw [show Scf.trips k0_t1_loop.lb k0_t1_loop.ub k0_t1_loop.st = 64 from trips_eq]
  iapply (wp_fact chk15_last)
  iapply (wp_fact chk14_last)
  rw [wp_ret]
  imodintro
  iapply Hk $$ HI

theorem wp_part20 (Q) :
    (iprop(∀ r, Q r) : sProp 𝕄) ⊢ wp frame (wpE defs 𝒱 (c : Thread nD τ) bd) Set.univ (part20 F) Q := by
  simp only [part20, k0_part20_skel, ite_self, Prog.lift, Prog.bind_op, Prog.bind_ret, Prog.pure_eq_ret, Prog.bind_assoc]
  iintro Hk
  iapply (wp_fact chk13_last)
  iapply (wp_fact chk12_last)
  rw [wp_ret]
  imodintro
  iapply Hk

theorem wp_part21 {h13 h12 x y z t} (Q) :
    iprop(out0 oHn (wHn c X) c 64 ∗ waited c) ⊢ iprop((((owned c (oHn.D 0) ∗ idle c (oHn.sm 0)) ∗ (owned c (oHn.D 1) ∗ idle c (oHn.sm 1)) ∗ done oHn (wHn c X) c 64) -∗ waited c -∗ Q ⟨⟩) -∗ wp frame (wpE defs 𝒱 (c : Thread nD τ) bd) Set.univ (part21 F h13 h12 x y z t) Q) := by
  simp only [part21, k0_part21_skel, ite_self, Prog.lift, Prog.bind_op, Prog.bind_ret, Prog.pure_eq_ret, Prog.bind_assoc]
  iintro ⟨O0, HW⟩ Hk
  iapply (out_last oHn (wHn c X) ?_ ?_) $$ [O0 HW]
  · exact blk_eq off90
  · exact cell_eq off89
  · isplitl [O0] <;> iassumption
  iintro ⟨O0, HW⟩
  rw [wp_ret]
  imodintro
  iapply Hk $$ O0 HW

/-- What the call holds before and after, but for the results. -/
def around (c : Dev nD) (X : (b : Ref sig .tc) → Buf (Elt F) ((c : Thread nD τ).loc b)) : sProp 𝕄 :=
  iprop((tri (rRet c X) ∗ tri (rNa c X) ∗ tri (rMla c X) ∗ tri (rH c X)) ∗ (duo (rG1 c X) ∗ duo (rSh c X) ∗ duo (rSc c X))
    ∗ ((once c (Memref.whole cc0_scoped8 : Memref sig .tc .vmem S1024x1024 .bf16) (Memref.whole main_v6 : Memref sig .tc .hbm S1024x1024 .bf16) cc0_scoped23.sem (X main_v6))
      ∗ (once c (Memref.whole cc0_scoped15 : Memref sig .tc .vmem S1x1024 .f32) (Memref.whole main_v10 : Memref sig .tc .hbm S1x1024 .f32) cc0_scoped24.sem (X main_v10))
      ∗ (once c (Memref.whole cc0_scoped16 : Memref sig .tc .vmem S1024x256 .bf16) (Memref.whole main_v5 : Memref sig .tc .hbm S1024x256 .bf16) cc0_scoped25.sem (X main_v5)))
    ∗ (rest c oHn ∗ rest c oU ∗ rest c oLg) ∗ waited c)

/-- The whole call: its results' blocks, owned before, hold what the trips computed. -/
theorem wp_call (Q) :
    iprop(around c X ∗ todo oHn c 0 ∗ todo oU c 0 ∗ todo oLg c 0)
      ⊢ iprop(((around c X ∗ done oHn (wHn c X) c 64 ∗ done oU (wU c X) c 64 ∗ done oLg (wLg c X) c 64) -∗ Q ⟨⟩)
      -∗ wp frame (wpE defs 𝒱 (c : Thread nD τ) bd) Set.univ (cc0_out_projection_skel (F := F) (Memref.whole main_arg0) (Memref.isWhole_whole _) (Memref.whole main_arg1) (Memref.isWhole_whole _) (Memref.whole main_arg2) (Memref.isWhole_whole _) (Memref.whole main_arg3) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v5) (Memref.isWhole_whole _) (Memref.whole main_v11_0) (Memref.isWhole_whole _) (Memref.whole main_v11_1) (Memref.isWhole_whole _) (Memref.whole main_v11_2) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) (Memref.whole cc0_scoped9) (Memref.isWhole_whole _) cc0_scoped10 (Memref.whole cc0_scoped11) (Memref.isWhole_whole _) cc0_scoped12 (Memref.whole cc0_scoped13) (Memref.isWhole_whole _) cc0_scoped14 (Memref.whole cc0_scoped15) (Memref.isWhole_whole _) (Memref.whole cc0_scoped16) (Memref.isWhole_whole _) (Memref.whole cc0_scoped17) (Memref.isWhole_whole _) cc0_scoped18 (Memref.whole cc0_scoped19) (Memref.isWhole_whole _) cc0_scoped20 (Memref.whole cc0_scoped21) (Memref.isWhole_whole _) cc0_scoped22 cc0_scoped23 cc0_scoped24 cc0_scoped25) Q) := by
  simp only [cc0_out_projection_skel, k0_part15_eq_skeleton, k0_part16_eq_skeleton, k0_part17_eq_skeleton, k0_part18_eq_skeleton, k0_part19_eq_skeleton, k0_part20_eq_skeleton, k0_part21_eq_skeleton]
  unfold around tri duo rest
  iintro ⟨⟨⟨⟨H0, H0', H0x⟩, ⟨H1, H1', H1x⟩, ⟨H2, H2', H2x⟩, ⟨H3, H3', H3x⟩⟩, ⟨⟨H4, H4x⟩, ⟨H5, H5x⟩, ⟨H6, H6x⟩⟩, ⟨C0, C1, C2⟩, ⟨⟨O0, O0'⟩, ⟨O1, O1'⟩, ⟨O2, O2'⟩⟩, HW⟩, T0, T1, T2⟩ Hk
  rw [wp_bind]
  iapply (wp_part15 _)
  iintro %r %hr
  obtain ⟨r1, r2, r3, r4, r5, r6⟩ := r
  obtain ⟨hr1, hr2⟩ := hr
  dsimp only at hr1 hr2
  subst hr1; subst hr2
  dsimp only
  rw [wp_bind]
  iapply (wp_part16 _ _ _ _ _) $$ [C0 C1 C2 H0 H1 HW]
  · isplitl [C0]; · iexact C0
    isplitl [C1]; · iexact C1
    isplitl [C2]; · iexact C2
    isplitl [H0]; · iexact H0
    isplitl [H1] <;> iassumption
  iintro %r %hr HR H0 H1 HW
  subst hr
  dsimp only
  rw [wp_bind]
  iapply (wp_part17 _) $$ [H2 H3 H4]
  · isplitl [H2]; · iexact H2
    isplitl [H3] <;> iassumption
  iintro %r %hr H2 H3 H4
  subst hr
  dsimp only
  rw [wp_bind]
  iapply (wp_part18 _) $$ [H5 H6 H0' H1']
  · isplitl [H5]; · iexact H5
    isplitl [H6]; · iexact H6
    isplitl [H0'] <;> iassumption
  iintro %r %hr H5 H6 H0' H1'
  subst hr
  dsimp only
  unfold ready
  icases HR with ⟨⟨C0, P0⟩, ⟨C1, P1⟩, ⟨C2, P2⟩⟩
  rw [wp_bind]
  iapply (wp_part19 _) $$ [H2' H3' H0 H0' H0x H1 H1' H1x H2 H2x H3 H3x H4 H4x H5 H5x H6 H6x O0 O0' O1 O1' O2 O2' T0 T1 T2 C0 C1 C2 HW]
  · isplitl [H2']; · iexact H2'
    isplitl [H3']; · iexact H3'
    iintro H2' H3'
    unfold inv tri0 duo0 role cur
    simp only [↓reduceIte, Nat.reduceLT, Nat.zero_add, Nat.zero_div, Nat.zero_mod]
    isplitl [H0 H0' H0x H1 H1' H1x H2 H2' H2x H3 H3' H3x]
    · isplitl [H0 H0' H0x]
      · isplitl [H0]; · iexact H0
        isplitl [H0'] <;> iassumption
      isplitl [H1 H1' H1x]
      · isplitl [H1]; · iexact H1
        isplitl [H1'] <;> iassumption
      isplitl [H2 H2' H2x]
      · isplitl [H2]; · iexact H2
        isplitl [H2'] <;> iassumption
      isplitl [H3]; · iexact H3
      isplitl [H3'] <;> iassumption
    isplitl [H4 H4x H5 H5x H6 H6x]
    · isplitl [H4 H4x]
      · isplitl [H4] <;> iassumption
      isplitl [H5 H5x]
      · isplitl [H5] <;> iassumption
      isplitl [H6] <;> iassumption
    isplitl [O0 O0' O1 O1' O2 O2' T0 T1 T2]
    · isplitl [O0 O0' T0]
      · iapply (out_start oHn (wHn c X))
        isplitl [O0]; · iexact O0
        isplitl [O0'] <;> iassumption
      isplitl [O1 O1' T1]
      · iapply (out_start oU (wU c X))
        isplitl [O1]; · iexact O1
        isplitl [O1'] <;> iassumption
      iapply (out_start oLg (wLg c X))
      isplitl [O2]; · iexact O2
      isplitl [O2'] <;> iassumption
    isplitr [HW]
    · isplitl [C0]; · iexact C0
      isplitl [C1] <;> iassumption
    iexact HW
  iintro %h %h' HI
  dsimp only
  rw [wp_bind]
  iapply (wp_part20 _)
  iintro %r
  obtain ⟨r1, r2, r3, r4, r5, r6⟩ := r
  dsimp only
  unfold inv
  icases HI with ⟨⟨H0, H1, H2, H3⟩, ⟨H4, H5, H6⟩, ⟨O0, O1, O2⟩, ⟨C0, C1, C2⟩, HW⟩
  rw [wp_bind]
  iapply (wp_part21 _) $$ [O0 HW]
  · isplitl [O0] <;> iassumption
  iintro O0 HW
  simp only [Prog.lift, Prog.bind_op, Prog.bind_ret, Prog.pure_eq_ret, Prog.bind_assoc]
  iapply (out_last oU (wU c X) ?_ ?_) $$ [O1 HW]
  · exact blk_eq off93
  · exact cell_eq off92
  · isplitl [O1] <;> iassumption
  iintro ⟨O1, HW⟩
  iapply (out_last oLg (wLg c X) ?_ ?_) $$ [O2 HW]
  · exact blk_eq off96
  · exact cell_eq off95
  · isplitl [O2] <;> iassumption
  iintro ⟨O2, HW⟩
  rw [wp_ret]
  imodintro
  iapply Hk
  icases O0 with ⟨O0, O0', T0⟩
  icases O1 with ⟨O1, O1', T1⟩
  icases O2 with ⟨O2, O2', T2⟩
  ihave H0 := (tri_end (rRet c X)) $$ H0
  ihave H1 := (tri_end (rNa c X)) $$ H1
  ihave H2 := (tri_end (rMla c X)) $$ H2
  ihave H3 := (tri_end (rH c X)) $$ H3
  ihave H4 := (duo_end (rG1 c X)) $$ H4
  ihave H5 := (duo_end (rSh c X)) $$ H5
  ihave H6 := (duo_end (rSc c X)) $$ H6
  ihave C0 := (holds_owned (Memref.whole cc0_scoped8 : Memref sig .tc .vmem S1024x1024 .bf16) (wOut c X)) $$ C0
  ihave C1 := (holds_owned (Memref.whole cc0_scoped15 : Memref sig .tc .vmem S1x1024 .f32) (wNorm c X)) $$ C1
  ihave C2 := (holds_owned (Memref.whole cc0_scoped16 : Memref sig .tc .vmem S1024x256 .bf16) (wRw c X)) $$ C2
  unfold tri duo once
  isplitr [T0 T1 T2]
  · isplitl [H0 H1 H2 H3]
    · isplitl [H0]; · iexact H0
      isplitl [H1]; · iexact H1
      isplitl [H2] <;> iassumption
    isplitl [H4 H5 H6]
    · isplitl [H4]; · iexact H4
      isplitl [H5] <;> iassumption
    isplitl [C0 C1 C2 P0 P1 P2]
    · isplitl [C0 P0]
      · isplitl [C0] <;> iassumption
      isplitl [C1 P1]
      · isplitl [C1] <;> iassumption
      isplitl [C2] <;> iassumption
    isplitr [HW]
    · isplitl [O0 O0']
      · isplitl [O0] <;> iassumption
      isplitl [O1 O1']
      · isplitl [O1] <;> iassumption
      isplitl [O2] <;> iassumption
    iexact HW
  isplitl [T0]; · iexact T0
  isplitl [T1] <;> iassumption

end Cert.KernelIdeal.OutProj
-- ==== Proof.Deal.lean ====
/- What the call is entered with, dealt out to the rings, and gathered again after it. -/
module

public import proofs.«01_k».proof.Proof.Slots
public import proofs.«01_k».proof.Proof.Whole

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable {c : Dev nD}

/-! ## One ring -/

/-- A buffer, whole, at some contents. -/
abbrev some' (c : Dev nD) (b : Ref sig .tc) : sProp 𝕄 := iprop(∃ f : Buf (Elt F) ((c : Thread nD τ).loc b), ((c : Thread nD τ).loc b) ↦{fullShare} f)

section One

variable {N : ℕ} {e : EltTy}

/-- A streamed array's ring at rest is its buffer, its array and its cells. -/
theorem tri_deal (M : Memref sig .tc .vmem ⟨4, ![3, 1, 512, N]⟩ e) (hM : M.view.set = Finset.univ) (A : Memref sig .tc .hbm ⟨3, ![4, 8192, N]⟩ e)
    (hA : A.view.set = Finset.univ) (v : DmaSems sig ⟨1, ![3]⟩) (hq pos) (X : Buf (Elt F) (A.view.loc (c : Thread nD τ))) (n0 n1 n2 : DmaSem sig)
    (h0 : (mkTri M A v hq pos X).sm 0 = n0) (h1 : (mkTri M A v hq pos X).sm 1 = n1) (h2 : (mkTri M A v hq pos X).sm 2 = n2) :
    iprop((∃ f, M.view.loc (c : Thread nD τ) ↦{fullShare} f) ∗ (A.view.loc (c : Thread nD τ) ↦{fullShare} X) ∗ idle c n0 ∗ idle c n1 ∗ idle c n2)
      ⊣⊢ (tri (mkTri M A v hq pos X) : sProp 𝕄) := by
  subst h0 h1 h2
  have hs := slots_three (F := F) (c := c) M hM hq
  have ht := Ring.pointsTo_thirds (Ix := Unit) (Name := ℕ) (U := UC sig nD τ) (Lvl := ℕ) (q := fullShare) (I := A.view.set) (f := X)
  have hS : ∀ k, (mkTri (c := c) M A v hq pos X).S k = (iprop(A.view.loc (c : Thread nD τ) ↦[A.view.set]{third k} X) : sProp 𝕄) := fun _ => rfl
  have hD : ∀ k, (mkTri (c := c) M A v hq pos X).D k = slotOf (by decide) M hq k := fun _ => rfl
  unfold tri InRing.free
  rw [hS, hS, hS, hD, hD, hD]
  rw [hA] at ht ⊢
  constructor
  · iintro ⟨HM, HA, V0, V1, V2⟩
    ihave HM := hs.1 $$ HM
    icases HM with ⟨M0, M1, M2⟩
    ihave HA := ht.1 $$ HA
    icases HA with ⟨A0, A1, A2⟩
    isplitl [M0 A0 V0]
    · isplitl [M0]; · iexact M0
      isplitl [A0]; · iexact A0
      iexact V0
    isplitl [M1 A1 V1]
    · isplitl [M1]; · iexact M1
      isplitl [A1]; · iexact A1
      iexact V1
    isplitl [M2]; · iexact M2
    isplitl [A2]; · iexact A2
    iexact V2
  · iintro ⟨⟨M0, A0, V0⟩, ⟨M1, A1, V1⟩, ⟨M2, A2, V2⟩⟩
    isplitl [M0 M1 M2]
    · iapply hs.2
      isplitl [M0]; · iexact M0
      isplitl [M1] <;> iassumption
    isplitl [A0 A1 A2]
    · iapply ht.2
      isplitl [A0]; · iexact A0
      isplitl [A1]; · iexact A1
      iexact A2
    isplitl [V0]; · iexact V0
    isplitl [V1] <;> iassumption

/-- A modulation row's. -/
theorem duo_deal (M : Memref sig .tc .vmem ⟨4, ![2, 1, 1, N]⟩ e) (hM : M.view.set = Finset.univ) (A : Memref sig .tc .hbm ⟨3, ![4, 1, N]⟩ e)
    (hA : A.view.set = Finset.univ) (v : DmaSems sig ⟨1, ![2]⟩) (hq pos) (X : Buf (Elt F) (A.view.loc (c : Thread nD τ))) (n0 n1 : DmaSem sig)
    (h0 : (mkDuo M A v hq pos X).sm 0 = n0) (h1 : (mkDuo M A v hq pos X).sm 1 = n1) :
    iprop((∃ f, M.view.loc (c : Thread nD τ) ↦{fullShare} f) ∗ (A.view.loc (c : Thread nD τ) ↦{fullShare} X) ∗ idle c n0 ∗ idle c n1)
      ⊣⊢ (duo (mkDuo M A v hq pos X) : sProp 𝕄) := by
  subst h0 h1
  have hs := slots_two (F := F) (c := c) M hM hq
  have ht := pointsTo_share (Ix := Unit) (Name := ℕ) (U := UC sig nD τ) (Lvl := ℕ) (I := A.view.set) (f := X) (PosShare.mem_left_op_right fullShare)
  have hS : ∀ k, (mkDuo (c := c) M A v hq pos X).S k = (iprop(A.view.loc (c : Thread nD τ) ↦[A.view.set]{half k} X) : sProp 𝕄) := fun _ => rfl
  have hD : ∀ k, (mkDuo (c := c) M A v hq pos X).D k = slotOf (by decide) M hq k := fun _ => rfl
  unfold duo InRing.free
  rw [hS, hS, hD, hD, show half 0 = (fullShare : PosShare TreeShare).left from rfl, show half 1 = (fullShare : PosShare TreeShare).right from rfl]
  rw [hA] at ht ⊢
  constructor
  · iintro ⟨HM, HA, V0, V1⟩
    ihave HM := hs.1 $$ HM
    icases HM with ⟨M0, M1⟩
    ihave HA := ht.1 $$ HA
    icases HA with ⟨A0, A1⟩
    isplitl [M0 A0 V0]
    · isplitl [M0]; · iexact M0
      isplitl [A0]; · iexact A0
      iexact V0
    isplitl [M1]; · iexact M1
    isplitl [A1]; · iexact A1
    iexact V1
  · iintro ⟨⟨M0, A0, V0⟩, ⟨M1, A1, V1⟩⟩
    isplitl [M0 M1]
    · iapply hs.2
      isplitl [M0] <;> iassumption
    isplitl [A0 A1]
    · iapply ht.2
      isplitl [A0]; · iexact A0
      iexact A1
    isplitl [V0] <;> iassumption

/-- A result's slots at rest. -/
theorem rest_deal (M : Memref sig .tc .vmem ⟨4, ![2, 1, 512, N]⟩ e) (hM : M.view.set = Finset.univ) (A : Memref sig .tc .hbm ⟨3, ![4, 8192, N]⟩ e)
    (v : DmaSems sig ⟨1, ![2]⟩) (hq pos) (n0 n1 : DmaSem sig) (h0 : (mkRes M A v hq pos).sm 0 = n0) (h1 : (mkRes M A v hq pos).sm 1 = n1) :
    iprop((∃ f, M.view.loc (c : Thread nD τ) ↦{fullShare} f) ∗ idle c n0 ∗ idle c n1) ⊣⊢ (rest c (mkRes M A v hq pos) : sProp 𝕄) := by
  subst h0 h1
  have hs := slots_two (F := F) (c := c) M hM hq
  have hD : ∀ k, (mkRes M A v hq pos).D k = slotOf (by decide) M hq k := fun _ => rfl
  unfold rest
  rw [hD, hD]
  constructor
  · iintro ⟨HM, V0, V1⟩
    ihave HM := hs.1 $$ HM
    icases HM with ⟨M0, M1⟩
    isplitl [M0 V0]
    · isplitl [M0] <;> iassumption
    isplitl [M1] <;> iassumption
  · iintro ⟨⟨M0, V0⟩, ⟨M1, V1⟩⟩
    isplitl [M0 M1]
    · iapply hs.2
      isplitl [M0] <;> iassumption
    isplitl [V0] <;> iassumption

end One

/-! ## The cells, the buffers and the arrays -/

/-- The call's cells. -/
abbrev osem : Fin 27 → SemLoc sig := fun i => .dma i

theorem ownSemFacts : Pipeline.OwnSemFacts cfg0.spec osem := by decide

/-- The arrays the call reads and writes. -/
abbrev arrays : Finset (Ref sig .tc) :=
  {main_arg0, main_arg1, main_arg2, main_arg3, main_v7, main_v8, main_v9, main_v6, main_v10, main_v5, main_v11_0, main_v11_1, main_v11_2}

theorem routed_eq (c : Dev nD) (W : (b : Ref sig .tc) → Buf (Elt F) ((c : Thread nD τ).loc b)) :
    (Pipeline.routed (Val := Elt F) arrays c W : sProp 𝕄)
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_v7) ↦{fullShare} W main_v7) ∗ (((c : Thread nD τ).loc main_v8) ↦{fullShare} W main_v8)
        ∗ (((c : Thread nD τ).loc main_v9) ↦{fullShare} W main_v9) ∗ (((c : Thread nD τ).loc main_v6) ↦{fullShare} W main_v6)
        ∗ (((c : Thread nD τ).loc main_v10) ↦{fullShare} W main_v10) ∗ (((c : Thread nD τ).loc main_v5) ↦{fullShare} W main_v5)
        ∗ (((c : Thread nD τ).loc main_v11_0) ↦{fullShare} W main_v11_0) ∗ (((c : Thread nD τ).loc main_v11_1) ↦{fullShare} W main_v11_1)
        ∗ (((c : Thread nD τ).loc main_v11_2) ↦{fullShare} W main_v11_2)) := by
  unfold Pipeline.routed arrays
  iterate 12 rw [bigSep_insert (by decide)]
  rw [BI.bigSep_singleton]; rfl

theorem cells_eq (c : Dev nD) :
    (Pipeline.ownSems0 (Ix := Unit) (Name := ℕ) (U := UC sig nD τ) (Lvl := ℕ) (Val := Elt F) (τ := τ) osem c : sProp 𝕄)
      = iprop(idle c 0 ∗ idle c 1 ∗ idle c 2 ∗ idle c 3 ∗ idle c 4 ∗ idle c 5 ∗ idle c 6 ∗ idle c 7 ∗ idle c 8 ∗ idle c 9 ∗ idle c 10 ∗ idle c 11
        ∗ idle c 12 ∗ idle c 13 ∗ idle c 14 ∗ idle c 15 ∗ idle c 16 ∗ idle c 17 ∗ idle c 18 ∗ idle c 19 ∗ idle c 20 ∗ idle c 21 ∗ idle c 22 ∗ idle c 23
        ∗ idle c 24 ∗ idle c 25 ∗ idle c 26) :=
  Pipeline.ownSems0_eq_of_list c osem [0, 1, 2, 3, 4, 5, 6, 7, 8, 9, 10, 11, 12, 13, 14, 15, 16, 17, 18, 19, 20, 21, 22, 23, 24, 25, 26] (by decide) (by decide)

end Cert.KernelIdeal.OutProj
-- ==== Proof.Run.lean ====
/- The run of the program: the call entered with its buffers and cells, its body's obligation, and what every final state holds. -/
module

public import proofs.«01_k».proof.Proof.Deal
public import proofs.«01_k».proof.Proof.Gen.KernelIdeal.Frame

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

open Idealize.ShloMosaic.Pipeline (Dat BodyObligation BodyObligationLoose Ends RoutedPost routed)

variable (m : (ℓ : Loc nD τ sig) → Buf (Elt F) ℓ) (ρ : Dev nD → PrngReg)

section Rings

variable (c : Dev nD) (X : (b : Ref sig .tc) → Buf (Elt F) ((c : Thread nD τ).loc b))

theorem deal_rRet : iprop(some' c cc0_scoped0 ∗ (((c : Thread nD τ).loc main_arg0) ↦{fullShare} X main_arg0) ∗ idle c 0 ∗ idle c 1 ∗ idle c 2) ⊣⊢ (tri (rRet c X) : sProp 𝕄) :=
  tri_deal (Memref.whole cc0_scoped0) (View.set_whole ..) (Memref.whole main_arg0) (View.set_whole ..) _ _ _ _ 0 1 2 rfl rfl rfl
theorem deal_rNa : iprop(some' c cc0_scoped2 ∗ (((c : Thread nD τ).loc main_arg1) ↦{fullShare} X main_arg1) ∗ idle c 3 ∗ idle c 4 ∗ idle c 5) ⊣⊢ (tri (rNa c X) : sProp 𝕄) :=
  tri_deal (Memref.whole cc0_scoped2) (View.set_whole ..) (Memref.whole main_arg1) (View.set_whole ..) _ _ _ _ 3 4 5 rfl rfl rfl
theorem deal_rMla : iprop(some' c cc0_scoped4 ∗ (((c : Thread nD τ).loc main_arg2) ↦{fullShare} X main_arg2) ∗ idle c 6 ∗ idle c 7 ∗ idle c 8) ⊣⊢ (tri (rMla c X) : sProp 𝕄) :=
  tri_deal (Memref.whole cc0_scoped4) (View.set_whole ..) (Memref.whole main_arg2) (View.set_whole ..) _ _ _ _ 6 7 8 rfl rfl rfl
theorem deal_rH : iprop(some' c cc0_scoped6 ∗ (((c : Thread nD τ).loc main_arg3) ↦{fullShare} X main_arg3) ∗ idle c 9 ∗ idle c 10 ∗ idle c 11) ⊣⊢ (tri (rH c X) : sProp 𝕄) :=
  tri_deal (Memref.whole cc0_scoped6) (View.set_whole ..) (Memref.whole main_arg3) (View.set_whole ..) _ _ _ _ 9 10 11 rfl rfl rfl
theorem deal_rG1 : iprop(some' c cc0_scoped9 ∗ (((c : Thread nD τ).loc main_v7) ↦{fullShare} X main_v7) ∗ idle c 12 ∗ idle c 13) ⊣⊢ (duo (rG1 c X) : sProp 𝕄) :=
  duo_deal (Memref.whole cc0_scoped9) (View.set_whole ..) (Memref.whole main_v7) (View.set_whole ..) _ _ _ _ 12 13 rfl rfl
theorem deal_rSh : iprop(some' c cc0_scoped11 ∗ (((c : Thread nD τ).loc main_v8) ↦{fullShare} X main_v8) ∗ idle c 14 ∗ idle c 15) ⊣⊢ (duo (rSh c X) : sProp 𝕄) :=
  duo_deal (Memref.whole cc0_scoped11) (View.set_whole ..) (Memref.whole main_v8) (View.set_whole ..) _ _ _ _ 14 15 rfl rfl
theorem deal_rSc : iprop(some' c cc0_scoped13 ∗ (((c : Thread nD τ).loc main_v9) ↦{fullShare} X main_v9) ∗ idle c 16 ∗ idle c 17) ⊣⊢ (duo (rSc c X) : sProp 𝕄) :=
  duo_deal (Memref.whole cc0_scoped13) (View.set_whole ..) (Memref.whole main_v9) (View.set_whole ..) _ _ _ _ 16 17 rfl rfl
theorem deal_oHn : iprop(some' c cc0_scoped17 ∗ idle c 18 ∗ idle c 19) ⊣⊢ (rest c oHn : sProp 𝕄) :=
  rest_deal (Memref.whole cc0_scoped17) (View.set_whole ..) (Memref.whole main_v11_0) _ _ _ 18 19 rfl rfl
theorem todo_oHn (f : Buf (Elt F) ((c : Thread nD τ).loc main_v11_0)) : (((c : Thread nD τ).loc main_v11_0) ↦{fullShare} f : sProp 𝕄) ⊢ todo oHn c 0 :=
  todo_of (N := 1024) (e := .f32) (Memref.whole main_v11_0) oHn (fun _ => rfl) (View.set_whole ..) f
theorem done_oHn [∀ e, Nonempty (Elt F e)] : done oHn (wHn c X) c 64 ⊢ (((c : Thread nD τ).loc main_v11_0) ↦{fullShare} (assemble (N := 1024) (wHn c X) : Buf (Elt F) ((c : Thread nD τ).loc main_v11_0)) : sProp 𝕄) := by
  refine (done_to (N := 1024) (e := .f32) (c := c) (Memref.whole main_v11_0) oHn (fun _ => rfl) (View.set_whole ..) (wHn c X)).trans ?_
  iintro ⟨%f, %hf, H⟩
  rw [← hf]
  iexact H
theorem deal_oU : iprop(some' c cc0_scoped19 ∗ idle c 20 ∗ idle c 21) ⊣⊢ (rest c oU : sProp 𝕄) :=
  rest_deal (Memref.whole cc0_scoped19) (View.set_whole ..) (Memref.whole main_v11_1) _ _ _ 20 21 rfl rfl
theorem todo_oU (f : Buf (Elt F) ((c : Thread nD τ).loc main_v11_1)) : (((c : Thread nD τ).loc main_v11_1) ↦{fullShare} f : sProp 𝕄) ⊢ todo oU c 0 :=
  todo_of (N := 1024) (e := .bf16) (Memref.whole main_v11_1) oU (fun _ => rfl) (View.set_whole ..) f
theorem done_oU [∀ e, Nonempty (Elt F e)] : done oU (wU c X) c 64 ⊢ (((c : Thread nD τ).loc main_v11_1) ↦{fullShare} (assemble (N := 1024) (wU c X) : Buf (Elt F) ((c : Thread nD τ).loc main_v11_1)) : sProp 𝕄) := by
  refine (done_to (N := 1024) (e := .bf16) (c := c) (Memref.whole main_v11_1) oU (fun _ => rfl) (View.set_whole ..) (wU c X)).trans ?_
  iintro ⟨%f, %hf, H⟩
  rw [← hf]
  iexact H
theorem deal_oLg : iprop(some' c cc0_scoped21 ∗ idle c 22 ∗ idle c 23) ⊣⊢ (rest c oLg : sProp 𝕄) :=
  rest_deal (Memref.whole cc0_scoped21) (View.set_whole ..) (Memref.whole main_v11_2) _ _ _ 22 23 rfl rfl
theorem todo_oLg (f : Buf (Elt F) ((c : Thread nD τ).loc main_v11_2)) : (((c : Thread nD τ).loc main_v11_2) ↦{fullShare} f : sProp 𝕄) ⊢ todo oLg c 0 :=
  todo_of (N := 128) (e := .f32) (Memref.whole main_v11_2) oLg (fun _ => rfl) (View.set_whole ..) f
theorem done_oLg [∀ e, Nonempty (Elt F e)] : done oLg (wLg c X) c 64 ⊢ (((c : Thread nD τ).loc main_v11_2) ↦{fullShare} (assemble (N := 128) (wLg c X) : Buf (Elt F) ((c : Thread nD τ).loc main_v11_2)) : sProp 𝕄) := by
  refine (done_to (N := 128) (e := .f32) (c := c) (Memref.whole main_v11_2) oLg (fun _ => rfl) (View.set_whole ..) (wLg c X)).trans ?_
  iintro ⟨%f, %hf, H⟩
  rw [← hf]
  iexact H
theorem deal_main_v6 : iprop(some' c cc0_scoped8 ∗ (((c : Thread nD τ).loc main_v6) ↦{fullShare} X main_v6) ∗ idle c 24)
    ⊣⊢ (once c (Memref.whole cc0_scoped8 : Memref sig .tc .vmem S1024x1024 .bf16) (Memref.whole main_v6 : Memref sig .tc .hbm S1024x1024 .bf16) cc0_scoped23.sem (X main_v6) : sProp 𝕄) := by
  unfold once owned
  rw [show (Memref.whole cc0_scoped8 : Memref sig .tc .vmem S1024x1024 .bf16).view.set = Finset.univ from View.set_whole ..,
    show (Memref.whole main_v6 : Memref sig .tc .hbm S1024x1024 .bf16).view.set = Finset.univ from View.set_whole ..]
  exact .rfl
theorem deal_main_v10 : iprop(some' c cc0_scoped15 ∗ (((c : Thread nD τ).loc main_v10) ↦{fullShare} X main_v10) ∗ idle c 25)
    ⊣⊢ (once c (Memref.whole cc0_scoped15 : Memref sig .tc .vmem S1x1024 .f32) (Memref.whole main_v10 : Memref sig .tc .hbm S1x1024 .f32) cc0_scoped24.sem (X main_v10) : sProp 𝕄) := by
  unfold once owned
  rw [show (Memref.whole cc0_scoped15 : Memref sig .tc .vmem S1x1024 .f32).view.set = Finset.univ from View.set_whole ..,
    show (Memref.whole main_v10 : Memref sig .tc .hbm S1x1024 .f32).view.set = Finset.univ from View.set_whole ..]
  exact .rfl
theorem deal_main_v5 : iprop(some' c cc0_scoped16 ∗ (((c : Thread nD τ).loc main_v5) ↦{fullShare} X main_v5) ∗ idle c 26)
    ⊣⊢ (once c (Memref.whole cc0_scoped16 : Memref sig .tc .vmem S1024x256 .bf16) (Memref.whole main_v5 : Memref sig .tc .hbm S1024x256 .bf16) cc0_scoped25.sem (X main_v5) : sProp 𝕄) := by
  unfold once owned
  rw [show (Memref.whole cc0_scoped16 : Memref sig .tc .vmem S1024x256 .bf16).view.set = Finset.univ from View.set_whole ..,
    show (Memref.whole main_v5 : Memref sig .tc .hbm S1024x256 .bf16).view.set = Finset.univ from View.set_whole ..]
  exact .rfl

/-- The results after the call, every other array as it was. -/
def Yv (c : Dev nD) (X : (b : Ref sig .tc) → Buf (Elt F) ((c : Thread nD τ).loc b)) : (b : Ref sig .tc) → Buf (Elt F) ((c : Thread nD τ).loc b) :=
  Function.update (Function.update (Function.update X main_v11_0 (assemble (N := 1024) (wHn c X) : Buf (Elt F) ((c : Thread nD τ).loc main_v11_0)))
    main_v11_1 (assemble (N := 1024) (wU c X) : Buf (Elt F) ((c : Thread nD τ).loc main_v11_1)))
    main_v11_2 (assemble (N := 128) (wLg c X) : Buf (Elt F) ((c : Thread nD τ).loc main_v11_2))

theorem Yv_0 : Yv c X main_v11_0 = (assemble (N := 1024) (wHn c X) : Buf (Elt F) ((c : Thread nD τ).loc main_v11_0)) := by
  unfold Yv; rw [Function.update_of_ne (by decide), Function.update_of_ne (by decide), Function.update_self]
theorem Yv_1 : Yv c X main_v11_1 = (assemble (N := 1024) (wU c X) : Buf (Elt F) ((c : Thread nD τ).loc main_v11_1)) := by
  unfold Yv; rw [Function.update_of_ne (by decide), Function.update_self]
theorem Yv_2 : Yv c X main_v11_2 = (assemble (N := 128) (wLg c X) : Buf (Elt F) ((c : Thread nD τ).loc main_v11_2)) := by
  unfold Yv; rw [Function.update_self]
theorem Yv_ne (b : Ref sig .tc) (h0 : b ≠ main_v11_0) (h1 : b ≠ main_v11_1) (h2 : b ≠ main_v11_2) : Yv c X b = X b := by
  unfold Yv; rw [Function.update_of_ne h2, Function.update_of_ne h1, Function.update_of_ne h0]

/-- The buffers, arrays and cells dealt to the rings. -/
theorem deal_in : iprop(Ends cfg0.spec osem arrays c X ∗ waited c)
    ⊢ (iprop((around c X ∗ todo oHn c 0 ∗ todo oU c 0 ∗ todo oLg c 0) ∗ ∃ r, prngReg c r) : sProp 𝕄) := by
  unfold Ends
  rw [routed_eq, cells_eq, scopedRest0_eq]
  iintro ⟨⟨⟨A0, A1, A2, A3, A4, A5, A6, A7, A8, A9, A10, A11, A12⟩, ⟨V0, V1, V2, V3, V4, V5, V6, V7, V8, V9, V10, V11, V12, V13, V14, V15, V16, V17, V18, V19, V20, V21, V22, V23, V24, V25, V26⟩, ⟨S0, S2, S4, S6, S8, S9, S11, S13, S15, S16, S17, S19, S21⟩, HP⟩, HW⟩
  ihave RrRet := (deal_rRet c X).1 $$ [S0 A0 V0 V1 V2]
  · isplitl [S0]; · iexact S0
    isplitl [A0]; · iexact A0
    isplitl [V0]; · iexact V0
    isplitl [V1]; · iexact V1
    iexact V2
  ihave RrNa := (deal_rNa c X).1 $$ [S2 A1 V3 V4 V5]
  · isplitl [S2]; · iexact S2
    isplitl [A1]; · iexact A1
    isplitl [V3]; · iexact V3
    isplitl [V4]; · iexact V4
    iexact V5
  ihave RrMla := (deal_rMla c X).1 $$ [S4 A2 V6 V7 V8]
  · isplitl [S4]; · iexact S4
    isplitl [A2]; · iexact A2
    isplitl [V6]; · iexact V6
    isplitl [V7]; · iexact V7
    iexact V8
  ihave RrH := (deal_rH c X).1 $$ [S6 A3 V9 V10 V11]
  · isplitl [S6]; · iexact S6
    isplitl [A3]; · iexact A3
    isplitl [V9]; · iexact V9
    isplitl [V10]; · iexact V10
    iexact V11
  ihave RrG1 := (deal_rG1 c X).1 $$ [S9 A4 V12 V13]
  · isplitl [S9]; · iexact S9
    isplitl [A4]; · iexact A4
    isplitl [V12]; · iexact V12
    iexact V13
  ihave RrSh := (deal_rSh c X).1 $$ [S11 A5 V14 V15]
  · isplitl [S11]; · iexact S11
    isplitl [A5]; · iexact A5
    isplitl [V14]; · iexact V14
    iexact V15
  ihave RrSc := (deal_rSc c X).1 $$ [S13 A6 V16 V17]
  · isplitl [S13]; · iexact S13
    isplitl [A6]; · iexact A6
    isplitl [V16]; · iexact V16
    iexact V17
  ihave Rmain_v6 := (deal_main_v6 c X).1 $$ [S8 A7 V24]
  · isplitl [S8]; · iexact S8
    isplitl [A7]; · iexact A7
    iexact V24
  ihave Rmain_v10 := (deal_main_v10 c X).1 $$ [S15 A8 V25]
  · isplitl [S15]; · iexact S15
    isplitl [A8]; · iexact A8
    iexact V25
  ihave Rmain_v5 := (deal_main_v5 c X).1 $$ [S16 A9 V26]
  · isplitl [S16]; · iexact S16
    isplitl [A9]; · iexact A9
    iexact V26
  ihave RoHn := (deal_oHn c).1 $$ [S17 V18 V19]
  · isplitl [S17]; · iexact S17
    isplitl [V18]; · iexact V18
    iexact V19
  ihave RoU := (deal_oU c).1 $$ [S19 V20 V21]
  · isplitl [S19]; · iexact S19
    isplitl [V20]; · iexact V20
    iexact V21
  ihave RoLg := (deal_oLg c).1 $$ [S21 V22 V23]
  · isplitl [S21]; · iexact S21
    isplitl [V22]; · iexact V22
    iexact V23
  ihave T0 := todo_oHn c _ $$ A10
  ihave T1 := todo_oU c _ $$ A11
  ihave T2 := todo_oLg c _ $$ A12
  isplitr [HP]
  · unfold around
    isplitl [RrRet RrNa RrMla RrH RrG1 RrSh RrSc Rmain_v6 Rmain_v10 Rmain_v5 RoHn RoU RoLg HW]
    · isplitl [RrRet RrNa RrMla RrH]
      · isplitl [RrRet]
        · iexact RrRet
        isplitl [RrNa]
        · iexact RrNa
        isplitl [RrMla]
        · iexact RrMla
        iexact RrH
      isplitl [RrG1 RrSh RrSc]
      · isplitl [RrG1]
        · iexact RrG1
        isplitl [RrSh]
        · iexact RrSh
        iexact RrSc
      isplitl [Rmain_v6 Rmain_v10 Rmain_v5]
      · isplitl [Rmain_v6]
        · iexact Rmain_v6
        isplitl [Rmain_v10]
        · iexact Rmain_v10
        iexact Rmain_v5
      isplitl [RoHn RoU RoLg]
      · isplitl [RoHn]
        · iexact RoHn
        isplitl [RoU]
        · iexact RoU
        iexact RoLg
      iexact HW
    isplitl [T0]
    · iexact T0
    isplitl [T1]
    · iexact T1
    iexact T2
  iexact HP

/-- And gathered. -/
theorem deal_out [∀ e, Nonempty (Elt F e)] :
    iprop((around c X ∗ done oHn (wHn c X) c 64 ∗ done oU (wU c X) c 64 ∗ done oLg (wLg c X) c 64) ∗ ∃ r, prngReg c r)
      ⊢ (iprop(Ends cfg0.spec osem arrays c (Yv c X) ∗ waited c) : sProp 𝕄) := by
  unfold Ends around
  rw [routed_eq, cells_eq, scopedRest0_eq, Yv_0, Yv_1, Yv_2]
  rw [Yv_ne c X main_arg0 (by decide) (by decide) (by decide)]
  rw [Yv_ne c X main_arg1 (by decide) (by decide) (by decide)]
  rw [Yv_ne c X main_arg2 (by decide) (by decide) (by decide)]
  rw [Yv_ne c X main_arg3 (by decide) (by decide) (by decide)]
  rw [Yv_ne c X main_v7 (by decide) (by decide) (by decide)]
  rw [Yv_ne c X main_v8 (by decide) (by decide) (by decide)]
  rw [Yv_ne c X main_v9 (by decide) (by decide) (by decide)]
  rw [Yv_ne c X main_v6 (by decide) (by decide) (by decide)]
  rw [Yv_ne c X main_v10 (by decide) (by decide) (by decide)]
  rw [Yv_ne c X main_v5 (by decide) (by decide) (by decide)]
  iintro ⟨⟨⟨⟨RrRet, RrNa, RrMla, RrH⟩, ⟨RrG1, RrSh, RrSc⟩, ⟨Rmain_v6, Rmain_v10, Rmain_v5⟩, ⟨RoHn, RoU, RoLg⟩, HW⟩, T0, T1, T2⟩, HP⟩
  ihave RrRet := (deal_rRet c X).2 $$ RrRet
  icases RrRet with ⟨S0, A0, V0, V1, V2⟩
  ihave RrNa := (deal_rNa c X).2 $$ RrNa
  icases RrNa with ⟨S2, A1, V3, V4, V5⟩
  ihave RrMla := (deal_rMla c X).2 $$ RrMla
  icases RrMla with ⟨S4, A2, V6, V7, V8⟩
  ihave RrH := (deal_rH c X).2 $$ RrH
  icases RrH with ⟨S6, A3, V9, V10, V11⟩
  ihave RrG1 := (deal_rG1 c X).2 $$ RrG1
  icases RrG1 with ⟨S9, A4, V12, V13⟩
  ihave RrSh := (deal_rSh c X).2 $$ RrSh
  icases RrSh with ⟨S11, A5, V14, V15⟩
  ihave RrSc := (deal_rSc c X).2 $$ RrSc
  icases RrSc with ⟨S13, A6, V16, V17⟩
  ihave Rmain_v6 := (deal_main_v6 c X).2 $$ Rmain_v6
  icases Rmain_v6 with ⟨S8, A7, V24⟩
  ihave Rmain_v10 := (deal_main_v10 c X).2 $$ Rmain_v10
  icases Rmain_v10 with ⟨S15, A8, V25⟩
  ihave Rmain_v5 := (deal_main_v5 c X).2 $$ Rmain_v5
  icases Rmain_v5 with ⟨S16, A9, V26⟩
  ihave RoHn := (deal_oHn c).2 $$ RoHn
  icases RoHn with ⟨S17, V18, V19⟩
  ihave RoU := (deal_oU c).2 $$ RoU
  icases RoU with ⟨S19, V20, V21⟩
  ihave RoLg := (deal_oLg c).2 $$ RoLg
  icases RoLg with ⟨S21, V22, V23⟩
  ihave A10 := done_oHn c X $$ T0
  ihave A11 := done_oU c X $$ T1
  ihave A12 := done_oLg c X $$ T2
  isplitl [A0 A1 A2 A3 A4 A5 A6 A7 A8 A9 A10 A11 A12 V0 V1 V2 V3 V4 V5 V6 V7 V8 V9 V10 V11 V12 V13 V14 V15 V16 V17 V18 V19 V20 V21 V22 V23 V24 V25 V26 S0 S2 S4 S6 S8 S9 S11 S13 S15 S16 S17 S19 S21 HP]
  · isplitl [A0 A1 A2 A3 A4 A5 A6 A7 A8 A9 A10 A11 A12]
    · isplitl [A0]
      · iexact A0
      isplitl [A1]
      · iexact A1
      isplitl [A2]
      · iexact A2
      isplitl [A3]
      · iexact A3
      isplitl [A4]
      · iexact A4
      isplitl [A5]
      · iexact A5
      isplitl [A6]
      · iexact A6
      isplitl [A7]
      · iexact A7
      isplitl [A8]
      · iexact A8
      isplitl [A9]
      · iexact A9
      isplitl [A10]
      · iexact A10
      isplitl [A11]
      · iexact A11
      iexact A12
    isplitl [V0 V1 V2 V3 V4 V5 V6 V7 V8 V9 V10 V11 V12 V13 V14 V15 V16 V17 V18 V19 V20 V21 V22 V23 V24 V25 V26]
    · isplitl [V0]
      · iexact V0
      isplitl [V1]
      · iexact V1
      isplitl [V2]
      · iexact V2
      isplitl [V3]
      · iexact V3
      isplitl [V4]
      · iexact V4
      isplitl [V5]
      · iexact V5
      isplitl [V6]
      · iexact V6
      isplitl [V7]
      · iexact V7
      isplitl [V8]
      · iexact V8
      isplitl [V9]
      · iexact V9
      isplitl [V10]
      · iexact V10
      isplitl [V11]
      · iexact V11
      isplitl [V12]
      · iexact V12
      isplitl [V13]
      · iexact V13
      isplitl [V14]
      · iexact V14
      isplitl [V15]
      · iexact V15
      isplitl [V16]
      · iexact V16
      isplitl [V17]
      · iexact V17
      isplitl [V18]
      · iexact V18
      isplitl [V19]
      · iexact V19
      isplitl [V20]
      · iexact V20
      isplitl [V21]
      · iexact V21
      isplitl [V22]
      · iexact V22
      isplitl [V23]
      · iexact V23
      isplitl [V24]
      · iexact V24
      isplitl [V25]
      · iexact V25
      iexact V26
    isplitl [S0 S2 S4 S6 S8 S9 S11 S13 S15 S16 S17 S19 S21]
    · isplitl [S0]
      · iexact S0
      isplitl [S2]
      · iexact S2
      isplitl [S4]
      · iexact S4
      isplitl [S6]
      · iexact S6
      isplitl [S8]
      · iexact S8
      isplitl [S9]
      · iexact S9
      isplitl [S11]
      · iexact S11
      isplitl [S13]
      · iexact S13
      isplitl [S15]
      · iexact S15
      isplitl [S16]
      · iexact S16
      isplitl [S17]
      · iexact S17
      isplitl [S19]
      · iexact S19
      iexact S21
    iexact HP
  iexact HW

end Rings

/-! ## The body and the run -/

/-- What the call finds and leaves. -/
def dats (_ : Fin 1) (c : Dev nD) : Dat τ (Elt F) Unit ℕ (UC sig nD τ) ℕ cfg0 c where
  A w := w.elim0
  after w := w.elim0
  Φ t := match t with
    | ⟨0, _⟩ => Ends cfg0.spec osem arrays c (V m c)
    | ⟨_ + 1, _⟩ => Ends cfg0.spec osem arrays c (Yv c (V m c))
  q _ := fullShare
  owed _ := 0

abbrev 𝒱₀ : Variants := Variants.none

theorem body_ok [∀ e, Nonempty (Elt F e)] (c : Dev nD) : BodyObligation (dats m 0 c) (defs₀ (F := F)) 𝒱₀ () Set.univ := fun t => by
  obtain rfl := fin_N0 t
  rw [show (Finset.univ : Finset (Fin cfg0.W)) = ∅ from rfl, bigSep_empty, bigSep_empty]
  rw [show (dats m 0 c).Φ t0_0.castSucc = Ends cfg0.spec osem arrays c (V m c) from rfl,
    show (dats m 0 c).Φ t0_0.succ = Ends cfg0.spec osem arrays c (Yv c (V m c)) from rfl]
  unfold Dat.owesAt Pipeline.owesWithin
  rw [show (dats m 0 c).owed t0_0.castSucc = 0 from rfl, show (dats m 0 c).owed t0_0.succ = 0 from rfl]
  have hcall := fun Q => wp_call (defs := defs₀ (F := F)) (𝒱 := 𝒱₀) (bd := none) (c := c) (X := V m c) Q
  simp only [← cc0_out_projection_eq_skeleton] at hcall
  iintro ⟨HE, ⟨%W, -, HO⟩, HN⟩
  ihave H := deal_in c (V m c) $$ [HE HO]
  · isplitl [HE]; · iexact HE
    unfold waited
    iexists W; iexact HO
  icases H with ⟨H, HP⟩
  iapply (hcall _) $$ H
  iintro H
  ihave H := deal_out c (V m c) $$ [H HP]
  · isplitl [H] <;> iassumption
  unfold waited
  icases H with ⟨HE, ⟨%W', HO⟩⟩
  isplitl [HE]; · iexact HE
  isplitl [HO]
  · iexists W'
    isplitr; · ipureintro; exact fun _ _ => Or.inl trivial
    iexact HO
  iexact HN

/-- Every fair run from any memory ends, every counter at zero, with the results made up of what the trips computed and
    every other array as the call found it. -/
theorem run [∀ e, Nonempty (Elt F e)] :
    θ_run defs (onTc (τ := τ) (main (F := F))) (s₀ m ρ) (fun r => RoutedPost cfgs (dats m) 0 arrays (V m) (fun c => Yv c (V m c)) r ∧ r.2.sem = fun _ => 0) :=
  Pipeline.θ_run_frame_routed cfgs (dats m) 0 launch0 ownSemFacts defs₀ 𝒱₀ m ρ main
    (hbody := fun c => (body_ok m c).loose) (hshare := fun c w => w.elim0)
    (howed := fun _ _ => rfl) (V := V m)
    (hmain := Pipeline.hmain_prefixes cfgs 0 defs₀ 𝒱₀ m main [hostOps0, hostOps0_1, hostOps0_2] (by simp only [List.Forall]; exact ⟨hostOps0_sub, hostOps0_1_sub, hostOps0_2_sub⟩)
      (by simp only [List.Forall]; exact ⟨hostOps0_fresh, hostOps0_1_fresh, hostOps0_2_fresh⟩) main_chain)
    (hA := fun _ w => w.elim0) (R := arrays) (hR := by decide) (Y := fun c => Yv c (V m c)) (hin := fun _ => .rfl) (hout := fun _ => .rfl) (Q' := _)

end Cert.KernelIdeal.OutProj
-- ==== Proof.Ends.lean ====
/- What a run leaves: the arguments as they were, every counter at zero, and the three results. -/
module

public import proofs.«01_k».proof.Proof.Run

@[expose] public section

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

open Idealize.ShloMosaic.Pipeline (RoutedPost)

variable (m : (ℓ : Loc nD τ sig) → Buf (Elt F) ℓ) (ρ : Dev nD → PrngReg)

section Post

variable {m} [∀ e, Nonempty (Elt F e)] {r : PUnit × MemSt nD τ sig (Elt F)}
  (h : RoutedPost cfgs (dats m) 0 arrays (V m) (fun c => Yv c (V m c)) r) (c : Dev nD)
include h

/-- An array the call reads ends as the call found it. -/
theorem post_read (b : Ref sig .tc) (hb : b ∈ arrays) (h0 : b ≠ main_v11_0) (h1 : b ≠ main_v11_1) (h2 : b ≠ main_v11_2) :
    r.2.mem ((c : Thread nD τ).loc b) = V m c b := ((h c).2.1 b hb).trans (Yv_ne c _ b h0 h1 h2)

/-- So does one it never sees. -/
theorem post_rest (b : Ref sig .tc) (hb : b ∈ Pipeline.restRefs sig cfg0.spec) (hn : b ∉ arrays) :
    r.2.mem ((c : Thread nD τ).loc b) = V m c b := (h c).2.2 b (Finset.mem_sdiff.2 ⟨hb, hn⟩)

theorem post_args :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(post_read h c main_arg0 (by decide) (by decide) (by decide) (by decide)).trans (V_main_arg0 m c),
    (post_read h c main_arg1 (by decide) (by decide) (by decide) (by decide)).trans (V_main_arg1 m c),
    (post_read h c main_arg2 (by decide) (by decide) (by decide) (by decide)).trans (V_main_arg2 m c),
    (post_read h c main_arg3 (by decide) (by decide) (by decide) (by decide)).trans (V_main_arg3 m c),
    (post_rest h c main_arg4 (Pipeline.mem_restRefs_of main_arg4 (by decide) (by decide)) (by decide)).trans (V_main_arg4 m c),
    (post_rest h c main_arg5 (Pipeline.mem_restRefs_of main_arg5 (by decide) (by decide)) (by decide)).trans (V_main_arg5 m c),
    (post_rest h c main_arg6 (Pipeline.mem_restRefs_of main_arg6 (by decide) (by decide)) (by decide)).trans (V_main_arg6 m c),
    (post_rest h c main_arg7 (Pipeline.mem_restRefs_of main_arg7 (by decide) (by decide)) (by decide)).trans (V_main_arg7 m c),
    (post_rest h c main_arg8 (Pipeline.mem_restRefs_of main_arg8 (by decide) (by decide)) (by decide)).trans (V_main_arg8 m c),
    (post_rest h c main_arg9 (Pipeline.mem_restRefs_of main_arg9 (by decide) (by decide)) (by decide)).trans (V_main_arg9 m c)⟩

end Post

/-- Every fair run from any memory ends, the arguments as they were and every counter at zero. -/
theorem frame_run [∀ e, Nonempty (Elt F e)] :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => post_args h.1 c, h.2⟩) (run m ρ)

/-- And the three results are what the trips computed. -/
theorem value_run [∀ e, Nonempty (Elt F e)] :
    θ_run defs (onTc (τ := τ) (main (F := F))) ⟨m, fun _ => 0, ρ⟩ (fun r => ∀ c : Dev nD,
      r.2.mem ((c.tc : Thread nD τ).loc main_v11_0) = (assemble (N := 1024) (wHn c (V m c)) : Buf (Elt F) ((c : Thread nD τ).loc main_v11_0))
      ∧ r.2.mem ((c.tc : Thread nD τ).loc main_v11_1) = (assemble (N := 1024) (wU c (V m c)) : Buf (Elt F) ((c : Thread nD τ).loc main_v11_1))
      ∧ r.2.mem ((c.tc : Thread nD τ).loc main_v11_2) = (assemble (N := 128) (wLg c (V m c)) : Buf (Elt F) ((c : Thread nD τ).loc main_v11_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).2.1 main_v11_0 (by decide)).trans (Yv_0 c _), ((h.1 c).2.1 main_v11_1 (by decide)).trans (Yv_1 c _),
    ((h.1 c).2.1 main_v11_2 (by decide)).trans (Yv_2 c _), post_args h.1 c⟩) (run m ρ)

end Cert.KernelIdeal.OutProj
-- ==== Proof.Blocks.lean ====
/- What a ring's block holds of its array, and where an element of a result comes from, by coordinates. -/
module

public import proofs.«01_k».proof.Proof.Operands
public import proofs.«01_k».proof.Proof.Slots
public import Idealize.ShloMosaic.Lib.Pointwise

@[expose] public section

set_option maxRecDepth 16384

noncomputable section

namespace Cert.KernelIdeal.OutProj

open Cert.KernelIdeal Cert.KernelIdeal.Gen
open Idealize.ShloMosaic Idealize.ShloMosaic.TcCoe

variable {F : FTy → Type} [FloatOps F]

/-- The trip that computes row `t` of batch entry `b`. -/
abbrev tripOf (b : Fin 4) (t : Fin 8192) : ℕ := b.val * 16 + t.val / 512
/-- The row of that trip's block. -/
abbrev rowOf (t : Fin 8192) : Fin 512 := ⟨t.val % 512, Nat.mod_lt _ (by decide)⟩

theorem assemble_apply {N : ℕ} {α : Type} (w : ℕ → (⟨3, ![1, 512, N]⟩ : Shape).Idx → α) (b : Fin 4) (t : Fin 8192) (d : Fin N) :
    assemble w (ix3 b t d) = w (tripOf b t) (ix3 0 (rowOf t) d) := by
  unfold assemble
  refine congrArg (w (tripOf b t)) (funext fun a => Fin.ext ?_)
  match a with
  | ⟨0, _⟩ => rfl
  | ⟨1, _⟩ => rfl
  | ⟨2, _⟩ => rfl

/-- Row `t`'s own row of its trip's block, of any streamed array. -/
theorem emb_blk {N : ℕ} (b : Fin 4) (t : Fin 8192) (d : Fin N) :
    (blkBox N (tripOf b t)).emb (ix3 0 (rowOf t) d) = ix3 b t d := by
  have hb := b.isLt
  have ht := t.isLt
  refine funext fun a => Fin.ext ?_
  match a with
  | ⟨0, _⟩ => show (b.val * 16 + t.val / 512) % 64 / 16 + 1 * 0 = b.val; omega
  | ⟨1, _⟩ => show (b.val * 16 + t.val / 512) % 16 * 512 + 1 * (t.val % 512) = t.val; omega
  | ⟨2, _⟩ => show 0 + 1 * d.val = d.val; omega

/-- A modulation row's box. -/
abbrev rowBox (N b : ℕ) : Rect ⟨3, ![4, 1, N]⟩ := Rect.unit (ro b) ![1, 1, N] (ro_inb b)

theorem emb_row {N : ℕ} (b : Fin 4) (t : Fin 8192) (d : Fin N) :
    (rowBox N (tripOf b t / 16)).emb (ix3 0 0 d) = ix3 b 0 d := by
  have hb := b.isLt
  have ht := t.isLt
  refine funext fun a => Fin.ext ?_
  match a with
  | ⟨0, _⟩ => show (b.val * 16 + t.val / 512) / 16 % 4 + 1 * 0 = b.val; omega
  | ⟨1, _⟩ => show 0 + 1 * 0 = 0; omega
  | ⟨2, _⟩ => show 0 + 1 * d.val = d.val; omega

variable {c : Dev nD} (X : (b : Ref sig .tc) → Buf (Elt F) ((c : Thread nD τ).loc b)) (b : Fin 4) (t : Fin 8192)

theorem ret_apply (d : Fin 256) : (rRet c X).w (tripOf b t) (ix3 0 (rowOf t) d) = X main_arg0 (ix3 b t d : S4x8192x256.Idx) :=
  congrArg (X main_arg0) (emb_blk b t d)
theorem na_apply (d : Fin 512) : (rNa c X).w (tripOf b t) (ix3 0 (rowOf t) d) = X main_arg1 (ix3 b t d : S4x8192x512.Idx) :=
  congrArg (X main_arg1) (emb_blk b t d)
theorem mla_apply (d : Fin 256) : (rMla c X).w (tripOf b t) (ix3 0 (rowOf t) d) = X main_arg2 (ix3 b t d : S4x8192x256.Idx) :=
  congrArg (X main_arg2) (emb_blk b t d)
theorem h_apply (d : Fin 1024) : (rH c X).w (tripOf b t) (ix3 0 (rowOf t) d) = X main_arg3 (ix3 b t d : S4x8192x1024.Idx) :=
  congrArg (X main_arg3) (emb_blk b t d)
theorem g1_apply (d : Fin 1024) : (rG1 c X).w (tripOf b t / 16) (ix3 0 0 d) = X main_v7 (ix3 b 0 d : S4x1x1024.Idx) :=
  congrArg (X main_v7) (emb_row b t d)
theorem sh_apply (d : Fin 1024) : (rSh c X).w (tripOf b t / 16) (ix3 0 0 d) = X main_v8 (ix3 b 0 d : S4x1x1024.Idx) :=
  congrArg (X main_v8) (emb_row b t d)
theorem sc_apply (d : Fin 1024) : (rSc c X).w (tripOf b t / 16) (ix3 0 0 d) = X main_v9 (ix3 b 0 d : S4x1x1024.Idx) :=
  congrArg (X main_v9) (emb_row b t d)

theorem wOut_apply (i : S1024x1024.Idx) : wOut c X i = X main_v6 i := rfl
theorem wNorm_apply (i : S1x1024.Idx) : wNorm c X i = X main_v10 i := rfl
theorem wRw_apply (i : S1024x256.Idx) : wRw c X i = X main_v5 i := rfl

/-- Rows of the projection's matrix, from row `o`. -/
theorem window_out {n o : ℕ} (inb : ∀ a : Fin 2, (![o, 0] : Fin 2 → ℕ) a + (![n, 1024] : Fin 2 → ℕ) a ≤ S1024x1024.size a) (k : Fin n) (d : Fin 1024)
    (hk : o + k.val < 1024) : VecWindow.window (wOut c X) ![o, 0] ![n, 1024] inb (ix2 k d) = X main_v6 (ix2 ⟨o + k.val, hk⟩ d : S1024x1024.Idx) := by
  refine congrArg (X main_v6) (funext fun a => Fin.ext ?_)
  match a with
  | ⟨0, _⟩ => show o + 1 * k.val = o + k.val; omega
  | ⟨1, _⟩ => show 0 + 1 * d.val = d.val; omega

end Cert.KernelIdeal.OutProj
-- ==== Proof.HostArrays.lean ====
/- The arrays the host prepares for the call, element by element, over the extended reals. -/
module

public import proofs.«01_k».proof.Proof.Gen.KernelIdeal.Frame
public import Idealize.ShloMosaic.Lib.StableHlo.Run
public import Idealize.ShloMosaic.Lib.Pointwise

@[expose] public section

set_option maxRecDepth 16384

noncomputable section

namespace Cert.KernelIdeal.OutProj

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- Argument arrays as the call's extended reals. -/
abbrev arg4 : FVec Ideal S1024x1024 .f32 := m ((c.tc : Thread nD τ).loc main_arg4)
abbrev arg5 : FVec Ideal S4x1024 .f32 := m ((c.tc : Thread nD τ).loc main_arg5)
abbrev arg6 : FVec Ideal S4x1024 .f32 := m ((c.tc : Thread nD τ).loc main_arg6)
abbrev arg7 : FVec Ideal S4x1024 .f32 := m ((c.tc : Thread nD τ).loc main_arg7)
abbrev arg8 : FVec Ideal S1024 .f32 := m ((c.tc : Thread nD τ).loc main_arg8)
abbrev arg9 : FVec Ideal S1024x16 .f32 := m ((c.tc : Thread nD τ).loc main_arg9)

/-- The router's matrix with its lanes filled up to 128. -/
def lanes (w : FVec Ideal S1024x16 .f32) : FVec Ideal S1024x128 .f32 :=
  pad S1024x128 ![0, 0] ![0, 112] ![0, 0] w (sitofp .f32 (constantI S_ 32 0#32)) pads_S1024x16_S1024x128_000_01120 h_S_

theorem V_main_v5 : V m c main_v5 = (concatenate S1024x256 1 [⟨S1024x128, (truncf .bf16 (lanes (arg9 m c)) bitsLt_bf16_f32 : FVec Ideal S1024x128 .bf16)⟩, ⟨S1024x128, (truncf .bf16 (subf (lanes (arg9 m c)) (extf .f32 (truncf .bf16 (lanes (arg9 m c)) bitsLt_bf16_f32 : FVec Ideal S1024x128 .bf16) bitsLt_bf16_f32)) bitsLt_bf16_f32 : FVec Ideal S1024x128 .bf16)⟩]
    concatenates_S1024x128_S1024x128_S1024x256_d1 : FVec Ideal S1024x256 .bf16) :=
  by
    simp only [V, hostOps0, hostOps0_1, hostOps0_2, List.flatten_cons, List.flatten_nil, List.append_nil, List.cons_append, List.nil_append,
      TRef.binary, TRef.unary, TRef.toBuf, TRef.ofBuf, cast_eq]
    after_results_simp <;> rfl

theorem V_main_v6 : V m c main_v6 = (truncf .bf16 (arg4 m c) bitsLt_bf16_f32 : FVec Ideal S1024x1024 .bf16) :=
  by
    simp only [V, hostOps0, hostOps0_1, hostOps0_2, List.flatten_cons, List.flatten_nil, List.append_nil, List.cons_append, List.nil_append,
      TRef.binary, TRef.unary, TRef.toBuf, TRef.ofBuf, cast_eq]
    after_results_simp <;> rfl

theorem V_main_v7 : V m c main_v7 = (broadcastInDim S4x1x1024 ![0, 2] bcast_S4x1024_S4x1x1024_0_2 (arg5 m c) : FVec Ideal S4x1x1024 .f32) :=
  by
    simp only [V, hostOps0, hostOps0_1, hostOps0_2, List.flatten_cons, List.flatten_nil, List.append_nil, List.cons_append, List.nil_append,
      TRef.binary, TRef.unary, TRef.toBuf, TRef.ofBuf, cast_eq]
    after_results_simp <;> rfl

theorem V_main_v8 : V m c main_v8 = (broadcastInDim S4x1x1024 ![0, 2] bcast_S4x1024_S4x1x1024_0_2 (arg6 m c) : FVec Ideal S4x1x1024 .f32) :=
  by
    simp only [V, hostOps0, hostOps0_1, hostOps0_2, List.flatten_cons, List.flatten_nil, List.append_nil, List.cons_append, List.nil_append,
      TRef.binary, TRef.unary, TRef.toBuf, TRef.ofBuf, cast_eq]
    after_results_simp <;> rfl

theorem V_main_v9 : V m c main_v9 = (broadcastInDim S4x1x1024 ![0, 2] bcast_S4x1024_S4x1x1024_0_2 (arg7 m c) : FVec Ideal S4x1x1024 .f32) :=
  by
    simp only [V, hostOps0, hostOps0_1, hostOps0_2, List.flatten_cons, List.flatten_nil, List.append_nil, List.cons_append, List.nil_append,
      TRef.binary, TRef.unary, TRef.toBuf, TRef.ofBuf, cast_eq]
    after_results_simp <;> rfl

theorem V_main_v10 : V m c main_v10 = (shapeCast S1x1024 (arg8 m c) shapeCasts_S1024_S1x1024 : FVec Ideal S1x1024 .f32) :=
  by
    simp only [V, hostOps0, hostOps0_1, hostOps0_2, List.flatten_cons, List.flatten_nil, List.append_nil, List.cons_append, List.nil_append,
      TRef.binary, TRef.unary, TRef.toBuf, TRef.ofBuf, cast_eq]
    after_results_simp <;> rfl

/-! Element by element. -/

theorem v6_apply (k d : Fin 1024) : (V m c main_v6 (ix2 k d : S1024x1024.Idx) : EReal) = arg4 m c (ix2 k d) := by
  rw [V_main_v6]; pointwise
theorem v7_apply (b : Fin 4) (d : Fin 1024) : (V m c main_v7 (ix3 b 0 d : S4x1x1024.Idx) : EReal) = arg5 m c (ix2 b d) := by
  rw [V_main_v7]; pointwise
theorem v8_apply (b : Fin 4) (d : Fin 1024) : (V m c main_v8 (ix3 b 0 d : S4x1x1024.Idx) : EReal) = arg6 m c (ix2 b d) := by
  rw [V_main_v8]; pointwise
theorem v9_apply (b : Fin 4) (d : Fin 1024) : (V m c main_v9 (ix3 b 0 d : S4x1x1024.Idx) : EReal) = arg7 m c (ix2 b d) := by
  rw [V_main_v9]; pointwise
theorem v10_apply (d : Fin 1024) : (V m c main_v10 (ix2 0 d : S1x1024.Idx) : EReal) = arg8 m c (ix1 d) := by
  rw [V_main_v10]; pointwise

/-- The router's matrix keeps its 16 lanes; the rest are zero. -/
theorem lanes_apply (w : FVec Ideal S1024x16 .f32) (k : Fin 1024) (e : Fin 128) :
    (lanes w (ix2 k e) : EReal) = if h : e.val < 16 then w (ix2 k ⟨e.val, h⟩) else 0 := by
  have z : (FloatOps.sitofp (F := Ideal) .f32 (0#32) : EReal) = 0 := by
    show (((0#32 : BitVec 32).toInt : ℝ) : EReal) = 0
    simp
  unfold lanes; pointwise; rw [z]

/-- The first 128 columns are the matrix rounded, which over the extended reals is the matrix. -/
theorem v5_left (k : Fin 1024) (e : Fin 128) :
    (V m c main_v5 (ix2 k ⟨e.val, by omega⟩ : S1024x256.Idx) : EReal) = lanes (arg9 m c) (ix2 k e) := by
  rw [V_main_v5]; generalize lanes (arg9 m c) = z; pointwise
/-- The others are what the rounding drops. -/
theorem v5_right (k : Fin 1024) (e : Fin 128) :
    (V m c main_v5 (ix2 k ⟨128 + e.val, by omega⟩ : S1024x256.Idx) : EReal)
      = (lanes (arg9 m c) (ix2 k e) : EReal) - lanes (arg9 m c) (ix2 k e) := by
  rw [V_main_v5]; generalize lanes (arg9 m c) = z; pointwise

end Cert.KernelIdeal.OutProj
-- ==== Proof.Layer.lean ====
/- The output projection as formulas: the residual sum, the normalised and modulated row, the router's logits, from the arrays'
   elements. -/
module

public import Idealize.ShloMosaic.Lib.Pointwise

@[expose] public section

noncomputable section

namespace Cert.OutProj

open Idealize.ShloMosaic
open scoped BigOperators

/-- The row's factor of the normalisation: one over the root of the mean square plus the small constant. -/
def invRms (v : Fin 1024 → EReal) : EReal :=
  Ideal.rsqrt (Ideal.div (∑ k, v k * v k) (Ideal.ofBits .f32 0x44800000#32) + Ideal.ofBits .f32 0x358637BD#32)

/-- One row's operands: the head groups' outputs, the residual row, the gate, shift and scale of its batch entry. -/
structure Row where
  ret : Fin 256 → EReal
  na : Fin 512 → EReal
  mla : Fin 256 → EReal
  h : Fin 1024 → EReal
  g1 : Fin 1024 → EReal
  sh : Fin 1024 → EReal
  sc : Fin 1024 → EReal

/-- The weights: the projection, the norm's gain. -/
structure Wts where
  out : Fin 1024 → Fin 1024 → EReal
  gain : Fin 1024 → EReal

/-- Row `t` of batch entry `b`. -/
def rowAt (ret : FVec Ideal ⟨3, ![4, 8192, 256]⟩ .bf16) (na : FVec Ideal ⟨3, ![4, 8192, 512]⟩ .bf16) (mla : FVec Ideal ⟨3, ![4, 8192, 256]⟩ .bf16)
    (h : FVec Ideal ⟨3, ![4, 8192, 1024]⟩ .f32) (g1 sh sc : FVec Ideal ⟨2, ![4, 1024]⟩ .f32) (b : Fin 4) (t : Fin 8192) : Row where
  ret k := ret (ix3 b t k)
  na k := na (ix3 b t k)
  mla k := mla (ix3 b t k)
  h d := h (ix3 b t d)
  g1 d := g1 (ix2 b d)
  sh d := sh (ix2 b d)
  sc d := sc (ix2 b d)

def wtsOf (w : FVec Ideal ⟨2, ![1024, 1024]⟩ .f32) (n : FVec Ideal ⟨1, ![1024]⟩ .f32) : Wts where
  out k d := w (ix2 k d)
  gain d := n (ix1 d)

variable (x : Row) (w : Wts)

/-- The head groups' outputs through the projection. -/
def mix (d : Fin 1024) : EReal :=
  (∑ k : Fin 256, x.ret k * w.out ⟨k.val, by omega⟩ d + ∑ k : Fin 512, x.na k * w.out ⟨256 + k.val, by omega⟩ d)
    + ∑ k : Fin 256, x.mla k * w.out ⟨768 + k.val, by omega⟩ d
/-- The residual sum. -/
def hn (d : Fin 1024) : EReal := x.h d + x.g1 d * mix x w d
/-- The normalised and modulated row. -/
def u (d : Fin 1024) : EReal := hn x w d * invRms (hn x w) * w.gain d * (1 + x.sc d) + x.sh d
/-- A router column's logit. -/
def logit (r : Fin 1024 → EReal) : EReal := ∑ k, u x w k * r k

/-- A sum over the 1024 joined columns is the three groups' sums. -/
theorem sum_join (f : Fin 1024 → EReal) :
    ∑ k, f k = (∑ k : Fin 256, f ⟨k.val, by omega⟩ + ∑ k : Fin 512, f ⟨256 + k.val, by omega⟩) + ∑ k : Fin 256, f ⟨768 + k.val, by omega⟩ := by
  have h1 := Fin.sum_univ_add (M := EReal) (a := 768) (b := 256) f
  have h2 := Fin.sum_univ_add (M := EReal) (a := 256) (b := 512) (fun k => f (Fin.castAdd 256 k))
  exact h1.trans (congrArg (· + _) h2)

end Cert.OutProj
-- ==== Proof.Payloads.lean ====
/- What the vector operations of one trip compute over the extended reals, element by element. -/
module

public import proofs.«01_k».proof.Proof.Gen.KernelIdeal.Skeleton
public import proofs.«01_k».proof.Proof.Layer
public import Idealize.ShloMosaic.Lib.Pointwise

@[expose] public section

set_option maxRecDepth 16384

noncomputable section

namespace Cert.KernelIdeal.OutProj

open Cert.KernelIdeal Cert.KernelIdeal.Gen Cert.OutProj
open Idealize.ShloMosaic
open scoped BigOperators

/-- Two of the three head groups' products. -/
theorem pay1_apply (a : FVec Ideal S1x512x256 .bf16) (wa : FVec Ideal S256x1024 .bf16) (b : FVec Ideal S1x512x512 .bf16)
    (wb : FVec Ideal S512x1024 .bf16) (r : Fin 512) (d : Fin 1024) :
    (k0_pay1 (F := Ideal) a wa b wb (ix2 r d) : EReal) = ∑ k : Fin 256, (a (ix3 0 r k) : EReal) * wa (ix2 k d) + ∑ k : Fin 512, (b (ix3 0 r k) : EReal) * wb (ix2 k d) := by
  pointwise [k0_pay1]

/-- The third's. -/
theorem pay2_apply (a : FVec Ideal S1x512x256 .bf16) (wa : FVec Ideal S256x1024 .bf16) (r : Fin 512) (d : Fin 1024) :
    (k0_pay2 (F := Ideal) a wa (ix2 r d) : EReal) = ∑ k : Fin 256, (a (ix3 0 r k) : EReal) * wa (ix2 k d) := by
  pointwise [k0_pay2]

/-- The residual sum. -/
theorem pay3_apply (p q : FVec Ideal S512x1024 .f32) (h : FVec Ideal S1x512x1024 .f32) (g : FVec Ideal S1x1x1024 .f32) (r : Fin 512) (d : Fin 1024) :
    k0_pay3 p q h g (ix2 r d) = h (ix3 0 r d) + g (ix3 0 0 d) * (p (ix2 r d) + q (ix2 r d)) := by
  pointwise [k0_pay3]

theorem pay4_apply (p q : FVec Ideal S512x1024 .f32) (h : FVec Ideal S1x512x1024 .f32) (g : FVec Ideal S1x1x1024 .f32) (r : Fin 512) (d : Fin 1024) :
    k0_pay4 p q h g (ix3 0 r d) = k0_pay3 p q h g (ix2 r d) := by
  pointwise [k0_pay4]

/-- The normalised row, times its gain. -/
theorem pay5_apply (p q : FVec Ideal S512x1024 .f32) (h : FVec Ideal S1x512x1024 .f32) (g : FVec Ideal S1x1x1024 .f32) (n : FVec Ideal S1x1024 .f32)
    (r : Fin 512) (d : Fin 1024) :
    k0_pay5 p q h g n (ix2 r d) = k0_pay3 p q h g (ix2 r d) * invRms (fun k => k0_pay3 p q h g (ix2 r k)) * n (ix2 0 d) := by
  unfold k0_pay5 invRms
  generalize k0_pay3 p q h g = z
  pointwise

/-- The modulated row. -/
theorem pay6_apply (z : FVec Ideal S512x1024 .f32) (sc sh : FVec Ideal S1x1x1024 .f32) (r : Fin 512) (d : Fin 1024) :
    k0_pay6 z sc sh (ix2 r d) = z (ix2 r d) * ((1 : EReal) + sc (ix3 0 0 d)) + sh (ix3 0 0 d) := by
  pointwise [k0_pay6]

theorem pay7_apply (z : FVec Ideal S512x1024 .f32) (sc sh : FVec Ideal S1x1x1024 .f32) (r : Fin 512) (d : Fin 1024) :
    k0_pay7 z sc sh (ix2 r d) = k0_pay6 z sc sh (ix2 r d) := by
  pointwise [k0_pay7]

theorem pay8_apply (z : FVec Ideal S512x1024 .f32) (sc sh : FVec Ideal S1x1x1024 .f32) (r : Fin 512) (d : Fin 1024) :
    k0_pay8 z sc sh (ix4 0 0 r d) = k0_pay6 z sc sh (ix2 r d) := by
  unfold k0_pay8 k0_pay7
  generalize k0_pay6 z sc sh = y
  pointwise

/-- The router's products, of the row and of what its rounding drops. -/
theorem pay9_apply (z : FVec Ideal S512x1024 .f32) (sc sh : FVec Ideal S1x1x1024 .f32) (w : FVec Ideal S1024x256 .bf16) (r : Fin 512) (e : Fin 128) :
    (k0_pay9 (F := Ideal) z sc sh w (ix2 r e) : EReal)
      = (∑ k : Fin 1024, (k0_pay6 z sc sh (ix2 r k) : EReal) * w (ix2 k ⟨e.val, by omega⟩)
          + ∑ k : Fin 1024, (k0_pay6 z sc sh (ix2 r k) : EReal) * w (ix2 k ⟨128 + e.val, by omega⟩))
        + ∑ k : Fin 1024, (k0_pay6 z sc sh (ix2 r k) - k0_pay6 z sc sh (ix2 r k)) * w (ix2 k ⟨e.val, by omega⟩) := by
  unfold k0_pay9 k0_pay7
  generalize k0_pay6 z sc sh = y
  pointwise

theorem pay10_apply (z : FVec Ideal S512x128 .f32) (r : Fin 512) (e : Fin 128) : k0_pay10 z (ix3 0 r e) = z (ix2 r e) := by
  pointwise [k0_pay10]

end Cert.KernelIdeal.OutProj
-- ==== Proof.Values.lean ====
/- What a trip stores, element by element, is the layer's formulas of its row. -/
module

public import proofs.«01_k».proof.Proof.Blocks
public import proofs.«01_k».proof.Proof.HostArrays
public import proofs.«01_k».proof.Proof.Payloads

@[expose] public section

set_option maxRecDepth 16384

noncomputable section

namespace Cert.KernelIdeal.OutProj

open Cert.KernelIdeal Cert.KernelIdeal.Gen Cert.OutProj
open Idealize.ShloMosaic Idealize.ShloMosaic.TcCoe
open scoped BigOperators

variable (m : (ℓ : Loc nD τ sig) → Buf (Elt Ideal) ℓ) (c : Dev nD) (b : Fin 4) (t : Fin 8192)

/-- The row's operands in the arguments. -/
abbrev theRow : Row := rowAt (m ((c.tc : Thread nD τ).loc main_arg0)) (m ((c.tc : Thread nD τ).loc main_arg1)) (m ((c.tc : Thread nD τ).loc main_arg2))
  (m ((c.tc : Thread nD τ).loc main_arg3)) (arg5 m c) (arg6 m c) (arg7 m c) b t
/-- The weights in the arguments. -/
abbrev theWts : Wts := wtsOf (arg4 m c) (arg8 m c)

theorem ret_val (k : Fin 256) : ((rRet c (V m c)).w (tripOf b t) (ix3 0 (rowOf t) k) : EReal) = (theRow m c b t).ret k :=
  (ret_apply (V m c) b t k).trans (congrFun (V_main_arg0 m c) _)
theorem na_val (k : Fin 512) : ((rNa c (V m c)).w (tripOf b t) (ix3 0 (rowOf t) k) : EReal) = (theRow m c b t).na k :=
  (na_apply (V m c) b t k).trans (congrFun (V_main_arg1 m c) _)
theorem mla_val (k : Fin 256) : ((rMla c (V m c)).w (tripOf b t) (ix3 0 (rowOf t) k) : EReal) = (theRow m c b t).mla k :=
  (mla_apply (V m c) b t k).trans (congrFun (V_main_arg2 m c) _)
theorem h_val (k : Fin 1024) : ((rH c (V m c)).w (tripOf b t) (ix3 0 (rowOf t) k) : EReal) = (theRow m c b t).h k :=
  (h_apply (V m c) b t k).trans (congrFun (V_main_arg3 m c) _)
theorem g1_val (k : Fin 1024) : ((rG1 c (V m c)).w (tripOf b t / 16) (ix3 0 0 k) : EReal) = (theRow m c b t).g1 k :=
  (g1_apply (V m c) b t k).trans (v7_apply m c b k)
theorem sh_val (k : Fin 1024) : ((rSh c (V m c)).w (tripOf b t / 16) (ix3 0 0 k) : EReal) = (theRow m c b t).sh k :=
  (sh_apply (V m c) b t k).trans (v8_apply m c b k)
theorem sc_val (k : Fin 1024) : ((rSc c (V m c)).w (tripOf b t / 16) (ix3 0 0 k) : EReal) = (theRow m c b t).sc k :=
  (sc_apply (V m c) b t k).trans (v9_apply m c b k)
theorem norm_val (k : Fin 1024) : (wNorm c (V m c) (ix2 0 k) : EReal) = (theWts m c).gain k := v10_apply m c k
theorem rw_val_left (k : Fin 1024) (e : Fin 128) : (wRw c (V m c) (ix2 k ⟨e.val, by omega⟩) : EReal) = lanes (arg9 m c) (ix2 k e) :=
  v5_left m c k e
theorem rw_val_right (k : Fin 1024) (e : Fin 128) : (wRw c (V m c) (ix2 k ⟨128 + e.val, by omega⟩) : EReal)
    = (lanes (arg9 m c) (ix2 k e) : EReal) - lanes (arg9 m c) (ix2 k e) := v5_right m c k e

theorem pay3_row (d : Fin 1024) :
    (k0_pay3 (F := Ideal) (y1 c (V m c) (tripOf b t)) (y2 c (V m c) (tripOf b t)) ((rH c (V m c)).w (tripOf b t)) ((rG1 c (V m c)).w (tripOf b t / 16))
      (ix2 (rowOf t) d) : EReal) = hn (theRow m c b t) (theWts m c) d := by
  rw [pay3_apply]
  unfold y1 y2
  rw [pay1_apply, pay2_apply]
  simp only [ret_val, na_val, mla_val, h_val, g1_val]
  have e1 : ∀ k : Fin 256, (VecWindow.window (wOut c (V m c)) ![0, 0] S256x1024.size inb_S1024x1024_S256x1024_0_0 (ix2 k d) : EReal)
      = (theWts m c).out ⟨k.val, by omega⟩ d := fun k =>
    (window_out (V m c) (o := 0) inb_S1024x1024_S256x1024_0_0 k d (by omega)).trans ((v6_apply m c _ d).trans
      (congrArg (fun q => arg4 m c (ix2 q d)) (Fin.ext (by show 0 + k.val = k.val; omega))))
  have e2 : ∀ k : Fin 512, (VecWindow.window (wOut c (V m c)) ![256, 0] S512x1024.size inb_S1024x1024_S512x1024_256_0 (ix2 k d) : EReal)
      = (theWts m c).out ⟨256 + k.val, by omega⟩ d := fun k =>
    (window_out (V m c) (o := 256) inb_S1024x1024_S512x1024_256_0 k d (by omega)).trans (v6_apply m c _ d)
  have e3 : ∀ k : Fin 256, (VecWindow.window (wOut c (V m c)) ![768, 0] S256x1024.size inb_S1024x1024_S256x1024_768_0 (ix2 k d) : EReal)
      = (theWts m c).out ⟨768 + k.val, by omega⟩ d := fun k =>
    (window_out (V m c) (o := 768) inb_S1024x1024_S256x1024_768_0 k d (by omega)).trans (v6_apply m c _ d)
  simp only [e1, e2, e3]
  rfl

/-- The residual sums the trips leave. -/
theorem hn_ker (d : Fin 1024) : (assemble (N := 1024) (wHn c (V m c)) (ix3 b t d) : EReal) = hn (theRow m c b t) (theWts m c) d := by
  rw [assemble_apply]
  unfold wHn
  rw [pay4_apply, pay3_row]

theorem pay5_row (d : Fin 1024) :
    (y5 c (V m c) (tripOf b t) (ix2 (rowOf t) d) : EReal)
      = hn (theRow m c b t) (theWts m c) d * invRms (hn (theRow m c b t) (theWts m c)) * (theWts m c).gain d := by
  unfold y5
  rw [pay5_apply]
  simp only [pay3_row, norm_val]

theorem pay6_row (d : Fin 1024) :
    (k0_pay6 (F := Ideal) (y5 c (V m c) (tripOf b t)) ((rSc c (V m c)).w (tripOf b t / 16)) ((rSh c (V m c)).w (tripOf b t / 16)) (ix2 (rowOf t) d) : EReal)
      = u (theRow m c b t) (theWts m c) d := by
  rw [pay6_apply, pay5_row, sc_val, sh_val]
  rfl

/-- The modulated rows the trips leave. -/
theorem u_ker (d : Fin 1024) : (assemble (N := 1024) (wU c (V m c)) (ix3 b t d) : EReal) = u (theRow m c b t) (theWts m c) d := by
  rw [assemble_apply]
  unfold wU
  have e : Shape.reshapeEquiv squeezes_S1x1x512x1024_S1x512x1024.numel_eq (ix3 0 (rowOf t) d : S1x512x1024.Idx) = (ix4 0 0 (rowOf t) d : S1x1x512x1024.Idx) := by
    pointwise
  rw [e, pay8_apply, pay6_row]

/-- The logits the trips leave, as the kernel sums them: the row by the matrix, by what rounding the matrix drops, and what rounding the row
    drops by the matrix. -/
theorem lg_ker (e : Fin 128) : (assemble (N := 128) (wLg c (V m c)) (ix3 b t e) : EReal)
    = (logit (theRow m c b t) (theWts m c) (fun k => lanes (arg9 m c) (ix2 k e))
        + logit (theRow m c b t) (theWts m c) (fun k => (lanes (arg9 m c) (ix2 k e) : EReal) - lanes (arg9 m c) (ix2 k e)))
      + ∑ k, (u (theRow m c b t) (theWts m c) k - u (theRow m c b t) (theWts m c) k) * lanes (arg9 m c) (ix2 k e) := by
  rw [assemble_apply]
  unfold wLg y9
  rw [pay10_apply, pay9_apply]
  simp only [pay6_row, rw_val_left, rw_val_right]
  rfl

end Cert.KernelIdeal.OutProj
-- ==== Proof.Refs.lean ====
/- The reference's three arrays, element by element, are the layer's formulas. -/
module

public import proofs.«01_k».proof.Proof.Gen.ReferenceIdeal.Run
public import proofs.«01_k».proof.Proof.Layer

@[expose] public section

set_option maxRecDepth 16384

noncomputable section

namespace Cert.ReferenceIdeal.OutProj

open Cert.ReferenceIdeal Cert.ReferenceIdeal.Gen Cert.OutProj
open Idealize.ShloMosaic Idealize.ShloMosaic.TcCoe Idealize.SL.Sem
open scoped BigOperators

/-- The head groups' outputs side by side. -/
def joined (a0 : FVec Ideal S4x8192x256 .bf16) (a1 : FVec Ideal S4x8192x512 .bf16) (a2 : FVec Ideal S4x8192x256 .bf16) : FVec Ideal S4x8192x1024 .f32 :=
  concatenate S4x8192x1024 2 [⟨S4x8192x256, (extf .f32 a0 bitsLt_bf16_f32 : FVec Ideal S4x8192x256 .f32)⟩, ⟨S4x8192x512, (extf .f32 a1 bitsLt_bf16_f32 : FVec Ideal S4x8192x512 .f32)⟩,
    ⟨S4x8192x256, (extf .f32 a2 bitsLt_bf16_f32 : FVec Ideal S4x8192x256 .f32)⟩] concatenates_S4x8192x256_S4x8192x512_S4x8192x256_S4x8192x1024_d2

/-- The residual sum, as the reference's operations. -/
def resid (z a3 : FVec Ideal S4x8192x1024 .f32) (a4 : FVec Ideal S1024x1024 .f32) (a5 : FVec Ideal S4x1024 .f32) : FVec Ideal S4x8192x1024 .f32 :=
  addf a3 (mulf (broadcastInDim S4x8192x1024 ![0, 1, 2] bcast_S4x1x1024_S4x8192x1024_0_1_2 (broadcastInDim S4x1x1024 ![0, 2] bcast_S4x1024_S4x1x1024_0_2 a5))
    (Host.dotGeneral dot_S4x8192x1024_S1024x1024_S4x8192x1024_2_0_01_1_n_n none z a4))

/-- The normalised and modulated rows. -/
def modul (y : FVec Ideal S4x8192x1024 .f32) (a6 a7 : FVec Ideal S4x1024 .f32) (a8 : FVec Ideal S1024 .f32) : FVec Ideal S4x8192x1024 .f32 :=
  addf (mulf (mulf (mulf y
      (broadcastInDim S4x8192x1024 ![0, 1, 2] bcast_S4x8192x1_S4x8192x1024_0_1_2 (Host.rsqrt (addf (Host.divf
        (broadcastInDim S4x8192x1 ![0, 1] bcast_S4x8192_S4x8192x1_0_1 (Host.reduceAdd (mulf y y) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
      (broadcastInDim S4x8192x1024 ![0, 1, 2] bcast_S1x1x1024_S4x8192x1024_0_1_2 (broadcastInDim S1x1x1024 ![2] bcast_S1024_S1x1x1024_2 a8)))
      (broadcastInDim S4x8192x1024 ![0, 1, 2] bcast_S4x1x1024_S4x8192x1024_0_1_2
        (addf (broadcastInDim S4x1x1024 ![] bcast_S_S4x1x1024 (constant S_ .f32 0x3F800000#32)) (broadcastInDim S4x1x1024 ![0, 2] bcast_S4x1024_S4x1x1024_0_2 a7))))
    (broadcastInDim S4x8192x1024 ![0, 1, 2] bcast_S4x1x1024_S4x8192x1024_0_1_2 (broadcastInDim S4x1x1024 ![0, 2] bcast_S4x1024_S4x1x1024_0_2 a6))

/-- The logits in 128 lanes. -/
def routed (y : FVec Ideal S4x8192x1024 .f32) (a9 : FVec Ideal S1024x16 .f32) : FVec Ideal S4x8192x128 .f32 :=
  pad S4x8192x128 ![0, 0, 0] ![0, 0, 112] ![0, 0, 0] (Host.dotGeneral dot_S4x8192x1024_S1024x16_S4x8192x16_2_0_01_1_n_n none y a9)
    (sitofp .f32 (constantI S_ 32 0#32)) pads_S4x8192x16_S4x8192x128_000_000_01120 h_S_

section Apply

variable (a0 : FVec Ideal S4x8192x256 .bf16) (a1 : FVec Ideal S4x8192x512 .bf16) (a2 : FVec Ideal S4x8192x256 .bf16) (b : Fin 4) (t : Fin 8192)

theorem joined_ret (k : Fin 256) : (joined a0 a1 a2 (ix3 b t ⟨k.val, by omega⟩) : EReal) = a0 (ix3 b t k) := by
  unfold joined; pointwise
theorem joined_na (k : Fin 512) : (joined a0 a1 a2 (ix3 b t ⟨256 + k.val, by omega⟩) : EReal) = a1 (ix3 b t k) := by
  unfold joined; pointwise
theorem joined_mla (k : Fin 256) : (joined a0 a1 a2 (ix3 b t ⟨768 + k.val, by omega⟩) : EReal) = a2 (ix3 b t k) := by
  unfold joined; pointwise
  rw [dif_neg (by omega), dif_neg (by omega)]
  exact congrArg (fun q => a2 (ix3 b t q)) (Fin.ext (by show 768 + k.val - 256 - 512 = k.val; omega))

theorem resid_apply (z a3 : FVec Ideal S4x8192x1024 .f32) (a4 : FVec Ideal S1024x1024 .f32) (a5 : FVec Ideal S4x1024 .f32) (d : Fin 1024) :
    (resid z a3 a4 a5 (ix3 b t d) : EReal) = a3 (ix3 b t d) + a5 (ix2 b d) * ∑ k : Fin 1024, (z (ix3 b t k) : EReal) * a4 (ix2 k d) := by
  unfold resid; pointwise

theorem modul_apply (y : FVec Ideal S4x8192x1024 .f32) (a6 a7 : FVec Ideal S4x1024 .f32) (a8 : FVec Ideal S1024 .f32) (d : Fin 1024) :
    (modul y a6 a7 a8 (ix3 b t d) : EReal)
      = (y (ix3 b t d) : EReal) * invRms (fun k => y (ix3 b t k)) * a8 (ix1 d) * ((1 : EReal) + a7 (ix2 b d)) + a6 (ix2 b d) := by
  unfold modul invRms; pointwise

theorem routed_apply (y : FVec Ideal S4x8192x1024 .f32) (a9 : FVec Ideal S1024x16 .f32) (e : Fin 128) :
    (routed y a9 (ix3 b t e) : EReal) = if h : e.val < 16 then ∑ k : Fin 1024, (y (ix3 b t k) : EReal) * a9 (ix2 k ⟨e.val, h⟩) else 0 := by
  have z : (FloatOps.sitofp (F := Ideal) .f32 (0#32) : EReal) = 0 := by
    show (((0#32 : BitVec 32).toInt : ℝ) : EReal) = 0
    simp
  unfold routed; pointwise; rw [z]

/-! The three results. -/

variable (a3 : FVec Ideal S4x8192x1024 .f32) (a4 : FVec Ideal S1024x1024 .f32) (a5 a6 a7 : FVec Ideal S4x1024 .f32) (a8 : FVec Ideal S1024 .f32)
  (a9 : FVec Ideal S1024x16 .f32)

theorem hn_ref (d : Fin 1024) :
    (resid (joined a0 a1 a2) a3 a4 a5 (ix3 b t d) : EReal) = hn (rowAt a0 a1 a2 a3 a5 a6 a7 b t) (wtsOf a4 a8) d := by
  rw [resid_apply, sum_join]
  simp only [joined_ret, joined_na, joined_mla]
  rfl

theorem u_ref (d : Fin 1024) :
    (modul (resid (joined a0 a1 a2) a3 a4 a5) a6 a7 a8 (ix3 b t d) : EReal) = u (rowAt a0 a1 a2 a3 a5 a6 a7 b t) (wtsOf a4 a8) d := by
  rw [modul_apply]
  simp only [hn_ref a0 a1 a2 b t a3 a4 a5 a6 a7 a8]
  rfl

theorem lg_ref (e : Fin 128) :
    (routed (modul (resid (joined a0 a1 a2) a3 a4 a5) a6 a7 a8) a9 (ix3 b t e) : EReal)
      = if h : e.val < 16 then logit (rowAt a0 a1 a2 a3 a5 a6 a7 b t) (wtsOf a4 a8) (fun k => a9 (ix2 k ⟨e.val, h⟩)) else 0 := by
  rw [routed_apply]
  simp only [u_ref a0 a1 a2 b t a3 a4 a5 a6 a7 a8]
  rfl

end Apply

/-- What the reference leaves in its results, named. -/
theorem run_named (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = resid (joined (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5))
      ∧ r.2.mem ((c.tc : Thread nD τ).loc main_v31) = (truncf .bf16 (modul (resid (joined (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5)))
          (m ((c.tc : Thread nD τ).loc main_arg6)) (m ((c.tc : Thread nD τ).loc main_arg7)) (m ((c.tc : Thread nD τ).loc main_arg8))) bitsLt_bf16_f32 : FVec Ideal S4x8192x1024 .bf16)
      ∧ r.2.mem ((c.tc : Thread nD τ).loc main_v32) = routed (modul (resid (joined (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5)))
          (m ((c.tc : Thread nD τ).loc main_arg6)) (m ((c.tc : Thread nD τ).loc main_arg7)) (m ((c.tc : Thread nD τ).loc main_arg8))) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Cert.ReferenceIdeal.Value.run (F := Ideal) m ρ

end Cert.ReferenceIdeal.OutProj
-- ==== Proof.Finite.lean ====
/- Where the gain, the shift, the scale and the router's matrix are finite, so is the modulated row, whatever the residual sums are: what the roundings drop is zero and the kernel's
   three logit terms are the logit. -/
module

public import proofs.«01_k».proof.Proof.Layer

@[expose] public section

noncomputable section

namespace Cert.OutProj

open Idealize.ShloMosaic
open scoped BigOperators

/-- A real number. -/
def Real' (x : EReal) : Prop := ∃ r : ℝ, x = (r : EReal)

namespace Real'

theorem add {x y : EReal} : Real' x → Real' y → Real' (x + y) := fun ⟨a, ha⟩ ⟨b, hb⟩ => ⟨a + b, by rw [ha, hb, EReal.coe_add]⟩
theorem mul {x y : EReal} : Real' x → Real' y → Real' (x * y) := fun ⟨a, ha⟩ ⟨b, hb⟩ => ⟨a * b, by rw [ha, hb, EReal.coe_mul]⟩
theorem zero : Real' 0 := ⟨0, rfl⟩
theorem one : Real' 1 := ⟨1, rfl⟩
theorem sum {ι : Type} (s : Finset ι) (f : ι → EReal) (h : ∀ i ∈ s, Real' (f i)) : Real' (∑ i ∈ s, f i) :=
  Finset.sum_induction f Real' (fun _ _ => add) zero h
theorem sub_self {x : EReal} : Real' x → x - x = 0 := fun ⟨a, ha⟩ => by rw [ha, ← EReal.coe_sub, _root_.sub_self]; rfl

end Real'

/-- A real number at least zero. -/
def NonNeg (x : EReal) : Prop := ∃ r : ℝ, 0 ≤ r ∧ x = (r : EReal)

theorem NonNeg.sum {ι : Type} (s : Finset ι) (f : ι → EReal) (h : ∀ i ∈ s, NonNeg (f i)) : NonNeg (∑ i ∈ s, f i) :=
  Finset.sum_induction f NonNeg (fun _ _ ⟨a, ha, ea⟩ ⟨b, hb, eb⟩ => ⟨a + b, add_nonneg ha hb, by rw [ea, eb, EReal.coe_add]⟩) ⟨0, le_refl _, rfl⟩ h

theorem width_eq : Ideal.ofBits .f32 0x44800000#32 = ((1024 : ℝ) : EReal) := by
  simp [Ideal.ofBits, Ideal.ieee, -EReal.coe_mul]; norm_num

theorem small_pos : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- The normalisation's factor of a row of reals is real: its mean square plus the small constant is positive. -/
theorem invRms_real (v : Fin 1024 → EReal) (h : ∀ k, Real' (v k)) : Real' (invRms v) := by
  obtain ⟨q, hq, eq⟩ := NonNeg.sum Finset.univ (fun k => v k * v k) fun k _ => by
    obtain ⟨a, ha⟩ := h k
    exact ⟨a * a, mul_self_nonneg a, by rw [ha, EReal.coe_mul]⟩
  obtain ⟨e, he, ee⟩ := small_pos
  unfold invRms
  rw [eq, width_eq, ee, Ideal.div_coe (by norm_num), ← EReal.coe_mul, ← EReal.coe_add]
  have hp : 0 < q * (1 / 1024) + e := by positivity
  rw [Ideal.rsqrt_coe, if_neg (not_lt.mpr hp.le), if_neg hp.ne']
  exact ⟨_, rfl⟩

theorem mul_self_nonneg' (a : EReal) : 0 ≤ a * a := by
  induction a with
  | bot => simp
  | top => simp
  | coe r => rw [← EReal.coe_mul]; exact_mod_cast mul_self_nonneg r

/-- A normalised row is real, before its gain, whatever the row is: an infinite element makes the factor zero. -/
theorem scaled_real (v : Fin 1024 → EReal) (d : Fin 1024) : Real' (v d * invRms v) := by
  by_cases h : ∀ k, Real' (v k)
  · exact (h d).mul (invRms_real v h)
  · obtain ⟨k, hk⟩ := not_forall.mp h
    have square : v k * v k = ⊤ := by
      generalize v k = a at hk
      induction a with
      | bot => exact EReal.bot_mul_bot
      | top => exact EReal.top_mul_top
      | coe r => exact absurd ⟨r, rfl⟩ hk
    have whole : ∑ k, v k * v k = ⊤ := by
      have rest : (0 : EReal) ≤ ∑ j ∈ Finset.univ.erase k, v j * v j := Finset.sum_nonneg fun j _ => mul_self_nonneg' (v j)
      rw [← Finset.add_sum_erase _ _ (Finset.mem_univ k), square]
      exact EReal.top_add_of_ne_bot fun e => by rw [e] at rest; exact absurd rest (by simp)
    obtain ⟨e, _, ee⟩ := small_pos
    have zero : invRms v = 0 := by
      unfold invRms
      rw [whole, width_eq, ee, Ideal.div_coe (by norm_num), EReal.top_mul_coe_of_pos (by norm_num), EReal.top_add_coe]
      rfl
    rw [zero, mul_zero]
    exact Real'.zero

/-- The row's shift and scale are real. -/
structure Row.Real (x : Row) : Prop where
  sh : ∀ k, Real' (x.sh k)
  sc : ∀ k, Real' (x.sc k)

variable {x : Row} {w : Wts} (hx : x.Real) (hw : ∀ d, Real' (w.gain d))
include hx hw

theorem u_real (d : Fin 1024) : Real' (u x w d) :=
  (((scaled_real (hn x w) d).mul (hw d)).mul (Real'.one.add (hx.sc d))).add (hx.sh d)

/-- The kernel's three terms are the logit. -/
theorem logit_split {r : Fin 1024 → EReal} (hr : ∀ k, Real' (r k)) :
    (logit x w r + logit x w (fun k => r k - r k)) + ∑ k, (u x w k - u x w k) * r k = logit x w r := by
  have e1 : logit x w (fun k => r k - r k) = 0 := Finset.sum_eq_zero fun k _ => by
    show u x w k * (r k - r k) = 0
    rw [(hr k).sub_self, mul_zero]
  have e2 : ∑ k, (u x w k - u x w k) * r k = 0 := Finset.sum_eq_zero fun k _ => by rw [(u_real hx hw k).sub_self, zero_mul]
  rw [e1, e2, add_zero, add_zero]

end Cert.OutProj
-- ==== Proof.Assumed.lean ====
/- What the preconditions say: elements are real, or logits are not minus infinity. -/
module

public import proofs.«01_k».proof.Pre_finite
public import proofs.«01_k».proof.Pre_scored
public import proofs.«01_k».proof.Proof.Finite

@[expose] public section

noncomputable section

namespace Cert.Pre_finite

open Idealize.ShloMosaic Cert.OutProj

/-- The predicate's side conditions hold. -/
theorem facts : Cert.Pre_finite.Facts where
  bcast_S_S4x1024 := by decide
  bcast_S_S1024 := by decide
  bcast_S_S1024x16 := by decide

/-- An array whose absolute values compare below the infinite word holds reals. -/
theorem reals {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) : Real' (x i) := by
  have hi : BitVec.ofBool (decide (max (x i : EReal) (-(x i : EReal)) < Ideal.ofBits .f32 0x7F800000#32)) = 1#1 := congrFun h i
  have top : Ideal.ofBits .f32 0x7F800000#32 = ⊤ := by simp [Ideal.ofBits, Ideal.ieee]
  rw [top] at hi
  have hlt : max (x i : EReal) (-(x i : EReal)) < ⊤ := by
    by_contra hn
    rw [decide_eq_false hn] at hi
    exact absurd hi (by decide)
  have h1 : (x i : EReal) ≠ ⊤ := fun e => by rw [e] at hlt; simp at hlt
  have h2 : (x i : EReal) ≠ ⊥ := fun e => by rw [e] at hlt; simp at hlt
  exact ⟨(x i : EReal).toReal, (EReal.coe_toReal h1 h2).symm⟩

end Cert.Pre_finite

namespace Cert.Pre_scored

open Idealize.ShloMosaic

/-- The second predicate's side conditions hold. -/
theorem facts : Cert.Pre_scored.Facts where
  slices_S4x8192x128_S4x8192x16_0_0_0 := by decide
  bcast_S_S4x8192x16 := by decide

/-- Where the first sixteen lanes compare above the word of minus infinity, none of their elements is it. -/
theorem above (x : FVec Ideal S4x8192x128 .f32)
    (h : cmpf .ogt (extractStridedSlice S4x8192x16 ![0, 0, 0] x facts.slices_S4x8192x128_S4x8192x16_0_0_0) (broadcastInDim S4x8192x16 ![] facts.bcast_S_S4x8192x16 (constant S_ .f32 0xFF800000#32)) = fun _ => 1#1)
    (b : Fin 4) (t : Fin 8192) (l : Fin 16) : (x (ix3 b t ⟨l.val, by omega⟩) : EReal) ≠ ⊥ := by
  have hi := congrFun h (ix3 b t l)
  have e : (extractStridedSlice S4x8192x16 ![0, 0, 0] x facts.slices_S4x8192x128_S4x8192x16_0_0_0 (ix3 b t l) : EReal) = x (ix3 b t ⟨l.val, by omega⟩) := by
    pointwise
  have hd : BitVec.ofBool (decide ((Ideal.ofBits .f32 0xFF800000#32 : EReal) < (extractStridedSlice S4x8192x16 ![0, 0, 0] x facts.slices_S4x8192x128_S4x8192x16_0_0_0 (ix3 b t l) : EReal))) = 1#1 := hi
  have bot : Ideal.ofBits .f32 0xFF800000#32 = ⊥ := by simp [Ideal.ofBits, Ideal.ieee]
  rw [bot, e] at hd
  intro hx
  rw [hx] at hd
  simp at hd

end Cert.Pre_scored
-- ==== Proof.Match.lean ====
/- The kernel's three results are the reference's, over the extended reals, the logits where the precondition holds. -/
module

public import proofs.«01_k».proof.Defs
public import proofs.«01_k».proof.Proof.Values
public import proofs.«01_k».proof.Proof.Refs
public import proofs.«01_k».proof.Proof.Assumed
public import proofs.«01_k».proof.Proof.Ends

@[expose] public section

set_option maxRecDepth 16384

noncomputable section

namespace Cert.KernelIdeal.OutProj

open Cert.KernelIdeal Cert.KernelIdeal.Gen Cert.OutProj
open Idealize.ShloMosaic Idealize.ShloMosaic.TcCoe
open scoped BigOperators

variable (m : (ℓ : Loc nD τ sig) → Buf (Elt Ideal) ℓ) (c : Dev nD)

/-- The precondition's four arrays of comparisons hold everywhere, read as: the shift, the scale, the gain and the router's weights are reals. -/
theorem args_real (h : Cert.Pre_KernelIdeal_finite (hPre_finite := Cert.Pre_finite.facts) m) :
    (∀ b t, (theRow m c b t).Real) ∧ (∀ d, Real' ((theWts m c).gain d)) ∧ ∀ i, Real' (arg9 m c i) := by
  obtain ⟨h6, h7, h8, h9⟩ := h c
  exact ⟨fun b t =>
    { sh := fun k => Cert.Pre_finite.reals _ _ h6 _
      sc := fun k => Cert.Pre_finite.reals _ _ h7 _ },
    fun d => Cert.Pre_finite.reals _ _ h8 _,
    fun i => Cert.Pre_finite.reals _ _ h9 i⟩

/-- The widened matrix is real where the matrix is. -/
theorem lanes_real {w : FVec Ideal S1024x16 .f32} (h : ∀ i, Real' (w i)) (k : Fin 1024) (e : Fin 128) : Real' (lanes w (ix2 k e)) := by
  rw [lanes_apply]
  split
  · exact h _
  · exact Real'.zero

open Cert.ReferenceIdeal.OutProj (resid joined modul routed hn_ref u_ref lg_ref)

abbrev arg0 : FVec Ideal S4x8192x256 .bf16 := m ((c.tc : Thread nD τ).loc main_arg0)
abbrev arg1 : FVec Ideal S4x8192x512 .bf16 := m ((c.tc : Thread nD τ).loc main_arg1)
abbrev arg2 : FVec Ideal S4x8192x256 .bf16 := m ((c.tc : Thread nD τ).loc main_arg2)
abbrev arg3 : FVec Ideal S4x8192x1024 .f32 := m ((c.tc : Thread nD τ).loc main_arg3)

/-- The reference's residual sums and modulated rows of the kernel's arguments. -/
abbrev refHn : FVec Ideal S4x8192x1024 .f32 := resid (joined (arg0 m c) (arg1 m c) (arg2 m c)) (arg3 m c) (arg4 m c) (arg5 m c)
abbrev refU : FVec Ideal S4x8192x1024 .f32 := modul (refHn m c) (arg6 m c) (arg7 m c) (arg8 m c)

/-- Every index of a result is its three coordinates. -/
theorem by_coords {N : ℕ} {α : Type} {f g : (⟨3, ![4, 8192, N]⟩ : Shape).Idx → α} (h : ∀ b t d, f (ix3 b t d) = g (ix3 b t d)) : f = g := by
  funext i
  have e : i = ix3 (i 0) (i 1) (i 2) := by
    funext a
    match a with
    | ⟨0, _⟩ => rfl
    | ⟨1, _⟩ => rfl
    | ⟨2, _⟩ => rfl
  rw [e]
  exact h _ _ _

theorem hn_match : assemble (N := 1024) (wHn c (V m c)) = refHn m c :=
  by_coords fun b t d => (hn_ker m c b t d).trans (hn_ref (arg0 m c) (arg1 m c) (arg2 m c) b t (arg3 m c) (arg4 m c) (arg5 m c) (arg6 m c) (arg7 m c) (arg8 m c) d).symm

theorem u_match : assemble (N := 1024) (wU c (V m c)) = (truncf .bf16 (refU m c) Cert.ReferenceIdeal.Facts₀.bitsLt_bf16_f32 : FVec Ideal S4x8192x1024 .bf16) :=
  by_coords fun b t d => (u_ker m c b t d).trans (u_ref (arg0 m c) (arg1 m c) (arg2 m c) b t (arg3 m c) (arg4 m c) (arg5 m c) (arg6 m c) (arg7 m c) (arg8 m c) d).symm

theorem lg_match (h : Cert.Pre_KernelIdeal_finite (hPre_finite := Cert.Pre_finite.facts) m) :
    assemble (N := 128) (wLg c (V m c)) = routed (refU m c) (arg9 m c) := by
  obtain ⟨hx, hw, hr⟩ := args_real m c h
  refine by_coords fun b t e => (lg_ker m c b t e).trans ((logit_split (hx b t) hw fun k => lanes_real hr k e).trans (Eq.trans ?_
    (lg_ref (arg0 m c) (arg1 m c) (arg2 m c) b t (arg3 m c) (arg4 m c) (arg5 m c) (arg6 m c) (arg7 m c) (arg8 m c) (arg9 m c) e).symm))
  unfold logit
  simp only [lanes_apply]
  by_cases he : e.val < 16
  · simp only [dif_pos he]
  · simp only [dif_neg he, mul_zero, Finset.sum_const_zero]

end Cert.KernelIdeal.OutProj
-- ==== Proof.MoeForms.lean ====
/- One block of the mixture of experts as vector formulas: the gates of a tile of logits, and the block's result from its gates. -/
module

public import proofs.«01_k».proof.Proof.Gen.Kernel2Ideal.Skeleton
public import Idealize.ShloMosaic.Lib.Pointwise
public import Idealize.ShloMosaic.Lib.Ring

@[expose] public section

noncomputable section

namespace Cert.Kernel2Ideal.Moe

open Cert.Kernel2Ideal Cert.Kernel2Ideal.Gen
open Idealize.ShloMosaic

variable {F : FTy → Type} [FloatOps F]

/-- A word in every lane. -/
abbrev lanes (n : BitVec 32) : IVec S512x128 32 := broadcast S512x128 n

/-- A float in every lane, by its word. -/
abbrev flanes (n : BitVec 32) : FVec F S512x128 .f32 := broadcast S512x128 (Scalar.ofBits .f32 n)

/-- The lane's number. -/
abbrev laneNo : IVec S512x128 32 := iota .tc S512x128 32 [1] iota_S512x128_d1_w32

/-- The entry `d` lanes on, within windows of `w` lanes: of two rotations the one that stays in the window. -/
def ring (wmask d w fwd bwd : BitVec 32) (x : FVec F S512x128 .f32) : FVec F S512x128 .f32 :=
  select (cmpi .slt (addi (andi laneNo (lanes wmask)) (lanes d)) (lanes w))
    (dynamicRotate 1 fwd none x rotates_S512x128_d1) (dynamicRotate 1 bwd none x rotates_S512x128_d1)

/-- One where the entry `other`, `d` steps on in its ring of four, stands ahead of the lane's own, zero elsewhere; `e` is the place on the ring. -/
def aheadOne (e : IVec S512x128 32) (d : BitVec 32) (other x : FVec F S512x128 .f32) : FVec F S512x128 .f32 :=
  select (ori (cmpf .ogt other x) (andi (cmpf .oeq other x) (cmpi .slt (andi (addi e (lanes d)) (lanes 3#32)) e)))
    (flanes 0x3F800000#32) (flanes 0x00000000#32)

/-- The sum over a lane's group of four. -/
def groupSum (x : FVec F S512x128 .f32) : FVec F S512x128 .f32 :=
  addf (addf (addf x (ring 3#32 1#32 4#32 127#32 3#32 x)) (ring 3#32 2#32 4#32 126#32 2#32 x)) (ring 3#32 3#32 4#32 125#32 1#32 x)

/-- How many of its group stand ahead of a lane's entry. -/
def rankIn (x : FVec F S512x128 .f32) : FVec F S512x128 .f32 :=
  addf (addf (addf (flanes 0x00000000#32) (aheadOne (andi laneNo (lanes 3#32)) 1#32 (ring 3#32 1#32 4#32 127#32 3#32 x) x))
    (aheadOne (andi laneNo (lanes 3#32)) 2#32 (ring 3#32 2#32 4#32 126#32 2#32 x) x))
    (aheadOne (andi laneNo (lanes 3#32)) 3#32 (ring 3#32 3#32 4#32 125#32 1#32 x) x)

/-- How many groups stand ahead of a lane's group. -/
def rankOf (x : FVec F S512x128 .f32) : FVec F S512x128 .f32 :=
  addf (addf (addf (flanes 0x00000000#32) (aheadOne (andi (shrsi laneNo (lanes 2#32)) (lanes 3#32)) 1#32 (ring 15#32 4#32 16#32 124#32 12#32 x) x))
    (aheadOne (andi (shrsi laneNo (lanes 2#32)) (lanes 3#32)) 2#32 (ring 15#32 8#32 16#32 120#32 8#32 x) x))
    (aheadOne (andi (shrsi laneNo (lanes 2#32)) (lanes 3#32)) 3#32 (ring 15#32 12#32 16#32 116#32 4#32 x) x)

/-- The logistic function of each lane. -/
def sigm (s : Shape) (x : FVec F s .f32) : FVec F s .f32 :=
  divf (broadcast s (Scalar.ofBits .f32 0x3F800000#32)) (addf (broadcast s (Scalar.ofBits .f32 0x3F800000#32)) (exp (subf (broadcast s (Scalar.ofBits .f32 0x00000000#32)) x)))

/-- The scores of a tile of logits. -/
def scoreRows (lg : Vec F S512x128 .f32) : FVec F S512x128 .f32 := sigm S512x128 (shapeCast S512x128 lg shapeCasts_S512x128_S512x128)

/-- The scores with the bias, by which the experts are chosen. -/
def selRows (lg : Vec F S512x128 .f32) (rb : Vec F S1x128 .f32) : FVec F S512x128 .f32 :=
  addf (scoreRows lg) (broadcastTo S512x128 (shapeCast S1x128 rb shapeCasts_S1x128_S1x128) broadcasts_S1x128_S512x128)

/-- Where a lane's entry is one of its group's two best. -/
def twoBest (x : FVec F S512x128 .f32) : IVec S512x128 1 := cmpf .olt (rankIn x) (flanes 0x40000000#32)

/-- A group's score. -/
def groupRows (x : FVec F S512x128 .f32) : FVec F S512x128 .f32 := groupSum (select (twoBest x) x (flanes 0x00000000#32))

/-- The lanes of the chosen experts. -/
def chosenRows (x : FVec F S512x128 .f32) : IVec S512x128 1 :=
  andi (andi (cmpf .olt (rankOf (groupRows x)) (flanes 0x3F000000#32)) (twoBest x)) (cmpi .slt laneNo (lanes 16#32))

/-- The gates, from the choice and the scores. -/
def gates (ch : IVec S512x128 1) (s : FVec F S512x128 .f32) : FVec F S512x128 .f32 :=
  select ch (divf (select ch s (flanes 0x00000000#32)) (groupSum (select ch s (flanes 0x00000000#32)))) (flanes 0x00000000#32)

/-- The gates of a tile of logits. -/
def gateRows (lg : Vec F S512x128 .f32) (rb : Vec F S1x128 .f32) : FVec F S512x128 .f32 :=
  shapeCast S512x128 (gates (chosenRows (selRows lg rb)) (scoreRows lg)) shapeCasts_S512x128_S512x128

/-- One expert's product of a block, weighted by its gate. -/
def expert (e : BitVec 32) (u : FVec F S512x1024 .bf16) (g : FVec F S512x128 .f32) (w13 : Vec F S1x1024x512 .bf16) (w2 : Vec F S1x256x1024 .bf16) : FVec F S512x1024 .f32 :=
  let a : FVec F S512x512 .f32 := matmul dot_S512x1024_S1024x512_S512x512_1_0_0_1_n_n none u (shapeCast S1024x512 w13 shapeCasts_S1x1024x512_S1024x512) (constant S512x512 .f32 0x00000000#32)
  let a1 : FVec F S512x256 .f32 := extractStridedSlice S512x256 ![0, 0] a slices_S512x512_o0_0_S512x256
  let a3 : FVec F S512x256 .f32 := extractStridedSlice S512x256 ![0, 256] a slices_S512x512_o0_256_S512x256
  let gcol : FVec F S512x1 .f32 := shapeCast S512x1 (multiReduction .add [1] S512 (select (cmpi .eq laneNo (lanes e)) g (flanes 0x00000000#32)) 0x00000000#32 reduces_S512x128_S512 (.inl rfl) rfl : FVec F S512 .f32) shapeCasts_S512_S512x1
  matmul dot_S512x256_S256x1024_S512x1024_1_0_0_1_n_n none
    (truncf .bf16 (mulf (mulf (mulf a1 (sigm S512x256 a1)) a3) (broadcastTo S512x256 gcol broadcasts_S512x1_S512x256)) bitsLt_bf16_f32)
    (shapeCast S256x1024 w2 shapeCasts_S1x256x1024_S256x1024) (constant S512x1024 .f32 0x00000000#32)

theorem inb13 (e : Fin 16) (a : Fin 3) : (![e.val, 0, 0] : Fin 3 → Nat) a + (![1, 1024, 512] : Fin 3 → Nat) a ≤ S16x1024x512.size a := by
  match a with
  | 0 => show e.val + 1 ≤ 16; omega
  | 1 => show 0 + 1024 ≤ 1024; omega
  | 2 => show 0 + 512 ≤ 512; omega

theorem inb2 (e : Fin 16) (a : Fin 3) : (![e.val, 0, 0] : Fin 3 → Nat) a + (![1, 256, 1024] : Fin 3 → Nat) a ≤ S16x256x1024.size a := by
  match a with
  | 0 => show e.val + 1 ≤ 16; omega
  | 1 => show 0 + 256 ≤ 256; omega
  | 2 => show 0 + 1024 ≤ 1024; omega

/-- Expert `e`'s first and third matrix, side by side. -/
def slice13 (w : Vec F S16x1024x512 .bf16) (e : Fin 16) : Vec F S1x1024x512 .bf16 :=
  View.ld w (Rect.unit (s := S16x1024x512) ![e.val, 0, 0] ![1, 1024, 512] (inb13 e))

/-- Expert `e`'s second matrix. -/
def slice2 (w : Vec F S16x256x1024 .bf16) (e : Fin 16) : Vec F S1x256x1024 .bf16 :=
  View.ld w (Rect.unit (s := S16x256x1024) ![e.val, 0, 0] ![1, 256, 1024] (inb2 e))

theorem slice13_apply (w : Vec F S16x1024x512 .bf16) (e : Fin 16) (k : Fin 1024) (f : Fin 512) : slice13 w e (ix3 0 k f) = w (ix3 e k f) :=
  congrArg w (funext fun a => Fin.ext (by
    match a with
    | 0 => show e.val + 1 * 0 = e.val; omega
    | 1 => show 0 + 1 * k.val = k.val; omega
    | 2 => show 0 + 1 * f.val = f.val; omega))

theorem slice2_apply (w : Vec F S16x256x1024 .bf16) (e : Fin 16) (f : Fin 256) (d : Fin 1024) : slice2 w e (ix3 0 f d) = w (ix3 e f d) :=
  congrArg w (funext fun a => Fin.ext (by
    match a with
    | 0 => show e.val + 1 * 0 = e.val; omega
    | 1 => show 0 + 1 * f.val = f.val; omega
    | 2 => show 0 + 1 * d.val = d.val; omega))

/-- The experts up to `n`, added one after another. -/
def mixed (u : FVec F S512x1024 .bf16) (g : FVec F S512x128 .f32) (w13 : Vec F S16x1024x512 .bf16) (w2 : Vec F S16x256x1024 .bf16) : (n : Nat) → n < 16 → FVec F S512x1024 .f32
  | 0, h => expert 0#32 u g (slice13 w13 ⟨0, h⟩) (slice2 w2 ⟨0, h⟩)
  | n + 1, h => addf (mixed u g w13 w2 n (Nat.lt_of_succ_lt h)) (expert (BitVec.ofNat 32 (n + 1)) u g (slice13 w13 ⟨n + 1, h⟩) (slice2 w2 ⟨n + 1, h⟩))

/-- A block's result from its tokens, its gates, the residual stream's rows and the weights. -/
def blockOut (u : Vec F S512x1024 .bf16) (g : FVec F S512x128 .f32) (h : Vec F S512x1024 .f32) (w13 : Vec F S16x1024x512 .bf16) (w2 : Vec F S16x256x1024 .bf16)
    (g2 : Vec F S1x1x1024 .f32) (fg : Vec F S1x1024 .f32) : FVec F S512x1024 .f32 :=
  k0_pay1 (mixed (shapeCast S512x1024 u shapeCasts_S512x1024_S512x1024) g w13 w2 15 (by omega)) (k0_pay97 h) g2 fg

end Cert.Kernel2Ideal.Moe

end
-- ==== Proof.Ranks.lean ====
/- The places of a row's elements when the greater stand first and, of equal ones, the earlier; and a stable sort in those places. -/
module

public import Idealize.ShloMosaic.Lib.SortFacts
public import Idealize.ShloMosaic.PureOps.Ideal

@[expose] public section

noncomputable section

namespace Cert.Moe

open Idealize.ShloMosaic
open scoped BigOperators

/-- Element `j` of a row stands ahead of element `i`: it is greater, or equal and earlier. -/
def Ahead {n : Nat} (x : Fin n → EReal) (j i : Fin n) : Prop := x i < x j ∨ (x j = x i ∧ j < i)

instance {n : Nat} (x : Fin n → EReal) (j i : Fin n) : Decidable (Ahead x j i) := Classical.propDecidable _

/-- How many elements of the row stand ahead of element `i`. -/
def place {n : Nat} (x : Fin n → EReal) (i : Fin n) : Nat := (Finset.univ.filter fun j => Ahead x j i).card

theorem Ahead.irrefl {n : Nat} (x : Fin n → EReal) (i : Fin n) : ¬ Ahead x i i := by
  unfold Ahead; simp

theorem Ahead.total {n : Nat} (x : Fin n → EReal) {i j : Fin n} (h : i ≠ j) : Ahead x i j ∨ Ahead x j i := by
  unfold Ahead
  rcases lt_trichotomy (x i) (x j) with a | a | a
  · exact Or.inr (Or.inl a)
  · rcases lt_or_gt_of_ne h with b | b
    · exact Or.inl (Or.inr ⟨a, b⟩)
    · exact Or.inr (Or.inr ⟨a.symm, b⟩)
  · exact Or.inl (Or.inl a)

theorem Ahead.asymm {n : Nat} (x : Fin n → EReal) {i j : Fin n} (h : Ahead x i j) : ¬ Ahead x j i := by
  unfold Ahead at *
  rintro (b | ⟨b, c⟩) <;> rcases h with a | ⟨a, d⟩
  · exact lt_asymm a b
  · exact absurd b (by rw [a]; exact lt_irrefl _)
  · exact absurd a (by rw [b]; exact lt_irrefl _)
  · exact lt_asymm c d

theorem Ahead.negTrans {n : Nat} (x : Fin n → EReal) {a b c : Fin n} (h : ¬ Ahead x a b) (h' : ¬ Ahead x b c) : ¬ Ahead x a c := by
  intro hac
  unfold Ahead at *
  push Not at h h'
  rcases hac with u | ⟨u, v⟩
  · exact absurd (u.trans_le (h.1.trans h'.1)) (lt_irrefl _)
  · have e1 : x a = x b := le_antisymm h.1 (u ▸ h'.1)
    have e2 : x b = x c := e1.symm.trans u
    exact absurd (v.trans_le ((h'.2 e2).trans (h.2 e1))) (lt_irrefl _)

/-- The comparison a sort by "greater" makes. -/
def gtB {n : Nat} (x : Fin n → EReal) (k k' : Fin n) : Bool := decide (x k' < x k)

/-- The comparison by "greater, or equal and earlier". -/
def aheadB {n : Nat} (x : Fin n → EReal) (k k' : Fin n) : Bool := decide (Ahead x k k')

theorem insertBefore_congr {ι : Type} (R R' : ι → ι → Bool) (a : ι) (l : List ι) (h : ∀ b ∈ l, R b a = R' b a) :
    insertBefore R a l = insertBefore R' a l := by
  induction l with
  | nil => rfl
  | cons b l ih =>
    unfold insertBefore
    rw [h b (by simp), ih fun c hc => h c (by simp [hc])]

/-- Of elements given in order, the stable sort by "greater" is the sort by "greater, or equal and earlier". -/
theorem stableSort_gt {n : Nat} (x : Fin n → EReal) (l : List (Fin n)) (hl : l.Pairwise (· < ·)) :
    stableSort (gtB x) l = stableSort (aheadB x) l := by
  induction l with
  | nil => rfl
  | cons a l ih =>
    obtain ⟨ha, hl'⟩ := List.pairwise_cons.mp hl
    unfold stableSort
    rw [ih hl']
    refine insertBefore_congr _ _ _ _ fun b hb => ?_
    have hab : a < b := ha b ((perm_stableSort _ _).mem_iff.mp hb)
    unfold gtB aheadB Ahead
    refine decide_eq_decide.mpr ⟨Or.inl, ?_⟩
    rintro (h | ⟨_, h⟩)
    · exact h
    · exact absurd h (lt_asymm hab)

/-- The element the sort puts at place `k`. -/
def src {n : Nat} (x : Fin n → EReal) (k : Fin n) : Fin n := sortedFrom (gtB x) k

theorem src_eq {n : Nat} (x : Fin n → EReal) : src x = sortedFrom (aheadB x) := by
  have e : sortPositions n (gtB x) = sortPositions n (aheadB x) := stableSort_gt x _ (List.pairwise_lt_finRange n)
  funext k
  unfold src sortedFrom
  simp only [List.get_eq_getElem, e]
  rfl

theorem src_inj {n : Nat} (x : Fin n → EReal) : Function.Injective (src x) := sortedFrom_injective _
theorem src_surj {n : Nat} (x : Fin n → EReal) : Function.Surjective (src x) := sortedFrom_surjective _

/-- The element at place `k` has `k` elements ahead of it. -/
theorem place_src {n : Nat} (x : Fin n → EReal) (k : Fin n) : place x (src x k) = k.val := by
  have noinv : ∀ i j : Fin n, i < j → ¬ Ahead x (src x j) (src x i) := fun i j hij => by
    have h := sortedFrom_noInversion (aheadB x) (aheadB x)
      (fun a b h => by unfold aheadB at *; simp only [decide_eq_true_eq, decide_eq_false_iff_not] at *; exact h.asymm)
      (fun _ _ h => h)
      (fun a b c h h' => by unfold aheadB at *; simp only [decide_eq_false_iff_not] at *; exact Ahead.negTrans x h h') i j hij
    rw [← src_eq] at h
    unfold aheadB at h
    simpa using h
  have key : (Finset.univ.filter fun j => Ahead x j (src x k)) = (Finset.univ.filter fun i : Fin n => i < k).image (src x) := by
    ext j
    obtain ⟨i, rfl⟩ := src_surj x j
    simp only [Finset.mem_filter, Finset.mem_univ, true_and, Finset.mem_image]
    constructor
    · intro h
      refine ⟨i, ?_, rfl⟩
      by_contra hc
      rcases lt_or_eq_of_le (not_lt.mp hc) with h1 | h1
      · exact noinv k i h1 h
      · rw [h1] at h; exact Ahead.irrefl x _ h
    · rintro ⟨i', hi', e⟩
      rw [← e]
      rcases Ahead.total x (i := src x i') (j := src x k) (fun e' => absurd (src_inj x e') hi'.ne) with h | h
      · exact h
      · exact absurd h (noinv i' k hi')
  unfold place
  rw [key, Finset.card_image_of_injective _ (src_inj x)]
  have : (Finset.univ.filter fun i : Fin n => i < k) = Finset.Iio k := by ext; simp
  rw [this, Fin.card_Iio]

/-- The element at place `k` is the one with `k` elements ahead of it. -/
theorem src_eq_iff {n : Nat} (x : Fin n → EReal) (k i : Fin n) : src x k = i ↔ place x i = k.val := by
  constructor
  · rintro rfl; exact place_src x k
  · intro h
    obtain ⟨k', rfl⟩ := src_surj x i
    rw [place_src] at h
    exact congrArg (src x) (Fin.ext h.symm)

end Cert.Moe

end
-- ==== Proof.Choice.lean ====
/- The choice of a token's experts: the two best of the best of four groups of four, each weighted by its share of their scores.
   Stated once, and reached from two ways of computing it: by sorting, and by comparing neighbours on a ring. -/
module

public import proofs.«01_k».proof.Proof.Ranks
public import Idealize.ShloMosaic.Lib.Pointwise

@[expose] public section

noncomputable section

namespace Cert.Moe

open Idealize.ShloMosaic
open scoped BigOperators

/-- Expert `j` of group `g`. -/
def expertAt (g j : Fin 4) : Fin 16 := ⟨4 * g.val + j.val, by omega⟩

theorem expertAt_div_mod (l : Fin 16) : expertAt ⟨l.val / 4, by omega⟩ ⟨l.val % 4, by omega⟩ = l :=
  Fin.ext (by show 4 * (l.val / 4) + l.val % 4 = l.val; omega)

/-- A group's four entries. -/
def inGroup (x : Fin 16 → EReal) (g : Fin 4) : Fin 4 → EReal := fun j => x (expertAt g j)

/-- The sum of a group's two greatest entries. -/
def groupScore (x : Fin 16 → EReal) (g : Fin 4) : EReal := ∑ j : Fin 4, if place (inGroup x g) j < 2 then inGroup x g j else 0

/-- Expert `j` of group `g` is one of the two best of the best group. -/
def Chosen (x : Fin 16 → EReal) (g j : Fin 4) : Prop := place (groupScore x) g = 0 ∧ place (inGroup x g) j < 2

instance (x : Fin 16 → EReal) (g j : Fin 4) : Decidable (Chosen x g j) := Classical.propDecidable _

/-- The weight of expert `j` of group `g`: its score's share of the chosen experts' scores. -/
def gateOf (s x : Fin 16 → EReal) (g j : Fin 4) : EReal :=
  if Chosen x g j then Ideal.div (s (expertAt g j)) (∑ i : Fin 4, if Chosen x g i then s (expertAt g i) else 0) else 0

/-! By sorting. -/

theorem sum_two_best (y f : Fin 4 → EReal) : (∑ j : Fin 4, if place y j < 2 then f j else 0) = f (src y 0) + f (src y 1) := by
  have bij : Function.Bijective (src y) := by constructor <;> [exact src_inj y; exact src_surj y]
  have e : ∑ k : Fin 4, (if place y (src y k) < 2 then f (src y k) else 0) = ∑ j : Fin 4, if place y j < 2 then f j else 0 :=
    Function.Bijective.sum_comp bij fun j => if place y j < 2 then f j else 0
  rw [← e, Fin.sum_univ_four]
  simp only [place_src]
  simp

/-- The row with every other group's entries put below all. -/
def masked (x : Fin 16 → EReal) (b : Fin 4) : Fin 16 → EReal := fun l => if l.val / 4 = b.val then x l else ⊥

theorem masked_at (x : Fin 16 → EReal) (b j : Fin 4) : masked x b (expertAt b j) = inGroup x b j := by
  unfold masked
  rw [if_pos (by show (4 * b.val + j.val) / 4 = b.val; omega)]
  rfl

/-- A best group with an entry below all among its two best has a score below all, so every group has, and it is the first group. -/
theorem first_of_bot (x : Fin 16 → EReal) (b j : Fin 4) (hb : place (groupScore x) b = 0) (hj : place (inGroup x b) j < 2) (h : inGroup x b j = ⊥) : b.val = 0 := by
  have score : groupScore x b = ⊥ := by
    unfold groupScore
    rw [← Finset.add_sum_erase _ _ (Finset.mem_univ j), if_pos hj, h, EReal.bot_add]
  by_contra hn
  have ahead : Ahead (groupScore x) 0 b := by
    unfold Ahead
    rw [score]
    rcases eq_or_ne (groupScore x 0) ⊥ with e | e
    · exact Or.inr ⟨e, by show (0 : ℕ) < b.val; omega⟩
    · exact Or.inl (bot_lt_iff_ne_bot.mpr e)
  have none : (Finset.univ.filter fun g => Ahead (groupScore x) g b) = ∅ := Finset.card_eq_zero.mp hb
  have : (0 : Fin 4) ∈ Finset.univ.filter fun g => Ahead (groupScore x) g b := Finset.mem_filter.mpr ⟨Finset.mem_univ _, ahead⟩
  rw [none] at this
  exact absurd this (Finset.notMem_empty _)

/-- The two best of the best group keep their places among all, the other groups' entries put below. -/
theorem place_masked (x : Fin 16 → EReal) (b j : Fin 4) (hb : place (groupScore x) b = 0) (hj : place (inGroup x b) j < 2) : place (masked x b) (expertAt b j) = place (inGroup x b) j := by
  unfold place
  have inj : Function.Injective (expertAt b) := fun i i' e => Fin.ext (by
    have := congrArg Fin.val e
    change 4 * b.val + i.val = 4 * b.val + i'.val at this
    omega)
  rw [← Finset.card_image_of_injective _ inj]
  congr 1
  ext l
  simp only [Finset.mem_filter, Finset.mem_univ, true_and, Finset.mem_image]
  constructor
  · intro h
    by_cases hl : l.val / 4 = b.val
    · have e : l = expertAt b ⟨l.val % 4, by omega⟩ := Fin.ext (by show l.val = 4 * b.val + l.val % 4; omega)
      refine ⟨⟨l.val % 4, by omega⟩, ?_, e.symm⟩
      rw [e] at h
      unfold Ahead at *
      simp only [masked_at] at h
      rcases h with h | ⟨h, h'⟩
      · exact Or.inl h
      · refine Or.inr ⟨h, ?_⟩
        change 4 * b.val + l.val % 4 < 4 * b.val + j.val at h'
        show l.val % 4 < j.val
        omega
    · exfalso
      have hm : masked x b l = ⊥ := if_neg hl
      unfold Ahead at h
      rw [hm, masked_at] at h
      rcases h with h | ⟨h, h'⟩
      · exact not_lt_bot h
      · have hz := first_of_bot x b j hb hj h.symm
        change l.val < 4 * b.val + j.val at h'
        omega
  · rintro ⟨i, h, rfl⟩
    unfold Ahead at *
    simp only [masked_at]
    rcases h with h | ⟨h, h'⟩
    · exact Or.inl h
    · refine Or.inr ⟨h, ?_⟩
      show 4 * b.val + i.val < 4 * b.val + j.val
      have : i.val < j.val := h'
      omega

theorem src_masked (x : Fin 16 → EReal) (b k : Fin 4) (hb : place (groupScore x) b = 0) (hk : k.val < 2) :
    src (masked x b) ⟨k.val, by omega⟩ = expertAt b (src (inGroup x b) k) :=
  (src_eq_iff _ _ _).mpr (by rw [place_masked x b _ hb (by rw [place_src]; exact hk), place_src])

/-- Sorting gives the weights: the best group's two best, each by its share, written where the sort found it. -/
theorem gate_by_sorting (s x : Fin 16 → EReal) (g j : Fin 4) :
    (let m := masked x (src (groupScore x) 0)
     (if src m 0 = expertAt g j then (1 : EReal) else 0) * Ideal.div (s (src m 0)) (s (src m 0) + s (src m 1))
      + (if src m 1 = expertAt g j then (1 : EReal) else 0) * Ideal.div (s (src m 1)) (s (src m 0) + s (src m 1))) = gateOf s x g j := by
  generalize hb : src (groupScore x) 0 = b
  show (if src (masked x b) 0 = expertAt g j then (1 : EReal) else 0) * Ideal.div (s (src (masked x b) 0)) (s (src (masked x b) 0) + s (src (masked x b) 1))
      + (if src (masked x b) 1 = expertAt g j then (1 : EReal) else 0) * Ideal.div (s (src (masked x b) 1)) (s (src (masked x b) 0) + s (src (masked x b) 1)) = gateOf s x g j
  have hp0 : place (groupScore x) b = 0 := by rw [← hb, place_src]; rfl
  have e0 : src (masked x b) 0 = expertAt b (src (inGroup x b) 0) := src_masked x b 0 hp0 (by decide)
  have e1 : src (masked x b) 1 = expertAt b (src (inGroup x b) 1) := src_masked x b 1 hp0 (by decide)
  have hbest : ∀ g, place (groupScore x) g = 0 ↔ b = g := fun g => by
    rw [← hb]; exact (src_eq_iff (groupScore x) 0 g).symm
  have ex : ∀ i : Fin 4, expertAt b i = expertAt g j ↔ b = g ∧ i = j := fun i => by
    constructor
    · intro e
      have := congrArg Fin.val e
      change 4 * b.val + i.val = 4 * g.val + j.val at this
      exact ⟨Fin.ext (by omega), Fin.ext (by omega)⟩
    · rintro ⟨rfl, rfl⟩; rfl
  rw [e0, e1]
  simp only [ex]
  unfold gateOf Chosen
  by_cases hg : b = g
  · subst hg
    have hp : place (groupScore x) b = 0 := (hbest b).mpr rfl
    simp only [hp, true_and]
    rw [sum_two_best (inGroup x b) fun i => s (expertAt b i)]
    by_cases h0 : src (inGroup x b) 0 = j
    · have h1 : src (inGroup x b) 1 ≠ j := fun h => absurd (src_inj _ (h0.trans h.symm)) (by decide)
      rw [if_pos h0, if_neg h1, one_mul, zero_mul, add_zero, if_pos (by rw [(src_eq_iff _ _ _).mp h0]; decide), h0]
    · by_cases h1 : src (inGroup x b) 1 = j
      · rw [if_neg h0, if_pos h1, one_mul, zero_mul, zero_add, if_pos (by rw [(src_eq_iff _ _ _).mp h1]; decide), h1]
      · rw [if_neg h0, if_neg h1, zero_mul, zero_mul, add_zero, if_neg]
        intro h
        rcases (by omega : place (inGroup x b) j = 0 ∨ place (inGroup x b) j = 1) with h | h
        · exact h0 ((src_eq_iff _ 0 _).mpr h)
        · exact h1 ((src_eq_iff _ 1 _).mpr h)
  · have hp : place (groupScore x) g ≠ 0 := fun h => hg ((hbest g).mp h)
    simp [hg, hp]

/-! By comparing on a ring of four: `j + d` is the entry `d` steps on. -/

theorem sum_ring (f : Fin 4 → EReal) (j : Fin 4) : f j + f (j + 1) + f (j + 2) + f (j + 3) = ∑ i : Fin 4, f i := by
  rw [← Equiv.sum_comp (Equiv.addLeft j), Fin.sum_univ_four]
  simp

theorem place_ring (y : Fin 4 → EReal) (j : Fin 4) :
    place y j = (if Ahead y (j + 1) j then 1 else 0) + (if Ahead y (j + 2) j then 1 else 0) + (if Ahead y (j + 3) j then 1 else 0) := by
  unfold place
  rw [Finset.card_filter, ← Equiv.sum_comp (Equiv.addLeft j), Fin.sum_univ_four]
  simp [Ahead.irrefl]
  rfl

/-- The count as the sum of ones and zeros a vector unit takes. -/
def ringCount (y : Fin 4 → EReal) (j : Fin 4) : EReal :=
  0 + (if Ahead y (j + 1) j then 1 else 0) + (if Ahead y (j + 2) j then 1 else 0) + (if Ahead y (j + 3) j then 1 else 0)

theorem ringCount_eq (y : Fin 4 → EReal) (j : Fin 4) : ringCount y j = (((place y j : ℕ) : ℝ) : EReal) := by
  rw [place_ring]
  unfold ringCount
  split_ifs <;> norm_num <;> norm_cast

theorem ringCount_lt_two (y : Fin 4 → EReal) (j : Fin 4) : ringCount y j < ((2 : ℝ) : EReal) ↔ place y j < 2 := by
  rw [ringCount_eq, EReal.coe_lt_coe_iff]
  exact_mod_cast Iff.rfl

theorem ringCount_lt_half (y : Fin 4 → EReal) (j : Fin 4) : ringCount y j < ((0.5 : ℝ) : EReal) ↔ place y j = 0 := by
  rw [ringCount_eq, EReal.coe_lt_coe_iff]
  constructor
  · intro h
    by_contra hc
    have : (1 : ℝ) ≤ (place y j : ℝ) := by exact_mod_cast Nat.one_le_iff_ne_zero.mpr hc
    linarith
  · intro h; rw [h]; norm_num

end Cert.Moe

end
-- ==== Proof.MoeGates.lean ====
/- The gates the kernel computes by comparing neighbouring lanes are the weights of the chosen experts. -/
module

public import proofs.«01_k».proof.Proof.MoeForms
public import proofs.«01_k».proof.Proof.Choice

@[expose] public section

noncomputable section

namespace Cert.Kernel2Ideal.Moe

open Cert.Kernel2Ideal Cert.Kernel2Ideal.Gen Cert.Moe
open Idealize.ShloMosaic
open scoped BigOperators

/-- The lane of expert `j` of group `g`. -/
def laneAt (g j : Fin 4) : Fin 128 := ⟨4 * g.val + j.val, by omega⟩

/-- A row's first sixteen lanes. -/
def rowOf (x : FVec Ideal S512x128 .f32) (r : Fin 512) : Fin 16 → EReal := fun l => x (ix2 r ⟨l.val, by omega⟩)

theorem rowOf_expertAt (x : FVec Ideal S512x128 .f32) (r : Fin 512) (g j : Fin 4) : rowOf x r (expertAt g j) = x (ix2 r (laneAt g j)) := rfl

/-- The lane a ring's entry comes from. -/
def ringLane (wmask d w fwd bwd : BitVec 32) (l : Fin 128) : Fin 128 :=
  if IntOp.cmpi CmpIPredicate.slt (IntOp.addi (IntOp.andi (BitVec.ofNat 32 l.val) wmask) d) w = 1#1
    then ⟨(l.val + 128 - fwd.toNat % 128) % 128, Nat.mod_lt _ (by decide)⟩ else ⟨(l.val + 128 - bwd.toNat % 128) % 128, Nat.mod_lt _ (by decide)⟩

theorem ring_apply (wmask d w fwd bwd : BitVec 32) (x : FVec Ideal S512x128 .f32) (r : Fin 512) (l : Fin 128) :
    (ring wmask d w fwd bwd x (ix2 r l) : EReal) = x (ix2 r (ringLane wmask d w fwd bwd l)) := by
  unfold ring ringLane
  pointwise
  unfold Scalar.select
  by_cases h : IntOp.cmpi CmpIPredicate.slt (IntOp.addi (IntOp.andi (BitVec.ofNat 32 l.val) wmask) d) w = 1#1
  · rw [if_pos h]; exact if_pos h
  · rw [if_neg h]; exact if_neg h

theorem in_lane1 : ∀ g j : Fin 4, ringLane 3#32 1#32 4#32 127#32 3#32 (laneAt g j) = laneAt g (j + 1) := by decide
theorem in_lane2 : ∀ g j : Fin 4, ringLane 3#32 2#32 4#32 126#32 2#32 (laneAt g j) = laneAt g (j + 2) := by decide
theorem in_lane3 : ∀ g j : Fin 4, ringLane 3#32 3#32 4#32 125#32 1#32 (laneAt g j) = laneAt g (j + 3) := by decide
theorem of_lane1 : ∀ g j : Fin 4, ringLane 15#32 4#32 16#32 124#32 12#32 (laneAt g j) = laneAt (g + 1) j := by decide
theorem of_lane2 : ∀ g j : Fin 4, ringLane 15#32 8#32 16#32 120#32 8#32 (laneAt g j) = laneAt (g + 2) j := by decide
theorem of_lane3 : ∀ g j : Fin 4, ringLane 15#32 12#32 16#32 116#32 4#32 (laneAt g j) = laneAt (g + 3) j := by decide

theorem groupSum_apply (x : FVec Ideal S512x128 .f32) (r : Fin 512) (g j : Fin 4) :
    (groupSum x (ix2 r (laneAt g j)) : EReal) = ∑ i : Fin 4, (x (ix2 r (laneAt g i)) : EReal) := by
  rw [← sum_ring (fun i => (x (ix2 r (laneAt g i)) : EReal)) j]
  unfold groupSum
  pointwise
  rw [ring_apply, ring_apply, ring_apply, in_lane1, in_lane2, in_lane3]

theorem earlier : ∀ j d : Fin 4, IntOp.cmpi CmpIPredicate.slt (IntOp.andi (IntOp.addi (BitVec.ofNat 32 j.val) (BitVec.ofNat 32 d.val)) 3#32) (BitVec.ofNat 32 j.val)
    = BitVec.ofBool (decide (j + d < j)) := by decide

/-- One comparison on a ring of four whose entries are `y`, at place `j`. -/
theorem ahead_apply (e : IVec S512x128 32) (o x : FVec Ideal S512x128 .f32) (r : Fin 512) (l : Fin 128) (y : Fin 4 → EReal) (j d : Fin 4) (w : BitVec 32) (hw : w = BitVec.ofNat 32 d.val)
    (he : e (ix2 r l) = BitVec.ofNat 32 j.val) (ho : (o (ix2 r l) : EReal) = y (j + d)) (hx : (x (ix2 r l) : EReal) = y j) :
    (aheadOne e w o x (ix2 r l) : EReal) = if Ahead y (j + d) j then 1 else 0 := by
  unfold aheadOne
  pointwise
  rw [hw, he, ho, hx, earlier]
  unfold Scalar.select IntOp.ori IntOp.andi Ahead
  by_cases h1 : y j < y (j + d) <;> by_cases h2 : y (j + d) = y j <;> by_cases h3 : j + d < j <;> simp [h1, h2, h3]

theorem place_in : ∀ g j : Fin 4, IntOp.andi (BitVec.ofNat 32 (laneAt g j).val) 3#32 = BitVec.ofNat 32 j.val := by decide
theorem place_of : ∀ g j : Fin 4, IntOp.andi (IntOp.shrsi .vector (BitVec.ofNat 32 (laneAt g j).val) 2#32) 3#32 = BitVec.ofNat 32 g.val := by decide

theorem rankIn_apply (x : FVec Ideal S512x128 .f32) (r : Fin 512) (g j : Fin 4) :
    (rankIn x (ix2 r (laneAt g j)) : EReal) = ringCount (inGroup (rowOf x r) g) j := by
  have he : (andi laneNo (lanes 3#32) : IVec S512x128 32) (ix2 r (laneAt g j)) = BitVec.ofNat 32 j.val := by
    pointwise; exact place_in g j
  unfold rankIn ringCount
  pointwise
  rw [ahead_apply _ _ x r (laneAt g j) (inGroup (rowOf x r) g) j 1 1#32 rfl he (by rw [ring_apply, in_lane1]; rfl) rfl,
    ahead_apply _ _ x r (laneAt g j) (inGroup (rowOf x r) g) j 2 2#32 rfl he (by rw [ring_apply, in_lane2]; rfl) rfl,
    ahead_apply _ _ x r (laneAt g j) (inGroup (rowOf x r) g) j 3 3#32 rfl he (by rw [ring_apply, in_lane3]; rfl) rfl]

/-- Lanes of one group hold one value `y g`: the count over the groups. -/
theorem rankOf_apply (x : FVec Ideal S512x128 .f32) (r : Fin 512) (y : Fin 4 → EReal) (hx : ∀ g j : Fin 4, (x (ix2 r (laneAt g j)) : EReal) = y g) (g j : Fin 4) :
    (rankOf x (ix2 r (laneAt g j)) : EReal) = ringCount y g := by
  have he : (andi (shrsi laneNo (lanes 2#32)) (lanes 3#32) : IVec S512x128 32) (ix2 r (laneAt g j)) = BitVec.ofNat 32 g.val := by
    pointwise; exact place_of g j
  unfold rankOf ringCount
  pointwise
  rw [ahead_apply _ _ x r (laneAt g j) y g 1 1#32 rfl he (by rw [ring_apply, of_lane1, hx]) (hx g j),
    ahead_apply _ _ x r (laneAt g j) y g 2 2#32 rfl he (by rw [ring_apply, of_lane2, hx]) (hx g j),
    ahead_apply _ _ x r (laneAt g j) y g 3 3#32 rfl he (by rw [ring_apply, of_lane3, hx]) (hx g j)]

theorem word_two : Ideal.ofBits .f32 0x40000000#32 = ((2 : ℝ) : EReal) := by
  simp [Ideal.ofBits, Ideal.ieee, -EReal.coe_mul]; norm_num

theorem word_half : Ideal.ofBits .f32 0x3F000000#32 = ((0.5 : ℝ) : EReal) := by
  simp [Ideal.ofBits, Ideal.ieee, -EReal.coe_mul]; norm_num

theorem twoBest_apply (x : FVec Ideal S512x128 .f32) (r : Fin 512) (g j : Fin 4) :
    twoBest x (ix2 r (laneAt g j)) = BitVec.ofBool (decide (place (inGroup (rowOf x r) g) j < 2)) := by
  unfold twoBest
  pointwise
  rw [rankIn_apply]
  rw [word_two]
  exact congrArg BitVec.ofBool (decide_eq_decide.mpr (ringCount_lt_two _ _))

theorem groupRows_apply (x : FVec Ideal S512x128 .f32) (r : Fin 512) (g j : Fin 4) :
    (groupRows x (ix2 r (laneAt g j)) : EReal) = groupScore (rowOf x r) g := by
  unfold groupRows groupScore
  rw [groupSum_apply]
  refine Finset.sum_congr rfl fun i _ => ?_
  pointwise
  rw [twoBest_apply]
  unfold Scalar.select
  by_cases h : place (inGroup (rowOf x r) g) i < 2 <;> simp [h] <;> rfl

theorem in_sixteen : ∀ g j : Fin 4, IntOp.cmpi CmpIPredicate.slt (BitVec.ofNat 32 (laneAt g j).val) 16#32 = 1#1 := by decide

theorem chosenRows_apply (x : FVec Ideal S512x128 .f32) (r : Fin 512) (g j : Fin 4) :
    chosenRows x (ix2 r (laneAt g j)) = BitVec.ofBool (decide (Chosen (rowOf x r) g j)) := by
  have h : (cmpf .olt (rankOf (groupRows x)) (flanes 0x3F000000#32) : IVec S512x128 1) (ix2 r (laneAt g j)) = BitVec.ofBool (decide (place (groupScore (rowOf x r)) g = 0)) := by
    pointwise
    rw [rankOf_apply _ r (groupScore (rowOf x r)) (groupRows_apply x r)]
    rw [word_half]
    exact congrArg BitVec.ofBool (decide_eq_decide.mpr (ringCount_lt_half _ _))
  unfold chosenRows
  show IntOp.andi (IntOp.andi ((cmpf .olt (rankOf (groupRows x)) (flanes 0x3F000000#32) : IVec S512x128 1) (ix2 r (laneAt g j))) (twoBest x (ix2 r (laneAt g j))))
    ((cmpi .slt laneNo (lanes 16#32) : IVec S512x128 1) (ix2 r (laneAt g j))) = _
  rw [h, twoBest_apply]
  pointwise
  rw [in_sixteen]
  unfold IntOp.andi Chosen
  by_cases h1 : place (groupScore (rowOf x r)) g = 0 <;> by_cases h2 : place (inGroup (rowOf x r) g) j < 2 <;> simp [h1, h2]

/-- A row's scores. -/
def scores (lg : Fin 16 → EReal) : Fin 16 → EReal := fun l => Ideal.div 1 (1 + Ideal.exp (-lg l))

theorem scoreRows_row (lg : Vec Ideal S512x128 .f32) (r : Fin 512) : rowOf (scoreRows lg) r = scores (rowOf lg r) := by
  funext l
  show (scoreRows lg (ix2 r ⟨l.val, by omega⟩) : EReal) = Ideal.div 1 (1 + Ideal.exp (-(lg (ix2 r ⟨l.val, by omega⟩))))
  unfold scoreRows sigm
  pointwise
  rw [zero_sub]

theorem selRows_row (lg : Vec Ideal S512x128 .f32) (rb : Vec Ideal S1x128 .f32) (r : Fin 512) :
    rowOf (selRows lg rb) r = fun l => scores (rowOf lg r) l + (rb (ix2 0 ⟨l.val, by omega⟩) : EReal) := by
  rw [← scoreRows_row]
  funext l
  show (selRows lg rb (ix2 r ⟨l.val, by omega⟩) : EReal) = (scoreRows lg (ix2 r ⟨l.val, by omega⟩) : EReal) + rb (ix2 0 ⟨l.val, by omega⟩)
  unfold selRows
  pointwise

/-- The kernel's gates are the weights. -/
theorem gateRows_apply (lg : Vec Ideal S512x128 .f32) (rb : Vec Ideal S1x128 .f32) (r : Fin 512) (g j : Fin 4) :
    (gateRows lg rb (ix2 r (laneAt g j)) : EReal) = gateOf (scores (rowOf lg r)) (fun l => scores (rowOf lg r) l + (rb (ix2 0 ⟨l.val, by omega⟩) : EReal)) g j := by
  rw [← selRows_row, ← scoreRows_row]
  unfold gateRows gates gateOf
  pointwise
  rw [groupSum_apply, chosenRows_apply]
  have e : ∀ i : Fin 4, (select (chosenRows (selRows lg rb)) (scoreRows lg) (flanes (F := Ideal) 0x00000000#32) (ix2 r (laneAt g i)) : EReal)
      = if Chosen (rowOf (selRows lg rb) r) g i then rowOf (scoreRows lg) r (expertAt g i) else 0 := fun i => by
    pointwise
    rw [chosenRows_apply]
    unfold Scalar.select
    by_cases h : Chosen (rowOf (selRows lg rb) r) g i <;> simp [h] <;> rfl
  rw [Finset.sum_congr rfl fun i _ => e i]
  unfold Scalar.select
  by_cases h : Chosen (rowOf (selRows lg rb) r) g j <;> simp [h] <;> rfl

end Cert.Kernel2Ideal.Moe

end
-- ==== Proof.MoeLayer.lean ====
/- The mixture of experts as formulas: a token's hidden values, its experts' outputs weighted by the gates, the residual sum and the final norm. -/
module

public import proofs.«01_k».proof.Proof.Choice
public import proofs.«01_k».proof.Proof.Finite

@[expose] public section

noncomputable section

namespace Cert.Moe

open Idealize.ShloMosaic Cert.OutProj
open scoped BigOperators

/-- The logistic function. -/
def sigmoid (x : EReal) : EReal := Ideal.div 1 (1 + Ideal.exp (-x))

/-- A hidden value: the first product through the logistic gate, times the third. -/
def hiddenOf (u : Fin 1024 → EReal) (w1 w3 : Fin 1024 → Fin 256 → EReal) (f : Fin 256) : EReal :=
  (∑ k, u k * w1 k f) * sigmoid (∑ k, u k * w1 k f) * ∑ k, u k * w3 k f

/-- One token's operands: its modulated row, its logits, its residual row, the residual gate of its batch entry. -/
structure Token where
  u : Fin 1024 → EReal
  lg : Fin 16 → EReal
  h : Fin 1024 → EReal
  g2 : Fin 1024 → EReal

/-- The weights: the router's bias, the experts' matrices, the final norm's gain. -/
structure Experts where
  rb : Fin 16 → EReal
  w1 : Fin 16 → Fin 1024 → Fin 256 → EReal
  w3 : Fin 16 → Fin 1024 → Fin 256 → EReal
  w2 : Fin 16 → Fin 256 → Fin 1024 → EReal
  fg : Fin 1024 → EReal

/-- Token `t` of batch entry `b`, from the arrays. -/
def tokenOf (u : FVec Ideal ⟨3, ![4, 8192, 1024]⟩ .bf16) (lg : FVec Ideal ⟨3, ![4, 8192, 128]⟩ .f32) (h : FVec Ideal ⟨3, ![4, 8192, 1024]⟩ .f32) (g2 : FVec Ideal ⟨2, ![4, 1024]⟩ .f32)
    (b : Fin 4) (t : Fin 8192) : Token where
  u k := u (ix3 b t k)
  lg l := lg (ix3 b t ⟨l.val, by omega⟩)
  h d := h (ix3 b t d)
  g2 d := g2 (ix2 b d)

def expertsOf (rb : FVec Ideal ⟨1, ![16]⟩ .f32) (w1 w3 : FVec Ideal ⟨3, ![16, 1024, 256]⟩ .f32) (w2 : FVec Ideal ⟨3, ![16, 256, 1024]⟩ .f32) (fg : FVec Ideal ⟨1, ![1024]⟩ .f32) : Experts where
  rb l := rb (ix1 l)
  w1 e k f := w1 (ix3 e k f)
  w3 e k f := w3 (ix3 e k f)
  w2 e f d := w2 (ix3 e f d)
  fg d := fg (ix1 d)

/-- The batch entry and the token of row `r` of all tokens. -/
def entryOf (r : Fin 32768) : Fin 4 := ⟨r.val / 8192, by omega⟩
def withinOf (r : Fin 32768) : Fin 8192 := ⟨r.val % 8192, by omega⟩

variable (x : Token) (w : Experts)

/-- The token's scores, and the sums by which its experts are chosen. -/
def Token.scores : Fin 16 → EReal := fun l => sigmoid (x.lg l)
def sel : Fin 16 → EReal := fun l => x.scores l + w.rb l

/-- The weight of expert `e`. -/
def gate (e : Fin 16) : EReal := gateOf x.scores (sel x w) ⟨e.val / 4, by omega⟩ ⟨e.val % 4, by omega⟩

def hidden (e : Fin 16) : Fin 256 → EReal := hiddenOf x.u (w.w1 e) (w.w3 e)

/-- The experts' sum, each hidden value weighted before the second product … -/
def weightedHidden (d : Fin 1024) : EReal := ∑ e, ∑ f, hidden x w e f * gate x w e * w.w2 e f d
/-- … and each expert's output weighted after it. -/
def weightedOutput (d : Fin 1024) : EReal := ∑ e, (∑ f, hidden x w e f * w.w2 e f d) * gate x w e

/-- The residual sum, and its normalised row. -/
def residual (y : Fin 1024 → EReal) (d : Fin 1024) : EReal := x.h d + x.g2 d * y d
def normed (y : Fin 1024 → EReal) (d : Fin 1024) : EReal := residual x y d * invRms (residual x y) * w.fg d

/-- The logistic function of anything above minus infinity is a positive real. -/
theorem sigmoid_pos {a : EReal} (h : a ≠ ⊥) : ∃ r : ℝ, 0 < r ∧ sigmoid a = (r : EReal) := by
  have real : ∃ r : ℝ, 0 ≤ r ∧ Ideal.exp (-a) = (r : EReal) := by
    induction a with
    | bot => exact absurd rfl h
    | top => exact ⟨0, le_refl _, rfl⟩
    | coe a => exact ⟨Real.exp (-a), (Real.exp_pos _).le, by rw [← EReal.coe_neg]; rfl⟩
  obtain ⟨r, hr, e⟩ := real
  have hp : 0 < 1 + r := by positivity
  refine ⟨1 * (1 / (1 + r)), by positivity, ?_⟩
  unfold sigmoid
  rw [e, ← EReal.coe_one, ← EReal.coe_add, Ideal.div_coe hp.ne', ← EReal.coe_mul]

theorem sum_coe {ι : Type} (s : Finset ι) (v : ι → ℝ) : ((∑ f ∈ s, v f : ℝ) : EReal) = ∑ f ∈ s, ((v f : ℝ) : EReal) := by
  classical
  induction s using Finset.induction_on with
  | empty => simp
  | insert i s hi ih => rw [Finset.sum_insert hi, Finset.sum_insert hi, EReal.coe_add, ih]

/-- A chosen expert's score is positive, so the sum it is divided by is a positive real. -/
theorem gate_nonneg {x : Token} (hx : ∀ l, x.lg l ≠ ⊥) (w : Experts) (e : Fin 16) : NonNeg (gate x w e) := by
  unfold gate gateOf
  generalize (⟨e.val / 4, _⟩ : Fin 4) = g
  generalize (⟨e.val % 4, _⟩ : Fin 4) = j
  by_cases h : Chosen (sel x w) g j
  · rw [if_pos h]
    have pos : ∀ l, ∃ r : ℝ, 0 < r ∧ x.scores l = (r : EReal) := fun l => sigmoid_pos (hx l)
    choose s hs es using pos
    have whole : (∑ i, if Chosen (sel x w) g i then x.scores (expertAt g i) else 0) = ((∑ i, if Chosen (sel x w) g i then s (expertAt g i) else 0 : ℝ) : EReal) := by
      rw [sum_coe]
      refine Finset.sum_congr rfl fun i _ => ?_
      split
      · exact es _
      · rfl
    have hp : 0 < ∑ i, if Chosen (sel x w) g i then s (expertAt g i) else 0 := by
      refine Finset.sum_pos' (fun i _ => ?_) ⟨j, Finset.mem_univ j, ?_⟩
      · split
        · exact (hs _).le
        · exact le_refl _
      · rw [if_pos h]; exact hs _
    rw [whole, es, Ideal.div_coe hp.ne', ← EReal.coe_mul]
    exact ⟨_, mul_nonneg (hs _).le (one_div_nonneg.mpr hp.le), rfl⟩
  · rw [if_neg h]
    exact ⟨0, le_refl _, rfl⟩

/-- A product with a real at least zero distributes over a sum, whatever the terms are. -/
theorem sum_mul_nonneg {ι : Type} (s : Finset ι) (a : ι → EReal) {g : EReal} (hg : NonNeg g) : (∑ f ∈ s, a f) * g = ∑ f ∈ s, a f * g := by
  classical
  obtain ⟨r, hr, rfl⟩ := hg
  induction s using Finset.induction_on with
  | empty => simp
  | insert i s hi ih =>
    rw [Finset.sum_insert hi, Finset.sum_insert hi, EReal.right_distrib_of_nonneg_of_ne_top (EReal.coe_nonneg.mpr hr) (EReal.coe_ne_top r), ih]

/-- The gate, a real at least zero, may weigh the hidden values or the output. -/
theorem weighted_eq {x : Token} (hx : ∀ l, x.lg l ≠ ⊥) (w : Experts) : weightedHidden x w = weightedOutput x w := by
  funext d
  refine Finset.sum_congr rfl fun e _ => ?_
  rw [sum_mul_nonneg _ _ (gate_nonneg hx w e)]
  exact Finset.sum_congr rfl fun f _ => mul_right_comm _ _ _

end Cert.Moe

end
-- ==== Proof.MoeApply.lean ====
/- A block of the mixture of experts at an index. -/
module

public import proofs.«01_k».proof.Proof.MoeGates
public import proofs.«01_k».proof.Proof.MoeLayer

@[expose] public section

noncomputable section

namespace Cert.Kernel2Ideal.Moe

open Cert.Kernel2Ideal Cert.Kernel2Ideal.Gen Cert.Moe Cert.OutProj
open Idealize.ShloMosaic
open scoped BigOperators

/-- The words of two lanes are the same only when the lanes are. -/
theorem lane_eq (l : Fin 128) (e : Fin 16) : IntOp.cmpi .eq (BitVec.ofNat 32 l.val) (BitVec.ofNat 32 e.val) = if l.val = e.val then 1#1 else 0#1 := by
  show BitVec.ofBool (BitVec.ofNat 32 l.val == BitVec.ofNat 32 e.val) = _
  by_cases h : l.val = e.val
  · rw [h]; simp
  · rw [if_neg h]
    refine congrArg BitVec.ofBool (beq_false_of_ne fun q => h ?_)
    have := congrArg BitVec.toNat q
    simp only [BitVec.toNat_ofNat] at this
    omega

/-- The gate's column: of all lanes only the expert's own counts. -/
theorem column (g : Fin 128 → EReal) (e : Fin 16) :
    (∑ l : Fin 128, Scalar.select (IntOp.cmpi .eq (BitVec.ofNat 32 l.val) (BitVec.ofNat 32 e.val)) (g l) 0) = g ⟨e.val, by omega⟩ := by
  rw [Finset.sum_eq_single (⟨e.val, by omega⟩ : Fin 128)]
  · rw [lane_eq]; simp [Scalar.select]
  · intro l _ h
    rw [lane_eq, if_neg fun q => h (Fin.ext q)]
    exact if_neg (by decide)
  · simp

theorem expert_apply (e : Fin 16) (u : FVec Ideal S512x1024 .bf16) (g : FVec Ideal S512x128 .f32) (w13 : Vec Ideal S16x1024x512 .bf16) (w2 : Vec Ideal S16x256x1024 .bf16) (r : Fin 512) (d : Fin 1024) :
    (expert (BitVec.ofNat 32 e.val) u g (slice13 w13 e) (slice2 w2 e) (ix2 r d) : EReal)
      = ∑ f : Fin 256, hiddenOf (fun k => u (ix2 r k)) (fun k f => w13 (ix3 e k ⟨f.val, by omega⟩)) (fun k f => w13 (ix3 e k ⟨256 + f.val, by omega⟩)) f
          * g (ix2 r ⟨e.val, by omega⟩) * w2 (ix3 e f d) := by
  unfold expert sigm
  pointwise
  simp only [slice13_apply, slice2_apply, column (fun l => g (ix2 r l)) e, zero_sub]
  rfl

/-- The experts one after another are their sum. -/
theorem mixed_apply (u : FVec Ideal S512x1024 .bf16) (g : FVec Ideal S512x128 .f32) (w13 : Vec Ideal S16x1024x512 .bf16) (w2 : Vec Ideal S16x256x1024 .bf16) (r : Fin 512) (d : Fin 1024) :
    ∀ (n : ℕ) (h : n < 16), (mixed u g w13 w2 n h (ix2 r d) : EReal)
      = ∑ i : Fin (n + 1), (expert (BitVec.ofNat 32 i.val) u g (slice13 w13 ⟨i.val, by omega⟩) (slice2 w2 ⟨i.val, by omega⟩) (ix2 r d) : EReal)
  | 0, h => by rw [Fin.sum_univ_one]; rfl
  | n + 1, h => by
    rw [Fin.sum_univ_castSucc]
    have ih := mixed_apply u g w13 w2 r d n (Nat.lt_of_succ_lt h)
    show (mixed u g w13 w2 n (Nat.lt_of_succ_lt h) (ix2 r d) : EReal) + _ = _
    rw [ih]
    rfl

theorem last_apply (y : FVec Ideal S512x1024 .f32) (h : Vec Ideal S512x1024 .f32) (g2 : Vec Ideal S1x1x1024 .f32) (fg : Vec Ideal S1x1024 .f32) (r : Fin 512) (d : Fin 1024) :
    (k0_pay1 y (k0_pay97 h) g2 fg (ix2 r d) : EReal)
      = (h (ix2 r d) + g2 (ix3 0 0 d) * y (ix2 r d)) * invRms (fun k => h (ix2 r k) + g2 (ix3 0 0 k) * y (ix2 r k)) * fg (ix2 0 d) := by
  unfold invRms
  pointwise [k0_pay1, k0_pay97]

end Cert.Kernel2Ideal.Moe

end
-- ==== Proof.MoeArrays.lean ====
/- The arrays the host prepares for the mixture of experts, element by element, over the extended reals. -/
module

public import proofs.«01_k».proof.Proof.Gen.Kernel2Ideal.Frame
public import proofs.«01_k».proof.Proof.MoeLayer
public import Idealize.ShloMosaic.Lib.StableHlo.Run
public import Idealize.ShloMosaic.Lib.Pointwise

@[expose] public section

set_option maxRecDepth 16384

noncomputable section

namespace Cert.Kernel2Ideal.Moe

open Cert.Kernel2Ideal Cert.Kernel2Ideal.Gen Cert.Moe
open Idealize.ShloMosaic Idealize.ShloMosaic.TcCoe Idealize.ShloMosaic.StableHlo

variable (m : (ℓ : Loc nD τ sig) → Buf (Elt Ideal) ℓ) (c : Dev nD)

/-- Argument arrays as the call's extended reals. -/
abbrev arg0 : FVec Ideal S4x8192x1024 .bf16 := m ((c.tc : Thread nD τ).loc main_arg0)
abbrev arg1 : FVec Ideal S4x8192x128 .f32 := m ((c.tc : Thread nD τ).loc main_arg1)
abbrev arg2 : FVec Ideal S16 .f32 := m ((c.tc : Thread nD τ).loc main_arg2)
abbrev arg3 : FVec Ideal S4x8192x1024 .f32 := m ((c.tc : Thread nD τ).loc main_arg3)
abbrev arg4 : FVec Ideal S16x1024x256 .f32 := m ((c.tc : Thread nD τ).loc main_arg4)
abbrev arg5 : FVec Ideal S16x1024x256 .f32 := m ((c.tc : Thread nD τ).loc main_arg5)
abbrev arg6 : FVec Ideal S16x256x1024 .f32 := m ((c.tc : Thread nD τ).loc main_arg6)
abbrev arg7 : FVec Ideal S4x1024 .f32 := m ((c.tc : Thread nD τ).loc main_arg7)
abbrev arg8 : FVec Ideal S1024 .f32 := m ((c.tc : Thread nD τ).loc main_arg8)

/-- The bias with its lanes filled up to 128, in one row. -/
def padded (b : FVec Ideal S16 .f32) : FVec Ideal S128 .f32 :=
  pad S128 ![0] ![112] ![0] b (sitofp .f32 (constantI S_ 32 0#32)) pads_S16_S128_01120 h_S_

def biasRow (b : FVec Ideal S16 .f32) : FVec Ideal S1x128 .f32 := shapeCast S1x128 (padded b) shapeCasts_S128_S1x128

theorem padded_apply (b : FVec Ideal S16 .f32) (l : Fin 128) : (padded b (ix1 l) : EReal) = if h : l.val < 16 then b (ix1 ⟨l.val, h⟩) else 0 := by
  have z : (FloatOps.sitofp (F := Ideal) .f32 (0#32) : EReal) = 0 := by
    show (((0#32 : BitVec 32).toInt : ℝ) : EReal) = 0
    simp
  unfold padded; pointwise; rw [z]

theorem V_main_v1 : V m c main_v1 = (biasRow (arg2 m c) : FVec Ideal S1x128 .f32) := by
  simp only [V, hostOps0, hostOps0_1, hostOps0_2, List.flatten_cons, List.flatten_nil, List.append_nil, List.cons_append, List.nil_append, TRef.binary, TRef.unary, TRef.toBuf, TRef.ofBuf, cast_eq]
  after_results_simp <;> rfl

theorem V_main_v3 : V m c main_v3 = (truncf .bf16 (concatenate S16x1024x512 2 [⟨S16x1024x256, arg4 m c⟩, ⟨S16x1024x256, arg5 m c⟩] concatenates_S16x1024x256_S16x1024x256_S16x1024x512_d2 : FVec Ideal S16x1024x512 .f32) bitsLt_bf16_f32 : FVec Ideal S16x1024x512 .bf16) := by
  simp only [V, hostOps0, hostOps0_1, hostOps0_2, List.flatten_cons, List.flatten_nil, List.append_nil, List.cons_append, List.nil_append, TRef.binary, TRef.unary, TRef.toBuf, TRef.ofBuf, cast_eq]
  after_results_simp <;> rfl

theorem V_main_v4 : V m c main_v4 = (truncf .bf16 (arg6 m c) bitsLt_bf16_f32 : FVec Ideal S16x256x1024 .bf16) := by
  simp only [V, hostOps0, hostOps0_1, hostOps0_2, List.flatten_cons, List.flatten_nil, List.append_nil, List.cons_append, List.nil_append, TRef.binary, TRef.unary, TRef.toBuf, TRef.ofBuf, cast_eq]
  after_results_simp <;> rfl

theorem V_main_v5 : V m c main_v5 = (shapeCast S1x1024 (arg8 m c) shapeCasts_S1024_S1x1024 : FVec Ideal S1x1024 .f32) := by
  simp only [V, hostOps0, hostOps0_1, hostOps0_2, List.flatten_cons, List.flatten_nil, List.append_nil, List.cons_append, List.nil_append, TRef.binary, TRef.unary, TRef.toBuf, TRef.ofBuf, cast_eq]
  after_results_simp <;> rfl

theorem V_main_v6 : V m c main_v6 = (shapeCast S32768x1024 (arg0 m c) shapeCasts_S4x8192x1024_S32768x1024 : FVec Ideal S32768x1024 .bf16) := by
  simp only [V, hostOps0, hostOps0_1, hostOps0_2, List.flatten_cons, List.flatten_nil, List.append_nil, List.cons_append, List.nil_append, TRef.binary, TRef.unary, TRef.toBuf, TRef.ofBuf, cast_eq]
  after_results_simp <;> rfl

theorem V_main_v7 : V m c main_v7 = (shapeCast S32768x128 (arg1 m c) shapeCasts_S4x8192x128_S32768x128 : FVec Ideal S32768x128 .f32) := by
  simp only [V, hostOps0, hostOps0_1, hostOps0_2, List.flatten_cons, List.flatten_nil, List.append_nil, List.cons_append, List.nil_append, TRef.binary, TRef.unary, TRef.toBuf, TRef.ofBuf, cast_eq]
  after_results_simp <;> rfl

theorem V_main_v8 : V m c main_v8 = (shapeCast S32768x1024 (arg3 m c) shapeCasts_S4x8192x1024_S32768x1024 : FVec Ideal S32768x1024 .f32) := by
  simp only [V, hostOps0, hostOps0_1, hostOps0_2, List.flatten_cons, List.flatten_nil, List.append_nil, List.cons_append, List.nil_append, TRef.binary, TRef.unary, TRef.toBuf, TRef.ofBuf, cast_eq]
  after_results_simp <;> rfl

theorem V_main_v9 : V m c main_v9 = (broadcastInDim S4x1x1024 ![0, 2] bcast_S4x1024_S4x1x1024_0_2 (arg7 m c) : FVec Ideal S4x1x1024 .f32) := by
  simp only [V, hostOps0, hostOps0_1, hostOps0_2, List.flatten_cons, List.flatten_nil, List.append_nil, List.cons_append, List.nil_append, TRef.binary, TRef.unary, TRef.toBuf, TRef.ofBuf, cast_eq]
  after_results_simp <;> rfl

/-! Element by element. -/

theorem bias_apply (e : Fin 16) : (V m c main_v1 (ix2 0 ⟨e.val, by omega⟩ : S1x128.Idx) : EReal) = arg2 m c (ix1 e) := by
  have row (x : FVec Ideal S128 .f32) (l : Fin 128) : (shapeCast S1x128 x shapeCasts_S128_S1x128 (ix2 0 l) : EReal) = x (ix1 l) := by pointwise
  rw [V_main_v1]
  refine (row (padded (arg2 m c)) ⟨e.val, by omega⟩).trans ?_
  rw [padded_apply]
  exact dif_pos e.isLt

/-- The first and the third matrix lie side by side; what the rounding keeps over the extended reals is everything. -/
theorem w1_apply (e : Fin 16) (k : Fin 1024) (f : Fin 256) : (V m c main_v3 (ix3 e k ⟨f.val, by omega⟩ : S16x1024x512.Idx) : EReal) = arg4 m c (ix3 e k f) := by
  rw [V_main_v3]; generalize arg4 m c = y; generalize arg5 m c = z; pointwise
theorem w3_apply (e : Fin 16) (k : Fin 1024) (f : Fin 256) : (V m c main_v3 (ix3 e k ⟨256 + f.val, by omega⟩ : S16x1024x512.Idx) : EReal) = arg5 m c (ix3 e k f) := by
  rw [V_main_v3]; generalize arg4 m c = y; generalize arg5 m c = z; pointwise
theorem w2_apply (e : Fin 16) (f : Fin 256) (d : Fin 1024) : (V m c main_v4 (ix3 e f d : S16x256x1024.Idx) : EReal) = arg6 m c (ix3 e f d) := by
  rw [V_main_v4]; pointwise
theorem fg_apply (d : Fin 1024) : (V m c main_v5 (ix2 0 d : S1x1024.Idx) : EReal) = arg8 m c (ix1 d) := by
  rw [V_main_v5]; pointwise
theorem u_apply (r : Fin 32768) (k : Fin 1024) : (V m c main_v6 (ix2 r k : S32768x1024.Idx) : EReal) = arg0 m c (ix3 (entryOf r) (withinOf r) k) := by
  rw [V_main_v6]; generalize arg0 m c = y; pointwise; rfl
theorem lg_apply (r : Fin 32768) (l : Fin 128) : (V m c main_v7 (ix2 r l : S32768x128.Idx) : EReal) = arg1 m c (ix3 (entryOf r) (withinOf r) l) := by
  rw [V_main_v7]; generalize arg1 m c = y; pointwise; rfl
theorem h_apply (r : Fin 32768) (d : Fin 1024) : (V m c main_v8 (ix2 r d : S32768x1024.Idx) : EReal) = arg3 m c (ix3 (entryOf r) (withinOf r) d) := by
  rw [V_main_v8]; generalize arg3 m c = y; pointwise; rfl
theorem g2_apply (b : Fin 4) (d : Fin 1024) : (V m c main_v9 (ix3 b 0 d : S4x1x1024.Idx) : EReal) = arg7 m c (ix2 b d) := by
  rw [V_main_v9]; pointwise

end Cert.Kernel2Ideal.Moe

end
-- ==== Proof.MoeBlocks.lean ====
/- What the mixture of experts' body leaves at each grid point: the block's result from the gates it carries, and the next tile's gates. -/
module

public import proofs.«01_k».proof.Proof.Gen.Kernel2Ideal.Value
public import proofs.«01_k».proof.Proof.MoeForms

@[expose] public section

set_option maxRecDepth 65536

noncomputable section

namespace Cert.Kernel2Ideal.Moe

open Cert.Kernel2Ideal Cert.Kernel2Ideal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg1 : Memref sig .tc .vmem S512x1024 .bf16) (harg1 : arg1.IsWhole) (arg2 : Memref sig .tc .vmem S512x128 .f32) (harg2 : arg2.IsWhole)
  (arg3 : Memref sig .tc .vmem S512x128 .f32) (harg3 : arg3.IsWhole) (arg4 : Memref sig .tc .vmem S1x128 .f32) (harg4 : arg4.IsWhole) (arg5 : Memref sig .tc .vmem S512x1024 .f32) (harg5 : arg5.IsWhole)
  (arg6 : Memref sig .tc .vmem S16x1024x512 .bf16) (harg6 : arg6.IsWhole) (arg7 : Memref sig .tc .vmem S16x256x1024 .bf16) (harg7 : arg7.IsWhole) (arg8 : Memref sig .tc .vmem S1x1x1024 .f32) (harg8 : arg8.IsWhole)
  (arg9 : Memref sig .tc .vmem S1x1024 .f32) (harg9 : arg9.IsWhole) (arg10 : Memref sig .tc .vmem S512x1024 .f32) (harg10 : arg10.IsWhole) (arg11 : Memref sig .tc .vmem S512x128 .f32) (harg11 : arg11.IsWhole)
  (x0 : Vec F S512x1024 .bf16) (x1 : Vec F S512x128 .f32) (x2 : Vec F S512x128 .f32) (x3 : Vec F S1x128 .f32) (x4 : Vec F S512x1024 .f32) (x5 : Vec F S16x1024x512 .bf16) (x6 : Vec F S16x256x1024 .bf16)
  (x7 : Vec F S1x1x1024 .f32) (x8 : Vec F S1x1024 .f32) (xs0 : Vec F S512x128 .f32)

/-- After a point other than the first the scratch holds the next tile's gates. -/
theorem scratch_B (hc0 : ¬cond0_0 i) :
    sout0_B_0 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0 = gateRows x2 x3 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0)]
  unfold kernelRun0_B
  dsimp only
  rw [View.canon_unit_zero hz2]
  sl_unfold_words
  simp only [View.readAt_eq_ld, harg3.read_unread, harg4.read_unread, View.ld_unit_zero (S := S512x128) hz2, View.ld_unit_zero (S := S1x128) hz2]
  rfl

/-- … and after the first point too. -/
theorem scratch_A (hc0 : cond0_0 i) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 x7 x8 = gateRows x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  sl_unfold_words
  rw [View.canon_cons_unit_zero (S := S512x128) hz2]
  simp only [View.readAt_eq_ld, harg3.read_unread, harg4.read_unread, View.ld_unit_zero (S := S512x128) hz2, View.ld_unit_zero (S := S1x128) hz2]
  rfl

/-- After a point other than the first the output's block is the block's result from the carried gates. -/
theorem out_B (hc0 : ¬cond0_0 i) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0 = blockOut x0 xs0 x4 x5 x6 x7 x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0)]
  unfold kernelRun0_B
  dsimp only
  rw [View.canon_unit_zero hz2]
  sl_unfold_words
  simp only [View.readAt_eq_ld, harg1.read_unread, harg5.read_unread, harg6.read_unread, harg7.read_unread, harg8.read_unread, harg9.read_unread, harg11.read_unread,
    View.ld_unit_zero (S := S512x128) hz2, View.ld_unit_zero (S := S512x1024) hz2, View.ld_unit_zero (S := S1x1024) hz2, View.ld_unit_zero (S := S1x1x1024) hz3]
  unfold blockOut
  simp only [mixed]
  rfl

/-- After the first point the output's block is the block's result from the gates of the point's own logits. -/
theorem out_A (hc0 : cond0_0 i) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 = blockOut x0 (gateRows x1 x3) x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  rw [View.canon_unit_zero hz2]
  sl_unfold_words
  rw [View.readCov_unit_zero (S := S512x128) _ hz2]
  simp only [View.readAt_eq_ld, harg1.read_unread, harg2.read_unread, harg4.read_unread, harg5.read_unread, harg6.read_unread, harg7.read_unread, harg8.read_unread, harg9.read_unread,
    View.ld_unit_zero (S := S512x128) hz2, View.ld_unit_zero (S := S1x128) hz2, View.ld_unit_zero (S := S512x1024) hz2, View.ld_unit_zero (S := S1x1024) hz2, View.ld_unit_zero (S := S1x1x1024) hz3]
  unfold blockOut
  simp only [mixed]
  rfl

end Cert.Kernel2Ideal.Moe

end
-- ==== Proof.MoePoints.lean ====
/- The mixture of experts over its grid: at every point the block's result comes from the gates of the point's own logits, so the array ends block by block as one formula. -/
module

public import proofs.«01_k».proof.Proof.MoeBlocks

@[expose] public section

noncomputable section

namespace Cert.Kernel2Ideal.Moe

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ) (c : Dev nD)

/-! ## The windows' blocks -/

theorem index0 : ∀ t : Fin cfg0.N, win0_0.index t 0 = t.val ∧ win0_0.index t 1 = 0 := (by decide +kernel : ∀ t : Fin grid0.N, _)
theorem index1 : ∀ t : Fin cfg0.N, win0_1.index t 0 = t.val ∧ win0_1.index t 1 = 0 := (by decide +kernel : ∀ t : Fin grid0.N, _)
theorem index2 : ∀ t : Fin cfg0.N, win0_2.index t 0 = min (t.val + 1) 63 ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = 0 ∧ win0_5.index t 1 = 0 ∧ win0_5.index t 2 = 0 := (by decide +kernel : ∀ t : Fin grid0.N, _)
theorem index6 : ∀ t : Fin cfg0.N, win0_6.index t 0 = 0 ∧ win0_6.index t 1 = 0 ∧ win0_6.index t 2 = 0 := (by decide +kernel : ∀ t : Fin grid0.N, _)
theorem index7 : ∀ t : Fin cfg0.N, win0_7.index t 0 = t.val / 16 ∧ win0_7.index t 1 = 0 ∧ win0_7.index t 2 = 0 := (by decide +kernel : ∀ t : Fin grid0.N, _)
theorem index8 : ∀ t : Fin cfg0.N, win0_8.index t 0 = 0 ∧ win0_8.index t 1 = 0 := (by decide +kernel : ∀ t : Fin grid0.N, _)

/-- A row of the whole array from a block's number and the row in the block. -/
def rowAt (t : Fin 64) (r : Fin 512) : Fin 32768 := ⟨512 * t.val + r.val, by omega⟩

/-- A point's number. -/
def pt (t : Fin cfg0.N) : Fin 64 := ⟨t.val, lt_of_lt_of_eq t.isLt N_0⟩

theorem iblk0_apply (t : Fin cfg0.N) (r : Fin 512) (k : Fin 1024) :
    (iblk m c 0 t : Vec F S512x1024 .bf16) (ix2 r k) = (V m c main_v6 : Vec F S32768x1024 .bf16) (ix2 (rowAt (pt t) r) k) := by
  unfold iblk
  rw [View.read_apply]
  refine congrArg (V m c main_v6) (funext fun a => Fin.ext ?_)
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem iblk1_apply (t : Fin cfg0.N) (r : Fin 512) (k : Fin 128) :
    (iblk m c 1 t : Vec F S512x128 .f32) (ix2 r k) = (V m c main_v7 : Vec F S32768x128 .f32) (ix2 (rowAt (pt t) r) k) := by
  unfold iblk
  rw [View.read_apply]
  refine congrArg (V m c main_v7) (funext fun a => Fin.ext ?_)
  match a with
  | ⟨0, _⟩ => show win0_1.index t 0 * 512 + 1 * r.val = 512 * t.val + r.val; rw [(index1 t).1]; omega
  | ⟨1, _⟩ => show win0_1.index t 1 * 128 + 1 * k.val = k.val; rw [(index1 t).2]; omega

theorem iblk2_apply (t : Fin cfg0.N) (ht : t.val + 1 < 64) (r : Fin 512) (k : Fin 128) :
    (iblk m c 2 t : Vec F S512x128 .f32) (ix2 r k) = (V m c main_v7 : Vec F S32768x128 .f32) (ix2 (rowAt ⟨t.val + 1, ht⟩ r) k) := by
  unfold iblk
  rw [View.read_apply]
  refine congrArg (V m c main_v7) (funext fun a => Fin.ext ?_)
  match a with
  | ⟨0, _⟩ => show win0_2.index t 0 * 512 + 1 * r.val = 512 * (t.val + 1) + r.val; rw [(index2 t).1]; omega
  | ⟨1, _⟩ => show win0_2.index t 1 * 128 + 1 * k.val = k.val; rw [(index2 t).2]; omega

theorem iblk3_eq (t : Fin cfg0.N) : (iblk m c 3 t : Vec F S1x128 .f32) = V m c main_v1 := by
  funext j
  unfold iblk
  rw [View.read_apply]
  refine congrArg (V m c main_v1) (funext fun a => Fin.ext ?_)
  match a with
  | ⟨0, _⟩ => show win0_3.index t 0 * 1 + 1 * (j 0).val = (j 0).val; rw [(index3 t).1]; omega
  | ⟨1, _⟩ => show win0_3.index t 1 * 128 + 1 * (j 1).val = (j 1).val; rw [(index3 t).2]; omega

theorem iblk4_apply (t : Fin cfg0.N) (r : Fin 512) (k : Fin 1024) :
    (iblk m c 4 t : Vec F S512x1024 .f32) (ix2 r k) = (V m c main_v8 : Vec F S32768x1024 .f32) (ix2 (rowAt (pt t) r) k) := by
  unfold iblk
  rw [View.read_apply]
  refine congrArg (V m c main_v8) (funext fun a => Fin.ext ?_)
  match a with
  | ⟨0, _⟩ => show win0_4.index t 0 * 512 + 1 * r.val = 512 * t.val + r.val; rw [(index4 t).1]; omega
  | ⟨1, _⟩ => show win0_4.index t 1 * 1024 + 1 * k.val = k.val; rw [(index4 t).2]; omega

theorem iblk5_eq (t : Fin cfg0.N) : (iblk m c 5 t : Vec F S16x1024x512 .bf16) = V m c main_v3 := by
  funext j
  unfold iblk
  rw [View.read_apply]
  refine congrArg (V m c main_v3) (funext fun a => Fin.ext ?_)
  match a with
  | ⟨0, _⟩ => show win0_5.index t 0 * 16 + 1 * (j 0).val = (j 0).val; rw [(index5 t).1]; omega
  | ⟨1, _⟩ => show win0_5.index t 1 * 1024 + 1 * (j 1).val = (j 1).val; rw [(index5 t).2.1]; omega
  | ⟨2, _⟩ => show win0_5.index t 2 * 512 + 1 * (j 2).val = (j 2).val; rw [(index5 t).2.2]; omega

theorem iblk6_eq (t : Fin cfg0.N) : (iblk m c 6 t : Vec F S16x256x1024 .bf16) = V m c main_v4 := by
  funext j
  unfold iblk
  rw [View.read_apply]
  refine congrArg (V m c main_v4) (funext fun a => Fin.ext ?_)
  match a with
  | ⟨0, _⟩ => show win0_6.index t 0 * 16 + 1 * (j 0).val = (j 0).val; rw [(index6 t).1]; omega
  | ⟨1, _⟩ => show win0_6.index t 1 * 256 + 1 * (j 1).val = (j 1).val; rw [(index6 t).2.1]; omega
  | ⟨2, _⟩ => show win0_6.index t 2 * 1024 + 1 * (j 2).val = (j 2).val; rw [(index6 t).2.2]; omega

theorem iblk7_apply (t : Fin cfg0.N) (k : Fin 1024) :
    (iblk m c 7 t : Vec F S1x1x1024 .f32) (ix3 0 0 k) = (V m c main_v9 : Vec F S4x1x1024 .f32) (ix3 ⟨(pt t).val / 16, by omega⟩ 0 k) := by
  unfold iblk
  rw [View.read_apply]
  refine congrArg (V m c main_v9) (funext fun a => Fin.ext ?_)
  match a with
  | ⟨0, _⟩ => show win0_7.index t 0 * 1 + 1 * 0 = t.val / 16; rw [(index7 t).1]; omega
  | ⟨1, _⟩ => show win0_7.index t 1 * 1 + 1 * 0 = 0; rw [(index7 t).2.1]
  | ⟨2, _⟩ => show win0_7.index t 2 * 1024 + 1 * k.val = k.val; rw [(index7 t).2.2]; omega

theorem iblk8_eq (t : Fin cfg0.N) : (iblk m c 8 t : Vec F S1x1024 .f32) = V m c main_v5 := by
  funext j
  unfold iblk
  rw [View.read_apply]
  refine congrArg (V m c main_v5) (funext fun a => Fin.ext ?_)
  match a with
  | ⟨0, _⟩ => show win0_8.index t 0 * 1 + 1 * (j 0).val = (j 0).val; rw [(index8 t).1]; omega
  | ⟨1, _⟩ => show win0_8.index t 1 * 1024 + 1 * (j 1).val = (j 1).val; rw [(index8 t).2]; omega

/-- The logits handed to a point as the next tile's are the next point's own. -/
theorem next_logits (n : ℕ) (h : n + 1 < cfg0.N) :
    (iblk m c 2 ⟨n, Nat.lt_of_succ_lt h⟩ : Vec F S512x128 .f32) = iblk m c 1 ⟨n + 1, h⟩ := by
  funext j
  obtain ⟨r, k, rfl⟩ : ∃ r k, j = ix2 r k := ⟨j 0, j 1, funext fun a => by fin_cases a <;> rfl⟩
  rw [iblk2_apply m c ⟨n, Nat.lt_of_succ_lt h⟩ (lt_of_lt_of_eq h N_0), iblk1_apply]
  rfl

/-! ## The grid -/

/-- A point's block from the gates of the point's own logits. -/
def pointOut (t : Fin cfg0.N) : Vec F S512x1024 .f32 :=
  blockOut (iblk m c 0 t) (gateRows (iblk m c 1 t) (V m c main_v1)) (iblk m c 4 t) (V m c main_v3) (V m c main_v4) (iblk m c 7 t) (V m c main_v5)

/-- After every point: the point's block, and the gates of the next tile's logits. -/
theorem points : ∀ (n : ℕ) (h : n < cfg0.N), outsAt0 m c n h = (pointOut m c ⟨n, h⟩, gateRows (iblk m c 2 ⟨n, h⟩) (V m c main_v1))
  | 0, h => by
    rw [outsAt0_A m c ⟨0, h⟩ rfl, out_A, scratch_A, iblk3_eq, iblk5_eq, iblk6_eq, iblk8_eq]
    rfl
  | n + 1, h => by
    have hN : cfg0.N = 64 := N_0
    have hB : ¬(⟨n + 1, h⟩ : Fin cfg0.N).val % 64 = 0 := by dsimp only; omega
    rw [outsAt0_B m c ⟨n + 1, h⟩ hB, out_B, scratch_B, iblk3_eq, iblk5_eq, iblk6_eq, iblk8_eq]
    have e : (outsAt0 m c n (Nat.lt_of_succ_lt h)).2 = gateRows (iblk m c 1 ⟨n + 1, h⟩) (V m c main_v1) := by
      rw [points n, next_logits]
    refine Prod.ext ?_ rfl
    show blockOut _ (outsAt0 m c n _).2 _ _ _ _ _ = _
    rw [e]
    rfl

/-- The result array at an index: the point's block that holds it. -/
theorem result_apply (t : Fin 64) (r : Fin 512) (d : Fin 1024) :
    (Value.G9 m c : Vec F S32768x1024 .f32) (ix2 (rowAt t r) d) = pointOut m c ⟨t.val, lt_of_lt_of_eq t.isLt N_0.symm⟩ (ix2 r d) := by
  have hp : Value.pt9Of (ix2 (rowAt t r) d) = t.val := by
    show 1 * ((512 * t.val + r.val) / 512 - 0) + 1 * (d.val / 1024 - 0) = t.val
    omega
  have hl : Value.loc9Of (ix2 (rowAt t r) d) = ix2 r d := by
    funext a
    apply Fin.ext
    match a with
    | ⟨0, _⟩ => show (512 * t.val + r.val) % 512 = r.val; omega
    | ⟨1, _⟩ => show d.val % 1024 = d.val; omega
  show Value.G9 m c (ix2 (rowAt t r) d) = _
  unfold Value.G9
  rw [dif_pos (by rw [hp]; exact lt_of_lt_of_eq t.isLt N_0.symm), hl, Value.fold0_congr m c _ _ t.val (by rw [Nat.zero_add]; exact lt_of_lt_of_eq t.isLt N_0.symm) hp,
    ← Value.outsAt0_sweep m c t.val (lt_of_lt_of_eq t.isLt N_0.symm), points]

end Cert.Kernel2Ideal.Moe

end
-- ==== Proof.MoeValues.lean ====
/- The mixture of experts' result at an index, from the launch's arguments. -/
module

public import proofs.«01_k».proof.Proof.MoeApply
public import proofs.«01_k».proof.Proof.MoeArrays
public import proofs.«01_k».proof.Proof.MoePoints

@[expose] public section

set_option maxRecDepth 16384

noncomputable section

namespace Cert.Kernel2Ideal.Moe

open Cert.Kernel2Ideal Cert.Kernel2Ideal.Gen Cert.Moe Cert.OutProj
open Idealize.ShloMosaic Idealize.ShloMosaic.TcCoe
open scoped BigOperators

/-- A block's sum over the experts at an index. -/
def mixAt (u : FVec Ideal S512x1024 .bf16) (g : FVec Ideal S512x128 .f32) (w13 : Vec Ideal S16x1024x512 .bf16) (w2 : Vec Ideal S16x256x1024 .bf16) (r : Fin 512) (d : Fin 1024) : EReal :=
  ∑ e : Fin 16, ∑ f : Fin 256, hiddenOf (fun k => u (ix2 r k)) (fun k f => w13 (ix3 e k ⟨f.val, by omega⟩)) (fun k f => w13 (ix3 e k ⟨256 + f.val, by omega⟩)) f
    * g (ix2 r ⟨e.val, by omega⟩) * w2 (ix3 e f d)

/-- The experts' sum of a block at an index. -/
theorem sum_apply (u : Vec Ideal S512x1024 .bf16) (g : FVec Ideal S512x128 .f32) (w13 : Vec Ideal S16x1024x512 .bf16) (w2 : Vec Ideal S16x256x1024 .bf16) (r : Fin 512) (d : Fin 1024) :
    (mixed (shapeCast S512x1024 u shapeCasts_S512x1024_S512x1024) g w13 w2 15 (by omega) (ix2 r d) : EReal) = mixAt u g w13 w2 r d := by
  have same : shapeCast S512x1024 u shapeCasts_S512x1024_S512x1024 = u := shapeCast_id u _
  rw [same, mixed_apply]
  exact Finset.sum_congr rfl fun e _ => expert_apply e u g w13 w2 r d

theorem blockOut_apply (u : Vec Ideal S512x1024 .bf16) (g : FVec Ideal S512x128 .f32) (h : Vec Ideal S512x1024 .f32) (w13 : Vec Ideal S16x1024x512 .bf16) (w2 : Vec Ideal S16x256x1024 .bf16)
    (g2 : Vec Ideal S1x1x1024 .f32) (fg : Vec Ideal S1x1024 .f32) (r : Fin 512) (d : Fin 1024) :
    (blockOut u g h w13 w2 g2 fg (ix2 r d) : EReal)
      = (h (ix2 r d) + g2 (ix3 0 0 d) * mixAt u g w13 w2 r d) * invRms (fun k => h (ix2 r k) + g2 (ix3 0 0 k) * mixAt u g w13 w2 r k) * fg (ix2 0 d) := by
  unfold blockOut
  rw [last_apply]
  simp only [sum_apply]

variable (m : (ℓ : Loc nD τ sig) → Buf (Elt Ideal) ℓ) (c : Dev nD)

/-- The arguments as the token's and the experts' operands. -/
def token (r : Fin 32768) : Token := tokenOf (arg0 m c) (arg1 m c) (arg3 m c) (arg7 m c) (entryOf r) (withinOf r)
def experts : Experts := expertsOf (arg2 m c) (arg4 m c) (arg5 m c) (arg6 m c) (arg8 m c)

/-- A point's gates are its tokens'. -/
theorem gate_apply (t : Fin cfg0.N) (r : Fin 512) (e : Fin 16) :
    (gateRows (iblk m c 1 t) (V m c main_v1) (ix2 r ⟨e.val, by omega⟩) : EReal) = gate (token m c (rowAt (pt t) r)) (experts m c) e := by
  have s : rowOf (iblk m c 1 t) r = (token m c (rowAt (pt t) r)).lg := by
    funext l
    show (iblk m c 1 t : Vec Ideal S512x128 .f32) (ix2 r ⟨l.val, _⟩) = _
    rw [iblk1_apply]
    exact lg_apply m c _ _
  have b : (fun l : Fin 16 => (V m c main_v1 (ix2 0 ⟨l.val, by omega⟩ : S1x128.Idx) : EReal)) = (experts m c).rb := funext fun l => bias_apply m c l
  have e4 : (⟨e.val, by omega⟩ : Fin 128) = laneAt ⟨e.val / 4, by omega⟩ ⟨e.val % 4, by omega⟩ := Fin.ext (by show e.val = 4 * (e.val / 4) + e.val % 4; omega)
  rw [e4, gateRows_apply, s]
  unfold gate sel
  rw [← b]
  rfl

/-- A point's sum over the experts, of a token. -/
theorem mix_apply (t : Fin cfg0.N) (r : Fin 512) (d : Fin 1024) :
    mixAt (iblk m c 0 t) (gateRows (iblk m c 1 t) (V m c main_v1)) (V m c main_v3) (V m c main_v4) r d = weightedHidden (token m c (rowAt (pt t) r)) (experts m c) d := by
  unfold mixAt
  refine Finset.sum_congr rfl fun e _ => Finset.sum_congr rfl fun f _ => ?_
  rw [gate_apply]
  have eu : (fun k => ((iblk m c 0 t : Vec Ideal S512x1024 .bf16) (ix2 r k) : EReal)) = (token m c (rowAt (pt t) r)).u :=
    funext fun k => (iblk0_apply m c t r k).trans (u_apply m c _ _)
  have e1 : (fun (k : Fin 1024) (f : Fin 256) => (V m c main_v3 (ix3 e k ⟨f.val, by omega⟩ : S16x1024x512.Idx) : EReal)) = (experts m c).w1 e :=
    funext fun k => funext fun f => w1_apply m c e k f
  have e3 : (fun (k : Fin 1024) (f : Fin 256) => (V m c main_v3 (ix3 e k ⟨256 + f.val, by omega⟩ : S16x1024x512.Idx) : EReal)) = (experts m c).w3 e :=
    funext fun k => funext fun f => w3_apply m c e k f
  have e2 : (V m c main_v4 (ix3 e f d : S16x256x1024.Idx) : EReal) = (experts m c).w2 e f d := w2_apply m c e f d
  rw [eu, e1, e3, e2]
  rfl

/-- A point's rows of the residual stream. -/
theorem rows_apply (t : Fin cfg0.N) (r : Fin 512) (d : Fin 1024) :
    ((iblk m c 4 t : Vec Ideal S512x1024 .f32) (ix2 r d) : EReal) = (token m c (rowAt (pt t) r)).h d :=
  (iblk4_apply m c t r d).trans (h_apply m c _ _)

/-- A point's factor of the residual sum. -/
theorem factor_apply (t : Fin cfg0.N) (r : Fin 512) (d : Fin 1024) :
    ((iblk m c 7 t : Vec Ideal S1x1x1024 .f32) (ix3 0 0 d) : EReal) = (token m c (rowAt (pt t) r)).g2 d := by
  have hb : (⟨(pt t).val / 16, by omega⟩ : Fin 4) = entryOf (rowAt (pt t) r) := Fin.ext (by show (pt t).val / 16 = (512 * (pt t).val + r.val) / 8192; omega)
  refine (iblk7_apply m c t d).trans ((g2_apply m c _ d).trans ?_)
  rw [hb]
  rfl

theorem point_apply (t : Fin cfg0.N) (r : Fin 512) (d : Fin 1024) :
    (pointOut m c t (ix2 r d) : EReal) = normed (token m c (rowAt (pt t) r)) (experts m c) (weightedHidden (token m c (rowAt (pt t) r)) (experts m c)) d := by
  have fe : (V m c main_v5 (ix2 0 d : S1x1024.Idx) : EReal) = (experts m c).fg d := fg_apply m c d
  unfold pointOut
  rw [blockOut_apply, fe]
  simp only [mix_apply m c t r, rows_apply m c t r, factor_apply m c t r]
  rfl

/-- The result at an index. -/
theorem value_apply (r : Fin 32768) (d : Fin 1024) :
    ((Value.G9 m c : Vec Ideal S32768x1024 .f32) (ix2 r d) : EReal) = normed (token m c r) (experts m c) (weightedHidden (token m c r) (experts m c)) d := by
  have hr : r = rowAt ⟨r.val / 512, by omega⟩ ⟨r.val % 512, by omega⟩ := Fin.ext (by show r.val = 512 * (r.val / 512) + r.val % 512; omega)
  have e := (result_apply m c ⟨r.val / 512, by omega⟩ ⟨r.val % 512, by omega⟩ d).trans (point_apply m c _ _ d)
  have hp : rowAt (pt ⟨r.val / 512, lt_of_lt_of_eq (by omega) N_0.symm⟩) ⟨r.val % 512, by omega⟩ = r := hr.symm
  rw [← hr] at e
  refine e.trans ?_
  exact congrArg (fun q => normed (token m c q) (experts m c) (weightedHidden (token m c q) (experts m c)) d) hp

end Cert.Kernel2Ideal.Moe

end
-- ==== Proof.TopK.lean ====
/- The k greatest of each row, read at an index: the element the stable sort puts at a place, and its position. -/
module

public import proofs.«01_k».proof.Proof.Ranks
public import Idealize.ShloMosaic.Lib.Pointwise

@[expose] public section

noncomputable section

namespace Cert.Moe

open Idealize.ShloMosaic

/-- The host's comparison, as the sort asks it. -/
theorem asked {n : Nat} (x : Fin n → EReal) :
    (fun k k' : Fin n => (FloatOps.cmpfTotal (F := Ideal) (φ := .f32) .gt (x k) (x k') == 1#1)) = gtB x := by
  funext k k'
  show (BitVec.ofBool (decide (x k' < x k)) == 1#1) = decide (x k' < x k)
  by_cases h : x k' < x k <;> simp [h]

theorem along2 {n k : Nat} (r : Fin n) (q l : Fin k) : (ix2 r q : (⟨2, ![n, k]⟩ : Shape).Idx).along (1 : Fin 2) l = ix2 r l := by
  funext a
  match a with
  | ⟨0, _⟩ => rfl
  | ⟨1, _⟩ => rfl

theorem along3 {n g k : Nat} (r : Fin n) (j : Fin g) (q l : Fin k) : (ix3 r j q : (⟨3, ![n, g, k]⟩ : Shape).Idx).along (2 : Fin 3) l = ix3 r j l := by
  funext a
  match a with
  | ⟨0, _⟩ => rfl
  | ⟨1, _⟩ => rfl
  | ⟨2, _⟩ => rfl

theorem front2 {α : Type} {n k p : Nat} (x : (⟨2, ![n, k]⟩ : Shape).Idx → α) (h : (⟨2, ![n, k]⟩ : Shape).Slices (fun _ => 0) ⟨2, ![n, p]⟩) (r : Fin n) (q : Fin p) (hq : q.val < k) :
    extractStridedSlice ⟨2, ![n, p]⟩ (fun _ => 0) x h (ix2 r q) = x (ix2 r ⟨q.val, hq⟩) :=
  congrArg x (funext fun a => Fin.ext (by
    match a with
    | ⟨0, _⟩ => exact Nat.zero_add r.val
    | ⟨1, _⟩ => exact Nat.zero_add q.val))

theorem front3 {α : Type} {n g k p : Nat} (x : (⟨3, ![n, g, k]⟩ : Shape).Idx → α) (h : (⟨3, ![n, g, k]⟩ : Shape).Slices (fun _ => 0) ⟨3, ![n, g, p]⟩) (r : Fin n) (j : Fin g) (q : Fin p)
    (hq : q.val < k) : extractStridedSlice ⟨3, ![n, g, p]⟩ (fun _ => 0) x h (ix3 r j q) = x (ix3 r j ⟨q.val, hq⟩) :=
  congrArg x (funext fun a => Fin.ext (by
    match a with
    | ⟨0, _⟩ => exact Nat.zero_add r.val
    | ⟨1, _⟩ => exact Nat.zero_add j.val
    | ⟨2, _⟩ => exact Nat.zero_add q.val))

/-- The position of a row's element at place `q`. -/
theorem topK_index {n k p : Nat} (x : (⟨2, ![n, k]⟩ : Shape).Idx → Ideal .f32) (h : (⟨2, ![n, k]⟩ : Shape).Slices (fun _ => 0) ⟨2, ![n, p]⟩) (r : Fin n) (q : Fin p) (hq : q.val < k) :
    (Host.topK ⟨2, ![n, p]⟩ 1 (FloatOps.cmpfTotal (F := Ideal) (φ := .f32) .gt) x h).2 (ix2 r q) = BitVec.ofNat 32 (src (fun l => (x (ix2 r l) : EReal)) ⟨q.val, hq⟩).val := by
  have hd : 1 < (⟨2, ![n, k]⟩ : Shape).rank := Nat.lt_succ_self 1
  unfold src
  rw [← asked]
  unfold Host.topK
  dsimp only
  rw [front2 _ h r q hq]
  unfold Host.sort2
  rw [dif_pos hd]
  have e : (fun l : Fin k => (ix2 r ⟨q.val, hq⟩ : (⟨2, ![n, k]⟩ : Shape).Idx).along (1 : Fin 2) l) = fun l => ix2 r l := funext fun l => along2 r _ l
  show (if hd : 1 < (⟨2, ![n, k]⟩ : Shape).rank then iotaInDim ⟨2, ![n, k]⟩ 32 ⟨1, hd⟩ ((ix2 r ⟨q.val, hq⟩ : (⟨2, ![n, k]⟩ : Shape).Idx).along ⟨1, hd⟩ _) else 0#32) = _
  rw [dif_pos hd]
  exact congrArg (fun J : Fin k → (⟨2, ![n, k]⟩ : Shape).Idx =>
    BitVec.ofNat 32 (J (sortedFrom (fun a b => FloatOps.cmpfTotal (F := Ideal) (φ := .f32) .gt (x (J a)) (x (J b)) == 1#1) ⟨q.val, hq⟩) 1).val) e

/-- A row's element at place `q`. -/
theorem topK_value {n g k p : Nat} (x : (⟨3, ![n, g, k]⟩ : Shape).Idx → Ideal .f32) (h : (⟨3, ![n, g, k]⟩ : Shape).Slices (fun _ => 0) ⟨3, ![n, g, p]⟩) (r : Fin n) (j : Fin g) (q : Fin p)
    (hq : q.val < k) :
    (Host.topK ⟨3, ![n, g, p]⟩ 2 (FloatOps.cmpfTotal (F := Ideal) (φ := .f32) .gt) x h).1 (ix3 r j q) = x (ix3 r j (src (fun l => (x (ix3 r j l) : EReal)) ⟨q.val, hq⟩)) := by
  have hd : 2 < (⟨3, ![n, g, k]⟩ : Shape).rank := Nat.lt_succ_self 2
  unfold src
  rw [← asked]
  unfold Host.topK
  dsimp only
  rw [front3 _ h r j q hq]
  unfold Host.sort2
  rw [dif_pos hd]
  have e : (fun l : Fin k => (ix3 r j ⟨q.val, hq⟩ : (⟨3, ![n, g, k]⟩ : Shape).Idx).along (2 : Fin 3) l) = fun l => ix3 r j l := funext fun l => along3 r j _ l
  exact congrArg (fun J : Fin k → (⟨3, ![n, g, k]⟩ : Shape).Idx =>
    x (J (sortedFrom (fun a b => FloatOps.cmpfTotal (F := Ideal) (φ := .f32) .gt (x (J a)) (x (J b)) == 1#1) ⟨q.val, hq⟩))) e

end Cert.Moe

end
-- ==== Proof.RefGates.lean ====
/- The reference's gates: its sorts, its masks and its lookup give each token's weights of the chosen experts. -/
module

public import proofs.«01_k».proof.Proof.Gen.Reference2Ideal.Run
public import proofs.«01_k».proof.Proof.Choice
public import proofs.«01_k».proof.Proof.TopK

@[expose] public section

set_option maxRecDepth 16384

noncomputable section

namespace Cert.Reference2Ideal.Moe

open Cert.Reference2Ideal Cert.Reference2Ideal.Gen Cert.Reference2Ideal.Value Cert.Moe
open Idealize.ShloMosaic Idealize.ShloMosaic.TcCoe Idealize.SL.Sem Idealize.ShloMosaic.StableHlo
open scoped BigOperators

variable (V0 : Valuation τ sig (Elt Ideal))

/-- The logits, one row a token. -/
def logits : FVec Ideal S32768x128 .f32 := shapeCast S32768x128 (V0 (Proc.devRef .tc main_arg1) : FVec Ideal S4x8192x128 .f32) shapeCasts_S4x8192x128_S32768x128

/-- The router's bias. -/
def bias : FVec Ideal S16 .f32 := V0 (Proc.devRef .tc main_arg2)

/-- A token's scores. -/
def tokenScores (r : Fin 32768) : Fin 16 → EReal := fun l => Ideal.div 1 (1 + Ideal.exp (-(logits V0 (ix2 r ⟨l.val, by omega⟩) : EReal)))

/-- … and by which its experts are chosen. -/
def tokenSel (r : Fin 32768) : Fin 16 → EReal := fun l => tokenScores V0 r l + (bias V0 (ix1 l) : EReal)

theorem v9_apply (r : Fin 32768) (l : Fin 16) : (res_main_v9 V0 (ix2 r l) : EReal) = tokenScores V0 r l := by
  have e : res_main_v9 V0 = Host.divf (broadcastInDim S32768x16 ![] bcast_S_S32768x16 (constant S_ .f32 0x3F800000#32)) (addf (broadcastInDim S32768x16 ![] bcast_S_S32768x16 (constant S_ .f32 0x3F800000#32)) (Host.exp (Host.negf (extractStridedSlice S32768x16 ![0, 0] (logits V0) slices_S32768x128_S32768x16_0_0)))) := rfl
  rw [e]
  unfold tokenScores
  pointwise

theorem v12_apply (r : Fin 32768) (l : Fin 16) : (res_main_v12 V0 (ix2 r l) : EReal) = tokenSel V0 r l := by
  unfold tokenSel
  rw [← v9_apply]
  have e : res_main_v12 V0 = addf (res_main_v9 V0) (broadcastInDim S32768x16 ![0, 1] bcast_S1x16_S32768x16_0_1 (broadcastInDim S1x16 ![1] bcast_S16_S1x16_1 (bias V0))) := rfl
  rw [e]
  pointwise

theorem v13_apply (r : Fin 32768) (g j : Fin 4) : (res_main_v13 V0 (ix3 r g j) : EReal) = inGroup (tokenSel V0 r) g j := by
  unfold inGroup
  rw [← v12_apply]
  unfold res_main_v13
  pointwise
  exact congrArg (fun l => res_main_v12 V0 (ix2 r l)) (Fin.ext (by show g.val * 4 + j.val = _; simp [expertAt]; try omega))

/-- A group's score is the sum of its two best. -/
theorem v14_apply (r : Fin 32768) (g : Fin 4) : (res_main_v14 V0 (ix2 r g) : EReal) = groupScore (tokenSel V0 r) g := by
  have y : (fun l => (res_main_v13 V0 (ix3 r g l) : EReal)) = inGroup (tokenSel V0 r) g := funext fun l => v13_apply V0 r g l
  have z : ∀ x : Fin 2, (Host.topK S32768x4x2 2 (FloatOps.cmpfTotal (F := Ideal) (φ := .f32) .gt) (res_main_v13 V0) sliceFits_S32768x4x4_S32768x4x2).1 (ix3 r g x)
      = inGroup (tokenSel V0 r) g (src (inGroup (tokenSel V0 r) g) ⟨x.val, by omega⟩) := by
    intro x
    refine (topK_value (res_main_v13 V0) _ r g x (by omega)).trans ?_
    rw [y]
    exact v13_apply V0 r g _
  unfold groupScore
  rw [sum_two_best]
  unfold res_main_v14
  pointwise
  rw [Fin.sum_univ_two, z 0, z 1]
  rfl

/-- A lane's group, by the rounded-down quotient. -/
theorem group_of_lane (l : Fin 16) : (select (andi (cmpi .ne (signi (res_main_v16 V0)) (broadcastInDim S16 ![] bcast_S_S16 (signi (res_main_call0_v0 V0)))) (cmpi .ne (Host.remsi (res_main_v16 V0) (broadcastInDim S16 ![] bcast_S_S16 (res_main_call0_v0 V0))) (broadcastInDim S16 ![] bcast_S_S16 (constantI S_ 32 0#32)))) (subi (res_main_call0_v2 V0) (broadcastInDim S16 ![] bcast_S_S16 (constantI S_ 32 1#32))) (res_main_call0_v2 V0) : IVec S16 32) (ix1 l)
    = BitVec.ofNat 32 (l.val / 4) := by
  unfold res_main_call0_v2 res_main_v16 res_main_call0_v0
  pointwise
  revert l
  decide

/-- Two small numbers are the same word only when they are the same. -/
theorem word_inj {a b : ℕ} (ha : a < 16) (hb : b < 16) : BitVec.ofNat 32 a = BitVec.ofNat 32 b ↔ a = b := by
  constructor
  · intro h
    have := congrArg BitVec.toNat h
    simp only [BitVec.toNat_ofNat] at this
    omega
  · exact fun h => congrArg _ h

theorem eq_word {a b : ℕ} (ha : a < 16) (hb : b < 16) : IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · have := mt (word_inj ha hb).mp h
    rw [if_neg h]
    exact congrArg BitVec.ofBool (beq_false_of_ne this)

theorem minus_infinity : Ideal.ofBits .f32 0xFF800000#32 = (⊥ : EReal) := by
  simp [Ideal.ofBits, Ideal.ieee]

/-- Outside the best group nothing can be chosen. -/
theorem v23_apply (r : Fin 32768) (l : Fin 16) : (res_main_v23 V0 (ix2 r l) : EReal) = masked (tokenSel V0 r) (src (groupScore (tokenSel V0 r)) 0) l := by
  have e := group_of_lane V0 l
  have y : (fun l => (res_main_v14 V0 (ix2 r l) : EReal)) = groupScore (tokenSel V0 r) := funext fun l => v14_apply V0 r l
  have t := topK_index (res_main_v14 V0) sliceFits_S32768x4_S32768x1 r 0 (by decide)
  rw [y] at t
  have t' : (Host.topK S32768x1 1 (FloatOps.cmpfTotal (F := Ideal) (φ := .f32) .gt) (res_main_v14 V0) sliceFits_S32768x4_S32768x1).2 (ix2 r 0) = BitVec.ofNat 32 (src (groupScore (tokenSel V0 r)) 0).val := t
  unfold res_main_v23
  revert e
  generalize (select (andi (cmpi .ne (signi (res_main_v16 V0)) (broadcastInDim S16 ![] bcast_S_S16 (signi (res_main_call0_v0 V0)))) (cmpi .ne (Host.remsi (res_main_v16 V0) (broadcastInDim S16 ![] bcast_S_S16 (res_main_call0_v0 V0))) (broadcastInDim S16 ![] bcast_S_S16 (constantI S_ 32 0#32)))) (subi (res_main_call0_v2 V0) (broadcastInDim S16 ![] bcast_S_S16 (constantI S_ 32 1#32))) (res_main_call0_v2 V0) : IVec S16 32) = grp
  intro e
  pointwise
  have c := eq_word (a := l.val / 4) (b := (src (groupScore (tokenSel V0 r)) 0).val) (by omega) (by omega)
  rw [e, v12_apply, t']
  show (if IntOp.cmpi .eq (BitVec.ofNat 32 (l.val / 4)) (BitVec.ofNat 32 (src (groupScore (tokenSel V0 r)) 0).val) = 1#1 then _ else (Ideal.ofBits .f32 0xFF800000#32 : EReal)) = _
  rw [c, minus_infinity]
  unfold masked
  by_cases h : l.val / 4 = (src (groupScore (tokenSel V0 r)) 0).val <;> simp [h]

/-- The two chosen experts of a token. -/
def best (r : Fin 32768) : Fin 16 → EReal := masked (tokenSel V0 r) (src (groupScore (tokenSel V0 r)) 0)

theorem indices_apply (r : Fin 32768) (q : Fin 2) : res_main_indices_6 V0 (ix2 r q) = BitVec.ofNat 32 (src (best V0 r) ⟨q.val, by omega⟩).val := by
  have y : (fun l => (res_main_v23 V0 (ix2 r l) : EReal)) = best V0 r := funext fun l => v23_apply V0 r l
  have t := topK_index (res_main_v23 V0) sliceFits_S32768x16_S32768x2 r q (by omega)
  rw [y] at t
  exact t

/-- No index is negative, so none is moved. -/
theorem call2_apply (r : Fin 32768) (q : Fin 2) : (res_main_call2_v5 V0 (ix3 r q 0)) = BitVec.ofNat 32 (src (best V0 r) ⟨q.val, by omega⟩).val := by
  unfold res_main_call2_v5
  pointwise
  rw [indices_apply]
  generalize src (best V0 r) ⟨q.val, _⟩ = l
  revert l
  decide

/-- All ones together are one. -/
theorem fold_and_one {ι : Type} (f : ι → BitVec 1) (s : Finset ι) (h : ∀ i ∈ s, f i = 1#1) : Finset.fold IntOp.andi (1#1) f s = 1#1 := by
  classical
  induction s using Finset.induction_on with
  | empty => rfl
  | insert a s ha ih =>
    rw [Finset.fold_insert ha, h a (Finset.mem_insert_self a s), ih fun i hi => h i (Finset.mem_insert_of_mem hi)]
    rfl

/-- The lookup along a row: each position reads the row at its own index, kept within the row. -/
abbrev alongRow (B N C : ℕ) (wf : GatherDims.WF ⟨2, ![B, N]⟩ ⟨3, ![B, C, 1]⟩ ⟨2, ![B, C]⟩ [] [1] [0] [1] [0] 2 ![1, 1]) :
    GatherDims ⟨2, ![B, N]⟩ ⟨3, ![B, C, 1]⟩ ⟨2, ![B, C]⟩ where
  offsetDims := []
  collapsedSliceDims := [1]
  operandBatchingDims := [0]
  startIndicesBatchingDims := [0]
  startIndexMap := [1]
  indexVectorDim := 2
  sliceSizes := ![1, 1]
  wf := wf

theorem alongRow_apply {α : Type} {B N C : ℕ} (hN : 0 < N) (wf : GatherDims.WF ⟨2, ![B, N]⟩ ⟨3, ![B, C, 1]⟩ ⟨2, ![B, C]⟩ [] [1] [0] [1] [0] 2 ![1, 1])
    (x : (⟨2, ![B, N]⟩ : Shape).Idx → α) (idx : IVec ⟨3, ![B, C, 1]⟩ 32) (r : Fin B) (q : Fin C) :
    Host.gather (alongRow B N C wf) x idx (ix2 r q) = x (ix2 r ⟨min (idx (ix3 r q 0)).toInt.toNat (N - 1), by omega⟩) := by
  unfold Host.gather
  congr 1
  funext a
  refine Fin.ext ?_
  show GatherDims.start (alongRow B N C wf) (ix2 r q) idx a + GatherDims.batchCoord (alongRow B N C wf) (ix2 r q) a + GatherDims.offCoord (alongRow B N C wf) (ix2 r q) a = _
  have two : a = 0 ∨ a = 1 := by
    match a with
    | ⟨0, _⟩ => exact Or.inl rfl
    | ⟨1, _⟩ => exact Or.inr rfl
  rcases two with rfl | rfl
  · rw [GatherDims.start_batching _ _ _ _ (List.mem_singleton.mpr rfl), GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h), GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongRow B N C wf).startIndexMap from List.mem_singleton.mpr rfl)]
    have at_own : (alongRow B N C wf).siIdx (ix2 r q) ⟨List.idxOf (1 : Fin 2) (alongRow B N C wf).startIndexMap, List.idxOf_lt_length_iff.2 (List.mem_singleton.mpr rfl)⟩ = ix3 r q 0 := by
      funext b
      refine Fin.ext ?_
      match b with
      | ⟨0, _⟩ => rfl
      | ⟨1, _⟩ => rfl
      | ⟨2, _⟩ => rfl
    rw [at_own]
    rfl

theorem lookup_apply {α : Type} (x : S32768x16.Idx → α) (idx : IVec S32768x2x1 32) (r : Fin 32768) (q : Fin 2) :
    Host.gather gather_S32768x16_S32768x2x1_S32768x2_n_1_0_0_1_2_11 x idx (ix2 r q) = x (ix2 r ⟨min (idx (ix3 r q 0)).toInt.toNat 15, by omega⟩) :=
  alongRow_apply (by decide) _ x idx r q

/-- Every index of the lookup lies in the row. -/
theorem in_row (i : S32768x2x1.Idx) : IntOp.andi (IntOp.cmpi .sge (res_main_call2_v5 V0 i) 0#32) (IntOp.cmpi .sle (res_main_call2_v5 V0 i) 15#32) = 1#1 := by
  have each : ∀ (a : Fin 32768) (b : Fin 2), IntOp.andi (IntOp.cmpi .sge (res_main_call2_v5 V0 (ix3 a b 0)) 0#32) (IntOp.cmpi .sle (res_main_call2_v5 V0 (ix3 a b 0)) 15#32) = 1#1 := by
    intro a b
    rw [call2_apply]
    generalize src (best V0 a) _ = l
    revert l
    decide
  have hi : i = ix3 (i 0 : Fin 32768) (i 1 : Fin 2) (0 : Fin 1) := by
    funext a
    match a with
    | ⟨0, _⟩ => rfl
    | ⟨1, _⟩ => rfl
    | ⟨2, _⟩ => exact Fin.ext (by have := (i 2).isLt; show (i 2).val = 0; change (i 2).val < 1 at this; omega)
  rw [hi]
  exact each _ _

theorem all_in_row (s : Finset S32768x2x1.Idx) : Finset.fold IntOp.andi (1#1) (fun i : S32768x2x1.Idx => IntOp.andi (IntOp.cmpi .sge (res_main_call2_v5 V0 i) 0#32) (IntOp.cmpi .sle (res_main_call2_v5 V0 i) 15#32)) s = 1#1 := by
  apply fold_and_one
  intro i _
  exact in_row V0 i

theorem found_apply (r : Fin 32768) (q : Fin 2) :
    Host.gather gather_S32768x16_S32768x2x1_S32768x2_n_1_0_0_1_2_11 (res_main_v9 V0) (res_main_call2_v5 V0) (ix2 r q) = tokenScores V0 r (src (best V0 r) ⟨q.val, by omega⟩) := by
  refine (lookup_apply _ _ r q).trans ((v9_apply V0 r _).trans (congrArg (tokenScores V0 r) (Fin.ext ?_)))
  refine (congrArg (fun w : BitVec 32 => min w.toInt.toNat 15) (call2_apply V0 r q)).trans ?_
  generalize src (best V0 r) _ = l
  revert l
  decide

theorem v24_apply (r : Fin 32768) (q : Fin 2) : (res_main_v24 V0 (ix2 r q) : EReal) = tokenScores V0 r (src (best V0 r) ⟨q.val, by omega⟩) := by
  rw [← found_apply]
  unfold res_main_v24
  show Scalar.select _ _ _ = _
  refine if_pos ?_
  pointwise
  exact all_in_row V0 _

/-- The reference's gates. -/
theorem gates_apply (r : Fin 32768) (g j : Fin 4) :
    (res_main_v33 V0 (ix2 r (expertAt g j)) : EReal) = gateOf (tokenScores V0 r) (tokenSel V0 r) g j := by
  rw [← gate_by_sorting (tokenScores V0 r) (tokenSel V0 r) g j]
  have b : ∀ a : Fin 16, (FloatOps.uitofp (F := Ideal) .f32 (IntOp.cmpi .eq (BitVec.ofNat 32 a.val) (BitVec.ofNat 32 (expertAt g j).val)) : EReal) = if a = expertAt g j then 1 else 0 := by
    intro a
    rw [eq_word a.isLt (expertAt g j).isLt]
    by_cases h : a = expertAt g j
    · rw [if_pos h, if_pos (congrArg Fin.val h)]
      show (((1#1 : BitVec 1).toNat : ℝ) : EReal) = 1
      simp
    · rw [if_neg h, if_neg (fun e => h (Fin.ext e))]
      show (((0#1 : BitVec 1).toNat : ℝ) : EReal) = 0
      simp
  unfold res_main_v33
  pointwise
  simp only [Fin.sum_univ_two, indices_apply, v24_apply]
  rw [b, b]
  rfl

end Cert.Reference2Ideal.Moe

end
-- ==== Proof.MoeRefs.lean ====
/- The reference of the mixture of experts at an index: its experts' outputs, its residual sum, its norm. -/
module

public import proofs.«01_k».proof.Proof.RefGates
public import proofs.«01_k».proof.Proof.MoeLayer

@[expose] public section

set_option maxRecDepth 16384

noncomputable section

namespace Cert.Reference2Ideal.Moe

open Cert.Reference2Ideal Cert.Reference2Ideal.Gen Cert.Reference2Ideal.Value Cert.Moe Cert.OutProj
open Idealize.ShloMosaic Idealize.ShloMosaic.TcCoe Idealize.SL.Sem Idealize.ShloMosaic.StableHlo
open scoped BigOperators

/-- One expert's output, weighted, from its matrices and the column of its gates. -/
def outputOf (v : FVec Ideal S32768x1024 .f32) (w1 w3 : FVec Ideal S1x1024x256 .f32) (w2 : FVec Ideal S1x256x1024 .f32) (g : FVec Ideal S32768x1 .f32) : FVec Ideal S32768x1024 .f32 :=
  let a : FVec Ideal S32768x256 .f32 := Host.dotGeneral dot_S32768x1024_S1024x256_S32768x256_1_0_0_1_n_n none v (shapeCast _ w1 shapeCasts_S1x1024x256_S1024x256)
  mulf (Host.dotGeneral dot_S32768x256_S256x1024_S32768x1024_1_0_0_1_n_n none (mulf (mulf a (Host.divf (broadcastInDim S32768x256 ![] bcast_S_S32768x256 (constant S_ .f32 0x3F800000#32)) (addf (broadcastInDim S32768x256 ![] bcast_S_S32768x256 (constant S_ .f32 0x3F800000#32)) (Host.exp (Host.negf a)))))
      (Host.dotGeneral dot_S32768x1024_S1024x256_S32768x256_1_0_0_1_n_n none v (shapeCast _ w3 shapeCasts_S1x1024x256_S1024x256)))
    (shapeCast _ w2 shapeCasts_S1x256x1024_S256x1024)) (broadcastInDim S32768x1024 ![0, 1] bcast_S32768x1_S32768x1024_0_1 g)

theorem outputOf_apply (v : FVec Ideal S32768x1024 .f32) (w1 w3 : FVec Ideal S1x1024x256 .f32) (w2 : FVec Ideal S1x256x1024 .f32) (g : FVec Ideal S32768x1 .f32) (r : Fin 32768) (d : Fin 1024) :
    (outputOf v w1 w3 w2 g (ix2 r d) : EReal)
      = (∑ f : Fin 256, hiddenOf (fun k => v (ix2 r k)) (fun k f => w1 (ix3 0 k f)) (fun k f => w3 (ix3 0 k f)) f * w2 (ix3 0 f d)) * g (ix2 r 0) := by
  unfold outputOf hiddenOf sigmoid
  pointwise

theorem reads1 (e : Fin 16) : S16x1024x256.Slices ![e.val, 0, 0] S1x1024x256 := by
  revert e; decide

theorem reads2 (e : Fin 16) : S16x256x1024.Slices ![e.val, 0, 0] S1x256x1024 := by
  revert e; decide

theorem readsGate (e : Fin 16) : S32768x16.Slices ![0, e.val] S32768x1 := by
  revert e; decide

variable (V0 : Valuation τ sig (Elt Ideal))

/-- The experts' matrices. -/
def mats1 : FVec Ideal S16x1024x256 .f32 := V0 (Proc.devRef .tc main_arg4)
def mats3 : FVec Ideal S16x1024x256 .f32 := V0 (Proc.devRef .tc main_arg5)
def mats2 : FVec Ideal S16x256x1024 .f32 := V0 (Proc.devRef .tc main_arg6)

/-- Expert `e`'s weighted output. -/
def output (e : Fin 16) : FVec Ideal S32768x1024 .f32 :=
  outputOf (res_main_v1 V0) (extractStridedSlice S1x1024x256 ![e.val, 0, 0] (mats1 V0) (reads1 e)) (extractStridedSlice S1x1024x256 ![e.val, 0, 0] (mats3 V0) (reads1 e))
    (extractStridedSlice S1x256x1024 ![e.val, 0, 0] (mats2 V0) (reads2 e)) (extractStridedSlice S32768x1 ![0, e.val] (res_main_v33 V0) (readsGate e))

theorem v109_eq : res_main_v109 V0 = addf (addf (addf (addf (addf (broadcastInDim S32768x1024 ![] bcast_S_S32768x1024 (constant S_ .f32 0x00000000#32)) (output V0 0)) (output V0 1)) (output V0 2)) (output V0 3)) (output V0 4) := rfl

theorem v184_eq : res_main_v184 V0 = addf (addf (addf (addf (addf (res_main_v109 V0) (output V0 5)) (output V0 6)) (output V0 7)) (output V0 8)) (output V0 9) := rfl

theorem v259_eq : res_main_v259 V0 = addf (addf (addf (addf (addf (res_main_v184 V0) (output V0 10)) (output V0 11)) (output V0 12)) (output V0 13)) (output V0 14) := rfl

/-- The experts' weighted outputs, added. -/
def outputs : FVec Ideal S32768x1024 .f32 := addf (res_main_v259 V0) (output V0 15)

theorem outputs_apply (r : Fin 32768) (d : Fin 1024) : (outputs V0 (ix2 r d) : EReal) = ∑ e : Fin 16, (output V0 e (ix2 r d) : EReal) := by
  have z : (broadcastInDim S32768x1024 ![] bcast_S_S32768x1024 (constant S_ .f32 0x00000000#32) : FVec Ideal S32768x1024 .f32) (ix2 r d) = (0 : EReal) := by
    pointwise
  unfold outputs
  rw [v259_eq, v184_eq, v109_eq]
  generalize output V0 = o
  revert z
  generalize (broadcastInDim S32768x1024 ![] bcast_S_S32768x1024 (constant S_ .f32 0x00000000#32) : FVec Ideal S32768x1024 .f32) = s
  intro z
  have e16 : (∑ e : Fin 16, (o e (ix2 r d) : EReal)) = s (ix2 r d) + o 0 (ix2 r d) + o 1 (ix2 r d) + o 2 (ix2 r d) + o 3 (ix2 r d) + o 4 (ix2 r d) + o 5 (ix2 r d) + o 6 (ix2 r d) + o 7 (ix2 r d)
      + o 8 (ix2 r d) + o 9 (ix2 r d) + o 10 (ix2 r d) + o 11 (ix2 r d) + o 12 (ix2 r d) + o 13 (ix2 r d) + o 14 (ix2 r d) + o 15 (ix2 r d) := by
    rw [z, zero_add]
    simp only [Fin.sum_univ_castSucc, Fin.sum_univ_zero, zero_add]
    rfl
  rw [e16]
  rfl

theorem output_apply (e : Fin 16) (r : Fin 32768) (d : Fin 1024) :
    (output V0 e (ix2 r d) : EReal)
      = (∑ f : Fin 256, hiddenOf (fun k => res_main_v1 V0 (ix2 r k)) (fun k f => mats1 V0 (ix3 e k f)) (fun k f => mats3 V0 (ix3 e k f)) f * mats2 V0 (ix3 e f d)) * res_main_v33 V0 (ix2 r e) := by
  unfold output
  rw [outputOf_apply]
  generalize mats1 V0 = p1
  generalize mats2 V0 = p2
  generalize mats3 V0 = p3
  generalize res_main_v33 V0 = g
  generalize res_main_v1 V0 = u
  pointwise

/-- The arguments as the token's and the experts' operands. -/
def token (r : Fin 32768) : Token :=
  tokenOf (V0 (Proc.devRef .tc main_arg0) : FVec Ideal S4x8192x1024 .bf16) (V0 (Proc.devRef .tc main_arg1) : FVec Ideal S4x8192x128 .f32) (V0 (Proc.devRef .tc main_arg3) : FVec Ideal S4x8192x1024 .f32)
    (V0 (Proc.devRef .tc main_arg7) : FVec Ideal S4x1024 .f32) (entryOf r) (withinOf r)

def experts : Experts :=
  expertsOf (V0 (Proc.devRef .tc main_arg2) : FVec Ideal S16 .f32) (V0 (Proc.devRef .tc main_arg4) : FVec Ideal S16x1024x256 .f32) (V0 (Proc.devRef .tc main_arg5) : FVec Ideal S16x1024x256 .f32)
    (V0 (Proc.devRef .tc main_arg6) : FVec Ideal S16x256x1024 .f32) (V0 (Proc.devRef .tc main_arg8) : FVec Ideal S1024 .f32)

theorem rows_apply (a : FVec Ideal S4x8192x1024 .bf16) (r : Fin 32768) (k : Fin 1024) :
    (shapeCast S32768x1024 (extf .f32 a bitsLt_bf16_f32 : FVec Ideal S4x8192x1024 .f32) shapeCasts_S4x8192x1024_S32768x1024 (ix2 r k) : EReal) = a (ix3 (entryOf r) (withinOf r) k) := by
  pointwise
  rfl

theorem v1_apply (r : Fin 32768) (k : Fin 1024) : (res_main_v1 V0 (ix2 r k) : EReal) = (token V0 r).u k :=
  rows_apply (V0 (Proc.devRef .tc main_arg0)) r k

theorem lanes_apply (a : FVec Ideal S4x8192x128 .f32) (r : Fin 32768) (l : Fin 128) :
    (shapeCast S32768x128 a shapeCasts_S4x8192x128_S32768x128 (ix2 r l) : EReal) = a (ix3 (entryOf r) (withinOf r) l) := by
  pointwise
  rfl

theorem tokenScores_eq (r : Fin 32768) : tokenScores V0 r = (token V0 r).scores := by
  funext l
  show Ideal.div 1 (1 + Ideal.exp (-(logits V0 (ix2 r ⟨l.val, _⟩) : EReal))) = Ideal.div 1 (1 + Ideal.exp (-((token V0 r).lg l)))
  rw [show (logits V0 (ix2 r ⟨l.val, by omega⟩) : EReal) = (token V0 r).lg l from lanes_apply (V0 (Proc.devRef .tc main_arg1)) r ⟨l.val, by omega⟩]

theorem tokenSel_eq (r : Fin 32768) : tokenSel V0 r = sel (token V0 r) (experts V0) := by
  funext l
  unfold tokenSel
  rw [tokenScores_eq]
  rfl

theorem gate_apply (r : Fin 32768) (e : Fin 16) :
    (res_main_v33 V0 (ix2 r e) : EReal) = gate (token V0 r) (experts V0) e := by
  have he : e = expertAt ⟨e.val / 4, by omega⟩ ⟨e.val % 4, by omega⟩ := (expertAt_div_mod e).symm
  have g := gates_apply V0 r ⟨e.val / 4, by omega⟩ ⟨e.val % 4, by omega⟩
  rw [← he, tokenSel_eq, tokenScores_eq] at g
  exact g

theorem weighted_apply (r : Fin 32768) (d : Fin 1024) :
    (outputs V0 (ix2 r d) : EReal) = weightedOutput (token V0 r) (experts V0) d := by
  rw [outputs_apply]
  refine Finset.sum_congr rfl fun e _ => ?_
  rw [output_apply, gate_apply V0 r e]
  simp only [v1_apply]
  rfl

/-- The residual sum over all tokens. -/
def residuals (h : FVec Ideal S4x8192x1024 .f32) (g : FVec Ideal S4x1024 .f32) (y : FVec Ideal S32768x1024 .f32) : FVec Ideal S4x8192x1024 .f32 :=
  addf h (mulf (broadcastInDim S4x8192x1024 ![0, 1, 2] bcast_S4x1x1024_S4x8192x1024_0_1_2 (broadcastInDim S4x1x1024 ![0, 2] bcast_S4x1024_S4x1x1024_0_2 g)) (shapeCast _ y shapeCasts_S32768x1024_S4x8192x1024))

theorem residuals_apply (h : FVec Ideal S4x8192x1024 .f32) (g : FVec Ideal S4x1024 .f32) (y : FVec Ideal S32768x1024 .f32) (r : Fin 32768) (d : Fin 1024) :
    (residuals h g y (ix3 (entryOf r) (withinOf r) d) : EReal) = h (ix3 (entryOf r) (withinOf r) d) + g (ix2 (entryOf r) d) * y (ix2 r d) := by
  unfold residuals
  pointwise
  have e : (⟨(entryOf r).val * 8192 + (withinOf r).val, by have := (entryOf r).isLt; have := (withinOf r).isLt; omega⟩ : Fin 32768) = r := Fin.ext (by show r.val / 8192 * 8192 + r.val % 8192 = r.val; omega)
  rw [e]

/-- The final norm over all tokens. -/
def norms (x : FVec Ideal S4x8192x1024 .f32) (g : FVec Ideal S1024 .f32) : FVec Ideal S32768x1024 .f32 :=
  shapeCast _ (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) shapeCasts_S4x8192x1024_S32768x1024

theorem norms_apply (x : FVec Ideal S4x8192x1024 .f32) (g : FVec Ideal S1024 .f32) (r : Fin 32768) (d : Fin 1024) :
    (norms x g (ix2 r d) : EReal) = x (ix3 (entryOf r) (withinOf r) d) * invRms (fun k => x (ix3 (entryOf r) (withinOf r) k)) * g (ix1 d) := by
  unfold norms invRms
  pointwise
  rfl

/-- The reference's result at an index. -/
theorem value_apply (r : Fin 32768) (d : Fin 1024) :
    (norms (res_main_v279 V0) (V0 (Proc.devRef .tc main_arg8)) (ix2 r d) : EReal)
      = normed (token V0 r) (experts V0) (weightedOutput (token V0 r) (experts V0)) d := by
  have e : ∀ k, (res_main_v279 V0 (ix3 (entryOf r) (withinOf r) k) : EReal) = residual (token V0 r) (weightedOutput (token V0 r) (experts V0)) k := by
    intro k
    refine (residuals_apply (V0 (Proc.devRef .tc main_arg3)) (V0 (Proc.devRef .tc main_arg7)) (outputs V0) r k).trans ?_
    rw [weighted_apply V0 r k]
    rfl
  refine (norms_apply _ _ r d).trans ?_
  simp only [e]
  rfl

end Cert.Reference2Ideal.Moe

end
-- ==== Proof.MoeMatch.lean ====
/- The mixture of experts' result is the reference's, over the extended reals, where no expert's logit is minus infinity. -/
module

public import proofs.«01_k».proof.Defs
public import proofs.«01_k».proof.Proof.MoeValues
public import proofs.«01_k».proof.Proof.MoeRefs
public import proofs.«01_k».proof.Proof.Assumed

@[expose] public section

set_option maxRecDepth 16384

noncomputable section

namespace Cert.Kernel2Ideal.Moe

open Cert.Kernel2Ideal Cert.Kernel2Ideal.Gen Cert.Moe Cert.OutProj
open Idealize.ShloMosaic Idealize.ShloMosaic.TcCoe Idealize.SL.Sem Idealize.ShloMosaic.StableHlo

variable (m : (ℓ : Loc nD τ sig) → Buf (Elt Ideal) ℓ) (c : Dev nD)

/-- The precondition, read of each token. -/
theorem logits_above (h : Cert.Pre_Kernel2Ideal_scored (hPre_scored := Cert.Pre_scored.facts) m) (r : Fin 32768) (l : Fin 16) : (token m c r).lg l ≠ ⊥ :=
  Cert.Pre_scored.above _ (h c) _ _ l

open Cert.Reference2Ideal.Value in
/-- Where a reference's arguments are the kernel's, its result is the kernel's. -/
theorem result_match (h : Cert.Pre_Kernel2Ideal_scored (hPre_scored := Cert.Pre_scored.facts) m)
    (V0 : Valuation Cert.Reference2Ideal.τ Cert.Reference2Ideal.sig (Elt Ideal))
    (e0 : V0 (Proc.devRef .tc Cert.Reference2Ideal.main_arg0) = arg0 m c) (e1 : V0 (Proc.devRef .tc Cert.Reference2Ideal.main_arg1) = arg1 m c)
    (e2 : V0 (Proc.devRef .tc Cert.Reference2Ideal.main_arg2) = arg2 m c) (e3 : V0 (Proc.devRef .tc Cert.Reference2Ideal.main_arg3) = arg3 m c)
    (e4 : V0 (Proc.devRef .tc Cert.Reference2Ideal.main_arg4) = arg4 m c) (e5 : V0 (Proc.devRef .tc Cert.Reference2Ideal.main_arg5) = arg5 m c)
    (e6 : V0 (Proc.devRef .tc Cert.Reference2Ideal.main_arg6) = arg6 m c) (e7 : V0 (Proc.devRef .tc Cert.Reference2Ideal.main_arg7) = arg7 m c)
    (e8 : V0 (Proc.devRef .tc Cert.Reference2Ideal.main_arg8) = arg8 m c) :
    Cert.Reference2Ideal.Moe.norms (res_main_v279 V0) (V0 (Proc.devRef .tc Cert.Reference2Ideal.main_arg8)) = (Value.G9 m c : Vec Ideal S32768x1024 .f32) := by
  have hx := logits_above m c h
  have ht (r : Fin 32768) : Cert.Reference2Ideal.Moe.token V0 r = token m c r := by
    unfold Cert.Reference2Ideal.Moe.token token
    rw [e0, e1, e3, e7]
  have he : Cert.Reference2Ideal.Moe.experts V0 = experts m c := by
    unfold Cert.Reference2Ideal.Moe.experts experts
    rw [e2, e4, e5, e6, e8]
  have each (r : Fin 32768) (d : Fin 1024) :
      (Cert.Reference2Ideal.Moe.norms (res_main_v279 V0) (V0 (Proc.devRef .tc Cert.Reference2Ideal.main_arg8)) (ix2 r d) : EReal) = (Value.G9 m c : Vec Ideal S32768x1024 .f32) (ix2 r d) := by
    refine (Cert.Reference2Ideal.Moe.value_apply V0 r d).trans (Eq.trans ?_ (value_apply m c r d).symm)
    rw [ht, he, weighted_eq (hx r)]
  funext i
  have ei : i = ix2 (i 0 : Fin 32768) (i 1 : Fin 1024) := by
    funext a
    match a with
    | ⟨0, _⟩ => rfl
    | ⟨1, _⟩ => rfl
  rw [ei]
  exact each _ _

end Cert.Kernel2Ideal.Moe

end
-- ==== Proof.SumBlocks.lean ====
/- The first layer's mixture of experts, whose body stops at the residual sum: what it leaves at each grid point. The gates and the experts' sum are the last layer's formulas. -/
module

public import proofs.«01_k».proof.Proof.Gen.Kernel4Ideal.Value
public import proofs.«01_k».proof.Proof.MoeForms

@[expose] public section

set_option maxRecDepth 65536

noncomputable section

namespace Cert.Kernel4Ideal.Moe

open Cert.Kernel4Ideal Cert.Kernel4Ideal.Gen
open Cert.Kernel2Ideal.Moe (gateRows mixed)
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A block's residual sum from its tokens, its gates, the residual stream's rows and the weights. -/
def sumOut (u : Vec F S512x1024 .bf16) (g : FVec F S512x128 .f32) (h : Vec F S512x1024 .f32) (w13 : Vec F S16x1024x512 .bf16) (w2 : Vec F S16x256x1024 .bf16)
    (g2 : Vec F S1x1x1024 .f32) : FVec F S512x1024 .f32 :=
  k0_pay1 (mixed (shapeCast S512x1024 u shapeCasts_S512x1024_S512x1024) g w13 w2 15 (by omega)) (k0_pay97 h) g2

variable (c : Dev nD) (i : grid0.Coords) (arg1 : Memref sig .tc .vmem S512x1024 .bf16) (harg1 : arg1.IsWhole) (arg2 : Memref sig .tc .vmem S512x128 .f32) (harg2 : arg2.IsWhole)
  (arg3 : Memref sig .tc .vmem S512x128 .f32) (harg3 : arg3.IsWhole) (arg4 : Memref sig .tc .vmem S1x128 .f32) (harg4 : arg4.IsWhole) (arg5 : Memref sig .tc .vmem S512x1024 .f32) (harg5 : arg5.IsWhole)
  (arg6 : Memref sig .tc .vmem S16x1024x512 .bf16) (harg6 : arg6.IsWhole) (arg7 : Memref sig .tc .vmem S16x256x1024 .bf16) (harg7 : arg7.IsWhole) (arg8 : Memref sig .tc .vmem S1x1x1024 .f32) (harg8 : arg8.IsWhole)
  (arg9 : Memref sig .tc .vmem S1x1024 .f32) (harg9 : arg9.IsWhole) (arg10 : Memref sig .tc .vmem S512x1024 .f32) (harg10 : arg10.IsWhole) (arg11 : Memref sig .tc .vmem S512x128 .f32) (harg11 : arg11.IsWhole)
  (x0 : Vec F S512x1024 .bf16) (x1 : Vec F S512x128 .f32) (x2 : Vec F S512x128 .f32) (x3 : Vec F S1x128 .f32) (x4 : Vec F S512x1024 .f32) (x5 : Vec F S16x1024x512 .bf16) (x6 : Vec F S16x256x1024 .bf16)
  (x7 : Vec F S1x1x1024 .f32) (x8 : Vec F S1x1024 .f32) (xs0 : Vec F S512x128 .f32)

/-- After a point other than the first the scratch holds the next tile's gates. -/
theorem scratch_B (hc0 : ¬cond0_0 i) :
    sout0_B_0 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0 = gateRows x2 x3 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0)]
  unfold kernelRun0_B
  dsimp only
  rw [View.canon_unit_zero hz2]
  sl_unfold_words
  simp only [View.readAt_eq_ld, harg3.read_unread, harg4.read_unread, View.ld_unit_zero (S := S512x128) hz2, View.ld_unit_zero (S := S1x128) hz2]
  rfl

/-- … and after the first point too. -/
theorem scratch_A (hc0 : cond0_0 i) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 x7 x8 = gateRows x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  sl_unfold_words
  rw [View.canon_cons_unit_zero (S := S512x128) hz2]
  simp only [View.readAt_eq_ld, harg3.read_unread, harg4.read_unread, View.ld_unit_zero (S := S512x128) hz2, View.ld_unit_zero (S := S1x128) hz2]
  rfl

/-- After a point other than the first the output's block is the block's result from the carried gates. -/
theorem out_B (hc0 : ¬cond0_0 i) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0 = sumOut x0 xs0 x4 x5 x6 x7 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xs0)]
  unfold kernelRun0_B
  dsimp only
  rw [View.canon_unit_zero hz2]
  sl_unfold_words
  simp only [View.readAt_eq_ld, harg1.read_unread, harg5.read_unread, harg6.read_unread, harg7.read_unread, harg8.read_unread, harg11.read_unread,
    View.ld_unit_zero (S := S512x128) hz2, View.ld_unit_zero (S := S512x1024) hz2, View.ld_unit_zero (S := S1x1x1024) hz3]
  unfold sumOut
  simp only [mixed]
  rfl

/-- After the first point the output's block is the block's result from the gates of the point's own logits. -/
theorem out_A (hc0 : cond0_0 i) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 = sumOut x0 (gateRows x1 x3) x4 x5 x6 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  rw [View.canon_unit_zero hz2]
  sl_unfold_words
  rw [View.readCov_unit_zero (S := S512x128) _ hz2]
  simp only [View.readAt_eq_ld, harg1.read_unread, harg2.read_unread, harg4.read_unread, harg5.read_unread, harg6.read_unread, harg7.read_unread, harg8.read_unread,
    View.ld_unit_zero (S := S512x128) hz2, View.ld_unit_zero (S := S1x128) hz2, View.ld_unit_zero (S := S512x1024) hz2, View.ld_unit_zero (S := S1x1x1024) hz3]
  unfold sumOut
  simp only [mixed]
  rfl

end Cert.Kernel4Ideal.Moe

end
-- ==== Proof.SumPoints.lean ====
/- The first layer's mixture of experts over its grid: its blocks and arrays are the last layer's, and so the result ends, token by token, as the residual sum. -/
module

public import proofs.«01_k».proof.Proof.SumBlocks
public import proofs.«01_k».proof.Proof.MoeValues

@[expose] public section

set_option maxRecDepth 16384

noncomputable section

namespace Cert.Kernel4Ideal.Moe

open Cert.Kernel4Ideal Cert.Kernel4Ideal.Gen Cert.Moe Cert.OutProj
open Cert.Kernel2Ideal.Moe (gateRows mixed mixAt rowAt token experts)
open Idealize.ShloMosaic Idealize.ShloMosaic.TcCoe Idealize.SL.Sem

/-- The residual sum of a block at an index. -/
theorem residual_apply (y : FVec Ideal S512x1024 .f32) (h : Vec Ideal S512x1024 .f32) (g2 : Vec Ideal S1x1x1024 .f32) (r : Fin 512) (d : Fin 1024) :
    (k0_pay1 y (k0_pay97 h) g2 (ix2 r d) : EReal) = h (ix2 r d) + g2 (ix3 0 0 d) * y (ix2 r d) := by
  pointwise [k0_pay1, k0_pay97]

theorem sumOut_apply (u : Vec Ideal S512x1024 .bf16) (g : FVec Ideal S512x128 .f32) (h : Vec Ideal S512x1024 .f32) (w13 : Vec Ideal S16x1024x512 .bf16) (w2 : Vec Ideal S16x256x1024 .bf16)
    (g2 : Vec Ideal S1x1x1024 .f32) (r : Fin 512) (d : Fin 1024) :
    (sumOut u g h w13 w2 g2 (ix2 r d) : EReal) = h (ix2 r d) + g2 (ix3 0 0 d) * mixAt u g w13 w2 r d := by
  unfold sumOut
  rw [residual_apply]
  exact congrArg (fun y : EReal => h (ix2 r d) + g2 (ix3 0 0 d) * y) (Cert.Kernel2Ideal.Moe.sum_apply u g w13 w2 r d)

section Grid

variable {F : FTy → Type} [FloatOps F]
variable (m : (ℓ : Loc nD τ sig) → Buf (Elt F) ℓ) (c : Dev nD)

/-! ## The windows' blocks are the last layer's -/

theorem bias_eq (t : Fin cfg0.N) : (iblk m c 3 t : Vec F S1x128 .f32) = V m c main_v1 := Cert.Kernel2Ideal.Moe.iblk3_eq (F := F) m c t

theorem mats_eq (t : Fin cfg0.N) : (iblk m c 5 t : Vec F S16x1024x512 .bf16) = V m c main_v3 := Cert.Kernel2Ideal.Moe.iblk5_eq (F := F) m c t

theorem mats2_eq (t : Fin cfg0.N) : (iblk m c 6 t : Vec F S16x256x1024 .bf16) = V m c main_v4 := Cert.Kernel2Ideal.Moe.iblk6_eq (F := F) m c t

/-- The logits handed to a point as the next tile's are the next point's own. -/
theorem next_logits (n : ℕ) (h : n + 1 < cfg0.N) :
    (iblk m c 2 ⟨n, Nat.lt_of_succ_lt h⟩ : Vec F S512x128 .f32) = iblk m c 1 ⟨n + 1, h⟩ := Cert.Kernel2Ideal.Moe.next_logits (F := F) m c n h

/-! ## The grid -/

/-- A point's block from the gates of the point's own logits. -/
def pointOut (t : Fin cfg0.N) : Vec F S512x1024 .f32 :=
  sumOut (iblk m c 0 t) (gateRows (iblk m c 1 t) (V m c main_v1)) (iblk m c 4 t) (V m c main_v3) (V m c main_v4) (iblk m c 7 t)

/-- After every point: the point's block, and the gates of the next tile's logits. -/
theorem points : ∀ (n : ℕ) (h : n < cfg0.N), outsAt0 m c n h = (pointOut m c ⟨n, h⟩, gateRows (iblk m c 2 ⟨n, h⟩) (V m c main_v1))
  | 0, h => by
    rw [outsAt0_A m c ⟨0, h⟩ rfl, out_A, scratch_A, bias_eq, mats_eq, mats2_eq]
    rfl
  | n + 1, h => by
    have hN : cfg0.N = 64 := N_0
    have hB : ¬(⟨n + 1, h⟩ : Fin cfg0.N).val % 64 = 0 := by dsimp only; omega
    rw [outsAt0_B m c ⟨n + 1, h⟩ hB, out_B, scratch_B, bias_eq, mats_eq, mats2_eq]
    have e : (outsAt0 m c n (Nat.lt_of_succ_lt h)).2 = gateRows (iblk m c 1 ⟨n + 1, h⟩) (V m c main_v1) := by
      rw [points n, next_logits]
    refine Prod.ext ?_ rfl
    show sumOut _ (outsAt0 m c n _).2 _ _ _ _ = _
    rw [e]
    rfl

/-- The result array at an index: the point's block that holds it. -/
theorem result_apply (t : Fin 64) (r : Fin 512) (d : Fin 1024) :
    (Value.G9 m c : Vec F S32768x1024 .f32) (ix2 (rowAt t r) d) = pointOut m c ⟨t.val, lt_of_lt_of_eq t.isLt N_0.symm⟩ (ix2 r d) := by
  have hp : Value.pt9Of (ix2 (rowAt t r) d) = t.val := by
    show 1 * ((512 * t.val + r.val) / 512 - 0) + 1 * (d.val / 1024 - 0) = t.val
    omega
  have hl : Value.loc9Of (ix2 (rowAt t r) d) = ix2 r d := by
    funext a
    apply Fin.ext
    match a with
    | ⟨0, _⟩ => show (512 * t.val + r.val) % 512 = r.val; omega
    | ⟨1, _⟩ => show d.val % 1024 = d.val; omega
  show Value.G9 m c (ix2 (rowAt t r) d) = _
  unfold Value.G9
  rw [dif_pos (by rw [hp]; exact lt_of_lt_of_eq t.isLt N_0.symm), hl, Value.fold0_congr m c _ _ t.val (by rw [Nat.zero_add]; exact lt_of_lt_of_eq t.isLt N_0.symm) hp,
    ← Value.outsAt0_sweep m c t.val (lt_of_lt_of_eq t.isLt N_0.symm), points]

end Grid

variable (m : (ℓ : Loc nD τ sig) → Buf (Elt Ideal) ℓ) (c : Dev nD)

theorem point_apply (t : Fin cfg0.N) (r : Fin 512) (d : Fin 1024) :
    (pointOut m c t (ix2 r d) : EReal) = residual (token m c (rowAt (Cert.Kernel2Ideal.Moe.pt t) r)) (weightedHidden (token m c (rowAt (Cert.Kernel2Ideal.Moe.pt t) r)) (experts m c)) d := by
  have y := Cert.Kernel2Ideal.Moe.mix_apply m c t r d
  have h := Cert.Kernel2Ideal.Moe.rows_apply m c t r d
  have g := Cert.Kernel2Ideal.Moe.factor_apply m c t r d
  unfold pointOut Cert.Moe.residual
  rw [← y, ← h, ← g]
  exact sumOut_apply _ _ _ _ _ _ r d

/-- The result at an index. -/
theorem value_apply (r : Fin 32768) (d : Fin 1024) :
    ((Value.G9 m c : Vec Ideal S32768x1024 .f32) (ix2 r d) : EReal) = residual (token m c r) (weightedHidden (token m c r) (experts m c)) d := by
  have hr : r = rowAt ⟨r.val / 512, by omega⟩ ⟨r.val % 512, by omega⟩ := Fin.ext (by show r.val = 512 * (r.val / 512) + r.val % 512; omega)
  have e := (result_apply m c ⟨r.val / 512, by omega⟩ ⟨r.val % 512, by omega⟩ d).trans (point_apply m c _ _ d)
  have hp : rowAt (Cert.Kernel2Ideal.Moe.pt ⟨r.val / 512, lt_of_lt_of_eq (by omega) N_0.symm⟩) ⟨r.val % 512, by omega⟩ = r := hr.symm
  rw [← hr] at e
  refine e.trans ?_
  exact congrArg (fun q => residual (token m c q) (weightedHidden (token m c q) (experts m c)) d) hp

end Cert.Kernel4Ideal.Moe

end
-- ==== Proof.SumRefs.lean ====
/- The reference of the first layer's mixture of experts: the second reference's steps up to the residual sum, so the lemmas about those read it. -/
module

public import proofs.«01_k».proof.Proof.Gen.Reference4Ideal.Run
public import proofs.«01_k».proof.Proof.MoeRefs

@[expose] public section

set_option maxRecDepth 16384

noncomputable section

namespace Cert.Reference4Ideal.Moe

open Cert.Reference4Ideal Cert.Reference4Ideal.Gen Cert.Reference4Ideal.Value Cert.Moe Cert.OutProj
open Cert.Reference2Ideal.Moe (residuals residuals_apply token experts)
open Idealize.ShloMosaic Idealize.ShloMosaic.TcCoe Idealize.SL.Sem Idealize.ShloMosaic.StableHlo

variable (V0 : Valuation τ sig (Elt Ideal))

/-- Arrays of the second reference whose arguments are this one's. Its other arrays do not matter. -/
def asSecond : Valuation Cert.Reference2Ideal.τ Cert.Reference2Ideal.sig (Elt Ideal)
  | ⟨.hbm, ⟨0, _⟩, _⟩ => V0 (Proc.devRef .tc main_arg0)
  | ⟨.hbm, ⟨1, _⟩, _⟩ => V0 (Proc.devRef .tc main_arg1)
  | ⟨.hbm, ⟨2, _⟩, _⟩ => V0 (Proc.devRef .tc main_arg2)
  | ⟨.hbm, ⟨3, _⟩, _⟩ => V0 (Proc.devRef .tc main_arg3)
  | ⟨.hbm, ⟨4, _⟩, _⟩ => V0 (Proc.devRef .tc main_arg4)
  | ⟨.hbm, ⟨5, _⟩, _⟩ => V0 (Proc.devRef .tc main_arg5)
  | ⟨.hbm, ⟨6, _⟩, _⟩ => V0 (Proc.devRef .tc main_arg6)
  | ⟨.hbm, ⟨7, _⟩, _⟩ => V0 (Proc.devRef .tc main_arg7)
  | ⟨.hbm, ⟨8, _⟩, _⟩ => V0 (Proc.devRef .tc main_arg8)
  | _ => Classical.ofNonempty

theorem same_v259 : res_main_v259 V0 = Cert.Reference2Ideal.Value.res_main_v259 (asSecond V0) := rfl

/-- The residual sums of all tokens, one below another. -/
def sums (x : FVec Ideal S4x8192x1024 .f32) : FVec Ideal S32768x1024 .f32 := shapeCast S32768x1024 x shapeCasts_S4x8192x1024_S32768x1024

theorem sums_apply (x : FVec Ideal S4x8192x1024 .f32) (r : Fin 32768) (d : Fin 1024) : (sums x (ix2 r d) : EReal) = x (ix3 (entryOf r) (withinOf r) d) := by
  unfold sums
  pointwise
  rfl

/-- The reference's result, from the arguments. -/
def result : FVec Ideal S32768x1024 .f32 :=
  sums (residuals (V0 (Proc.devRef .tc main_arg3)) (V0 (Proc.devRef .tc main_arg7)) (Cert.Reference2Ideal.Moe.outputs (asSecond V0)))

/-- The reference's result at an index. -/
theorem result_apply (r : Fin 32768) (d : Fin 1024) :
    (result V0 (ix2 r d) : EReal) = residual (token (asSecond V0) r) (weightedOutput (token (asSecond V0) r) (experts (asSecond V0))) d := by
  unfold result
  rw [sums_apply, residuals_apply, Cert.Reference2Ideal.Moe.weighted_apply]
  rfl

/-- The run, its result by name. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v280) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (by
      show sums (residuals _ _ (addf (res_main_v259 (launchContents m c)) _)) = _
      unfold result Cert.Reference2Ideal.Moe.outputs
      rw [same_v259]
      rfl), (h c).2⟩) (Cert.Reference4Ideal.Value.run (F := Ideal) m ρ)

end Cert.Reference4Ideal.Moe

end
-- ==== Proof.SumMatch.lean ====
/- The first layer's mixture of experts is its reference's, over the extended reals, where no expert's logit is minus infinity. -/
module

public import proofs.«01_k».proof.Defs
public import proofs.«01_k».proof.Proof.SumPoints
public import proofs.«01_k».proof.Proof.SumRefs
public import proofs.«01_k».proof.Proof.Assumed

@[expose] public section

set_option maxRecDepth 16384

noncomputable section

namespace Cert.Kernel4Ideal.Moe

open Cert.Kernel4Ideal Cert.Kernel4Ideal.Gen Cert.Moe Cert.OutProj
open Cert.Kernel2Ideal.Moe (token experts arg0 arg1 arg2 arg3 arg4 arg5 arg6 arg7 arg8)
open Cert.Reference4Ideal.Moe (result asSecond)
open Idealize.ShloMosaic Idealize.ShloMosaic.TcCoe Idealize.SL.Sem Idealize.ShloMosaic.StableHlo

variable (m : (ℓ : Loc nD τ sig) → Buf (Elt Ideal) ℓ) (c : Dev nD)

/-- The precondition, read of each token. -/
theorem logits_above (h : Cert.Pre_Kernel4Ideal_scored (hPre_scored := Cert.Pre_scored.facts) m) (r : Fin 32768) (l : Fin 16) : (token m c r).lg l ≠ ⊥ :=
  Cert.Pre_scored.above _ (h c) _ _ l

/-- Where a reference's arguments are the kernel's, its result is the kernel's. -/
theorem result_match (h : Cert.Pre_Kernel4Ideal_scored (hPre_scored := Cert.Pre_scored.facts) m)
    (V0 : Valuation Cert.Reference4Ideal.τ Cert.Reference4Ideal.sig (Elt Ideal))
    (e0 : V0 (Proc.devRef .tc Cert.Reference4Ideal.main_arg0) = arg0 m c) (e1 : V0 (Proc.devRef .tc Cert.Reference4Ideal.main_arg1) = arg1 m c)
    (e2 : V0 (Proc.devRef .tc Cert.Reference4Ideal.main_arg2) = arg2 m c) (e3 : V0 (Proc.devRef .tc Cert.Reference4Ideal.main_arg3) = arg3 m c)
    (e4 : V0 (Proc.devRef .tc Cert.Reference4Ideal.main_arg4) = arg4 m c) (e5 : V0 (Proc.devRef .tc Cert.Reference4Ideal.main_arg5) = arg5 m c)
    (e6 : V0 (Proc.devRef .tc Cert.Reference4Ideal.main_arg6) = arg6 m c) (e7 : V0 (Proc.devRef .tc Cert.Reference4Ideal.main_arg7) = arg7 m c)
    (e8 : V0 (Proc.devRef .tc Cert.Reference4Ideal.main_arg8) = arg8 m c) :
    result V0 = (Value.G9 m c : Vec Ideal S32768x1024 .f32) := by
  have hx := logits_above m c h
  have ht (r : Fin 32768) : Cert.Reference2Ideal.Moe.token (asSecond V0) r = token m c r := by
    show tokenOf (V0 (Proc.devRef .tc Cert.Reference4Ideal.main_arg0)) (V0 (Proc.devRef .tc Cert.Reference4Ideal.main_arg1)) (V0 (Proc.devRef .tc Cert.Reference4Ideal.main_arg3))
      (V0 (Proc.devRef .tc Cert.Reference4Ideal.main_arg7)) _ _ = _
    rw [e0, e1, e3, e7]
    rfl
  have he : Cert.Reference2Ideal.Moe.experts (asSecond V0) = experts m c := by
    show expertsOf (V0 (Proc.devRef .tc Cert.Reference4Ideal.main_arg2)) (V0 (Proc.devRef .tc Cert.Reference4Ideal.main_arg4)) (V0 (Proc.devRef .tc Cert.Reference4Ideal.main_arg5))
      (V0 (Proc.devRef .tc Cert.Reference4Ideal.main_arg6)) (V0 (Proc.devRef .tc Cert.Reference4Ideal.main_arg8)) = _
    rw [e2, e4, e5, e6, e8]
    rfl
  have each (r : Fin 32768) (d : Fin 1024) : (result V0 (ix2 r d) : EReal) = (Value.G9 m c : Vec Ideal S32768x1024 .f32) (ix2 r d) := by
    refine (Cert.Reference4Ideal.Moe.result_apply V0 r d).trans (Eq.trans ?_ (value_apply m c r d).symm)
    rw [ht, he, weighted_eq (hx r)]
  funext i
  have ei : i = ix2 (i 0 : Fin 32768) (i 1 : Fin 1024) := by
    funext a
    match a with
    | ⟨0, _⟩ => rfl
    | ⟨1, _⟩ => rfl
  rw [ei]
  exact each _ _

end Cert.Kernel4Ideal.Moe

end
-- ==== Proof.InLayer.lean ====
/- The projections into the layer's three mixers as formulas: a token's modulated row, its products with the input weight, the two low-rank steps, the rotation of a pair. -/
module

public import proofs.«01_k».proof.Proof.Layer

@[expose] public section

noncomputable section

namespace Cert.InProj

open Idealize.ShloMosaic
open scoped BigOperators

/-- A product of a row with a matrix, at one column. -/
def prod {K N : ℕ} (x : Fin K → EReal) (w : Fin K → Fin N → EReal) (n : Fin N) : EReal := ∑ k, x k * w k n

/-- A row over the root of its mean square plus the small constant, times the gain; `size` is the row's length as a word. -/
def normed {K : ℕ} (size : EReal) (x g : Fin K → EReal) (k : Fin K) : EReal :=
  x k * Ideal.rsqrt (Ideal.div (∑ k, x k * x k) size + Ideal.ofBits .f32 0x358637BD#32) * g k

/-- The modulated row. -/
def modulated (h sh sc g : Fin 1024 → EReal) (k : Fin 1024) : EReal := normed (Ideal.ofBits .f32 0x44800000#32) h g k * (1 + sc k) + sh k

/-- The two entries of a pair, turned by an angle of cosine `c` and sine `s`. -/
def turnFirst (x y c s : EReal) : EReal := x * c - y * s
def turnSecond (x y c s : EReal) : EReal := y * c + x * s

/-- One token's operands and the weights. -/
structure Ops where
  h : Fin 1024 → EReal
  sh : Fin 1024 → EReal
  sc : Fin 1024 → EReal
  g : Fin 1024 → EReal
  w : Fin 1024 → Fin 3232 → EReal
  qn : Fin 384 → EReal
  kvn : Fin 256 → EReal
  uq : Fin 384 → Fin 384 → EReal
  ukv : Fin 256 → Fin 512 → EReal

variable (x : Ops)

def Ops.u : Fin 1024 → EReal := modulated x.h x.sh x.sc x.g
/-- The products with the input weight. -/
def Ops.p : Fin 3232 → EReal := prod x.u x.w
/-- The low-rank rows, normalised, and what they expand to. -/
def Ops.cq : Fin 384 → EReal := normed (Ideal.ofBits .f32 0x43C00000#32) (fun i => x.p ⟨2560 + i.val, by omega⟩) x.qn
def Ops.ckv : Fin 256 → EReal := normed (Ideal.ofBits .f32 0x43800000#32) (fun i => x.p ⟨2944 + i.val, by omega⟩) x.kvn
def Ops.q : Fin 384 → EReal := prod x.cq x.uq
def Ops.kv : Fin 512 → EReal := prod x.ckv x.ukv

/-- The operands of token `t` of batch entry `b`, from the arrays. -/
def opsOf (h : FVec Ideal ⟨3, ![4, 8192, 1024]⟩ .f32) (sh sc : FVec Ideal ⟨2, ![4, 1024]⟩ .f32) (g : FVec Ideal ⟨1, ![1024]⟩ .f32) (w : FVec Ideal ⟨2, ![1024, 3232]⟩ .f32)
    (qn : FVec Ideal ⟨1, ![384]⟩ .f32) (kvn : FVec Ideal ⟨1, ![256]⟩ .f32) (uq : FVec Ideal ⟨2, ![384, 384]⟩ .f32) (ukv : FVec Ideal ⟨2, ![256, 512]⟩ .f32) (b : Fin 4) (t : Fin 8192) : Ops where
  h k := h (ix3 b t k)
  sh k := sh (ix2 b k)
  sc k := sc (ix2 b k)
  g k := g (ix1 k)
  w k n := w (ix2 k n)
  qn k := qn (ix1 k)
  kvn k := kvn (ix1 k)
  uq k n := uq (ix2 k n)
  ukv k n := ukv (ix2 k n)

/-- The turned first entry, as a product with the sine negated. -/
theorem turnFirst_eq (a y c s : EReal) : a * c + y * (s * -1) = turnFirst a y c s := by
  unfold turnFirst
  rw [mul_neg, mul_one, mul_neg, sub_eq_add_neg]

theorem turnSecond_eq (a y c s : EReal) : y * c + a * (s * 1) = turnSecond a y c s := by
  unfold turnSecond
  rw [mul_one]

/-- A column of zeros gives zero. -/
theorem prod_zero {K N : ℕ} (y : Fin K → EReal) (w : Fin K → Fin N → EReal) (n : Fin N) (h : ∀ k, w k n = 0) : prod y w n = 0 := by
  unfold prod
  simp [h]

end Cert.InProj

end
-- ==== Proof.InTurn.lean ====
/- The rotation of a head's pairs: its two halves turn by their own angles, each entry with the one across its half. -/
module

public import proofs.«01_k».proof.Proof.InLayer

@[expose] public section

noncomputable section

namespace Cert.InProj

/-- Entry `f` of member `p` of the pairs of half `a`, among `4 n` entries. -/
def pairAt {n : ℕ} (a p : Fin 2) (f : Fin n) : Fin (4 * n) :=
  ⟨2 * n * a.val + n * p.val + f.val, by
    have h1 : 2 * n * a.val ≤ 2 * n * 1 := Nat.mul_le_mul_left _ (by omega)
    have h2 : n * p.val ≤ n * 1 := Nat.mul_le_mul_left _ (by omega)
    omega⟩

/-- A head with its pairs turned, at an entry. -/
def turned {n : ℕ} (y : Fin (4 * n) → EReal) (c s : Fin 2 → Fin n → EReal) (a p : Fin 2) (f : Fin n) : EReal :=
  if p.val = 0 then turnFirst (y (pairAt a 0 f)) (y (pairAt a 1 f)) (c a f) (s a f) else turnSecond (y (pairAt a 0 f)) (y (pairAt a 1 f)) (c a f) (s a f)

/-- Every entry is one of a pair's. -/
theorem pairAt_of {n : ℕ} (l : Fin (4 * n)) : ∃ (a p : Fin 2) (f : Fin n), pairAt a p f = l := by
  have hn : 0 < n := by have := l.isLt; omega
  have d := Nat.div_add_mod l.val n
  have hq : l.val / n < 4 := Nat.div_lt_of_lt_mul (lt_of_lt_of_eq l.isLt (Nat.mul_comm 4 n))
  refine ⟨⟨l.val / n / 2, by omega⟩, ⟨l.val / n % 2, by omega⟩, ⟨l.val % n, Nat.mod_lt _ hn⟩, Fin.ext ?_⟩
  show 2 * n * (l.val / n / 2) + n * (l.val / n % 2) + l.val % n = l.val
  have e : n * (l.val / n) = 2 * n * (l.val / n / 2) + n * (l.val / n % 2) := by
    rw [mul_comm 2 n, mul_assoc, ← mul_add, Nat.div_add_mod]
  omega

end Cert.InProj

end
-- ==== Proof.InTurns.lean ====
/- The reference's rotations at an index: each half of a head turns its pairs by its own angles. -/
module

public import proofs.«01_k».proof.Proof.Gen.Reference3Ideal.Run
public import proofs.«01_k».proof.Proof.InTurn

@[expose] public section

set_option maxRecDepth 16384

noncomputable section

namespace Cert.Reference3Ideal.In

open Cert.Reference3Ideal Cert.Reference3Ideal.Gen Cert.Reference3Ideal.Value Cert.InProj
open Idealize.ShloMosaic Idealize.ShloMosaic.TcCoe Idealize.SL.Sem Idealize.ShloMosaic.StableHlo
open scoped BigOperators

variable (b : Fin 4) (t : Fin 8192)

/-! ## Four heads of 64 -/

def half16 (x : FVec Ideal S4x8192x4x32 .f32) (c s : FVec Ideal S8192x1x16 .f32) : FVec Ideal S4x8192x4x32 .f32 :=
  let first : FVec Ideal S4x8192x4x16 .f32 := extractStridedSlice S4x8192x4x16 ![0, 0, 0, 0] x slices_S4x8192x4x32_S4x8192x4x16_0_0_0_0
  let second : FVec Ideal S4x8192x4x16 .f32 := extractStridedSlice S4x8192x4x16 ![0, 0, 0, 16] x slices_S4x8192x4x32_S4x8192x4x16_0_0_0_16
  let cs : FVec Ideal S4x8192x4x16 .f32 := broadcastInDim S4x8192x4x16 ![0, 1, 2, 3] bcast_S1x8192x1x16_S4x8192x4x16_0_1_2_3 (broadcastInDim S1x8192x1x16 ![1, 2, 3] bcast_S8192x1x16_S1x8192x1x16_1_2_3 c)
  let sn : FVec Ideal S4x8192x4x16 .f32 := broadcastInDim S4x8192x4x16 ![0, 1, 2, 3] bcast_S1x8192x1x16_S4x8192x4x16_0_1_2_3 (broadcastInDim S1x8192x1x16 ![1, 2, 3] bcast_S8192x1x16_S1x8192x1x16_1_2_3 s)
  concatenate S4x8192x4x32 3 [⟨S4x8192x4x16, (subf (mulf first cs) (mulf second sn))⟩, ⟨S4x8192x4x16, (addf (mulf second cs) (mulf first sn))⟩] concatenates_S4x8192x4x16_S4x8192x4x16_S4x8192x4x32_d3

theorem half16_first (x : FVec Ideal S4x8192x4x32 .f32) (c s : FVec Ideal S8192x1x16 .f32) (hd : Fin 4) (f : Fin 16) :
    (half16 x c s (ix4 b t hd ⟨f.val, by omega⟩) : EReal) = turnFirst (x (ix4 b t hd ⟨f.val, by omega⟩)) (x (ix4 b t hd ⟨16 + f.val, by omega⟩)) (c (ix3 t 0 f)) (s (ix3 t 0 f)) := by
  unfold half16 turnFirst
  pointwise

theorem half16_second (x : FVec Ideal S4x8192x4x32 .f32) (c s : FVec Ideal S8192x1x16 .f32) (hd : Fin 4) (f : Fin 16) :
    (half16 x c s (ix4 b t hd ⟨16 + f.val, by omega⟩) : EReal) = turnSecond (x (ix4 b t hd ⟨f.val, by omega⟩)) (x (ix4 b t hd ⟨16 + f.val, by omega⟩)) (c (ix3 t 0 f)) (s (ix3 t 0 f)) := by
  unfold half16 turnSecond
  pointwise

/-- Both halves, side by side. -/
def both16 (x : FVec Ideal S4x8192x4x64 .f32) (c0 s0 c1 s1 : FVec Ideal S8192x1x16 .f32) : FVec Ideal S4x8192x4x64 .f32 :=
  concatenate S4x8192x4x64 3 [⟨S4x8192x4x32, half16 (extractStridedSlice S4x8192x4x32 ![0, 0, 0, 0] x slices_S4x8192x4x64_S4x8192x4x32_0_0_0_0) c0 s0⟩,
    ⟨S4x8192x4x32, half16 (extractStridedSlice S4x8192x4x32 ![0, 0, 0, 32] x slices_S4x8192x4x64_S4x8192x4x32_0_0_0_32) c1 s1⟩] concatenates_S4x8192x4x32_S4x8192x4x32_S4x8192x4x64_d3

theorem both16_apply (x : FVec Ideal S4x8192x4x64 .f32) (c0 s0 c1 s1 : FVec Ideal S8192x1x16 .f32) (hd : Fin 4) (a p : Fin 2) (f : Fin 16) :
    (both16 x c0 s0 c1 s1 (ix4 b t hd (pairAt a p f)) : EReal)
      = turned (fun i => x (ix4 b t hd i)) (fun a f => if a.val = 0 then c0 (ix3 t 0 f) else c1 (ix3 t 0 f)) (fun a f => if a.val = 0 then s0 (ix3 t 0 f) else s1 (ix3 t 0 f)) a p f := by
  have left : ∀ l : Fin 32, (both16 x c0 s0 c1 s1 (ix4 b t hd ⟨l.val, by omega⟩) : EReal) = half16 (extractStridedSlice S4x8192x4x32 ![0, 0, 0, 0] x slices_S4x8192x4x64_S4x8192x4x32_0_0_0_0) c0 s0 (ix4 b t hd l) := by
    intro l
    unfold both16
    generalize half16 _ c0 s0 = y0
    generalize half16 _ c1 s1 = y1
    pointwise
  have right : ∀ l : Fin 32, (both16 x c0 s0 c1 s1 (ix4 b t hd ⟨32 + l.val, by omega⟩) : EReal) = half16 (extractStridedSlice S4x8192x4x32 ![0, 0, 0, 32] x slices_S4x8192x4x64_S4x8192x4x32_0_0_0_32) c1 s1 (ix4 b t hd l) := by
    intro l
    unfold both16
    generalize half16 _ c0 s0 = y0
    generalize half16 _ c1 s1 = y1
    pointwise
  have at0 : ∀ l : Fin 32, (extractStridedSlice S4x8192x4x32 ![0, 0, 0, 0] x slices_S4x8192x4x64_S4x8192x4x32_0_0_0_0 : FVec Ideal S4x8192x4x32 .f32) (ix4 b t hd l) = x (ix4 b t hd ⟨l.val, by omega⟩) := by
    intro l
    pointwise
  have at1 : ∀ l : Fin 32, (extractStridedSlice S4x8192x4x32 ![0, 0, 0, 32] x slices_S4x8192x4x64_S4x8192x4x32_0_0_0_32 : FVec Ideal S4x8192x4x32 .f32) (ix4 b t hd l) = x (ix4 b t hd ⟨32 + l.val, by omega⟩) := by
    intro l
    pointwise
  have e : ∀ m n : Fin 64, m.val = n.val → (x (ix4 b t hd m) : EReal) = x (ix4 b t hd n) := fun m n h => congrArg (fun m => (x (ix4 b t hd m) : EReal)) (Fin.ext h)
  unfold turned
  match a, p with
  | ⟨0, _⟩, ⟨0, _⟩ =>
    refine (congrArg (fun n => (both16 x c0 s0 c1 s1 (ix4 b t hd n) : EReal)) (Fin.ext (show 32 * 0 + 16 * 0 + f.val = f.val by omega))).trans ((left ⟨f.val, by omega⟩).trans ((half16_first b t _ c0 s0 hd f).trans ?_))
    rw [at0, at0]
    refine congrArg₂ (fun y z => turnFirst y z (c0 (ix3 t 0 f)) (s0 (ix3 t 0 f))) (e _ _ ?_) (e _ _ ?_)
    · show f.val = 32 * 0 + 16 * 0 + f.val; omega
    · show 16 + f.val = 32 * 0 + 16 * 1 + f.val; omega
  | ⟨0, _⟩, ⟨1, _⟩ =>
    refine (congrArg (fun n => (both16 x c0 s0 c1 s1 (ix4 b t hd n) : EReal)) (Fin.ext (show 32 * 0 + 16 * 1 + f.val = 16 + f.val by omega))).trans ((left ⟨16 + f.val, by omega⟩).trans ((half16_second b t _ c0 s0 hd f).trans ?_))
    rw [at0, at0]
    refine congrArg₂ (fun y z => turnSecond y z (c0 (ix3 t 0 f)) (s0 (ix3 t 0 f))) (e _ _ ?_) (e _ _ ?_)
    · show f.val = 32 * 0 + 16 * 0 + f.val; omega
    · show 16 + f.val = 32 * 0 + 16 * 1 + f.val; omega
  | ⟨1, _⟩, ⟨0, _⟩ =>
    refine (congrArg (fun n => (both16 x c0 s0 c1 s1 (ix4 b t hd n) : EReal)) (Fin.ext (show 32 * 1 + 16 * 0 + f.val = 32 + f.val by omega))).trans ((right ⟨f.val, by omega⟩).trans ((half16_first b t _ c1 s1 hd f).trans ?_))
    rw [at1, at1]
    refine congrArg₂ (fun y z => turnFirst y z (c1 (ix3 t 0 f)) (s1 (ix3 t 0 f))) (e _ _ ?_) (e _ _ ?_)
    · show 32 + f.val = 32 * 1 + 16 * 0 + f.val; omega
    · show 32 + (16 + f.val) = 32 * 1 + 16 * 1 + f.val; omega
  | ⟨1, _⟩, ⟨1, _⟩ =>
    refine (congrArg (fun n => (both16 x c0 s0 c1 s1 (ix4 b t hd n) : EReal)) (Fin.ext (show 32 * 1 + 16 * 1 + f.val = 32 + (16 + f.val) by omega))).trans ((right ⟨16 + f.val, by omega⟩).trans ((half16_second b t _ c1 s1 hd f).trans ?_))
    rw [at1, at1]
    refine congrArg₂ (fun y z => turnSecond y z (c1 (ix3 t 0 f)) (s1 (ix3 t 0 f))) (e _ _ ?_) (e _ _ ?_)
    · show 32 + f.val = 32 * 1 + 16 * 0 + f.val; omega
    · show 32 + (16 + f.val) = 32 * 1 + 16 * 1 + f.val; omega

/-! ## Four heads' last 32 -/

def half8 (x : FVec Ideal S4x8192x4x16 .f32) (c s : FVec Ideal S8192x1x8 .f32) : FVec Ideal S4x8192x4x16 .f32 :=
  let first : FVec Ideal S4x8192x4x8 .f32 := extractStridedSlice S4x8192x4x8 ![0, 0, 0, 0] x slices_S4x8192x4x16_S4x8192x4x8_0_0_0_0
  let second : FVec Ideal S4x8192x4x8 .f32 := extractStridedSlice S4x8192x4x8 ![0, 0, 0, 8] x slices_S4x8192x4x16_S4x8192x4x8_0_0_0_8
  let cs : FVec Ideal S4x8192x4x8 .f32 := broadcastInDim S4x8192x4x8 ![0, 1, 2, 3] bcast_S1x8192x1x8_S4x8192x4x8_0_1_2_3 (broadcastInDim S1x8192x1x8 ![1, 2, 3] bcast_S8192x1x8_S1x8192x1x8_1_2_3 c)
  let sn : FVec Ideal S4x8192x4x8 .f32 := broadcastInDim S4x8192x4x8 ![0, 1, 2, 3] bcast_S1x8192x1x8_S4x8192x4x8_0_1_2_3 (broadcastInDim S1x8192x1x8 ![1, 2, 3] bcast_S8192x1x8_S1x8192x1x8_1_2_3 s)
  concatenate S4x8192x4x16 3 [⟨S4x8192x4x8, (subf (mulf first cs) (mulf second sn))⟩, ⟨S4x8192x4x8, (addf (mulf second cs) (mulf first sn))⟩] concatenates_S4x8192x4x8_S4x8192x4x8_S4x8192x4x16_d3

theorem half8_first (x : FVec Ideal S4x8192x4x16 .f32) (c s : FVec Ideal S8192x1x8 .f32) (hd : Fin 4) (f : Fin 8) :
    (half8 x c s (ix4 b t hd ⟨f.val, by omega⟩) : EReal) = turnFirst (x (ix4 b t hd ⟨f.val, by omega⟩)) (x (ix4 b t hd ⟨8 + f.val, by omega⟩)) (c (ix3 t 0 f)) (s (ix3 t 0 f)) := by
  unfold half8 turnFirst
  pointwise

theorem half8_second (x : FVec Ideal S4x8192x4x16 .f32) (c s : FVec Ideal S8192x1x8 .f32) (hd : Fin 4) (f : Fin 8) :
    (half8 x c s (ix4 b t hd ⟨8 + f.val, by omega⟩) : EReal) = turnSecond (x (ix4 b t hd ⟨f.val, by omega⟩)) (x (ix4 b t hd ⟨8 + f.val, by omega⟩)) (c (ix3 t 0 f)) (s (ix3 t 0 f)) := by
  unfold half8 turnSecond
  pointwise

/-- Both halves, side by side. -/
def both8 (x : FVec Ideal S4x8192x4x32 .f32) (c0 s0 c1 s1 : FVec Ideal S8192x1x8 .f32) : FVec Ideal S4x8192x4x32 .f32 :=
  concatenate S4x8192x4x32 3 [⟨S4x8192x4x16, half8 (extractStridedSlice S4x8192x4x16 ![0, 0, 0, 0] x slices_S4x8192x4x32_S4x8192x4x16_0_0_0_0) c0 s0⟩,
    ⟨S4x8192x4x16, half8 (extractStridedSlice S4x8192x4x16 ![0, 0, 0, 16] x slices_S4x8192x4x32_S4x8192x4x16_0_0_0_16) c1 s1⟩] concatenates_S4x8192x4x16_S4x8192x4x16_S4x8192x4x32_d3

theorem both8_apply (x : FVec Ideal S4x8192x4x32 .f32) (c0 s0 c1 s1 : FVec Ideal S8192x1x8 .f32) (hd : Fin 4) (a p : Fin 2) (f : Fin 8) :
    (both8 x c0 s0 c1 s1 (ix4 b t hd (pairAt a p f)) : EReal)
      = turned (fun i => x (ix4 b t hd i)) (fun a f => if a.val = 0 then c0 (ix3 t 0 f) else c1 (ix3 t 0 f)) (fun a f => if a.val = 0 then s0 (ix3 t 0 f) else s1 (ix3 t 0 f)) a p f := by
  have left : ∀ l : Fin 16, (both8 x c0 s0 c1 s1 (ix4 b t hd ⟨l.val, by omega⟩) : EReal) = half8 (extractStridedSlice S4x8192x4x16 ![0, 0, 0, 0] x slices_S4x8192x4x32_S4x8192x4x16_0_0_0_0) c0 s0 (ix4 b t hd l) := by
    intro l
    unfold both8
    generalize half8 _ c0 s0 = y0
    generalize half8 _ c1 s1 = y1
    pointwise
  have right : ∀ l : Fin 16, (both8 x c0 s0 c1 s1 (ix4 b t hd ⟨16 + l.val, by omega⟩) : EReal) = half8 (extractStridedSlice S4x8192x4x16 ![0, 0, 0, 16] x slices_S4x8192x4x32_S4x8192x4x16_0_0_0_16) c1 s1 (ix4 b t hd l) := by
    intro l
    unfold both8
    generalize half8 _ c0 s0 = y0
    generalize half8 _ c1 s1 = y1
    pointwise
  have at0 : ∀ l : Fin 16, (extractStridedSlice S4x8192x4x16 ![0, 0, 0, 0] x slices_S4x8192x4x32_S4x8192x4x16_0_0_0_0 : FVec Ideal S4x8192x4x16 .f32) (ix4 b t hd l) = x (ix4 b t hd ⟨l.val, by omega⟩) := by
    intro l
    pointwise
  have at1 : ∀ l : Fin 16, (extractStridedSlice S4x8192x4x16 ![0, 0, 0, 16] x slices_S4x8192x4x32_S4x8192x4x16_0_0_0_16 : FVec Ideal S4x8192x4x16 .f32) (ix4 b t hd l) = x (ix4 b t hd ⟨16 + l.val, by omega⟩) := by
    intro l
    pointwise
  have e : ∀ m n : Fin 32, m.val = n.val → (x (ix4 b t hd m) : EReal) = x (ix4 b t hd n) := fun m n h => congrArg (fun m => (x (ix4 b t hd m) : EReal)) (Fin.ext h)
  unfold turned
  match a, p with
  | ⟨0, _⟩, ⟨0, _⟩ =>
    refine (congrArg (fun n => (both8 x c0 s0 c1 s1 (ix4 b t hd n) : EReal)) (Fin.ext (show 16 * 0 + 8 * 0 + f.val = f.val by omega))).trans ((left ⟨f.val, by omega⟩).trans ((half8_first b t _ c0 s0 hd f).trans ?_))
    rw [at0, at0]
    refine congrArg₂ (fun y z => turnFirst y z (c0 (ix3 t 0 f)) (s0 (ix3 t 0 f))) (e _ _ ?_) (e _ _ ?_)
    · show f.val = 16 * 0 + 8 * 0 + f.val; omega
    · show 8 + f.val = 16 * 0 + 8 * 1 + f.val; omega
  | ⟨0, _⟩, ⟨1, _⟩ =>
    refine (congrArg (fun n => (both8 x c0 s0 c1 s1 (ix4 b t hd n) : EReal)) (Fin.ext (show 16 * 0 + 8 * 1 + f.val = 8 + f.val by omega))).trans ((left ⟨8 + f.val, by omega⟩).trans ((half8_second b t _ c0 s0 hd f).trans ?_))
    rw [at0, at0]
    refine congrArg₂ (fun y z => turnSecond y z (c0 (ix3 t 0 f)) (s0 (ix3 t 0 f))) (e _ _ ?_) (e _ _ ?_)
    · show f.val = 16 * 0 + 8 * 0 + f.val; omega
    · show 8 + f.val = 16 * 0 + 8 * 1 + f.val; omega
  | ⟨1, _⟩, ⟨0, _⟩ =>
    refine (congrArg (fun n => (both8 x c0 s0 c1 s1 (ix4 b t hd n) : EReal)) (Fin.ext (show 16 * 1 + 8 * 0 + f.val = 16 + f.val by omega))).trans ((right ⟨f.val, by omega⟩).trans ((half8_first b t _ c1 s1 hd f).trans ?_))
    rw [at1, at1]
    refine congrArg₂ (fun y z => turnFirst y z (c1 (ix3 t 0 f)) (s1 (ix3 t 0 f))) (e _ _ ?_) (e _ _ ?_)
    · show 16 + f.val = 16 * 1 + 8 * 0 + f.val; omega
    · show 16 + (8 + f.val) = 16 * 1 + 8 * 1 + f.val; omega
  | ⟨1, _⟩, ⟨1, _⟩ =>
    refine (congrArg (fun n => (both8 x c0 s0 c1 s1 (ix4 b t hd n) : EReal)) (Fin.ext (show 16 * 1 + 8 * 1 + f.val = 16 + (8 + f.val) by omega))).trans ((right ⟨8 + f.val, by omega⟩).trans ((half8_second b t _ c1 s1 hd f).trans ?_))
    rw [at1, at1]
    refine congrArg₂ (fun y z => turnSecond y z (c1 (ix3 t 0 f)) (s1 (ix3 t 0 f))) (e _ _ ?_) (e _ _ ?_)
    · show 16 + f.val = 16 * 1 + 8 * 0 + f.val; omega
    · show 16 + (8 + f.val) = 16 * 1 + 8 * 1 + f.val; omega

/-! ## The 32 the heads share -/

def halfOne (x : FVec Ideal S4x8192x1x16 .f32) (c s : FVec Ideal S8192x1x8 .f32) : FVec Ideal S4x8192x1x16 .f32 :=
  let first : FVec Ideal S4x8192x1x8 .f32 := extractStridedSlice S4x8192x1x8 ![0, 0, 0, 0] x slices_S4x8192x1x16_S4x8192x1x8_0_0_0_0
  let second : FVec Ideal S4x8192x1x8 .f32 := extractStridedSlice S4x8192x1x8 ![0, 0, 0, 8] x slices_S4x8192x1x16_S4x8192x1x8_0_0_0_8
  let cs : FVec Ideal S4x8192x1x8 .f32 := broadcastInDim S4x8192x1x8 ![0, 1, 2, 3] bcast_S1x8192x1x8_S4x8192x1x8_0_1_2_3 (broadcastInDim S1x8192x1x8 ![1, 2, 3] bcast_S8192x1x8_S1x8192x1x8_1_2_3 c)
  let sn : FVec Ideal S4x8192x1x8 .f32 := broadcastInDim S4x8192x1x8 ![0, 1, 2, 3] bcast_S1x8192x1x8_S4x8192x1x8_0_1_2_3 (broadcastInDim S1x8192x1x8 ![1, 2, 3] bcast_S8192x1x8_S1x8192x1x8_1_2_3 s)
  concatenate S4x8192x1x16 3 [⟨S4x8192x1x8, (subf (mulf first cs) (mulf second sn))⟩, ⟨S4x8192x1x8, (addf (mulf second cs) (mulf first sn))⟩] concatenates_S4x8192x1x8_S4x8192x1x8_S4x8192x1x16_d3

theorem halfOne_first (x : FVec Ideal S4x8192x1x16 .f32) (c s : FVec Ideal S8192x1x8 .f32) (f : Fin 8) :
    (halfOne x c s (ix4 b t 0 ⟨f.val, by omega⟩) : EReal) = turnFirst (x (ix4 b t 0 ⟨f.val, by omega⟩)) (x (ix4 b t 0 ⟨8 + f.val, by omega⟩)) (c (ix3 t 0 f)) (s (ix3 t 0 f)) := by
  unfold halfOne turnFirst
  pointwise

theorem halfOne_second (x : FVec Ideal S4x8192x1x16 .f32) (c s : FVec Ideal S8192x1x8 .f32) (f : Fin 8) :
    (halfOne x c s (ix4 b t 0 ⟨8 + f.val, by omega⟩) : EReal) = turnSecond (x (ix4 b t 0 ⟨f.val, by omega⟩)) (x (ix4 b t 0 ⟨8 + f.val, by omega⟩)) (c (ix3 t 0 f)) (s (ix3 t 0 f)) := by
  unfold halfOne turnSecond
  pointwise

/-- Both halves, side by side. -/
def bothOne (x : FVec Ideal S4x8192x1x32 .f32) (c0 s0 c1 s1 : FVec Ideal S8192x1x8 .f32) : FVec Ideal S4x8192x1x32 .f32 :=
  concatenate S4x8192x1x32 3 [⟨S4x8192x1x16, halfOne (extractStridedSlice S4x8192x1x16 ![0, 0, 0, 0] x slices_S4x8192x1x32_S4x8192x1x16_0_0_0_0) c0 s0⟩,
    ⟨S4x8192x1x16, halfOne (extractStridedSlice S4x8192x1x16 ![0, 0, 0, 16] x slices_S4x8192x1x32_S4x8192x1x16_0_0_0_16) c1 s1⟩] concatenates_S4x8192x1x16_S4x8192x1x16_S4x8192x1x32_d3

theorem bothOne_apply (x : FVec Ideal S4x8192x1x32 .f32) (c0 s0 c1 s1 : FVec Ideal S8192x1x8 .f32) (a p : Fin 2) (f : Fin 8) :
    (bothOne x c0 s0 c1 s1 (ix4 b t 0 (pairAt a p f)) : EReal)
      = turned (fun i => x (ix4 b t 0 i)) (fun a f => if a.val = 0 then c0 (ix3 t 0 f) else c1 (ix3 t 0 f)) (fun a f => if a.val = 0 then s0 (ix3 t 0 f) else s1 (ix3 t 0 f)) a p f := by
  have left : ∀ l : Fin 16, (bothOne x c0 s0 c1 s1 (ix4 b t 0 ⟨l.val, by omega⟩) : EReal) = halfOne (extractStridedSlice S4x8192x1x16 ![0, 0, 0, 0] x slices_S4x8192x1x32_S4x8192x1x16_0_0_0_0) c0 s0 (ix4 b t 0 l) := by
    intro l
    unfold bothOne
    generalize halfOne _ c0 s0 = y0
    generalize halfOne _ c1 s1 = y1
    pointwise
  have right : ∀ l : Fin 16, (bothOne x c0 s0 c1 s1 (ix4 b t 0 ⟨16 + l.val, by omega⟩) : EReal) = halfOne (extractStridedSlice S4x8192x1x16 ![0, 0, 0, 16] x slices_S4x8192x1x32_S4x8192x1x16_0_0_0_16) c1 s1 (ix4 b t 0 l) := by
    intro l
    unfold bothOne
    generalize halfOne _ c0 s0 = y0
    generalize halfOne _ c1 s1 = y1
    pointwise
  have at0 : ∀ l : Fin 16, (extractStridedSlice S4x8192x1x16 ![0, 0, 0, 0] x slices_S4x8192x1x32_S4x8192x1x16_0_0_0_0 : FVec Ideal S4x8192x1x16 .f32) (ix4 b t 0 l) = x (ix4 b t 0 ⟨l.val, by omega⟩) := by
    intro l
    pointwise
  have at1 : ∀ l : Fin 16, (extractStridedSlice S4x8192x1x16 ![0, 0, 0, 16] x slices_S4x8192x1x32_S4x8192x1x16_0_0_0_16 : FVec Ideal S4x8192x1x16 .f32) (ix4 b t 0 l) = x (ix4 b t 0 ⟨16 + l.val, by omega⟩) := by
    intro l
    pointwise
  have e : ∀ m n : Fin 32, m.val = n.val → (x (ix4 b t 0 m) : EReal) = x (ix4 b t 0 n) := fun m n h => congrArg (fun m => (x (ix4 b t 0 m) : EReal)) (Fin.ext h)
  unfold turned
  match a, p with
  | ⟨0, _⟩, ⟨0, _⟩ =>
    refine (congrArg (fun n => (bothOne x c0 s0 c1 s1 (ix4 b t 0 n) : EReal)) (Fin.ext (show 16 * 0 + 8 * 0 + f.val = f.val by omega))).trans ((left ⟨f.val, by omega⟩).trans ((halfOne_first b t _ c0 s0 f).trans ?_))
    rw [at0, at0]
    refine congrArg₂ (fun y z => turnFirst y z (c0 (ix3 t 0 f)) (s0 (ix3 t 0 f))) (e _ _ ?_) (e _ _ ?_)
    · show f.val = 16 * 0 + 8 * 0 + f.val; omega
    · show 8 + f.val = 16 * 0 + 8 * 1 + f.val; omega
  | ⟨0, _⟩, ⟨1, _⟩ =>
    refine (congrArg (fun n => (bothOne x c0 s0 c1 s1 (ix4 b t 0 n) : EReal)) (Fin.ext (show 16 * 0 + 8 * 1 + f.val = 8 + f.val by omega))).trans ((left ⟨8 + f.val, by omega⟩).trans ((halfOne_second b t _ c0 s0 f).trans ?_))
    rw [at0, at0]
    refine congrArg₂ (fun y z => turnSecond y z (c0 (ix3 t 0 f)) (s0 (ix3 t 0 f))) (e _ _ ?_) (e _ _ ?_)
    · show f.val = 16 * 0 + 8 * 0 + f.val; omega
    · show 8 + f.val = 16 * 0 + 8 * 1 + f.val; omega
  | ⟨1, _⟩, ⟨0, _⟩ =>
    refine (congrArg (fun n => (bothOne x c0 s0 c1 s1 (ix4 b t 0 n) : EReal)) (Fin.ext (show 16 * 1 + 8 * 0 + f.val = 16 + f.val by omega))).trans ((right ⟨f.val, by omega⟩).trans ((halfOne_first b t _ c1 s1 f).trans ?_))
    rw [at1, at1]
    refine congrArg₂ (fun y z => turnFirst y z (c1 (ix3 t 0 f)) (s1 (ix3 t 0 f))) (e _ _ ?_) (e _ _ ?_)
    · show 16 + f.val = 16 * 1 + 8 * 0 + f.val; omega
    · show 16 + (8 + f.val) = 16 * 1 + 8 * 1 + f.val; omega
  | ⟨1, _⟩, ⟨1, _⟩ =>
    refine (congrArg (fun n => (bothOne x c0 s0 c1 s1 (ix4 b t 0 n) : EReal)) (Fin.ext (show 16 * 1 + 8 * 1 + f.val = 16 + (8 + f.val) by omega))).trans ((right ⟨8 + f.val, by omega⟩).trans ((halfOne_second b t _ c1 s1 f).trans ?_))
    rw [at1, at1]
    refine congrArg₂ (fun y z => turnSecond y z (c1 (ix3 t 0 f)) (s1 (ix3 t 0 f))) (e _ _ ?_) (e _ _ ?_)
    · show 16 + f.val = 16 * 1 + 8 * 0 + f.val; omega
    · show 16 + (8 + f.val) = 16 * 1 + 8 * 1 + f.val; omega

end Cert.Reference3Ideal.In

end
-- ==== Proof.InRefs.lean ====
/- The reference of the projections at an index: the products of a token's modulated row, the low-rank steps, the results lane by lane. -/
module

public import proofs.«01_k».proof.Proof.InTurns

@[expose] public section

set_option maxRecDepth 16384

noncomputable section

namespace Cert.Reference3Ideal.In

open Cert.Reference3Ideal Cert.Reference3Ideal.Gen Cert.Reference3Ideal.Value Cert.InProj
open Idealize.ShloMosaic Idealize.ShloMosaic.TcCoe Idealize.SL.Sem Idealize.ShloMosaic.StableHlo
open scoped BigOperators

variable (V0 : Valuation τ sig (Elt Ideal)) (b : Fin 4) (t : Fin 8192)

/-- A token's operands. -/
def opsAt : Ops :=
  opsOf (V0 (Proc.devRef .tc main_arg0)) (V0 (Proc.devRef .tc main_arg1)) (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8)) b t

/-! ## The products -/

theorem v26_apply (n : Fin 3232) : (res_main_v26 V0 (ix3 b t n) : EReal) = (opsAt V0 b t).p n := by
  unfold res_main_v26 opsAt opsOf Ops.p Ops.u prod modulated normed
  generalize V0 (Proc.devRef .tc main_arg0) = a0
  generalize V0 (Proc.devRef .tc main_arg1) = a1
  generalize V0 (Proc.devRef .tc main_arg2) = a2
  generalize V0 (Proc.devRef .tc main_arg3) = a3
  generalize V0 (Proc.devRef .tc main_arg4) = a4
  pointwise

/-- A low-rank row normalised and expanded: the query's. -/
def expandQ (y : FVec Ideal S4x8192x384 .f32) (g : FVec Ideal S384 .f32) (w : FVec Ideal S384x384 .f32) : FVec Ideal S4x8192x384 .f32 :=
  Host.dotGeneral dot_S4x8192x384_S384x384_S4x8192x384_2_0_01_1_n_n none (mulf (mulf y (broadcastInDim S4x8192x384 ![0, 1, 2] bcast_S4x8192x1_S4x8192x384_0_1_2 (Host.rsqrt (addf (Host.divf (broadcastInDim S4x8192x1 ![0, 1] bcast_S4x8192_S4x8192x1_0_1 (Host.reduceAdd (mulf y y) (constant S_ .f32 0x00000000#32) reducesTo_S4x8192x384_S4x8192_d2 h_S_)) (broadcastInDim S4x8192x1 ![] bcast_S_S4x8192x1 (constant S_ .f32 0x43C00000#32))) (broadcastInDim S4x8192x1 ![] bcast_S_S4x8192x1 (constant S_ .f32 0x358637BD#32)))))) (broadcastInDim S4x8192x384 ![0, 1, 2] bcast_S1x1x384_S4x8192x384_0_1_2 (broadcastInDim S1x1x384 ![2] bcast_S384_S1x1x384_2 g))) w

theorem expandQ_apply (y : FVec Ideal S4x8192x384 .f32) (g : FVec Ideal S384 .f32) (w : FVec Ideal S384x384 .f32) (n : Fin 384) :
    (expandQ y g w (ix3 b t n) : EReal) = prod (normed (Ideal.ofBits .f32 0x43C00000#32) (fun i => y (ix3 b t i)) (fun i => g (ix1 i))) (fun k n => w (ix2 k n)) n := by
  unfold expandQ prod normed
  pointwise

/-- The keys' and values'. -/
def expandKv (y : FVec Ideal S4x8192x256 .f32) (g : FVec Ideal S256 .f32) (w : FVec Ideal S256x512 .f32) : FVec Ideal S4x8192x512 .f32 :=
  Host.dotGeneral dot_S4x8192x256_S256x512_S4x8192x512_2_0_01_1_n_n none (mulf (mulf y (broadcastInDim S4x8192x256 ![0, 1, 2] bcast_S4x8192x1_S4x8192x256_0_1_2 (Host.rsqrt (addf (Host.divf (broadcastInDim S4x8192x1 ![0, 1] bcast_S4x8192_S4x8192x1_0_1 (Host.reduceAdd (mulf y y) (constant S_ .f32 0x00000000#32) reducesTo_S4x8192x256_S4x8192_d2 h_S_)) (broadcastInDim S4x8192x1 ![] bcast_S_S4x8192x1 (constant S_ .f32 0x43800000#32))) (broadcastInDim S4x8192x1 ![] bcast_S_S4x8192x1 (constant S_ .f32 0x358637BD#32)))))) (broadcastInDim S4x8192x256 ![0, 1, 2] bcast_S1x1x256_S4x8192x256_0_1_2 (broadcastInDim S1x1x256 ![2] bcast_S256_S1x1x256_2 g))) w

theorem expandKv_apply (y : FVec Ideal S4x8192x256 .f32) (g : FVec Ideal S256 .f32) (w : FVec Ideal S256x512 .f32) (n : Fin 512) :
    (expandKv y g w (ix3 b t n) : EReal) = prod (normed (Ideal.ofBits .f32 0x43800000#32) (fun i => y (ix3 b t i)) (fun i => g (ix1 i))) (fun k n => w (ix2 k n)) n := by
  unfold expandKv prod normed
  pointwise

theorem v176_apply (i : Fin 384) : (res_main_v176 V0 (ix3 b t i) : EReal) = (opsAt V0 b t).p ⟨2560 + i.val, by omega⟩ := by
  rw [← v26_apply]
  unfold res_main_v176
  generalize res_main_v26 V0 = y
  pointwise

theorem v192_apply (i : Fin 256) : (res_main_v192 V0 (ix3 b t i) : EReal) = (opsAt V0 b t).p ⟨2944 + i.val, by omega⟩ := by
  rw [← v26_apply]
  unfold res_main_v192
  generalize res_main_v26 V0 = y
  pointwise

theorem v191_apply (hd : Fin 4) (l : Fin 96) : (res_main_v191 V0 (ix4 b t hd l) : EReal) = (opsAt V0 b t).q ⟨96 * hd.val + l.val, by omega⟩ := by
  have e : res_main_v191 V0 = shapeCast _ (expandQ (res_main_v176 V0) (V0 (Proc.devRef .tc main_arg5)) (V0 (Proc.devRef .tc main_arg7))) shapeCasts_S4x8192x384_S4x8192x4x96 := rfl
  have h := expandQ_apply b t (res_main_v176 V0) (V0 (Proc.devRef .tc main_arg5)) (V0 (Proc.devRef .tc main_arg7)) ⟨96 * hd.val + l.val, by omega⟩
  rw [funext (v176_apply V0 b t)] at h
  refine Eq.trans ?_ h
  rw [e]
  generalize expandQ _ _ _ = y
  pointwise
  exact congrArg (fun n => y (ix3 b t n)) (Fin.ext (show hd.val * 96 + l.val = 96 * hd.val + l.val by omega))

theorem v207_apply (hd : Fin 4) (l : Fin 128) : (res_main_v207 V0 (ix4 b t hd l) : EReal) = (opsAt V0 b t).kv ⟨128 * hd.val + l.val, by omega⟩ := by
  have e : res_main_v207 V0 = shapeCast _ (expandKv (res_main_v192 V0) (V0 (Proc.devRef .tc main_arg6)) (V0 (Proc.devRef .tc main_arg8))) shapeCasts_S4x8192x512_S4x8192x4x128 := rfl
  have h := expandKv_apply b t (res_main_v192 V0) (V0 (Proc.devRef .tc main_arg6)) (V0 (Proc.devRef .tc main_arg8)) ⟨128 * hd.val + l.val, by omega⟩
  rw [funext (v192_apply V0 b t)] at h
  refine Eq.trans ?_ h
  rw [e]
  generalize expandKv _ _ _ = y
  pointwise
  exact congrArg (fun n => y (ix3 b t n)) (Fin.ext (show hd.val * 128 + l.val = 128 * hd.val + l.val by omega))

theorem v28_apply (hd : Fin 4) (i : Fin 64) : (res_main_v28 V0 (ix4 b t hd i) : EReal) = (opsAt V0 b t).p ⟨64 * hd.val + i.val, by omega⟩ := by
  rw [← v26_apply]
  unfold res_main_v28
  generalize res_main_v26 V0 = y
  pointwise
  exact congrArg (fun n => y (ix3 b t n)) (Fin.ext (show hd.val * 64 + i.val = 64 * hd.val + i.val by omega))

theorem v99_apply (hd : Fin 4) (i : Fin 64) : (res_main_v99 V0 (ix4 b t hd i) : EReal) = (opsAt V0 b t).p ⟨256 + (64 * hd.val + i.val), by omega⟩ := by
  rw [← v26_apply]
  unfold res_main_v99
  generalize res_main_v26 V0 = y
  pointwise
  exact congrArg (fun n => y (ix3 b t n)) (Fin.ext (show 256 + (hd.val * 64 + i.val) = 256 + (64 * hd.val + i.val) by omega))

theorem v209_apply (hd : Fin 4) (i : Fin 32) : (res_main_v209 V0 (ix4 b t hd i) : EReal) = (opsAt V0 b t).q ⟨96 * hd.val + (64 + i.val), by omega⟩ := by
  have h := v191_apply V0 b t hd ⟨64 + i.val, by omega⟩
  refine Eq.trans ?_ h
  unfold res_main_v209
  generalize res_main_v191 V0 = y
  pointwise

theorem v279_apply (i : Fin 32) : (res_main_v279 V0 (ix4 b t 0 i) : EReal) = (opsAt V0 b t).p ⟨3200 + i.val, by omega⟩ := by
  rw [← v26_apply]
  unfold res_main_v279
  generalize res_main_v26 V0 = y
  pointwise

/-! ## The results -/

/-- The rotations' cosines and sines of a token. -/
def cosAt16 (a : Fin 2) (f : Fin 16) : EReal := if a.val = 0 then res_main_v42 V0 (ix3 t 0 f) else res_main_v75 V0 (ix3 t 0 f)
def sinAt16 (a : Fin 2) (f : Fin 16) : EReal := if a.val = 0 then res_main_v44 V0 (ix3 t 0 f) else res_main_v77 V0 (ix3 t 0 f)
def cosAt8 (a : Fin 2) (f : Fin 8) : EReal := if a.val = 0 then res_main_v223 V0 (ix3 t 0 f) else res_main_v256 V0 (ix3 t 0 f)
def sinAt8 (a : Fin 2) (f : Fin 8) : EReal := if a.val = 0 then res_main_v225 V0 (ix3 t 0 f) else res_main_v258 V0 (ix3 t 0 f)

/-- The three rotated arrays of heads. -/
def turnedQ : FVec Ideal S4x8192x4x64 .f32 := both16 (res_main_v28 V0) (res_main_v42 V0) (res_main_v44 V0) (res_main_v75 V0) (res_main_v77 V0)
def turnedK : FVec Ideal S4x8192x4x64 .f32 := both16 (res_main_v99 V0) (res_main_v113 V0) (res_main_v115 V0) (res_main_v146 V0) (res_main_v148 V0)
def turnedMq : FVec Ideal S4x8192x4x32 .f32 := both8 (res_main_v209 V0) (res_main_v223 V0) (res_main_v225 V0) (res_main_v256 V0) (res_main_v258 V0)
def turnedPe : FVec Ideal S4x8192x1x32 .f32 := bothOne (res_main_v279 V0) (res_main_v293 V0) (res_main_v295 V0) (res_main_v326 V0) (res_main_v328 V0)

theorem turnedQ_apply (hd : Fin 4) (a p : Fin 2) (f : Fin 16) :
    (turnedQ V0 (ix4 b t hd (pairAt a p f)) : EReal) = turned (fun i : Fin 64 => (opsAt V0 b t).p ⟨64 * hd.val + i.val, by omega⟩) (cosAt16 V0 t) (sinAt16 V0 t) a p f := by
  refine (both16_apply b t _ _ _ _ _ hd a p f).trans ?_
  rw [funext (v28_apply V0 b t hd)]
  rfl

theorem turnedK_apply (hd : Fin 4) (a p : Fin 2) (f : Fin 16) :
    (turnedK V0 (ix4 b t hd (pairAt a p f)) : EReal) = turned (fun i : Fin 64 => (opsAt V0 b t).p ⟨256 + (64 * hd.val + i.val), by omega⟩) (cosAt16 V0 t) (sinAt16 V0 t) a p f := by
  refine (both16_apply b t _ _ _ _ _ hd a p f).trans ?_
  rw [funext (v99_apply V0 b t hd)]
  rfl

theorem turnedMq_apply (hd : Fin 4) (a p : Fin 2) (f : Fin 8) :
    (turnedMq V0 (ix4 b t hd (pairAt a p f)) : EReal) = turned (fun i : Fin 32 => (opsAt V0 b t).q ⟨96 * hd.val + (64 + i.val), by omega⟩) (cosAt8 V0 t) (sinAt8 V0 t) a p f := by
  refine (both8_apply b t _ _ _ _ _ hd a p f).trans ?_
  rw [funext (v209_apply V0 b t hd)]
  rfl

theorem turnedPe_apply (a p : Fin 2) (f : Fin 8) :
    (turnedPe V0 (ix4 b t 0 (pairAt a p f)) : EReal) = turned (fun i : Fin 32 => (opsAt V0 b t).p ⟨3200 + i.val, by omega⟩) (cosAt8 V0 t) (sinAt8 V0 t) a p f := by
  refine (bothOne_apply b t _ _ _ _ _ a p f).trans ?_
  rw [funext (v279_apply V0 b t)]
  rfl

/-- The first result: the rotated queries, scaled, the rotated keys, and the remaining columns. -/
def retOf (q k : FVec Ideal S4x8192x4x64 .f32) (y : FVec Ideal S4x8192x3232 .f32) : FVec Ideal S4x8192x1024 .f32 :=
  concatenate S4x8192x1024 2 [⟨S4x8192x256, ((shapeCast _ (mulf q (broadcastInDim S4x8192x4x64 ![] bcast_S_S4x8192x4x64 (constant S_ .f32 0x3E000000#32))) shapeCasts_S4x8192x4x64_S4x8192x256) : FVec Ideal S4x8192x256 .f32)⟩,
    ⟨S4x8192x256, ((shapeCast _ k shapeCasts_S4x8192x4x64_S4x8192x256) : FVec Ideal S4x8192x256 .f32)⟩,
    ⟨S4x8192x512, (extractStridedSlice S4x8192x512 ![0, 0, 512] y slices_S4x8192x3232_S4x8192x512_0_0_512 : FVec Ideal S4x8192x512 .f32)⟩] concatenates_S4x8192x256_S4x8192x256_S4x8192x512_S4x8192x1024_d2

theorem v170_eq : res_main_v170 V0 = retOf (turnedQ V0) (turnedK V0) (res_main_v26 V0) := rfl

theorem retOf_q (q k : FVec Ideal S4x8192x4x64 .f32) (y : FVec Ideal S4x8192x3232 .f32) (hd : Fin 4) (i : Fin 64) :
    (retOf q k y (ix3 b t ⟨64 * hd.val + i.val, by omega⟩) : EReal) = q (ix4 b t hd i) * Ideal.ofBits .f32 0x3E000000#32 := by
  unfold retOf
  pointwise
  rw [dif_pos (show 64 * hd.val + i.val < 256 by omega)]

theorem retOf_k (q k : FVec Ideal S4x8192x4x64 .f32) (y : FVec Ideal S4x8192x3232 .f32) (hd : Fin 4) (i : Fin 64) :
    (retOf q k y (ix3 b t ⟨256 + (64 * hd.val + i.val), by omega⟩) : EReal) = k (ix4 b t hd i) := by
  unfold retOf
  pointwise
  rw [dif_pos (show 64 * hd.val + i.val < 256 by omega)]

theorem retOf_rest (q k : FVec Ideal S4x8192x4x64 .f32) (y : FVec Ideal S4x8192x3232 .f32) (l : Fin 512) :
    (retOf q k y (ix3 b t ⟨512 + l.val, by omega⟩) : EReal) = y (ix3 b t ⟨512 + l.val, by omega⟩) := by
  unfold retOf
  pointwise
  rw [dif_neg (show ¬512 + l.val < 256 by omega), dif_neg (show ¬512 + l.val - 256 < 256 by omega)]
  exact congrArg (fun n => y (ix3 b t n)) (Fin.ext (show 512 + (512 + l.val - 256 - 256) = 512 + l.val by omega))

/-- The second result: the scaled queries of the neighbourhood attention, and its keys and values. -/
def naOf (y : FVec Ideal S4x8192x3232 .f32) : FVec Ideal S4x8192x1536 .bf16 :=
  truncf .bf16 (concatenate S4x8192x1536 2 [⟨S4x8192x512, (mulf (extractStridedSlice S4x8192x512 ![0, 0, 1024] y slices_S4x8192x3232_S4x8192x512_0_0_1024) (broadcastInDim S4x8192x512 ![] bcast_S_S4x8192x512 (constant S_ .f32 0x3E000000#32)))⟩, ⟨S4x8192x1024, (extractStridedSlice S4x8192x1024 ![0, 0, 1536] y slices_S4x8192x3232_S4x8192x1024_0_0_1536)⟩] concatenates_S4x8192x512_S4x8192x1024_S4x8192x1536_d2) bitsLt_bf16_f32

theorem naOf_q (y : FVec Ideal S4x8192x3232 .f32) (l : Fin 512) :
    (naOf y (ix3 b t ⟨l.val, by omega⟩) : EReal) = y (ix3 b t ⟨1024 + l.val, by omega⟩) * Ideal.ofBits .f32 0x3E000000#32 := by
  unfold naOf
  pointwise

theorem naOf_rest (y : FVec Ideal S4x8192x3232 .f32) (l : Fin 1024) :
    (naOf y (ix3 b t ⟨512 + l.val, by omega⟩) : EReal) = y (ix3 b t ⟨1536 + l.val, by omega⟩) := by
  unfold naOf
  pointwise

/-- The whole number zero, as an ideal number. -/
theorem zero_word : (FloatOps.sitofp (F := Ideal) .f32 (0#32 : BitVec 32) : EReal) = 0 := by
  show (((0#32 : BitVec 32).toInt : ℝ) : EReal) = 0
  simp

/-- A head's 64 entries and its 32 turned ones, then zeros to 128. -/
def headOf (x : FVec Ideal S4x8192x4x64 .f32) (y : FVec Ideal S4x8192x4x32 .f32) : FVec Ideal S4x8192x4x128 .f32 :=
  pad S4x8192x4x128 ![0, 0, 0, 0] ![0, 0, 0, 32] ![0, 0, 0, 0] (concatenate S4x8192x4x96 3 [⟨S4x8192x4x64, x⟩, ⟨S4x8192x4x32, y⟩] concatenates_S4x8192x4x64_S4x8192x4x32_S4x8192x4x96_d3) (sitofp .f32 (constantI S_ 32 0#32)) pads_S4x8192x4x96_S4x8192x4x128_000_000_000_0320 h_S_

theorem headOf_left (x : FVec Ideal S4x8192x4x64 .f32) (y : FVec Ideal S4x8192x4x32 .f32) (hd : Fin 4) (l : Fin 64) : (headOf x y (ix4 b t hd ⟨l.val, by omega⟩) : EReal) = x (ix4 b t hd l) := by
  unfold headOf
  pointwise
  rw [dif_pos (show l.val < 96 by omega)]

theorem headOf_right (x : FVec Ideal S4x8192x4x64 .f32) (y : FVec Ideal S4x8192x4x32 .f32) (hd : Fin 4) (l : Fin 32) : (headOf x y (ix4 b t hd ⟨64 + l.val, by omega⟩) : EReal) = y (ix4 b t hd l) := by
  unfold headOf
  pointwise
  rw [dif_pos (show 64 + l.val < 96 by omega)]

theorem headOf_zero (x : FVec Ideal S4x8192x4x64 .f32) (y : FVec Ideal S4x8192x4x32 .f32) (hd : Fin 4) (l : Fin 32) : (headOf x y (ix4 b t hd ⟨96 + l.val, by omega⟩) : EReal) = 0 := by
  unfold headOf
  pointwise
  exact zero_word

/-- The values of a head, a one, then zeros to 128. -/
def valueOf (x : FVec Ideal S4x8192x4x64 .f32) : FVec Ideal S4x8192x4x128 .f32 :=
  pad S4x8192x4x128 ![0, 0, 0, 0] ![0, 0, 0, 63] ![0, 0, 0, 0] (concatenate S4x8192x4x65 3 [⟨S4x8192x4x64, x⟩, ⟨S4x8192x4x1, (broadcastInDim S4x8192x4x1 ![] bcast_S_S4x8192x4x1 (constant S_ .f32 0x3F800000#32))⟩] concatenates_S4x8192x4x64_S4x8192x4x1_S4x8192x4x65_d3) (sitofp .f32 (constantI S_ 32 0#32)) pads_S4x8192x4x65_S4x8192x4x128_000_000_000_0630 h_S_

theorem valueOf_left (x : FVec Ideal S4x8192x4x64 .f32) (hd : Fin 4) (l : Fin 64) : (valueOf x (ix4 b t hd ⟨l.val, by omega⟩) : EReal) = x (ix4 b t hd l) := by
  unfold valueOf
  pointwise
  rw [dif_pos (show l.val < 65 by omega)]

theorem valueOf_one (x : FVec Ideal S4x8192x4x64 .f32) (hd : Fin 4) : (valueOf x (ix4 b t hd ⟨64, by omega⟩) : EReal) = 1 := by
  unfold valueOf
  pointwise

theorem valueOf_zero (x : FVec Ideal S4x8192x4x64 .f32) (hd : Fin 4) (l : Fin 63) : (valueOf x (ix4 b t hd ⟨65 + l.val, by omega⟩) : EReal) = 0 := by
  unfold valueOf
  pointwise
  exact zero_word

end Cert.Reference3Ideal.In

end
-- ==== Proof.InBlocks.lean ====
/- What the projections' body leaves in each of its five output blocks. -/
module

public import proofs.«01_k».proof.Proof.Gen.Kernel3Ideal.Value
public import Idealize.ShloMosaic.Lib.Pipeline.ValueKit.Tiles
public import Idealize.ShloMosaic.Lib.Pointwise

@[expose] public section

set_option maxRecDepth 65536

noncomputable section

namespace Cert.Kernel3Ideal.In

open Cert.Kernel3Ideal Cert.Kernel3Ideal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The columns of the input weight each product takes -/

def colsRet (w : Vec F S1024x3328 .bf16) : Vec F S1024x1024 .bf16 := extractStridedSlice S1024x1024 ![0, 0] w ⟨rfl, inb_S1024x3328_S1024x1024_0_0⟩
def colsNa (w : Vec F S1024x3328 .bf16) : Vec F S1024x1536 .bf16 := extractStridedSlice S1024x1536 ![0, 1024] w ⟨rfl, inb_S1024x3328_S1024x1536_0_1024⟩
def colsQ (w : Vec F S1024x3328 .bf16) : Vec F S1024x384 .bf16 := extractStridedSlice S1024x384 ![0, 2560] w ⟨rfl, inb_S1024x3328_S1024x384_0_2560⟩
def colsKv (w : Vec F S1024x3328 .bf16) : Vec F S1024x256 .bf16 := extractStridedSlice S1024x256 ![0, 2944] w ⟨rfl, inb_S1024x3328_S1024x256_0_2944⟩
def colsPe (w : Vec F S1024x3328 .bf16) : Vec F S1024x128 .bf16 := extractStridedSlice S1024x128 ![0, 3200] w ⟨rfl, inb_S1024x3328_S1024x128_0_3200⟩

section Blocks

variable (x0 : Vec F S1x512x1024 .f32) (x1 x2 : Vec F S1x1x1024 .f32) (x3 : Vec F S1x1024 .f32) (x4 : Vec F S1024x3328 .bf16) (x5 : Vec F S1x384 .f32) (x6 : Vec F S1x256 .f32)
  (x7 : Vec F S384x512 .bf16) (x8 x9 : Vec F S256x512 .bf16) (x10 x11 x12 x13 : Vec F S512x128 .f32)

/-! ## The blocks, from the point's inputs -/

/-- The retention's queries and keys before the turn. -/
def retPlain : FVec F S512x512 .f32 := k0_pay4 x0 x3 x2 x1 (colsRet x4)
def retQ : FVec F S1x512x256 .f32 := k0_pay8 (retPlain x0 x1 x2 x3 x4) (k0_pay5 x10) (k0_pay6 x11)
def retK : FVec F S1x512x256 .f32 := k0_pay9 (retPlain x0 x1 x2 x3 x4) (k0_pay5 x10) (k0_pay6 x11)
def retRest : FVec F S1x512x512 .f32 := k0_pay10 (k0_pay3 x0 x3 x2 x1 (colsRet x4))
def naQ : FVec F S1x512x512 .bf16 := k0_pay13 (k0_pay12 (k0_pay2 x0 x3 x2 x1) (colsNa x4))
def naRest : FVec F S1x512x1024 .bf16 := k0_pay14 (k0_pay11 (k0_pay2 x0 x3 x2 x1) (colsNa x4))
def qBlock : FVec F S1x512x512 .bf16 :=
  k0_pay19 (k0_pay15 x13) (k0_pay16 (k0_pay2 x0 x3 x2 x1) (colsQ x4) x5 x7) (k0_pay17 (k0_pay2 x0 x3 x2 x1) x12 (colsQ x4) x5 x7) (iota .tc S512x512 32 [1] iota_S512x512_d1_w32)
    (k0_pay18 (k0_pay2 x0 x3 x2 x1) (colsQ x4) x5 x7) 8#32
def kBlock : FVec F S1x512x512 .bf16 :=
  k0_pay23 (k0_pay20 (k0_pay2 x0 x3 x2 x1) (colsKv x4) x6) (k0_pay21 (k0_pay2 x0 x3 x2 x1) (colsPe x4)) (k0_pay22 x12) x13 x8
def vBlock : FVec F S1x512x512 .bf16 := k0_pay1 (k0_pay24 (k0_pay20 (k0_pay2 x0 x3 x2 x1) (colsKv x4) x6) x9)

variable (c : Dev nD) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x3328 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S384x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S1x512x1024 .f32) (harg16 : arg16.IsWhole) (arg17 : Memref sig .tc .vmem S1x512x1536 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S1x512x512 .bf16) (harg20 : arg20.IsWhole)

theorem out_16 : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 = qBlock x0 x1 x2 x3 x4 x5 x7 x12 x13 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x512) hz2, View.ld_unit_zero (S := S256x512) hz2, View.ld_unit_zero (S := S512x128) hz2, View.ld_unit]
  rfl

theorem out_17 : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 = kBlock x0 x1 x2 x3 x4 x6 x8 x12 x13 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x512) hz2, View.ld_unit_zero (S := S256x512) hz2, View.ld_unit_zero (S := S512x128) hz2, View.ld_unit]
  rfl

theorem out_18 : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 = vBlock x0 x1 x2 x3 x4 x6 x9 := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x512) hz2, View.ld_unit_zero (S := S256x512) hz2, View.ld_unit_zero (S := S512x128) hz2, View.ld_unit]
  rfl

theorem out_14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 = View.canon [(⟨Rect.unit (s := S1x512x1024) ![0, 0, 512] S1x512x512.size inb_S1x512x1024_S1x512x512_0_0_512, retRest x0 x1 x2 x3 x4⟩ : View.Piece (Elt F) S1x512x1024 .f32), (⟨Rect.unit (s := S1x512x1024) ![0, 0, 256] S1x512x256.size inb_S1x512x1024_S1x512x256_0_0_256, retK x0 x1 x2 x3 x4 x10 x11⟩ : View.Piece (Elt F) S1x512x1024 .f32), (⟨Rect.unit (s := S1x512x1024) ![0, 0, 0] S1x512x256.size inb_S1x512x1024_S1x512x256_0_0_0, retQ x0 x1 x2 x3 x4 x10 x11⟩ : View.Piece (Elt F) S1x512x1024 .f32)] := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x512) hz2, View.ld_unit_zero (S := S256x512) hz2, View.ld_unit_zero (S := S512x128) hz2, View.ld_unit]
  rfl

theorem out_15 : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 = View.canon [(⟨Rect.unit (s := S1x512x1536) ![0, 0, 512] S1x512x1024.size inb_S1x512x1536_S1x512x1024_0_0_512, naRest x0 x1 x2 x3 x4⟩ : View.Piece (Elt F) S1x512x1536 .bf16), (⟨Rect.unit (s := S1x512x1536) ![0, 0, 0] S1x512x512.size inb_S1x512x1536_S1x512x512_0_0_0, naQ x0 x1 x2 x3 x4⟩ : View.Piece (Elt F) S1x512x1536 .bf16)] := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) hz3, View.ld_unit_zero (S := S1x1x1024) hz3, View.ld_unit_zero (S := S1x1024) hz2, View.ld_unit_zero (S := S1x384) hz2, View.ld_unit_zero (S := S1x256) hz2, View.ld_unit_zero (S := S384x512) hz2, View.ld_unit_zero (S := S256x512) hz2, View.ld_unit_zero (S := S512x128) hz2, View.ld_unit]
  rfl

end Blocks

end Cert.Kernel3Ideal.In

end
-- ==== Proof.InPoints.lean ====
/- The projections over their grid: which part of each array a point sees, and what the result arrays hold at an index. -/
module

public import proofs.«01_k».proof.Proof.InBlocks

@[expose] public section

set_option maxRecDepth 16384

noncomputable section

namespace Cert.Kernel3Ideal.In

open Cert.Kernel3Ideal Cert.Kernel3Ideal.Gen
open Idealize.ShloMosaic Idealize.ShloMosaic.TcCoe Idealize.SL.Sem

variable {F : FTy → Type} [FloatOps F]
variable (m : (ℓ : Loc nD τ sig) → Buf (Elt F) ℓ) (c : Dev nD)

/-- A point's batch entry, and the token of its row `r`. -/
def batchOf (t : Fin cfg0.N) : Fin 4 := ⟨t.val / 16, by have := lt_of_lt_of_eq t.isLt N_0; omega⟩
def tokenOf (t : Fin cfg0.N) (r : Fin 512) : Fin 8192 := ⟨512 * (t.val % 16) + r.val, by omega⟩

/-! ## The windows' blocks -/

theorem index0 : ∀ t : Fin cfg0.N, win0_0.index t 0 = t.val / 16 ∧ win0_0.index t 1 = t.val % 16 ∧ win0_0.index t 2 = 0 := (by decide +kernel : ∀ t : Fin grid0.N, _)
theorem index1 : ∀ t : Fin cfg0.N, win0_1.index t 0 = t.val / 16 ∧ win0_1.index t 1 = 0 ∧ win0_1.index t 2 = 0 := (by decide +kernel : ∀ t : Fin grid0.N, _)
theorem index2 : ∀ t : Fin cfg0.N, win0_2.index t 0 = t.val / 16 ∧ win0_2.index t 1 = 0 ∧ win0_2.index t 2 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = 0 ∧ win0_6.index t 1 = 0 := (by decide +kernel : ∀ t : Fin grid0.N, _)
theorem index7 : ∀ t : Fin cfg0.N, win0_7.index t 0 = 0 ∧ win0_7.index t 1 = 0 := (by decide +kernel : ∀ t : Fin grid0.N, _)
theorem index8 : ∀ t : Fin cfg0.N, win0_8.index t 0 = 0 ∧ win0_8.index t 1 = 0 := (by decide +kernel : ∀ t : Fin grid0.N, _)
theorem index9 : ∀ t : Fin cfg0.N, win0_9.index t 0 = 0 ∧ win0_9.index t 1 = 0 := (by decide +kernel : ∀ t : Fin grid0.N, _)
theorem index10 : ∀ t : Fin cfg0.N, win0_10.index t 0 = t.val % 16 ∧ win0_10.index t 1 = 0 := (by decide +kernel : ∀ t : Fin grid0.N, _)
theorem index11 : ∀ t : Fin cfg0.N, win0_11.index t 0 = t.val % 16 ∧ win0_11.index t 1 = 0 := (by decide +kernel : ∀ t : Fin grid0.N, _)
theorem index12 : ∀ t : Fin cfg0.N, win0_12.index t 0 = t.val % 16 ∧ win0_12.index t 1 = 0 := (by decide +kernel : ∀ t : Fin grid0.N, _)
theorem index13 : ∀ t : Fin cfg0.N, win0_13.index t 0 = t.val % 16 ∧ win0_13.index t 1 = 0 := (by decide +kernel : ∀ t : Fin grid0.N, _)
theorem index14 : ∀ t : Fin cfg0.N, win0_14.index t 0 = t.val / 16 ∧ win0_14.index t 1 = t.val % 16 ∧ win0_14.index t 2 = 0 := (by decide +kernel : ∀ t : Fin grid0.N, _)
theorem index15 : ∀ t : Fin cfg0.N, win0_15.index t 0 = t.val / 16 ∧ win0_15.index t 1 = t.val % 16 ∧ win0_15.index t 2 = 0 := (by decide +kernel : ∀ t : Fin grid0.N, _)
theorem index16 : ∀ t : Fin cfg0.N, win0_16.index t 0 = t.val / 16 ∧ win0_16.index t 1 = t.val % 16 ∧ win0_16.index t 2 = 0 := (by decide +kernel : ∀ t : Fin grid0.N, _)
theorem index17 : ∀ t : Fin cfg0.N, win0_17.index t 0 = t.val / 16 ∧ win0_17.index t 1 = t.val % 16 ∧ win0_17.index t 2 = 0 := (by decide +kernel : ∀ t : Fin grid0.N, _)
theorem index18 : ∀ t : Fin cfg0.N, win0_18.index t 0 = t.val / 16 ∧ win0_18.index t 1 = t.val % 16 ∧ win0_18.index t 2 = 0 := (by decide +kernel : ∀ t : Fin grid0.N, _)

theorem iblk0_apply (t : Fin cfg0.N) (r : Fin 512) (k : Fin 1024) :
    (iblk m c 0 t : Vec F S1x512x1024 .f32) (ix3 0 r k) = (V m c main_arg0 : Vec F S4x8192x1024 .f32) (ix3 (batchOf t) (tokenOf t r) k) := by
  unfold iblk
  rw [View.read_apply]
  refine congrArg (V m c main_arg0) (funext fun a => Fin.ext ?_)
  match a with
  | ⟨0, _⟩ => show win0_0.index t 0 * 1 + 1 * 0 = t.val / 16; rw [(index0 t).1]; omega
  | ⟨1, _⟩ => show win0_0.index t 1 * 512 + 1 * r.val = 512 * (t.val % 16) + r.val; rw [(index0 t).2.1]; omega
  | ⟨2, _⟩ => show win0_0.index t 2 * 1024 + 1 * k.val = k.val; rw [(index0 t).2.2]; omega

theorem iblk1_apply (t : Fin cfg0.N) (k : Fin 1024) :
    (iblk m c 1 t : Vec F S1x1x1024 .f32) (ix3 0 0 k) = (V m c main_v24 : Vec F S4x1x1024 .f32) (ix3 (batchOf t) 0 k) := by
  unfold iblk
  rw [View.read_apply]
  refine congrArg (V m c main_v24) (funext fun a => Fin.ext ?_)
  match a with
  | ⟨0, _⟩ => show win0_1.index t 0 * 1 + 1 * 0 = t.val / 16; rw [(index1 t).1]; omega
  | ⟨1, _⟩ => show win0_1.index t 1 * 1 + 1 * 0 = 0; rw [(index1 t).2.1]
  | ⟨2, _⟩ => show win0_1.index t 2 * 1024 + 1 * k.val = k.val; rw [(index1 t).2.2]; omega

theorem iblk2_apply (t : Fin cfg0.N) (k : Fin 1024) :
    (iblk m c 2 t : Vec F S1x1x1024 .f32) (ix3 0 0 k) = (V m c main_v25 : Vec F S4x1x1024 .f32) (ix3 (batchOf t) 0 k) := by
  unfold iblk
  rw [View.read_apply]
  refine congrArg (V m c main_v25) (funext fun a => Fin.ext ?_)
  match a with
  | ⟨0, _⟩ => show win0_2.index t 0 * 1 + 1 * 0 = t.val / 16; rw [(index2 t).1]; omega
  | ⟨1, _⟩ => show win0_2.index t 1 * 1 + 1 * 0 = 0; rw [(index2 t).2.1]
  | ⟨2, _⟩ => show win0_2.index t 2 * 1024 + 1 * k.val = k.val; rw [(index2 t).2.2]; omega

theorem iblk3_eq (t : Fin cfg0.N) : (iblk m c 3 t : Vec F S1x1024 .f32) = V m c main_v26 := by
  funext j
  unfold iblk
  rw [View.read_apply]
  refine congrArg (V m c main_v26) (funext fun a => Fin.ext ?_)
  match a with
  | ⟨0, _⟩ => show win0_3.index t 0 * 1 + 1 * (j 0).val = (j 0).val; rw [(index3 t).1]; omega
  | ⟨1, _⟩ => show win0_3.index t 1 * 1024 + 1 * (j 1).val = (j 1).val; rw [(index3 t).2]; omega

theorem iblk4_eq (t : Fin cfg0.N) : (iblk m c 4 t : Vec F S1024x3328 .bf16) = V m c main_v6 := by
  funext j
  unfold iblk
  rw [View.read_apply]
  refine congrArg (V m c main_v6) (funext fun a => Fin.ext ?_)
  match a with
  | ⟨0, _⟩ => show win0_4.index t 0 * 1024 + 1 * (j 0).val = (j 0).val; rw [(index4 t).1]; omega
  | ⟨1, _⟩ => show win0_4.index t 1 * 3328 + 1 * (j 1).val = (j 1).val; rw [(index4 t).2]; omega

theorem iblk5_eq (t : Fin cfg0.N) : (iblk m c 5 t : Vec F S1x384 .f32) = V m c main_v27 := by
  funext j
  unfold iblk
  rw [View.read_apply]
  refine congrArg (V m c main_v27) (funext fun a => Fin.ext ?_)
  match a with
  | ⟨0, _⟩ => show win0_5.index t 0 * 1 + 1 * (j 0).val = (j 0).val; rw [(index5 t).1]; omega
  | ⟨1, _⟩ => show win0_5.index t 1 * 384 + 1 * (j 1).val = (j 1).val; rw [(index5 t).2]; omega

theorem iblk6_eq (t : Fin cfg0.N) : (iblk m c 6 t : Vec F S1x256 .f32) = V m c main_v28 := by
  funext j
  unfold iblk
  rw [View.read_apply]
  refine congrArg (V m c main_v28) (funext fun a => Fin.ext ?_)
  match a with
  | ⟨0, _⟩ => show win0_6.index t 0 * 1 + 1 * (j 0).val = (j 0).val; rw [(index6 t).1]; omega
  | ⟨1, _⟩ => show win0_6.index t 1 * 256 + 1 * (j 1).val = (j 1).val; rw [(index6 t).2]; omega

theorem iblk7_eq (t : Fin cfg0.N) : (iblk m c 7 t : Vec F S384x512 .bf16) = V m c main_v10 := by
  funext j
  unfold iblk
  rw [View.read_apply]
  refine congrArg (V m c main_v10) (funext fun a => Fin.ext ?_)
  match a with
  | ⟨0, _⟩ => show win0_7.index t 0 * 384 + 1 * (j 0).val = (j 0).val; rw [(index7 t).1]; omega
  | ⟨1, _⟩ => show win0_7.index t 1 * 512 + 1 * (j 1).val = (j 1).val; rw [(index7 t).2]; omega

theorem iblk8_eq (t : Fin cfg0.N) : (iblk m c 8 t : Vec F S256x512 .bf16) = V m c main_v17 := by
  funext j
  unfold iblk
  rw [View.read_apply]
  refine congrArg (V m c main_v17) (funext fun a => Fin.ext ?_)
  match a with
  | ⟨0, _⟩ => show win0_8.index t 0 * 256 + 1 * (j 0).val = (j 0).val; rw [(index8 t).1]; omega
  | ⟨1, _⟩ => show win0_8.index t 1 * 512 + 1 * (j 1).val = (j 1).val; rw [(index8 t).2]; omega

theorem iblk9_eq (t : Fin cfg0.N) : (iblk m c 9 t : Vec F S256x512 .bf16) = V m c main_v23 := by
  funext j
  unfold iblk
  rw [View.read_apply]
  refine congrArg (V m c main_v23) (funext fun a => Fin.ext ?_)
  match a with
  | ⟨0, _⟩ => show win0_9.index t 0 * 256 + 1 * (j 0).val = (j 0).val; rw [(index9 t).1]; omega
  | ⟨1, _⟩ => show win0_9.index t 1 * 512 + 1 * (j 1).val = (j 1).val; rw [(index9 t).2]; omega

theorem iblk10_apply (t : Fin cfg0.N) (r : Fin 512) (l : Fin 128) :
    (iblk m c 10 t : Vec F S512x128 .f32) (ix2 r l) = (V m c main_v63 : Vec F S8192x128 .f32) (ix2 (tokenOf t r) l) := by
  unfold iblk
  rw [View.read_apply]
  refine congrArg (V m c main_v63) (funext fun a => Fin.ext ?_)
  match a with
  | ⟨0, _⟩ => show win0_10.index t 0 * 512 + 1 * r.val = 512 * (t.val % 16) + r.val; rw [(index10 t).1]; omega
  | ⟨1, _⟩ => show win0_10.index t 1 * 128 + 1 * l.val = l.val; rw [(index10 t).2]; omega

theorem iblk11_apply (t : Fin cfg0.N) (r : Fin 512) (l : Fin 128) :
    (iblk m c 11 t : Vec F S512x128 .f32) (ix2 r l) = (V m c main_v64 : Vec F S8192x128 .f32) (ix2 (tokenOf t r) l) := by
  unfold iblk
  rw [View.read_apply]
  refine congrArg (V m c main_v64) (funext fun a => Fin.ext ?_)
  match a with
  | ⟨0, _⟩ => show win0_11.index t 0 * 512 + 1 * r.val = 512 * (t.val % 16) + r.val; rw [(index11 t).1]; omega
  | ⟨1, _⟩ => show win0_11.index t 1 * 128 + 1 * l.val = l.val; rw [(index11 t).2]; omega

theorem iblk12_apply (t : Fin cfg0.N) (r : Fin 512) (l : Fin 128) :
    (iblk m c 12 t : Vec F S512x128 .f32) (ix2 r l) = (V m c main_v94 : Vec F S8192x128 .f32) (ix2 (tokenOf t r) l) := by
  unfold iblk
  rw [View.read_apply]
  refine congrArg (V m c main_v94) (funext fun a => Fin.ext ?_)
  match a with
  | ⟨0, _⟩ => show win0_12.index t 0 * 512 + 1 * r.val = 512 * (t.val % 16) + r.val; rw [(index12 t).1]; omega
  | ⟨1, _⟩ => show win0_12.index t 1 * 128 + 1 * l.val = l.val; rw [(index12 t).2]; omega

theorem iblk13_apply (t : Fin cfg0.N) (r : Fin 512) (l : Fin 128) :
    (iblk m c 13 t : Vec F S512x128 .f32) (ix2 r l) = (V m c main_v97 : Vec F S8192x128 .f32) (ix2 (tokenOf t r) l) := by
  unfold iblk
  rw [View.read_apply]
  refine congrArg (V m c main_v97) (funext fun a => Fin.ext ?_)
  match a with
  | ⟨0, _⟩ => show win0_13.index t 0 * 512 + 1 * r.val = 512 * (t.val % 16) + r.val; rw [(index13 t).1]; omega
  | ⟨1, _⟩ => show win0_13.index t 1 * 128 + 1 * l.val = l.val; rw [(index13 t).2]; omega

/-! ## The result arrays -/

section
variable {W sz off : ℕ} {e : EltTy} (inb : ∀ a : Fin 3, (![0, 0, off] : Fin 3 → ℕ) a + (![1, 512, sz] : Fin 3 → ℕ) a ≤ (⟨3, ![1, 512, W]⟩ : Shape).size a)
  (w : (⟨3, ![1, 512, sz]⟩ : Shape).Idx → Elt F e) (L : List (View.Piece (Elt F) ⟨3, ![1, 512, W]⟩ e)) (r : Fin 512)

/-- A lane inside the columns stored last. -/
theorem canon_hit (n : Fin W) (l : Fin sz) (h : n.val = off + l.val) :
    View.canon ((⟨Rect.unit (s := ⟨3, ![1, 512, W]⟩) ![0, 0, off] ![1, 512, sz] inb, w⟩ : View.Piece (Elt F) ⟨3, ![1, 512, W]⟩ e) :: L) (ix3 0 r n) = w (ix3 0 r l) := by
  have hx : (ix3 0 r n : (⟨3, ![1, 512, W]⟩ : Shape).Idx) = (Rect.unit (s := ⟨3, ![1, 512, W]⟩) ![0, 0, off] ![1, 512, sz] inb).emb (ix3 0 r l) := funext fun a => Fin.ext (by
    match a with
    | ⟨0, _⟩ => rfl
    | ⟨1, _⟩ => show r.val = 0 + 1 * r.val; omega
    | ⟨2, _⟩ => show n.val = off + 1 * l.val; omega)
  exact (congrArg (View.canon _) hx).trans (View.canon_cons_emb (Rect.unit (s := ⟨3, ![1, 512, W]⟩) ![0, 0, off] ![1, 512, sz] inb) w L (ix3 0 r l))

/-- A lane below the columns stored last. -/
theorem canon_miss (l : Fin W) (h : l.val < off) :
    View.canon ((⟨Rect.unit (s := ⟨3, ![1, 512, W]⟩) ![0, 0, off] ![1, 512, sz] inb, w⟩ : View.Piece (Elt F) ⟨3, ![1, 512, W]⟩ e) :: L) (ix3 0 r l) = View.canon L (ix3 0 r l) :=
  View.canon_cons_of_not_mem _ _ fun hm => by
    have h2 : off ≤ l.val := ((Rect.mem_set_unit (inb := inb)).mp hm (2 : Fin 3)).1
    omega

end

theorem flush14 : ∀ t : Fin cfg0.N, (cfg0.win 14).flush t = true := (by decide +kernel : ∀ t : Fin grid0.N, win0_14.flush t = true)
theorem flush15 : ∀ t : Fin cfg0.N, (cfg0.win 15).flush t = true := (by decide +kernel : ∀ t : Fin grid0.N, win0_15.flush t = true)
theorem flush16 : ∀ t : Fin cfg0.N, (cfg0.win 16).flush t = true := (by decide +kernel : ∀ t : Fin grid0.N, win0_16.flush t = true)
theorem flush17 : ∀ t : Fin cfg0.N, (cfg0.win 17).flush t = true := (by decide +kernel : ∀ t : Fin grid0.N, win0_17.flush t = true)
theorem flush18 : ∀ t : Fin cfg0.N, (cfg0.win 18).flush t = true := (by decide +kernel : ∀ t : Fin grid0.N, win0_18.flush t = true)

theorem arr14_rest (t : Fin cfg0.N) (r : Fin 512) (l : Fin 512) :
    ((dats m 0 c).arrAt 14 cfg0.N : Vec F S4x8192x1024 .f32) (ix3 (batchOf t) (tokenOf t r) ⟨512 + l.val, by omega⟩) = retRest (iblk m c 0 t) (iblk m c 1 t) (iblk m c 2 t) (iblk m c 3 t) (iblk m c 4 t) (ix3 0 r l) := by
  have h := congrFun (Value.blocks14 m c t (flush14 t)) (ix3 0 r ⟨512 + l.val, by omega⟩)
  rw [View.read_apply, Value.flushed14_A, out_14] at h
  refine Eq.trans (congrArg ((dats m 0 c).arrAt 14 cfg0.N) (funext fun a => Fin.ext ?_)) (h.trans ?_)
  · match a with
    | ⟨0, _⟩ => show t.val / 16 = win0_14.index t 0 * 1 + 1 * 0; rw [(index14 t).1]; omega
    | ⟨1, _⟩ => show 512 * (t.val % 16) + r.val = win0_14.index t 1 * 512 + 1 * r.val; rw [(index14 t).2.1]; omega
    | ⟨2, _⟩ => show (512 + l.val) = win0_14.index t 2 * 1024 + 1 * (512 + l.val); rw [(index14 t).2.2]; omega
  · exact canon_hit _ _ _ r _ l (by rfl)

theorem arr14_k (t : Fin cfg0.N) (r : Fin 512) (l : Fin 256) :
    ((dats m 0 c).arrAt 14 cfg0.N : Vec F S4x8192x1024 .f32) (ix3 (batchOf t) (tokenOf t r) ⟨256 + l.val, by omega⟩) = retK (iblk m c 0 t) (iblk m c 1 t) (iblk m c 2 t) (iblk m c 3 t) (iblk m c 4 t) (iblk m c 10 t) (iblk m c 11 t) (ix3 0 r l) := by
  have h := congrFun (Value.blocks14 m c t (flush14 t)) (ix3 0 r ⟨256 + l.val, by omega⟩)
  rw [View.read_apply, Value.flushed14_A, out_14] at h
  refine Eq.trans (congrArg ((dats m 0 c).arrAt 14 cfg0.N) (funext fun a => Fin.ext ?_)) (h.trans ?_)
  · match a with
    | ⟨0, _⟩ => show t.val / 16 = win0_14.index t 0 * 1 + 1 * 0; rw [(index14 t).1]; omega
    | ⟨1, _⟩ => show 512 * (t.val % 16) + r.val = win0_14.index t 1 * 512 + 1 * r.val; rw [(index14 t).2.1]; omega
    | ⟨2, _⟩ => show (256 + l.val) = win0_14.index t 2 * 1024 + 1 * (256 + l.val); rw [(index14 t).2.2]; omega
  · refine (canon_miss _ _ _ r _ (by show 256 + l.val < 512; omega)).trans ?_
    exact canon_hit _ _ _ r _ l (by rfl)

theorem arr14_q (t : Fin cfg0.N) (r : Fin 512) (l : Fin 256) :
    ((dats m 0 c).arrAt 14 cfg0.N : Vec F S4x8192x1024 .f32) (ix3 (batchOf t) (tokenOf t r) ⟨l.val, by omega⟩) = retQ (iblk m c 0 t) (iblk m c 1 t) (iblk m c 2 t) (iblk m c 3 t) (iblk m c 4 t) (iblk m c 10 t) (iblk m c 11 t) (ix3 0 r l) := by
  have h := congrFun (Value.blocks14 m c t (flush14 t)) (ix3 0 r ⟨l.val, by omega⟩)
  rw [View.read_apply, Value.flushed14_A, out_14] at h
  refine Eq.trans (congrArg ((dats m 0 c).arrAt 14 cfg0.N) (funext fun a => Fin.ext ?_)) (h.trans ?_)
  · match a with
    | ⟨0, _⟩ => show t.val / 16 = win0_14.index t 0 * 1 + 1 * 0; rw [(index14 t).1]; omega
    | ⟨1, _⟩ => show 512 * (t.val % 16) + r.val = win0_14.index t 1 * 512 + 1 * r.val; rw [(index14 t).2.1]; omega
    | ⟨2, _⟩ => show l.val = win0_14.index t 2 * 1024 + 1 * l.val; rw [(index14 t).2.2]; omega
  · refine (canon_miss _ _ _ r _ (by show l.val < 512; omega)).trans ?_
    refine (canon_miss _ _ _ r _ (by show l.val < 256; omega)).trans ?_
    exact canon_hit _ _ _ r _ l (by show l.val = 0 + l.val; omega)

theorem arr15_rest (t : Fin cfg0.N) (r : Fin 512) (l : Fin 1024) :
    ((dats m 0 c).arrAt 15 cfg0.N : Vec F S4x8192x1536 .bf16) (ix3 (batchOf t) (tokenOf t r) ⟨512 + l.val, by omega⟩) = naRest (iblk m c 0 t) (iblk m c 1 t) (iblk m c 2 t) (iblk m c 3 t) (iblk m c 4 t) (ix3 0 r l) := by
  have h := congrFun (Value.blocks15 m c t (flush15 t)) (ix3 0 r ⟨512 + l.val, by omega⟩)
  rw [View.read_apply, Value.flushed15_A, out_15] at h
  refine Eq.trans (congrArg ((dats m 0 c).arrAt 15 cfg0.N) (funext fun a => Fin.ext ?_)) (h.trans ?_)
  · match a with
    | ⟨0, _⟩ => show t.val / 16 = win0_15.index t 0 * 1 + 1 * 0; rw [(index15 t).1]; omega
    | ⟨1, _⟩ => show 512 * (t.val % 16) + r.val = win0_15.index t 1 * 512 + 1 * r.val; rw [(index15 t).2.1]; omega
    | ⟨2, _⟩ => show (512 + l.val) = win0_15.index t 2 * 1536 + 1 * (512 + l.val); rw [(index15 t).2.2]; omega
  · exact canon_hit _ _ _ r _ l (by rfl)

theorem arr15_q (t : Fin cfg0.N) (r : Fin 512) (l : Fin 512) :
    ((dats m 0 c).arrAt 15 cfg0.N : Vec F S4x8192x1536 .bf16) (ix3 (batchOf t) (tokenOf t r) ⟨l.val, by omega⟩) = naQ (iblk m c 0 t) (iblk m c 1 t) (iblk m c 2 t) (iblk m c 3 t) (iblk m c 4 t) (ix3 0 r l) := by
  have h := congrFun (Value.blocks15 m c t (flush15 t)) (ix3 0 r ⟨l.val, by omega⟩)
  rw [View.read_apply, Value.flushed15_A, out_15] at h
  refine Eq.trans (congrArg ((dats m 0 c).arrAt 15 cfg0.N) (funext fun a => Fin.ext ?_)) (h.trans ?_)
  · match a with
    | ⟨0, _⟩ => show t.val / 16 = win0_15.index t 0 * 1 + 1 * 0; rw [(index15 t).1]; omega
    | ⟨1, _⟩ => show 512 * (t.val % 16) + r.val = win0_15.index t 1 * 512 + 1 * r.val; rw [(index15 t).2.1]; omega
    | ⟨2, _⟩ => show l.val = win0_15.index t 2 * 1536 + 1 * l.val; rw [(index15 t).2.2]; omega
  · refine (canon_miss _ _ _ r _ (by show l.val < 512; omega)).trans ?_
    exact canon_hit _ _ _ r _ l (by show l.val = 0 + l.val; omega)

theorem arr16 (t : Fin cfg0.N) (r : Fin 512) (l : Fin 512) :
    ((dats m 0 c).arrAt 16 cfg0.N : Vec F S4x8192x512 .bf16) (ix3 (batchOf t) (tokenOf t r) l) = qBlock (iblk m c 0 t) (iblk m c 1 t) (iblk m c 2 t) (iblk m c 3 t) (iblk m c 4 t) (iblk m c 5 t) (iblk m c 7 t) (iblk m c 12 t) (iblk m c 13 t) (ix3 0 r l) := by
  have h := congrFun (Value.blocks16 m c t (flush16 t)) (ix3 0 r l)
  rw [View.read_apply, Value.flushed16_A, out_16] at h
  refine Eq.trans (congrArg ((dats m 0 c).arrAt 16 cfg0.N) (funext fun a => Fin.ext ?_)) (h.trans ?_)
  · match a with
    | ⟨0, _⟩ => show t.val / 16 = win0_16.index t 0 * 1 + 1 * 0; rw [(index16 t).1]; omega
    | ⟨1, _⟩ => show 512 * (t.val % 16) + r.val = win0_16.index t 1 * 512 + 1 * r.val; rw [(index16 t).2.1]; omega
    | ⟨2, _⟩ => show l.val = win0_16.index t 2 * 512 + 1 * l.val; rw [(index16 t).2.2]; omega
  · rfl

theorem arr17 (t : Fin cfg0.N) (r : Fin 512) (l : Fin 512) :
    ((dats m 0 c).arrAt 17 cfg0.N : Vec F S4x8192x512 .bf16) (ix3 (batchOf t) (tokenOf t r) l) = kBlock (iblk m c 0 t) (iblk m c 1 t) (iblk m c 2 t) (iblk m c 3 t) (iblk m c 4 t) (iblk m c 6 t) (iblk m c 8 t) (iblk m c 12 t) (iblk m c 13 t) (ix3 0 r l) := by
  have h := congrFun (Value.blocks17 m c t (flush17 t)) (ix3 0 r l)
  rw [View.read_apply, Value.flushed17_A, out_17] at h
  refine Eq.trans (congrArg ((dats m 0 c).arrAt 17 cfg0.N) (funext fun a => Fin.ext ?_)) (h.trans ?_)
  · match a with
    | ⟨0, _⟩ => show t.val / 16 = win0_17.index t 0 * 1 + 1 * 0; rw [(index17 t).1]; omega
    | ⟨1, _⟩ => show 512 * (t.val % 16) + r.val = win0_17.index t 1 * 512 + 1 * r.val; rw [(index17 t).2.1]; omega
    | ⟨2, _⟩ => show l.val = win0_17.index t 2 * 512 + 1 * l.val; rw [(index17 t).2.2]; omega
  · rfl

theorem arr18 (t : Fin cfg0.N) (r : Fin 512) (l : Fin 512) :
    ((dats m 0 c).arrAt 18 cfg0.N : Vec F S4x8192x512 .bf16) (ix3 (batchOf t) (tokenOf t r) l) = vBlock (iblk m c 0 t) (iblk m c 1 t) (iblk m c 2 t) (iblk m c 3 t) (iblk m c 4 t) (iblk m c 6 t) (iblk m c 9 t) (ix3 0 r l) := by
  have h := congrFun (Value.blocks18 m c t (flush18 t)) (ix3 0 r l)
  rw [View.read_apply, Value.flushed18_A, out_18] at h
  refine Eq.trans (congrArg ((dats m 0 c).arrAt 18 cfg0.N) (funext fun a => Fin.ext ?_)) (h.trans ?_)
  · match a with
    | ⟨0, _⟩ => show t.val / 16 = win0_18.index t 0 * 1 + 1 * 0; rw [(index18 t).1]; omega
    | ⟨1, _⟩ => show 512 * (t.val % 16) + r.val = win0_18.index t 1 * 512 + 1 * r.val; rw [(index18 t).2.1]; omega
    | ⟨2, _⟩ => show l.val = win0_18.index t 2 * 512 + 1 * l.val; rw [(index18 t).2.2]; omega
  · rfl

/-- Every token of every batch entry is a point's row. -/
theorem point_of (b : Fin 4) (s : Fin 8192) : ∃ (t : Fin cfg0.N) (r : Fin 512), batchOf t = b ∧ tokenOf t r = s :=
  ⟨⟨16 * b.val + s.val / 512, lt_of_lt_of_eq (by omega) N_0.symm⟩, ⟨s.val % 512, Nat.mod_lt _ (by decide)⟩,
    Fin.ext (by show (16 * b.val + s.val / 512) / 16 = b.val; omega), Fin.ext (by show 512 * ((16 * b.val + s.val / 512) % 16) + s.val % 512 = s.val; omega)⟩

end Cert.Kernel3Ideal.In

end
-- ==== Proof.InApply.lean ====
/- The five blocks of the projections at an index, over the token's row and the point's tables. -/
module

public import proofs.«01_k».proof.Proof.InBlocks
public import proofs.«01_k».proof.Proof.InLayer

@[expose] public section

set_option maxRecDepth 16384

noncomputable section

namespace Cert.Kernel3Ideal.In

open Cert.Kernel3Ideal Cert.Kernel3Ideal.Gen Cert.InProj
open Idealize.ShloMosaic
open scoped BigOperators

/-! ## Lanes -/

/-- The lane of its 128-lane tile that lane `l` is. -/
def inTile (l : Fin 512) : Fin 128 := ⟨l.val % 128, Nat.mod_lt _ (by decide)⟩

/-- The lane paired with `l` when halves of `d` lanes face each other. -/
def facing (d : ℕ) (l : Fin 512) : Fin 512 := if l.val % (2 * d) < d then ⟨(l.val + d) % 512, Nat.mod_lt _ (by decide)⟩ else ⟨l.val - d, by omega⟩
def facing128 (d : ℕ) (l : Fin 128) : Fin 128 := if l.val % (2 * d) < d then ⟨(l.val + d) % 128, Nat.mod_lt _ (by decide)⟩ else ⟨l.val - d, by omega⟩

/-- Which of two rotations a lane takes, by its place in a pair of halves. -/
def picks (mask d w : BitVec 32) (l : ℕ) : Prop := IntOp.cmpi CmpIPredicate.slt (IntOp.addi (IntOp.andi (BitVec.ofNat 32 l) mask) d) w = 1#1
instance (mask d w : BitVec 32) (l : ℕ) : Decidable (picks mask d w l) := inferInstanceAs (Decidable (_ = _))

theorem face16 : ∀ l : Fin 512, (if picks 31#32 16#32 32#32 l.val then (⟨(l.val + 512 - 496 % 512) % 512, Nat.mod_lt _ (by decide)⟩ : Fin 512) else ⟨(l.val + 512 - 16 % 512) % 512, Nat.mod_lt _ (by decide)⟩) = facing 16 l := by decide +kernel
theorem face8 : ∀ l : Fin 512, (if picks 15#32 8#32 16#32 l.val then (⟨(l.val + 512 - 504 % 512) % 512, Nat.mod_lt _ (by decide)⟩ : Fin 512) else ⟨(l.val + 512 - 8 % 512) % 512, Nat.mod_lt _ (by decide)⟩) = facing 8 l := by decide +kernel
theorem face8' : ∀ l : Fin 128, (if picks 15#32 8#32 16#32 l.val then (⟨(l.val + 128 - 120 % 128) % 128, Nat.mod_lt _ (by decide)⟩ : Fin 128) else ⟨(l.val + 128 - 8 % 128) % 128, Nat.mod_lt _ (by decide)⟩) = facing128 8 l := by decide +kernel

/-- A tile repeated four times along the lanes. -/
theorem tiled_apply (x : FVec Ideal S512x128 .f32) (r : Fin 512) (l : Fin 512) :
    (concatenate S512x512 1 [⟨S512x128, x⟩, ⟨S512x128, x⟩, ⟨S512x128, x⟩, ⟨S512x128, x⟩] concatenates_S512x128_S512x128_S512x128_S512x128_S512x512_d1 (ix2 r l) : EReal)
      = x (ix2 r (inTile l)) := by
  pointwise
  unfold inTile
  split_ifs with h1 h2 h3 <;> refine congrArg (fun z : Fin 128 => (x (ix2 r z) : EReal)) (Fin.ext ?_) <;> dsimp only at * <;> omega

theorem swap16_apply (x : FVec Ideal S512x512 .f32) (r : Fin 512) (l : Fin 512) :
    (select (cmpi .slt (addi (andi (iota .tc S512x512 32 [1] iota_S512x512_d1_w32) (broadcast S512x512 31#32)) (broadcast S512x512 16#32)) (broadcast S512x512 32#32))
      (dynamicRotate 1 496#32 none x rotates_S512x512_d1) (dynamicRotate 1 16#32 none x rotates_S512x512_d1) (ix2 r l) : EReal) = x (ix2 r (facing 16 l)) := by
  rw [← face16]
  pointwise
  unfold Scalar.select
  by_cases h : picks 31#32 16#32 32#32 l.val
  · rw [if_pos h]; exact if_pos h
  · rw [if_neg h]; exact if_neg h

theorem swap8_apply (x : FVec Ideal S512x512 .f32) (r : Fin 512) (l : Fin 512) :
    (select (cmpi .slt (addi (andi (iota .tc S512x512 32 [1] iota_S512x512_d1_w32) (broadcast S512x512 15#32)) (broadcast S512x512 8#32)) (broadcast S512x512 16#32))
      (dynamicRotate 1 504#32 none x rotates_S512x512_d1) (dynamicRotate 1 8#32 none x rotates_S512x512_d1) (ix2 r l) : EReal) = x (ix2 r (facing 8 l)) := by
  rw [← face8]
  pointwise
  unfold Scalar.select
  by_cases h : picks 15#32 8#32 16#32 l.val
  · rw [if_pos h]; exact if_pos h
  · rw [if_neg h]; exact if_neg h

theorem swap8_tile_apply (x : FVec Ideal S512x128 .f32) (r : Fin 512) (l : Fin 128) :
    (select (cmpi .slt (addi (andi (iota .tc S512x128 32 [1] iota_S512x128_d1_w32) (broadcast S512x128 15#32)) (broadcast S512x128 8#32)) (broadcast S512x128 16#32))
      (dynamicRotate 1 120#32 none x rotates_S512x128_d1) (dynamicRotate 1 8#32 none x rotates_S512x128_d1) (ix2 r l) : EReal) = x (ix2 r (facing128 8 l)) := by
  rw [← face8']
  pointwise
  unfold Scalar.select
  by_cases h : picks 15#32 8#32 16#32 l.val
  · rw [if_pos h]; exact if_pos h
  · rw [if_neg h]; exact if_neg h

/-! ## The blocks -/

variable (x0 : Vec Ideal S1x512x1024 .f32) (x1 x2 : Vec Ideal S1x1x1024 .f32) (x3 : Vec Ideal S1x1024 .f32) (x4 : Vec Ideal S1024x3328 .bf16) (x5 : Vec Ideal S1x384 .f32) (x6 : Vec Ideal S1x256 .f32)
  (x7 : Vec Ideal S384x512 .bf16) (x8 x9 : Vec Ideal S256x512 .bf16) (x10 x11 x12 x13 : Vec Ideal S512x128 .f32) (r : Fin 512)

/-- The token's modulated row, and its product with a column of the input weight. -/
def row : Fin 1024 → EReal := modulated (fun k => x0 (ix3 0 r k)) (fun k => x1 (ix3 0 0 k)) (fun k => x2 (ix3 0 0 k)) (fun k => x3 (ix2 0 k))
def col (n : Fin 3328) : EReal := prod (row x0 x1 x2 x3 r) (fun k n => (x4 (ix2 k n) : EReal)) n

theorem pay2_apply (k : Fin 1024) : (k0_pay2 x0 x3 x2 x1 (ix2 r k) : EReal) = row x0 x1 x2 x3 r k := by
  unfold k0_pay2 row modulated normed
  dsimp only
  pointwise

theorem pay3_apply (n : Fin 1024) : (k0_pay3 x0 x3 x2 x1 (colsRet x4) (ix2 r n) : EReal) = col x0 x1 x2 x3 x4 r ⟨n.val, by omega⟩ := by
  unfold k0_pay3 colsRet col prod
  generalize hu : k0_pay2 (F := Ideal) x0 x3 x2 x1 = u
  pointwise
  subst hu
  simp only [pay2_apply]

theorem pay11_apply (n : Fin 1536) : (k0_pay11 (k0_pay2 x0 x3 x2 x1) (colsNa x4) (ix2 r n) : EReal) = col x0 x1 x2 x3 x4 r ⟨1024 + n.val, by omega⟩ := by
  unfold k0_pay11 colsNa col prod
  generalize hu : k0_pay2 (F := Ideal) x0 x3 x2 x1 = u
  pointwise
  subst hu
  simp only [pay2_apply]

/-- The retention's lanes: a product turned by the tables. -/
def turned (l : Fin 512) : EReal :=
  col x0 x1 x2 x3 x4 r ⟨l.val, by omega⟩ * x10 (ix2 r (inTile l)) + col x0 x1 x2 x3 x4 r ⟨(facing 16 l).val, by omega⟩ * x11 (ix2 r (inTile l))

theorem pay7_apply (l : Fin 512) : (k0_pay7 (retPlain x0 x1 x2 x3 x4) (k0_pay5 x10) (k0_pay6 x11) (ix2 r l) : EReal) = turned x0 x1 x2 x3 x4 x10 x11 r l := by
  have hp : ∀ l : Fin 512, (retPlain x0 x1 x2 x3 x4 (ix2 r l) : EReal) = col x0 x1 x2 x3 x4 r ⟨l.val, by omega⟩ := fun l => by
    rw [← pay3_apply x0 x1 x2 x3 x4 r ⟨l.val, by omega⟩]
    unfold retPlain k0_pay4
    generalize k0_pay3 (F := Ideal) x0 x3 x2 x1 (colsRet x4) = u
    pointwise
  have h5 : (k0_pay5 x10 (ix2 r l) : EReal) = x10 (ix2 r (inTile l)) := by
    unfold k0_pay5
    rw [tiled_apply]
    pointwise
  have h6 : (concatenate S512x512 1 [⟨S512x128, k0_pay6 x11⟩, ⟨S512x128, k0_pay6 x11⟩, ⟨S512x128, k0_pay6 x11⟩, ⟨S512x128, k0_pay6 x11⟩] concatenates_S512x128_S512x128_S512x128_S512x128_S512x512_d1 (ix2 r l) : EReal)
      = x11 (ix2 r (inTile l)) := by
    rw [tiled_apply]
    unfold k0_pay6
    pointwise
  unfold turned
  rw [← hp l, ← hp (facing 16 l), ← swap16_apply (retPlain x0 x1 x2 x3 x4), ← h5, ← h6]
  rfl

theorem retQ_apply (l : Fin 256) : (retQ x0 x1 x2 x3 x4 x10 x11 (ix3 0 r l) : EReal) = turned x0 x1 x2 x3 x4 x10 x11 r ⟨l.val, by omega⟩ * Ideal.ofBits .f32 0x3E000000#32 := by
  rw [← pay7_apply]
  unfold retQ k0_pay8
  generalize k0_pay7 (F := Ideal) (retPlain x0 x1 x2 x3 x4) (k0_pay5 x10) (k0_pay6 x11) = u
  pointwise

theorem retK_apply (l : Fin 256) : (retK x0 x1 x2 x3 x4 x10 x11 (ix3 0 r l) : EReal) = turned x0 x1 x2 x3 x4 x10 x11 r ⟨256 + l.val, by omega⟩ := by
  rw [← pay7_apply]
  unfold retK k0_pay9
  generalize k0_pay7 (F := Ideal) (retPlain x0 x1 x2 x3 x4) (k0_pay5 x10) (k0_pay6 x11) = u
  pointwise

theorem retRest_apply (l : Fin 512) : (retRest x0 x1 x2 x3 x4 (ix3 0 r l) : EReal) = col x0 x1 x2 x3 x4 r ⟨512 + l.val, by omega⟩ := by
  rw [← pay3_apply x0 x1 x2 x3 x4 r ⟨512 + l.val, by omega⟩]
  unfold retRest k0_pay10
  generalize k0_pay3 (F := Ideal) x0 x3 x2 x1 (colsRet x4) = u
  pointwise

theorem naQ_apply (l : Fin 512) : (naQ x0 x1 x2 x3 x4 (ix3 0 r l) : EReal) = col x0 x1 x2 x3 x4 r ⟨1024 + l.val, by omega⟩ * Ideal.ofBits .f32 0x3E000000#32 := by
  rw [← pay11_apply x0 x1 x2 x3 x4 r ⟨l.val, by omega⟩]
  unfold naQ k0_pay13 k0_pay12
  generalize k0_pay11 (F := Ideal) (k0_pay2 x0 x3 x2 x1) (colsNa x4) = u
  pointwise

theorem naRest_apply (l : Fin 1024) : (naRest x0 x1 x2 x3 x4 (ix3 0 r l) : EReal) = col x0 x1 x2 x3 x4 r ⟨1024 + (512 + l.val), by omega⟩ := by
  rw [← pay11_apply x0 x1 x2 x3 x4 r ⟨512 + l.val, by omega⟩]
  unfold naRest k0_pay14
  generalize k0_pay11 (F := Ideal) (k0_pay2 x0 x3 x2 x1) (colsNa x4) = u
  pointwise

/-! ## The low-rank steps -/

def lowQ : Fin 384 → EReal := normed (Ideal.ofBits .f32 0x43C00000#32) (fun i => col x0 x1 x2 x3 x4 r ⟨2560 + i.val, by omega⟩) (fun k => x5 (ix2 0 k))
def lowKv : Fin 256 → EReal := normed (Ideal.ofBits .f32 0x43800000#32) (fun i => col x0 x1 x2 x3 x4 r ⟨2944 + i.val, by omega⟩) (fun k => x6 (ix2 0 k))

/-- The expanded query's lane, padded heads. -/
def wideQ (l : Fin 512) : EReal := prod (lowQ x0 x1 x2 x3 x4 x5 r) (fun k n => (x7 (ix2 k n) : EReal)) l

theorem pay16_apply (l : Fin 512) : (k0_pay16 (k0_pay2 x0 x3 x2 x1) (colsQ x4) x5 x7 (ix2 r l) : EReal) = wideQ x0 x1 x2 x3 x4 x5 x7 r l := by
  have hc : ∀ i : Fin 384, col x0 x1 x2 x3 x4 r ⟨2560 + i.val, by omega⟩ = ∑ k : Fin 1024, k0_pay2 (F := Ideal) x0 x3 x2 x1 (ix2 r k) * (x4 (ix2 k ⟨2560 + i.val, by omega⟩) : EReal) := fun i => by
    unfold col prod
    simp only [pay2_apply]
  unfold wideQ prod lowQ normed
  simp only [hc]
  unfold k0_pay16 colsQ
  generalize k0_pay2 (F := Ideal) x0 x3 x2 x1 = u
  pointwise

theorem pay20_apply (k : Fin 256) : (k0_pay20 (k0_pay2 x0 x3 x2 x1) (colsKv x4) x6 (ix2 r k) : EReal) = lowKv x0 x1 x2 x3 x4 x6 r k := by
  have hc : ∀ i : Fin 256, col x0 x1 x2 x3 x4 r ⟨2944 + i.val, by omega⟩ = ∑ k : Fin 1024, k0_pay2 (F := Ideal) x0 x3 x2 x1 (ix2 r k) * (x4 (ix2 k ⟨2944 + i.val, by omega⟩) : EReal) := fun i => by
    unfold col prod
    simp only [pay2_apply]
  unfold lowKv normed
  simp only [hc]
  unfold k0_pay20 colsKv
  generalize k0_pay2 (F := Ideal) x0 x3 x2 x1 = u
  pointwise

theorem pay21_apply (l : Fin 128) : (k0_pay21 (k0_pay2 x0 x3 x2 x1) (colsPe x4) (ix2 r l) : EReal) = col x0 x1 x2 x3 x4 r ⟨3200 + l.val, by omega⟩ := by
  unfold k0_pay21 colsPe col prod
  generalize hu : k0_pay2 (F := Ideal) x0 x3 x2 x1 = u
  pointwise
  subst hu
  simp only [pay2_apply]

theorem qBlock_apply (l : Fin 512) : (qBlock x0 x1 x2 x3 x4 x5 x7 x12 x13 (ix3 0 r l) : EReal)
    = (wideQ x0 x1 x2 x3 x4 x5 x7 r l * x12 (ix2 r (inTile l)) + wideQ x0 x1 x2 x3 x4 x5 x7 r (facing 8 l) * x13 (ix2 r (inTile l))) * Ideal.ofBits .f32 0x3E16C740#32 := by
  have ha : (k0_pay17 (k0_pay2 x0 x3 x2 x1) x12 (colsQ x4) x5 x7 (ix2 r l) : EReal) = wideQ x0 x1 x2 x3 x4 x5 x7 r l * x12 (ix2 r (inTile l)) := by
    rw [← pay16_apply]
    unfold k0_pay17
    generalize k0_pay16 (F := Ideal) (k0_pay2 x0 x3 x2 x1) (colsQ x4) x5 x7 = q
    show (_ : EReal) * concatenate S512x512 1 [⟨S512x128, _⟩, ⟨S512x128, _⟩, ⟨S512x128, _⟩, ⟨S512x128, _⟩] concatenates_S512x128_S512x128_S512x128_S512x128_S512x512_d1 (ix2 r l) = _
    rw [tiled_apply]
    pointwise
  have hb : (k0_pay15 x13 (ix2 r l) : EReal) = x13 (ix2 r (inTile l)) := by
    unfold k0_pay15
    rw [tiled_apply]
    pointwise
  rw [← ha, ← pay16_apply, ← hb, ← swap8_apply (k0_pay16 (k0_pay2 x0 x3 x2 x1) (colsQ x4) x5 x7)]
  unfold qBlock k0_pay19 k0_pay18
  generalize k0_pay17 (F := Ideal) (k0_pay2 x0 x3 x2 x1) x12 (colsQ x4) x5 x7 = a
  generalize k0_pay15 (F := Ideal) x13 = b
  generalize k0_pay16 (F := Ideal) (k0_pay2 x0 x3 x2 x1) (colsQ x4) x5 x7 = q
  pointwise

theorem kBlock_apply (l : Fin 512) : (kBlock x0 x1 x2 x3 x4 x6 x8 x12 x13 (ix3 0 r l) : EReal)
    = prod (lowKv x0 x1 x2 x3 x4 x6 r) (fun k n => (x8 (ix2 k n) : EReal)) l
      + (col x0 x1 x2 x3 x4 r ⟨3200 + (inTile l).val, by omega⟩ * x12 (ix2 r (inTile l)) + col x0 x1 x2 x3 x4 r ⟨3200 + (facing128 8 (inTile l)).val, by omega⟩ * x13 (ix2 r (inTile l))) := by
  rw [← pay21_apply, ← pay21_apply, ← swap8_tile_apply (k0_pay21 (k0_pay2 x0 x3 x2 x1) (colsPe x4))]
  unfold prod
  simp only [← pay20_apply]
  unfold kBlock k0_pay23 k0_pay22
  generalize k0_pay20 (F := Ideal) (k0_pay2 x0 x3 x2 x1) (colsKv x4) x6 = a
  generalize k0_pay21 (F := Ideal) (k0_pay2 x0 x3 x2 x1) (colsPe x4) = b
  dsimp only
  generalize hs : select (cmpi .slt (addi (andi (iota .tc S512x128 32 [1] iota_S512x128_d1_w32) (broadcast S512x128 15#32)) (broadcast S512x128 8#32)) (broadcast S512x128 16#32))
      (dynamicRotate 1 120#32 none b rotates_S512x128_d1) (dynamicRotate 1 8#32 none b rotates_S512x128_d1) = s
  have ht := tiled_apply (addf (mulf b (shapeCast S512x128 x12 shapeCasts_S512x128_S512x128)) (mulf s (shapeCast S512x128 x13 shapeCasts_S512x128_S512x128))) r l
  generalize concatenate S512x512 1 [⟨S512x128, addf (mulf b (shapeCast S512x128 x12 shapeCasts_S512x128_S512x128)) (mulf s (shapeCast S512x128 x13 shapeCasts_S512x128_S512x128))⟩, ⟨S512x128, _⟩, ⟨S512x128, _⟩, ⟨S512x128, _⟩]
    concatenates_S512x128_S512x128_S512x128_S512x128_S512x512_d1 = t at ht ⊢
  have he : (addf (mulf b (shapeCast S512x128 x12 shapeCasts_S512x128_S512x128)) (mulf s (shapeCast S512x128 x13 shapeCasts_S512x128_S512x128)) (ix2 r (inTile l)) : EReal)
      = b (ix2 r (inTile l)) * x12 (ix2 r (inTile l)) + s (ix2 r (inTile l)) * x13 (ix2 r (inTile l)) := by pointwise
  rw [← he, ← ht]
  pointwise

theorem is_one : ∀ l : Fin 512, IntOp.cmpi CmpIPredicate.eq (IntOp.andi (BitVec.ofNat 32 l.val) 127#32) 64#32 = BitVec.ofBool (decide (l.val % 128 = 64)) := by decide +kernel

theorem vBlock_apply (l : Fin 512) : (vBlock x0 x1 x2 x3 x4 x6 x9 (ix3 0 r l) : EReal)
    = if l.val % 128 = 64 then 1 else prod (lowKv x0 x1 x2 x3 x4 x6 r) (fun k n => (x9 (ix2 k n) : EReal)) l := by
  unfold prod
  simp only [← pay20_apply]
  unfold vBlock k0_pay1 k0_pay24
  generalize k0_pay20 (F := Ideal) (k0_pay2 x0 x3 x2 x1) (colsKv x4) x6 = a
  pointwise
  rw [is_one]
  unfold Scalar.select
  by_cases h : l.val % 128 = 64 <;> simp [h]

end Cert.Kernel3Ideal.In

end
-- ==== Proof.InTables.lean ====
/- The arrays the host prepares for the projections: padded weights, and the tables of cosines and signed sines, element by element over the extended reals. -/
module

public import proofs.«01_k».proof.Proof.Gen.Kernel3Ideal.Frame
public import proofs.«01_k».proof.Proof.InLayer
public import Idealize.ShloMosaic.Lib.StableHlo.Run
public import Idealize.ShloMosaic.Lib.Pointwise

@[expose] public section

set_option maxRecDepth 65536

noncomputable section

namespace Cert.Kernel3Ideal.In

open Cert.Kernel3Ideal Cert.Kernel3Ideal.Gen Cert.InProj
open Idealize.ShloMosaic Idealize.ShloMosaic.TcCoe Idealize.ShloMosaic.StableHlo

/-! ## Places and frequencies -/

/-- A token's number. -/
def tokenNo : IVec S8192 32 := iotaInDim S8192 32 0
/-- The word of the grid's width, everywhere. -/
def width : IVec S_ 32 := constantI S_ 32 64#32
/-- The quotient toward the floor, as the host computes it. -/
def quotient : IVec S8192 32 := Host.divsi tokenNo (broadcastInDim S8192 ![] bcast_S_S8192 width)
def floorQuotient : IVec S8192 32 :=
  select (andi (cmpi .ne (signi tokenNo) (broadcastInDim S8192 ![] bcast_S_S8192 (signi width)))
      (cmpi .ne (Host.remsi tokenNo (broadcastInDim S8192 ![] bcast_S_S8192 width)) (broadcastInDim S8192 ![] bcast_S_S8192 (constantI S_ 32 0#32))))
    (subi quotient (broadcastInDim S8192 ![] bcast_S_S8192 (constantI S_ 32 1#32))) quotient
/-- The remainder of the floor's quotient, as the host computes it. -/
def divisor : IVec S_ 32 := select (cmpi .eq width (constantI S_ 32 0#32)) (constantI S_ 32 1#32) width
def plainRest : IVec S8192 32 := Host.remsi tokenNo (broadcastInDim S8192 ![] bcast_S_S8192 divisor)
def floorRest : IVec S8192 32 :=
  select (andi (cmpi .ne (cmpi .slt plainRest (broadcastInDim S8192 ![] bcast_S_S8192 (constantI S_ 32 0#32))) (broadcastInDim S8192 ![] bcast_S_S8192 (cmpi .slt divisor (constantI S_ 32 0#32))))
      (cmpi .ne plainRest (broadcastInDim S8192 ![] bcast_S_S8192 (constantI S_ 32 0#32))))
    (addi plainRest (broadcastInDim S8192 ![] bcast_S_S8192 divisor)) plainRest

/-- A token's row and column in the grid. -/
def placeR : FVec Ideal S8192 .f32 := sitofp .f32 floorQuotient
def placeC : FVec Ideal S8192 .f32 := sitofp .f32 floorRest

/-- The frequencies of the retention's heads and of the rotary part of the latent heads. -/
def freq16 : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))
def freq8 : FVec Ideal S8 .f32 :=
  Host.powf (broadcastInDim S8 ![] bcast_S_S8 (constant S_ .f32 0x461C4000#32)) (Host.divf (Host.negf (sitofp .f32 (iotaInDim S8 32 0))) (broadcastInDim S8 ![] bcast_S_S8 (constant S_ .f32 0x41000000#32)))

def column (p : FVec Ideal S8192 .f32) : FVec Ideal S8192x1 .f32 := broadcastInDim S8192x1 ![0] bcast_S8192_S8192x1_0 p

/-! ## The tables -/

def halfAngles16 (p : FVec Ideal S8192 .f32) (w : FVec Ideal S16 .f32) : FVec Ideal S8192x32 .f32 :=
  mulf (broadcastInDim S8192x32 ![0, 1] bcast_S8192x1_S8192x32_0_1 (column p))
    (broadcastInDim S8192x32 ![0, 1] bcast_S1x32_S8192x32_0_1 (broadcastInDim S1x32 ![1] bcast_S32_S1x32_1 (concatenate S32 0 [⟨S16, w⟩, ⟨S16, w⟩] concatenates_S16_S16_S32_d0)))
def angles16 (p q : FVec Ideal S8192 .f32) (w : FVec Ideal S16 .f32) : FVec Ideal S8192x64 .f32 :=
  concatenate S8192x64 1 [⟨S8192x32, halfAngles16 p w⟩, ⟨S8192x32, halfAngles16 q w⟩] concatenates_S8192x32_S8192x32_S8192x64_d1
def signs16 : FVec Ideal S64 .f32 :=
  shapeCast S64 (broadcastInDim S2x32 ![0, 1] bcast_S1x32_S2x32_0_1 (shapeCast S1x32 (concatenate S32 0 [⟨S16, Host.negf (broadcastInDim S16 ![] bcast_S_S16 (constant S_ .f32 0x3F800000#32))⟩,
    ⟨S16, broadcastInDim S16 ![] bcast_S_S16 (constant S_ .f32 0x3F800000#32)⟩] concatenates_S16_S16_S32_d0) shapeCasts_S32_S1x32)) shapeCasts_S2x32_S64
def cosines16 : FVec Ideal S8192x64 .f32 := Host.cos (angles16 placeR placeC freq16)
def sines16 : FVec Ideal S8192x64 .f32 :=
  mulf (Host.sin (angles16 placeR placeC freq16)) (broadcastInDim S8192x64 ![0, 1] bcast_S1x64_S8192x64_0_1 (broadcastInDim S1x64 ![1] bcast_S64_S1x64_1 signs16))
def twice (x : FVec Ideal S8192x64 .f32) : FVec Ideal S8192x128 .f32 := concatenate S8192x128 1 [⟨S8192x64, x⟩, ⟨S8192x64, x⟩] concatenates_S8192x64_S8192x64_S8192x128_d1

def halfAngles8 (p : FVec Ideal S8192 .f32) (w : FVec Ideal S8 .f32) : FVec Ideal S8192x16 .f32 :=
  mulf (broadcastInDim S8192x16 ![0, 1] bcast_S8192x1_S8192x16_0_1 (column p))
    (broadcastInDim S8192x16 ![0, 1] bcast_S1x16_S8192x16_0_1 (broadcastInDim S1x16 ![1] bcast_S16_S1x16_1 (concatenate S16 0 [⟨S8, w⟩, ⟨S8, w⟩] concatenates_S8_S8_S16_d0)))
def angles8 (p q : FVec Ideal S8192 .f32) (w : FVec Ideal S8 .f32) : FVec Ideal S8192x32 .f32 :=
  concatenate S8192x32 1 [⟨S8192x16, halfAngles8 p w⟩, ⟨S8192x16, halfAngles8 q w⟩] concatenates_S8192x16_S8192x16_S8192x32_d1
def signs8 : FVec Ideal S32 .f32 :=
  shapeCast S32 (broadcastInDim S2x16 ![0, 1] bcast_S1x16_S2x16_0_1 (shapeCast S1x16 (concatenate S16 0 [⟨S8, Host.negf (broadcastInDim S8 ![] bcast_S_S8 (constant S_ .f32 0x3F800000#32))⟩,
    ⟨S8, broadcastInDim S8 ![] bcast_S_S8 (constant S_ .f32 0x3F800000#32)⟩] concatenates_S8_S8_S16_d0) shapeCasts_S16_S1x16)) shapeCasts_S2x16_S32
def cosines8 : FVec Ideal S8192x32 .f32 := Host.cos (angles8 placeR placeC freq8)
def sines8 : FVec Ideal S8192x32 .f32 :=
  mulf (Host.sin (angles8 placeR placeC freq8)) (broadcastInDim S8192x32 ![0, 1] bcast_S1x32_S8192x32_0_1 (broadcastInDim S1x32 ![1] bcast_S32_S1x32_1 signs8))
/-- A table of 32 lanes after 64 of one constant and before 32 zeros. -/
def framed (w : BitVec 32) (x : FVec Ideal S8192x32 .f32) : FVec Ideal S8192x128 .f32 :=
  concatenate S8192x128 1 [⟨S8192x64, (broadcastInDim S8192x64 ![] bcast_S_S8192x64 (constant S_ .f32 w) : FVec Ideal S8192x64 .f32)⟩, ⟨S8192x32, x⟩, ⟨S8192x32, (broadcastInDim S8192x32 ![] bcast_S_S8192x32 (constant S_ .f32 0x00000000#32) : FVec Ideal S8192x32 .f32)⟩] concatenates_S8192x64_S8192x32_S8192x32_S8192x128_d1

/-! ## The weights -/

def wideW (w : FVec Ideal S1024x3232 .f32) : FVec Ideal S1024x3328 .bf16 :=
  truncf .bf16 (concatenate S1024x3328 1 [⟨S1024x3200, extractStridedSlice S1024x3200 ![0, 0] w slices_S1024x3232_S1024x3200_0_0⟩,
    ⟨S1024x128, concatenate S1024x128 1 [⟨S1024x64, (broadcastInDim S1024x64 ![] bcast_S_S1024x64 (constant S_ .f32 0x00000000#32) : FVec Ideal S1024x64 .f32)⟩, ⟨S1024x32, extractStridedSlice S1024x32 ![0, 3200] w slices_S1024x3232_S1024x32_0_3200⟩,
      ⟨S1024x32, (broadcastInDim S1024x32 ![] bcast_S_S1024x32 (constant S_ .f32 0x00000000#32) : FVec Ideal S1024x32 .f32)⟩] concatenates_S1024x64_S1024x32_S1024x32_S1024x128_d1⟩] concatenates_S1024x3200_S1024x128_S1024x3328_d1 : FVec Ideal S1024x3328 .f32) bitsLt_bf16_f32
def wideUq (w : FVec Ideal S384x384 .f32) : FVec Ideal S384x512 .bf16 :=
  truncf .bf16 (shapeCast S384x512 (pad S384x4x128 ![0, 0, 0] ![0, 0, 32] ![0, 0, 0] (shapeCast S384x4x96 w shapeCasts_S384x384_S384x4x96) (sitofp .f32 (constantI S_ 32 0#32)) pads_S384x4x96_S384x4x128_000_000_0320 h_S_) shapeCasts_S384x4x128_S384x512) bitsLt_bf16_f32
def keyHalf (w : FVec Ideal S256x512 .f32) : FVec Ideal S256x4x64 .f32 := extractStridedSlice S256x4x64 ![0, 0, 0] (shapeCast S256x4x128 w shapeCasts_S256x512_S256x4x128) slices_S256x4x128_S256x4x64_0_0_0
def valueHalf (w : FVec Ideal S256x512 .f32) : FVec Ideal S256x4x64 .f32 := extractStridedSlice S256x4x64 ![0, 0, 64] (shapeCast S256x4x128 w shapeCasts_S256x512_S256x4x128) slices_S256x4x128_S256x4x64_0_0_64
def wideHalf (w : FVec Ideal S256x4x64 .f32) : FVec Ideal S256x512 .bf16 :=
  truncf .bf16 (shapeCast S256x512 (pad S256x4x128 ![0, 0, 0] ![0, 0, 64] ![0, 0, 0] (shapeCast S256x4x64 (shapeCast S256x256 w shapeCasts_S256x4x64_S256x256) shapeCasts_S256x256_S256x4x64) (sitofp .f32 (constantI S_ 32 0#32)) pads_S256x4x64_S256x4x128_000_000_0640 h_S_) shapeCasts_S256x4x128_S256x512) bitsLt_bf16_f32

/-! ## What the windows' arrays are -/

variable (m : (ℓ : Loc nD τ sig) → Buf (Elt Ideal) ℓ) (c : Dev nD)

/-- Argument arrays as the call's extended reals. -/
abbrev arg0 : FVec Ideal S4x8192x1024 .f32 := m ((c.tc : Thread nD τ).loc main_arg0)
abbrev arg1 : FVec Ideal S4x1024 .f32 := m ((c.tc : Thread nD τ).loc main_arg1)
abbrev arg2 : FVec Ideal S4x1024 .f32 := m ((c.tc : Thread nD τ).loc main_arg2)
abbrev arg3 : FVec Ideal S1024 .f32 := m ((c.tc : Thread nD τ).loc main_arg3)
abbrev arg4 : FVec Ideal S1024x3232 .f32 := m ((c.tc : Thread nD τ).loc main_arg4)
abbrev arg5 : FVec Ideal S384 .f32 := m ((c.tc : Thread nD τ).loc main_arg5)
abbrev arg6 : FVec Ideal S256 .f32 := m ((c.tc : Thread nD τ).loc main_arg6)
abbrev arg7 : FVec Ideal S384x384 .f32 := m ((c.tc : Thread nD τ).loc main_arg7)
abbrev arg8 : FVec Ideal S256x512 .f32 := m ((c.tc : Thread nD τ).loc main_arg8)

theorem V_main_arg0 : V m c main_arg0 = (arg0 m c : FVec Ideal S4x8192x1024 .f32) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v6 : V m c main_v6 = (wideW (arg4 m c) : FVec Ideal S1024x3328 .bf16) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v10 : V m c main_v10 = (wideUq (arg7 m c) : FVec Ideal S384x512 .bf16) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v17 : V m c main_v17 = (wideHalf (keyHalf (arg8 m c)) : FVec Ideal S256x512 .bf16) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v23 : V m c main_v23 = (wideHalf (valueHalf (arg8 m c)) : FVec Ideal S256x512 .bf16) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v24 : V m c main_v24 = (broadcastInDim S4x1x1024 ![0, 2] bcast_S4x1024_S4x1x1024_0_2 (arg1 m c) : FVec Ideal S4x1x1024 .f32) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v25 : V m c main_v25 = (broadcastInDim S4x1x1024 ![0, 2] bcast_S4x1024_S4x1x1024_0_2 (arg2 m c) : FVec Ideal S4x1x1024 .f32) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v26 : V m c main_v26 = (shapeCast S1x1024 (arg3 m c) shapeCasts_S1024_S1x1024 : FVec Ideal S1x1024 .f32) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v27 : V m c main_v27 = (shapeCast S1x384 (arg5 m c) shapeCasts_S384_S1x384 : FVec Ideal S1x384 .f32) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

theorem V_main_v28 : V m c main_v28 = (shapeCast S1x256 (arg6 m c) shapeCasts_S256_S1x256 : FVec Ideal S1x256 .f32) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

set_option maxHeartbeats 2000000 in
theorem V_main_v63 : V m c main_v63 = (twice (cosines16) : FVec Ideal S8192x128 .f32) := by
  unfold twice cosines16 angles16 halfAngles16 column placeR placeC freq16 floorQuotient floorRest quotient plainRest divisor width tokenNo
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

set_option maxHeartbeats 2000000 in
theorem V_main_v64 : V m c main_v64 = (twice (sines16) : FVec Ideal S8192x128 .f32) := by
  unfold twice sines16 angles16 halfAngles16 column placeR placeC freq16 signs16 floorQuotient floorRest quotient plainRest divisor width tokenNo
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

set_option maxHeartbeats 2000000 in
theorem V_main_v94 : V m c main_v94 = (framed 0x3F800000#32 cosines8 : FVec Ideal S8192x128 .f32) := by
  unfold framed cosines8 angles8 halfAngles8 column placeR placeC freq8 floorQuotient floorRest quotient plainRest divisor width tokenNo
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

set_option maxHeartbeats 2000000 in
theorem V_main_v97 : V m c main_v97 = (framed 0x00000000#32 sines8 : FVec Ideal S8192x128 .f32) := by
  unfold framed sines8 angles8 halfAngles8 column placeR placeC freq8 signs8 floorQuotient floorRest quotient plainRest divisor width tokenNo
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    TRef.binary, TRef.unary, TRef.nullary, TRef.ternary, TRef.toBuf, TRef.ofBuf, cast_eq]
  after_results_simp <;> rfl

end Cert.Kernel3Ideal.In

end
-- ==== Proof.InArrays.lean ====
/- The host's arrays for the projections, entry by entry. -/
module

public import proofs.«01_k».proof.Proof.InTables

@[expose] public section

set_option maxRecDepth 16384

noncomputable section

namespace Cert.Kernel3Ideal.In

open Cert.Kernel3Ideal Cert.Kernel3Ideal.Gen Cert.InProj
open Idealize.ShloMosaic

/-! ## Tables -/

/-- A token's place along axis `a` of the grid: its row, then its column. -/
def placeOf (a : Fin 2) : FVec Ideal S8192 .f32 := if a.val = 0 then placeR else placeC

def cos16 (a : Fin 2) (t : Fin 8192) (f : Fin 16) : EReal := FloatOps.hostUnary (F := Ideal) .cos (φ := .f32) ((placeOf a (ix1 t) : EReal) * freq16 (ix1 f) : EReal)
def sin16 (a : Fin 2) (t : Fin 8192) (f : Fin 16) : EReal := FloatOps.hostUnary (F := Ideal) .sin (φ := .f32) ((placeOf a (ix1 t) : EReal) * freq16 (ix1 f) : EReal)
def cos8 (a : Fin 2) (t : Fin 8192) (f : Fin 8) : EReal := FloatOps.hostUnary (F := Ideal) .cos (φ := .f32) ((placeOf a (ix1 t) : EReal) * freq8 (ix1 f) : EReal)
def sin8 (a : Fin 2) (t : Fin 8192) (f : Fin 8) : EReal := FloatOps.hostUnary (F := Ideal) .sin (φ := .f32) ((placeOf a (ix1 t) : EReal) * freq8 (ix1 f) : EReal)

/-- Lane `32 a + 16 h + f` of the retention's 64 lanes: axis `a`, half `h`, frequency `f`. -/
def at64 (a h : Fin 2) (f : Fin 16) : Fin 64 := ⟨32 * a.val + 16 * h.val + f.val, by omega⟩
/-- Lane `16 a + 8 h + f` of the rotary 32 lanes. -/
def at32 (a h : Fin 2) (f : Fin 8) : Fin 32 := ⟨16 * a.val + 8 * h.val + f.val, by omega⟩

theorem half16_apply (p : FVec Ideal S8192 .f32) (w : FVec Ideal S16 .f32) (t : Fin 8192) (h : Fin 2) (f : Fin 16) :
    (halfAngles16 p w (ix2 t ⟨16 * h.val + f.val, by omega⟩) : EReal) = p (ix1 t) * w (ix1 f) := by
  unfold halfAngles16 column
  pointwise
  split_ifs with h1 <;> (refine congrArg (fun z : Fin 16 => (p (ix1 t) : EReal) * w (ix1 z)) (Fin.ext ?_); dsimp only at *; omega)

theorem half8_apply (p : FVec Ideal S8192 .f32) (w : FVec Ideal S8 .f32) (t : Fin 8192) (h : Fin 2) (f : Fin 8) :
    (halfAngles8 p w (ix2 t ⟨8 * h.val + f.val, by omega⟩) : EReal) = p (ix1 t) * w (ix1 f) := by
  unfold halfAngles8 column
  pointwise
  split_ifs with h1 <;> (refine congrArg (fun z : Fin 8 => (p (ix1 t) : EReal) * w (ix1 z)) (Fin.ext ?_); dsimp only at *; omega)

theorem angles16_apply (t : Fin 8192) (a h : Fin 2) (f : Fin 16) : (angles16 placeR placeC freq16 (ix2 t (at64 a h f)) : EReal) = (placeOf a (ix1 t) : EReal) * freq16 (ix1 f) := by
  rw [← half16_apply (placeOf a) freq16 t h f]
  unfold placeOf angles16
  generalize hp : halfAngles16 placeR freq16 = x
  generalize hq : halfAngles16 placeC freq16 = y
  match a with
  | ⟨0, _⟩ =>
    rw [if_pos rfl, hp]
    pointwise
    rw [dif_pos (by show 32 * 0 + 16 * h.val + f.val < 32; omega)]
    refine congrArg (fun z : Fin 32 => (x (ix2 t z) : EReal)) (Fin.ext ?_)
    show 32 * 0 + 16 * h.val + f.val = 16 * h.val + f.val
    omega
  | ⟨1, _⟩ =>
    rw [if_neg (by simp), hq]
    pointwise
    rw [dif_neg (by show ¬(32 * 1 + 16 * h.val + f.val < 32); omega)]
    refine congrArg (fun z : Fin 32 => (y (ix2 t z) : EReal)) (Fin.ext ?_)
    show 32 * 1 + 16 * h.val + f.val - 32 = 16 * h.val + f.val
    omega

theorem angles8_apply (t : Fin 8192) (a h : Fin 2) (f : Fin 8) : (angles8 placeR placeC freq8 (ix2 t (at32 a h f)) : EReal) = (placeOf a (ix1 t) : EReal) * freq8 (ix1 f) := by
  rw [← half8_apply (placeOf a) freq8 t h f]
  unfold placeOf angles8
  generalize hp : halfAngles8 placeR freq8 = x
  generalize hq : halfAngles8 placeC freq8 = y
  match a with
  | ⟨0, _⟩ =>
    rw [if_pos rfl, hp]
    pointwise
    rw [dif_pos (by show 16 * 0 + 8 * h.val + f.val < 16; omega)]
    refine congrArg (fun z : Fin 16 => (x (ix2 t z) : EReal)) (Fin.ext ?_)
    show 16 * 0 + 8 * h.val + f.val = 8 * h.val + f.val
    omega
  | ⟨1, _⟩ =>
    rw [if_neg (by simp), hq]
    pointwise
    rw [dif_neg (by show ¬(16 * 1 + 8 * h.val + f.val < 16); omega)]
    refine congrArg (fun z : Fin 16 => (y (ix2 t z) : EReal)) (Fin.ext ?_)
    show 16 * 1 + 8 * h.val + f.val - 16 = 8 * h.val + f.val
    omega

/-- The sign of a half. -/
def signOf (h : Fin 2) : EReal := if h.val = 0 then -1 else 1

theorem signs16_apply (a h : Fin 2) (f : Fin 16) : (signs16 (ix1 (at64 a h f)) : EReal) = signOf h := by
  unfold signs16 at64 signOf
  generalize hx : concatenate S32 0 [⟨S16, Host.negf (broadcastInDim S16 ![] bcast_S_S16 (constant (F := Ideal) S_ .f32 0x3F800000#32))⟩, ⟨S16, broadcastInDim S16 ![] bcast_S_S16 (constant S_ .f32 0x3F800000#32)⟩] concatenates_S16_S16_S32_d0 = x
  have hc : ∀ l : Fin 32, (x (ix1 l) : EReal) = if l.val < 16 then -1 else 1 := fun l => by
    subst hx
    pointwise
    split_ifs <;> simp
  pointwise
  rw [hc]
  refine if_congr ?_ rfl rfl
  dsimp only
  omega

theorem signs8_apply (a h : Fin 2) (f : Fin 8) : (signs8 (ix1 (at32 a h f)) : EReal) = signOf h := by
  unfold signs8 at32 signOf
  generalize hx : concatenate S16 0 [⟨S8, Host.negf (broadcastInDim S8 ![] bcast_S_S8 (constant (F := Ideal) S_ .f32 0x3F800000#32))⟩, ⟨S8, broadcastInDim S8 ![] bcast_S_S8 (constant S_ .f32 0x3F800000#32)⟩] concatenates_S8_S8_S16_d0 = x
  have hc : ∀ l : Fin 16, (x (ix1 l) : EReal) = if l.val < 8 then -1 else 1 := fun l => by
    subst hx
    pointwise
    split_ifs <;> simp
  pointwise
  rw [hc]
  refine if_congr ?_ rfl rfl
  dsimp only
  omega

theorem cosines16_apply (t : Fin 8192) (a h : Fin 2) (f : Fin 16) : (cosines16 (ix2 t (at64 a h f)) : EReal) = cos16 a t f := by
  unfold cosines16 cos16
  rw [← angles16_apply t a h f]
  rfl

theorem sines16_apply (t : Fin 8192) (a h : Fin 2) (f : Fin 16) : (sines16 (ix2 t (at64 a h f)) : EReal) = sin16 a t f * signOf h := by
  unfold sines16 sin16
  rw [← angles16_apply t a h f, ← signs16_apply a h f]
  generalize angles16 placeR placeC freq16 = x
  generalize signs16 = y
  pointwise

theorem cosines8_apply (t : Fin 8192) (a h : Fin 2) (f : Fin 8) : (cosines8 (ix2 t (at32 a h f)) : EReal) = cos8 a t f := by
  unfold cosines8 cos8
  rw [← angles8_apply t a h f]
  rfl

theorem sines8_apply (t : Fin 8192) (a h : Fin 2) (f : Fin 8) : (sines8 (ix2 t (at32 a h f)) : EReal) = sin8 a t f * signOf h := by
  unfold sines8 sin8
  rw [← angles8_apply t a h f, ← signs8_apply a h f]
  generalize angles8 placeR placeC freq8 = x
  generalize signs8 = y
  pointwise

theorem twice_apply (x : FVec Ideal S8192x64 .f32) (t : Fin 8192) (l : Fin 128) : (twice x (ix2 t l) : EReal) = x (ix2 t ⟨l.val % 64, Nat.mod_lt _ (by decide)⟩) := by
  unfold twice
  pointwise
  split_ifs with h <;> (refine congrArg (fun z : Fin 64 => (x (ix2 t z) : EReal)) (Fin.ext ?_); dsimp only at *; omega)

theorem framed_apply (w : BitVec 32) (x : FVec Ideal S8192x32 .f32) (t : Fin 8192) (l : Fin 128) :
    (framed w x (ix2 t l) : EReal) = if l.val < 64 then Ideal.ofBits .f32 w else if h : 64 ≤ l.val ∧ l.val < 96 then x (ix2 t ⟨l.val - 64, by omega⟩) else 0 := by
  unfold framed
  pointwise
  by_cases h1 : l.val < 64
  · rw [dif_pos h1, if_pos h1]
  · rw [dif_neg h1, if_neg h1]
    by_cases h2 : l.val - 64 < 32
    · rw [dif_pos h2, dif_pos (show 64 ≤ l.val ∧ l.val < 96 by omega)]
    · rw [dif_neg h2, dif_neg (show ¬(64 ≤ l.val ∧ l.val < 96) by omega)]

/-! ## Weights -/

theorem wideW_apply (w : FVec Ideal S1024x3232 .f32) (k : Fin 1024) (n : Fin 3328) :
    (wideW w (ix2 k n) : EReal) = if h : n.val < 3200 then w (ix2 k ⟨n.val, by omega⟩) else if h : 3264 ≤ n.val ∧ n.val < 3296 then w (ix2 k ⟨n.val - 64, by omega⟩) else 0 := by
  unfold wideW
  pointwise
  by_cases h0 : n.val < 3200
  · rw [dif_pos h0, dif_pos h0]
  · rw [dif_neg h0, dif_neg h0]
    by_cases h1 : n.val - 3200 < 64
    · rw [dif_pos h1, dif_neg (show ¬(3264 ≤ n.val ∧ n.val < 3296) by omega)]
    · rw [dif_neg h1]
      by_cases h2 : n.val - 3200 - 64 < 32
      · rw [dif_pos h2, dif_pos (show 3264 ≤ n.val ∧ n.val < 3296 by omega)]
        exact congrArg (fun z : Fin 3232 => (w (ix2 k z) : EReal)) (Fin.ext (by dsimp only; omega))
      · rw [dif_neg h2, dif_neg (show ¬(3264 ≤ n.val ∧ n.val < 3296) by omega)]

theorem zero_word : (FloatOps.sitofp (F := Ideal) .f32 (0#32) : EReal) = 0 := by
  show (((0#32 : BitVec 32).toInt : ℝ) : EReal) = 0
  simp

theorem wideUq_apply (w : FVec Ideal S384x384 .f32) (k : Fin 384) (hd : Fin 4) (l : Fin 128) :
    (wideUq w (ix2 k ⟨128 * hd.val + l.val, by omega⟩) : EReal) = if h : l.val < 96 then w (ix2 k ⟨96 * hd.val + l.val, by omega⟩) else 0 := by
  have row (y : FVec Ideal S384x4x128 .f32) : (truncf .bf16 (shapeCast S384x512 y shapeCasts_S384x4x128_S384x512) bitsLt_bf16_f32 (ix2 k ⟨128 * hd.val + l.val, by omega⟩) : EReal) = y (ix3 k hd l) := by
    pointwise
  have low (l : Fin 96) : (shapeCast S384x4x96 w shapeCasts_S384x384_S384x4x96 (ix3 k hd l) : EReal) = w (ix2 k ⟨96 * hd.val + l.val, by omega⟩) := by
    pointwise
    refine congrArg (fun z : Fin 384 => (w (ix2 k z) : EReal)) (Fin.ext ?_); dsimp only; omega
  unfold wideUq
  refine (row _).trans ?_
  generalize shapeCast S384x4x96 w shapeCasts_S384x384_S384x4x96 = y at low ⊢
  pointwise
  rw [zero_word]
  by_cases h : l.val < 96
  · rw [dif_pos h, dif_pos h]; exact low ⟨l.val, h⟩
  · rw [dif_neg h, dif_neg h]

theorem wideHalf_apply (w : FVec Ideal S256x4x64 .f32) (k : Fin 256) (hd : Fin 4) (l : Fin 128) :
    (wideHalf w (ix2 k ⟨128 * hd.val + l.val, by omega⟩) : EReal) = if h : l.val < 64 then w (ix3 k hd ⟨l.val, h⟩) else 0 := by
  have row (y : FVec Ideal S256x4x128 .f32) : (truncf .bf16 (shapeCast S256x512 y shapeCasts_S256x4x128_S256x512) bitsLt_bf16_f32 (ix2 k ⟨128 * hd.val + l.val, by omega⟩) : EReal) = y (ix3 k hd l) := by
    pointwise
  have low (l : Fin 64) : (shapeCast S256x4x64 (shapeCast S256x256 w shapeCasts_S256x4x64_S256x256) shapeCasts_S256x256_S256x4x64 (ix3 k hd l) : EReal) = w (ix3 k hd l) := by
    pointwise
  unfold wideHalf
  refine (row _).trans ?_
  generalize shapeCast S256x4x64 (shapeCast S256x256 w shapeCasts_S256x4x64_S256x256) shapeCasts_S256x256_S256x4x64 = y at low ⊢
  pointwise
  rw [zero_word]
  by_cases h : l.val < 64
  · rw [dif_pos h, dif_pos h]; exact low ⟨l.val, h⟩
  · rw [dif_neg h, dif_neg h]

theorem keyHalf_apply (w : FVec Ideal S256x512 .f32) (k : Fin 256) (hd : Fin 4) (l : Fin 64) : (keyHalf w (ix3 k hd l) : EReal) = w (ix2 k ⟨128 * hd.val + l.val, by omega⟩) := by
  unfold keyHalf
  pointwise
  refine congrArg (fun z : Fin 512 => (w (ix2 k z) : EReal)) (Fin.ext ?_); dsimp only; omega

theorem valueHalf_apply (w : FVec Ideal S256x512 .f32) (k : Fin 256) (hd : Fin 4) (l : Fin 64) : (valueHalf w (ix3 k hd l) : EReal) = w (ix2 k ⟨128 * hd.val + (64 + l.val), by omega⟩) := by
  unfold valueHalf
  pointwise
  refine congrArg (fun z : Fin 512 => (w (ix2 k z) : EReal)) (Fin.ext ?_); dsimp only; omega

end Cert.Kernel3Ideal.In

end
-- ==== Proof.InRows.lean ====
/- A point's row and tables as the token's: its products, its low-rank rows, its cosines and sines. -/
module

public import proofs.«01_k».proof.Proof.InPoints
public import proofs.«01_k».proof.Proof.InApply
public import proofs.«01_k».proof.Proof.InArrays
public import proofs.«01_k».proof.Proof.InTurn

@[expose] public section

set_option maxRecDepth 16384

noncomputable section

namespace Cert.Kernel3Ideal.In

open Cert.Kernel3Ideal Cert.Kernel3Ideal.Gen Cert.InProj
open Idealize.ShloMosaic Idealize.ShloMosaic.TcCoe Idealize.SL.Sem
open scoped BigOperators

variable (m : (ℓ : Loc nD τ sig) → Buf (Elt Ideal) ℓ) (c : Dev nD)

/-- A token's operands, from the arguments. -/
def token (b : Fin 4) (s : Fin 8192) : Ops := opsOf (arg0 m c) (arg1 m c) (arg2 m c) (arg3 m c) (arg4 m c) (arg5 m c) (arg6 m c) (arg7 m c) (arg8 m c) b s

variable (t : Fin cfg0.N) (r : Fin 512)

/-- The token of row `r`. -/
def tok : Ops := token m c (batchOf t) (tokenOf t r)

/-- Its row, and its products with the widened weight. -/
def rowAt : Fin 1024 → EReal := row (iblk m c 0 t) (iblk m c 1 t) (iblk m c 2 t) (iblk m c 3 t) r
def colAt : Fin 3328 → EReal := col (iblk m c 0 t) (iblk m c 1 t) (iblk m c 2 t) (iblk m c 3 t) (iblk m c 4 t) r

theorem rowAt_eq : rowAt m c t r = (tok m c t r).u := by
  have h0 : (fun k => (iblk m c 0 t : Vec Ideal S1x512x1024 .f32) (ix3 0 r k)) = (tok m c t r).h := funext fun k => by
    rw [iblk0_apply, V_main_arg0]
    rfl
  have h1 : (fun k => (iblk m c 1 t : Vec Ideal S1x1x1024 .f32) (ix3 0 0 k)) = (tok m c t r).sh := funext fun k => by
    rw [iblk1_apply, V_main_v24]
    unfold tok token opsOf
    generalize arg1 m c = w
    dsimp only
    pointwise
  have h2 : (fun k => (iblk m c 2 t : Vec Ideal S1x1x1024 .f32) (ix3 0 0 k)) = (tok m c t r).sc := funext fun k => by
    rw [iblk2_apply, V_main_v25]
    unfold tok token opsOf
    generalize arg2 m c = w
    dsimp only
    pointwise
  have h3 : (fun k => (iblk m c 3 t : Vec Ideal S1x1024 .f32) (ix2 0 k)) = (tok m c t r).g := funext fun k => by
    rw [iblk3_eq, V_main_v26]
    unfold tok token opsOf
    generalize arg3 m c = w
    dsimp only
    pointwise
  unfold rowAt row Ops.u
  rw [h0, h1, h2, h3]

theorem colAt_eq (n : Fin 3328) : colAt m c t r n = prod (tok m c t r).u (fun k n => (wideW (arg4 m c) (ix2 k n) : EReal)) n := by
  rw [← rowAt_eq, ← V_main_v6, ← iblk4_eq m c t]
  rfl

theorem colAt_low (n : Fin 3328) (h : n.val < 3200) : colAt m c t r n = (tok m c t r).p ⟨n.val, by omega⟩ := by
  rw [colAt_eq]
  unfold Ops.p prod
  refine Finset.sum_congr rfl fun k _ => congrArg ((tok m c t r).u k * ·) ?_
  dsimp only
  rw [wideW_apply, dif_pos h]
  rfl

theorem colAt_rot (n : Fin 3328) (i : Fin 32) (h : n.val = 3264 + i.val) : colAt m c t r n = (tok m c t r).p ⟨3200 + i.val, by omega⟩ := by
  rw [colAt_eq]
  unfold Ops.p prod
  refine Finset.sum_congr rfl fun k _ => congrArg ((tok m c t r).u k * ·) ?_
  dsimp only
  rw [wideW_apply, dif_neg (by omega), dif_pos (by omega)]
  exact congrArg (fun n => (arg4 m c : FVec Ideal S1024x3232 .f32) (ix2 k n)) (Fin.ext (show n.val - 64 = 3200 + i.val by omega))

theorem colAt_zero (n : Fin 3328) (h : 3200 ≤ n.val) (h' : n.val < 3264 ∨ 3296 ≤ n.val) : colAt m c t r n = 0 := by
  rw [colAt_eq]
  refine prod_zero _ _ _ fun k => ?_
  rw [wideW_apply, dif_neg (by omega), dif_neg (by omega)]

theorem cq_eq : lowQ (iblk m c 0 t) (iblk m c 1 t) (iblk m c 2 t) (iblk m c 3 t) (iblk m c 4 t) (iblk m c 5 t) r = (tok m c t r).cq := by
  have h5 : (fun k => (iblk m c 5 t : Vec Ideal S1x384 .f32) (ix2 0 k)) = (tok m c t r).qn := funext fun k => by
    rw [iblk5_eq, V_main_v27]
    unfold tok token opsOf
    generalize arg5 m c = w
    dsimp only
    pointwise
  unfold lowQ Ops.cq
  rw [h5]
  exact congrArg (fun y => normed _ y (tok m c t r).qn) (funext fun i => colAt_low m c t r ⟨2560 + i.val, by omega⟩ (show 2560 + i.val < 3200 by omega))

theorem ckv_eq : lowKv (iblk m c 0 t) (iblk m c 1 t) (iblk m c 2 t) (iblk m c 3 t) (iblk m c 4 t) (iblk m c 6 t) r = (tok m c t r).ckv := by
  have h6 : (fun k => (iblk m c 6 t : Vec Ideal S1x256 .f32) (ix2 0 k)) = (tok m c t r).kvn := funext fun k => by
    rw [iblk6_eq, V_main_v28]
    unfold tok token opsOf
    generalize arg6 m c = w
    dsimp only
    pointwise
  unfold lowKv Ops.ckv
  rw [h6]
  exact congrArg (fun y => normed _ y (tok m c t r).kvn) (funext fun i => colAt_low m c t r ⟨2944 + i.val, by omega⟩ (show 2944 + i.val < 3200 by omega))

/-- The expanded query at a lane of its padded head. -/
def qAt : Fin 512 → EReal := wideQ (iblk m c 0 t) (iblk m c 1 t) (iblk m c 2 t) (iblk m c 3 t) (iblk m c 4 t) (iblk m c 5 t) (iblk m c 7 t) r

theorem qAt_eq (n : Fin 512) : qAt m c t r n = prod (tok m c t r).cq (fun k n => (wideUq (arg7 m c) (ix2 k n) : EReal)) n := by
  rw [← cq_eq, ← V_main_v10, ← iblk7_eq m c t]
  rfl

theorem qAt_low (hd : Fin 4) (l : Fin 128) (n : Fin 512) (hn : n.val = 128 * hd.val + l.val) (h : l.val < 96) :
    qAt m c t r n = (tok m c t r).q ⟨96 * hd.val + l.val, by omega⟩ := by
  have e : n = ⟨128 * hd.val + l.val, by omega⟩ := Fin.ext hn
  refine (congrArg (qAt m c t r) e).trans ?_
  rw [qAt_eq]
  unfold Ops.q prod
  refine Finset.sum_congr rfl fun k _ => congrArg ((tok m c t r).cq k * ·) ?_
  dsimp only
  rw [wideUq_apply, dif_pos h]
  rfl

theorem qAt_zero (hd : Fin 4) (l : Fin 128) (n : Fin 512) (hn : n.val = 128 * hd.val + l.val) (h : 96 ≤ l.val) : qAt m c t r n = 0 := by
  have e : n = ⟨128 * hd.val + l.val, by omega⟩ := Fin.ext hn
  refine (congrArg (qAt m c t r) e).trans ?_
  rw [qAt_eq]
  refine prod_zero _ _ _ fun k => ?_
  rw [wideUq_apply, dif_neg (by omega)]

/-- The expanded keys and values at a lane of their padded heads. -/
def kAt : Fin 512 → EReal := prod (lowKv (iblk m c 0 t) (iblk m c 1 t) (iblk m c 2 t) (iblk m c 3 t) (iblk m c 4 t) (iblk m c 6 t) r) (fun k n => ((iblk m c 8 t : Vec Ideal S256x512 .bf16) (ix2 k n) : EReal))
def vAt : Fin 512 → EReal := prod (lowKv (iblk m c 0 t) (iblk m c 1 t) (iblk m c 2 t) (iblk m c 3 t) (iblk m c 4 t) (iblk m c 6 t) r) (fun k n => ((iblk m c 9 t : Vec Ideal S256x512 .bf16) (ix2 k n) : EReal))

theorem kAt_low (hd : Fin 4) (l : Fin 64) : kAt m c t r ⟨128 * hd.val + l.val, by omega⟩ = (tok m c t r).kv ⟨128 * hd.val + l.val, by omega⟩ := by
  unfold kAt
  rw [ckv_eq, iblk8_eq, V_main_v17]
  unfold Ops.kv prod
  refine Finset.sum_congr rfl fun k _ => congrArg ((tok m c t r).ckv k * ·) ?_
  refine (wideHalf_apply _ k hd ⟨l.val, by omega⟩).trans ?_
  rw [dif_pos (show l.val < 64 from l.isLt)]
  exact keyHalf_apply _ k hd l

theorem kAt_zero (hd : Fin 4) (l : Fin 128) (h : 64 ≤ l.val) : kAt m c t r ⟨128 * hd.val + l.val, by omega⟩ = 0 := by
  unfold kAt
  rw [iblk8_eq, V_main_v17]
  refine prod_zero _ _ _ fun k => ?_
  rw [wideHalf_apply, dif_neg (by omega)]

theorem vAt_low (hd : Fin 4) (l : Fin 64) : vAt m c t r ⟨128 * hd.val + l.val, by omega⟩ = (tok m c t r).kv ⟨128 * hd.val + (64 + l.val), by omega⟩ := by
  unfold vAt
  rw [ckv_eq, iblk9_eq, V_main_v23]
  unfold Ops.kv prod
  refine Finset.sum_congr rfl fun k _ => congrArg ((tok m c t r).ckv k * ·) ?_
  refine (wideHalf_apply _ k hd ⟨l.val, by omega⟩).trans ?_
  rw [dif_pos (show l.val < 64 from l.isLt)]
  exact valueHalf_apply _ k hd l

theorem vAt_zero (hd : Fin 4) (l : Fin 128) (h : 64 ≤ l.val) : vAt m c t r ⟨128 * hd.val + l.val, by omega⟩ = 0 := by
  unfold vAt
  rw [iblk9_eq, V_main_v23]
  refine prod_zero _ _ _ fun k => ?_
  rw [wideHalf_apply, dif_neg (by omega)]

/-! ## The tables -/

theorem cosTile (l : Fin 128) (a p : Fin 2) (f : Fin 16) (h : l.val % 64 = (pairAt a p f).val) : ((iblk m c 10 t : Vec Ideal S512x128 .f32) (ix2 r l) : EReal) = cos16 a (tokenOf t r) f := by
  rw [iblk10_apply, V_main_v63, twice_apply, ← cosines16_apply (tokenOf t r) a p f]
  exact congrArg (fun z => (cosines16 (ix2 (tokenOf t r) z) : EReal)) (Fin.ext h)

theorem sinTile (l : Fin 128) (a p : Fin 2) (f : Fin 16) (h : l.val % 64 = (pairAt a p f).val) : ((iblk m c 11 t : Vec Ideal S512x128 .f32) (ix2 r l) : EReal) = sin16 a (tokenOf t r) f * signOf p := by
  rw [iblk11_apply, V_main_v64, twice_apply, ← sines16_apply (tokenOf t r) a p f]
  exact congrArg (fun z => (sines16 (ix2 (tokenOf t r) z) : EReal)) (Fin.ext h)

theorem cosHead (l : Fin 128) (a p : Fin 2) (f : Fin 8) (h : l.val = 64 + (pairAt a p f).val) : ((iblk m c 12 t : Vec Ideal S512x128 .f32) (ix2 r l) : EReal) = cos8 a (tokenOf t r) f := by
  have hp : (pairAt a p f).val < 32 := (pairAt a p f).isLt
  rw [iblk12_apply, V_main_v94, framed_apply, if_neg (by omega), dif_pos (by omega), ← cosines8_apply (tokenOf t r) a p f]
  exact congrArg (fun z => (cosines8 (ix2 (tokenOf t r) z) : EReal)) (Fin.ext (show l.val - 64 = (pairAt a p f).val by omega))

theorem sinHead (l : Fin 128) (a p : Fin 2) (f : Fin 8) (h : l.val = 64 + (pairAt a p f).val) : ((iblk m c 13 t : Vec Ideal S512x128 .f32) (ix2 r l) : EReal) = sin8 a (tokenOf t r) f * signOf p := by
  have hp : (pairAt a p f).val < 32 := (pairAt a p f).isLt
  rw [iblk13_apply, V_main_v97, framed_apply, if_neg (by omega), dif_pos (by omega), ← sines8_apply (tokenOf t r) a p f]
  exact congrArg (fun z => (sines8 (ix2 (tokenOf t r) z) : EReal)) (Fin.ext (show l.val - 64 = (pairAt a p f).val by omega))

theorem cosHead_left (l : Fin 128) (h : l.val < 64) : ((iblk m c 12 t : Vec Ideal S512x128 .f32) (ix2 r l) : EReal) = (1 : EReal) := by
  rw [iblk12_apply, V_main_v94, framed_apply, if_pos h]
  exact Ideal.ofBits_one_f32

theorem cosHead_right (l : Fin 128) (h : 96 ≤ l.val) : ((iblk m c 12 t : Vec Ideal S512x128 .f32) (ix2 r l) : EReal) = (0 : EReal) := by
  rw [iblk12_apply, V_main_v94, framed_apply, if_neg (by omega), dif_neg (by omega)]

theorem sinHead_out (l : Fin 128) (h : l.val < 64 ∨ 96 ≤ l.val) : ((iblk m c 13 t : Vec Ideal S512x128 .f32) (ix2 r l) : EReal) = (0 : EReal) := by
  rw [iblk13_apply, V_main_v97, framed_apply]
  split_ifs with h1 h2
  · exact Ideal.ofBits_zero_f32
  · omega
  · rfl

end Cert.Kernel3Ideal.In

end
-- ==== Proof.InValues.lean ====
/- The projections' results lane by lane, from the arguments. -/
module

public import proofs.«01_k».proof.Proof.InRows

@[expose] public section

set_option maxRecDepth 16384

noncomputable section

namespace Cert.Kernel3Ideal.In

open Cert.Kernel3Ideal Cert.Kernel3Ideal.Gen Cert.InProj
open Idealize.ShloMosaic Idealize.ShloMosaic.TcCoe Idealize.SL.Sem
open scoped BigOperators

variable (m : (ℓ : Loc nD τ sig) → Buf (Elt Ideal) ℓ) (c : Dev nD) (t : Fin cfg0.N) (r : Fin 512)

/-- The angles of a token. -/
def cosOf16 (s : Fin 8192) (a : Fin 2) (f : Fin 16) : EReal := cos16 a s f
def sinOf16 (s : Fin 8192) (a : Fin 2) (f : Fin 16) : EReal := sin16 a s f
def cosOf8 (s : Fin 8192) (a : Fin 2) (f : Fin 8) : EReal := cos8 a s f
def sinOf8 (s : Fin 8192) (a : Fin 2) (f : Fin 8) : EReal := sin8 a s f

/-- A pair's member against the tables' entries is the pair turned. -/
theorem turned_of {n : ℕ} (y : Fin (4 * n) → EReal) (c s : Fin 2 → Fin n → EReal) (a p : Fin 2) (f : Fin n) (x z : EReal)
    (hx : x = y (pairAt a p f)) (hz : z = y (pairAt a (1 - p) f)) : x * c a f + z * (s a f * signOf p) = Cert.InProj.turned y c s a p f := by
  subst hx hz
  unfold Cert.InProj.turned signOf
  match p with
  | ⟨0, _⟩ => exact turnFirst_eq _ _ _ _
  | ⟨1, _⟩ => exact turnSecond_eq _ _ _ _

theorem facing_pair16 : ∀ (h : Fin 8) (a p : Fin 2) (f : Fin 16), facing 16 ⟨64 * h.val + (32 * a.val + 16 * p.val + f.val), by omega⟩ = ⟨64 * h.val + (32 * a.val + 16 * (1 - p).val + f.val), by omega⟩ := by decide +kernel
theorem facing_pair8 : ∀ (h : Fin 4) (a p : Fin 2) (f : Fin 8), facing 8 ⟨128 * h.val + (64 + (16 * a.val + 8 * p.val + f.val)), by omega⟩ = ⟨128 * h.val + (64 + (16 * a.val + 8 * (1 - p).val + f.val)), by omega⟩ := by decide +kernel
theorem facing_pair8' : ∀ (a p : Fin 2) (f : Fin 8), facing128 8 ⟨64 + (16 * a.val + 8 * p.val + f.val), by omega⟩ = ⟨64 + (16 * a.val + 8 * (1 - p).val + f.val), by omega⟩ := by decide +kernel

/-! ## The retention's lanes -/

theorem turned_eq (h : Fin 8) (a p : Fin 2) (f : Fin 16) (n : Fin 512) (hn : n.val = 64 * h.val + (pairAt a p f).val) :
    turned (iblk m c 0 t) (iblk m c 1 t) (iblk m c 2 t) (iblk m c 3 t) (iblk m c 4 t) (iblk m c 10 t) (iblk m c 11 t) r n
      = Cert.InProj.turned (fun i : Fin 64 => (tok m c t r).p ⟨64 * h.val + i.val, by omega⟩) (cosOf16 (tokenOf t r)) (sinOf16 (tokenOf t r)) a p f := by
  have hp : (pairAt a p f).val < 64 := (pairAt a p f).isLt
  have hm : (inTile n).val % 64 = (pairAt a p f).val := by show n.val % 128 % 64 = _; omega
  have hf : (facing 16 n).val = 64 * h.val + (pairAt a (1 - p) f).val := by
    have e : n = ⟨64 * h.val + (32 * a.val + 16 * p.val + f.val), by omega⟩ := Fin.ext hn
    rw [e]
    exact congrArg Fin.val (facing_pair16 h a p f)
  unfold turned
  rw [cosTile m c t r _ a p f hm, sinTile m c t r _ a p f hm]
  refine turned_of (fun i : Fin 64 => (tok m c t r).p ⟨64 * h.val + i.val, by omega⟩) (cosOf16 (tokenOf t r)) (sinOf16 (tokenOf t r)) a p f _ _ ?_ ?_
  · exact (colAt_low m c t r ⟨n.val, by omega⟩ (show n.val < 3200 by omega)).trans (congrArg (tok m c t r).p (Fin.ext hn))
  · exact (colAt_low m c t r ⟨(facing 16 n).val, by omega⟩ (show (facing 16 n).val < 3200 by omega)).trans (congrArg (tok m c t r).p (Fin.ext hf))

/-! ## The multi-head latent attention's lanes -/

/-- A query lane, before its scale. -/
theorem mq_left (hd : Fin 4) (l : Fin 64) (n : Fin 512) (hn : n.val = 128 * hd.val + l.val) :
    qAt m c t r n * ((iblk m c 12 t : Vec Ideal S512x128 .f32) (ix2 r (inTile n)) : EReal) + qAt m c t r (facing 8 n) * ((iblk m c 13 t : Vec Ideal S512x128 .f32) (ix2 r (inTile n)) : EReal)
      = (tok m c t r).q ⟨96 * hd.val + l.val, by omega⟩ := by
  have hm : (inTile n).val = l.val := by show n.val % 128 = _; omega
  rw [cosHead_left m c t r _ (by omega), sinHead_out m c t r _ (by omega), mul_one, mul_zero, add_zero]
  exact qAt_low m c t r hd ⟨l.val, by omega⟩ n hn (by show l.val < 96; omega)

theorem mq_mid (hd : Fin 4) (a p : Fin 2) (f : Fin 8) (n : Fin 512) (hn : n.val = 128 * hd.val + (64 + (pairAt a p f).val)) :
    qAt m c t r n * ((iblk m c 12 t : Vec Ideal S512x128 .f32) (ix2 r (inTile n)) : EReal) + qAt m c t r (facing 8 n) * ((iblk m c 13 t : Vec Ideal S512x128 .f32) (ix2 r (inTile n)) : EReal)
      = Cert.InProj.turned (fun i : Fin 32 => (tok m c t r).q ⟨96 * hd.val + (64 + i.val), by omega⟩) (cosOf8 (tokenOf t r)) (sinOf8 (tokenOf t r)) a p f := by
  have hp : (pairAt a p f).val < 32 := (pairAt a p f).isLt
  have hp' : (pairAt a (1 - p) f).val < 32 := (pairAt a (1 - p) f).isLt
  have hm : (inTile n).val = 64 + (pairAt a p f).val := by show n.val % 128 = _; omega
  have hf : (facing 8 n).val = 128 * hd.val + (64 + (pairAt a (1 - p) f).val) := by
    have e : n = ⟨128 * hd.val + (64 + (16 * a.val + 8 * p.val + f.val)), by omega⟩ := Fin.ext hn
    rw [e]
    exact congrArg Fin.val (facing_pair8 hd a p f)
  rw [cosHead m c t r _ a p f hm, sinHead m c t r _ a p f hm]
  refine turned_of (fun i : Fin 32 => (tok m c t r).q ⟨96 * hd.val + (64 + i.val), by omega⟩) (cosOf8 (tokenOf t r)) (sinOf8 (tokenOf t r)) a p f _ _ ?_ ?_
  · exact qAt_low m c t r hd ⟨64 + (pairAt a p f).val, by omega⟩ n hn (by show 64 + (pairAt a p f).val < 96; omega)
  · exact qAt_low m c t r hd ⟨64 + (pairAt a (1 - p) f).val, by omega⟩ _ hf (by show 64 + (pairAt a (1 - p) f).val < 96; omega)

theorem mq_right (hd : Fin 4) (l : Fin 32) (n : Fin 512) (hn : n.val = 128 * hd.val + (96 + l.val)) :
    qAt m c t r n * ((iblk m c 12 t : Vec Ideal S512x128 .f32) (ix2 r (inTile n)) : EReal) + qAt m c t r (facing 8 n) * ((iblk m c 13 t : Vec Ideal S512x128 .f32) (ix2 r (inTile n)) : EReal) = 0 := by
  have hm : (inTile n).val = 96 + l.val := by show n.val % 128 = _; omega
  rw [cosHead_right m c t r _ (by omega), sinHead_out m c t r _ (by omega), mul_zero, mul_zero, add_zero]

/-- The rotary part of a key lane. -/
def peAt (n : Fin 512) : EReal :=
  colAt m c t r ⟨3200 + (inTile n).val, by omega⟩ * ((iblk m c 12 t : Vec Ideal S512x128 .f32) (ix2 r (inTile n)) : EReal)
    + colAt m c t r ⟨3200 + (facing128 8 (inTile n)).val, by omega⟩ * ((iblk m c 13 t : Vec Ideal S512x128 .f32) (ix2 r (inTile n)) : EReal)

theorem pe_left (hd : Fin 4) (l : Fin 64) (n : Fin 512) (hn : n.val = 128 * hd.val + l.val) : peAt m c t r n = 0 := by
  have hm : (inTile n).val = l.val := by show n.val % 128 = _; omega
  unfold peAt
  rw [sinHead_out m c t r _ (by omega), mul_zero, add_zero, colAt_zero m c t r _ (show 3200 ≤ 3200 + (inTile n).val by omega) (Or.inl (show 3200 + (inTile n).val < 3264 by omega)), zero_mul]

theorem pe_mid (hd : Fin 4) (a p : Fin 2) (f : Fin 8) (n : Fin 512) (hn : n.val = 128 * hd.val + (64 + (pairAt a p f).val)) :
    peAt m c t r n = Cert.InProj.turned (fun i : Fin 32 => (tok m c t r).p ⟨3200 + i.val, by omega⟩) (cosOf8 (tokenOf t r)) (sinOf8 (tokenOf t r)) a p f := by
  have hp : (pairAt a p f).val < 32 := (pairAt a p f).isLt
  have hm : (inTile n).val = 64 + (pairAt a p f).val := by show n.val % 128 = _; omega
  have hf : (facing128 8 (inTile n)).val = 64 + (pairAt a (1 - p) f).val := by
    have e : inTile n = ⟨64 + (16 * a.val + 8 * p.val + f.val), by omega⟩ := Fin.ext hm
    rw [e]
    exact congrArg Fin.val (facing_pair8' a p f)
  unfold peAt
  rw [cosHead m c t r _ a p f hm, sinHead m c t r _ a p f hm]
  refine turned_of (fun i : Fin 32 => (tok m c t r).p ⟨3200 + i.val, by omega⟩) (cosOf8 (tokenOf t r)) (sinOf8 (tokenOf t r)) a p f _ _ ?_ ?_
  · exact colAt_rot m c t r _ (pairAt a p f) (by show 3200 + (inTile n).val = _; omega)
  · exact colAt_rot m c t r _ (pairAt a (1 - p) f) (by show 3200 + (facing128 8 (inTile n)).val = _; omega)

theorem pe_right (hd : Fin 4) (l : Fin 32) (n : Fin 512) (hn : n.val = 128 * hd.val + (96 + l.val)) : peAt m c t r n = 0 := by
  have hm : (inTile n).val = 96 + l.val := by show n.val % 128 = _; omega
  unfold peAt
  rw [cosHead_right m c t r _ (by omega), sinHead_out m c t r _ (by omega), mul_zero, mul_zero, add_zero]

end Cert.Kernel3Ideal.In

end
-- ==== Proof.InAngles.lean ====
/- The reference's cosines and sines are the kernel's: the same place times the same frequency. -/
module

public import proofs.«01_k».proof.Proof.InRefs
public import proofs.«01_k».proof.Proof.InValues

@[expose] public section

set_option maxRecDepth 16384

noncomputable section

namespace Cert.Reference3Ideal.In

open Cert.Reference3Ideal Cert.Reference3Ideal.Gen Cert.Reference3Ideal.Value
open Idealize.ShloMosaic Idealize.ShloMosaic.TcCoe Idealize.SL.Sem Idealize.ShloMosaic.StableHlo
open Cert.Kernel3Ideal.In (placeR placeC placeOf freq16 freq8 cos16 sin16 cos8 sin8 cosOf16 sinOf16 cosOf8 sinOf8)

/-- Angles from places and frequencies. -/
def angles16 (p : FVec Ideal S8192 .f32) (w : FVec Ideal S16 .f32) : FVec Ideal S8192x16 .f32 :=
  mulf (broadcastInDim S8192x16 ![0, 1] bcast_S8192x1_S8192x16_0_1 (broadcastInDim S8192x1 ![0] bcast_S8192_S8192x1_0 p)) (broadcastInDim S8192x16 ![0, 1] bcast_S1x16_S8192x16_0_1 (broadcastInDim S1x16 ![1] bcast_S16_S1x16_1 w))
def angles8 (p : FVec Ideal S8192 .f32) (w : FVec Ideal S8 .f32) : FVec Ideal S8192x8 .f32 :=
  mulf (broadcastInDim S8192x8 ![0, 1] bcast_S8192x1_S8192x8_0_1 (broadcastInDim S8192x1 ![0] bcast_S8192_S8192x1_0 p)) (broadcastInDim S8192x8 ![0, 1] bcast_S1x8_S8192x8_0_1 (broadcastInDim S1x8 ![1] bcast_S8_S1x8_1 w))

theorem angles16_apply (p : FVec Ideal S8192 .f32) (w : FVec Ideal S16 .f32) (t : Fin 8192) (f : Fin 16) : (angles16 p w (ix2 t f) : EReal) = p (ix1 t) * w (ix1 f) := by
  unfold angles16
  pointwise

theorem angles8_apply (p : FVec Ideal S8192 .f32) (w : FVec Ideal S8 .f32) (t : Fin 8192) (f : Fin 8) : (angles8 p w (ix2 t f) : EReal) = p (ix1 t) * w (ix1 f) := by
  unfold angles8
  pointwise

/-- A table over the heads, at a token. -/
theorem over16_apply (x : FVec Ideal S8192x16 .f32) (t : Fin 8192) (f : Fin 16) : (broadcastInDim S8192x1x16 ![0, 2] bcast_S8192x16_S8192x1x16_0_2 x (ix3 t 0 f) : EReal) = x (ix2 t f) := by
  pointwise

theorem over8_apply (x : FVec Ideal S8192x8 .f32) (t : Fin 8192) (f : Fin 8) : (broadcastInDim S8192x1x8 ![0, 2] bcast_S8192x8_S8192x1x8_0_2 x (ix3 t 0 f) : EReal) = x (ix2 t f) := by
  pointwise

variable (V0 : Valuation τ sig (Elt Ideal)) (t : Fin 8192)

theorem v2_eq : res_main_v2 V0 = placeR := rfl
theorem v4_eq : res_main_v4 V0 = placeC := rfl

theorem v40_eq : res_main_v40 V0 = angles16 (res_main_v2 V0) freq16 := rfl
theorem v73_eq : res_main_v73 V0 = angles16 (res_main_v4 V0) freq16 := rfl
theorem v221_eq : res_main_v221 V0 = angles8 (res_main_v2 V0) freq8 := rfl
theorem v254_eq : res_main_v254 V0 = angles8 (res_main_v4 V0) freq8 := rfl

theorem cos_turns (x : FVec Ideal S8192x16 .f32) (f : Fin 16) : (Host.cos x (ix2 t f) : EReal) = FloatOps.hostUnary (F := Ideal) .cos (φ := .f32) (x (ix2 t f)) := rfl
theorem sin_turns (x : FVec Ideal S8192x16 .f32) (f : Fin 16) : (Host.sin x (ix2 t f) : EReal) = FloatOps.hostUnary (F := Ideal) .sin (φ := .f32) (x (ix2 t f)) := rfl
theorem cos_turns8 (x : FVec Ideal S8192x8 .f32) (f : Fin 8) : (Host.cos x (ix2 t f) : EReal) = FloatOps.hostUnary (F := Ideal) .cos (φ := .f32) (x (ix2 t f)) := rfl
theorem sin_turns8 (x : FVec Ideal S8192x8 .f32) (f : Fin 8) : (Host.sin x (ix2 t f) : EReal) = FloatOps.hostUnary (F := Ideal) .sin (φ := .f32) (x (ix2 t f)) := rfl

theorem cosAt16_eq : cosAt16 V0 t = cosOf16 t := by
  funext a f
  unfold cosAt16 cosOf16 cos16 placeOf res_main_v42 res_main_v75
  split_ifs
  · rw [over16_apply, cos_turns, v40_eq, angles16_apply, v2_eq]
  · rw [over16_apply, cos_turns, v73_eq, angles16_apply, v4_eq]

theorem sinAt16_eq : sinAt16 V0 t = sinOf16 t := by
  funext a f
  unfold sinAt16 sinOf16 sin16 placeOf res_main_v44 res_main_v77
  split_ifs
  · rw [over16_apply, sin_turns, v40_eq, angles16_apply, v2_eq]
  · rw [over16_apply, sin_turns, v73_eq, angles16_apply, v4_eq]

theorem cosAt8_eq : cosAt8 V0 t = cosOf8 t := by
  funext a f
  unfold cosAt8 cosOf8 cos8 placeOf res_main_v223 res_main_v256
  split_ifs
  · rw [over8_apply, cos_turns8, v221_eq, angles8_apply, v2_eq]
  · rw [over8_apply, cos_turns8, v254_eq, angles8_apply, v4_eq]

theorem sinAt8_eq : sinAt8 V0 t = sinOf8 t := by
  funext a f
  unfold sinAt8 sinOf8 sin8 placeOf res_main_v225 res_main_v258
  split_ifs
  · rw [over8_apply, sin_turns8, v221_eq, angles8_apply, v2_eq]
  · rw [over8_apply, sin_turns8, v254_eq, angles8_apply, v4_eq]

end Cert.Reference3Ideal.In

end
-- ==== Proof.InRefLanes.lean ====
/- Every lane of the reference's five results, over the tokens. -/
module

public import proofs.«01_k».proof.Proof.InRefs

@[expose] public section

set_option maxRecDepth 16384

noncomputable section

namespace Cert.Reference3Ideal.In

open Cert.Reference3Ideal Cert.Reference3Ideal.Gen Cert.Reference3Ideal.Value Cert.InProj
open Idealize.ShloMosaic Idealize.ShloMosaic.TcCoe Idealize.SL.Sem Idealize.ShloMosaic.StableHlo

/-- The latent attention's queries, keys and values, from the expanded rows and the turned entries. -/
def queriesOf (x : FVec Ideal S4x8192x4x96 .f32) (y : FVec Ideal S4x8192x4x32 .f32) : FVec Ideal S4x8192x512 .bf16 :=
  truncf .bf16 (mulf (shapeCast _ (headOf (extractStridedSlice S4x8192x4x64 ![0, 0, 0, 0] x slices_S4x8192x4x96_S4x8192x4x64_0_0_0_0) y) shapeCasts_S4x8192x4x128_S4x8192x512) (broadcastInDim S4x8192x512 ![] bcast_S_S4x8192x512 (constant S_ .f32 0x3E16C740#32))) bitsLt_bf16_f32
def keysOf (x : FVec Ideal S4x8192x4x128 .f32) (y : FVec Ideal S4x8192x1x32 .f32) : FVec Ideal S4x8192x512 .bf16 :=
  truncf .bf16 (shapeCast _ (headOf (extractStridedSlice S4x8192x4x64 ![0, 0, 0, 0] x slices_S4x8192x4x128_S4x8192x4x64_0_0_0_0) (broadcastInDim S4x8192x4x32 ![0, 1, 2, 3] bcast_S4x8192x1x32_S4x8192x4x32_0_1_2_3 y)) shapeCasts_S4x8192x4x128_S4x8192x512) bitsLt_bf16_f32
def valuesOf (x : FVec Ideal S4x8192x4x128 .f32) : FVec Ideal S4x8192x512 .bf16 :=
  truncf .bf16 (shapeCast _ (valueOf (extractStridedSlice S4x8192x4x64 ![0, 0, 0, 64] x slices_S4x8192x4x128_S4x8192x4x64_0_0_0_64)) shapeCasts_S4x8192x4x128_S4x8192x512) bitsLt_bf16_f32

variable (b : Fin 4) (s : Fin 8192)

/-! ## The lanes of a head -/

/-- The four heads' lanes, side by side. -/
theorem joined_apply (z : FVec Ideal S4x8192x4x128 .f32) (hd : Fin 4) (l : Fin 128) :
    (shapeCast S4x8192x512 z shapeCasts_S4x8192x4x128_S4x8192x512 (ix3 b s ⟨128 * hd.val + l.val, by omega⟩) : EReal) = z (ix4 b s hd l) := by
  pointwise

/-- Scaling, entry by entry. -/
theorem scaled_apply (w : FVec Ideal S4x8192x512 .f32) (n : Fin 512) :
    (truncf .bf16 (mulf w (broadcastInDim S4x8192x512 ![] bcast_S_S4x8192x512 (constant S_ .f32 0x3E16C740#32))) bitsLt_bf16_f32 (ix3 b s n) : EReal) = w (ix3 b s n) * Ideal.ofBits .f32 0x3E16C740#32 := by
  pointwise

theorem queriesOf_apply (x : FVec Ideal S4x8192x4x96 .f32) (y : FVec Ideal S4x8192x4x32 .f32) (hd : Fin 4) (l : Fin 128) :
    (queriesOf x y (ix3 b s ⟨128 * hd.val + l.val, by omega⟩) : EReal) = headOf (extractStridedSlice S4x8192x4x64 ![0, 0, 0, 0] x slices_S4x8192x4x96_S4x8192x4x64_0_0_0_0) y (ix4 b s hd l) * Ideal.ofBits .f32 0x3E16C740#32 :=
  (scaled_apply b s _ _).trans (congrArg (· * Ideal.ofBits .f32 0x3E16C740#32) (joined_apply b s _ hd l))

theorem keysOf_apply (x : FVec Ideal S4x8192x4x128 .f32) (y : FVec Ideal S4x8192x1x32 .f32) (hd : Fin 4) (l : Fin 128) :
    (keysOf x y (ix3 b s ⟨128 * hd.val + l.val, by omega⟩) : EReal) = headOf (extractStridedSlice S4x8192x4x64 ![0, 0, 0, 0] x slices_S4x8192x4x128_S4x8192x4x64_0_0_0_0) (broadcastInDim S4x8192x4x32 ![0, 1, 2, 3] bcast_S4x8192x1x32_S4x8192x4x32_0_1_2_3 y) (ix4 b s hd l) := by
  unfold keysOf
  generalize headOf _ _ = z
  pointwise

theorem valuesOf_apply (x : FVec Ideal S4x8192x4x128 .f32) (hd : Fin 4) (l : Fin 128) :
    (valuesOf x (ix3 b s ⟨128 * hd.val + l.val, by omega⟩) : EReal) = valueOf (extractStridedSlice S4x8192x4x64 ![0, 0, 0, 64] x slices_S4x8192x4x128_S4x8192x4x64_0_0_0_64) (ix4 b s hd l) := by
  unfold valuesOf
  generalize valueOf _ = z
  pointwise

theorem queryPart_apply (x : FVec Ideal S4x8192x4x96 .f32) (hd : Fin 4) (l : Fin 64) :
    (extractStridedSlice S4x8192x4x64 ![0, 0, 0, 0] x slices_S4x8192x4x96_S4x8192x4x64_0_0_0_0 (ix4 b s hd l) : EReal) = x (ix4 b s hd ⟨l.val, by omega⟩) := by
  pointwise

theorem keyPart_apply (x : FVec Ideal S4x8192x4x128 .f32) (hd : Fin 4) (l : Fin 64) :
    (extractStridedSlice S4x8192x4x64 ![0, 0, 0, 0] x slices_S4x8192x4x128_S4x8192x4x64_0_0_0_0 (ix4 b s hd l) : EReal) = x (ix4 b s hd ⟨l.val, by omega⟩) := by
  pointwise

theorem valuePart_apply (x : FVec Ideal S4x8192x4x128 .f32) (hd : Fin 4) (l : Fin 64) :
    (extractStridedSlice S4x8192x4x64 ![0, 0, 0, 64] x slices_S4x8192x4x128_S4x8192x4x64_0_0_0_64 (ix4 b s hd l) : EReal) = x (ix4 b s hd ⟨64 + l.val, by omega⟩) := by
  pointwise

theorem shared_apply (y : FVec Ideal S4x8192x1x32 .f32) (hd : Fin 4) (l : Fin 32) :
    (broadcastInDim S4x8192x4x32 ![0, 1, 2, 3] bcast_S4x8192x1x32_S4x8192x4x32_0_1_2_3 y (ix4 b s hd l) : EReal) = y (ix4 b s 0 l) := by
  pointwise

/-! ## The results, lane by lane -/

variable (V0 : Valuation τ sig (Elt Ideal))

theorem ret_q (hd : Fin 4) (a p : Fin 2) (f : Fin 16) (n : Fin 1024) (hn : n.val = 64 * hd.val + (pairAt a p f).val) :
    (res_main_v170 V0 (ix3 b s n) : EReal) = turned (fun i : Fin 64 => (opsAt V0 b s).p ⟨64 * hd.val + i.val, by omega⟩) (cosAt16 V0 s) (sinAt16 V0 s) a p f * Ideal.ofBits .f32 0x3E000000#32 := by
  have e := (retOf_q b s (turnedQ V0) (turnedK V0) (res_main_v26 V0) hd (pairAt a p f)).trans (congrArg (· * Ideal.ofBits .f32 0x3E000000#32) (turnedQ_apply V0 b s hd a p f))
  rw [v170_eq]
  exact (congrArg (fun n => (retOf (turnedQ V0) (turnedK V0) (res_main_v26 V0) (ix3 b s n) : EReal)) (Fin.ext hn)).trans e

theorem ret_k (hd : Fin 4) (a p : Fin 2) (f : Fin 16) (n : Fin 1024) (hn : n.val = 256 + (64 * hd.val + (pairAt a p f).val)) :
    (res_main_v170 V0 (ix3 b s n) : EReal) = turned (fun i : Fin 64 => (opsAt V0 b s).p ⟨256 + (64 * hd.val + i.val), by omega⟩) (cosAt16 V0 s) (sinAt16 V0 s) a p f := by
  have e := (retOf_k b s (turnedQ V0) (turnedK V0) (res_main_v26 V0) hd (pairAt a p f)).trans (turnedK_apply V0 b s hd a p f)
  rw [v170_eq]
  exact (congrArg (fun n => (retOf (turnedQ V0) (turnedK V0) (res_main_v26 V0) (ix3 b s n) : EReal)) (Fin.ext hn)).trans e

theorem ret_rest (l : Fin 512) : (res_main_v170 V0 (ix3 b s ⟨512 + l.val, by omega⟩) : EReal) = (opsAt V0 b s).p ⟨512 + l.val, by omega⟩ := by
  rw [v170_eq, retOf_rest, v26_apply]

theorem na_q (l : Fin 512) : (naOf (res_main_v26 V0) (ix3 b s ⟨l.val, by omega⟩) : EReal) = (opsAt V0 b s).p ⟨1024 + l.val, by omega⟩ * Ideal.ofBits .f32 0x3E000000#32 := by
  rw [naOf_q, v26_apply]

theorem na_rest (l : Fin 1024) : (naOf (res_main_v26 V0) (ix3 b s ⟨512 + l.val, by omega⟩) : EReal) = (opsAt V0 b s).p ⟨1536 + l.val, by omega⟩ := by
  rw [naOf_rest, v26_apply]

theorem mq_a (hd : Fin 4) (l : Fin 64) (n : Fin 512) (hn : n.val = 128 * hd.val + l.val) :
    (queriesOf (res_main_v191 V0) (turnedMq V0) (ix3 b s n) : EReal) = (opsAt V0 b s).q ⟨96 * hd.val + l.val, by omega⟩ * Ideal.ofBits .f32 0x3E16C740#32 := by
  refine (congrArg (fun n => (queriesOf (res_main_v191 V0) (turnedMq V0) (ix3 b s n) : EReal)) (Fin.ext hn)).trans ((queriesOf_apply b s _ _ hd ⟨l.val, by omega⟩).trans (congrArg (· * Ideal.ofBits .f32 0x3E16C740#32) ?_))
  exact (headOf_left b s _ _ hd l).trans ((queryPart_apply b s _ hd l).trans (v191_apply V0 b s hd ⟨l.val, by omega⟩))

theorem mq_b (hd : Fin 4) (a p : Fin 2) (f : Fin 8) (n : Fin 512) (hn : n.val = 128 * hd.val + (64 + (pairAt a p f).val)) :
    (queriesOf (res_main_v191 V0) (turnedMq V0) (ix3 b s n) : EReal) = turned (fun i : Fin 32 => (opsAt V0 b s).q ⟨96 * hd.val + (64 + i.val), by omega⟩) (cosAt8 V0 s) (sinAt8 V0 s) a p f * Ideal.ofBits .f32 0x3E16C740#32 := by
  have hp : (pairAt a p f).val < 32 := (pairAt a p f).isLt
  refine (congrArg (fun n => (queriesOf (res_main_v191 V0) (turnedMq V0) (ix3 b s n) : EReal)) (Fin.ext hn)).trans ((queriesOf_apply b s _ _ hd ⟨64 + (pairAt a p f).val, by omega⟩).trans (congrArg (· * Ideal.ofBits .f32 0x3E16C740#32) ?_))
  exact (headOf_right b s _ _ hd (pairAt a p f)).trans (turnedMq_apply V0 b s hd a p f)

theorem mq_c (hd : Fin 4) (l : Fin 32) (n : Fin 512) (hn : n.val = 128 * hd.val + (96 + l.val)) : (queriesOf (res_main_v191 V0) (turnedMq V0) (ix3 b s n) : EReal) = 0 * Ideal.ofBits .f32 0x3E16C740#32 := by
  refine (congrArg (fun n => (queriesOf (res_main_v191 V0) (turnedMq V0) (ix3 b s n) : EReal)) (Fin.ext hn)).trans ((queriesOf_apply b s _ _ hd ⟨96 + l.val, by omega⟩).trans (congrArg (· * Ideal.ofBits .f32 0x3E16C740#32) ?_))
  exact headOf_zero b s _ _ hd l

theorem mk_a (hd : Fin 4) (l : Fin 64) : (keysOf (res_main_v207 V0) (turnedPe V0) (ix3 b s ⟨128 * hd.val + l.val, by omega⟩) : EReal) = (opsAt V0 b s).kv ⟨128 * hd.val + l.val, by omega⟩ :=
  (keysOf_apply b s _ _ hd ⟨l.val, by omega⟩).trans ((headOf_left b s _ _ hd l).trans ((keyPart_apply b s _ hd l).trans (v207_apply V0 b s hd ⟨l.val, by omega⟩)))

theorem mk_b (hd : Fin 4) (a p : Fin 2) (f : Fin 8) (n : Fin 512) (hn : n.val = 128 * hd.val + (64 + (pairAt a p f).val)) :
    (keysOf (res_main_v207 V0) (turnedPe V0) (ix3 b s n) : EReal) = turned (fun i : Fin 32 => (opsAt V0 b s).p ⟨3200 + i.val, by omega⟩) (cosAt8 V0 s) (sinAt8 V0 s) a p f := by
  have hp : (pairAt a p f).val < 32 := (pairAt a p f).isLt
  refine (congrArg (fun n => (keysOf (res_main_v207 V0) (turnedPe V0) (ix3 b s n) : EReal)) (Fin.ext hn)).trans ((keysOf_apply b s _ _ hd ⟨64 + (pairAt a p f).val, by omega⟩).trans ?_)
  exact (headOf_right b s _ _ hd (pairAt a p f)).trans ((shared_apply b s _ hd _).trans (turnedPe_apply V0 b s a p f))

theorem mk_c (hd : Fin 4) (l : Fin 32) (n : Fin 512) (hn : n.val = 128 * hd.val + (96 + l.val)) : (keysOf (res_main_v207 V0) (turnedPe V0) (ix3 b s n) : EReal) = 0 :=
  (congrArg (fun n => (keysOf (res_main_v207 V0) (turnedPe V0) (ix3 b s n) : EReal)) (Fin.ext hn)).trans ((keysOf_apply b s _ _ hd ⟨96 + l.val, by omega⟩).trans (headOf_zero b s _ _ hd l))

theorem mv_a (hd : Fin 4) (l : Fin 64) : (valuesOf (res_main_v207 V0) (ix3 b s ⟨128 * hd.val + l.val, by omega⟩) : EReal) = (opsAt V0 b s).kv ⟨128 * hd.val + (64 + l.val), by omega⟩ :=
  (valuesOf_apply b s _ hd ⟨l.val, by omega⟩).trans ((valueOf_left b s _ hd l).trans ((valuePart_apply b s _ hd l).trans (v207_apply V0 b s hd ⟨64 + l.val, by omega⟩)))

theorem mv_b (hd : Fin 4) (n : Fin 512) (hn : n.val = 128 * hd.val + 64) : (valuesOf (res_main_v207 V0) (ix3 b s n) : EReal) = 1 :=
  (congrArg (fun n => (valuesOf (res_main_v207 V0) (ix3 b s n) : EReal)) (Fin.ext hn)).trans ((valuesOf_apply b s _ hd ⟨64, by omega⟩).trans (valueOf_one b s _ hd))

theorem mv_c (hd : Fin 4) (l : Fin 63) (n : Fin 512) (hn : n.val = 128 * hd.val + (65 + l.val)) : (valuesOf (res_main_v207 V0) (ix3 b s n) : EReal) = 0 :=
  (congrArg (fun n => (valuesOf (res_main_v207 V0) (ix3 b s n) : EReal)) (Fin.ext hn)).trans ((valuesOf_apply b s _ hd ⟨65 + l.val, by omega⟩).trans (valueOf_zero b s _ hd l))

end Cert.Reference3Ideal.In

end
-- ==== Proof.InLanes.lean ====
/- Every lane of the projections' five results, over the tokens. -/
module

public import proofs.«01_k».proof.Proof.InValues

@[expose] public section

set_option maxRecDepth 16384

noncomputable section

namespace Cert.Kernel3Ideal.In

open Cert.Kernel3Ideal Cert.Kernel3Ideal.Gen Cert.InProj
open Idealize.ShloMosaic Idealize.ShloMosaic.TcCoe Idealize.SL.Sem

variable (m : (ℓ : Loc nD τ sig) → Buf (Elt Ideal) ℓ) (c : Dev nD)

/-- The five arrays the projections leave. -/
def ret : FVec Ideal S4x8192x1024 .f32 := (dats m 0 c).arrAt 14 cfg0.N
def na : FVec Ideal S4x8192x1536 .bf16 := (dats m 0 c).arrAt 15 cfg0.N
def mq : FVec Ideal S4x8192x512 .bf16 := (dats m 0 c).arrAt 16 cfg0.N
def mk : FVec Ideal S4x8192x512 .bf16 := (dats m 0 c).arrAt 17 cfg0.N
def mv : FVec Ideal S4x8192x512 .bf16 := (dats m 0 c).arrAt 18 cfg0.N

variable (b : Fin 4) (s : Fin 8192)

/-! ## The retention's operands -/

theorem ret_q (hd : Fin 4) (a p : Fin 2) (f : Fin 16) (n : Fin 1024) (hn : n.val = 64 * hd.val + (pairAt a p f).val) :
    (ret m c (ix3 b s n) : EReal) = Cert.InProj.turned (fun i : Fin 64 => (token m c b s).p ⟨64 * hd.val + i.val, by omega⟩) (cosOf16 s) (sinOf16 s) a p f * Ideal.ofBits .f32 0x3E000000#32 := by
  have hp : (pairAt a p f).val < 64 := (pairAt a p f).isLt
  obtain ⟨t, r, rfl, rfl⟩ := point_of b s
  refine (arr14_q m c t r ⟨n.val, by omega⟩).trans ((retQ_apply _ _ _ _ _ _ _ r ⟨n.val, by omega⟩).trans (congrArg (· * Ideal.ofBits .f32 0x3E000000#32) ?_))
  exact turned_eq m c t r ⟨hd.val, by omega⟩ a p f _ hn

theorem ret_k (hd : Fin 4) (a p : Fin 2) (f : Fin 16) (n : Fin 1024) (hn : n.val = 256 + (64 * hd.val + (pairAt a p f).val)) :
    (ret m c (ix3 b s n) : EReal) = Cert.InProj.turned (fun i : Fin 64 => (token m c b s).p ⟨256 + (64 * hd.val + i.val), by omega⟩) (cosOf16 s) (sinOf16 s) a p f := by
  have hp : (pairAt a p f).val < 64 := (pairAt a p f).isLt
  obtain ⟨t, r, rfl, rfl⟩ := point_of b s
  have en : n = ⟨256 + (⟨n.val - 256, by omega⟩ : Fin 256).val, by show 256 + (n.val - 256) < 1024; omega⟩ := Fin.ext (by show n.val = 256 + (n.val - 256); omega)
  rw [en]
  refine (arr14_k m c t r ⟨n.val - 256, by omega⟩).trans ((retK_apply _ _ _ _ _ _ _ r ⟨n.val - 256, by omega⟩).trans ?_)
  refine (turned_eq m c t r ⟨4 + hd.val, by omega⟩ a p f _ (by show 256 + (n.val - 256) = 64 * (4 + hd.val) + _; omega)).trans ?_
  exact congrArg (fun y => Cert.InProj.turned y (cosOf16 (tokenOf t r)) (sinOf16 (tokenOf t r)) a p f) (funext fun i => congrArg (tok m c t r).p (Fin.ext (by show 64 * (4 + hd.val) + i.val = 256 + (64 * hd.val + i.val); omega)))

theorem ret_rest (l : Fin 512) : (ret m c (ix3 b s ⟨512 + l.val, by omega⟩) : EReal) = (token m c b s).p ⟨512 + l.val, by omega⟩ := by
  obtain ⟨t, r, rfl, rfl⟩ := point_of b s
  exact (arr14_rest m c t r l).trans ((retRest_apply _ _ _ _ _ r l).trans (colAt_low m c t r ⟨512 + l.val, by omega⟩ (show 512 + l.val < 3200 by omega)))

/-! ## The neighbourhood attention's -/

theorem na_q (l : Fin 512) : (na m c (ix3 b s ⟨l.val, by omega⟩) : EReal) = (token m c b s).p ⟨1024 + l.val, by omega⟩ * Ideal.ofBits .f32 0x3E000000#32 := by
  obtain ⟨t, r, rfl, rfl⟩ := point_of b s
  exact (arr15_q m c t r l).trans ((naQ_apply _ _ _ _ _ r l).trans (congrArg (· * Ideal.ofBits .f32 0x3E000000#32) (colAt_low m c t r ⟨1024 + l.val, by omega⟩ (show 1024 + l.val < 3200 by omega))))

theorem na_rest (l : Fin 1024) : (na m c (ix3 b s ⟨512 + l.val, by omega⟩) : EReal) = (token m c b s).p ⟨1536 + l.val, by omega⟩ := by
  obtain ⟨t, r, rfl, rfl⟩ := point_of b s
  exact (arr15_rest m c t r l).trans ((naRest_apply _ _ _ _ _ r l).trans ((colAt_low m c t r ⟨1024 + (512 + l.val), by omega⟩ (show 1024 + (512 + l.val) < 3200 by omega)).trans
    (congrArg (tok m c t r).p (Fin.ext (by show 1024 + (512 + l.val) = 1536 + l.val; omega)))))

/-! ## The latent attention's -/

theorem mq_point (t : Fin cfg0.N) (r : Fin 512) (n : Fin 512) : (mq m c (ix3 (batchOf t) (tokenOf t r) n) : EReal)
    = (qAt m c t r n * ((iblk m c 12 t : Vec Ideal S512x128 .f32) (ix2 r (inTile n)) : EReal) + qAt m c t r (facing 8 n) * ((iblk m c 13 t : Vec Ideal S512x128 .f32) (ix2 r (inTile n)) : EReal)) * Ideal.ofBits .f32 0x3E16C740#32 :=
  (arr16 m c t r n).trans (qBlock_apply _ _ _ _ _ _ _ _ _ r n)

theorem mq_a (hd : Fin 4) (l : Fin 64) (n : Fin 512) (hn : n.val = 128 * hd.val + l.val) :
    (mq m c (ix3 b s n) : EReal) = (token m c b s).q ⟨96 * hd.val + l.val, by omega⟩ * Ideal.ofBits .f32 0x3E16C740#32 := by
  obtain ⟨t, r, rfl, rfl⟩ := point_of b s
  exact (mq_point m c t r n).trans (congrArg (· * Ideal.ofBits .f32 0x3E16C740#32) (mq_left m c t r hd l n hn))

theorem mq_b (hd : Fin 4) (a p : Fin 2) (f : Fin 8) (n : Fin 512) (hn : n.val = 128 * hd.val + (64 + (pairAt a p f).val)) :
    (mq m c (ix3 b s n) : EReal) = Cert.InProj.turned (fun i : Fin 32 => (token m c b s).q ⟨96 * hd.val + (64 + i.val), by omega⟩) (cosOf8 s) (sinOf8 s) a p f * Ideal.ofBits .f32 0x3E16C740#32 := by
  obtain ⟨t, r, rfl, rfl⟩ := point_of b s
  exact (mq_point m c t r n).trans (congrArg (· * Ideal.ofBits .f32 0x3E16C740#32) (mq_mid m c t r hd a p f n hn))

theorem mq_c (hd : Fin 4) (l : Fin 32) (n : Fin 512) (hn : n.val = 128 * hd.val + (96 + l.val)) : (mq m c (ix3 b s n) : EReal) = 0 * Ideal.ofBits .f32 0x3E16C740#32 := by
  obtain ⟨t, r, rfl, rfl⟩ := point_of b s
  exact (mq_point m c t r n).trans (congrArg (· * Ideal.ofBits .f32 0x3E16C740#32) (mq_right m c t r hd l n hn))

theorem mk_point (t : Fin cfg0.N) (r : Fin 512) (n : Fin 512) : (mk m c (ix3 (batchOf t) (tokenOf t r) n) : EReal) = kAt m c t r n + peAt m c t r n :=
  (arr17 m c t r n).trans (kBlock_apply _ _ _ _ _ _ _ _ _ r n)

theorem mk_a (hd : Fin 4) (l : Fin 64) : (mk m c (ix3 b s ⟨128 * hd.val + l.val, by omega⟩) : EReal) = (token m c b s).kv ⟨128 * hd.val + l.val, by omega⟩ := by
  obtain ⟨t, r, rfl, rfl⟩ := point_of b s
  rw [mk_point, pe_left m c t r hd l _ rfl, add_zero, kAt_low]
  rfl

theorem mk_b (hd : Fin 4) (a p : Fin 2) (f : Fin 8) (n : Fin 512) (hn : n.val = 128 * hd.val + (64 + (pairAt a p f).val)) :
    (mk m c (ix3 b s n) : EReal) = Cert.InProj.turned (fun i : Fin 32 => (token m c b s).p ⟨3200 + i.val, by omega⟩) (cosOf8 s) (sinOf8 s) a p f := by
  have hp : (pairAt a p f).val < 32 := (pairAt a p f).isLt
  obtain ⟨t, r, rfl, rfl⟩ := point_of b s
  have hk : kAt m c t r n = 0 := (congrArg (kAt m c t r) (Fin.ext hn)).trans (kAt_zero m c t r hd ⟨64 + (pairAt a p f).val, by omega⟩ (by show 64 ≤ 64 + _; omega))
  rw [mk_point, hk, zero_add]
  exact pe_mid m c t r hd a p f n hn

theorem mk_c (hd : Fin 4) (l : Fin 32) (n : Fin 512) (hn : n.val = 128 * hd.val + (96 + l.val)) : (mk m c (ix3 b s n) : EReal) = 0 := by
  obtain ⟨t, r, rfl, rfl⟩ := point_of b s
  have hk : kAt m c t r n = 0 := (congrArg (kAt m c t r) (Fin.ext hn)).trans (kAt_zero m c t r hd ⟨96 + l.val, by omega⟩ (by show 64 ≤ 96 + _; omega))
  rw [mk_point, hk, zero_add, pe_right m c t r hd l n hn]

theorem mv_point (t : Fin cfg0.N) (r : Fin 512) (n : Fin 512) : (mv m c (ix3 (batchOf t) (tokenOf t r) n) : EReal) = if n.val % 128 = 64 then 1 else vAt m c t r n :=
  (arr18 m c t r n).trans (vBlock_apply _ _ _ _ _ _ _ r n)

theorem mv_a (hd : Fin 4) (l : Fin 64) : (mv m c (ix3 b s ⟨128 * hd.val + l.val, by omega⟩) : EReal) = (token m c b s).kv ⟨128 * hd.val + (64 + l.val), by omega⟩ := by
  obtain ⟨t, r, rfl, rfl⟩ := point_of b s
  rw [mv_point, if_neg (show ¬(128 * hd.val + l.val) % 128 = 64 by omega), vAt_low]
  rfl

theorem mv_b (hd : Fin 4) (n : Fin 512) (hn : n.val = 128 * hd.val + 64) : (mv m c (ix3 b s n) : EReal) = 1 := by
  obtain ⟨t, r, rfl, rfl⟩ := point_of b s
  rw [mv_point, if_pos (by omega)]

theorem mv_c (hd : Fin 4) (l : Fin 63) (n : Fin 512) (hn : n.val = 128 * hd.val + (65 + l.val)) : (mv m c (ix3 b s n) : EReal) = 0 := by
  obtain ⟨t, r, rfl, rfl⟩ := point_of b s
  rw [mv_point, if_neg (by omega)]
  exact (congrArg (vAt m c t r) (Fin.ext hn)).trans (vAt_zero m c t r hd ⟨65 + l.val, by omega⟩ (by show 64 ≤ 65 + _; omega))

end Cert.Kernel3Ideal.In

end
-- ==== Proof.InMatch.lean ====
/- The projections' five results are the reference's, over the extended reals. -/
module

public import proofs.«01_k».proof.Defs
public import proofs.«01_k».proof.Proof.InAngles
public import proofs.«01_k».proof.Proof.InRefLanes
public import proofs.«01_k».proof.Proof.InLanes

@[expose] public section

set_option maxRecDepth 16384

noncomputable section

namespace Cert.Kernel3Ideal.In

open Cert.Kernel3Ideal Cert.Kernel3Ideal.Gen Cert.InProj
open Idealize.ShloMosaic Idealize.ShloMosaic.TcCoe Idealize.SL.Sem Idealize.ShloMosaic.StableHlo
open Cert.Reference3Ideal.Value (res_main_v26 res_main_v170 res_main_v191 res_main_v207)
open Cert.Reference3Ideal.In (opsAt cosAt16_eq sinAt16_eq cosAt8_eq sinAt8_eq naOf queriesOf keysOf valuesOf turnedMq turnedPe)

variable (m : (ℓ : Loc nD τ sig) → Buf (Elt Ideal) ℓ) (c : Dev nD)
variable (V0 : Valuation Cert.Reference3Ideal.τ Cert.Reference3Ideal.sig (Elt Ideal))

/-- The reference's tokens are the kernel's. -/
def SameTokens : Prop := ∀ (b : Fin 4) (s : Fin 8192), opsAt V0 b s = token m c b s

/-- So where the arguments are the same. -/
theorem same_tokens (e0 : V0 (Proc.devRef .tc Cert.Reference3Ideal.main_arg0) = arg0 m c) (e1 : V0 (Proc.devRef .tc Cert.Reference3Ideal.main_arg1) = arg1 m c)
    (e2 : V0 (Proc.devRef .tc Cert.Reference3Ideal.main_arg2) = arg2 m c) (e3 : V0 (Proc.devRef .tc Cert.Reference3Ideal.main_arg3) = arg3 m c)
    (e4 : V0 (Proc.devRef .tc Cert.Reference3Ideal.main_arg4) = arg4 m c) (e5 : V0 (Proc.devRef .tc Cert.Reference3Ideal.main_arg5) = arg5 m c)
    (e6 : V0 (Proc.devRef .tc Cert.Reference3Ideal.main_arg6) = arg6 m c) (e7 : V0 (Proc.devRef .tc Cert.Reference3Ideal.main_arg7) = arg7 m c)
    (e8 : V0 (Proc.devRef .tc Cert.Reference3Ideal.main_arg8) = arg8 m c) : SameTokens m c V0 := fun b s => by
  unfold opsAt token
  rw [e0, e1, e2, e3, e4, e5, e6, e7, e8]

/-- Arrays of three axes that agree index by index are equal. -/
theorem ext3 {A B C : ℕ} (x y : (⟨3, ![A, B, C]⟩ : Shape).Idx → EReal) (h : ∀ (a : Fin A) (b : Fin B) (c : Fin C), x (ix3 a b c) = y (ix3 a b c)) : x = y := by
  funext i
  have ei : i = ix3 (i 0 : Fin A) (i 1 : Fin B) (i 2 : Fin C) := by
    funext a
    match a with
    | ⟨0, _⟩ => rfl
    | ⟨1, _⟩ => rfl
    | ⟨2, _⟩ => rfl
  rw [ei]
  exact h _ _ _

variable {m c V0} (hs : SameTokens m c V0)

include hs

theorem ret_match : res_main_v170 V0 = ret m c := by
  refine ext3 _ _ fun b s n => ?_
  by_cases h0 : n.val < 256
  · obtain ⟨a, p, f, hl⟩ := pairAt_of (n := 16) ⟨n.val % 64, Nat.mod_lt _ (by decide)⟩
    have hn : n.val = 64 * (⟨n.val / 64, by omega⟩ : Fin 4).val + (pairAt a p f).val := by rw [hl]; show n.val = 64 * (n.val / 64) + n.val % 64; omega
    rw [Cert.Reference3Ideal.In.ret_q b s V0 _ a p f n hn, hs b s, cosAt16_eq, sinAt16_eq]
    exact (ret_q m c b s _ a p f n hn).symm
  by_cases h1 : n.val < 512
  · obtain ⟨a, p, f, hl⟩ := pairAt_of (n := 16) ⟨n.val % 64, Nat.mod_lt _ (by decide)⟩
    have hn : n.val = 256 + (64 * (⟨n.val / 64 - 4, by omega⟩ : Fin 4).val + (pairAt a p f).val) := by rw [hl]; show n.val = 256 + (64 * (n.val / 64 - 4) + n.val % 64); omega
    rw [Cert.Reference3Ideal.In.ret_k b s V0 _ a p f n hn, hs b s, cosAt16_eq, sinAt16_eq]
    exact (ret_k m c b s _ a p f n hn).symm
  · have en : n = ⟨512 + (⟨n.val - 512, by omega⟩ : Fin 512).val, by show 512 + (n.val - 512) < 1024; omega⟩ := Fin.ext (by show n.val = 512 + (n.val - 512); omega)
    rw [en, Cert.Reference3Ideal.In.ret_rest, ret_rest, hs b s]

theorem na_match : naOf (res_main_v26 V0) = na m c := by
  refine ext3 _ _ fun b s n => ?_
  by_cases h0 : n.val < 512
  · rw [show n = ⟨(⟨n.val, h0⟩ : Fin 512).val, n.isLt⟩ from rfl, Cert.Reference3Ideal.In.na_q, na_q, hs b s]
  · have en : n = ⟨512 + (⟨n.val - 512, by omega⟩ : Fin 1024).val, by show 512 + (n.val - 512) < 1536; omega⟩ := Fin.ext (by show n.val = 512 + (n.val - 512); omega)
    rw [en, Cert.Reference3Ideal.In.na_rest, na_rest, hs b s]

theorem mq_match : queriesOf (res_main_v191 V0) (turnedMq V0) = mq m c := by
  refine ext3 _ _ fun b s n => ?_
  by_cases h0 : n.val % 128 < 64
  · have hn : n.val = 128 * (⟨n.val / 128, by omega⟩ : Fin 4).val + (⟨n.val % 128, h0⟩ : Fin 64).val := by show n.val = 128 * (n.val / 128) + n.val % 128; omega
    rw [Cert.Reference3Ideal.In.mq_a b s V0 _ _ n hn, hs b s]
    exact (mq_a m c b s _ _ n hn).symm
  by_cases h1 : n.val % 128 < 96
  · obtain ⟨a, p, f, hl⟩ := pairAt_of (n := 8) ⟨n.val % 128 - 64, by omega⟩
    have hn : n.val = 128 * (⟨n.val / 128, by omega⟩ : Fin 4).val + (64 + (pairAt a p f).val) := by rw [hl]; show n.val = 128 * (n.val / 128) + (64 + (n.val % 128 - 64)); omega
    rw [Cert.Reference3Ideal.In.mq_b b s V0 _ a p f n hn, hs b s, cosAt8_eq, sinAt8_eq]
    exact (mq_b m c b s _ a p f n hn).symm
  · have hn : n.val = 128 * (⟨n.val / 128, by omega⟩ : Fin 4).val + (96 + (⟨n.val % 128 - 96, by omega⟩ : Fin 32).val) := by show n.val = 128 * (n.val / 128) + (96 + (n.val % 128 - 96)); omega
    rw [Cert.Reference3Ideal.In.mq_c b s V0 _ _ n hn]
    exact (mq_c m c b s _ _ n hn).symm

theorem mk_match : keysOf (res_main_v207 V0) (turnedPe V0) = mk m c := by
  refine ext3 _ _ fun b s n => ?_
  by_cases h0 : n.val % 128 < 64
  · have en : n = ⟨128 * (⟨n.val / 128, by omega⟩ : Fin 4).val + (⟨n.val % 128, h0⟩ : Fin 64).val, by show 128 * (n.val / 128) + n.val % 128 < 512; omega⟩ := Fin.ext (by show n.val = 128 * (n.val / 128) + n.val % 128; omega)
    rw [en, Cert.Reference3Ideal.In.mk_a, mk_a, hs b s]
  by_cases h1 : n.val % 128 < 96
  · obtain ⟨a, p, f, hl⟩ := pairAt_of (n := 8) ⟨n.val % 128 - 64, by omega⟩
    have hn : n.val = 128 * (⟨n.val / 128, by omega⟩ : Fin 4).val + (64 + (pairAt a p f).val) := by rw [hl]; show n.val = 128 * (n.val / 128) + (64 + (n.val % 128 - 64)); omega
    rw [Cert.Reference3Ideal.In.mk_b b s V0 _ a p f n hn, hs b s, cosAt8_eq, sinAt8_eq]
    exact (mk_b m c b s _ a p f n hn).symm
  · have hn : n.val = 128 * (⟨n.val / 128, by omega⟩ : Fin 4).val + (96 + (⟨n.val % 128 - 96, by omega⟩ : Fin 32).val) := by show n.val = 128 * (n.val / 128) + (96 + (n.val % 128 - 96)); omega
    rw [Cert.Reference3Ideal.In.mk_c b s V0 _ _ n hn]
    exact (mk_c m c b s _ _ n hn).symm

theorem mv_match : valuesOf (res_main_v207 V0) = mv m c := by
  refine ext3 _ _ fun b s n => ?_
  by_cases h0 : n.val % 128 < 64
  · have en : n = ⟨128 * (⟨n.val / 128, by omega⟩ : Fin 4).val + (⟨n.val % 128, h0⟩ : Fin 64).val, by show 128 * (n.val / 128) + n.val % 128 < 512; omega⟩ := Fin.ext (by show n.val = 128 * (n.val / 128) + n.val % 128; omega)
    rw [en, Cert.Reference3Ideal.In.mv_a, mv_a, hs b s]
  by_cases h1 : n.val % 128 = 64
  · have hn : n.val = 128 * (⟨n.val / 128, by omega⟩ : Fin 4).val + 64 := by show n.val = 128 * (n.val / 128) + 64; omega
    rw [Cert.Reference3Ideal.In.mv_b b s V0 _ n hn]
    exact (mv_b m c b s _ n hn).symm
  · have hn : n.val = 128 * (⟨n.val / 128, by omega⟩ : Fin 4).val + (65 + (⟨n.val % 128 - 65, by omega⟩ : Fin 63).val) := by show n.val = 128 * (n.val / 128) + (65 + (n.val % 128 - 65)); omega
    rw [Cert.Reference3Ideal.In.mv_c b s V0 _ _ n hn]
    exact (mv_c m c b s _ _ n hn).symm

end Cert.Kernel3Ideal.In

end
-- ==== Proof.InRefRun.lean ====
/- The reference's run, its five results named as their lanes are read. -/
module

public import proofs.«01_k».proof.Proof.InRefLanes

@[expose] public section

set_option maxRecDepth 65536

noncomputable section

namespace Cert.Reference3Ideal.In

open Cert.Reference3Ideal Cert.Reference3Ideal.Gen Cert.Reference3Ideal.Value Cert.InProj
open Idealize.ShloMosaic Idealize.ShloMosaic.TcCoe Idealize.SL.Sem Idealize.ShloMosaic.StableHlo

/-- The reference's run, its results under those names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v170) = res_main_v170 (launchContents m c)
      ∧ r.2.mem ((c.tc : Thread nD τ).loc main_v353) = naOf (res_main_v26 (launchContents m c))
      ∧ r.2.mem ((c.tc : Thread nD τ).loc main_v358) = queriesOf (res_main_v191 (launchContents m c)) (turnedMq (launchContents m c))
      ∧ r.2.mem ((c.tc : Thread nD τ).loc main_v361) = keysOf (res_main_v207 (launchContents m c)) (turnedPe (launchContents m c))
      ∧ r.2.mem ((c.tc : Thread nD τ).loc main_v364) = valuesOf (res_main_v207 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.Reference3Ideal.Value.run (F := Ideal) m ρ)
  obtain ⟨h0, h1, h2, h3, h4, hargs⟩ := h c
  refine ⟨h0, h1.trans ?_, h2.trans ?_, h3.trans ?_, h4.trans ?_, hargs⟩
  · unfold naOf
    rfl
  · unfold queriesOf headOf turnedMq both8 half8 res_main_v226 res_main_v227 res_main_v259 res_main_v260 res_main_v210
    rfl
  · unfold keysOf headOf turnedPe bothOne halfOne res_main_v296 res_main_v297 res_main_v329 res_main_v330 res_main_v280
    rfl
  · unfold valuesOf valueOf
    rfl

end Cert.Reference3Ideal.In

end
-- ==== Proof.Steady.lean ====
/- Programs that keep what they hold: a body of loads, stores and counted loops over buffers held whole, of whose contents
   nothing is said, ends holding the same buffers. -/
module

public import Idealize.ShloMosaic.Lib.Ring
public import Idealize.ShloMosaic.Lib.Tactic
public import Idealize.ShloMosaic.Lib.Pipeline.FrameBody

@[expose] public section

noncomputable section

namespace Cert.Steady

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}
variable {defs : Defs nD τ sig Val Λ} {𝒱 : Variants} {c : Dev nD} {E : Set ℕ}

local notation "𝕄" => MT nD τ sig Unit Val ℕ U ℕ

/-- A memref's buffer held whole, at some contents. -/
def anyOwned (c : Dev nD) {sp : Space} {s : Shape} {e : EltTy} (M : Memref sig .tc sp s e) : sProp 𝕄 :=
  iprop(∃ f, M.view.loc (c : Thread nD τ) ↦[M.view.set]{fullShare} f)

/-- What is held has the memref's buffer in it: it can be taken out, and put back at other contents. -/
def Has (c : Dev nD) (Inv : sProp 𝕄) {sp : Space} {s : Shape} {e : EltTy} (M : Memref sig .tc sp s e) : Prop :=
  Inv ⊢ iprop((anyOwned c M : sProp 𝕄) ∗ ((anyOwned c M : sProp 𝕄) -∗ Inv))

/-- A program that, holding `Inv`, ends holding `Inv`, whatever it returns. -/
def Keeps (defs : Defs nD τ sig Val Λ) (𝒱 : Variants) (c : Dev nD) (E : Set ℕ) (Inv : sProp 𝕄) {α : Type}
    (p : Prog (TpuEff nD τ sig Val Λ .tc) α) : Prop :=
  Inv ⊢ wp frame (wpE defs 𝒱 (c : Thread nD τ) none) E p (fun _ => Inv)

theorem has_first {sp : Space} {s : Shape} {e : EltTy} {M : Memref sig .tc sp s e} {R : sProp (MT nD τ sig Unit Val ℕ U ℕ)} :
    Has (U := U) c iprop((anyOwned c M : sProp 𝕄) ∗ R) M := by
  unfold Has
  iintro ⟨H, HR⟩
  isplitl [H]; · iexact H
  iintro H
  isplitl [H]; · iexact H
  iexact HR

theorem has_later {sp : Space} {s : Shape} {e : EltTy} {M : Memref sig .tc sp s e} {P R : sProp (MT nD τ sig Unit Val ℕ U ℕ)}
    (h : Has (U := U) c R M) : Has (U := U) c iprop(P ∗ R) M := by
  unfold Has at *
  iintro ⟨HP, HR⟩
  ihave HR := h $$ HR
  icases HR with ⟨H, Hk⟩
  isplitl [H]; · iexact H
  iintro H
  isplitl [HP]; · iexact HP
  iapply Hk; iexact H

theorem anyOwned_of_owns {sp : Space} {s : Shape} {e : EltTy} (M : Memref sig .tc sp s e) (X : s.Idx → Val e) :
    owns (c : Thread nD τ) M fullShare X ⊢ (anyOwned c M : sProp 𝕄) := by
  unfold owns anyOwned
  iintro ⟨%f, -, H⟩; iexists f; iexact H

theorem owns_of_anyOwned {sp : Space} {s : Shape} {e : EltTy} (M : Memref sig .tc sp s e) :
    (anyOwned c M : sProp 𝕄) ⊢ iprop(∃ X, ⌜True⌝ ∗ owns (c : Thread nD τ) M fullShare X) := by
  unfold owns anyOwned
  iintro ⟨%f, H⟩; iexists _
  isplitr; · ipureintro; trivial
  iexists f
  isplitr; · ipureintro; rfl
  iexact H

theorem anyOwned_whole (b : Ref sig .tc) :
    (anyOwned c (Memref.whole b) : sProp 𝕄) = iprop(∃ f : Buf Val ((c : Thread nD τ).loc b), ((c : Thread nD τ).loc b) ↦{fullShare} f) := by
  unfold anyOwned; simp only [Memref.view_whole, View.set_whole]

theorem keeps_pure {Inv : sProp (MT nD τ sig Unit Val ℕ U ℕ)} {α : Type} (a : α) : Keeps (U := U) defs 𝒱 c E Inv (pure a) := by
  unfold Keeps
  exact le_wp_ret _ _ _ a (fun _ => Inv)

theorem keeps_bind {Inv : sProp (MT nD τ sig Unit Val ℕ U ℕ)} {α β : Type} {p : Prog (TpuEff nD τ sig Val Λ .tc) α} {k : α → Prog (TpuEff nD τ sig Val Λ .tc) β}
    (hp : Keeps (U := U) defs 𝒱 c E Inv p) (hk : ∀ a, Keeps (U := U) defs 𝒱 c E Inv (k a)) : Keeps (U := U) defs 𝒱 c E Inv (p >>= k) := by
  unfold Keeps at *
  rw [wp_bind]
  exact hp.trans (wp_mono _ _ _ fun a => hk a)

theorem keeps_load {Inv : sProp (MT nD τ sig Unit Val ℕ U ℕ)} {cs : CoreSpace} {s : Shape} {e : EltTy} {M : Memref sig .tc cs s e} (h : Has (U := U) c Inv M) (r : LoadRect s)
    (hl : M.view.LoadsAt r) : Keeps (U := U) defs 𝒱 c E Inv (Prog.lift (.load M r hl)) := by
  unfold Keeps
  refine BIBase.Entails.trans h ?_
  unfold anyOwned
  iintro ⟨⟨%f, H⟩, Hk⟩
  iapply (wp_load 𝒱 (c : Thread nD τ) none E (m := M) (r := r) (hl := hl) (S := M.view.set) (q := fullShare) (f := f)
    (View.setOn_subset_set _ _)) $$ H
  iintro H
  iapply (le_wp_ret _ _ _ _ (fun _ => Inv))
  iapply Hk
  iexists f; iexact H

theorem keeps_store {Inv : sProp (MT nD τ sig Unit Val ℕ U ℕ)} {cs : CoreSpace} {s : Shape} {e : EltTy} {M : Memref sig .tc cs s e} (h : Has (U := U) c Inv M) (r : Rect s)
    (w : r.shape.Idx → Val e) (hx : (M.access r).Stores Finset.univ) (hm : Finset.univ = Finset.univ ∨ ∀ a, r.stride a = 1) :
    Keeps (U := U) defs 𝒱 c E Inv (Prog.lift (.store M r w Finset.univ hx hm)) := by
  unfold Keeps
  refine BIBase.Entails.trans h ?_
  unfold anyOwned
  iintro ⟨⟨%f, H⟩, Hk⟩
  iapply (wp_store 𝒱 (c : Thread nD τ) none E (m := M) (r := r) (w := w) (Mk := Finset.univ) (hx := hx) (hm := hm) (S := M.view.set) (f := f)
    (View.set_slice_subset _ _)) $$ H
  iintro H
  iapply (le_wp_ret _ _ _ _ (fun _ => Inv))
  iapply Hk
  iexists _; iexact H

theorem keeps_for {Inv : sProp (MT nD τ sig Unit Val ℕ U ℕ)} {σ : Type} (lp : Scf.Loop 32) (ok : lp.OK) (init : σ)
    (body : Fin lp.trips → σ → Prog (TpuEff nD τ sig Val Λ .tc) σ) (hb : ∀ k a, Keeps (U := U) defs 𝒱 c E Inv (body k a)) :
    Keeps (U := U) defs 𝒱 c E Inv (Scf.Loop.for lp ok init body) := by
  unfold Keeps at *
  refine BIBase.Entails.trans ?_ (Scf.wp_for _ _ _ lp.lb lp.ub lp.st ok init body (fun _ _ => Inv) hb)
  iintro H
  isplitl [H]; · iexact H
  iintro %a H; iexact H

end Cert.Steady

end
-- ==== Proof.Latent.lean ====
/- The latent attention's body touches its buffers and nothing else: every statement of it is a load, a store or a counted loop
   of such statements, so it ends holding the buffers it was handed. -/
module

public import proofs.«01_k».proof.Proof.Gen.Kernel5Ideal.Frame
public import proofs.«01_k».proof.Proof.Gen.Kernel5Ideal.Skeleton
public import proofs.«01_k».proof.Proof.Steady

@[expose] public section

set_option maxRecDepth 65536

noncomputable section

namespace Cert.Kernel5Ideal.Latent

open Cert.Kernel5Ideal Cert.Kernel5Ideal.Gen Cert.Steady
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 0 in
/-- The body, over any buffers, keeps whatever has those buffers in it. A part of it is opened where it is met. -/
theorem keeps_body (c : Dev nD) (Inv : sProp (MT nD τ sig Unit (Elt F) ℕ (UR sig nD τ) ℕ)) (i : grid0.Coords) (arg2 : Memref sig .tc .vmem S1x1024x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x1024x256 .bf16) (harg7 : arg7.IsWhole) (arg8 : Memref sig .tc .vmem S2x4x256x1024 .f32) (harg8 : arg8.IsWhole) (arg9 : Memref sig .tc .vmem S2x4x256x1024 .bf16) (harg9 : arg9.IsWhole) (arg10 : Memref sig .tc .vmem S2x4x256x128 .f32) (harg10 : arg10.IsWhole) (arg11 : Memref sig .tc .vmem S4x4x256x128 .f32) (harg11 : arg11.IsWhole) (arg12 : Memref sig .tc .vmem S4x4x256x128 .f32) (harg12 : arg12.IsWhole)
    (h2 : Has (U := UR sig nD τ) c Inv arg2)
    (h3 : Has (U := UR sig nD τ) c Inv arg3)
    (h4 : Has (U := UR sig nD τ) c Inv arg4)
    (h5 : Has (U := UR sig nD τ) c Inv arg5)
    (h6 : Has (U := UR sig nD τ) c Inv arg6)
    (h7 : Has (U := UR sig nD τ) c Inv arg7)
    (h8 : Has (U := UR sig nD τ) c Inv arg8)
    (h9 : Has (U := UR sig nD τ) c Inv arg9)
    (h10 : Has (U := UR sig nD τ) c Inv arg10)
    (h11 : Has (U := UR sig nD τ) c Inv arg11)
    (h12 : Has (U := UR sig nD τ) c Inv arg12) :
    Keeps (U := UR sig nD τ) (defs₀ (F := F)) Variants.none c Set.univ Inv
      (cc0_latent_attention i arg2 harg2 arg3 harg3 arg4 harg4 arg5 harg5 arg6 harg6 arg7 harg7 arg8 harg8 arg9 harg9 arg10 harg10 arg11 harg11 arg12 harg12) := by
  rw [cc0_latent_attention_eq_skeleton]
  unfold cc0_latent_attention_skel
  repeat' first
    | with_reducible exact keeps_pure _
    | with_reducible refine keeps_load ?_ _ _ <;> assumption
    | with_reducible refine keeps_store ?_ _ _ _ _ <;> assumption
    | with_reducible refine keeps_bind ?_ fun _ => ?_
    | with_reducible refine keeps_for _ _ _ _ fun _ _ => ?_
    | (simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton,
      k0_part41_eq_skeleton, k0_part42_eq_skeleton, k0_part43_eq_skeleton, k0_part44_eq_skeleton, k0_part45_eq_skeleton,
      k0_part46_eq_skeleton, k0_part47_eq_skeleton, k0_part48_eq_skeleton, k0_part49_eq_skeleton, k0_part50_eq_skeleton,
      k0_part51_eq_skeleton, k0_part52_eq_skeleton, k0_part53_eq_skeleton, k0_part54_eq_skeleton, k0_part55_eq_skeleton,
      k0_part56_eq_skeleton, k0_part57_eq_skeleton, k0_part58_eq_skeleton, k0_part59_eq_skeleton, k0_part60_eq_skeleton,
      k0_part61_eq_skeleton, k0_part62_eq_skeleton, k0_part63_eq_skeleton, k0_part64_eq_skeleton, k0_part65_eq_skeleton,
      k0_part66_eq_skeleton, k0_part67_eq_skeleton, k0_part68_eq_skeleton, k0_part69_eq_skeleton, k0_part70_eq_skeleton,
      k0_part71_eq_skeleton, k0_part72_eq_skeleton, k0_part73_eq_skeleton, k0_part74_eq_skeleton, k0_part75_eq_skeleton,
      k0_part76_eq_skeleton, k0_part77_eq_skeleton, k0_part78_eq_skeleton, k0_part79_eq_skeleton, k0_part80_eq_skeleton,
      k0_part81_eq_skeleton, k0_part82_eq_skeleton, k0_part83_eq_skeleton, k0_part84_eq_skeleton, k0_part85_eq_skeleton,
      k0_part86_eq_skeleton, k0_part87_eq_skeleton, k0_part88_eq_skeleton, k0_part89_eq_skeleton, k0_part90_eq_skeleton,
      k0_part91_eq_skeleton, k0_part92_eq_skeleton, k0_part93_eq_skeleton, k0_part94_eq_skeleton, k0_part95_eq_skeleton,
      k0_part96_eq_skeleton, k0_part97_eq_skeleton, k0_part98_eq_skeleton, k0_part99_eq_skeleton, k0_part100_eq_skeleton,
      k0_part101_eq_skeleton, k0_part102_eq_skeleton, k0_part103_eq_skeleton, k0_part104_eq_skeleton, k0_part105_eq_skeleton,
      k0_part106_eq_skeleton, k0_part107_eq_skeleton, k0_part108_eq_skeleton, k0_part109_eq_skeleton, k0_part110_eq_skeleton,
      k0_part111_eq_skeleton, k0_part112_eq_skeleton, k0_part113_eq_skeleton, k0_part114_eq_skeleton, k0_part115_eq_skeleton,
      k0_part116_eq_skeleton, k0_part117_eq_skeleton, k0_part118_eq_skeleton, k0_part119_eq_skeleton, k0_part120_eq_skeleton,
      k0_part121_eq_skeleton, k0_part122_eq_skeleton, k0_part123_eq_skeleton, k0_part124_eq_skeleton, k0_part125_eq_skeleton,
      k0_part126_eq_skeleton, k0_part127_eq_skeleton, k0_part128_eq_skeleton, k0_part129_eq_skeleton, k0_part130_eq_skeleton,
      k0_part131_eq_skeleton, k0_part132_eq_skeleton, k0_part133_eq_skeleton, k0_part134_eq_skeleton, k0_part135_eq_skeleton,
      k0_part136_eq_skeleton, k0_part137_eq_skeleton, k0_part138_eq_skeleton, k0_part139_eq_skeleton, k0_part140_eq_skeleton,
      k0_part141_eq_skeleton, k0_part142_eq_skeleton, k0_part143_eq_skeleton, k0_part144_eq_skeleton, k0_part145_eq_skeleton,
      k0_part146_eq_skeleton, k0_part147_eq_skeleton, k0_part148_eq_skeleton, k0_part149_eq_skeleton, k0_part150_eq_skeleton,
      k0_part151_eq_skeleton, k0_part152_eq_skeleton, k0_part153_eq_skeleton, k0_part154_eq_skeleton, k0_part155_eq_skeleton,
      k0_part156_eq_skeleton, k0_part157_eq_skeleton, k0_part158_eq_skeleton, k0_part159_eq_skeleton, k0_part160_eq_skeleton,
      k0_part161_eq_skeleton, k0_part162_eq_skeleton, k0_part163_eq_skeleton, k0_part164_eq_skeleton, k0_part165_eq_skeleton,
      k0_part166_eq_skeleton, k0_part167_eq_skeleton, k0_part168_eq_skeleton, k0_part169_eq_skeleton, k0_part170_eq_skeleton,
      k0_part171_eq_skeleton, k0_part172_eq_skeleton, k0_part173_eq_skeleton, k0_part174_eq_skeleton, k0_part175_eq_skeleton,
      k0_part176_eq_skeleton, k0_part177_eq_skeleton, k0_part178_eq_skeleton, k0_part179_eq_skeleton, k0_part180_eq_skeleton,
      k0_part181_eq_skeleton, k0_part182_eq_skeleton, k0_part183_eq_skeleton, k0_part184_eq_skeleton, k0_part185_eq_skeleton,
      k0_part186_eq_skeleton, k0_part187_eq_skeleton, k0_part188_eq_skeleton, k0_part189_eq_skeleton, k0_part190_eq_skeleton,
      k0_part191_eq_skeleton, k0_part192_eq_skeleton, k0_part193_eq_skeleton, k0_part194_eq_skeleton, k0_part195_eq_skeleton,
      k0_part196_eq_skeleton, k0_part197_eq_skeleton, k0_part198_eq_skeleton, k0_part199_eq_skeleton, k0_part200_eq_skeleton,
      k0_part201_eq_skeleton, k0_part202_eq_skeleton, k0_part203_eq_skeleton, k0_part204_eq_skeleton, k0_part205_eq_skeleton,
      k0_part206_eq_skeleton, k0_part207_eq_skeleton, k0_part208_eq_skeleton, k0_part209_eq_skeleton, k0_part210_eq_skeleton,
      k0_part211_eq_skeleton, k0_part212_eq_skeleton, k0_part213_eq_skeleton, k0_part214_eq_skeleton, k0_part215_eq_skeleton,
      k0_part216_eq_skeleton, k0_part217_eq_skeleton, k0_part218_eq_skeleton, k0_part219_eq_skeleton, k0_part220_eq_skeleton,
      k0_part221_eq_skeleton, k0_part222_eq_skeleton, k0_part223_eq_skeleton, k0_part224_eq_skeleton, k0_part225_eq_skeleton,
      k0_part226_eq_skeleton, k0_part227_eq_skeleton, k0_part228_eq_skeleton, k0_part229_eq_skeleton, k0_part230_eq_skeleton,
      k0_part231_eq_skeleton, k0_part232_eq_skeleton, k0_part233_eq_skeleton, k0_part234_eq_skeleton, k0_part235_eq_skeleton,
      k0_part236_eq_skeleton, k0_part237_eq_skeleton, k0_part238_eq_skeleton, k0_part239_eq_skeleton, k0_part240_eq_skeleton,
      k0_part241_eq_skeleton, k0_part242_eq_skeleton, k0_part243_eq_skeleton, k0_part244_eq_skeleton, k0_part245_eq_skeleton,
      k0_part246_eq_skeleton, k0_part247_eq_skeleton, k0_part248_eq_skeleton, k0_part249_eq_skeleton, k0_part250_eq_skeleton,
      k0_part251_eq_skeleton, k0_part252_eq_skeleton, k0_part253_eq_skeleton, k0_part254_eq_skeleton, k0_part255_eq_skeleton,
      k0_part256_eq_skeleton, k0_part257_eq_skeleton, k0_part258_eq_skeleton, k0_part259_eq_skeleton, k0_part260_eq_skeleton,
      k0_part261_eq_skeleton, k0_part262_eq_skeleton, k0_part263_eq_skeleton, k0_part264_eq_skeleton, k0_part265_eq_skeleton,
      k0_part266_eq_skeleton, k0_part267_eq_skeleton, k0_part268_eq_skeleton, k0_part269_eq_skeleton, k0_part270_eq_skeleton,
      k0_part271_eq_skeleton, k0_part272_eq_skeleton, k0_part273_eq_skeleton, k0_part274_eq_skeleton, k0_part275_eq_skeleton,
      k0_part276_eq_skeleton, k0_part277_eq_skeleton, k0_part278_eq_skeleton, k0_part279_eq_skeleton, k0_part280_eq_skeleton,
      k0_part281_eq_skeleton, k0_part282_eq_skeleton, k0_part283_eq_skeleton, k0_part284_eq_skeleton, k0_part285_eq_skeleton,
      k0_part286_eq_skeleton, k0_part287_eq_skeleton, k0_part288_eq_skeleton, k0_part289_eq_skeleton, k0_part290_eq_skeleton,
      k0_part291_eq_skeleton, k0_part292_eq_skeleton, k0_part293_eq_skeleton, k0_part294_eq_skeleton, k0_part295_eq_skeleton,
      k0_part296_eq_skeleton, k0_part297_eq_skeleton, k0_part298_eq_skeleton, k0_part299_eq_skeleton, k0_part300_eq_skeleton,
      k0_part301_eq_skeleton, k0_part302_eq_skeleton, k0_part303_eq_skeleton, k0_part304_eq_skeleton, k0_part305_eq_skeleton,
      k0_part306_eq_skeleton, k0_part307_eq_skeleton, k0_part308_eq_skeleton, k0_part309_eq_skeleton, k0_part310_eq_skeleton,
      k0_part311_eq_skeleton, k0_part312_eq_skeleton, k0_part313_eq_skeleton, k0_part314_eq_skeleton, k0_part315_eq_skeleton,
      k0_part316_eq_skeleton, k0_part317_eq_skeleton, k0_part318_eq_skeleton, k0_part319_eq_skeleton, k0_part320_eq_skeleton,
      k0_part321_eq_skeleton, k0_part322_eq_skeleton, k0_part323_eq_skeleton, k0_part324_eq_skeleton, k0_part325_eq_skeleton,
      k0_part326_eq_skeleton, k0_part327_eq_skeleton, k0_part328_eq_skeleton, k0_part329_eq_skeleton, k0_part330_eq_skeleton,
      k0_part331_eq_skeleton, k0_part332_eq_skeleton, k0_part333_eq_skeleton, k0_part334_eq_skeleton, k0_part335_eq_skeleton,
      k0_part336_eq_skeleton, k0_part337_eq_skeleton, k0_part338_eq_skeleton, k0_part339_eq_skeleton, k0_part340_eq_skeleton,
      k0_part341_eq_skeleton, k0_part342_eq_skeleton]
       refine keeps_bind ?_ fun _ => ?_)
    | refine keeps_bind ?_ fun _ => ?_
    | (rename_i x; cases x)

end Cert.Kernel5Ideal.Latent

end
-- ==== Proof.LatentFrame.lean ====
/- The latent attention's frame: run at its compiled mesh from any memory, it terminates and leaves its arguments as they
   were, the semaphores back at zero. Of what it leaves in its output, and in its scratch between points, nothing is said. -/
module

public import proofs.«01_k».proof.Proof.Latent

@[expose] public section

set_option maxRecDepth 65536

noncomputable section

namespace Cert.Kernel5Ideal.Latent

open Cert.Kernel5Ideal Cert.Kernel5Ideal.Gen Cert.Steady
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as launched, and of what the body leaves in a staging buffer nothing. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body holds at point `t`: the staging buffers, the scratch, and `R` beside them. -/
def held (c : Dev nD) (t : Fin cfg0.N) (R : sProp 𝕄) : sProp 𝕄 :=
  iprop(anyOwned c (st0_0 t) ∗ anyOwned c (st0_1 t) ∗ anyOwned c (st0_2 t) ∗ anyOwned c (st0_3 t) ∗ anyOwned c (st0_4 t) ∗ anyOwned c (st0_5 t)
    ∗ anyOwned c (Memref.whole cc0_scratch0) ∗ anyOwned c (Memref.whole cc0_scratch1) ∗ anyOwned c (Memref.whole cc0_scratch2) ∗ anyOwned c (Memref.whole cc0_scratch3) ∗ anyOwned c (Memref.whole cc0_scratch4) ∗ R)

theorem keeps_point (c : Dev nD) (t : Fin cfg0.N) (R : sProp 𝕄) :
    Keeps (U := UR sig nD τ) (defs₀ (F := F)) Variants.none c Set.univ (held c t R) (bodyAt0 t) := by
  unfold held
  exact keeps_body c _ _ _ _ _ _ _ _ _ _ _ _ _ _ _ _ _ _ _ _ _ _ _ _
      has_first
      (has_later has_first)
      (has_later (has_later has_first))
      (has_later (has_later (has_later has_first)))
      (has_later (has_later (has_later (has_later has_first))))
      (has_later (has_later (has_later (has_later (has_later has_first)))))
      (has_later (has_later (has_later (has_later (has_later (has_later has_first))))))
      (has_later (has_later (has_later (has_later (has_later (has_later (has_later has_first)))))))
      (has_later (has_later (has_later (has_later (has_later (has_later (has_later (has_later has_first))))))))
      (has_later (has_later (has_later (has_later (has_later (has_later (has_later (has_later (has_later has_first)))))))))
      (has_later (has_later (has_later (has_later (has_later (has_later (has_later (has_later (has_later (has_later has_first))))))))))

/-- The invariant between points: the scratch whole at some contents, and the generator's register. -/
theorem invariant_eq (c : Dev nD) :
    (Pipeline.ΦA spec0 c : sProp 𝕄)
      = iprop(((anyOwned c (Memref.whole cc0_scratch0) : sProp 𝕄) ∗ (anyOwned c (Memref.whole cc0_scratch1) : sProp 𝕄) ∗ (anyOwned c (Memref.whole cc0_scratch2) : sProp 𝕄) ∗ (anyOwned c (Memref.whole cc0_scratch3) : sProp 𝕄) ∗ (anyOwned c (Memref.whole cc0_scratch4) : sProp 𝕄)) ∗ (∃ r, prngReg c r)) := by
  unfold Pipeline.ΦA; rw [scopedRest0_eq]; simp only [anyOwned_whole]

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdats m c).BodyObligation (defs₀ (F := F)) Variants.none () Set.univ := fun t Y _ => by
  rw [bigSep_W0, bigSep_W0, defs₀_row]
  rw [show (rdats m c).Φ t.castSucc = Pipeline.ΦA spec0 c from rfl, show (rdats m c).Φ t.succ = Pipeline.ΦA spec0 c from rfl,
    show (rdats m c).owesAt () t.succ = (rdats m c).owesAt () t.castSucc from rfl, invariant_eq]
  generalize hO : (rdats m c).owesAt () t.castSucc = O
  iintro ⟨⟨⟨S0, S1, S2, S3, S4⟩, Hg⟩, Ho, H0, H1, H2, H3, H4, H5⟩
  have hk := keeps_point (F := F) c t iprop((∃ r, prngReg c r) ∗ O)
  unfold Keeps at hk
  iapply (wp_wand_r _ _ _ (Q := fun _ => held c t iprop((∃ r, prngReg c r) ∗ O)))
  isplitl [S0 S1 S2 S3 S4 Hg Ho H0 H1 H2 H3 H4 H5]
  · iapply hk
    unfold held
    isplitl [H0]; · iapply (anyOwned_of_owns _ _); iexact H0
    isplitl [H1]; · iapply (anyOwned_of_owns _ _); iexact H1
    isplitl [H2]; · iapply (anyOwned_of_owns _ _); iexact H2
    isplitl [H3]; · iapply (anyOwned_of_owns _ _); iexact H3
    isplitl [H4]; · iapply (anyOwned_of_owns _ _); iexact H4
    isplitl [H5]; · iapply (anyOwned_of_owns _ _); iexact H5
    isplitl [S0]; · iexact S0
    isplitl [S1]; · iexact S1
    isplitl [S2]; · iexact S2
    isplitl [S3]; · iexact S3
    isplitl [S4]; · iexact S4
    isplitl [Hg]; · iexact Hg
    iexact Ho
  · unfold held
    iintro %_ ⟨H0, H1, H2, H3, H4, H5, S0, S1, S2, S3, S4, Hg, Ho⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iapply (owns_of_anyOwned _); iexact H0
    isplitl [H1]; · iapply (owns_of_anyOwned _); iexact H1
    isplitl [H2]; · iapply (owns_of_anyOwned _); iexact H2
    isplitl [H3]; · iapply (owns_of_anyOwned _); iexact H3
    isplitl [H4]; · iapply (owns_of_anyOwned _); iexact H4
    iapply (owns_of_anyOwned _); iexact H5

theorem share_full (c : Dev nD) (w : Fin cfg0.W) : (rdats m c).share w = fullShare := by
  unfold RDat.share rdats; split <;> rfl

/-- The launch: the arrays as the data say, every semaphore counter back at zero. -/
theorem run : θ_run defs (onTc (τ := τ) (main (F := F))) (s₀ m ρ)
    (fun r => RDat.FramePost cfg0 (rdats m) (V m) r ∧ r.2.sem = fun _ => 0) :=
  RDat.θ_run_frame cfgs 0 launch0 defs₀ Variants.none (rdats m) m ρ main
    (hbody := body_obligation m) (hshare := share_full m) (howed := fun _ _ => rfl) (V := V m)
    (hmain := hmain m Variants.none) (hA := fun _ _ => rfl) (hΦ := fun _ _ => rfl) (Q' := _)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 4 rfl⟩, h.2⟩) (run m ρ)

end Cert.Kernel5Ideal.Latent

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Ends
public import proofs.«01_k».proof.Proof.Match
public import proofs.«01_k».proof.Proof.MoeMatch
public import proofs.«01_k».proof.Proof.SumMatch
public import proofs.«01_k».proof.Proof.InMatch
public import proofs.«01_k».proof.Proof.InRefRun
public import proofs.«01_k».proof.Proof.LatentFrame
public import Idealize.ShloMosaic.Lib.Quiescent
public import Idealize.ShloMosaic.Adequacy
public import Idealize.ShloMosaic.Init

@[expose] public section

noncomputable section

namespace Cert.Proof

open Idealize.ShloMosaic Idealize.SL.Sem

set_option maxHeartbeats 4000000 in
theorem frame_kernel : Cert.quiescent_Kernel := fun m ρ _ =>
  (θ_run Cert.KernelIdeal.defs _ _).mono (fun _ h => h) (Cert.KernelIdeal.OutProj.frame_run (F := Bits) m ρ)

theorem frame_ideal : Cert.quiescent_KernelIdeal := fun m ρ _ => Cert.KernelIdeal.OutProj.frame_run (F := Ideal) m ρ

/-- The reference is host operations alone: it declares no semaphore. -/
theorem frame_reference : Cert.quiescent_ReferenceIdeal := fun m ρ _ =>
  (θ_run Cert.ReferenceIdeal.defs _ _).mono (fun _ h => ⟨fun c => (h c).2.2.2, sem_eq_zero_of_no_sems rfl _⟩)
    (Cert.ReferenceIdeal.Value.run (F := Ideal) m ρ)

/-- The finite precondition changes no frame. -/
theorem frame_ideal_finite : Cert.quiescent_KernelIdeal_pre_finite (hPre_finite := Cert.Pre_finite.facts) := fun m ρ _ =>
  Cert.KernelIdeal.OutProj.frame_run (F := Ideal) m ρ

theorem frame_reference_finite : Cert.quiescent_ReferenceIdeal_pre_finite (hPre_finite := Cert.Pre_finite.facts) := fun m ρ _ =>
  frame_reference m ρ trivial

open Cert.KernelIdeal.OutProj Cert.ReferenceIdeal.OutProj in
/-- The kernel's residual sums, modulated rows and logits are the reference's. -/
theorem values : Cert.algebraic_KernelIdeal_ReferenceIdeal_pre_finite (hPre_finite := Cert.Pre_finite.facts) := fun m g m' g' hpre hargs => by
  refine ⟨fun c => refHn m c, fun c => (truncf .bf16 (refU m c) Cert.ReferenceIdeal.Facts₀.bitsLt_bf16_f32 : FVec Ideal Cert.KernelIdeal.S4x8192x1024 .bf16),
    fun c => routed (refU m c) (arg9 m c), ?_, ?_⟩
  · refine (θ_run Cert.KernelIdeal.defs _ _).mono (fun _ h c => ?_) (value_run (F := Ideal) m g)
    obtain ⟨h0, h1, h2, hr⟩ := h c
    exact ⟨h0.trans (hn_match m c), h1.trans (u_match m c), h2.trans (lg_match m c hpre), hr⟩
  · refine (θ_run Cert.ReferenceIdeal.defs _ _).mono (fun _ h c => ?_) (run_named m' g')
    obtain ⟨h0, h1, h2, hr⟩ := h c
    obtain ⟨e0, e1, e2, e3, e4, e5, e6, e7, e8, e9⟩ := hargs c
    rw [e0, e1, e2, e3, e4, e5] at h0
    rw [e0, e1, e2, e3, e4, e5, e6, e7, e8] at h1
    rw [e0, e1, e2, e3, e4, e5, e6, e7, e8, e9] at h2
    exact ⟨h0, h1, h2, hr⟩

theorem frame_kernel2 : Cert.quiescent_Kernel2 := fun m ρ _ => Cert.Kernel2.Gen.frame m ρ

theorem frame_ideal2 : Cert.quiescent_Kernel2Ideal := fun m ρ _ => Cert.Kernel2Ideal.Gen.frame m ρ

/-- The second reference is host operations alone too. -/
theorem frame_reference2 : Cert.quiescent_Reference2Ideal := fun m ρ _ =>
  (θ_run Cert.Reference2Ideal.defs _ _).mono (fun _ h => ⟨fun c => (h c).2, sem_eq_zero_of_no_sems rfl _⟩)
    (Cert.Reference2Ideal.Value.run (F := Ideal) m ρ)

/-- The second precondition asks more of a run than leaving the arguments unchanged needs. -/
theorem frame_ideal2_scored : Cert.quiescent_Kernel2Ideal_pre_scored (hPre_scored := Cert.Pre_scored.facts) := fun m ρ _ =>
  frame_ideal2 m ρ trivial

theorem frame_reference2_scored : Cert.quiescent_Reference2Ideal_pre_scored (hPre_scored := Cert.Pre_scored.facts) := fun m ρ _ =>
  frame_reference2 m ρ trivial

open Cert.Kernel2Ideal.Moe in
/-- The mixture of experts computes the reference's result. -/
theorem values2 : Cert.algebraic_Kernel2Ideal_Reference2Ideal_pre_scored (hPre_scored := Cert.Pre_scored.facts) := fun m g m' g' hpre hargs => by
  refine ⟨fun c => Cert.Kernel2Ideal.Value.G9 m c, Cert.Kernel2Ideal.Value.run (F := Ideal) m g, ?_⟩
  refine (θ_run Cert.Reference2Ideal.defs _ _).mono (fun _ h c => ?_) (Cert.Reference2Ideal.Value.run (F := Ideal) m' g')
  obtain ⟨h0, hr⟩ := h c
  obtain ⟨e0, e1, e2, e3, e4, e5, e6, e7, e8⟩ := hargs c
  exact ⟨h0.trans (result_match m c hpre (Idealize.ShloMosaic.StableHlo.launchContents m' c) e0 e1 e2 e3 e4 e5 e6 e7 e8), hr⟩

theorem frame_kernel3 : Cert.quiescent_Kernel3 := fun m ρ _ => Cert.Kernel3.Gen.frame m ρ

theorem frame_ideal3 : Cert.quiescent_Kernel3Ideal := fun m ρ _ => Cert.Kernel3Ideal.Gen.frame m ρ

/-- So is the third. -/
theorem frame_reference3 : Cert.quiescent_Reference3Ideal := fun m ρ _ =>
  (θ_run Cert.Reference3Ideal.defs _ _).mono (fun _ h => ⟨fun c => (h c).2.2.2.2.2, sem_eq_zero_of_no_sems rfl _⟩)
    (Cert.Reference3Ideal.In.run_named m ρ)

open Cert.Kernel3Ideal.In in
/-- The projections into the heads are the reference's. -/
theorem values3 : Cert.algebraic_Kernel3Ideal_Reference3Ideal := fun m g m' g' _ hargs => by
  refine ⟨fun c => ret m c, fun c => na m c, fun c => mq m c, fun c => mk m c, fun c => mv m c, Cert.Kernel3Ideal.Value.run_blocks (F := Ideal) m g, ?_⟩
  refine (θ_run Cert.Reference3Ideal.defs _ _).mono (fun _ h c => ?_) (Cert.Reference3Ideal.In.run_named m' g')
  obtain ⟨h0, h1, h2, h3, h4, hr⟩ := h c
  obtain ⟨e0, e1, e2, e3, e4, e5, e6, e7, e8⟩ := hargs c
  have hs : SameTokens m c (Idealize.ShloMosaic.StableHlo.launchContents m' c) := same_tokens m c _ e0 e1 e2 e3 e4 e5 e6 e7 e8
  exact ⟨h0.trans (ret_match hs), h1.trans (na_match hs), h2.trans (mq_match hs), h3.trans (mk_match hs), h4.trans (mv_match hs), hr⟩

theorem frame_kernel4 : Cert.quiescent_Kernel4 := fun m ρ _ => Cert.Kernel4.Gen.frame m ρ

theorem frame_ideal4 : Cert.quiescent_Kernel4Ideal := fun m ρ _ => Cert.Kernel4Ideal.Gen.frame m ρ

/-- The fourth too. -/
theorem frame_reference4 : Cert.quiescent_Reference4Ideal := fun m ρ _ =>
  (θ_run Cert.Reference4Ideal.defs _ _).mono (fun _ h => ⟨fun c => (h c).2, sem_eq_zero_of_no_sems rfl _⟩)
    (Cert.Reference4Ideal.Moe.run_named m ρ)

theorem frame_ideal4_scored : Cert.quiescent_Kernel4Ideal_pre_scored (hPre_scored := Cert.Pre_scored.facts) := fun m ρ _ =>
  frame_ideal4 m ρ trivial

theorem frame_reference4_scored : Cert.quiescent_Reference4Ideal_pre_scored (hPre_scored := Cert.Pre_scored.facts) := fun m ρ _ =>
  frame_reference4 m ρ trivial

open Cert.Kernel4Ideal.Moe in
/-- The first layer's mixture of experts computes its reference's result. -/
theorem values4 : Cert.algebraic_Kernel4Ideal_Reference4Ideal_pre_scored (hPre_scored := Cert.Pre_scored.facts) := fun m g m' g' hpre hargs => by
  refine ⟨fun c => Cert.Kernel4Ideal.Value.G9 m c, Cert.Kernel4Ideal.Value.run (F := Ideal) m g, ?_⟩
  refine (θ_run Cert.Reference4Ideal.defs _ _).mono (fun _ h c => ?_) (Cert.Reference4Ideal.Moe.run_named m' g')
  obtain ⟨h0, hr⟩ := h c
  obtain ⟨e0, e1, e2, e3, e4, e5, e6, e7, e8⟩ := hargs c
  exact ⟨h0.trans (result_match m c hpre (Idealize.ShloMosaic.StableHlo.launchContents m' c) e0 e1 e2 e3 e4 e5 e6 e7 e8), hr⟩

/-! Latent attention's frame: of both its printings by one proof, as out_projection's. -/

/-- The two printings' body tables are one: each has one label, and its bodies are the same text. -/
theorem table5 : @Cert.Kernel5Ideal.defs₀ Bits _ Cert.Kernel5Ideal.Gen.facts = @Cert.Kernel5.defs₀ Bits _ Cert.Kernel5.Gen.facts := by
  unfold Cert.Kernel5.defs₀ Cert.Kernel5Ideal.defs₀
  congr 1
  funext l p
  match l, p with
  | 0, (t, s) => rfl
  | ⟨_ + 1, h⟩, _ => exact absurd h (Nat.not_lt.2 (Nat.le_add_left _ _))

theorem frame_kernel5 : Cert.quiescent_Kernel5 := fun m ρ _ => by
  have h := Cert.Kernel5Ideal.Latent.frame_run (F := Bits) m ρ
  unfold Cert.Kernel5Ideal.defs at h
  rw [table5] at h
  exact (θ_run Cert.Kernel5.defs _ _).mono (fun _ h => h) h

theorem frame_ideal5 : Cert.quiescent_Kernel5Ideal := fun m ρ _ => Cert.Kernel5Ideal.Latent.frame_run (F := Ideal) m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Pre_finite.facts, Cert.Pre_scored.facts,
  frame_kernel, frame_ideal, frame_ideal_finite, frame_reference, frame_reference_finite,
  frame_kernel2, frame_ideal2, frame_ideal2_scored, frame_reference2, frame_reference2_scored,
  frame_kernel3, frame_ideal3, frame_reference3,
  frame_kernel4, frame_ideal4, frame_ideal4_scored, frame_reference4, frame_reference4_scored,
  frame_kernel5, frame_ideal5,
  trivial, values, trivial, values2, trivial, values3, trivial, values4, trivial⟩

end Cert.Proof

end
